-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_KernelIdeal_ids_and_query_finite [hPre_ids_and_query_finite : Cert.Pre_ids_and_query_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ids_and_query_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_and_query_finite [hPre_ids_and_query_finite : Cert.Pre_ids_and_query_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_and_query_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_ids_and_query_finite [hKernelIdeal : Cert.KernelIdeal.Facts] [hPre_ids_and_query_finite : Cert.Pre_ids_and_query_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_and_query_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_ids_and_query_finite [hReferenceIdeal : Cert.ReferenceIdeal.Facts] [hPre_ids_and_query_finite : Cert.Pre_ids_and_query_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_and_query_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_ids_and_query_finite [hKernelIdeal : Cert.KernelIdeal.Facts] [hReferenceIdeal : Cert.ReferenceIdeal.Facts] [hPre_ids_and_query_finite : Cert.Pre_ids_and_query_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_and_query_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_ids_and_query_finite : Cert.Pre_ids_and_query_finite.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_ids_and_query_finite (hKernelIdeal := hKernelIdeal) (hPre_ids_and_query_finite := hPre_ids_and_query_finite)
    ∧ quiescent_ReferenceIdeal (hReferenceIdeal := hReferenceIdeal)
    ∧ quiescent_ReferenceIdeal_pre_ids_and_query_finite (hReferenceIdeal := hReferenceIdeal) (hPre_ids_and_query_finite := hPre_ids_and_query_finite)
    ∧ preserves_Kernel_KernelIdeal
    ∧ algebraic_KernelIdeal_ReferenceIdeal_pre_ids_and_query_finite (hKernelIdeal := hKernelIdeal) (hReferenceIdeal := hReferenceIdeal) (hPre_ids_and_query_finite := hPre_ids_and_query_finite)
-- ==== Pre_ids_and_query_finite.lean ====
abbrev S16384x384 : Shape := ⟨2, ![16384, 384]⟩
abbrev S16384 : Shape := ⟨1, ![16384]⟩
abbrev S100x128 : Shape := ⟨2, ![100, 128]⟩
abbrev S26x128 : Shape := ⟨2, ![26, 128]⟩
abbrev S128x128 : Shape := ⟨2, ![128, 128]⟩
abbrev S128 : Shape := ⟨1, ![128]⟩
abbrev S2048x768 : Shape := ⟨2, ![2048, 768]⟩
abbrev S2048 : Shape := ⟨1, ![2048]⟩
abbrev S2x2048 : Shape := ⟨2, ![2, 2048]⟩
abbrev S2 : Shape := ⟨1, ![2]⟩
abbrev S_ : Shape := ⟨0, ![]⟩
abbrev S16384x128 : Shape := ⟨2, ![16384, 128]⟩
abbrev S2048x128 : Shape := ⟨2, ![2048, 128]⟩

class Facts : Prop where
  bcast_S_S16384 : S_.BroadcastsInDim S16384 (![] : Fin 0 → Fin S16384.rank)
  reducesTo_S16384_S_d0 : S16384.ReducesTo [0] S_
  h_S_ : 0 < S_.numel
  slices_S16384x384_S16384x128_0_256 : S16384x384.Slices ![0, 256] S16384x128
  bcast_S_S16384x128 : S_.BroadcastsInDim S16384x128 (![] : Fin 0 → Fin S16384x128.rank)
  reducesTo_S16384x128_S_d0_1 : S16384x128.ReducesTo [0, 1] S_
  slices_S2048x768_S2048x128_0_640 : S2048x768.Slices ![0, 640] S2048x128
  bcast_S_S2048x128 : S_.BroadcastsInDim S2048x128 (![] : Fin 0 → Fin S2048x128.rank)
  reducesTo_S2048x128_S_d0_1 : S2048x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_arg7 : FVec F S2048x768 .f32) (main_v14 : IVec S_ 1) (main_v15 : FVec F S16384x128 .f32) : IVec S_ 1 :=
  let main_v16 : FVec F S16384x128 .f32 := Host.absf main_v15
  let main_cst : FVec F S_ .f32 := constant S_ .f32 0x7F800000#32
  let main_v17 : FVec F S16384x128 .f32 := broadcastInDim S16384x128 ![] bcast_S_S16384x128 main_cst
  let main_v18 : IVec S16384x128 1 := cmpf .olt main_v16 main_v17
  let main_c_7 : IVec S_ 1 := constantI S_ 1 1#1
  let main_v19 : IVec S_ 1 := (fun x v => Host.reduce IntOp.andi x v reducesTo_S16384x128_S_d0_1 h_S_) main_v18 main_c_7
  let main_v20 : IVec S_ 1 := andi main_v14 main_v19
  let main_v21 : FVec F S2048x128 .f32 := (extractStridedSlice S2048x128 ![0, 640] · slices_S2048x768_S2048x128_0_640) main_arg7
  let main_v22 : FVec F S2048x128 .f32 := Host.absf main_v21
  let main_cst_8 : FVec F S_ .f32 := constant S_ .f32 0x7F800000#32
  let main_v23 : FVec F S2048x128 .f32 := broadcastInDim S2048x128 ![] bcast_S_S2048x128 main_cst_8
  let main_v24 : IVec S2048x128 1 := cmpf .olt main_v22 main_v23
  let main_c_9 : IVec S_ 1 := constantI S_ 1 1#1
  let main_v25 : IVec S_ 1 := (fun x v => Host.reduce IntOp.andi x v reducesTo_S2048x128_S_d0_1 h_S_) main_v24 main_c_9
  let main_v26 : IVec S_ 1 := andi main_v20 main_v25
  let main_v27 : FVec F S128x128 .f32 := Host.absf main_arg5
  let main_cst_10 : FVec F S_ .f32 := constant S_ .f32 0x7F800000#32
  let main_v28 : FVec F S128x128 .f32 := broadcastInDim S128x128 ![] bcast_S_S128x128 main_cst_10
  let main_v29 : IVec S128x128 1 := cmpf .olt main_v27 main_v28
  let main_c_11 : IVec S_ 1 := constantI S_ 1 1#1
  let main_v30 : IVec S_ 1 := (fun x v => Host.reduce IntOp.andi x v reducesTo_S128x128_S_d0_1 h_S_) main_v29 main_c_11
  let main_v31 : IVec S_ 1 := andi main_v26 main_v30
  main_v31

def fn {F : FTy → Type} [FloatOps F] (main_arg0 : FVec F S16384x384 .f32) (main_arg1 : IVec S16384 32) (main_arg2 : IVec S16384 32) (main_arg3 : FVec F S100x128 .f32) (main_arg4 : FVec F S26x128 .f32) (main_arg5 : FVec F S128x128 .f32) (main_arg6 : FVec F S128 .f32) (main_arg7 : FVec F S2048x768 .f32) (main_arg8 : FVec F S2048 .f32) (main_arg9 : FVec F S2x2048 .f32) (main_arg10 : FVec F S2 .f32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 100#32
  let main_v3 : IVec S16384 32 := broadcastInDim S16384 ![] bcast_S_S16384 main_c_1
  let main_v4 : IVec S16384 1 := cmpi .slt main_arg1 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  let main_c_3 : IVec S_ 32 := constantI S_ 32 0#32
  let main_v7 : IVec S16384 32 := broadcastInDim S16384 ![] bcast_S_S16384 main_c_3
  let main_v8 : IVec S16384 1 := cmpi .sge main_arg2 main_v7
  let main_c_4 : IVec S_ 1 := constantI S_ 1 1#1
  let main_v9 : IVec S_ 1 := (fun x v => Host.reduce IntOp.andi x v reducesTo_S16384_S_d0 h_S_) main_v8 main_c_4
  let main_v10 : IVec S_ 1 := andi main_v6 main_v9
  let main_c_5 : IVec S_ 32 := constantI S_ 32 26#32
  let main_v11 : IVec S16384 32 := broadcastInDim S16384 ![] bcast_S_S16384 main_c_5
  let main_v12 : IVec S16384 1 := cmpi .slt main_arg2 main_v11
  let main_c_6 : IVec S_ 1 := constantI S_ 1 1#1
  let main_v13 : IVec S_ 1 := (fun x v => Host.reduce IntOp.andi x v reducesTo_S16384_S_d0 h_S_) main_v12 main_c_6
  let main_v14 : IVec S_ 1 := andi main_v10 main_v13
  let main_v15 : FVec F S16384x128 .f32 := (extractStridedSlice S16384x128 ![0, 256] · slices_S16384x384_S16384x128_0_256) main_arg0
  fn_part1 (F := F) main_arg5 main_arg7 main_v14 main_v15
-- ==== Pre_ids_in_range.lean ====
abbrev S16384x384 : Shape := ⟨2, ![16384, 384]⟩
abbrev S16384 : Shape := ⟨1, ![16384]⟩
abbrev S100x128 : Shape := ⟨2, ![100, 128]⟩
abbrev S26x128 : Shape := ⟨2, ![26, 128]⟩
abbrev S128x128 : Shape := ⟨2, ![128, 128]⟩
abbrev S128 : Shape := ⟨1, ![128]⟩
abbrev S2048x768 : Shape := ⟨2, ![2048, 768]⟩
abbrev S2048 : Shape := ⟨1, ![2048]⟩
abbrev S2x2048 : Shape := ⟨2, ![2, 2048]⟩
abbrev S2 : Shape := ⟨1, ![2]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x384 .f32) (main_arg1 : IVec S16384 32) (main_arg2 : IVec S16384 32) (main_arg3 : FVec F S100x128 .f32) (main_arg4 : FVec F S26x128 .f32) (main_arg5 : FVec F S128x128 .f32) (main_arg6 : FVec F S128 .f32) (main_arg7 : FVec F S2048x768 .f32) (main_arg8 : FVec F S2048 .f32) (main_arg9 : FVec F S2x2048 .f32) (main_arg10 : FVec F S2 .f32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 100#32
  let main_v3 : IVec S16384 32 := broadcastInDim S16384 ![] bcast_S_S16384 main_c_1
  let main_v4 : IVec S16384 1 := cmpi .slt main_arg1 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  let main_c_3 : IVec S_ 32 := constantI S_ 32 0#32
  let main_v7 : IVec S16384 32 := broadcastInDim S16384 ![] bcast_S_S16384 main_c_3
  let main_v8 : IVec S16384 1 := cmpi .sge main_arg2 main_v7
  let main_c_4 : IVec S_ 1 := constantI S_ 1 1#1
  let main_v9 : IVec S_ 1 := (fun x v => Host.reduce IntOp.andi x v reducesTo_S16384_S_d0 h_S_) main_v8 main_c_4
  let main_v10 : IVec S_ 1 := andi main_v6 main_v9
  let main_c_5 : IVec S_ 32 := constantI S_ 32 26#32
  let main_v11 : IVec S16384 32 := broadcastInDim S16384 ![] bcast_S_S16384 main_c_5
  let main_v12 : IVec S16384 1 := cmpi .slt main_arg2 main_v11
  let main_c_6 : IVec S_ 1 := constantI S_ 1 1#1
  let main_v13 : IVec S_ 1 := (fun x v => Host.reduce IntOp.andi x v reducesTo_S16384_S_d0 h_S_) main_v12 main_c_6
  let main_v14 : IVec S_ 1 := andi main_v10 main_v13
  main_v14
-- ==== Kernel.lean ====
abbrev S16384x384 : Shape := ⟨2, ![16384, 384]⟩
abbrev S16384 : Shape := ⟨1, ![16384]⟩
abbrev S100x128 : Shape := ⟨2, ![100, 128]⟩
abbrev S26x128 : Shape := ⟨2, ![26, 128]⟩
abbrev S128x128 : Shape := ⟨2, ![128, 128]⟩
abbrev S128 : Shape := ⟨1, ![128]⟩
abbrev S2048x768 : Shape := ⟨2, ![2048, 768]⟩
abbrev S2048 : Shape := ⟨1, ![2048]⟩
abbrev S2x2048 : Shape := ⟨2, ![2, 2048]⟩
abbrev S2 : Shape := ⟨1, ![2]⟩
abbrev S8192 : Shape := ⟨1, ![8192]⟩
abbrev S8192x128 : Shape := ⟨2, ![8192, 128]⟩
abbrev S256 : Shape := ⟨1, ![256]⟩
abbrev S_ : Shape := ⟨0, ![]⟩
abbrev S16 : Shape := ⟨1, ![16]⟩
abbrev S1 : Shape := ⟨1, ![1]⟩
abbrev S1x16 : Shape := ⟨2, ![1, 16]⟩
abbrev S1x128 : Shape := ⟨2, ![1, 128]⟩
abbrev S2048x1 : Shape := ⟨2, ![2048, 1]⟩
abbrev S1x2 : Shape := ⟨2, ![1, 2]⟩
abbrev S8192x2 : Shape := ⟨2, ![8192, 2]⟩
abbrev S2048x384 : Shape := ⟨2, ![2048, 384]⟩
abbrev S2048x128 : Shape := ⟨2, ![2048, 128]⟩
abbrev S2048x2 : Shape := ⟨2, ![2048, 2]⟩
abbrev S2048x256 : Shape := ⟨2, ![2048, 256]⟩
abbrev S2048x127 : Shape := ⟨2, ![2048, 127]⟩
abbrev S1024x768 : Shape := ⟨2, ![1024, 768]⟩
abbrev S2048x1024 : Shape := ⟨2, ![2048, 1024]⟩
abbrev S2x1024 : Shape := ⟨2, ![2, 1024]⟩
abbrev S16384x2 : Shape := ⟨2, ![16384, 2]⟩

abbrev nBuf : Table → Nat
  | .hbm => 32
  | .local .tc .vmem => 32
  | .local .scVector .vmem => 12
  | _ => 0

abbrev bufTy : (tb : Table) → Fin (nBuf tb) → BufTy
  | .hbm, ⟨0, _⟩ => ⟨S16384x384, .f32⟩
  | .hbm, ⟨1, _⟩ => ⟨S16384, .i32⟩
  | .hbm, ⟨2, _⟩ => ⟨S16384, .i32⟩
  | .hbm, ⟨3, _⟩ => ⟨S100x128, .f32⟩
  | .hbm, ⟨4, _⟩ => ⟨S26x128, .f32⟩
  | .hbm, ⟨5, _⟩ => ⟨S128x128, .f32⟩
  | .hbm, ⟨6, _⟩ => ⟨S128, .f32⟩
  | .hbm, ⟨7, _⟩ => ⟨S2048x768, .f32⟩
  | .hbm, ⟨8, _⟩ => ⟨S2048, .f32⟩
  | .hbm, ⟨9, _⟩ => ⟨S2x2048, .f32⟩
  | .hbm, ⟨10, _⟩ => ⟨S2, .f32⟩
  | .hbm, ⟨11, _⟩ => ⟨S8192, .i32⟩
  | .hbm, ⟨12, _⟩ => ⟨S8192, .i32⟩
  | .hbm, ⟨13, _⟩ => ⟨S8192x128, .f32⟩
  | .hbm, ⟨14, _⟩ => ⟨S8192x128, .f32⟩
  | .hbm, ⟨15, _⟩ => ⟨S8192, .i32⟩
  | .hbm, ⟨16, _⟩ => ⟨S8192, .i32⟩
  | .hbm, ⟨17, _⟩ => ⟨S8192x128, .f32⟩
  | .hbm, ⟨18, _⟩ => ⟨S8192x128, .f32⟩
  | .hbm, ⟨19, _⟩ => ⟨S128x128, .bf16⟩
  | .hbm, ⟨20, _⟩ => ⟨S2x2048, .bf16⟩
  | .hbm, ⟨21, _⟩ => ⟨S1x128, .f32⟩
  | .hbm, ⟨22, _⟩ => ⟨S2048x1, .f32⟩
  | .hbm, ⟨23, _⟩ => ⟨S1x2, .f32⟩
  | .hbm, ⟨24, _⟩ => ⟨S8192x2, .f32⟩
  | .hbm, ⟨25, _⟩ => ⟨S128x128, .bf16⟩
  | .hbm, ⟨26, _⟩ => ⟨S2x2048, .bf16⟩
  | .hbm, ⟨27, _⟩ => ⟨S1x128, .f32⟩
  | .hbm, ⟨28, _⟩ => ⟨S2048x1, .f32⟩
  | .hbm, ⟨29, _⟩ => ⟨S1x2, .f32⟩
  | .hbm, ⟨30, _⟩ => ⟨S8192x2, .f32⟩
  | .hbm, ⟨31, _⟩ => ⟨S16384x2, .f32⟩
  | .local .tc .vmem, ⟨0, _⟩ => ⟨S2048x384, .f32⟩
  | .local .tc .vmem, ⟨1, _⟩ => ⟨S2048x384, .f32⟩
  | .local .tc .vmem, ⟨2, _⟩ => ⟨S2048x128, .f32⟩
  | .local .tc .vmem, ⟨3, _⟩ => ⟨S2048x128, .f32⟩
  | .local .tc .vmem, ⟨4, _⟩ => ⟨S2048x128, .f32⟩
  | .local .tc .vmem, ⟨5, _⟩ => ⟨S2048x128, .f32⟩
  | .local .tc .vmem, ⟨6, _⟩ => ⟨S128x128, .bf16⟩
  | .local .tc .vmem, ⟨7, _⟩ => ⟨S1x128, .f32⟩
  | .local .tc .vmem, ⟨8, _⟩ => ⟨S2048x768, .f32⟩
  | .local .tc .vmem, ⟨9, _⟩ => ⟨S2048x1, .f32⟩
  | .local .tc .vmem, ⟨10, _⟩ => ⟨S2x2048, .bf16⟩
  | .local .tc .vmem, ⟨11, _⟩ => ⟨S1x2, .f32⟩
  | .local .tc .vmem, ⟨12, _⟩ => ⟨S2048x2, .f32⟩
  | .local .tc .vmem, ⟨13, _⟩ => ⟨S2048x2, .f32⟩
  | .local .tc .vmem, ⟨14, _⟩ => ⟨S2048x768, .bf16⟩
  | .local .tc .vmem, ⟨15, _⟩ => ⟨S2048x768, .bf16⟩
  | .local .tc .vmem, ⟨16, _⟩ => ⟨S2048x384, .f32⟩
  | .local .tc .vmem, ⟨17, _⟩ => ⟨S2048x384, .f32⟩
  | .local .tc .vmem, ⟨18, _⟩ => ⟨S2048x128, .f32⟩
  | .local .tc .vmem, ⟨19, _⟩ => ⟨S2048x128, .f32⟩
  | .local .tc .vmem, ⟨20, _⟩ => ⟨S2048x128, .f32⟩
  | .local .tc .vmem, ⟨21, _⟩ => ⟨S2048x128, .f32⟩
  | .local .tc .vmem, ⟨22, _⟩ => ⟨S128x128, .bf16⟩
  | .local .tc .vmem, ⟨23, _⟩ => ⟨S1x128, .f32⟩
  | .local .tc .vmem, ⟨24, _⟩ => ⟨S2048x768, .f32⟩
  | .local .tc .vmem, ⟨25, _⟩ => ⟨S2048x1, .f32⟩
  | .local .tc .vmem, ⟨26, _⟩ => ⟨S2x2048, .bf16⟩
  | .local .tc .vmem, ⟨27, _⟩ => ⟨S1x2, .f32⟩
  | .local .tc .vmem, ⟨28, _⟩ => ⟨S2048x2, .f32⟩
  | .local .tc .vmem, ⟨29, _⟩ => ⟨S2048x2, .f32⟩
  | .local .tc .vmem, ⟨30, _⟩ => ⟨S2048x768, .bf16⟩
  | .local .tc .vmem, ⟨31, _⟩ => ⟨S2048x768, .bf16⟩
  | .local .scVector .vmem, ⟨0, _⟩ => ⟨S100x128, .f32⟩
  | .local .scVector .vmem, ⟨1, _⟩ => ⟨S26x128, .f32⟩
  | .local .scVector .vmem, ⟨2, _⟩ => ⟨S256, .i32⟩
  | .local .scVector .vmem, ⟨3, _⟩ => ⟨S256, .i32⟩
  | .local .scVector .vmem, ⟨4, _⟩ => ⟨S128x128, .f32⟩
  | .local .scVector .vmem, ⟨5, _⟩ => ⟨S128x128, .f32⟩
  | .local .scVector .vmem, ⟨6, _⟩ => ⟨S100x128, .f32⟩
  | .local .scVector .vmem, ⟨7, _⟩ => ⟨S26x128, .f32⟩
  | .local .scVector .vmem, ⟨8, _⟩ => ⟨S256, .i32⟩
  | .local .scVector .vmem, ⟨9, _⟩ => ⟨S256, .i32⟩
  | .local .scVector .vmem, ⟨10, _⟩ => ⟨S128x128, .f32⟩
  | .local .scVector .vmem, ⟨11, _⟩ => ⟨S128x128, .f32⟩
  | _, _ => ⟨S16384x384, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 40 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTables nBuf rfl bufTy 4 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_arg3_scv : Ref sig .scVector := ⟨.hbm, 3, rfl⟩
abbrev main_arg4_scv : Ref sig .scVector := ⟨.hbm, 4, rfl⟩
abbrev main_v0_scv : Ref sig .scVector := ⟨.hbm, 11, rfl⟩
abbrev main_v1_scv : Ref sig .scVector := ⟨.hbm, 12, rfl⟩
abbrev main_v2_0_scv : Ref sig .scVector := ⟨.hbm, 13, rfl⟩
abbrev main_v2_1_scv : Ref sig .scVector := ⟨.hbm, 14, rfl⟩
abbrev main_v3_scv : Ref sig .scVector := ⟨.hbm, 15, rfl⟩
abbrev main_v4_scv : Ref sig .scVector := ⟨.hbm, 16, rfl⟩
abbrev main_v5_0_scv : Ref sig .scVector := ⟨.hbm, 17, rfl⟩
abbrev main_v5_1_scv : Ref sig .scVector := ⟨.hbm, 18, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc2_stg2_0 : Ref sig .tc := ⟨.vmem, 4, rfl⟩
abbrev cc2_stg2_1 : Ref sig .tc := ⟨.vmem, 5, rfl⟩
abbrev cc2_stg3_0 : Ref sig .tc := ⟨.vmem, 6, rfl⟩
abbrev cc2_stg4_0 : Ref sig .tc := ⟨.vmem, 7, rfl⟩
abbrev cc2_stg5_0 : Ref sig .tc := ⟨.vmem, 8, rfl⟩
abbrev cc2_stg6_0 : Ref sig .tc := ⟨.vmem, 9, rfl⟩
abbrev cc2_stg7_0 : Ref sig .tc := ⟨.vmem, 10, rfl⟩
abbrev cc2_stg8_0 : Ref sig .tc := ⟨.vmem, 11, rfl⟩
abbrev cc2_stg9_0 : Ref sig .tc := ⟨.vmem, 12, rfl⟩
abbrev cc2_stg9_1 : Ref sig .tc := ⟨.vmem, 13, rfl⟩
abbrev cc2_scratch0 : Ref sig .tc := ⟨.vmem, 14, rfl⟩
abbrev cc2_scratch1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg6_0 : Ref sig .tc := ⟨.vmem, 25, rfl⟩
abbrev cc3_stg7_0 : Ref sig .tc := ⟨.vmem, 26, rfl⟩
abbrev cc3_stg8_0 : Ref sig .tc := ⟨.vmem, 27, rfl⟩
abbrev cc3_stg9_0 : Ref sig .tc := ⟨.vmem, 28, rfl⟩
abbrev cc3_stg9_1 : Ref sig .tc := ⟨.vmem, 29, rfl⟩
abbrev cc3_scratch0 : Ref sig .tc := ⟨.vmem, 30, rfl⟩
abbrev cc3_scratch1 : Ref sig .tc := ⟨.vmem, 31, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_scratch0 : Ref sig .scVector := ⟨.vmem, 6, rfl⟩
abbrev cc1_scratch1 : Ref sig .scVector := ⟨.vmem, 7, rfl⟩
abbrev cc1_scratch2 : Ref sig .scVector := ⟨.vmem, 8, rfl⟩
abbrev cc1_scratch3 : Ref sig .scVector := ⟨.vmem, 9, rfl⟩
abbrev cc1_scratch4 : Ref sig .scVector := ⟨.vmem, 10, rfl⟩
abbrev cc1_scratch5 : Ref sig .scVector := ⟨.vmem, 11, rfl⟩
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem9_0 : DmaSem sig := 24
abbrev cc2_sem9_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem8_0 : DmaSem sig := 37
abbrev cc3_sem9_0 : DmaSem sig := 38
abbrev cc3_sem9_1 : DmaSem sig := 39
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
@[reducible] def k0_t1_loop : Scf.Loop 32 :=
  let c0_i32_0 : BitVec 32 := 0#32
  let c8_i32 : BitVec 32 := 8#32
  let v3 : BitVec 32 := Scalar.addi c0_i32_0 c8_i32
  let c1_i32 : BitVec 32 := 1#32
  ⟨c0_i32_0, v3, c1_i32⟩
def k0_off2 (k0_t1 : Fin k0_t1_loop.trips) : Fin 1 → Nat :=
  let c0_i32_34 : BitVec 32 := 0#32
  let c0_i32_0 : BitVec 32 := 0#32
  let c1_i32 : BitVec 32 := 1#32
  let arg16 : BitVec 32 := Scf.iv c0_i32_0 c1_i32 k0_t1
  let c16_i32 : BitVec 32 := 16#32
  let v25 : BitVec 32 := Scalar.muli arg16 c16_i32
  let v26 : BitVec 32 := Scalar.addi c0_i32_34 v25
  let v27 : Index := Scalar.indexCast v26
  ![v27.toNat]
def k0_off3 (v30 : BitVec 32) : Fin 2 → Nat :=
  let v33 : Index := Scalar.indexCast v30
  let c0 : Index := 0#32
  ![v33.toNat, 0]

def k0_off4 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_35 : BitVec 32 := 16#32
  let v31 : BitVec 32 := Scalar.muli arg16 c16_i32_35
  let c0_i32_36 : BitVec 32 := 0#32
  let v32 : BitVec 32 := Scalar.addi v31 c0_i32_36
  let v35 : Index := Scalar.indexCast v32
  let c0_37 : Index := 0#32
  ![v35.toNat, 0]
def k0_off5 (v30 : BitVec 32) : Fin 2 → Nat :=
  let v37 : Index := Scalar.indexCast v30
  let c16 : Index := 16#32
  ![v37.toNat, 16]
def k0_off6 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_35 : BitVec 32 := 16#32
  let v31 : BitVec 32 := Scalar.muli arg16 c16_i32_35
  let c0_i32_36 : BitVec 32 := 0#32
  let v32 : BitVec 32 := Scalar.addi v31 c0_i32_36
  let v39 : Index := Scalar.indexCast v32
  let c16_38 : Index := 16#32
  ![v39.toNat, 16]
def k0_off7 (v30 : BitVec 32) : Fin 2 → Nat :=
  let v41 : Index := Scalar.indexCast v30
  let c32 : Index := 32#32
  ![v41.toNat, 32]
def k0_off8 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_35 : BitVec 32 := 16#32
  let v31 : BitVec 32 := Scalar.muli arg16 c16_i32_35
  let c0_i32_36 : BitVec 32 := 0#32
  let v32 : BitVec 32 := Scalar.addi v31 c0_i32_36
  let v43 : Index := Scalar.indexCast v32
  let c32_39 : Index := 32#32
  ![v43.toNat, 32]
def k0_off9 (v30 : BitVec 32) : Fin 2 → Nat :=
  let v45 : Index := Scalar.indexCast v30
  let c48 : Index := 48#32
  ![v45.toNat, 48]
def k0_off10 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_35 : BitVec 32 := 16#32
  let v31 : BitVec 32 := Scalar.muli arg16 c16_i32_35
  let c0_i32_36 : BitVec 32 := 0#32
  let v32 : BitVec 32 := Scalar.addi v31 c0_i32_36
  let v47 : Index := Scalar.indexCast v32
  let c48_40 : Index := 48#32
  ![v47.toNat, 48]
def k0_off11 (v30 : BitVec 32) : Fin 2 → Nat :=
  let v49 : Index := Scalar.indexCast v30
  let c64 : Index := 64#32
  ![v49.toNat, 64]
def k0_off12 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_35 : BitVec 32 := 16#32
  let v31 : BitVec 32 := Scalar.muli arg16 c16_i32_35
  let c0_i32_36 : BitVec 32 := 0#32
  let v32 : BitVec 32 := Scalar.addi v31 c0_i32_36
  let v51 : Index := Scalar.indexCast v32
  let c64_41 : Index := 64#32
  ![v51.toNat, 64]
def k0_off13 (v30 : BitVec 32) : Fin 2 → Nat :=
  let v53 : Index := Scalar.indexCast v30
  let c80 : Index := 80#32
  ![v53.toNat, 80]
def k0_off14 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_35 : BitVec 32 := 16#32
  let v31 : BitVec 32 := Scalar.muli arg16 c16_i32_35
  let c0_i32_36 : BitVec 32 := 0#32
  let v32 : BitVec 32 := Scalar.addi v31 c0_i32_36
  let v55 : Index := Scalar.indexCast v32
  let c80_42 : Index := 80#32
  ![v55.toNat, 80]
def k0_off15 (v30 : BitVec 32) : Fin 2 → Nat :=
  let v57 : Index := Scalar.indexCast v30
  let c96 : Index := 96#32
  ![v57.toNat, 96]
def k0_off16 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_35 : BitVec 32 := 16#32
  let v31 : BitVec 32 := Scalar.muli arg16 c16_i32_35
  let c0_i32_36 : BitVec 32 := 0#32
  let v32 : BitVec 32 := Scalar.addi v31 c0_i32_36
  let v59 : Index := Scalar.indexCast v32
  let c96_43 : Index := 96#32
  ![v59.toNat, 96]
def k0_off17 (v30 : BitVec 32) : Fin 2 → Nat :=
  let v61 : Index := Scalar.indexCast v30
  let c112 : Index := 112#32
  ![v61.toNat, 112]

def k0_chk1 (v30 : BitVec 32) : Prop :=
  (∀ a, (k0_off3 v30) a + S1x16.size a ≤ S100x128.size a) ∧
  (∀ a, (k0_off5 v30) a + S1x16.size a ≤ S100x128.size a) ∧
  (∀ a, (k0_off7 v30) a + S1x16.size a ≤ S100x128.size a) ∧
  (∀ a, (k0_off9 v30) a + S1x16.size a ≤ S100x128.size a) ∧
  (∀ a, (k0_off11 v30) a + S1x16.size a ≤ S100x128.size a) ∧
  (∀ a, (k0_off13 v30) a + S1x16.size a ≤ S100x128.size a) ∧
  (∀ a, (k0_off15 v30) a + S1x16.size a ≤ S100x128.size a) ∧
  (∀ a, (k0_off17 v30) a + S1x16.size a ≤ S100x128.size a)
theorem k0_off3_inb : ∀ (v30 : BitVec 32) (k0_hw1 : k0_chk1 v30), ∀ a, (k0_off3 v30) a + S1x16.size a ≤ S100x128.size a := fun v30 k0_hw1 => k0_hw1.1
theorem k0_off5_inb : ∀ (v30 : BitVec 32) (k0_hw1 : k0_chk1 v30), ∀ a, (k0_off5 v30) a + S1x16.size a ≤ S100x128.size a := fun v30 k0_hw1 => k0_hw1.2.1
theorem k0_off7_inb : ∀ (v30 : BitVec 32) (k0_hw1 : k0_chk1 v30), ∀ a, (k0_off7 v30) a + S1x16.size a ≤ S100x128.size a := fun v30 k0_hw1 => k0_hw1.2.2.1
theorem k0_off9_inb : ∀ (v30 : BitVec 32) (k0_hw1 : k0_chk1 v30), ∀ a, (k0_off9 v30) a + S1x16.size a ≤ S100x128.size a := fun v30 k0_hw1 => k0_hw1.2.2.2.1
theorem k0_off11_inb : ∀ (v30 : BitVec 32) (k0_hw1 : k0_chk1 v30), ∀ a, (k0_off11 v30) a + S1x16.size a ≤ S100x128.size a := fun v30 k0_hw1 => k0_hw1.2.2.2.2.1
theorem k0_off13_inb : ∀ (v30 : BitVec 32) (k0_hw1 : k0_chk1 v30), ∀ a, (k0_off13 v30) a + S1x16.size a ≤ S100x128.size a := fun v30 k0_hw1 => k0_hw1.2.2.2.2.2.1
theorem k0_off15_inb : ∀ (v30 : BitVec 32) (k0_hw1 : k0_chk1 v30), ∀ a, (k0_off15 v30) a + S1x16.size a ≤ S100x128.size a := fun v30 k0_hw1 => k0_hw1.2.2.2.2.2.2.1
theorem k0_off17_inb : ∀ (v30 : BitVec 32) (k0_hw1 : k0_chk1 v30), ∀ a, (k0_off17 v30) a + S1x16.size a ≤ S100x128.size a := fun v30 k0_hw1 => k0_hw1.2.2.2.2.2.2.2

def k0_off18 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_35 : BitVec 32 := 16#32
  let v31 : BitVec 32 := Scalar.muli arg16 c16_i32_35
  let c0_i32_36 : BitVec 32 := 0#32
  let v32 : BitVec 32 := Scalar.addi v31 c0_i32_36
  let v63 : Index := Scalar.indexCast v32
  let c112_44 : Index := 112#32
  ![v63.toNat, 112]
def k0_off19 (v66 : BitVec 32) : Fin 2 → Nat :=
  let v69 : Index := Scalar.indexCast v66
  let c0_47 : Index := 0#32
  ![v69.toNat, 0]

def k0_off20 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_45 : BitVec 32 := 16#32
  let v67 : BitVec 32 := Scalar.muli arg16 c16_i32_45
  let c1_i32_46 : BitVec 32 := 1#32
  let v68 : BitVec 32 := Scalar.addi v67 c1_i32_46
  let v71 : Index := Scalar.indexCast v68
  let c0_48 : Index := 0#32
  ![v71.toNat, 0]
def k0_off21 (v66 : BitVec 32) : Fin 2 → Nat :=
  let v73 : Index := Scalar.indexCast v66
  let c16_49 : Index := 16#32
  ![v73.toNat, 16]
def k0_off22 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_45 : BitVec 32 := 16#32
  let v67 : BitVec 32 := Scalar.muli arg16 c16_i32_45
  let c1_i32_46 : BitVec 32 := 1#32
  let v68 : BitVec 32 := Scalar.addi v67 c1_i32_46
  let v75 : Index := Scalar.indexCast v68
  let c16_50 : Index := 16#32
  ![v75.toNat, 16]
def k0_off23 (v66 : BitVec 32) : Fin 2 → Nat :=
  let v77 : Index := Scalar.indexCast v66
  let c32_51 : Index := 32#32
  ![v77.toNat, 32]
def k0_off24 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_45 : BitVec 32 := 16#32
  let v67 : BitVec 32 := Scalar.muli arg16 c16_i32_45
  let c1_i32_46 : BitVec 32 := 1#32
  let v68 : BitVec 32 := Scalar.addi v67 c1_i32_46
  let v79 : Index := Scalar.indexCast v68
  let c32_52 : Index := 32#32
  ![v79.toNat, 32]
def k0_off25 (v66 : BitVec 32) : Fin 2 → Nat :=
  let v81 : Index := Scalar.indexCast v66
  let c48_53 : Index := 48#32
  ![v81.toNat, 48]
def k0_off26 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_45 : BitVec 32 := 16#32
  let v67 : BitVec 32 := Scalar.muli arg16 c16_i32_45
  let c1_i32_46 : BitVec 32 := 1#32
  let v68 : BitVec 32 := Scalar.addi v67 c1_i32_46
  let v83 : Index := Scalar.indexCast v68
  let c48_54 : Index := 48#32
  ![v83.toNat, 48]
def k0_off27 (v66 : BitVec 32) : Fin 2 → Nat :=
  let v85 : Index := Scalar.indexCast v66
  let c64_55 : Index := 64#32
  ![v85.toNat, 64]
def k0_off28 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_45 : BitVec 32 := 16#32
  let v67 : BitVec 32 := Scalar.muli arg16 c16_i32_45
  let c1_i32_46 : BitVec 32 := 1#32
  let v68 : BitVec 32 := Scalar.addi v67 c1_i32_46
  let v87 : Index := Scalar.indexCast v68
  let c64_56 : Index := 64#32
  ![v87.toNat, 64]
def k0_off29 (v66 : BitVec 32) : Fin 2 → Nat :=
  let v89 : Index := Scalar.indexCast v66
  let c80_57 : Index := 80#32
  ![v89.toNat, 80]
def k0_off30 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_45 : BitVec 32 := 16#32
  let v67 : BitVec 32 := Scalar.muli arg16 c16_i32_45
  let c1_i32_46 : BitVec 32 := 1#32
  let v68 : BitVec 32 := Scalar.addi v67 c1_i32_46
  let v91 : Index := Scalar.indexCast v68
  let c80_58 : Index := 80#32
  ![v91.toNat, 80]
def k0_off31 (v66 : BitVec 32) : Fin 2 → Nat :=
  let v93 : Index := Scalar.indexCast v66
  let c96_59 : Index := 96#32
  ![v93.toNat, 96]
def k0_off32 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_45 : BitVec 32 := 16#32
  let v67 : BitVec 32 := Scalar.muli arg16 c16_i32_45
  let c1_i32_46 : BitVec 32 := 1#32
  let v68 : BitVec 32 := Scalar.addi v67 c1_i32_46
  let v95 : Index := Scalar.indexCast v68
  let c96_60 : Index := 96#32
  ![v95.toNat, 96]
def k0_off33 (v66 : BitVec 32) : Fin 2 → Nat :=
  let v97 : Index := Scalar.indexCast v66
  let c112_61 : Index := 112#32
  ![v97.toNat, 112]

def k0_chk2 (v66 : BitVec 32) : Prop :=
  (∀ a, (k0_off19 v66) a + S1x16.size a ≤ S100x128.size a) ∧
  (∀ a, (k0_off21 v66) a + S1x16.size a ≤ S100x128.size a) ∧
  (∀ a, (k0_off23 v66) a + S1x16.size a ≤ S100x128.size a) ∧
  (∀ a, (k0_off25 v66) a + S1x16.size a ≤ S100x128.size a) ∧
  (∀ a, (k0_off27 v66) a + S1x16.size a ≤ S100x128.size a) ∧
  (∀ a, (k0_off29 v66) a + S1x16.size a ≤ S100x128.size a) ∧
  (∀ a, (k0_off31 v66) a + S1x16.size a ≤ S100x128.size a) ∧
  (∀ a, (k0_off33 v66) a + S1x16.size a ≤ S100x128.size a)
theorem k0_off19_inb : ∀ (v66 : BitVec 32) (k0_hw2 : k0_chk2 v66), ∀ a, (k0_off19 v66) a + S1x16.size a ≤ S100x128.size a := fun v66 k0_hw2 => k0_hw2.1
theorem k0_off21_inb : ∀ (v66 : BitVec 32) (k0_hw2 : k0_chk2 v66), ∀ a, (k0_off21 v66) a + S1x16.size a ≤ S100x128.size a := fun v66 k0_hw2 => k0_hw2.2.1
theorem k0_off23_inb : ∀ (v66 : BitVec 32) (k0_hw2 : k0_chk2 v66), ∀ a, (k0_off23 v66) a + S1x16.size a ≤ S100x128.size a := fun v66 k0_hw2 => k0_hw2.2.2.1
theorem k0_off25_inb : ∀ (v66 : BitVec 32) (k0_hw2 : k0_chk2 v66), ∀ a, (k0_off25 v66) a + S1x16.size a ≤ S100x128.size a := fun v66 k0_hw2 => k0_hw2.2.2.2.1
theorem k0_off27_inb : ∀ (v66 : BitVec 32) (k0_hw2 : k0_chk2 v66), ∀ a, (k0_off27 v66) a + S1x16.size a ≤ S100x128.size a := fun v66 k0_hw2 => k0_hw2.2.2.2.2.1
theorem k0_off29_inb : ∀ (v66 : BitVec 32) (k0_hw2 : k0_chk2 v66), ∀ a, (k0_off29 v66) a + S1x16.size a ≤ S100x128.size a := fun v66 k0_hw2 => k0_hw2.2.2.2.2.2.1
theorem k0_off31_inb : ∀ (v66 : BitVec 32) (k0_hw2 : k0_chk2 v66), ∀ a, (k0_off31 v66) a + S1x16.size a ≤ S100x128.size a := fun v66 k0_hw2 => k0_hw2.2.2.2.2.2.2.1
theorem k0_off33_inb : ∀ (v66 : BitVec 32) (k0_hw2 : k0_chk2 v66), ∀ a, (k0_off33 v66) a + S1x16.size a ≤ S100x128.size a := fun v66 k0_hw2 => k0_hw2.2.2.2.2.2.2.2

def k0_off34 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_45 : BitVec 32 := 16#32
  let v67 : BitVec 32 := Scalar.muli arg16 c16_i32_45
  let c1_i32_46 : BitVec 32 := 1#32
  let v68 : BitVec 32 := Scalar.addi v67 c1_i32_46
  let v99 : Index := Scalar.indexCast v68
  let c112_62 : Index := 112#32
  ![v99.toNat, 112]
def k0_off35 (v102 : BitVec 32) : Fin 2 → Nat :=
  let v105 : Index := Scalar.indexCast v102
  let c0_65 : Index := 0#32
  ![v105.toNat, 0]

def k0_off36 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_63 : BitVec 32 := 16#32
  let v103 : BitVec 32 := Scalar.muli arg16 c16_i32_63
  let c2_i32_64 : BitVec 32 := 2#32
  let v104 : BitVec 32 := Scalar.addi v103 c2_i32_64
  let v107 : Index := Scalar.indexCast v104
  let c0_66 : Index := 0#32
  ![v107.toNat, 0]
def k0_off37 (v102 : BitVec 32) : Fin 2 → Nat :=
  let v109 : Index := Scalar.indexCast v102
  let c16_67 : Index := 16#32
  ![v109.toNat, 16]
def k0_off38 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_63 : BitVec 32 := 16#32
  let v103 : BitVec 32 := Scalar.muli arg16 c16_i32_63
  let c2_i32_64 : BitVec 32 := 2#32
  let v104 : BitVec 32 := Scalar.addi v103 c2_i32_64
  let v111 : Index := Scalar.indexCast v104
  let c16_68 : Index := 16#32
  ![v111.toNat, 16]
def k0_off39 (v102 : BitVec 32) : Fin 2 → Nat :=
  let v113 : Index := Scalar.indexCast v102
  let c32_69 : Index := 32#32
  ![v113.toNat, 32]
def k0_off40 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_63 : BitVec 32 := 16#32
  let v103 : BitVec 32 := Scalar.muli arg16 c16_i32_63
  let c2_i32_64 : BitVec 32 := 2#32
  let v104 : BitVec 32 := Scalar.addi v103 c2_i32_64
  let v115 : Index := Scalar.indexCast v104
  let c32_70 : Index := 32#32
  ![v115.toNat, 32]
def k0_off41 (v102 : BitVec 32) : Fin 2 → Nat :=
  let v117 : Index := Scalar.indexCast v102
  let c48_71 : Index := 48#32
  ![v117.toNat, 48]
def k0_off42 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_63 : BitVec 32 := 16#32
  let v103 : BitVec 32 := Scalar.muli arg16 c16_i32_63
  let c2_i32_64 : BitVec 32 := 2#32
  let v104 : BitVec 32 := Scalar.addi v103 c2_i32_64
  let v119 : Index := Scalar.indexCast v104
  let c48_72 : Index := 48#32
  ![v119.toNat, 48]
def k0_off43 (v102 : BitVec 32) : Fin 2 → Nat :=
  let v121 : Index := Scalar.indexCast v102
  let c64_73 : Index := 64#32
  ![v121.toNat, 64]
def k0_off44 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_63 : BitVec 32 := 16#32
  let v103 : BitVec 32 := Scalar.muli arg16 c16_i32_63
  let c2_i32_64 : BitVec 32 := 2#32
  let v104 : BitVec 32 := Scalar.addi v103 c2_i32_64
  let v123 : Index := Scalar.indexCast v104
  let c64_74 : Index := 64#32
  ![v123.toNat, 64]
def k0_off45 (v102 : BitVec 32) : Fin 2 → Nat :=
  let v125 : Index := Scalar.indexCast v102
  let c80_75 : Index := 80#32
  ![v125.toNat, 80]
def k0_off46 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_63 : BitVec 32 := 16#32
  let v103 : BitVec 32 := Scalar.muli arg16 c16_i32_63
  let c2_i32_64 : BitVec 32 := 2#32
  let v104 : BitVec 32 := Scalar.addi v103 c2_i32_64
  let v127 : Index := Scalar.indexCast v104
  let c80_76 : Index := 80#32
  ![v127.toNat, 80]
def k0_off47 (v102 : BitVec 32) : Fin 2 → Nat :=
  let v129 : Index := Scalar.indexCast v102
  let c96_77 : Index := 96#32
  ![v129.toNat, 96]
def k0_off48 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_63 : BitVec 32 := 16#32
  let v103 : BitVec 32 := Scalar.muli arg16 c16_i32_63
  let c2_i32_64 : BitVec 32 := 2#32
  let v104 : BitVec 32 := Scalar.addi v103 c2_i32_64
  let v131 : Index := Scalar.indexCast v104
  let c96_78 : Index := 96#32
  ![v131.toNat, 96]
def k0_off49 (v102 : BitVec 32) : Fin 2 → Nat :=
  let v133 : Index := Scalar.indexCast v102
  let c112_79 : Index := 112#32
  ![v133.toNat, 112]

def k0_chk3 (v102 : BitVec 32) : Prop :=
  (∀ a, (k0_off35 v102) a + S1x16.size a ≤ S100x128.size a) ∧
  (∀ a, (k0_off37 v102) a + S1x16.size a ≤ S100x128.size a) ∧
  (∀ a, (k0_off39 v102) a + S1x16.size a ≤ S100x128.size a) ∧
  (∀ a, (k0_off41 v102) a + S1x16.size a ≤ S100x128.size a) ∧
  (∀ a, (k0_off43 v102) a + S1x16.size a ≤ S100x128.size a) ∧
  (∀ a, (k0_off45 v102) a + S1x16.size a ≤ S100x128.size a) ∧
  (∀ a, (k0_off47 v102) a + S1x16.size a ≤ S100x128.size a) ∧
  (∀ a, (k0_off49 v102) a + S1x16.size a ≤ S100x128.size a)
theorem k0_off35_inb : ∀ (v102 : BitVec 32) (k0_hw3 : k0_chk3 v102), ∀ a, (k0_off35 v102) a + S1x16.size a ≤ S100x128.size a := fun v102 k0_hw3 => k0_hw3.1
theorem k0_off37_inb : ∀ (v102 : BitVec 32) (k0_hw3 : k0_chk3 v102), ∀ a, (k0_off37 v102) a + S1x16.size a ≤ S100x128.size a := fun v102 k0_hw3 => k0_hw3.2.1
theorem k0_off39_inb : ∀ (v102 : BitVec 32) (k0_hw3 : k0_chk3 v102), ∀ a, (k0_off39 v102) a + S1x16.size a ≤ S100x128.size a := fun v102 k0_hw3 => k0_hw3.2.2.1
theorem k0_off41_inb : ∀ (v102 : BitVec 32) (k0_hw3 : k0_chk3 v102), ∀ a, (k0_off41 v102) a + S1x16.size a ≤ S100x128.size a := fun v102 k0_hw3 => k0_hw3.2.2.2.1
theorem k0_off43_inb : ∀ (v102 : BitVec 32) (k0_hw3 : k0_chk3 v102), ∀ a, (k0_off43 v102) a + S1x16.size a ≤ S100x128.size a := fun v102 k0_hw3 => k0_hw3.2.2.2.2.1
theorem k0_off45_inb : ∀ (v102 : BitVec 32) (k0_hw3 : k0_chk3 v102), ∀ a, (k0_off45 v102) a + S1x16.size a ≤ S100x128.size a := fun v102 k0_hw3 => k0_hw3.2.2.2.2.2.1
theorem k0_off47_inb : ∀ (v102 : BitVec 32) (k0_hw3 : k0_chk3 v102), ∀ a, (k0_off47 v102) a + S1x16.size a ≤ S100x128.size a := fun v102 k0_hw3 => k0_hw3.2.2.2.2.2.2.1
theorem k0_off49_inb : ∀ (v102 : BitVec 32) (k0_hw3 : k0_chk3 v102), ∀ a, (k0_off49 v102) a + S1x16.size a ≤ S100x128.size a := fun v102 k0_hw3 => k0_hw3.2.2.2.2.2.2.2

def k0_off50 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_63 : BitVec 32 := 16#32
  let v103 : BitVec 32 := Scalar.muli arg16 c16_i32_63
  let c2_i32_64 : BitVec 32 := 2#32
  let v104 : BitVec 32 := Scalar.addi v103 c2_i32_64
  let v135 : Index := Scalar.indexCast v104
  let c112_80 : Index := 112#32
  ![v135.toNat, 112]
def k0_off51 (v138 : BitVec 32) : Fin 2 → Nat :=
  let v141 : Index := Scalar.indexCast v138
  let c0_82 : Index := 0#32
  ![v141.toNat, 0]

def k0_off52 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_81 : BitVec 32 := 16#32
  let v139 : BitVec 32 := Scalar.muli arg16 c16_i32_81
  let c3_i32 : BitVec 32 := 3#32
  let v140 : BitVec 32 := Scalar.addi v139 c3_i32
  let v143 : Index := Scalar.indexCast v140
  let c0_83 : Index := 0#32
  ![v143.toNat, 0]
def k0_off53 (v138 : BitVec 32) : Fin 2 → Nat :=
  let v145 : Index := Scalar.indexCast v138
  let c16_84 : Index := 16#32
  ![v145.toNat, 16]
def k0_off54 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_81 : BitVec 32 := 16#32
  let v139 : BitVec 32 := Scalar.muli arg16 c16_i32_81
  let c3_i32 : BitVec 32 := 3#32
  let v140 : BitVec 32 := Scalar.addi v139 c3_i32
  let v147 : Index := Scalar.indexCast v140
  let c16_85 : Index := 16#32
  ![v147.toNat, 16]
def k0_off55 (v138 : BitVec 32) : Fin 2 → Nat :=
  let v149 : Index := Scalar.indexCast v138
  let c32_86 : Index := 32#32
  ![v149.toNat, 32]
def k0_off56 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_81 : BitVec 32 := 16#32
  let v139 : BitVec 32 := Scalar.muli arg16 c16_i32_81
  let c3_i32 : BitVec 32 := 3#32
  let v140 : BitVec 32 := Scalar.addi v139 c3_i32
  let v151 : Index := Scalar.indexCast v140
  let c32_87 : Index := 32#32
  ![v151.toNat, 32]
def k0_off57 (v138 : BitVec 32) : Fin 2 → Nat :=
  let v153 : Index := Scalar.indexCast v138
  let c48_88 : Index := 48#32
  ![v153.toNat, 48]
def k0_off58 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_81 : BitVec 32 := 16#32
  let v139 : BitVec 32 := Scalar.muli arg16 c16_i32_81
  let c3_i32 : BitVec 32 := 3#32
  let v140 : BitVec 32 := Scalar.addi v139 c3_i32
  let v155 : Index := Scalar.indexCast v140
  let c48_89 : Index := 48#32
  ![v155.toNat, 48]
def k0_off59 (v138 : BitVec 32) : Fin 2 → Nat :=
  let v157 : Index := Scalar.indexCast v138
  let c64_90 : Index := 64#32
  ![v157.toNat, 64]
def k0_off60 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_81 : BitVec 32 := 16#32
  let v139 : BitVec 32 := Scalar.muli arg16 c16_i32_81
  let c3_i32 : BitVec 32 := 3#32
  let v140 : BitVec 32 := Scalar.addi v139 c3_i32
  let v159 : Index := Scalar.indexCast v140
  let c64_91 : Index := 64#32
  ![v159.toNat, 64]
def k0_off61 (v138 : BitVec 32) : Fin 2 → Nat :=
  let v161 : Index := Scalar.indexCast v138
  let c80_92 : Index := 80#32
  ![v161.toNat, 80]
def k0_off62 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_81 : BitVec 32 := 16#32
  let v139 : BitVec 32 := Scalar.muli arg16 c16_i32_81
  let c3_i32 : BitVec 32 := 3#32
  let v140 : BitVec 32 := Scalar.addi v139 c3_i32
  let v163 : Index := Scalar.indexCast v140
  let c80_93 : Index := 80#32
  ![v163.toNat, 80]
def k0_off63 (v138 : BitVec 32) : Fin 2 → Nat :=
  let v165 : Index := Scalar.indexCast v138
  let c96_94 : Index := 96#32
  ![v165.toNat, 96]
def k0_off64 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_81 : BitVec 32 := 16#32
  let v139 : BitVec 32 := Scalar.muli arg16 c16_i32_81
  let c3_i32 : BitVec 32 := 3#32
  let v140 : BitVec 32 := Scalar.addi v139 c3_i32
  let v167 : Index := Scalar.indexCast v140
  let c96_95 : Index := 96#32
  ![v167.toNat, 96]
def k0_off65 (v138 : BitVec 32) : Fin 2 → Nat :=
  let v169 : Index := Scalar.indexCast v138
  let c112_96 : Index := 112#32
  ![v169.toNat, 112]

def k0_chk4 (v138 : BitVec 32) : Prop :=
  (∀ a, (k0_off51 v138) a + S1x16.size a ≤ S100x128.size a) ∧
  (∀ a, (k0_off53 v138) a + S1x16.size a ≤ S100x128.size a) ∧
  (∀ a, (k0_off55 v138) a + S1x16.size a ≤ S100x128.size a) ∧
  (∀ a, (k0_off57 v138) a + S1x16.size a ≤ S100x128.size a) ∧
  (∀ a, (k0_off59 v138) a + S1x16.size a ≤ S100x128.size a) ∧
  (∀ a, (k0_off61 v138) a + S1x16.size a ≤ S100x128.size a) ∧
  (∀ a, (k0_off63 v138) a + S1x16.size a ≤ S100x128.size a) ∧
  (∀ a, (k0_off65 v138) a + S1x16.size a ≤ S100x128.size a)
theorem k0_off51_inb : ∀ (v138 : BitVec 32) (k0_hw4 : k0_chk4 v138), ∀ a, (k0_off51 v138) a + S1x16.size a ≤ S100x128.size a := fun v138 k0_hw4 => k0_hw4.1
theorem k0_off53_inb : ∀ (v138 : BitVec 32) (k0_hw4 : k0_chk4 v138), ∀ a, (k0_off53 v138) a + S1x16.size a ≤ S100x128.size a := fun v138 k0_hw4 => k0_hw4.2.1
theorem k0_off55_inb : ∀ (v138 : BitVec 32) (k0_hw4 : k0_chk4 v138), ∀ a, (k0_off55 v138) a + S1x16.size a ≤ S100x128.size a := fun v138 k0_hw4 => k0_hw4.2.2.1
theorem k0_off57_inb : ∀ (v138 : BitVec 32) (k0_hw4 : k0_chk4 v138), ∀ a, (k0_off57 v138) a + S1x16.size a ≤ S100x128.size a := fun v138 k0_hw4 => k0_hw4.2.2.2.1
theorem k0_off59_inb : ∀ (v138 : BitVec 32) (k0_hw4 : k0_chk4 v138), ∀ a, (k0_off59 v138) a + S1x16.size a ≤ S100x128.size a := fun v138 k0_hw4 => k0_hw4.2.2.2.2.1
theorem k0_off61_inb : ∀ (v138 : BitVec 32) (k0_hw4 : k0_chk4 v138), ∀ a, (k0_off61 v138) a + S1x16.size a ≤ S100x128.size a := fun v138 k0_hw4 => k0_hw4.2.2.2.2.2.1
theorem k0_off63_inb : ∀ (v138 : BitVec 32) (k0_hw4 : k0_chk4 v138), ∀ a, (k0_off63 v138) a + S1x16.size a ≤ S100x128.size a := fun v138 k0_hw4 => k0_hw4.2.2.2.2.2.2.1
theorem k0_off65_inb : ∀ (v138 : BitVec 32) (k0_hw4 : k0_chk4 v138), ∀ a, (k0_off65 v138) a + S1x16.size a ≤ S100x128.size a := fun v138 k0_hw4 => k0_hw4.2.2.2.2.2.2.2

def k0_off66 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_81 : BitVec 32 := 16#32
  let v139 : BitVec 32 := Scalar.muli arg16 c16_i32_81
  let c3_i32 : BitVec 32 := 3#32
  let v140 : BitVec 32 := Scalar.addi v139 c3_i32
  let v171 : Index := Scalar.indexCast v140
  let c112_97 : Index := 112#32
  ![v171.toNat, 112]
def k0_off67 (v174 : BitVec 32) : Fin 2 → Nat :=
  let v177 : Index := Scalar.indexCast v174
  let c0_99 : Index := 0#32
  ![v177.toNat, 0]

def k0_off68 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_98 : BitVec 32 := 16#32
  let v175 : BitVec 32 := Scalar.muli arg16 c16_i32_98
  let c4_i32 : BitVec 32 := 4#32
  let v176 : BitVec 32 := Scalar.addi v175 c4_i32
  let v179 : Index := Scalar.indexCast v176
  let c0_100 : Index := 0#32
  ![v179.toNat, 0]
def k0_off69 (v174 : BitVec 32) : Fin 2 → Nat :=
  let v181 : Index := Scalar.indexCast v174
  let c16_101 : Index := 16#32
  ![v181.toNat, 16]
def k0_off70 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_98 : BitVec 32 := 16#32
  let v175 : BitVec 32 := Scalar.muli arg16 c16_i32_98
  let c4_i32 : BitVec 32 := 4#32
  let v176 : BitVec 32 := Scalar.addi v175 c4_i32
  let v183 : Index := Scalar.indexCast v176
  let c16_102 : Index := 16#32
  ![v183.toNat, 16]
def k0_off71 (v174 : BitVec 32) : Fin 2 → Nat :=
  let v185 : Index := Scalar.indexCast v174
  let c32_103 : Index := 32#32
  ![v185.toNat, 32]
def k0_off72 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_98 : BitVec 32 := 16#32
  let v175 : BitVec 32 := Scalar.muli arg16 c16_i32_98
  let c4_i32 : BitVec 32 := 4#32
  let v176 : BitVec 32 := Scalar.addi v175 c4_i32
  let v187 : Index := Scalar.indexCast v176
  let c32_104 : Index := 32#32
  ![v187.toNat, 32]
def k0_off73 (v174 : BitVec 32) : Fin 2 → Nat :=
  let v189 : Index := Scalar.indexCast v174
  let c48_105 : Index := 48#32
  ![v189.toNat, 48]
def k0_off74 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_98 : BitVec 32 := 16#32
  let v175 : BitVec 32 := Scalar.muli arg16 c16_i32_98
  let c4_i32 : BitVec 32 := 4#32
  let v176 : BitVec 32 := Scalar.addi v175 c4_i32
  let v191 : Index := Scalar.indexCast v176
  let c48_106 : Index := 48#32
  ![v191.toNat, 48]
def k0_off75 (v174 : BitVec 32) : Fin 2 → Nat :=
  let v193 : Index := Scalar.indexCast v174
  let c64_107 : Index := 64#32
  ![v193.toNat, 64]
def k0_off76 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_98 : BitVec 32 := 16#32
  let v175 : BitVec 32 := Scalar.muli arg16 c16_i32_98
  let c4_i32 : BitVec 32 := 4#32
  let v176 : BitVec 32 := Scalar.addi v175 c4_i32
  let v195 : Index := Scalar.indexCast v176
  let c64_108 : Index := 64#32
  ![v195.toNat, 64]
def k0_off77 (v174 : BitVec 32) : Fin 2 → Nat :=
  let v197 : Index := Scalar.indexCast v174
  let c80_109 : Index := 80#32
  ![v197.toNat, 80]
def k0_off78 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_98 : BitVec 32 := 16#32
  let v175 : BitVec 32 := Scalar.muli arg16 c16_i32_98
  let c4_i32 : BitVec 32 := 4#32
  let v176 : BitVec 32 := Scalar.addi v175 c4_i32
  let v199 : Index := Scalar.indexCast v176
  let c80_110 : Index := 80#32
  ![v199.toNat, 80]
def k0_off79 (v174 : BitVec 32) : Fin 2 → Nat :=
  let v201 : Index := Scalar.indexCast v174
  let c96_111 : Index := 96#32
  ![v201.toNat, 96]
def k0_off80 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_98 : BitVec 32 := 16#32
  let v175 : BitVec 32 := Scalar.muli arg16 c16_i32_98
  let c4_i32 : BitVec 32 := 4#32
  let v176 : BitVec 32 := Scalar.addi v175 c4_i32
  let v203 : Index := Scalar.indexCast v176
  let c96_112 : Index := 96#32
  ![v203.toNat, 96]
def k0_off81 (v174 : BitVec 32) : Fin 2 → Nat :=
  let v205 : Index := Scalar.indexCast v174
  let c112_113 : Index := 112#32
  ![v205.toNat, 112]

def k0_chk5 (v174 : BitVec 32) : Prop :=
  (∀ a, (k0_off67 v174) a + S1x16.size a ≤ S100x128.size a) ∧
  (∀ a, (k0_off69 v174) a + S1x16.size a ≤ S100x128.size a) ∧
  (∀ a, (k0_off71 v174) a + S1x16.size a ≤ S100x128.size a) ∧
  (∀ a, (k0_off73 v174) a + S1x16.size a ≤ S100x128.size a) ∧
  (∀ a, (k0_off75 v174) a + S1x16.size a ≤ S100x128.size a) ∧
  (∀ a, (k0_off77 v174) a + S1x16.size a ≤ S100x128.size a) ∧
  (∀ a, (k0_off79 v174) a + S1x16.size a ≤ S100x128.size a) ∧
  (∀ a, (k0_off81 v174) a + S1x16.size a ≤ S100x128.size a)
theorem k0_off67_inb : ∀ (v174 : BitVec 32) (k0_hw5 : k0_chk5 v174), ∀ a, (k0_off67 v174) a + S1x16.size a ≤ S100x128.size a := fun v174 k0_hw5 => k0_hw5.1
theorem k0_off69_inb : ∀ (v174 : BitVec 32) (k0_hw5 : k0_chk5 v174), ∀ a, (k0_off69 v174) a + S1x16.size a ≤ S100x128.size a := fun v174 k0_hw5 => k0_hw5.2.1
theorem k0_off71_inb : ∀ (v174 : BitVec 32) (k0_hw5 : k0_chk5 v174), ∀ a, (k0_off71 v174) a + S1x16.size a ≤ S100x128.size a := fun v174 k0_hw5 => k0_hw5.2.2.1
theorem k0_off73_inb : ∀ (v174 : BitVec 32) (k0_hw5 : k0_chk5 v174), ∀ a, (k0_off73 v174) a + S1x16.size a ≤ S100x128.size a := fun v174 k0_hw5 => k0_hw5.2.2.2.1
theorem k0_off75_inb : ∀ (v174 : BitVec 32) (k0_hw5 : k0_chk5 v174), ∀ a, (k0_off75 v174) a + S1x16.size a ≤ S100x128.size a := fun v174 k0_hw5 => k0_hw5.2.2.2.2.1
theorem k0_off77_inb : ∀ (v174 : BitVec 32) (k0_hw5 : k0_chk5 v174), ∀ a, (k0_off77 v174) a + S1x16.size a ≤ S100x128.size a := fun v174 k0_hw5 => k0_hw5.2.2.2.2.2.1
theorem k0_off79_inb : ∀ (v174 : BitVec 32) (k0_hw5 : k0_chk5 v174), ∀ a, (k0_off79 v174) a + S1x16.size a ≤ S100x128.size a := fun v174 k0_hw5 => k0_hw5.2.2.2.2.2.2.1
theorem k0_off81_inb : ∀ (v174 : BitVec 32) (k0_hw5 : k0_chk5 v174), ∀ a, (k0_off81 v174) a + S1x16.size a ≤ S100x128.size a := fun v174 k0_hw5 => k0_hw5.2.2.2.2.2.2.2

def k0_off82 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_98 : BitVec 32 := 16#32
  let v175 : BitVec 32 := Scalar.muli arg16 c16_i32_98
  let c4_i32 : BitVec 32 := 4#32
  let v176 : BitVec 32 := Scalar.addi v175 c4_i32
  let v207 : Index := Scalar.indexCast v176
  let c112_114 : Index := 112#32
  ![v207.toNat, 112]
def k0_off83 (v210 : BitVec 32) : Fin 2 → Nat :=
  let v213 : Index := Scalar.indexCast v210
  let c0_116 : Index := 0#32
  ![v213.toNat, 0]

def k0_off84 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_115 : BitVec 32 := 16#32
  let v211 : BitVec 32 := Scalar.muli arg16 c16_i32_115
  let c5_i32 : BitVec 32 := 5#32
  let v212 : BitVec 32 := Scalar.addi v211 c5_i32
  let v215 : Index := Scalar.indexCast v212
  let c0_117 : Index := 0#32
  ![v215.toNat, 0]
def k0_off85 (v210 : BitVec 32) : Fin 2 → Nat :=
  let v217 : Index := Scalar.indexCast v210
  let c16_118 : Index := 16#32
  ![v217.toNat, 16]
def k0_off86 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_115 : BitVec 32 := 16#32
  let v211 : BitVec 32 := Scalar.muli arg16 c16_i32_115
  let c5_i32 : BitVec 32 := 5#32
  let v212 : BitVec 32 := Scalar.addi v211 c5_i32
  let v219 : Index := Scalar.indexCast v212
  let c16_119 : Index := 16#32
  ![v219.toNat, 16]
def k0_off87 (v210 : BitVec 32) : Fin 2 → Nat :=
  let v221 : Index := Scalar.indexCast v210
  let c32_120 : Index := 32#32
  ![v221.toNat, 32]
def k0_off88 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_115 : BitVec 32 := 16#32
  let v211 : BitVec 32 := Scalar.muli arg16 c16_i32_115
  let c5_i32 : BitVec 32 := 5#32
  let v212 : BitVec 32 := Scalar.addi v211 c5_i32
  let v223 : Index := Scalar.indexCast v212
  let c32_121 : Index := 32#32
  ![v223.toNat, 32]
def k0_off89 (v210 : BitVec 32) : Fin 2 → Nat :=
  let v225 : Index := Scalar.indexCast v210
  let c48_122 : Index := 48#32
  ![v225.toNat, 48]
def k0_off90 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_115 : BitVec 32 := 16#32
  let v211 : BitVec 32 := Scalar.muli arg16 c16_i32_115
  let c5_i32 : BitVec 32 := 5#32
  let v212 : BitVec 32 := Scalar.addi v211 c5_i32
  let v227 : Index := Scalar.indexCast v212
  let c48_123 : Index := 48#32
  ![v227.toNat, 48]
def k0_off91 (v210 : BitVec 32) : Fin 2 → Nat :=
  let v229 : Index := Scalar.indexCast v210
  let c64_124 : Index := 64#32
  ![v229.toNat, 64]
def k0_off92 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_115 : BitVec 32 := 16#32
  let v211 : BitVec 32 := Scalar.muli arg16 c16_i32_115
  let c5_i32 : BitVec 32 := 5#32
  let v212 : BitVec 32 := Scalar.addi v211 c5_i32
  let v231 : Index := Scalar.indexCast v212
  let c64_125 : Index := 64#32
  ![v231.toNat, 64]
def k0_off93 (v210 : BitVec 32) : Fin 2 → Nat :=
  let v233 : Index := Scalar.indexCast v210
  let c80_126 : Index := 80#32
  ![v233.toNat, 80]
def k0_off94 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_115 : BitVec 32 := 16#32
  let v211 : BitVec 32 := Scalar.muli arg16 c16_i32_115
  let c5_i32 : BitVec 32 := 5#32
  let v212 : BitVec 32 := Scalar.addi v211 c5_i32
  let v235 : Index := Scalar.indexCast v212
  let c80_127 : Index := 80#32
  ![v235.toNat, 80]
def k0_off95 (v210 : BitVec 32) : Fin 2 → Nat :=
  let v237 : Index := Scalar.indexCast v210
  let c96_128 : Index := 96#32
  ![v237.toNat, 96]
def k0_off96 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_115 : BitVec 32 := 16#32
  let v211 : BitVec 32 := Scalar.muli arg16 c16_i32_115
  let c5_i32 : BitVec 32 := 5#32
  let v212 : BitVec 32 := Scalar.addi v211 c5_i32
  let v239 : Index := Scalar.indexCast v212
  let c96_129 : Index := 96#32
  ![v239.toNat, 96]
def k0_off97 (v210 : BitVec 32) : Fin 2 → Nat :=
  let v241 : Index := Scalar.indexCast v210
  let c112_130 : Index := 112#32
  ![v241.toNat, 112]

def k0_chk6 (v210 : BitVec 32) : Prop :=
  (∀ a, (k0_off83 v210) a + S1x16.size a ≤ S100x128.size a) ∧
  (∀ a, (k0_off85 v210) a + S1x16.size a ≤ S100x128.size a) ∧
  (∀ a, (k0_off87 v210) a + S1x16.size a ≤ S100x128.size a) ∧
  (∀ a, (k0_off89 v210) a + S1x16.size a ≤ S100x128.size a) ∧
  (∀ a, (k0_off91 v210) a + S1x16.size a ≤ S100x128.size a) ∧
  (∀ a, (k0_off93 v210) a + S1x16.size a ≤ S100x128.size a) ∧
  (∀ a, (k0_off95 v210) a + S1x16.size a ≤ S100x128.size a) ∧
  (∀ a, (k0_off97 v210) a + S1x16.size a ≤ S100x128.size a)
theorem k0_off83_inb : ∀ (v210 : BitVec 32) (k0_hw6 : k0_chk6 v210), ∀ a, (k0_off83 v210) a + S1x16.size a ≤ S100x128.size a := fun v210 k0_hw6 => k0_hw6.1
theorem k0_off85_inb : ∀ (v210 : BitVec 32) (k0_hw6 : k0_chk6 v210), ∀ a, (k0_off85 v210) a + S1x16.size a ≤ S100x128.size a := fun v210 k0_hw6 => k0_hw6.2.1
theorem k0_off87_inb : ∀ (v210 : BitVec 32) (k0_hw6 : k0_chk6 v210), ∀ a, (k0_off87 v210) a + S1x16.size a ≤ S100x128.size a := fun v210 k0_hw6 => k0_hw6.2.2.1
theorem k0_off89_inb : ∀ (v210 : BitVec 32) (k0_hw6 : k0_chk6 v210), ∀ a, (k0_off89 v210) a + S1x16.size a ≤ S100x128.size a := fun v210 k0_hw6 => k0_hw6.2.2.2.1
theorem k0_off91_inb : ∀ (v210 : BitVec 32) (k0_hw6 : k0_chk6 v210), ∀ a, (k0_off91 v210) a + S1x16.size a ≤ S100x128.size a := fun v210 k0_hw6 => k0_hw6.2.2.2.2.1
theorem k0_off93_inb : ∀ (v210 : BitVec 32) (k0_hw6 : k0_chk6 v210), ∀ a, (k0_off93 v210) a + S1x16.size a ≤ S100x128.size a := fun v210 k0_hw6 => k0_hw6.2.2.2.2.2.1
theorem k0_off95_inb : ∀ (v210 : BitVec 32) (k0_hw6 : k0_chk6 v210), ∀ a, (k0_off95 v210) a + S1x16.size a ≤ S100x128.size a := fun v210 k0_hw6 => k0_hw6.2.2.2.2.2.2.1
theorem k0_off97_inb : ∀ (v210 : BitVec 32) (k0_hw6 : k0_chk6 v210), ∀ a, (k0_off97 v210) a + S1x16.size a ≤ S100x128.size a := fun v210 k0_hw6 => k0_hw6.2.2.2.2.2.2.2

def k0_off98 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_115 : BitVec 32 := 16#32
  let v211 : BitVec 32 := Scalar.muli arg16 c16_i32_115
  let c5_i32 : BitVec 32 := 5#32
  let v212 : BitVec 32 := Scalar.addi v211 c5_i32
  let v243 : Index := Scalar.indexCast v212
  let c112_131 : Index := 112#32
  ![v243.toNat, 112]
def k0_off99 (v246 : BitVec 32) : Fin 2 → Nat :=
  let v249 : Index := Scalar.indexCast v246
  let c0_133 : Index := 0#32
  ![v249.toNat, 0]

def k0_off100 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_132 : BitVec 32 := 16#32
  let v247 : BitVec 32 := Scalar.muli arg16 c16_i32_132
  let c6_i32 : BitVec 32 := 6#32
  let v248 : BitVec 32 := Scalar.addi v247 c6_i32
  let v251 : Index := Scalar.indexCast v248
  let c0_134 : Index := 0#32
  ![v251.toNat, 0]
def k0_off101 (v246 : BitVec 32) : Fin 2 → Nat :=
  let v253 : Index := Scalar.indexCast v246
  let c16_135 : Index := 16#32
  ![v253.toNat, 16]
def k0_off102 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_132 : BitVec 32 := 16#32
  let v247 : BitVec 32 := Scalar.muli arg16 c16_i32_132
  let c6_i32 : BitVec 32 := 6#32
  let v248 : BitVec 32 := Scalar.addi v247 c6_i32
  let v255 : Index := Scalar.indexCast v248
  let c16_136 : Index := 16#32
  ![v255.toNat, 16]
def k0_off103 (v246 : BitVec 32) : Fin 2 → Nat :=
  let v257 : Index := Scalar.indexCast v246
  let c32_137 : Index := 32#32
  ![v257.toNat, 32]
def k0_off104 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_132 : BitVec 32 := 16#32
  let v247 : BitVec 32 := Scalar.muli arg16 c16_i32_132
  let c6_i32 : BitVec 32 := 6#32
  let v248 : BitVec 32 := Scalar.addi v247 c6_i32
  let v259 : Index := Scalar.indexCast v248
  let c32_138 : Index := 32#32
  ![v259.toNat, 32]
def k0_off105 (v246 : BitVec 32) : Fin 2 → Nat :=
  let v261 : Index := Scalar.indexCast v246
  let c48_139 : Index := 48#32
  ![v261.toNat, 48]
def k0_off106 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_132 : BitVec 32 := 16#32
  let v247 : BitVec 32 := Scalar.muli arg16 c16_i32_132
  let c6_i32 : BitVec 32 := 6#32
  let v248 : BitVec 32 := Scalar.addi v247 c6_i32
  let v263 : Index := Scalar.indexCast v248
  let c48_140 : Index := 48#32
  ![v263.toNat, 48]
def k0_off107 (v246 : BitVec 32) : Fin 2 → Nat :=
  let v265 : Index := Scalar.indexCast v246
  let c64_141 : Index := 64#32
  ![v265.toNat, 64]
def k0_off108 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_132 : BitVec 32 := 16#32
  let v247 : BitVec 32 := Scalar.muli arg16 c16_i32_132
  let c6_i32 : BitVec 32 := 6#32
  let v248 : BitVec 32 := Scalar.addi v247 c6_i32
  let v267 : Index := Scalar.indexCast v248
  let c64_142 : Index := 64#32
  ![v267.toNat, 64]
def k0_off109 (v246 : BitVec 32) : Fin 2 → Nat :=
  let v269 : Index := Scalar.indexCast v246
  let c80_143 : Index := 80#32
  ![v269.toNat, 80]
def k0_off110 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_132 : BitVec 32 := 16#32
  let v247 : BitVec 32 := Scalar.muli arg16 c16_i32_132
  let c6_i32 : BitVec 32 := 6#32
  let v248 : BitVec 32 := Scalar.addi v247 c6_i32
  let v271 : Index := Scalar.indexCast v248
  let c80_144 : Index := 80#32
  ![v271.toNat, 80]
def k0_off111 (v246 : BitVec 32) : Fin 2 → Nat :=
  let v273 : Index := Scalar.indexCast v246
  let c96_145 : Index := 96#32
  ![v273.toNat, 96]
def k0_off112 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_132 : BitVec 32 := 16#32
  let v247 : BitVec 32 := Scalar.muli arg16 c16_i32_132
  let c6_i32 : BitVec 32 := 6#32
  let v248 : BitVec 32 := Scalar.addi v247 c6_i32
  let v275 : Index := Scalar.indexCast v248
  let c96_146 : Index := 96#32
  ![v275.toNat, 96]
def k0_off113 (v246 : BitVec 32) : Fin 2 → Nat :=
  let v277 : Index := Scalar.indexCast v246
  let c112_147 : Index := 112#32
  ![v277.toNat, 112]

def k0_chk7 (v246 : BitVec 32) : Prop :=
  (∀ a, (k0_off99 v246) a + S1x16.size a ≤ S100x128.size a) ∧
  (∀ a, (k0_off101 v246) a + S1x16.size a ≤ S100x128.size a) ∧
  (∀ a, (k0_off103 v246) a + S1x16.size a ≤ S100x128.size a) ∧
  (∀ a, (k0_off105 v246) a + S1x16.size a ≤ S100x128.size a) ∧
  (∀ a, (k0_off107 v246) a + S1x16.size a ≤ S100x128.size a) ∧
  (∀ a, (k0_off109 v246) a + S1x16.size a ≤ S100x128.size a) ∧
  (∀ a, (k0_off111 v246) a + S1x16.size a ≤ S100x128.size a) ∧
  (∀ a, (k0_off113 v246) a + S1x16.size a ≤ S100x128.size a)
theorem k0_off99_inb : ∀ (v246 : BitVec 32) (k0_hw7 : k0_chk7 v246), ∀ a, (k0_off99 v246) a + S1x16.size a ≤ S100x128.size a := fun v246 k0_hw7 => k0_hw7.1
theorem k0_off101_inb : ∀ (v246 : BitVec 32) (k0_hw7 : k0_chk7 v246), ∀ a, (k0_off101 v246) a + S1x16.size a ≤ S100x128.size a := fun v246 k0_hw7 => k0_hw7.2.1
theorem k0_off103_inb : ∀ (v246 : BitVec 32) (k0_hw7 : k0_chk7 v246), ∀ a, (k0_off103 v246) a + S1x16.size a ≤ S100x128.size a := fun v246 k0_hw7 => k0_hw7.2.2.1
theorem k0_off105_inb : ∀ (v246 : BitVec 32) (k0_hw7 : k0_chk7 v246), ∀ a, (k0_off105 v246) a + S1x16.size a ≤ S100x128.size a := fun v246 k0_hw7 => k0_hw7.2.2.2.1
theorem k0_off107_inb : ∀ (v246 : BitVec 32) (k0_hw7 : k0_chk7 v246), ∀ a, (k0_off107 v246) a + S1x16.size a ≤ S100x128.size a := fun v246 k0_hw7 => k0_hw7.2.2.2.2.1
theorem k0_off109_inb : ∀ (v246 : BitVec 32) (k0_hw7 : k0_chk7 v246), ∀ a, (k0_off109 v246) a + S1x16.size a ≤ S100x128.size a := fun v246 k0_hw7 => k0_hw7.2.2.2.2.2.1
theorem k0_off111_inb : ∀ (v246 : BitVec 32) (k0_hw7 : k0_chk7 v246), ∀ a, (k0_off111 v246) a + S1x16.size a ≤ S100x128.size a := fun v246 k0_hw7 => k0_hw7.2.2.2.2.2.2.1
theorem k0_off113_inb : ∀ (v246 : BitVec 32) (k0_hw7 : k0_chk7 v246), ∀ a, (k0_off113 v246) a + S1x16.size a ≤ S100x128.size a := fun v246 k0_hw7 => k0_hw7.2.2.2.2.2.2.2

def k0_off114 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_132 : BitVec 32 := 16#32
  let v247 : BitVec 32 := Scalar.muli arg16 c16_i32_132
  let c6_i32 : BitVec 32 := 6#32
  let v248 : BitVec 32 := Scalar.addi v247 c6_i32
  let v279 : Index := Scalar.indexCast v248
  let c112_148 : Index := 112#32
  ![v279.toNat, 112]
def k0_off115 (v282 : BitVec 32) : Fin 2 → Nat :=
  let v285 : Index := Scalar.indexCast v282
  let c0_150 : Index := 0#32
  ![v285.toNat, 0]

def k0_off116 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_149 : BitVec 32 := 16#32
  let v283 : BitVec 32 := Scalar.muli arg16 c16_i32_149
  let c7_i32 : BitVec 32 := 7#32
  let v284 : BitVec 32 := Scalar.addi v283 c7_i32
  let v287 : Index := Scalar.indexCast v284
  let c0_151 : Index := 0#32
  ![v287.toNat, 0]
def k0_off117 (v282 : BitVec 32) : Fin 2 → Nat :=
  let v289 : Index := Scalar.indexCast v282
  let c16_152 : Index := 16#32
  ![v289.toNat, 16]
def k0_off118 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_149 : BitVec 32 := 16#32
  let v283 : BitVec 32 := Scalar.muli arg16 c16_i32_149
  let c7_i32 : BitVec 32 := 7#32
  let v284 : BitVec 32 := Scalar.addi v283 c7_i32
  let v291 : Index := Scalar.indexCast v284
  let c16_153 : Index := 16#32
  ![v291.toNat, 16]
def k0_off119 (v282 : BitVec 32) : Fin 2 → Nat :=
  let v293 : Index := Scalar.indexCast v282
  let c32_154 : Index := 32#32
  ![v293.toNat, 32]
def k0_off120 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_149 : BitVec 32 := 16#32
  let v283 : BitVec 32 := Scalar.muli arg16 c16_i32_149
  let c7_i32 : BitVec 32 := 7#32
  let v284 : BitVec 32 := Scalar.addi v283 c7_i32
  let v295 : Index := Scalar.indexCast v284
  let c32_155 : Index := 32#32
  ![v295.toNat, 32]
def k0_off121 (v282 : BitVec 32) : Fin 2 → Nat :=
  let v297 : Index := Scalar.indexCast v282
  let c48_156 : Index := 48#32
  ![v297.toNat, 48]
def k0_off122 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_149 : BitVec 32 := 16#32
  let v283 : BitVec 32 := Scalar.muli arg16 c16_i32_149
  let c7_i32 : BitVec 32 := 7#32
  let v284 : BitVec 32 := Scalar.addi v283 c7_i32
  let v299 : Index := Scalar.indexCast v284
  let c48_157 : Index := 48#32
  ![v299.toNat, 48]
def k0_off123 (v282 : BitVec 32) : Fin 2 → Nat :=
  let v301 : Index := Scalar.indexCast v282
  let c64_158 : Index := 64#32
  ![v301.toNat, 64]
def k0_off124 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_149 : BitVec 32 := 16#32
  let v283 : BitVec 32 := Scalar.muli arg16 c16_i32_149
  let c7_i32 : BitVec 32 := 7#32
  let v284 : BitVec 32 := Scalar.addi v283 c7_i32
  let v303 : Index := Scalar.indexCast v284
  let c64_159 : Index := 64#32
  ![v303.toNat, 64]
def k0_off125 (v282 : BitVec 32) : Fin 2 → Nat :=
  let v305 : Index := Scalar.indexCast v282
  let c80_160 : Index := 80#32
  ![v305.toNat, 80]
def k0_off126 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_149 : BitVec 32 := 16#32
  let v283 : BitVec 32 := Scalar.muli arg16 c16_i32_149
  let c7_i32 : BitVec 32 := 7#32
  let v284 : BitVec 32 := Scalar.addi v283 c7_i32
  let v307 : Index := Scalar.indexCast v284
  let c80_161 : Index := 80#32
  ![v307.toNat, 80]
def k0_off127 (v282 : BitVec 32) : Fin 2 → Nat :=
  let v309 : Index := Scalar.indexCast v282
  let c96_162 : Index := 96#32
  ![v309.toNat, 96]
def k0_off128 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_149 : BitVec 32 := 16#32
  let v283 : BitVec 32 := Scalar.muli arg16 c16_i32_149
  let c7_i32 : BitVec 32 := 7#32
  let v284 : BitVec 32 := Scalar.addi v283 c7_i32
  let v311 : Index := Scalar.indexCast v284
  let c96_163 : Index := 96#32
  ![v311.toNat, 96]
def k0_off129 (v282 : BitVec 32) : Fin 2 → Nat :=
  let v313 : Index := Scalar.indexCast v282
  let c112_164 : Index := 112#32
  ![v313.toNat, 112]

def k0_chk8 (v282 : BitVec 32) : Prop :=
  (∀ a, (k0_off115 v282) a + S1x16.size a ≤ S100x128.size a) ∧
  (∀ a, (k0_off117 v282) a + S1x16.size a ≤ S100x128.size a) ∧
  (∀ a, (k0_off119 v282) a + S1x16.size a ≤ S100x128.size a) ∧
  (∀ a, (k0_off121 v282) a + S1x16.size a ≤ S100x128.size a) ∧
  (∀ a, (k0_off123 v282) a + S1x16.size a ≤ S100x128.size a) ∧
  (∀ a, (k0_off125 v282) a + S1x16.size a ≤ S100x128.size a) ∧
  (∀ a, (k0_off127 v282) a + S1x16.size a ≤ S100x128.size a) ∧
  (∀ a, (k0_off129 v282) a + S1x16.size a ≤ S100x128.size a)
theorem k0_off115_inb : ∀ (v282 : BitVec 32) (k0_hw8 : k0_chk8 v282), ∀ a, (k0_off115 v282) a + S1x16.size a ≤ S100x128.size a := fun v282 k0_hw8 => k0_hw8.1
theorem k0_off117_inb : ∀ (v282 : BitVec 32) (k0_hw8 : k0_chk8 v282), ∀ a, (k0_off117 v282) a + S1x16.size a ≤ S100x128.size a := fun v282 k0_hw8 => k0_hw8.2.1
theorem k0_off119_inb : ∀ (v282 : BitVec 32) (k0_hw8 : k0_chk8 v282), ∀ a, (k0_off119 v282) a + S1x16.size a ≤ S100x128.size a := fun v282 k0_hw8 => k0_hw8.2.2.1
theorem k0_off121_inb : ∀ (v282 : BitVec 32) (k0_hw8 : k0_chk8 v282), ∀ a, (k0_off121 v282) a + S1x16.size a ≤ S100x128.size a := fun v282 k0_hw8 => k0_hw8.2.2.2.1
theorem k0_off123_inb : ∀ (v282 : BitVec 32) (k0_hw8 : k0_chk8 v282), ∀ a, (k0_off123 v282) a + S1x16.size a ≤ S100x128.size a := fun v282 k0_hw8 => k0_hw8.2.2.2.2.1
theorem k0_off125_inb : ∀ (v282 : BitVec 32) (k0_hw8 : k0_chk8 v282), ∀ a, (k0_off125 v282) a + S1x16.size a ≤ S100x128.size a := fun v282 k0_hw8 => k0_hw8.2.2.2.2.2.1
theorem k0_off127_inb : ∀ (v282 : BitVec 32) (k0_hw8 : k0_chk8 v282), ∀ a, (k0_off127 v282) a + S1x16.size a ≤ S100x128.size a := fun v282 k0_hw8 => k0_hw8.2.2.2.2.2.2.1
theorem k0_off129_inb : ∀ (v282 : BitVec 32) (k0_hw8 : k0_chk8 v282), ∀ a, (k0_off129 v282) a + S1x16.size a ≤ S100x128.size a := fun v282 k0_hw8 => k0_hw8.2.2.2.2.2.2.2

def k0_off130 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_149 : BitVec 32 := 16#32
  let v283 : BitVec 32 := Scalar.muli arg16 c16_i32_149
  let c7_i32 : BitVec 32 := 7#32
  let v284 : BitVec 32 := Scalar.addi v283 c7_i32
  let v315 : Index := Scalar.indexCast v284
  let c112_165 : Index := 112#32
  ![v315.toNat, 112]
def k0_off131 (v318 : BitVec 32) : Fin 2 → Nat :=
  let v321 : Index := Scalar.indexCast v318
  let c0_168 : Index := 0#32
  ![v321.toNat, 0]

def k0_off132 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_166 : BitVec 32 := 16#32
  let v319 : BitVec 32 := Scalar.muli arg16 c16_i32_166
  let c8_i32_167 : BitVec 32 := 8#32
  let v320 : BitVec 32 := Scalar.addi v319 c8_i32_167
  let v323 : Index := Scalar.indexCast v320
  let c0_169 : Index := 0#32
  ![v323.toNat, 0]
def k0_off133 (v318 : BitVec 32) : Fin 2 → Nat :=
  let v325 : Index := Scalar.indexCast v318
  let c16_170 : Index := 16#32
  ![v325.toNat, 16]
def k0_off134 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_166 : BitVec 32 := 16#32
  let v319 : BitVec 32 := Scalar.muli arg16 c16_i32_166
  let c8_i32_167 : BitVec 32 := 8#32
  let v320 : BitVec 32 := Scalar.addi v319 c8_i32_167
  let v327 : Index := Scalar.indexCast v320
  let c16_171 : Index := 16#32
  ![v327.toNat, 16]
def k0_off135 (v318 : BitVec 32) : Fin 2 → Nat :=
  let v329 : Index := Scalar.indexCast v318
  let c32_172 : Index := 32#32
  ![v329.toNat, 32]
def k0_off136 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_166 : BitVec 32 := 16#32
  let v319 : BitVec 32 := Scalar.muli arg16 c16_i32_166
  let c8_i32_167 : BitVec 32 := 8#32
  let v320 : BitVec 32 := Scalar.addi v319 c8_i32_167
  let v331 : Index := Scalar.indexCast v320
  let c32_173 : Index := 32#32
  ![v331.toNat, 32]
def k0_off137 (v318 : BitVec 32) : Fin 2 → Nat :=
  let v333 : Index := Scalar.indexCast v318
  let c48_174 : Index := 48#32
  ![v333.toNat, 48]
def k0_off138 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_166 : BitVec 32 := 16#32
  let v319 : BitVec 32 := Scalar.muli arg16 c16_i32_166
  let c8_i32_167 : BitVec 32 := 8#32
  let v320 : BitVec 32 := Scalar.addi v319 c8_i32_167
  let v335 : Index := Scalar.indexCast v320
  let c48_175 : Index := 48#32
  ![v335.toNat, 48]
def k0_off139 (v318 : BitVec 32) : Fin 2 → Nat :=
  let v337 : Index := Scalar.indexCast v318
  let c64_176 : Index := 64#32
  ![v337.toNat, 64]
def k0_off140 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_166 : BitVec 32 := 16#32
  let v319 : BitVec 32 := Scalar.muli arg16 c16_i32_166
  let c8_i32_167 : BitVec 32 := 8#32
  let v320 : BitVec 32 := Scalar.addi v319 c8_i32_167
  let v339 : Index := Scalar.indexCast v320
  let c64_177 : Index := 64#32
  ![v339.toNat, 64]
def k0_off141 (v318 : BitVec 32) : Fin 2 → Nat :=
  let v341 : Index := Scalar.indexCast v318
  let c80_178 : Index := 80#32
  ![v341.toNat, 80]
def k0_off142 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_166 : BitVec 32 := 16#32
  let v319 : BitVec 32 := Scalar.muli arg16 c16_i32_166
  let c8_i32_167 : BitVec 32 := 8#32
  let v320 : BitVec 32 := Scalar.addi v319 c8_i32_167
  let v343 : Index := Scalar.indexCast v320
  let c80_179 : Index := 80#32
  ![v343.toNat, 80]
def k0_off143 (v318 : BitVec 32) : Fin 2 → Nat :=
  let v345 : Index := Scalar.indexCast v318
  let c96_180 : Index := 96#32
  ![v345.toNat, 96]
def k0_off144 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_166 : BitVec 32 := 16#32
  let v319 : BitVec 32 := Scalar.muli arg16 c16_i32_166
  let c8_i32_167 : BitVec 32 := 8#32
  let v320 : BitVec 32 := Scalar.addi v319 c8_i32_167
  let v347 : Index := Scalar.indexCast v320
  let c96_181 : Index := 96#32
  ![v347.toNat, 96]
def k0_off145 (v318 : BitVec 32) : Fin 2 → Nat :=
  let v349 : Index := Scalar.indexCast v318
  let c112_182 : Index := 112#32
  ![v349.toNat, 112]

def k0_chk9 (v318 : BitVec 32) : Prop :=
  (∀ a, (k0_off131 v318) a + S1x16.size a ≤ S100x128.size a) ∧
  (∀ a, (k0_off133 v318) a + S1x16.size a ≤ S100x128.size a) ∧
  (∀ a, (k0_off135 v318) a + S1x16.size a ≤ S100x128.size a) ∧
  (∀ a, (k0_off137 v318) a + S1x16.size a ≤ S100x128.size a) ∧
  (∀ a, (k0_off139 v318) a + S1x16.size a ≤ S100x128.size a) ∧
  (∀ a, (k0_off141 v318) a + S1x16.size a ≤ S100x128.size a) ∧
  (∀ a, (k0_off143 v318) a + S1x16.size a ≤ S100x128.size a) ∧
  (∀ a, (k0_off145 v318) a + S1x16.size a ≤ S100x128.size a)
theorem k0_off131_inb : ∀ (v318 : BitVec 32) (k0_hw9 : k0_chk9 v318), ∀ a, (k0_off131 v318) a + S1x16.size a ≤ S100x128.size a := fun v318 k0_hw9 => k0_hw9.1
theorem k0_off133_inb : ∀ (v318 : BitVec 32) (k0_hw9 : k0_chk9 v318), ∀ a, (k0_off133 v318) a + S1x16.size a ≤ S100x128.size a := fun v318 k0_hw9 => k0_hw9.2.1
theorem k0_off135_inb : ∀ (v318 : BitVec 32) (k0_hw9 : k0_chk9 v318), ∀ a, (k0_off135 v318) a + S1x16.size a ≤ S100x128.size a := fun v318 k0_hw9 => k0_hw9.2.2.1
theorem k0_off137_inb : ∀ (v318 : BitVec 32) (k0_hw9 : k0_chk9 v318), ∀ a, (k0_off137 v318) a + S1x16.size a ≤ S100x128.size a := fun v318 k0_hw9 => k0_hw9.2.2.2.1
theorem k0_off139_inb : ∀ (v318 : BitVec 32) (k0_hw9 : k0_chk9 v318), ∀ a, (k0_off139 v318) a + S1x16.size a ≤ S100x128.size a := fun v318 k0_hw9 => k0_hw9.2.2.2.2.1
theorem k0_off141_inb : ∀ (v318 : BitVec 32) (k0_hw9 : k0_chk9 v318), ∀ a, (k0_off141 v318) a + S1x16.size a ≤ S100x128.size a := fun v318 k0_hw9 => k0_hw9.2.2.2.2.2.1
theorem k0_off143_inb : ∀ (v318 : BitVec 32) (k0_hw9 : k0_chk9 v318), ∀ a, (k0_off143 v318) a + S1x16.size a ≤ S100x128.size a := fun v318 k0_hw9 => k0_hw9.2.2.2.2.2.2.1
theorem k0_off145_inb : ∀ (v318 : BitVec 32) (k0_hw9 : k0_chk9 v318), ∀ a, (k0_off145 v318) a + S1x16.size a ≤ S100x128.size a := fun v318 k0_hw9 => k0_hw9.2.2.2.2.2.2.2

def k0_off146 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_166 : BitVec 32 := 16#32
  let v319 : BitVec 32 := Scalar.muli arg16 c16_i32_166
  let c8_i32_167 : BitVec 32 := 8#32
  let v320 : BitVec 32 := Scalar.addi v319 c8_i32_167
  let v351 : Index := Scalar.indexCast v320
  let c112_183 : Index := 112#32
  ![v351.toNat, 112]
def k0_off147 (v354 : BitVec 32) : Fin 2 → Nat :=
  let v357 : Index := Scalar.indexCast v354
  let c0_185 : Index := 0#32
  ![v357.toNat, 0]

def k0_off148 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_184 : BitVec 32 := 16#32
  let v355 : BitVec 32 := Scalar.muli arg16 c16_i32_184
  let c9_i32 : BitVec 32 := 9#32
  let v356 : BitVec 32 := Scalar.addi v355 c9_i32
  let v359 : Index := Scalar.indexCast v356
  let c0_186 : Index := 0#32
  ![v359.toNat, 0]
def k0_off149 (v354 : BitVec 32) : Fin 2 → Nat :=
  let v361 : Index := Scalar.indexCast v354
  let c16_187 : Index := 16#32
  ![v361.toNat, 16]
def k0_off150 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_184 : BitVec 32 := 16#32
  let v355 : BitVec 32 := Scalar.muli arg16 c16_i32_184
  let c9_i32 : BitVec 32 := 9#32
  let v356 : BitVec 32 := Scalar.addi v355 c9_i32
  let v363 : Index := Scalar.indexCast v356
  let c16_188 : Index := 16#32
  ![v363.toNat, 16]
def k0_off151 (v354 : BitVec 32) : Fin 2 → Nat :=
  let v365 : Index := Scalar.indexCast v354
  let c32_189 : Index := 32#32
  ![v365.toNat, 32]
def k0_off152 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_184 : BitVec 32 := 16#32
  let v355 : BitVec 32 := Scalar.muli arg16 c16_i32_184
  let c9_i32 : BitVec 32 := 9#32
  let v356 : BitVec 32 := Scalar.addi v355 c9_i32
  let v367 : Index := Scalar.indexCast v356
  let c32_190 : Index := 32#32
  ![v367.toNat, 32]
def k0_off153 (v354 : BitVec 32) : Fin 2 → Nat :=
  let v369 : Index := Scalar.indexCast v354
  let c48_191 : Index := 48#32
  ![v369.toNat, 48]
def k0_off154 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_184 : BitVec 32 := 16#32
  let v355 : BitVec 32 := Scalar.muli arg16 c16_i32_184
  let c9_i32 : BitVec 32 := 9#32
  let v356 : BitVec 32 := Scalar.addi v355 c9_i32
  let v371 : Index := Scalar.indexCast v356
  let c48_192 : Index := 48#32
  ![v371.toNat, 48]
def k0_off155 (v354 : BitVec 32) : Fin 2 → Nat :=
  let v373 : Index := Scalar.indexCast v354
  let c64_193 : Index := 64#32
  ![v373.toNat, 64]
def k0_off156 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_184 : BitVec 32 := 16#32
  let v355 : BitVec 32 := Scalar.muli arg16 c16_i32_184
  let c9_i32 : BitVec 32 := 9#32
  let v356 : BitVec 32 := Scalar.addi v355 c9_i32
  let v375 : Index := Scalar.indexCast v356
  let c64_194 : Index := 64#32
  ![v375.toNat, 64]
def k0_off157 (v354 : BitVec 32) : Fin 2 → Nat :=
  let v377 : Index := Scalar.indexCast v354
  let c80_195 : Index := 80#32
  ![v377.toNat, 80]
def k0_off158 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_184 : BitVec 32 := 16#32
  let v355 : BitVec 32 := Scalar.muli arg16 c16_i32_184
  let c9_i32 : BitVec 32 := 9#32
  let v356 : BitVec 32 := Scalar.addi v355 c9_i32
  let v379 : Index := Scalar.indexCast v356
  let c80_196 : Index := 80#32
  ![v379.toNat, 80]
def k0_off159 (v354 : BitVec 32) : Fin 2 → Nat :=
  let v381 : Index := Scalar.indexCast v354
  let c96_197 : Index := 96#32
  ![v381.toNat, 96]
def k0_off160 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_184 : BitVec 32 := 16#32
  let v355 : BitVec 32 := Scalar.muli arg16 c16_i32_184
  let c9_i32 : BitVec 32 := 9#32
  let v356 : BitVec 32 := Scalar.addi v355 c9_i32
  let v383 : Index := Scalar.indexCast v356
  let c96_198 : Index := 96#32
  ![v383.toNat, 96]
def k0_off161 (v354 : BitVec 32) : Fin 2 → Nat :=
  let v385 : Index := Scalar.indexCast v354
  let c112_199 : Index := 112#32
  ![v385.toNat, 112]

def k0_chk10 (v354 : BitVec 32) : Prop :=
  (∀ a, (k0_off147 v354) a + S1x16.size a ≤ S100x128.size a) ∧
  (∀ a, (k0_off149 v354) a + S1x16.size a ≤ S100x128.size a) ∧
  (∀ a, (k0_off151 v354) a + S1x16.size a ≤ S100x128.size a) ∧
  (∀ a, (k0_off153 v354) a + S1x16.size a ≤ S100x128.size a) ∧
  (∀ a, (k0_off155 v354) a + S1x16.size a ≤ S100x128.size a) ∧
  (∀ a, (k0_off157 v354) a + S1x16.size a ≤ S100x128.size a) ∧
  (∀ a, (k0_off159 v354) a + S1x16.size a ≤ S100x128.size a) ∧
  (∀ a, (k0_off161 v354) a + S1x16.size a ≤ S100x128.size a)
theorem k0_off147_inb : ∀ (v354 : BitVec 32) (k0_hw10 : k0_chk10 v354), ∀ a, (k0_off147 v354) a + S1x16.size a ≤ S100x128.size a := fun v354 k0_hw10 => k0_hw10.1
theorem k0_off149_inb : ∀ (v354 : BitVec 32) (k0_hw10 : k0_chk10 v354), ∀ a, (k0_off149 v354) a + S1x16.size a ≤ S100x128.size a := fun v354 k0_hw10 => k0_hw10.2.1
theorem k0_off151_inb : ∀ (v354 : BitVec 32) (k0_hw10 : k0_chk10 v354), ∀ a, (k0_off151 v354) a + S1x16.size a ≤ S100x128.size a := fun v354 k0_hw10 => k0_hw10.2.2.1
theorem k0_off153_inb : ∀ (v354 : BitVec 32) (k0_hw10 : k0_chk10 v354), ∀ a, (k0_off153 v354) a + S1x16.size a ≤ S100x128.size a := fun v354 k0_hw10 => k0_hw10.2.2.2.1
theorem k0_off155_inb : ∀ (v354 : BitVec 32) (k0_hw10 : k0_chk10 v354), ∀ a, (k0_off155 v354) a + S1x16.size a ≤ S100x128.size a := fun v354 k0_hw10 => k0_hw10.2.2.2.2.1
theorem k0_off157_inb : ∀ (v354 : BitVec 32) (k0_hw10 : k0_chk10 v354), ∀ a, (k0_off157 v354) a + S1x16.size a ≤ S100x128.size a := fun v354 k0_hw10 => k0_hw10.2.2.2.2.2.1
theorem k0_off159_inb : ∀ (v354 : BitVec 32) (k0_hw10 : k0_chk10 v354), ∀ a, (k0_off159 v354) a + S1x16.size a ≤ S100x128.size a := fun v354 k0_hw10 => k0_hw10.2.2.2.2.2.2.1
theorem k0_off161_inb : ∀ (v354 : BitVec 32) (k0_hw10 : k0_chk10 v354), ∀ a, (k0_off161 v354) a + S1x16.size a ≤ S100x128.size a := fun v354 k0_hw10 => k0_hw10.2.2.2.2.2.2.2

def k0_off162 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_184 : BitVec 32 := 16#32
  let v355 : BitVec 32 := Scalar.muli arg16 c16_i32_184
  let c9_i32 : BitVec 32 := 9#32
  let v356 : BitVec 32 := Scalar.addi v355 c9_i32
  let v387 : Index := Scalar.indexCast v356
  let c112_200 : Index := 112#32
  ![v387.toNat, 112]
def k0_off163 (v390 : BitVec 32) : Fin 2 → Nat :=
  let v393 : Index := Scalar.indexCast v390
  let c0_202 : Index := 0#32
  ![v393.toNat, 0]

def k0_off164 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_201 : BitVec 32 := 16#32
  let v391 : BitVec 32 := Scalar.muli arg16 c16_i32_201
  let c10_i32 : BitVec 32 := 10#32
  let v392 : BitVec 32 := Scalar.addi v391 c10_i32
  let v395 : Index := Scalar.indexCast v392
  let c0_203 : Index := 0#32
  ![v395.toNat, 0]
def k0_off165 (v390 : BitVec 32) : Fin 2 → Nat :=
  let v397 : Index := Scalar.indexCast v390
  let c16_204 : Index := 16#32
  ![v397.toNat, 16]
def k0_off166 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_201 : BitVec 32 := 16#32
  let v391 : BitVec 32 := Scalar.muli arg16 c16_i32_201
  let c10_i32 : BitVec 32 := 10#32
  let v392 : BitVec 32 := Scalar.addi v391 c10_i32
  let v399 : Index := Scalar.indexCast v392
  let c16_205 : Index := 16#32
  ![v399.toNat, 16]
def k0_off167 (v390 : BitVec 32) : Fin 2 → Nat :=
  let v401 : Index := Scalar.indexCast v390
  let c32_206 : Index := 32#32
  ![v401.toNat, 32]
def k0_off168 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_201 : BitVec 32 := 16#32
  let v391 : BitVec 32 := Scalar.muli arg16 c16_i32_201
  let c10_i32 : BitVec 32 := 10#32
  let v392 : BitVec 32 := Scalar.addi v391 c10_i32
  let v403 : Index := Scalar.indexCast v392
  let c32_207 : Index := 32#32
  ![v403.toNat, 32]
def k0_off169 (v390 : BitVec 32) : Fin 2 → Nat :=
  let v405 : Index := Scalar.indexCast v390
  let c48_208 : Index := 48#32
  ![v405.toNat, 48]
def k0_off170 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_201 : BitVec 32 := 16#32
  let v391 : BitVec 32 := Scalar.muli arg16 c16_i32_201
  let c10_i32 : BitVec 32 := 10#32
  let v392 : BitVec 32 := Scalar.addi v391 c10_i32
  let v407 : Index := Scalar.indexCast v392
  let c48_209 : Index := 48#32
  ![v407.toNat, 48]
def k0_off171 (v390 : BitVec 32) : Fin 2 → Nat :=
  let v409 : Index := Scalar.indexCast v390
  let c64_210 : Index := 64#32
  ![v409.toNat, 64]
def k0_off172 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_201 : BitVec 32 := 16#32
  let v391 : BitVec 32 := Scalar.muli arg16 c16_i32_201
  let c10_i32 : BitVec 32 := 10#32
  let v392 : BitVec 32 := Scalar.addi v391 c10_i32
  let v411 : Index := Scalar.indexCast v392
  let c64_211 : Index := 64#32
  ![v411.toNat, 64]
def k0_off173 (v390 : BitVec 32) : Fin 2 → Nat :=
  let v413 : Index := Scalar.indexCast v390
  let c80_212 : Index := 80#32
  ![v413.toNat, 80]
def k0_off174 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_201 : BitVec 32 := 16#32
  let v391 : BitVec 32 := Scalar.muli arg16 c16_i32_201
  let c10_i32 : BitVec 32 := 10#32
  let v392 : BitVec 32 := Scalar.addi v391 c10_i32
  let v415 : Index := Scalar.indexCast v392
  let c80_213 : Index := 80#32
  ![v415.toNat, 80]
def k0_off175 (v390 : BitVec 32) : Fin 2 → Nat :=
  let v417 : Index := Scalar.indexCast v390
  let c96_214 : Index := 96#32
  ![v417.toNat, 96]
def k0_off176 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_201 : BitVec 32 := 16#32
  let v391 : BitVec 32 := Scalar.muli arg16 c16_i32_201
  let c10_i32 : BitVec 32 := 10#32
  let v392 : BitVec 32 := Scalar.addi v391 c10_i32
  let v419 : Index := Scalar.indexCast v392
  let c96_215 : Index := 96#32
  ![v419.toNat, 96]
def k0_off177 (v390 : BitVec 32) : Fin 2 → Nat :=
  let v421 : Index := Scalar.indexCast v390
  let c112_216 : Index := 112#32
  ![v421.toNat, 112]

def k0_chk11 (v390 : BitVec 32) : Prop :=
  (∀ a, (k0_off163 v390) a + S1x16.size a ≤ S100x128.size a) ∧
  (∀ a, (k0_off165 v390) a + S1x16.size a ≤ S100x128.size a) ∧
  (∀ a, (k0_off167 v390) a + S1x16.size a ≤ S100x128.size a) ∧
  (∀ a, (k0_off169 v390) a + S1x16.size a ≤ S100x128.size a) ∧
  (∀ a, (k0_off171 v390) a + S1x16.size a ≤ S100x128.size a) ∧
  (∀ a, (k0_off173 v390) a + S1x16.size a ≤ S100x128.size a) ∧
  (∀ a, (k0_off175 v390) a + S1x16.size a ≤ S100x128.size a) ∧
  (∀ a, (k0_off177 v390) a + S1x16.size a ≤ S100x128.size a)
theorem k0_off163_inb : ∀ (v390 : BitVec 32) (k0_hw11 : k0_chk11 v390), ∀ a, (k0_off163 v390) a + S1x16.size a ≤ S100x128.size a := fun v390 k0_hw11 => k0_hw11.1
theorem k0_off165_inb : ∀ (v390 : BitVec 32) (k0_hw11 : k0_chk11 v390), ∀ a, (k0_off165 v390) a + S1x16.size a ≤ S100x128.size a := fun v390 k0_hw11 => k0_hw11.2.1
theorem k0_off167_inb : ∀ (v390 : BitVec 32) (k0_hw11 : k0_chk11 v390), ∀ a, (k0_off167 v390) a + S1x16.size a ≤ S100x128.size a := fun v390 k0_hw11 => k0_hw11.2.2.1
theorem k0_off169_inb : ∀ (v390 : BitVec 32) (k0_hw11 : k0_chk11 v390), ∀ a, (k0_off169 v390) a + S1x16.size a ≤ S100x128.size a := fun v390 k0_hw11 => k0_hw11.2.2.2.1
theorem k0_off171_inb : ∀ (v390 : BitVec 32) (k0_hw11 : k0_chk11 v390), ∀ a, (k0_off171 v390) a + S1x16.size a ≤ S100x128.size a := fun v390 k0_hw11 => k0_hw11.2.2.2.2.1
theorem k0_off173_inb : ∀ (v390 : BitVec 32) (k0_hw11 : k0_chk11 v390), ∀ a, (k0_off173 v390) a + S1x16.size a ≤ S100x128.size a := fun v390 k0_hw11 => k0_hw11.2.2.2.2.2.1
theorem k0_off175_inb : ∀ (v390 : BitVec 32) (k0_hw11 : k0_chk11 v390), ∀ a, (k0_off175 v390) a + S1x16.size a ≤ S100x128.size a := fun v390 k0_hw11 => k0_hw11.2.2.2.2.2.2.1
theorem k0_off177_inb : ∀ (v390 : BitVec 32) (k0_hw11 : k0_chk11 v390), ∀ a, (k0_off177 v390) a + S1x16.size a ≤ S100x128.size a := fun v390 k0_hw11 => k0_hw11.2.2.2.2.2.2.2

def k0_off178 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_201 : BitVec 32 := 16#32
  let v391 : BitVec 32 := Scalar.muli arg16 c16_i32_201
  let c10_i32 : BitVec 32 := 10#32
  let v392 : BitVec 32 := Scalar.addi v391 c10_i32
  let v423 : Index := Scalar.indexCast v392
  let c112_217 : Index := 112#32
  ![v423.toNat, 112]
def k0_off179 (v426 : BitVec 32) : Fin 2 → Nat :=
  let v429 : Index := Scalar.indexCast v426
  let c0_219 : Index := 0#32
  ![v429.toNat, 0]

def k0_off180 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_218 : BitVec 32 := 16#32
  let v427 : BitVec 32 := Scalar.muli arg16 c16_i32_218
  let c11_i32 : BitVec 32 := 11#32
  let v428 : BitVec 32 := Scalar.addi v427 c11_i32
  let v431 : Index := Scalar.indexCast v428
  let c0_220 : Index := 0#32
  ![v431.toNat, 0]
def k0_off181 (v426 : BitVec 32) : Fin 2 → Nat :=
  let v433 : Index := Scalar.indexCast v426
  let c16_221 : Index := 16#32
  ![v433.toNat, 16]
def k0_off182 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_218 : BitVec 32 := 16#32
  let v427 : BitVec 32 := Scalar.muli arg16 c16_i32_218
  let c11_i32 : BitVec 32 := 11#32
  let v428 : BitVec 32 := Scalar.addi v427 c11_i32
  let v435 : Index := Scalar.indexCast v428
  let c16_222 : Index := 16#32
  ![v435.toNat, 16]
def k0_off183 (v426 : BitVec 32) : Fin 2 → Nat :=
  let v437 : Index := Scalar.indexCast v426
  let c32_223 : Index := 32#32
  ![v437.toNat, 32]
def k0_off184 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_218 : BitVec 32 := 16#32
  let v427 : BitVec 32 := Scalar.muli arg16 c16_i32_218
  let c11_i32 : BitVec 32 := 11#32
  let v428 : BitVec 32 := Scalar.addi v427 c11_i32
  let v439 : Index := Scalar.indexCast v428
  let c32_224 : Index := 32#32
  ![v439.toNat, 32]
def k0_off185 (v426 : BitVec 32) : Fin 2 → Nat :=
  let v441 : Index := Scalar.indexCast v426
  let c48_225 : Index := 48#32
  ![v441.toNat, 48]
def k0_off186 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_218 : BitVec 32 := 16#32
  let v427 : BitVec 32 := Scalar.muli arg16 c16_i32_218
  let c11_i32 : BitVec 32 := 11#32
  let v428 : BitVec 32 := Scalar.addi v427 c11_i32
  let v443 : Index := Scalar.indexCast v428
  let c48_226 : Index := 48#32
  ![v443.toNat, 48]
def k0_off187 (v426 : BitVec 32) : Fin 2 → Nat :=
  let v445 : Index := Scalar.indexCast v426
  let c64_227 : Index := 64#32
  ![v445.toNat, 64]
def k0_off188 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_218 : BitVec 32 := 16#32
  let v427 : BitVec 32 := Scalar.muli arg16 c16_i32_218
  let c11_i32 : BitVec 32 := 11#32
  let v428 : BitVec 32 := Scalar.addi v427 c11_i32
  let v447 : Index := Scalar.indexCast v428
  let c64_228 : Index := 64#32
  ![v447.toNat, 64]
def k0_off189 (v426 : BitVec 32) : Fin 2 → Nat :=
  let v449 : Index := Scalar.indexCast v426
  let c80_229 : Index := 80#32
  ![v449.toNat, 80]
def k0_off190 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_218 : BitVec 32 := 16#32
  let v427 : BitVec 32 := Scalar.muli arg16 c16_i32_218
  let c11_i32 : BitVec 32 := 11#32
  let v428 : BitVec 32 := Scalar.addi v427 c11_i32
  let v451 : Index := Scalar.indexCast v428
  let c80_230 : Index := 80#32
  ![v451.toNat, 80]
def k0_off191 (v426 : BitVec 32) : Fin 2 → Nat :=
  let v453 : Index := Scalar.indexCast v426
  let c96_231 : Index := 96#32
  ![v453.toNat, 96]
def k0_off192 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_218 : BitVec 32 := 16#32
  let v427 : BitVec 32 := Scalar.muli arg16 c16_i32_218
  let c11_i32 : BitVec 32 := 11#32
  let v428 : BitVec 32 := Scalar.addi v427 c11_i32
  let v455 : Index := Scalar.indexCast v428
  let c96_232 : Index := 96#32
  ![v455.toNat, 96]
def k0_off193 (v426 : BitVec 32) : Fin 2 → Nat :=
  let v457 : Index := Scalar.indexCast v426
  let c112_233 : Index := 112#32
  ![v457.toNat, 112]

def k0_chk12 (v426 : BitVec 32) : Prop :=
  (∀ a, (k0_off179 v426) a + S1x16.size a ≤ S100x128.size a) ∧
  (∀ a, (k0_off181 v426) a + S1x16.size a ≤ S100x128.size a) ∧
  (∀ a, (k0_off183 v426) a + S1x16.size a ≤ S100x128.size a) ∧
  (∀ a, (k0_off185 v426) a + S1x16.size a ≤ S100x128.size a) ∧
  (∀ a, (k0_off187 v426) a + S1x16.size a ≤ S100x128.size a) ∧
  (∀ a, (k0_off189 v426) a + S1x16.size a ≤ S100x128.size a) ∧
  (∀ a, (k0_off191 v426) a + S1x16.size a ≤ S100x128.size a) ∧
  (∀ a, (k0_off193 v426) a + S1x16.size a ≤ S100x128.size a)
theorem k0_off179_inb : ∀ (v426 : BitVec 32) (k0_hw12 : k0_chk12 v426), ∀ a, (k0_off179 v426) a + S1x16.size a ≤ S100x128.size a := fun v426 k0_hw12 => k0_hw12.1
theorem k0_off181_inb : ∀ (v426 : BitVec 32) (k0_hw12 : k0_chk12 v426), ∀ a, (k0_off181 v426) a + S1x16.size a ≤ S100x128.size a := fun v426 k0_hw12 => k0_hw12.2.1
theorem k0_off183_inb : ∀ (v426 : BitVec 32) (k0_hw12 : k0_chk12 v426), ∀ a, (k0_off183 v426) a + S1x16.size a ≤ S100x128.size a := fun v426 k0_hw12 => k0_hw12.2.2.1
theorem k0_off185_inb : ∀ (v426 : BitVec 32) (k0_hw12 : k0_chk12 v426), ∀ a, (k0_off185 v426) a + S1x16.size a ≤ S100x128.size a := fun v426 k0_hw12 => k0_hw12.2.2.2.1
theorem k0_off187_inb : ∀ (v426 : BitVec 32) (k0_hw12 : k0_chk12 v426), ∀ a, (k0_off187 v426) a + S1x16.size a ≤ S100x128.size a := fun v426 k0_hw12 => k0_hw12.2.2.2.2.1
theorem k0_off189_inb : ∀ (v426 : BitVec 32) (k0_hw12 : k0_chk12 v426), ∀ a, (k0_off189 v426) a + S1x16.size a ≤ S100x128.size a := fun v426 k0_hw12 => k0_hw12.2.2.2.2.2.1
theorem k0_off191_inb : ∀ (v426 : BitVec 32) (k0_hw12 : k0_chk12 v426), ∀ a, (k0_off191 v426) a + S1x16.size a ≤ S100x128.size a := fun v426 k0_hw12 => k0_hw12.2.2.2.2.2.2.1
theorem k0_off193_inb : ∀ (v426 : BitVec 32) (k0_hw12 : k0_chk12 v426), ∀ a, (k0_off193 v426) a + S1x16.size a ≤ S100x128.size a := fun v426 k0_hw12 => k0_hw12.2.2.2.2.2.2.2

def k0_off194 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_218 : BitVec 32 := 16#32
  let v427 : BitVec 32 := Scalar.muli arg16 c16_i32_218
  let c11_i32 : BitVec 32 := 11#32
  let v428 : BitVec 32 := Scalar.addi v427 c11_i32
  let v459 : Index := Scalar.indexCast v428
  let c112_234 : Index := 112#32
  ![v459.toNat, 112]
def k0_off195 (v462 : BitVec 32) : Fin 2 → Nat :=
  let v465 : Index := Scalar.indexCast v462
  let c0_236 : Index := 0#32
  ![v465.toNat, 0]

def k0_off196 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_235 : BitVec 32 := 16#32
  let v463 : BitVec 32 := Scalar.muli arg16 c16_i32_235
  let c12_i32 : BitVec 32 := 12#32
  let v464 : BitVec 32 := Scalar.addi v463 c12_i32
  let v467 : Index := Scalar.indexCast v464
  let c0_237 : Index := 0#32
  ![v467.toNat, 0]
def k0_off197 (v462 : BitVec 32) : Fin 2 → Nat :=
  let v469 : Index := Scalar.indexCast v462
  let c16_238 : Index := 16#32
  ![v469.toNat, 16]
def k0_off198 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_235 : BitVec 32 := 16#32
  let v463 : BitVec 32 := Scalar.muli arg16 c16_i32_235
  let c12_i32 : BitVec 32 := 12#32
  let v464 : BitVec 32 := Scalar.addi v463 c12_i32
  let v471 : Index := Scalar.indexCast v464
  let c16_239 : Index := 16#32
  ![v471.toNat, 16]
def k0_off199 (v462 : BitVec 32) : Fin 2 → Nat :=
  let v473 : Index := Scalar.indexCast v462
  let c32_240 : Index := 32#32
  ![v473.toNat, 32]
def k0_off200 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_235 : BitVec 32 := 16#32
  let v463 : BitVec 32 := Scalar.muli arg16 c16_i32_235
  let c12_i32 : BitVec 32 := 12#32
  let v464 : BitVec 32 := Scalar.addi v463 c12_i32
  let v475 : Index := Scalar.indexCast v464
  let c32_241 : Index := 32#32
  ![v475.toNat, 32]
def k0_off201 (v462 : BitVec 32) : Fin 2 → Nat :=
  let v477 : Index := Scalar.indexCast v462
  let c48_242 : Index := 48#32
  ![v477.toNat, 48]
def k0_off202 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_235 : BitVec 32 := 16#32
  let v463 : BitVec 32 := Scalar.muli arg16 c16_i32_235
  let c12_i32 : BitVec 32 := 12#32
  let v464 : BitVec 32 := Scalar.addi v463 c12_i32
  let v479 : Index := Scalar.indexCast v464
  let c48_243 : Index := 48#32
  ![v479.toNat, 48]
def k0_off203 (v462 : BitVec 32) : Fin 2 → Nat :=
  let v481 : Index := Scalar.indexCast v462
  let c64_244 : Index := 64#32
  ![v481.toNat, 64]
def k0_off204 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_235 : BitVec 32 := 16#32
  let v463 : BitVec 32 := Scalar.muli arg16 c16_i32_235
  let c12_i32 : BitVec 32 := 12#32
  let v464 : BitVec 32 := Scalar.addi v463 c12_i32
  let v483 : Index := Scalar.indexCast v464
  let c64_245 : Index := 64#32
  ![v483.toNat, 64]
def k0_off205 (v462 : BitVec 32) : Fin 2 → Nat :=
  let v485 : Index := Scalar.indexCast v462
  let c80_246 : Index := 80#32
  ![v485.toNat, 80]
def k0_off206 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_235 : BitVec 32 := 16#32
  let v463 : BitVec 32 := Scalar.muli arg16 c16_i32_235
  let c12_i32 : BitVec 32 := 12#32
  let v464 : BitVec 32 := Scalar.addi v463 c12_i32
  let v487 : Index := Scalar.indexCast v464
  let c80_247 : Index := 80#32
  ![v487.toNat, 80]
def k0_off207 (v462 : BitVec 32) : Fin 2 → Nat :=
  let v489 : Index := Scalar.indexCast v462
  let c96_248 : Index := 96#32
  ![v489.toNat, 96]
def k0_off208 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_235 : BitVec 32 := 16#32
  let v463 : BitVec 32 := Scalar.muli arg16 c16_i32_235
  let c12_i32 : BitVec 32 := 12#32
  let v464 : BitVec 32 := Scalar.addi v463 c12_i32
  let v491 : Index := Scalar.indexCast v464
  let c96_249 : Index := 96#32
  ![v491.toNat, 96]
def k0_off209 (v462 : BitVec 32) : Fin 2 → Nat :=
  let v493 : Index := Scalar.indexCast v462
  let c112_250 : Index := 112#32
  ![v493.toNat, 112]

def k0_chk13 (v462 : BitVec 32) : Prop :=
  (∀ a, (k0_off195 v462) a + S1x16.size a ≤ S100x128.size a) ∧
  (∀ a, (k0_off197 v462) a + S1x16.size a ≤ S100x128.size a) ∧
  (∀ a, (k0_off199 v462) a + S1x16.size a ≤ S100x128.size a) ∧
  (∀ a, (k0_off201 v462) a + S1x16.size a ≤ S100x128.size a) ∧
  (∀ a, (k0_off203 v462) a + S1x16.size a ≤ S100x128.size a) ∧
  (∀ a, (k0_off205 v462) a + S1x16.size a ≤ S100x128.size a) ∧
  (∀ a, (k0_off207 v462) a + S1x16.size a ≤ S100x128.size a) ∧
  (∀ a, (k0_off209 v462) a + S1x16.size a ≤ S100x128.size a)
theorem k0_off195_inb : ∀ (v462 : BitVec 32) (k0_hw13 : k0_chk13 v462), ∀ a, (k0_off195 v462) a + S1x16.size a ≤ S100x128.size a := fun v462 k0_hw13 => k0_hw13.1
theorem k0_off197_inb : ∀ (v462 : BitVec 32) (k0_hw13 : k0_chk13 v462), ∀ a, (k0_off197 v462) a + S1x16.size a ≤ S100x128.size a := fun v462 k0_hw13 => k0_hw13.2.1
theorem k0_off199_inb : ∀ (v462 : BitVec 32) (k0_hw13 : k0_chk13 v462), ∀ a, (k0_off199 v462) a + S1x16.size a ≤ S100x128.size a := fun v462 k0_hw13 => k0_hw13.2.2.1
theorem k0_off201_inb : ∀ (v462 : BitVec 32) (k0_hw13 : k0_chk13 v462), ∀ a, (k0_off201 v462) a + S1x16.size a ≤ S100x128.size a := fun v462 k0_hw13 => k0_hw13.2.2.2.1
theorem k0_off203_inb : ∀ (v462 : BitVec 32) (k0_hw13 : k0_chk13 v462), ∀ a, (k0_off203 v462) a + S1x16.size a ≤ S100x128.size a := fun v462 k0_hw13 => k0_hw13.2.2.2.2.1
theorem k0_off205_inb : ∀ (v462 : BitVec 32) (k0_hw13 : k0_chk13 v462), ∀ a, (k0_off205 v462) a + S1x16.size a ≤ S100x128.size a := fun v462 k0_hw13 => k0_hw13.2.2.2.2.2.1
theorem k0_off207_inb : ∀ (v462 : BitVec 32) (k0_hw13 : k0_chk13 v462), ∀ a, (k0_off207 v462) a + S1x16.size a ≤ S100x128.size a := fun v462 k0_hw13 => k0_hw13.2.2.2.2.2.2.1
theorem k0_off209_inb : ∀ (v462 : BitVec 32) (k0_hw13 : k0_chk13 v462), ∀ a, (k0_off209 v462) a + S1x16.size a ≤ S100x128.size a := fun v462 k0_hw13 => k0_hw13.2.2.2.2.2.2.2

def k0_off210 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_235 : BitVec 32 := 16#32
  let v463 : BitVec 32 := Scalar.muli arg16 c16_i32_235
  let c12_i32 : BitVec 32 := 12#32
  let v464 : BitVec 32 := Scalar.addi v463 c12_i32
  let v495 : Index := Scalar.indexCast v464
  let c112_251 : Index := 112#32
  ![v495.toNat, 112]
def k0_off211 (v498 : BitVec 32) : Fin 2 → Nat :=
  let v501 : Index := Scalar.indexCast v498
  let c0_253 : Index := 0#32
  ![v501.toNat, 0]

def k0_off212 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_252 : BitVec 32 := 16#32
  let v499 : BitVec 32 := Scalar.muli arg16 c16_i32_252
  let c13_i32 : BitVec 32 := 13#32
  let v500 : BitVec 32 := Scalar.addi v499 c13_i32
  let v503 : Index := Scalar.indexCast v500
  let c0_254 : Index := 0#32
  ![v503.toNat, 0]
def k0_off213 (v498 : BitVec 32) : Fin 2 → Nat :=
  let v505 : Index := Scalar.indexCast v498
  let c16_255 : Index := 16#32
  ![v505.toNat, 16]
def k0_off214 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_252 : BitVec 32 := 16#32
  let v499 : BitVec 32 := Scalar.muli arg16 c16_i32_252
  let c13_i32 : BitVec 32 := 13#32
  let v500 : BitVec 32 := Scalar.addi v499 c13_i32
  let v507 : Index := Scalar.indexCast v500
  let c16_256 : Index := 16#32
  ![v507.toNat, 16]
def k0_off215 (v498 : BitVec 32) : Fin 2 → Nat :=
  let v509 : Index := Scalar.indexCast v498
  let c32_257 : Index := 32#32
  ![v509.toNat, 32]
def k0_off216 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_252 : BitVec 32 := 16#32
  let v499 : BitVec 32 := Scalar.muli arg16 c16_i32_252
  let c13_i32 : BitVec 32 := 13#32
  let v500 : BitVec 32 := Scalar.addi v499 c13_i32
  let v511 : Index := Scalar.indexCast v500
  let c32_258 : Index := 32#32
  ![v511.toNat, 32]
def k0_off217 (v498 : BitVec 32) : Fin 2 → Nat :=
  let v513 : Index := Scalar.indexCast v498
  let c48_259 : Index := 48#32
  ![v513.toNat, 48]
def k0_off218 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_252 : BitVec 32 := 16#32
  let v499 : BitVec 32 := Scalar.muli arg16 c16_i32_252
  let c13_i32 : BitVec 32 := 13#32
  let v500 : BitVec 32 := Scalar.addi v499 c13_i32
  let v515 : Index := Scalar.indexCast v500
  let c48_260 : Index := 48#32
  ![v515.toNat, 48]
def k0_off219 (v498 : BitVec 32) : Fin 2 → Nat :=
  let v517 : Index := Scalar.indexCast v498
  let c64_261 : Index := 64#32
  ![v517.toNat, 64]
def k0_off220 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_252 : BitVec 32 := 16#32
  let v499 : BitVec 32 := Scalar.muli arg16 c16_i32_252
  let c13_i32 : BitVec 32 := 13#32
  let v500 : BitVec 32 := Scalar.addi v499 c13_i32
  let v519 : Index := Scalar.indexCast v500
  let c64_262 : Index := 64#32
  ![v519.toNat, 64]
def k0_off221 (v498 : BitVec 32) : Fin 2 → Nat :=
  let v521 : Index := Scalar.indexCast v498
  let c80_263 : Index := 80#32
  ![v521.toNat, 80]
def k0_off222 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_252 : BitVec 32 := 16#32
  let v499 : BitVec 32 := Scalar.muli arg16 c16_i32_252
  let c13_i32 : BitVec 32 := 13#32
  let v500 : BitVec 32 := Scalar.addi v499 c13_i32
  let v523 : Index := Scalar.indexCast v500
  let c80_264 : Index := 80#32
  ![v523.toNat, 80]
def k0_off223 (v498 : BitVec 32) : Fin 2 → Nat :=
  let v525 : Index := Scalar.indexCast v498
  let c96_265 : Index := 96#32
  ![v525.toNat, 96]
def k0_off224 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_252 : BitVec 32 := 16#32
  let v499 : BitVec 32 := Scalar.muli arg16 c16_i32_252
  let c13_i32 : BitVec 32 := 13#32
  let v500 : BitVec 32 := Scalar.addi v499 c13_i32
  let v527 : Index := Scalar.indexCast v500
  let c96_266 : Index := 96#32
  ![v527.toNat, 96]
def k0_off225 (v498 : BitVec 32) : Fin 2 → Nat :=
  let v529 : Index := Scalar.indexCast v498
  let c112_267 : Index := 112#32
  ![v529.toNat, 112]

def k0_chk14 (v498 : BitVec 32) : Prop :=
  (∀ a, (k0_off211 v498) a + S1x16.size a ≤ S100x128.size a) ∧
  (∀ a, (k0_off213 v498) a + S1x16.size a ≤ S100x128.size a) ∧
  (∀ a, (k0_off215 v498) a + S1x16.size a ≤ S100x128.size a) ∧
  (∀ a, (k0_off217 v498) a + S1x16.size a ≤ S100x128.size a) ∧
  (∀ a, (k0_off219 v498) a + S1x16.size a ≤ S100x128.size a) ∧
  (∀ a, (k0_off221 v498) a + S1x16.size a ≤ S100x128.size a) ∧
  (∀ a, (k0_off223 v498) a + S1x16.size a ≤ S100x128.size a) ∧
  (∀ a, (k0_off225 v498) a + S1x16.size a ≤ S100x128.size a)
theorem k0_off211_inb : ∀ (v498 : BitVec 32) (k0_hw14 : k0_chk14 v498), ∀ a, (k0_off211 v498) a + S1x16.size a ≤ S100x128.size a := fun v498 k0_hw14 => k0_hw14.1
theorem k0_off213_inb : ∀ (v498 : BitVec 32) (k0_hw14 : k0_chk14 v498), ∀ a, (k0_off213 v498) a + S1x16.size a ≤ S100x128.size a := fun v498 k0_hw14 => k0_hw14.2.1
theorem k0_off215_inb : ∀ (v498 : BitVec 32) (k0_hw14 : k0_chk14 v498), ∀ a, (k0_off215 v498) a + S1x16.size a ≤ S100x128.size a := fun v498 k0_hw14 => k0_hw14.2.2.1
theorem k0_off217_inb : ∀ (v498 : BitVec 32) (k0_hw14 : k0_chk14 v498), ∀ a, (k0_off217 v498) a + S1x16.size a ≤ S100x128.size a := fun v498 k0_hw14 => k0_hw14.2.2.2.1
theorem k0_off219_inb : ∀ (v498 : BitVec 32) (k0_hw14 : k0_chk14 v498), ∀ a, (k0_off219 v498) a + S1x16.size a ≤ S100x128.size a := fun v498 k0_hw14 => k0_hw14.2.2.2.2.1
theorem k0_off221_inb : ∀ (v498 : BitVec 32) (k0_hw14 : k0_chk14 v498), ∀ a, (k0_off221 v498) a + S1x16.size a ≤ S100x128.size a := fun v498 k0_hw14 => k0_hw14.2.2.2.2.2.1
theorem k0_off223_inb : ∀ (v498 : BitVec 32) (k0_hw14 : k0_chk14 v498), ∀ a, (k0_off223 v498) a + S1x16.size a ≤ S100x128.size a := fun v498 k0_hw14 => k0_hw14.2.2.2.2.2.2.1
theorem k0_off225_inb : ∀ (v498 : BitVec 32) (k0_hw14 : k0_chk14 v498), ∀ a, (k0_off225 v498) a + S1x16.size a ≤ S100x128.size a := fun v498 k0_hw14 => k0_hw14.2.2.2.2.2.2.2

def k0_off226 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_252 : BitVec 32 := 16#32
  let v499 : BitVec 32 := Scalar.muli arg16 c16_i32_252
  let c13_i32 : BitVec 32 := 13#32
  let v500 : BitVec 32 := Scalar.addi v499 c13_i32
  let v531 : Index := Scalar.indexCast v500
  let c112_268 : Index := 112#32
  ![v531.toNat, 112]
def k0_off227 (v534 : BitVec 32) : Fin 2 → Nat :=
  let v537 : Index := Scalar.indexCast v534
  let c0_270 : Index := 0#32
  ![v537.toNat, 0]

def k0_off228 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_269 : BitVec 32 := 16#32
  let v535 : BitVec 32 := Scalar.muli arg16 c16_i32_269
  let c14_i32 : BitVec 32 := 14#32
  let v536 : BitVec 32 := Scalar.addi v535 c14_i32
  let v539 : Index := Scalar.indexCast v536
  let c0_271 : Index := 0#32
  ![v539.toNat, 0]
def k0_off229 (v534 : BitVec 32) : Fin 2 → Nat :=
  let v541 : Index := Scalar.indexCast v534
  let c16_272 : Index := 16#32
  ![v541.toNat, 16]
def k0_off230 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_269 : BitVec 32 := 16#32
  let v535 : BitVec 32 := Scalar.muli arg16 c16_i32_269
  let c14_i32 : BitVec 32 := 14#32
  let v536 : BitVec 32 := Scalar.addi v535 c14_i32
  let v543 : Index := Scalar.indexCast v536
  let c16_273 : Index := 16#32
  ![v543.toNat, 16]
def k0_off231 (v534 : BitVec 32) : Fin 2 → Nat :=
  let v545 : Index := Scalar.indexCast v534
  let c32_274 : Index := 32#32
  ![v545.toNat, 32]
def k0_off232 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_269 : BitVec 32 := 16#32
  let v535 : BitVec 32 := Scalar.muli arg16 c16_i32_269
  let c14_i32 : BitVec 32 := 14#32
  let v536 : BitVec 32 := Scalar.addi v535 c14_i32
  let v547 : Index := Scalar.indexCast v536
  let c32_275 : Index := 32#32
  ![v547.toNat, 32]
def k0_off233 (v534 : BitVec 32) : Fin 2 → Nat :=
  let v549 : Index := Scalar.indexCast v534
  let c48_276 : Index := 48#32
  ![v549.toNat, 48]
def k0_off234 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_269 : BitVec 32 := 16#32
  let v535 : BitVec 32 := Scalar.muli arg16 c16_i32_269
  let c14_i32 : BitVec 32 := 14#32
  let v536 : BitVec 32 := Scalar.addi v535 c14_i32
  let v551 : Index := Scalar.indexCast v536
  let c48_277 : Index := 48#32
  ![v551.toNat, 48]
def k0_off235 (v534 : BitVec 32) : Fin 2 → Nat :=
  let v553 : Index := Scalar.indexCast v534
  let c64_278 : Index := 64#32
  ![v553.toNat, 64]
def k0_off236 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_269 : BitVec 32 := 16#32
  let v535 : BitVec 32 := Scalar.muli arg16 c16_i32_269
  let c14_i32 : BitVec 32 := 14#32
  let v536 : BitVec 32 := Scalar.addi v535 c14_i32
  let v555 : Index := Scalar.indexCast v536
  let c64_279 : Index := 64#32
  ![v555.toNat, 64]
def k0_off237 (v534 : BitVec 32) : Fin 2 → Nat :=
  let v557 : Index := Scalar.indexCast v534
  let c80_280 : Index := 80#32
  ![v557.toNat, 80]
def k0_off238 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_269 : BitVec 32 := 16#32
  let v535 : BitVec 32 := Scalar.muli arg16 c16_i32_269
  let c14_i32 : BitVec 32 := 14#32
  let v536 : BitVec 32 := Scalar.addi v535 c14_i32
  let v559 : Index := Scalar.indexCast v536
  let c80_281 : Index := 80#32
  ![v559.toNat, 80]
def k0_off239 (v534 : BitVec 32) : Fin 2 → Nat :=
  let v561 : Index := Scalar.indexCast v534
  let c96_282 : Index := 96#32
  ![v561.toNat, 96]
def k0_off240 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_269 : BitVec 32 := 16#32
  let v535 : BitVec 32 := Scalar.muli arg16 c16_i32_269
  let c14_i32 : BitVec 32 := 14#32
  let v536 : BitVec 32 := Scalar.addi v535 c14_i32
  let v563 : Index := Scalar.indexCast v536
  let c96_283 : Index := 96#32
  ![v563.toNat, 96]
def k0_off241 (v534 : BitVec 32) : Fin 2 → Nat :=
  let v565 : Index := Scalar.indexCast v534
  let c112_284 : Index := 112#32
  ![v565.toNat, 112]

def k0_chk15 (v534 : BitVec 32) : Prop :=
  (∀ a, (k0_off227 v534) a + S1x16.size a ≤ S100x128.size a) ∧
  (∀ a, (k0_off229 v534) a + S1x16.size a ≤ S100x128.size a) ∧
  (∀ a, (k0_off231 v534) a + S1x16.size a ≤ S100x128.size a) ∧
  (∀ a, (k0_off233 v534) a + S1x16.size a ≤ S100x128.size a) ∧
  (∀ a, (k0_off235 v534) a + S1x16.size a ≤ S100x128.size a) ∧
  (∀ a, (k0_off237 v534) a + S1x16.size a ≤ S100x128.size a) ∧
  (∀ a, (k0_off239 v534) a + S1x16.size a ≤ S100x128.size a) ∧
  (∀ a, (k0_off241 v534) a + S1x16.size a ≤ S100x128.size a)
theorem k0_off227_inb : ∀ (v534 : BitVec 32) (k0_hw15 : k0_chk15 v534), ∀ a, (k0_off227 v534) a + S1x16.size a ≤ S100x128.size a := fun v534 k0_hw15 => k0_hw15.1
theorem k0_off229_inb : ∀ (v534 : BitVec 32) (k0_hw15 : k0_chk15 v534), ∀ a, (k0_off229 v534) a + S1x16.size a ≤ S100x128.size a := fun v534 k0_hw15 => k0_hw15.2.1
theorem k0_off231_inb : ∀ (v534 : BitVec 32) (k0_hw15 : k0_chk15 v534), ∀ a, (k0_off231 v534) a + S1x16.size a ≤ S100x128.size a := fun v534 k0_hw15 => k0_hw15.2.2.1
theorem k0_off233_inb : ∀ (v534 : BitVec 32) (k0_hw15 : k0_chk15 v534), ∀ a, (k0_off233 v534) a + S1x16.size a ≤ S100x128.size a := fun v534 k0_hw15 => k0_hw15.2.2.2.1
theorem k0_off235_inb : ∀ (v534 : BitVec 32) (k0_hw15 : k0_chk15 v534), ∀ a, (k0_off235 v534) a + S1x16.size a ≤ S100x128.size a := fun v534 k0_hw15 => k0_hw15.2.2.2.2.1
theorem k0_off237_inb : ∀ (v534 : BitVec 32) (k0_hw15 : k0_chk15 v534), ∀ a, (k0_off237 v534) a + S1x16.size a ≤ S100x128.size a := fun v534 k0_hw15 => k0_hw15.2.2.2.2.2.1
theorem k0_off239_inb : ∀ (v534 : BitVec 32) (k0_hw15 : k0_chk15 v534), ∀ a, (k0_off239 v534) a + S1x16.size a ≤ S100x128.size a := fun v534 k0_hw15 => k0_hw15.2.2.2.2.2.2.1
theorem k0_off241_inb : ∀ (v534 : BitVec 32) (k0_hw15 : k0_chk15 v534), ∀ a, (k0_off241 v534) a + S1x16.size a ≤ S100x128.size a := fun v534 k0_hw15 => k0_hw15.2.2.2.2.2.2.2

def k0_off242 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_269 : BitVec 32 := 16#32
  let v535 : BitVec 32 := Scalar.muli arg16 c16_i32_269
  let c14_i32 : BitVec 32 := 14#32
  let v536 : BitVec 32 := Scalar.addi v535 c14_i32
  let v567 : Index := Scalar.indexCast v536
  let c112_285 : Index := 112#32
  ![v567.toNat, 112]
def k0_off243 (v570 : BitVec 32) : Fin 2 → Nat :=
  let v573 : Index := Scalar.indexCast v570
  let c0_287 : Index := 0#32
  ![v573.toNat, 0]

def k0_off244 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_286 : BitVec 32 := 16#32
  let v571 : BitVec 32 := Scalar.muli arg16 c16_i32_286
  let c15_i32 : BitVec 32 := 15#32
  let v572 : BitVec 32 := Scalar.addi v571 c15_i32
  let v575 : Index := Scalar.indexCast v572
  let c0_288 : Index := 0#32
  ![v575.toNat, 0]
def k0_off245 (v570 : BitVec 32) : Fin 2 → Nat :=
  let v577 : Index := Scalar.indexCast v570
  let c16_289 : Index := 16#32
  ![v577.toNat, 16]
def k0_off246 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_286 : BitVec 32 := 16#32
  let v571 : BitVec 32 := Scalar.muli arg16 c16_i32_286
  let c15_i32 : BitVec 32 := 15#32
  let v572 : BitVec 32 := Scalar.addi v571 c15_i32
  let v579 : Index := Scalar.indexCast v572
  let c16_290 : Index := 16#32
  ![v579.toNat, 16]
def k0_off247 (v570 : BitVec 32) : Fin 2 → Nat :=
  let v581 : Index := Scalar.indexCast v570
  let c32_291 : Index := 32#32
  ![v581.toNat, 32]
def k0_off248 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_286 : BitVec 32 := 16#32
  let v571 : BitVec 32 := Scalar.muli arg16 c16_i32_286
  let c15_i32 : BitVec 32 := 15#32
  let v572 : BitVec 32 := Scalar.addi v571 c15_i32
  let v583 : Index := Scalar.indexCast v572
  let c32_292 : Index := 32#32
  ![v583.toNat, 32]
def k0_off249 (v570 : BitVec 32) : Fin 2 → Nat :=
  let v585 : Index := Scalar.indexCast v570
  let c48_293 : Index := 48#32
  ![v585.toNat, 48]
def k0_off250 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_286 : BitVec 32 := 16#32
  let v571 : BitVec 32 := Scalar.muli arg16 c16_i32_286
  let c15_i32 : BitVec 32 := 15#32
  let v572 : BitVec 32 := Scalar.addi v571 c15_i32
  let v587 : Index := Scalar.indexCast v572
  let c48_294 : Index := 48#32
  ![v587.toNat, 48]
def k0_off251 (v570 : BitVec 32) : Fin 2 → Nat :=
  let v589 : Index := Scalar.indexCast v570
  let c64_295 : Index := 64#32
  ![v589.toNat, 64]
def k0_off252 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_286 : BitVec 32 := 16#32
  let v571 : BitVec 32 := Scalar.muli arg16 c16_i32_286
  let c15_i32 : BitVec 32 := 15#32
  let v572 : BitVec 32 := Scalar.addi v571 c15_i32
  let v591 : Index := Scalar.indexCast v572
  let c64_296 : Index := 64#32
  ![v591.toNat, 64]
def k0_off253 (v570 : BitVec 32) : Fin 2 → Nat :=
  let v593 : Index := Scalar.indexCast v570
  let c80_297 : Index := 80#32
  ![v593.toNat, 80]
def k0_off254 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_286 : BitVec 32 := 16#32
  let v571 : BitVec 32 := Scalar.muli arg16 c16_i32_286
  let c15_i32 : BitVec 32 := 15#32
  let v572 : BitVec 32 := Scalar.addi v571 c15_i32
  let v595 : Index := Scalar.indexCast v572
  let c80_298 : Index := 80#32
  ![v595.toNat, 80]
def k0_off255 (v570 : BitVec 32) : Fin 2 → Nat :=
  let v597 : Index := Scalar.indexCast v570
  let c96_299 : Index := 96#32
  ![v597.toNat, 96]
def k0_off256 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_286 : BitVec 32 := 16#32
  let v571 : BitVec 32 := Scalar.muli arg16 c16_i32_286
  let c15_i32 : BitVec 32 := 15#32
  let v572 : BitVec 32 := Scalar.addi v571 c15_i32
  let v599 : Index := Scalar.indexCast v572
  let c96_300 : Index := 96#32
  ![v599.toNat, 96]
def k0_off257 (v570 : BitVec 32) : Fin 2 → Nat :=
  let v601 : Index := Scalar.indexCast v570
  let c112_301 : Index := 112#32
  ![v601.toNat, 112]

def k0_chk16 (v570 : BitVec 32) : Prop :=
  (∀ a, (k0_off243 v570) a + S1x16.size a ≤ S100x128.size a) ∧
  (∀ a, (k0_off245 v570) a + S1x16.size a ≤ S100x128.size a) ∧
  (∀ a, (k0_off247 v570) a + S1x16.size a ≤ S100x128.size a) ∧
  (∀ a, (k0_off249 v570) a + S1x16.size a ≤ S100x128.size a) ∧
  (∀ a, (k0_off251 v570) a + S1x16.size a ≤ S100x128.size a) ∧
  (∀ a, (k0_off253 v570) a + S1x16.size a ≤ S100x128.size a) ∧
  (∀ a, (k0_off255 v570) a + S1x16.size a ≤ S100x128.size a) ∧
  (∀ a, (k0_off257 v570) a + S1x16.size a ≤ S100x128.size a)
theorem k0_off243_inb : ∀ (v570 : BitVec 32) (k0_hw16 : k0_chk16 v570), ∀ a, (k0_off243 v570) a + S1x16.size a ≤ S100x128.size a := fun v570 k0_hw16 => k0_hw16.1
theorem k0_off245_inb : ∀ (v570 : BitVec 32) (k0_hw16 : k0_chk16 v570), ∀ a, (k0_off245 v570) a + S1x16.size a ≤ S100x128.size a := fun v570 k0_hw16 => k0_hw16.2.1
theorem k0_off247_inb : ∀ (v570 : BitVec 32) (k0_hw16 : k0_chk16 v570), ∀ a, (k0_off247 v570) a + S1x16.size a ≤ S100x128.size a := fun v570 k0_hw16 => k0_hw16.2.2.1
theorem k0_off249_inb : ∀ (v570 : BitVec 32) (k0_hw16 : k0_chk16 v570), ∀ a, (k0_off249 v570) a + S1x16.size a ≤ S100x128.size a := fun v570 k0_hw16 => k0_hw16.2.2.2.1
theorem k0_off251_inb : ∀ (v570 : BitVec 32) (k0_hw16 : k0_chk16 v570), ∀ a, (k0_off251 v570) a + S1x16.size a ≤ S100x128.size a := fun v570 k0_hw16 => k0_hw16.2.2.2.2.1
theorem k0_off253_inb : ∀ (v570 : BitVec 32) (k0_hw16 : k0_chk16 v570), ∀ a, (k0_off253 v570) a + S1x16.size a ≤ S100x128.size a := fun v570 k0_hw16 => k0_hw16.2.2.2.2.2.1
theorem k0_off255_inb : ∀ (v570 : BitVec 32) (k0_hw16 : k0_chk16 v570), ∀ a, (k0_off255 v570) a + S1x16.size a ≤ S100x128.size a := fun v570 k0_hw16 => k0_hw16.2.2.2.2.2.2.1
theorem k0_off257_inb : ∀ (v570 : BitVec 32) (k0_hw16 : k0_chk16 v570), ∀ a, (k0_off257 v570) a + S1x16.size a ≤ S100x128.size a := fun v570 k0_hw16 => k0_hw16.2.2.2.2.2.2.2

def k0_off258 (k0_t1 : Fin k0_t1_loop.trips) : Fin 2 → Nat :=
  let c0_i32_0 : BitVec 32 := 0#32
  let c1_i32 : BitVec 32 := 1#32
  let arg16 : BitVec 32 := Scf.iv c0_i32_0 c1_i32 k0_t1
  let c16_i32_286 : BitVec 32 := 16#32
  let v571 : BitVec 32 := Scalar.muli arg16 c16_i32_286
  let c15_i32 : BitVec 32 := 15#32
  let v572 : BitVec 32 := Scalar.addi v571 c15_i32
  let v603 : Index := Scalar.indexCast v572
  let c112_302 : Index := 112#32
  ![v603.toNat, 112]
def k0_off259 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_2 : BitVec 32 := 0#32
  ![v2.toNat, 0]
@[reducible] def k0_t2_loop : Scf.Loop 32 :=
  let c0_i32_5 : BitVec 32 := 0#32
  let c8_i32_6 : BitVec 32 := 8#32
  let v6 : BitVec 32 := Scalar.addi c0_i32_5 c8_i32_6
  let c1_i32_7 : BitVec 32 := 1#32
  ⟨c0_i32_5, v6, c1_i32_7⟩
def k0_off260 (k0_t2 : Fin k0_t2_loop.trips) : Fin 1 → Nat :=
  let c128_i32_34 : BitVec 32 := 128#32
  let c0_i32_5 : BitVec 32 := 0#32
  let c1_i32_7 : BitVec 32 := 1#32
  let arg16 : BitVec 32 := Scf.iv c0_i32_5 c1_i32_7 k0_t2
  let c16_i32 : BitVec 32 := 16#32
  let v25 : BitVec 32 := Scalar.muli arg16 c16_i32
  let v26 : BitVec 32 := Scalar.addi c128_i32_34 v25
  let v27 : Index := Scalar.indexCast v26
  ![v27.toNat]
def k0_off261 (v30 : BitVec 32) : Fin 2 → Nat :=
  let v33 : Index := Scalar.indexCast v30
  let c0 : Index := 0#32
  ![v33.toNat, 0]

def k0_off262 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_35 : BitVec 32 := 16#32
  let v31 : BitVec 32 := Scalar.muli arg16 c16_i32_35
  let c0_i32_36 : BitVec 32 := 0#32
  let v32 : BitVec 32 := Scalar.addi v31 c0_i32_36
  let v35 : Index := Scalar.indexCast v32
  let c0_37 : Index := 0#32
  ![v35.toNat, 0]
def k0_off263 (v30 : BitVec 32) : Fin 2 → Nat :=
  let v37 : Index := Scalar.indexCast v30
  let c16 : Index := 16#32
  ![v37.toNat, 16]
def k0_off264 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_35 : BitVec 32 := 16#32
  let v31 : BitVec 32 := Scalar.muli arg16 c16_i32_35
  let c0_i32_36 : BitVec 32 := 0#32
  let v32 : BitVec 32 := Scalar.addi v31 c0_i32_36
  let v39 : Index := Scalar.indexCast v32
  let c16_38 : Index := 16#32
  ![v39.toNat, 16]
def k0_off265 (v30 : BitVec 32) : Fin 2 → Nat :=
  let v41 : Index := Scalar.indexCast v30
  let c32 : Index := 32#32
  ![v41.toNat, 32]
def k0_off266 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_35 : BitVec 32 := 16#32
  let v31 : BitVec 32 := Scalar.muli arg16 c16_i32_35
  let c0_i32_36 : BitVec 32 := 0#32
  let v32 : BitVec 32 := Scalar.addi v31 c0_i32_36
  let v43 : Index := Scalar.indexCast v32
  let c32_39 : Index := 32#32
  ![v43.toNat, 32]
def k0_off267 (v30 : BitVec 32) : Fin 2 → Nat :=
  let v45 : Index := Scalar.indexCast v30
  let c48 : Index := 48#32
  ![v45.toNat, 48]
def k0_off268 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_35 : BitVec 32 := 16#32
  let v31 : BitVec 32 := Scalar.muli arg16 c16_i32_35
  let c0_i32_36 : BitVec 32 := 0#32
  let v32 : BitVec 32 := Scalar.addi v31 c0_i32_36
  let v47 : Index := Scalar.indexCast v32
  let c48_40 : Index := 48#32
  ![v47.toNat, 48]
def k0_off269 (v30 : BitVec 32) : Fin 2 → Nat :=
  let v49 : Index := Scalar.indexCast v30
  let c64 : Index := 64#32
  ![v49.toNat, 64]
def k0_off270 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_35 : BitVec 32 := 16#32
  let v31 : BitVec 32 := Scalar.muli arg16 c16_i32_35
  let c0_i32_36 : BitVec 32 := 0#32
  let v32 : BitVec 32 := Scalar.addi v31 c0_i32_36
  let v51 : Index := Scalar.indexCast v32
  let c64_41 : Index := 64#32
  ![v51.toNat, 64]
def k0_off271 (v30 : BitVec 32) : Fin 2 → Nat :=
  let v53 : Index := Scalar.indexCast v30
  let c80 : Index := 80#32
  ![v53.toNat, 80]
def k0_off272 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_35 : BitVec 32 := 16#32
  let v31 : BitVec 32 := Scalar.muli arg16 c16_i32_35
  let c0_i32_36 : BitVec 32 := 0#32
  let v32 : BitVec 32 := Scalar.addi v31 c0_i32_36
  let v55 : Index := Scalar.indexCast v32
  let c80_42 : Index := 80#32
  ![v55.toNat, 80]
def k0_off273 (v30 : BitVec 32) : Fin 2 → Nat :=
  let v57 : Index := Scalar.indexCast v30
  let c96 : Index := 96#32
  ![v57.toNat, 96]
def k0_off274 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_35 : BitVec 32 := 16#32
  let v31 : BitVec 32 := Scalar.muli arg16 c16_i32_35
  let c0_i32_36 : BitVec 32 := 0#32
  let v32 : BitVec 32 := Scalar.addi v31 c0_i32_36
  let v59 : Index := Scalar.indexCast v32
  let c96_43 : Index := 96#32
  ![v59.toNat, 96]
def k0_off275 (v30 : BitVec 32) : Fin 2 → Nat :=
  let v61 : Index := Scalar.indexCast v30
  let c112 : Index := 112#32
  ![v61.toNat, 112]

def k0_chk17 (v30 : BitVec 32) : Prop :=
  (∀ a, (k0_off261 v30) a + S1x16.size a ≤ S100x128.size a) ∧
  (∀ a, (k0_off263 v30) a + S1x16.size a ≤ S100x128.size a) ∧
  (∀ a, (k0_off265 v30) a + S1x16.size a ≤ S100x128.size a) ∧
  (∀ a, (k0_off267 v30) a + S1x16.size a ≤ S100x128.size a) ∧
  (∀ a, (k0_off269 v30) a + S1x16.size a ≤ S100x128.size a) ∧
  (∀ a, (k0_off271 v30) a + S1x16.size a ≤ S100x128.size a) ∧
  (∀ a, (k0_off273 v30) a + S1x16.size a ≤ S100x128.size a) ∧
  (∀ a, (k0_off275 v30) a + S1x16.size a ≤ S100x128.size a)
theorem k0_off261_inb : ∀ (v30 : BitVec 32) (k0_hw17 : k0_chk17 v30), ∀ a, (k0_off261 v30) a + S1x16.size a ≤ S100x128.size a := fun v30 k0_hw17 => k0_hw17.1
theorem k0_off263_inb : ∀ (v30 : BitVec 32) (k0_hw17 : k0_chk17 v30), ∀ a, (k0_off263 v30) a + S1x16.size a ≤ S100x128.size a := fun v30 k0_hw17 => k0_hw17.2.1
theorem k0_off265_inb : ∀ (v30 : BitVec 32) (k0_hw17 : k0_chk17 v30), ∀ a, (k0_off265 v30) a + S1x16.size a ≤ S100x128.size a := fun v30 k0_hw17 => k0_hw17.2.2.1
theorem k0_off267_inb : ∀ (v30 : BitVec 32) (k0_hw17 : k0_chk17 v30), ∀ a, (k0_off267 v30) a + S1x16.size a ≤ S100x128.size a := fun v30 k0_hw17 => k0_hw17.2.2.2.1
theorem k0_off269_inb : ∀ (v30 : BitVec 32) (k0_hw17 : k0_chk17 v30), ∀ a, (k0_off269 v30) a + S1x16.size a ≤ S100x128.size a := fun v30 k0_hw17 => k0_hw17.2.2.2.2.1
theorem k0_off271_inb : ∀ (v30 : BitVec 32) (k0_hw17 : k0_chk17 v30), ∀ a, (k0_off271 v30) a + S1x16.size a ≤ S100x128.size a := fun v30 k0_hw17 => k0_hw17.2.2.2.2.2.1
theorem k0_off273_inb : ∀ (v30 : BitVec 32) (k0_hw17 : k0_chk17 v30), ∀ a, (k0_off273 v30) a + S1x16.size a ≤ S100x128.size a := fun v30 k0_hw17 => k0_hw17.2.2.2.2.2.2.1
theorem k0_off275_inb : ∀ (v30 : BitVec 32) (k0_hw17 : k0_chk17 v30), ∀ a, (k0_off275 v30) a + S1x16.size a ≤ S100x128.size a := fun v30 k0_hw17 => k0_hw17.2.2.2.2.2.2.2

def k0_off276 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_35 : BitVec 32 := 16#32
  let v31 : BitVec 32 := Scalar.muli arg16 c16_i32_35
  let c0_i32_36 : BitVec 32 := 0#32
  let v32 : BitVec 32 := Scalar.addi v31 c0_i32_36
  let v63 : Index := Scalar.indexCast v32
  let c112_44 : Index := 112#32
  ![v63.toNat, 112]
def k0_off277 (v66 : BitVec 32) : Fin 2 → Nat :=
  let v69 : Index := Scalar.indexCast v66
  let c0_47 : Index := 0#32
  ![v69.toNat, 0]

def k0_off278 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_45 : BitVec 32 := 16#32
  let v67 : BitVec 32 := Scalar.muli arg16 c16_i32_45
  let c1_i32_46 : BitVec 32 := 1#32
  let v68 : BitVec 32 := Scalar.addi v67 c1_i32_46
  let v71 : Index := Scalar.indexCast v68
  let c0_48 : Index := 0#32
  ![v71.toNat, 0]
def k0_off279 (v66 : BitVec 32) : Fin 2 → Nat :=
  let v73 : Index := Scalar.indexCast v66
  let c16_49 : Index := 16#32
  ![v73.toNat, 16]
def k0_off280 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_45 : BitVec 32 := 16#32
  let v67 : BitVec 32 := Scalar.muli arg16 c16_i32_45
  let c1_i32_46 : BitVec 32 := 1#32
  let v68 : BitVec 32 := Scalar.addi v67 c1_i32_46
  let v75 : Index := Scalar.indexCast v68
  let c16_50 : Index := 16#32
  ![v75.toNat, 16]
def k0_off281 (v66 : BitVec 32) : Fin 2 → Nat :=
  let v77 : Index := Scalar.indexCast v66
  let c32_51 : Index := 32#32
  ![v77.toNat, 32]
def k0_off282 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_45 : BitVec 32 := 16#32
  let v67 : BitVec 32 := Scalar.muli arg16 c16_i32_45
  let c1_i32_46 : BitVec 32 := 1#32
  let v68 : BitVec 32 := Scalar.addi v67 c1_i32_46
  let v79 : Index := Scalar.indexCast v68
  let c32_52 : Index := 32#32
  ![v79.toNat, 32]
def k0_off283 (v66 : BitVec 32) : Fin 2 → Nat :=
  let v81 : Index := Scalar.indexCast v66
  let c48_53 : Index := 48#32
  ![v81.toNat, 48]
def k0_off284 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_45 : BitVec 32 := 16#32
  let v67 : BitVec 32 := Scalar.muli arg16 c16_i32_45
  let c1_i32_46 : BitVec 32 := 1#32
  let v68 : BitVec 32 := Scalar.addi v67 c1_i32_46
  let v83 : Index := Scalar.indexCast v68
  let c48_54 : Index := 48#32
  ![v83.toNat, 48]
def k0_off285 (v66 : BitVec 32) : Fin 2 → Nat :=
  let v85 : Index := Scalar.indexCast v66
  let c64_55 : Index := 64#32
  ![v85.toNat, 64]
def k0_off286 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_45 : BitVec 32 := 16#32
  let v67 : BitVec 32 := Scalar.muli arg16 c16_i32_45
  let c1_i32_46 : BitVec 32 := 1#32
  let v68 : BitVec 32 := Scalar.addi v67 c1_i32_46
  let v87 : Index := Scalar.indexCast v68
  let c64_56 : Index := 64#32
  ![v87.toNat, 64]
def k0_off287 (v66 : BitVec 32) : Fin 2 → Nat :=
  let v89 : Index := Scalar.indexCast v66
  let c80_57 : Index := 80#32
  ![v89.toNat, 80]
def k0_off288 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_45 : BitVec 32 := 16#32
  let v67 : BitVec 32 := Scalar.muli arg16 c16_i32_45
  let c1_i32_46 : BitVec 32 := 1#32
  let v68 : BitVec 32 := Scalar.addi v67 c1_i32_46
  let v91 : Index := Scalar.indexCast v68
  let c80_58 : Index := 80#32
  ![v91.toNat, 80]
def k0_off289 (v66 : BitVec 32) : Fin 2 → Nat :=
  let v93 : Index := Scalar.indexCast v66
  let c96_59 : Index := 96#32
  ![v93.toNat, 96]
def k0_off290 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_45 : BitVec 32 := 16#32
  let v67 : BitVec 32 := Scalar.muli arg16 c16_i32_45
  let c1_i32_46 : BitVec 32 := 1#32
  let v68 : BitVec 32 := Scalar.addi v67 c1_i32_46
  let v95 : Index := Scalar.indexCast v68
  let c96_60 : Index := 96#32
  ![v95.toNat, 96]
def k0_off291 (v66 : BitVec 32) : Fin 2 → Nat :=
  let v97 : Index := Scalar.indexCast v66
  let c112_61 : Index := 112#32
  ![v97.toNat, 112]

def k0_chk18 (v66 : BitVec 32) : Prop :=
  (∀ a, (k0_off277 v66) a + S1x16.size a ≤ S100x128.size a) ∧
  (∀ a, (k0_off279 v66) a + S1x16.size a ≤ S100x128.size a) ∧
  (∀ a, (k0_off281 v66) a + S1x16.size a ≤ S100x128.size a) ∧
  (∀ a, (k0_off283 v66) a + S1x16.size a ≤ S100x128.size a) ∧
  (∀ a, (k0_off285 v66) a + S1x16.size a ≤ S100x128.size a) ∧
  (∀ a, (k0_off287 v66) a + S1x16.size a ≤ S100x128.size a) ∧
  (∀ a, (k0_off289 v66) a + S1x16.size a ≤ S100x128.size a) ∧
  (∀ a, (k0_off291 v66) a + S1x16.size a ≤ S100x128.size a)
theorem k0_off277_inb : ∀ (v66 : BitVec 32) (k0_hw18 : k0_chk18 v66), ∀ a, (k0_off277 v66) a + S1x16.size a ≤ S100x128.size a := fun v66 k0_hw18 => k0_hw18.1
theorem k0_off279_inb : ∀ (v66 : BitVec 32) (k0_hw18 : k0_chk18 v66), ∀ a, (k0_off279 v66) a + S1x16.size a ≤ S100x128.size a := fun v66 k0_hw18 => k0_hw18.2.1
theorem k0_off281_inb : ∀ (v66 : BitVec 32) (k0_hw18 : k0_chk18 v66), ∀ a, (k0_off281 v66) a + S1x16.size a ≤ S100x128.size a := fun v66 k0_hw18 => k0_hw18.2.2.1
theorem k0_off283_inb : ∀ (v66 : BitVec 32) (k0_hw18 : k0_chk18 v66), ∀ a, (k0_off283 v66) a + S1x16.size a ≤ S100x128.size a := fun v66 k0_hw18 => k0_hw18.2.2.2.1
theorem k0_off285_inb : ∀ (v66 : BitVec 32) (k0_hw18 : k0_chk18 v66), ∀ a, (k0_off285 v66) a + S1x16.size a ≤ S100x128.size a := fun v66 k0_hw18 => k0_hw18.2.2.2.2.1
theorem k0_off287_inb : ∀ (v66 : BitVec 32) (k0_hw18 : k0_chk18 v66), ∀ a, (k0_off287 v66) a + S1x16.size a ≤ S100x128.size a := fun v66 k0_hw18 => k0_hw18.2.2.2.2.2.1
theorem k0_off289_inb : ∀ (v66 : BitVec 32) (k0_hw18 : k0_chk18 v66), ∀ a, (k0_off289 v66) a + S1x16.size a ≤ S100x128.size a := fun v66 k0_hw18 => k0_hw18.2.2.2.2.2.2.1
theorem k0_off291_inb : ∀ (v66 : BitVec 32) (k0_hw18 : k0_chk18 v66), ∀ a, (k0_off291 v66) a + S1x16.size a ≤ S100x128.size a := fun v66 k0_hw18 => k0_hw18.2.2.2.2.2.2.2

def k0_off292 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_45 : BitVec 32 := 16#32
  let v67 : BitVec 32 := Scalar.muli arg16 c16_i32_45
  let c1_i32_46 : BitVec 32 := 1#32
  let v68 : BitVec 32 := Scalar.addi v67 c1_i32_46
  let v99 : Index := Scalar.indexCast v68
  let c112_62 : Index := 112#32
  ![v99.toNat, 112]
def k0_off293 (v102 : BitVec 32) : Fin 2 → Nat :=
  let v105 : Index := Scalar.indexCast v102
  let c0_65 : Index := 0#32
  ![v105.toNat, 0]

def k0_off294 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_63 : BitVec 32 := 16#32
  let v103 : BitVec 32 := Scalar.muli arg16 c16_i32_63
  let c2_i32_64 : BitVec 32 := 2#32
  let v104 : BitVec 32 := Scalar.addi v103 c2_i32_64
  let v107 : Index := Scalar.indexCast v104
  let c0_66 : Index := 0#32
  ![v107.toNat, 0]
def k0_off295 (v102 : BitVec 32) : Fin 2 → Nat :=
  let v109 : Index := Scalar.indexCast v102
  let c16_67 : Index := 16#32
  ![v109.toNat, 16]
def k0_off296 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_63 : BitVec 32 := 16#32
  let v103 : BitVec 32 := Scalar.muli arg16 c16_i32_63
  let c2_i32_64 : BitVec 32 := 2#32
  let v104 : BitVec 32 := Scalar.addi v103 c2_i32_64
  let v111 : Index := Scalar.indexCast v104
  let c16_68 : Index := 16#32
  ![v111.toNat, 16]
def k0_off297 (v102 : BitVec 32) : Fin 2 → Nat :=
  let v113 : Index := Scalar.indexCast v102
  let c32_69 : Index := 32#32
  ![v113.toNat, 32]
def k0_off298 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_63 : BitVec 32 := 16#32
  let v103 : BitVec 32 := Scalar.muli arg16 c16_i32_63
  let c2_i32_64 : BitVec 32 := 2#32
  let v104 : BitVec 32 := Scalar.addi v103 c2_i32_64
  let v115 : Index := Scalar.indexCast v104
  let c32_70 : Index := 32#32
  ![v115.toNat, 32]
def k0_off299 (v102 : BitVec 32) : Fin 2 → Nat :=
  let v117 : Index := Scalar.indexCast v102
  let c48_71 : Index := 48#32
  ![v117.toNat, 48]
def k0_off300 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_63 : BitVec 32 := 16#32
  let v103 : BitVec 32 := Scalar.muli arg16 c16_i32_63
  let c2_i32_64 : BitVec 32 := 2#32
  let v104 : BitVec 32 := Scalar.addi v103 c2_i32_64
  let v119 : Index := Scalar.indexCast v104
  let c48_72 : Index := 48#32
  ![v119.toNat, 48]
def k0_off301 (v102 : BitVec 32) : Fin 2 → Nat :=
  let v121 : Index := Scalar.indexCast v102
  let c64_73 : Index := 64#32
  ![v121.toNat, 64]
def k0_off302 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_63 : BitVec 32 := 16#32
  let v103 : BitVec 32 := Scalar.muli arg16 c16_i32_63
  let c2_i32_64 : BitVec 32 := 2#32
  let v104 : BitVec 32 := Scalar.addi v103 c2_i32_64
  let v123 : Index := Scalar.indexCast v104
  let c64_74 : Index := 64#32
  ![v123.toNat, 64]
def k0_off303 (v102 : BitVec 32) : Fin 2 → Nat :=
  let v125 : Index := Scalar.indexCast v102
  let c80_75 : Index := 80#32
  ![v125.toNat, 80]
def k0_off304 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_63 : BitVec 32 := 16#32
  let v103 : BitVec 32 := Scalar.muli arg16 c16_i32_63
  let c2_i32_64 : BitVec 32 := 2#32
  let v104 : BitVec 32 := Scalar.addi v103 c2_i32_64
  let v127 : Index := Scalar.indexCast v104
  let c80_76 : Index := 80#32
  ![v127.toNat, 80]
def k0_off305 (v102 : BitVec 32) : Fin 2 → Nat :=
  let v129 : Index := Scalar.indexCast v102
  let c96_77 : Index := 96#32
  ![v129.toNat, 96]
def k0_off306 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_63 : BitVec 32 := 16#32
  let v103 : BitVec 32 := Scalar.muli arg16 c16_i32_63
  let c2_i32_64 : BitVec 32 := 2#32
  let v104 : BitVec 32 := Scalar.addi v103 c2_i32_64
  let v131 : Index := Scalar.indexCast v104
  let c96_78 : Index := 96#32
  ![v131.toNat, 96]
def k0_off307 (v102 : BitVec 32) : Fin 2 → Nat :=
  let v133 : Index := Scalar.indexCast v102
  let c112_79 : Index := 112#32
  ![v133.toNat, 112]

def k0_chk19 (v102 : BitVec 32) : Prop :=
  (∀ a, (k0_off293 v102) a + S1x16.size a ≤ S100x128.size a) ∧
  (∀ a, (k0_off295 v102) a + S1x16.size a ≤ S100x128.size a) ∧
  (∀ a, (k0_off297 v102) a + S1x16.size a ≤ S100x128.size a) ∧
  (∀ a, (k0_off299 v102) a + S1x16.size a ≤ S100x128.size a) ∧
  (∀ a, (k0_off301 v102) a + S1x16.size a ≤ S100x128.size a) ∧
  (∀ a, (k0_off303 v102) a + S1x16.size a ≤ S100x128.size a) ∧
  (∀ a, (k0_off305 v102) a + S1x16.size a ≤ S100x128.size a) ∧
  (∀ a, (k0_off307 v102) a + S1x16.size a ≤ S100x128.size a)
theorem k0_off293_inb : ∀ (v102 : BitVec 32) (k0_hw19 : k0_chk19 v102), ∀ a, (k0_off293 v102) a + S1x16.size a ≤ S100x128.size a := fun v102 k0_hw19 => k0_hw19.1
theorem k0_off295_inb : ∀ (v102 : BitVec 32) (k0_hw19 : k0_chk19 v102), ∀ a, (k0_off295 v102) a + S1x16.size a ≤ S100x128.size a := fun v102 k0_hw19 => k0_hw19.2.1
theorem k0_off297_inb : ∀ (v102 : BitVec 32) (k0_hw19 : k0_chk19 v102), ∀ a, (k0_off297 v102) a + S1x16.size a ≤ S100x128.size a := fun v102 k0_hw19 => k0_hw19.2.2.1
theorem k0_off299_inb : ∀ (v102 : BitVec 32) (k0_hw19 : k0_chk19 v102), ∀ a, (k0_off299 v102) a + S1x16.size a ≤ S100x128.size a := fun v102 k0_hw19 => k0_hw19.2.2.2.1
theorem k0_off301_inb : ∀ (v102 : BitVec 32) (k0_hw19 : k0_chk19 v102), ∀ a, (k0_off301 v102) a + S1x16.size a ≤ S100x128.size a := fun v102 k0_hw19 => k0_hw19.2.2.2.2.1
theorem k0_off303_inb : ∀ (v102 : BitVec 32) (k0_hw19 : k0_chk19 v102), ∀ a, (k0_off303 v102) a + S1x16.size a ≤ S100x128.size a := fun v102 k0_hw19 => k0_hw19.2.2.2.2.2.1
theorem k0_off305_inb : ∀ (v102 : BitVec 32) (k0_hw19 : k0_chk19 v102), ∀ a, (k0_off305 v102) a + S1x16.size a ≤ S100x128.size a := fun v102 k0_hw19 => k0_hw19.2.2.2.2.2.2.1
theorem k0_off307_inb : ∀ (v102 : BitVec 32) (k0_hw19 : k0_chk19 v102), ∀ a, (k0_off307 v102) a + S1x16.size a ≤ S100x128.size a := fun v102 k0_hw19 => k0_hw19.2.2.2.2.2.2.2

def k0_off308 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_63 : BitVec 32 := 16#32
  let v103 : BitVec 32 := Scalar.muli arg16 c16_i32_63
  let c2_i32_64 : BitVec 32 := 2#32
  let v104 : BitVec 32 := Scalar.addi v103 c2_i32_64
  let v135 : Index := Scalar.indexCast v104
  let c112_80 : Index := 112#32
  ![v135.toNat, 112]
def k0_off309 (v138 : BitVec 32) : Fin 2 → Nat :=
  let v141 : Index := Scalar.indexCast v138
  let c0_82 : Index := 0#32
  ![v141.toNat, 0]

def k0_off310 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_81 : BitVec 32 := 16#32
  let v139 : BitVec 32 := Scalar.muli arg16 c16_i32_81
  let c3_i32 : BitVec 32 := 3#32
  let v140 : BitVec 32 := Scalar.addi v139 c3_i32
  let v143 : Index := Scalar.indexCast v140
  let c0_83 : Index := 0#32
  ![v143.toNat, 0]
def k0_off311 (v138 : BitVec 32) : Fin 2 → Nat :=
  let v145 : Index := Scalar.indexCast v138
  let c16_84 : Index := 16#32
  ![v145.toNat, 16]
def k0_off312 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_81 : BitVec 32 := 16#32
  let v139 : BitVec 32 := Scalar.muli arg16 c16_i32_81
  let c3_i32 : BitVec 32 := 3#32
  let v140 : BitVec 32 := Scalar.addi v139 c3_i32
  let v147 : Index := Scalar.indexCast v140
  let c16_85 : Index := 16#32
  ![v147.toNat, 16]
def k0_off313 (v138 : BitVec 32) : Fin 2 → Nat :=
  let v149 : Index := Scalar.indexCast v138
  let c32_86 : Index := 32#32
  ![v149.toNat, 32]
def k0_off314 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_81 : BitVec 32 := 16#32
  let v139 : BitVec 32 := Scalar.muli arg16 c16_i32_81
  let c3_i32 : BitVec 32 := 3#32
  let v140 : BitVec 32 := Scalar.addi v139 c3_i32
  let v151 : Index := Scalar.indexCast v140
  let c32_87 : Index := 32#32
  ![v151.toNat, 32]
def k0_off315 (v138 : BitVec 32) : Fin 2 → Nat :=
  let v153 : Index := Scalar.indexCast v138
  let c48_88 : Index := 48#32
  ![v153.toNat, 48]
def k0_off316 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_81 : BitVec 32 := 16#32
  let v139 : BitVec 32 := Scalar.muli arg16 c16_i32_81
  let c3_i32 : BitVec 32 := 3#32
  let v140 : BitVec 32 := Scalar.addi v139 c3_i32
  let v155 : Index := Scalar.indexCast v140
  let c48_89 : Index := 48#32
  ![v155.toNat, 48]
def k0_off317 (v138 : BitVec 32) : Fin 2 → Nat :=
  let v157 : Index := Scalar.indexCast v138
  let c64_90 : Index := 64#32
  ![v157.toNat, 64]
def k0_off318 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_81 : BitVec 32 := 16#32
  let v139 : BitVec 32 := Scalar.muli arg16 c16_i32_81
  let c3_i32 : BitVec 32 := 3#32
  let v140 : BitVec 32 := Scalar.addi v139 c3_i32
  let v159 : Index := Scalar.indexCast v140
  let c64_91 : Index := 64#32
  ![v159.toNat, 64]
def k0_off319 (v138 : BitVec 32) : Fin 2 → Nat :=
  let v161 : Index := Scalar.indexCast v138
  let c80_92 : Index := 80#32
  ![v161.toNat, 80]
def k0_off320 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_81 : BitVec 32 := 16#32
  let v139 : BitVec 32 := Scalar.muli arg16 c16_i32_81
  let c3_i32 : BitVec 32 := 3#32
  let v140 : BitVec 32 := Scalar.addi v139 c3_i32
  let v163 : Index := Scalar.indexCast v140
  let c80_93 : Index := 80#32
  ![v163.toNat, 80]
def k0_off321 (v138 : BitVec 32) : Fin 2 → Nat :=
  let v165 : Index := Scalar.indexCast v138
  let c96_94 : Index := 96#32
  ![v165.toNat, 96]
def k0_off322 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_81 : BitVec 32 := 16#32
  let v139 : BitVec 32 := Scalar.muli arg16 c16_i32_81
  let c3_i32 : BitVec 32 := 3#32
  let v140 : BitVec 32 := Scalar.addi v139 c3_i32
  let v167 : Index := Scalar.indexCast v140
  let c96_95 : Index := 96#32
  ![v167.toNat, 96]
def k0_off323 (v138 : BitVec 32) : Fin 2 → Nat :=
  let v169 : Index := Scalar.indexCast v138
  let c112_96 : Index := 112#32
  ![v169.toNat, 112]

def k0_chk20 (v138 : BitVec 32) : Prop :=
  (∀ a, (k0_off309 v138) a + S1x16.size a ≤ S100x128.size a) ∧
  (∀ a, (k0_off311 v138) a + S1x16.size a ≤ S100x128.size a) ∧
  (∀ a, (k0_off313 v138) a + S1x16.size a ≤ S100x128.size a) ∧
  (∀ a, (k0_off315 v138) a + S1x16.size a ≤ S100x128.size a) ∧
  (∀ a, (k0_off317 v138) a + S1x16.size a ≤ S100x128.size a) ∧
  (∀ a, (k0_off319 v138) a + S1x16.size a ≤ S100x128.size a) ∧
  (∀ a, (k0_off321 v138) a + S1x16.size a ≤ S100x128.size a) ∧
  (∀ a, (k0_off323 v138) a + S1x16.size a ≤ S100x128.size a)
theorem k0_off309_inb : ∀ (v138 : BitVec 32) (k0_hw20 : k0_chk20 v138), ∀ a, (k0_off309 v138) a + S1x16.size a ≤ S100x128.size a := fun v138 k0_hw20 => k0_hw20.1
theorem k0_off311_inb : ∀ (v138 : BitVec 32) (k0_hw20 : k0_chk20 v138), ∀ a, (k0_off311 v138) a + S1x16.size a ≤ S100x128.size a := fun v138 k0_hw20 => k0_hw20.2.1
theorem k0_off313_inb : ∀ (v138 : BitVec 32) (k0_hw20 : k0_chk20 v138), ∀ a, (k0_off313 v138) a + S1x16.size a ≤ S100x128.size a := fun v138 k0_hw20 => k0_hw20.2.2.1
theorem k0_off315_inb : ∀ (v138 : BitVec 32) (k0_hw20 : k0_chk20 v138), ∀ a, (k0_off315 v138) a + S1x16.size a ≤ S100x128.size a := fun v138 k0_hw20 => k0_hw20.2.2.2.1
theorem k0_off317_inb : ∀ (v138 : BitVec 32) (k0_hw20 : k0_chk20 v138), ∀ a, (k0_off317 v138) a + S1x16.size a ≤ S100x128.size a := fun v138 k0_hw20 => k0_hw20.2.2.2.2.1
theorem k0_off319_inb : ∀ (v138 : BitVec 32) (k0_hw20 : k0_chk20 v138), ∀ a, (k0_off319 v138) a + S1x16.size a ≤ S100x128.size a := fun v138 k0_hw20 => k0_hw20.2.2.2.2.2.1
theorem k0_off321_inb : ∀ (v138 : BitVec 32) (k0_hw20 : k0_chk20 v138), ∀ a, (k0_off321 v138) a + S1x16.size a ≤ S100x128.size a := fun v138 k0_hw20 => k0_hw20.2.2.2.2.2.2.1
theorem k0_off323_inb : ∀ (v138 : BitVec 32) (k0_hw20 : k0_chk20 v138), ∀ a, (k0_off323 v138) a + S1x16.size a ≤ S100x128.size a := fun v138 k0_hw20 => k0_hw20.2.2.2.2.2.2.2

def k0_off324 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_81 : BitVec 32 := 16#32
  let v139 : BitVec 32 := Scalar.muli arg16 c16_i32_81
  let c3_i32 : BitVec 32 := 3#32
  let v140 : BitVec 32 := Scalar.addi v139 c3_i32
  let v171 : Index := Scalar.indexCast v140
  let c112_97 : Index := 112#32
  ![v171.toNat, 112]
def k0_off325 (v174 : BitVec 32) : Fin 2 → Nat :=
  let v177 : Index := Scalar.indexCast v174
  let c0_99 : Index := 0#32
  ![v177.toNat, 0]

def k0_off326 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_98 : BitVec 32 := 16#32
  let v175 : BitVec 32 := Scalar.muli arg16 c16_i32_98
  let c4_i32 : BitVec 32 := 4#32
  let v176 : BitVec 32 := Scalar.addi v175 c4_i32
  let v179 : Index := Scalar.indexCast v176
  let c0_100 : Index := 0#32
  ![v179.toNat, 0]
def k0_off327 (v174 : BitVec 32) : Fin 2 → Nat :=
  let v181 : Index := Scalar.indexCast v174
  let c16_101 : Index := 16#32
  ![v181.toNat, 16]
def k0_off328 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_98 : BitVec 32 := 16#32
  let v175 : BitVec 32 := Scalar.muli arg16 c16_i32_98
  let c4_i32 : BitVec 32 := 4#32
  let v176 : BitVec 32 := Scalar.addi v175 c4_i32
  let v183 : Index := Scalar.indexCast v176
  let c16_102 : Index := 16#32
  ![v183.toNat, 16]
def k0_off329 (v174 : BitVec 32) : Fin 2 → Nat :=
  let v185 : Index := Scalar.indexCast v174
  let c32_103 : Index := 32#32
  ![v185.toNat, 32]
def k0_off330 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_98 : BitVec 32 := 16#32
  let v175 : BitVec 32 := Scalar.muli arg16 c16_i32_98
  let c4_i32 : BitVec 32 := 4#32
  let v176 : BitVec 32 := Scalar.addi v175 c4_i32
  let v187 : Index := Scalar.indexCast v176
  let c32_104 : Index := 32#32
  ![v187.toNat, 32]
def k0_off331 (v174 : BitVec 32) : Fin 2 → Nat :=
  let v189 : Index := Scalar.indexCast v174
  let c48_105 : Index := 48#32
  ![v189.toNat, 48]
def k0_off332 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_98 : BitVec 32 := 16#32
  let v175 : BitVec 32 := Scalar.muli arg16 c16_i32_98
  let c4_i32 : BitVec 32 := 4#32
  let v176 : BitVec 32 := Scalar.addi v175 c4_i32
  let v191 : Index := Scalar.indexCast v176
  let c48_106 : Index := 48#32
  ![v191.toNat, 48]
def k0_off333 (v174 : BitVec 32) : Fin 2 → Nat :=
  let v193 : Index := Scalar.indexCast v174
  let c64_107 : Index := 64#32
  ![v193.toNat, 64]
def k0_off334 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_98 : BitVec 32 := 16#32
  let v175 : BitVec 32 := Scalar.muli arg16 c16_i32_98
  let c4_i32 : BitVec 32 := 4#32
  let v176 : BitVec 32 := Scalar.addi v175 c4_i32
  let v195 : Index := Scalar.indexCast v176
  let c64_108 : Index := 64#32
  ![v195.toNat, 64]
def k0_off335 (v174 : BitVec 32) : Fin 2 → Nat :=
  let v197 : Index := Scalar.indexCast v174
  let c80_109 : Index := 80#32
  ![v197.toNat, 80]
def k0_off336 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_98 : BitVec 32 := 16#32
  let v175 : BitVec 32 := Scalar.muli arg16 c16_i32_98
  let c4_i32 : BitVec 32 := 4#32
  let v176 : BitVec 32 := Scalar.addi v175 c4_i32
  let v199 : Index := Scalar.indexCast v176
  let c80_110 : Index := 80#32
  ![v199.toNat, 80]
def k0_off337 (v174 : BitVec 32) : Fin 2 → Nat :=
  let v201 : Index := Scalar.indexCast v174
  let c96_111 : Index := 96#32
  ![v201.toNat, 96]
def k0_off338 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_98 : BitVec 32 := 16#32
  let v175 : BitVec 32 := Scalar.muli arg16 c16_i32_98
  let c4_i32 : BitVec 32 := 4#32
  let v176 : BitVec 32 := Scalar.addi v175 c4_i32
  let v203 : Index := Scalar.indexCast v176
  let c96_112 : Index := 96#32
  ![v203.toNat, 96]
def k0_off339 (v174 : BitVec 32) : Fin 2 → Nat :=
  let v205 : Index := Scalar.indexCast v174
  let c112_113 : Index := 112#32
  ![v205.toNat, 112]

def k0_chk21 (v174 : BitVec 32) : Prop :=
  (∀ a, (k0_off325 v174) a + S1x16.size a ≤ S100x128.size a) ∧
  (∀ a, (k0_off327 v174) a + S1x16.size a ≤ S100x128.size a) ∧
  (∀ a, (k0_off329 v174) a + S1x16.size a ≤ S100x128.size a) ∧
  (∀ a, (k0_off331 v174) a + S1x16.size a ≤ S100x128.size a) ∧
  (∀ a, (k0_off333 v174) a + S1x16.size a ≤ S100x128.size a) ∧
  (∀ a, (k0_off335 v174) a + S1x16.size a ≤ S100x128.size a) ∧
  (∀ a, (k0_off337 v174) a + S1x16.size a ≤ S100x128.size a) ∧
  (∀ a, (k0_off339 v174) a + S1x16.size a ≤ S100x128.size a)
theorem k0_off325_inb : ∀ (v174 : BitVec 32) (k0_hw21 : k0_chk21 v174), ∀ a, (k0_off325 v174) a + S1x16.size a ≤ S100x128.size a := fun v174 k0_hw21 => k0_hw21.1
theorem k0_off327_inb : ∀ (v174 : BitVec 32) (k0_hw21 : k0_chk21 v174), ∀ a, (k0_off327 v174) a + S1x16.size a ≤ S100x128.size a := fun v174 k0_hw21 => k0_hw21.2.1
theorem k0_off329_inb : ∀ (v174 : BitVec 32) (k0_hw21 : k0_chk21 v174), ∀ a, (k0_off329 v174) a + S1x16.size a ≤ S100x128.size a := fun v174 k0_hw21 => k0_hw21.2.2.1
theorem k0_off331_inb : ∀ (v174 : BitVec 32) (k0_hw21 : k0_chk21 v174), ∀ a, (k0_off331 v174) a + S1x16.size a ≤ S100x128.size a := fun v174 k0_hw21 => k0_hw21.2.2.2.1
theorem k0_off333_inb : ∀ (v174 : BitVec 32) (k0_hw21 : k0_chk21 v174), ∀ a, (k0_off333 v174) a + S1x16.size a ≤ S100x128.size a := fun v174 k0_hw21 => k0_hw21.2.2.2.2.1
theorem k0_off335_inb : ∀ (v174 : BitVec 32) (k0_hw21 : k0_chk21 v174), ∀ a, (k0_off335 v174) a + S1x16.size a ≤ S100x128.size a := fun v174 k0_hw21 => k0_hw21.2.2.2.2.2.1
theorem k0_off337_inb : ∀ (v174 : BitVec 32) (k0_hw21 : k0_chk21 v174), ∀ a, (k0_off337 v174) a + S1x16.size a ≤ S100x128.size a := fun v174 k0_hw21 => k0_hw21.2.2.2.2.2.2.1
theorem k0_off339_inb : ∀ (v174 : BitVec 32) (k0_hw21 : k0_chk21 v174), ∀ a, (k0_off339 v174) a + S1x16.size a ≤ S100x128.size a := fun v174 k0_hw21 => k0_hw21.2.2.2.2.2.2.2

def k0_off340 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_98 : BitVec 32 := 16#32
  let v175 : BitVec 32 := Scalar.muli arg16 c16_i32_98
  let c4_i32 : BitVec 32 := 4#32
  let v176 : BitVec 32 := Scalar.addi v175 c4_i32
  let v207 : Index := Scalar.indexCast v176
  let c112_114 : Index := 112#32
  ![v207.toNat, 112]
def k0_off341 (v210 : BitVec 32) : Fin 2 → Nat :=
  let v213 : Index := Scalar.indexCast v210
  let c0_116 : Index := 0#32
  ![v213.toNat, 0]

def k0_off342 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_115 : BitVec 32 := 16#32
  let v211 : BitVec 32 := Scalar.muli arg16 c16_i32_115
  let c5_i32 : BitVec 32 := 5#32
  let v212 : BitVec 32 := Scalar.addi v211 c5_i32
  let v215 : Index := Scalar.indexCast v212
  let c0_117 : Index := 0#32
  ![v215.toNat, 0]
def k0_off343 (v210 : BitVec 32) : Fin 2 → Nat :=
  let v217 : Index := Scalar.indexCast v210
  let c16_118 : Index := 16#32
  ![v217.toNat, 16]
def k0_off344 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_115 : BitVec 32 := 16#32
  let v211 : BitVec 32 := Scalar.muli arg16 c16_i32_115
  let c5_i32 : BitVec 32 := 5#32
  let v212 : BitVec 32 := Scalar.addi v211 c5_i32
  let v219 : Index := Scalar.indexCast v212
  let c16_119 : Index := 16#32
  ![v219.toNat, 16]
def k0_off345 (v210 : BitVec 32) : Fin 2 → Nat :=
  let v221 : Index := Scalar.indexCast v210
  let c32_120 : Index := 32#32
  ![v221.toNat, 32]
def k0_off346 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_115 : BitVec 32 := 16#32
  let v211 : BitVec 32 := Scalar.muli arg16 c16_i32_115
  let c5_i32 : BitVec 32 := 5#32
  let v212 : BitVec 32 := Scalar.addi v211 c5_i32
  let v223 : Index := Scalar.indexCast v212
  let c32_121 : Index := 32#32
  ![v223.toNat, 32]
def k0_off347 (v210 : BitVec 32) : Fin 2 → Nat :=
  let v225 : Index := Scalar.indexCast v210
  let c48_122 : Index := 48#32
  ![v225.toNat, 48]
def k0_off348 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_115 : BitVec 32 := 16#32
  let v211 : BitVec 32 := Scalar.muli arg16 c16_i32_115
  let c5_i32 : BitVec 32 := 5#32
  let v212 : BitVec 32 := Scalar.addi v211 c5_i32
  let v227 : Index := Scalar.indexCast v212
  let c48_123 : Index := 48#32
  ![v227.toNat, 48]
def k0_off349 (v210 : BitVec 32) : Fin 2 → Nat :=
  let v229 : Index := Scalar.indexCast v210
  let c64_124 : Index := 64#32
  ![v229.toNat, 64]
def k0_off350 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_115 : BitVec 32 := 16#32
  let v211 : BitVec 32 := Scalar.muli arg16 c16_i32_115
  let c5_i32 : BitVec 32 := 5#32
  let v212 : BitVec 32 := Scalar.addi v211 c5_i32
  let v231 : Index := Scalar.indexCast v212
  let c64_125 : Index := 64#32
  ![v231.toNat, 64]
def k0_off351 (v210 : BitVec 32) : Fin 2 → Nat :=
  let v233 : Index := Scalar.indexCast v210
  let c80_126 : Index := 80#32
  ![v233.toNat, 80]
def k0_off352 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_115 : BitVec 32 := 16#32
  let v211 : BitVec 32 := Scalar.muli arg16 c16_i32_115
  let c5_i32 : BitVec 32 := 5#32
  let v212 : BitVec 32 := Scalar.addi v211 c5_i32
  let v235 : Index := Scalar.indexCast v212
  let c80_127 : Index := 80#32
  ![v235.toNat, 80]
def k0_off353 (v210 : BitVec 32) : Fin 2 → Nat :=
  let v237 : Index := Scalar.indexCast v210
  let c96_128 : Index := 96#32
  ![v237.toNat, 96]
def k0_off354 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_115 : BitVec 32 := 16#32
  let v211 : BitVec 32 := Scalar.muli arg16 c16_i32_115
  let c5_i32 : BitVec 32 := 5#32
  let v212 : BitVec 32 := Scalar.addi v211 c5_i32
  let v239 : Index := Scalar.indexCast v212
  let c96_129 : Index := 96#32
  ![v239.toNat, 96]
def k0_off355 (v210 : BitVec 32) : Fin 2 → Nat :=
  let v241 : Index := Scalar.indexCast v210
  let c112_130 : Index := 112#32
  ![v241.toNat, 112]

def k0_chk22 (v210 : BitVec 32) : Prop :=
  (∀ a, (k0_off341 v210) a + S1x16.size a ≤ S100x128.size a) ∧
  (∀ a, (k0_off343 v210) a + S1x16.size a ≤ S100x128.size a) ∧
  (∀ a, (k0_off345 v210) a + S1x16.size a ≤ S100x128.size a) ∧
  (∀ a, (k0_off347 v210) a + S1x16.size a ≤ S100x128.size a) ∧
  (∀ a, (k0_off349 v210) a + S1x16.size a ≤ S100x128.size a) ∧
  (∀ a, (k0_off351 v210) a + S1x16.size a ≤ S100x128.size a) ∧
  (∀ a, (k0_off353 v210) a + S1x16.size a ≤ S100x128.size a) ∧
  (∀ a, (k0_off355 v210) a + S1x16.size a ≤ S100x128.size a)
theorem k0_off341_inb : ∀ (v210 : BitVec 32) (k0_hw22 : k0_chk22 v210), ∀ a, (k0_off341 v210) a + S1x16.size a ≤ S100x128.size a := fun v210 k0_hw22 => k0_hw22.1
theorem k0_off343_inb : ∀ (v210 : BitVec 32) (k0_hw22 : k0_chk22 v210), ∀ a, (k0_off343 v210) a + S1x16.size a ≤ S100x128.size a := fun v210 k0_hw22 => k0_hw22.2.1
theorem k0_off345_inb : ∀ (v210 : BitVec 32) (k0_hw22 : k0_chk22 v210), ∀ a, (k0_off345 v210) a + S1x16.size a ≤ S100x128.size a := fun v210 k0_hw22 => k0_hw22.2.2.1
theorem k0_off347_inb : ∀ (v210 : BitVec 32) (k0_hw22 : k0_chk22 v210), ∀ a, (k0_off347 v210) a + S1x16.size a ≤ S100x128.size a := fun v210 k0_hw22 => k0_hw22.2.2.2.1
theorem k0_off349_inb : ∀ (v210 : BitVec 32) (k0_hw22 : k0_chk22 v210), ∀ a, (k0_off349 v210) a + S1x16.size a ≤ S100x128.size a := fun v210 k0_hw22 => k0_hw22.2.2.2.2.1
theorem k0_off351_inb : ∀ (v210 : BitVec 32) (k0_hw22 : k0_chk22 v210), ∀ a, (k0_off351 v210) a + S1x16.size a ≤ S100x128.size a := fun v210 k0_hw22 => k0_hw22.2.2.2.2.2.1
theorem k0_off353_inb : ∀ (v210 : BitVec 32) (k0_hw22 : k0_chk22 v210), ∀ a, (k0_off353 v210) a + S1x16.size a ≤ S100x128.size a := fun v210 k0_hw22 => k0_hw22.2.2.2.2.2.2.1
theorem k0_off355_inb : ∀ (v210 : BitVec 32) (k0_hw22 : k0_chk22 v210), ∀ a, (k0_off355 v210) a + S1x16.size a ≤ S100x128.size a := fun v210 k0_hw22 => k0_hw22.2.2.2.2.2.2.2

def k0_off356 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_115 : BitVec 32 := 16#32
  let v211 : BitVec 32 := Scalar.muli arg16 c16_i32_115
  let c5_i32 : BitVec 32 := 5#32
  let v212 : BitVec 32 := Scalar.addi v211 c5_i32
  let v243 : Index := Scalar.indexCast v212
  let c112_131 : Index := 112#32
  ![v243.toNat, 112]
def k0_off357 (v246 : BitVec 32) : Fin 2 → Nat :=
  let v249 : Index := Scalar.indexCast v246
  let c0_133 : Index := 0#32
  ![v249.toNat, 0]

def k0_off358 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_132 : BitVec 32 := 16#32
  let v247 : BitVec 32 := Scalar.muli arg16 c16_i32_132
  let c6_i32 : BitVec 32 := 6#32
  let v248 : BitVec 32 := Scalar.addi v247 c6_i32
  let v251 : Index := Scalar.indexCast v248
  let c0_134 : Index := 0#32
  ![v251.toNat, 0]
def k0_off359 (v246 : BitVec 32) : Fin 2 → Nat :=
  let v253 : Index := Scalar.indexCast v246
  let c16_135 : Index := 16#32
  ![v253.toNat, 16]
def k0_off360 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_132 : BitVec 32 := 16#32
  let v247 : BitVec 32 := Scalar.muli arg16 c16_i32_132
  let c6_i32 : BitVec 32 := 6#32
  let v248 : BitVec 32 := Scalar.addi v247 c6_i32
  let v255 : Index := Scalar.indexCast v248
  let c16_136 : Index := 16#32
  ![v255.toNat, 16]
def k0_off361 (v246 : BitVec 32) : Fin 2 → Nat :=
  let v257 : Index := Scalar.indexCast v246
  let c32_137 : Index := 32#32
  ![v257.toNat, 32]
def k0_off362 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_132 : BitVec 32 := 16#32
  let v247 : BitVec 32 := Scalar.muli arg16 c16_i32_132
  let c6_i32 : BitVec 32 := 6#32
  let v248 : BitVec 32 := Scalar.addi v247 c6_i32
  let v259 : Index := Scalar.indexCast v248
  let c32_138 : Index := 32#32
  ![v259.toNat, 32]
def k0_off363 (v246 : BitVec 32) : Fin 2 → Nat :=
  let v261 : Index := Scalar.indexCast v246
  let c48_139 : Index := 48#32
  ![v261.toNat, 48]
def k0_off364 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_132 : BitVec 32 := 16#32
  let v247 : BitVec 32 := Scalar.muli arg16 c16_i32_132
  let c6_i32 : BitVec 32 := 6#32
  let v248 : BitVec 32 := Scalar.addi v247 c6_i32
  let v263 : Index := Scalar.indexCast v248
  let c48_140 : Index := 48#32
  ![v263.toNat, 48]
def k0_off365 (v246 : BitVec 32) : Fin 2 → Nat :=
  let v265 : Index := Scalar.indexCast v246
  let c64_141 : Index := 64#32
  ![v265.toNat, 64]
def k0_off366 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_132 : BitVec 32 := 16#32
  let v247 : BitVec 32 := Scalar.muli arg16 c16_i32_132
  let c6_i32 : BitVec 32 := 6#32
  let v248 : BitVec 32 := Scalar.addi v247 c6_i32
  let v267 : Index := Scalar.indexCast v248
  let c64_142 : Index := 64#32
  ![v267.toNat, 64]
def k0_off367 (v246 : BitVec 32) : Fin 2 → Nat :=
  let v269 : Index := Scalar.indexCast v246
  let c80_143 : Index := 80#32
  ![v269.toNat, 80]
def k0_off368 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_132 : BitVec 32 := 16#32
  let v247 : BitVec 32 := Scalar.muli arg16 c16_i32_132
  let c6_i32 : BitVec 32 := 6#32
  let v248 : BitVec 32 := Scalar.addi v247 c6_i32
  let v271 : Index := Scalar.indexCast v248
  let c80_144 : Index := 80#32
  ![v271.toNat, 80]
def k0_off369 (v246 : BitVec 32) : Fin 2 → Nat :=
  let v273 : Index := Scalar.indexCast v246
  let c96_145 : Index := 96#32
  ![v273.toNat, 96]
def k0_off370 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_132 : BitVec 32 := 16#32
  let v247 : BitVec 32 := Scalar.muli arg16 c16_i32_132
  let c6_i32 : BitVec 32 := 6#32
  let v248 : BitVec 32 := Scalar.addi v247 c6_i32
  let v275 : Index := Scalar.indexCast v248
  let c96_146 : Index := 96#32
  ![v275.toNat, 96]
def k0_off371 (v246 : BitVec 32) : Fin 2 → Nat :=
  let v277 : Index := Scalar.indexCast v246
  let c112_147 : Index := 112#32
  ![v277.toNat, 112]

def k0_chk23 (v246 : BitVec 32) : Prop :=
  (∀ a, (k0_off357 v246) a + S1x16.size a ≤ S100x128.size a) ∧
  (∀ a, (k0_off359 v246) a + S1x16.size a ≤ S100x128.size a) ∧
  (∀ a, (k0_off361 v246) a + S1x16.size a ≤ S100x128.size a) ∧
  (∀ a, (k0_off363 v246) a + S1x16.size a ≤ S100x128.size a) ∧
  (∀ a, (k0_off365 v246) a + S1x16.size a ≤ S100x128.size a) ∧
  (∀ a, (k0_off367 v246) a + S1x16.size a ≤ S100x128.size a) ∧
  (∀ a, (k0_off369 v246) a + S1x16.size a ≤ S100x128.size a) ∧
  (∀ a, (k0_off371 v246) a + S1x16.size a ≤ S100x128.size a)
theorem k0_off357_inb : ∀ (v246 : BitVec 32) (k0_hw23 : k0_chk23 v246), ∀ a, (k0_off357 v246) a + S1x16.size a ≤ S100x128.size a := fun v246 k0_hw23 => k0_hw23.1
theorem k0_off359_inb : ∀ (v246 : BitVec 32) (k0_hw23 : k0_chk23 v246), ∀ a, (k0_off359 v246) a + S1x16.size a ≤ S100x128.size a := fun v246 k0_hw23 => k0_hw23.2.1
theorem k0_off361_inb : ∀ (v246 : BitVec 32) (k0_hw23 : k0_chk23 v246), ∀ a, (k0_off361 v246) a + S1x16.size a ≤ S100x128.size a := fun v246 k0_hw23 => k0_hw23.2.2.1
theorem k0_off363_inb : ∀ (v246 : BitVec 32) (k0_hw23 : k0_chk23 v246), ∀ a, (k0_off363 v246) a + S1x16.size a ≤ S100x128.size a := fun v246 k0_hw23 => k0_hw23.2.2.2.1
theorem k0_off365_inb : ∀ (v246 : BitVec 32) (k0_hw23 : k0_chk23 v246), ∀ a, (k0_off365 v246) a + S1x16.size a ≤ S100x128.size a := fun v246 k0_hw23 => k0_hw23.2.2.2.2.1
theorem k0_off367_inb : ∀ (v246 : BitVec 32) (k0_hw23 : k0_chk23 v246), ∀ a, (k0_off367 v246) a + S1x16.size a ≤ S100x128.size a := fun v246 k0_hw23 => k0_hw23.2.2.2.2.2.1
theorem k0_off369_inb : ∀ (v246 : BitVec 32) (k0_hw23 : k0_chk23 v246), ∀ a, (k0_off369 v246) a + S1x16.size a ≤ S100x128.size a := fun v246 k0_hw23 => k0_hw23.2.2.2.2.2.2.1
theorem k0_off371_inb : ∀ (v246 : BitVec 32) (k0_hw23 : k0_chk23 v246), ∀ a, (k0_off371 v246) a + S1x16.size a ≤ S100x128.size a := fun v246 k0_hw23 => k0_hw23.2.2.2.2.2.2.2

def k0_off372 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_132 : BitVec 32 := 16#32
  let v247 : BitVec 32 := Scalar.muli arg16 c16_i32_132
  let c6_i32 : BitVec 32 := 6#32
  let v248 : BitVec 32 := Scalar.addi v247 c6_i32
  let v279 : Index := Scalar.indexCast v248
  let c112_148 : Index := 112#32
  ![v279.toNat, 112]
def k0_off373 (v282 : BitVec 32) : Fin 2 → Nat :=
  let v285 : Index := Scalar.indexCast v282
  let c0_150 : Index := 0#32
  ![v285.toNat, 0]

def k0_off374 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_149 : BitVec 32 := 16#32
  let v283 : BitVec 32 := Scalar.muli arg16 c16_i32_149
  let c7_i32 : BitVec 32 := 7#32
  let v284 : BitVec 32 := Scalar.addi v283 c7_i32
  let v287 : Index := Scalar.indexCast v284
  let c0_151 : Index := 0#32
  ![v287.toNat, 0]
def k0_off375 (v282 : BitVec 32) : Fin 2 → Nat :=
  let v289 : Index := Scalar.indexCast v282
  let c16_152 : Index := 16#32
  ![v289.toNat, 16]
def k0_off376 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_149 : BitVec 32 := 16#32
  let v283 : BitVec 32 := Scalar.muli arg16 c16_i32_149
  let c7_i32 : BitVec 32 := 7#32
  let v284 : BitVec 32 := Scalar.addi v283 c7_i32
  let v291 : Index := Scalar.indexCast v284
  let c16_153 : Index := 16#32
  ![v291.toNat, 16]
def k0_off377 (v282 : BitVec 32) : Fin 2 → Nat :=
  let v293 : Index := Scalar.indexCast v282
  let c32_154 : Index := 32#32
  ![v293.toNat, 32]
def k0_off378 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_149 : BitVec 32 := 16#32
  let v283 : BitVec 32 := Scalar.muli arg16 c16_i32_149
  let c7_i32 : BitVec 32 := 7#32
  let v284 : BitVec 32 := Scalar.addi v283 c7_i32
  let v295 : Index := Scalar.indexCast v284
  let c32_155 : Index := 32#32
  ![v295.toNat, 32]
def k0_off379 (v282 : BitVec 32) : Fin 2 → Nat :=
  let v297 : Index := Scalar.indexCast v282
  let c48_156 : Index := 48#32
  ![v297.toNat, 48]
def k0_off380 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_149 : BitVec 32 := 16#32
  let v283 : BitVec 32 := Scalar.muli arg16 c16_i32_149
  let c7_i32 : BitVec 32 := 7#32
  let v284 : BitVec 32 := Scalar.addi v283 c7_i32
  let v299 : Index := Scalar.indexCast v284
  let c48_157 : Index := 48#32
  ![v299.toNat, 48]
def k0_off381 (v282 : BitVec 32) : Fin 2 → Nat :=
  let v301 : Index := Scalar.indexCast v282
  let c64_158 : Index := 64#32
  ![v301.toNat, 64]
def k0_off382 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_149 : BitVec 32 := 16#32
  let v283 : BitVec 32 := Scalar.muli arg16 c16_i32_149
  let c7_i32 : BitVec 32 := 7#32
  let v284 : BitVec 32 := Scalar.addi v283 c7_i32
  let v303 : Index := Scalar.indexCast v284
  let c64_159 : Index := 64#32
  ![v303.toNat, 64]
def k0_off383 (v282 : BitVec 32) : Fin 2 → Nat :=
  let v305 : Index := Scalar.indexCast v282
  let c80_160 : Index := 80#32
  ![v305.toNat, 80]
def k0_off384 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_149 : BitVec 32 := 16#32
  let v283 : BitVec 32 := Scalar.muli arg16 c16_i32_149
  let c7_i32 : BitVec 32 := 7#32
  let v284 : BitVec 32 := Scalar.addi v283 c7_i32
  let v307 : Index := Scalar.indexCast v284
  let c80_161 : Index := 80#32
  ![v307.toNat, 80]
def k0_off385 (v282 : BitVec 32) : Fin 2 → Nat :=
  let v309 : Index := Scalar.indexCast v282
  let c96_162 : Index := 96#32
  ![v309.toNat, 96]
def k0_off386 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_149 : BitVec 32 := 16#32
  let v283 : BitVec 32 := Scalar.muli arg16 c16_i32_149
  let c7_i32 : BitVec 32 := 7#32
  let v284 : BitVec 32 := Scalar.addi v283 c7_i32
  let v311 : Index := Scalar.indexCast v284
  let c96_163 : Index := 96#32
  ![v311.toNat, 96]
def k0_off387 (v282 : BitVec 32) : Fin 2 → Nat :=
  let v313 : Index := Scalar.indexCast v282
  let c112_164 : Index := 112#32
  ![v313.toNat, 112]

def k0_chk24 (v282 : BitVec 32) : Prop :=
  (∀ a, (k0_off373 v282) a + S1x16.size a ≤ S100x128.size a) ∧
  (∀ a, (k0_off375 v282) a + S1x16.size a ≤ S100x128.size a) ∧
  (∀ a, (k0_off377 v282) a + S1x16.size a ≤ S100x128.size a) ∧
  (∀ a, (k0_off379 v282) a + S1x16.size a ≤ S100x128.size a) ∧
  (∀ a, (k0_off381 v282) a + S1x16.size a ≤ S100x128.size a) ∧
  (∀ a, (k0_off383 v282) a + S1x16.size a ≤ S100x128.size a) ∧
  (∀ a, (k0_off385 v282) a + S1x16.size a ≤ S100x128.size a) ∧
  (∀ a, (k0_off387 v282) a + S1x16.size a ≤ S100x128.size a)
theorem k0_off373_inb : ∀ (v282 : BitVec 32) (k0_hw24 : k0_chk24 v282), ∀ a, (k0_off373 v282) a + S1x16.size a ≤ S100x128.size a := fun v282 k0_hw24 => k0_hw24.1
theorem k0_off375_inb : ∀ (v282 : BitVec 32) (k0_hw24 : k0_chk24 v282), ∀ a, (k0_off375 v282) a + S1x16.size a ≤ S100x128.size a := fun v282 k0_hw24 => k0_hw24.2.1
theorem k0_off377_inb : ∀ (v282 : BitVec 32) (k0_hw24 : k0_chk24 v282), ∀ a, (k0_off377 v282) a + S1x16.size a ≤ S100x128.size a := fun v282 k0_hw24 => k0_hw24.2.2.1
theorem k0_off379_inb : ∀ (v282 : BitVec 32) (k0_hw24 : k0_chk24 v282), ∀ a, (k0_off379 v282) a + S1x16.size a ≤ S100x128.size a := fun v282 k0_hw24 => k0_hw24.2.2.2.1
theorem k0_off381_inb : ∀ (v282 : BitVec 32) (k0_hw24 : k0_chk24 v282), ∀ a, (k0_off381 v282) a + S1x16.size a ≤ S100x128.size a := fun v282 k0_hw24 => k0_hw24.2.2.2.2.1
theorem k0_off383_inb : ∀ (v282 : BitVec 32) (k0_hw24 : k0_chk24 v282), ∀ a, (k0_off383 v282) a + S1x16.size a ≤ S100x128.size a := fun v282 k0_hw24 => k0_hw24.2.2.2.2.2.1
theorem k0_off385_inb : ∀ (v282 : BitVec 32) (k0_hw24 : k0_chk24 v282), ∀ a, (k0_off385 v282) a + S1x16.size a ≤ S100x128.size a := fun v282 k0_hw24 => k0_hw24.2.2.2.2.2.2.1
theorem k0_off387_inb : ∀ (v282 : BitVec 32) (k0_hw24 : k0_chk24 v282), ∀ a, (k0_off387 v282) a + S1x16.size a ≤ S100x128.size a := fun v282 k0_hw24 => k0_hw24.2.2.2.2.2.2.2

def k0_off388 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_149 : BitVec 32 := 16#32
  let v283 : BitVec 32 := Scalar.muli arg16 c16_i32_149
  let c7_i32 : BitVec 32 := 7#32
  let v284 : BitVec 32 := Scalar.addi v283 c7_i32
  let v315 : Index := Scalar.indexCast v284
  let c112_165 : Index := 112#32
  ![v315.toNat, 112]
def k0_off389 (v318 : BitVec 32) : Fin 2 → Nat :=
  let v321 : Index := Scalar.indexCast v318
  let c0_168 : Index := 0#32
  ![v321.toNat, 0]

def k0_off390 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_166 : BitVec 32 := 16#32
  let v319 : BitVec 32 := Scalar.muli arg16 c16_i32_166
  let c8_i32_167 : BitVec 32 := 8#32
  let v320 : BitVec 32 := Scalar.addi v319 c8_i32_167
  let v323 : Index := Scalar.indexCast v320
  let c0_169 : Index := 0#32
  ![v323.toNat, 0]
def k0_off391 (v318 : BitVec 32) : Fin 2 → Nat :=
  let v325 : Index := Scalar.indexCast v318
  let c16_170 : Index := 16#32
  ![v325.toNat, 16]
def k0_off392 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_166 : BitVec 32 := 16#32
  let v319 : BitVec 32 := Scalar.muli arg16 c16_i32_166
  let c8_i32_167 : BitVec 32 := 8#32
  let v320 : BitVec 32 := Scalar.addi v319 c8_i32_167
  let v327 : Index := Scalar.indexCast v320
  let c16_171 : Index := 16#32
  ![v327.toNat, 16]
def k0_off393 (v318 : BitVec 32) : Fin 2 → Nat :=
  let v329 : Index := Scalar.indexCast v318
  let c32_172 : Index := 32#32
  ![v329.toNat, 32]
def k0_off394 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_166 : BitVec 32 := 16#32
  let v319 : BitVec 32 := Scalar.muli arg16 c16_i32_166
  let c8_i32_167 : BitVec 32 := 8#32
  let v320 : BitVec 32 := Scalar.addi v319 c8_i32_167
  let v331 : Index := Scalar.indexCast v320
  let c32_173 : Index := 32#32
  ![v331.toNat, 32]
def k0_off395 (v318 : BitVec 32) : Fin 2 → Nat :=
  let v333 : Index := Scalar.indexCast v318
  let c48_174 : Index := 48#32
  ![v333.toNat, 48]
def k0_off396 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_166 : BitVec 32 := 16#32
  let v319 : BitVec 32 := Scalar.muli arg16 c16_i32_166
  let c8_i32_167 : BitVec 32 := 8#32
  let v320 : BitVec 32 := Scalar.addi v319 c8_i32_167
  let v335 : Index := Scalar.indexCast v320
  let c48_175 : Index := 48#32
  ![v335.toNat, 48]
def k0_off397 (v318 : BitVec 32) : Fin 2 → Nat :=
  let v337 : Index := Scalar.indexCast v318
  let c64_176 : Index := 64#32
  ![v337.toNat, 64]
def k0_off398 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_166 : BitVec 32 := 16#32
  let v319 : BitVec 32 := Scalar.muli arg16 c16_i32_166
  let c8_i32_167 : BitVec 32 := 8#32
  let v320 : BitVec 32 := Scalar.addi v319 c8_i32_167
  let v339 : Index := Scalar.indexCast v320
  let c64_177 : Index := 64#32
  ![v339.toNat, 64]
def k0_off399 (v318 : BitVec 32) : Fin 2 → Nat :=
  let v341 : Index := Scalar.indexCast v318
  let c80_178 : Index := 80#32
  ![v341.toNat, 80]
def k0_off400 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_166 : BitVec 32 := 16#32
  let v319 : BitVec 32 := Scalar.muli arg16 c16_i32_166
  let c8_i32_167 : BitVec 32 := 8#32
  let v320 : BitVec 32 := Scalar.addi v319 c8_i32_167
  let v343 : Index := Scalar.indexCast v320
  let c80_179 : Index := 80#32
  ![v343.toNat, 80]
def k0_off401 (v318 : BitVec 32) : Fin 2 → Nat :=
  let v345 : Index := Scalar.indexCast v318
  let c96_180 : Index := 96#32
  ![v345.toNat, 96]
def k0_off402 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_166 : BitVec 32 := 16#32
  let v319 : BitVec 32 := Scalar.muli arg16 c16_i32_166
  let c8_i32_167 : BitVec 32 := 8#32
  let v320 : BitVec 32 := Scalar.addi v319 c8_i32_167
  let v347 : Index := Scalar.indexCast v320
  let c96_181 : Index := 96#32
  ![v347.toNat, 96]
def k0_off403 (v318 : BitVec 32) : Fin 2 → Nat :=
  let v349 : Index := Scalar.indexCast v318
  let c112_182 : Index := 112#32
  ![v349.toNat, 112]

def k0_chk25 (v318 : BitVec 32) : Prop :=
  (∀ a, (k0_off389 v318) a + S1x16.size a ≤ S100x128.size a) ∧
  (∀ a, (k0_off391 v318) a + S1x16.size a ≤ S100x128.size a) ∧
  (∀ a, (k0_off393 v318) a + S1x16.size a ≤ S100x128.size a) ∧
  (∀ a, (k0_off395 v318) a + S1x16.size a ≤ S100x128.size a) ∧
  (∀ a, (k0_off397 v318) a + S1x16.size a ≤ S100x128.size a) ∧
  (∀ a, (k0_off399 v318) a + S1x16.size a ≤ S100x128.size a) ∧
  (∀ a, (k0_off401 v318) a + S1x16.size a ≤ S100x128.size a) ∧
  (∀ a, (k0_off403 v318) a + S1x16.size a ≤ S100x128.size a)
theorem k0_off389_inb : ∀ (v318 : BitVec 32) (k0_hw25 : k0_chk25 v318), ∀ a, (k0_off389 v318) a + S1x16.size a ≤ S100x128.size a := fun v318 k0_hw25 => k0_hw25.1
theorem k0_off391_inb : ∀ (v318 : BitVec 32) (k0_hw25 : k0_chk25 v318), ∀ a, (k0_off391 v318) a + S1x16.size a ≤ S100x128.size a := fun v318 k0_hw25 => k0_hw25.2.1
theorem k0_off393_inb : ∀ (v318 : BitVec 32) (k0_hw25 : k0_chk25 v318), ∀ a, (k0_off393 v318) a + S1x16.size a ≤ S100x128.size a := fun v318 k0_hw25 => k0_hw25.2.2.1
theorem k0_off395_inb : ∀ (v318 : BitVec 32) (k0_hw25 : k0_chk25 v318), ∀ a, (k0_off395 v318) a + S1x16.size a ≤ S100x128.size a := fun v318 k0_hw25 => k0_hw25.2.2.2.1
theorem k0_off397_inb : ∀ (v318 : BitVec 32) (k0_hw25 : k0_chk25 v318), ∀ a, (k0_off397 v318) a + S1x16.size a ≤ S100x128.size a := fun v318 k0_hw25 => k0_hw25.2.2.2.2.1
theorem k0_off399_inb : ∀ (v318 : BitVec 32) (k0_hw25 : k0_chk25 v318), ∀ a, (k0_off399 v318) a + S1x16.size a ≤ S100x128.size a := fun v318 k0_hw25 => k0_hw25.2.2.2.2.2.1
theorem k0_off401_inb : ∀ (v318 : BitVec 32) (k0_hw25 : k0_chk25 v318), ∀ a, (k0_off401 v318) a + S1x16.size a ≤ S100x128.size a := fun v318 k0_hw25 => k0_hw25.2.2.2.2.2.2.1
theorem k0_off403_inb : ∀ (v318 : BitVec 32) (k0_hw25 : k0_chk25 v318), ∀ a, (k0_off403 v318) a + S1x16.size a ≤ S100x128.size a := fun v318 k0_hw25 => k0_hw25.2.2.2.2.2.2.2

def k0_off404 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_166 : BitVec 32 := 16#32
  let v319 : BitVec 32 := Scalar.muli arg16 c16_i32_166
  let c8_i32_167 : BitVec 32 := 8#32
  let v320 : BitVec 32 := Scalar.addi v319 c8_i32_167
  let v351 : Index := Scalar.indexCast v320
  let c112_183 : Index := 112#32
  ![v351.toNat, 112]
def k0_off405 (v354 : BitVec 32) : Fin 2 → Nat :=
  let v357 : Index := Scalar.indexCast v354
  let c0_185 : Index := 0#32
  ![v357.toNat, 0]

def k0_off406 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_184 : BitVec 32 := 16#32
  let v355 : BitVec 32 := Scalar.muli arg16 c16_i32_184
  let c9_i32 : BitVec 32 := 9#32
  let v356 : BitVec 32 := Scalar.addi v355 c9_i32
  let v359 : Index := Scalar.indexCast v356
  let c0_186 : Index := 0#32
  ![v359.toNat, 0]
def k0_off407 (v354 : BitVec 32) : Fin 2 → Nat :=
  let v361 : Index := Scalar.indexCast v354
  let c16_187 : Index := 16#32
  ![v361.toNat, 16]
def k0_off408 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_184 : BitVec 32 := 16#32
  let v355 : BitVec 32 := Scalar.muli arg16 c16_i32_184
  let c9_i32 : BitVec 32 := 9#32
  let v356 : BitVec 32 := Scalar.addi v355 c9_i32
  let v363 : Index := Scalar.indexCast v356
  let c16_188 : Index := 16#32
  ![v363.toNat, 16]
def k0_off409 (v354 : BitVec 32) : Fin 2 → Nat :=
  let v365 : Index := Scalar.indexCast v354
  let c32_189 : Index := 32#32
  ![v365.toNat, 32]
def k0_off410 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_184 : BitVec 32 := 16#32
  let v355 : BitVec 32 := Scalar.muli arg16 c16_i32_184
  let c9_i32 : BitVec 32 := 9#32
  let v356 : BitVec 32 := Scalar.addi v355 c9_i32
  let v367 : Index := Scalar.indexCast v356
  let c32_190 : Index := 32#32
  ![v367.toNat, 32]
def k0_off411 (v354 : BitVec 32) : Fin 2 → Nat :=
  let v369 : Index := Scalar.indexCast v354
  let c48_191 : Index := 48#32
  ![v369.toNat, 48]
def k0_off412 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_184 : BitVec 32 := 16#32
  let v355 : BitVec 32 := Scalar.muli arg16 c16_i32_184
  let c9_i32 : BitVec 32 := 9#32
  let v356 : BitVec 32 := Scalar.addi v355 c9_i32
  let v371 : Index := Scalar.indexCast v356
  let c48_192 : Index := 48#32
  ![v371.toNat, 48]
def k0_off413 (v354 : BitVec 32) : Fin 2 → Nat :=
  let v373 : Index := Scalar.indexCast v354
  let c64_193 : Index := 64#32
  ![v373.toNat, 64]
def k0_off414 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_184 : BitVec 32 := 16#32
  let v355 : BitVec 32 := Scalar.muli arg16 c16_i32_184
  let c9_i32 : BitVec 32 := 9#32
  let v356 : BitVec 32 := Scalar.addi v355 c9_i32
  let v375 : Index := Scalar.indexCast v356
  let c64_194 : Index := 64#32
  ![v375.toNat, 64]
def k0_off415 (v354 : BitVec 32) : Fin 2 → Nat :=
  let v377 : Index := Scalar.indexCast v354
  let c80_195 : Index := 80#32
  ![v377.toNat, 80]
def k0_off416 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_184 : BitVec 32 := 16#32
  let v355 : BitVec 32 := Scalar.muli arg16 c16_i32_184
  let c9_i32 : BitVec 32 := 9#32
  let v356 : BitVec 32 := Scalar.addi v355 c9_i32
  let v379 : Index := Scalar.indexCast v356
  let c80_196 : Index := 80#32
  ![v379.toNat, 80]
def k0_off417 (v354 : BitVec 32) : Fin 2 → Nat :=
  let v381 : Index := Scalar.indexCast v354
  let c96_197 : Index := 96#32
  ![v381.toNat, 96]
def k0_off418 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_184 : BitVec 32 := 16#32
  let v355 : BitVec 32 := Scalar.muli arg16 c16_i32_184
  let c9_i32 : BitVec 32 := 9#32
  let v356 : BitVec 32 := Scalar.addi v355 c9_i32
  let v383 : Index := Scalar.indexCast v356
  let c96_198 : Index := 96#32
  ![v383.toNat, 96]
def k0_off419 (v354 : BitVec 32) : Fin 2 → Nat :=
  let v385 : Index := Scalar.indexCast v354
  let c112_199 : Index := 112#32
  ![v385.toNat, 112]

def k0_chk26 (v354 : BitVec 32) : Prop :=
  (∀ a, (k0_off405 v354) a + S1x16.size a ≤ S100x128.size a) ∧
  (∀ a, (k0_off407 v354) a + S1x16.size a ≤ S100x128.size a) ∧
  (∀ a, (k0_off409 v354) a + S1x16.size a ≤ S100x128.size a) ∧
  (∀ a, (k0_off411 v354) a + S1x16.size a ≤ S100x128.size a) ∧
  (∀ a, (k0_off413 v354) a + S1x16.size a ≤ S100x128.size a) ∧
  (∀ a, (k0_off415 v354) a + S1x16.size a ≤ S100x128.size a) ∧
  (∀ a, (k0_off417 v354) a + S1x16.size a ≤ S100x128.size a) ∧
  (∀ a, (k0_off419 v354) a + S1x16.size a ≤ S100x128.size a)
theorem k0_off405_inb : ∀ (v354 : BitVec 32) (k0_hw26 : k0_chk26 v354), ∀ a, (k0_off405 v354) a + S1x16.size a ≤ S100x128.size a := fun v354 k0_hw26 => k0_hw26.1
theorem k0_off407_inb : ∀ (v354 : BitVec 32) (k0_hw26 : k0_chk26 v354), ∀ a, (k0_off407 v354) a + S1x16.size a ≤ S100x128.size a := fun v354 k0_hw26 => k0_hw26.2.1
theorem k0_off409_inb : ∀ (v354 : BitVec 32) (k0_hw26 : k0_chk26 v354), ∀ a, (k0_off409 v354) a + S1x16.size a ≤ S100x128.size a := fun v354 k0_hw26 => k0_hw26.2.2.1
theorem k0_off411_inb : ∀ (v354 : BitVec 32) (k0_hw26 : k0_chk26 v354), ∀ a, (k0_off411 v354) a + S1x16.size a ≤ S100x128.size a := fun v354 k0_hw26 => k0_hw26.2.2.2.1
theorem k0_off413_inb : ∀ (v354 : BitVec 32) (k0_hw26 : k0_chk26 v354), ∀ a, (k0_off413 v354) a + S1x16.size a ≤ S100x128.size a := fun v354 k0_hw26 => k0_hw26.2.2.2.2.1
theorem k0_off415_inb : ∀ (v354 : BitVec 32) (k0_hw26 : k0_chk26 v354), ∀ a, (k0_off415 v354) a + S1x16.size a ≤ S100x128.size a := fun v354 k0_hw26 => k0_hw26.2.2.2.2.2.1
theorem k0_off417_inb : ∀ (v354 : BitVec 32) (k0_hw26 : k0_chk26 v354), ∀ a, (k0_off417 v354) a + S1x16.size a ≤ S100x128.size a := fun v354 k0_hw26 => k0_hw26.2.2.2.2.2.2.1
theorem k0_off419_inb : ∀ (v354 : BitVec 32) (k0_hw26 : k0_chk26 v354), ∀ a, (k0_off419 v354) a + S1x16.size a ≤ S100x128.size a := fun v354 k0_hw26 => k0_hw26.2.2.2.2.2.2.2

def k0_off420 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_184 : BitVec 32 := 16#32
  let v355 : BitVec 32 := Scalar.muli arg16 c16_i32_184
  let c9_i32 : BitVec 32 := 9#32
  let v356 : BitVec 32 := Scalar.addi v355 c9_i32
  let v387 : Index := Scalar.indexCast v356
  let c112_200 : Index := 112#32
  ![v387.toNat, 112]
def k0_off421 (v390 : BitVec 32) : Fin 2 → Nat :=
  let v393 : Index := Scalar.indexCast v390
  let c0_202 : Index := 0#32
  ![v393.toNat, 0]

def k0_off422 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_201 : BitVec 32 := 16#32
  let v391 : BitVec 32 := Scalar.muli arg16 c16_i32_201
  let c10_i32 : BitVec 32 := 10#32
  let v392 : BitVec 32 := Scalar.addi v391 c10_i32
  let v395 : Index := Scalar.indexCast v392
  let c0_203 : Index := 0#32
  ![v395.toNat, 0]
def k0_off423 (v390 : BitVec 32) : Fin 2 → Nat :=
  let v397 : Index := Scalar.indexCast v390
  let c16_204 : Index := 16#32
  ![v397.toNat, 16]
def k0_off424 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_201 : BitVec 32 := 16#32
  let v391 : BitVec 32 := Scalar.muli arg16 c16_i32_201
  let c10_i32 : BitVec 32 := 10#32
  let v392 : BitVec 32 := Scalar.addi v391 c10_i32
  let v399 : Index := Scalar.indexCast v392
  let c16_205 : Index := 16#32
  ![v399.toNat, 16]
def k0_off425 (v390 : BitVec 32) : Fin 2 → Nat :=
  let v401 : Index := Scalar.indexCast v390
  let c32_206 : Index := 32#32
  ![v401.toNat, 32]
def k0_off426 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_201 : BitVec 32 := 16#32
  let v391 : BitVec 32 := Scalar.muli arg16 c16_i32_201
  let c10_i32 : BitVec 32 := 10#32
  let v392 : BitVec 32 := Scalar.addi v391 c10_i32
  let v403 : Index := Scalar.indexCast v392
  let c32_207 : Index := 32#32
  ![v403.toNat, 32]
def k0_off427 (v390 : BitVec 32) : Fin 2 → Nat :=
  let v405 : Index := Scalar.indexCast v390
  let c48_208 : Index := 48#32
  ![v405.toNat, 48]
def k0_off428 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_201 : BitVec 32 := 16#32
  let v391 : BitVec 32 := Scalar.muli arg16 c16_i32_201
  let c10_i32 : BitVec 32 := 10#32
  let v392 : BitVec 32 := Scalar.addi v391 c10_i32
  let v407 : Index := Scalar.indexCast v392
  let c48_209 : Index := 48#32
  ![v407.toNat, 48]
def k0_off429 (v390 : BitVec 32) : Fin 2 → Nat :=
  let v409 : Index := Scalar.indexCast v390
  let c64_210 : Index := 64#32
  ![v409.toNat, 64]
def k0_off430 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_201 : BitVec 32 := 16#32
  let v391 : BitVec 32 := Scalar.muli arg16 c16_i32_201
  let c10_i32 : BitVec 32 := 10#32
  let v392 : BitVec 32 := Scalar.addi v391 c10_i32
  let v411 : Index := Scalar.indexCast v392
  let c64_211 : Index := 64#32
  ![v411.toNat, 64]
def k0_off431 (v390 : BitVec 32) : Fin 2 → Nat :=
  let v413 : Index := Scalar.indexCast v390
  let c80_212 : Index := 80#32
  ![v413.toNat, 80]
def k0_off432 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_201 : BitVec 32 := 16#32
  let v391 : BitVec 32 := Scalar.muli arg16 c16_i32_201
  let c10_i32 : BitVec 32 := 10#32
  let v392 : BitVec 32 := Scalar.addi v391 c10_i32
  let v415 : Index := Scalar.indexCast v392
  let c80_213 : Index := 80#32
  ![v415.toNat, 80]
def k0_off433 (v390 : BitVec 32) : Fin 2 → Nat :=
  let v417 : Index := Scalar.indexCast v390
  let c96_214 : Index := 96#32
  ![v417.toNat, 96]
def k0_off434 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_201 : BitVec 32 := 16#32
  let v391 : BitVec 32 := Scalar.muli arg16 c16_i32_201
  let c10_i32 : BitVec 32 := 10#32
  let v392 : BitVec 32 := Scalar.addi v391 c10_i32
  let v419 : Index := Scalar.indexCast v392
  let c96_215 : Index := 96#32
  ![v419.toNat, 96]
def k0_off435 (v390 : BitVec 32) : Fin 2 → Nat :=
  let v421 : Index := Scalar.indexCast v390
  let c112_216 : Index := 112#32
  ![v421.toNat, 112]

def k0_chk27 (v390 : BitVec 32) : Prop :=
  (∀ a, (k0_off421 v390) a + S1x16.size a ≤ S100x128.size a) ∧
  (∀ a, (k0_off423 v390) a + S1x16.size a ≤ S100x128.size a) ∧
  (∀ a, (k0_off425 v390) a + S1x16.size a ≤ S100x128.size a) ∧
  (∀ a, (k0_off427 v390) a + S1x16.size a ≤ S100x128.size a) ∧
  (∀ a, (k0_off429 v390) a + S1x16.size a ≤ S100x128.size a) ∧
  (∀ a, (k0_off431 v390) a + S1x16.size a ≤ S100x128.size a) ∧
  (∀ a, (k0_off433 v390) a + S1x16.size a ≤ S100x128.size a) ∧
  (∀ a, (k0_off435 v390) a + S1x16.size a ≤ S100x128.size a)
theorem k0_off421_inb : ∀ (v390 : BitVec 32) (k0_hw27 : k0_chk27 v390), ∀ a, (k0_off421 v390) a + S1x16.size a ≤ S100x128.size a := fun v390 k0_hw27 => k0_hw27.1
theorem k0_off423_inb : ∀ (v390 : BitVec 32) (k0_hw27 : k0_chk27 v390), ∀ a, (k0_off423 v390) a + S1x16.size a ≤ S100x128.size a := fun v390 k0_hw27 => k0_hw27.2.1
theorem k0_off425_inb : ∀ (v390 : BitVec 32) (k0_hw27 : k0_chk27 v390), ∀ a, (k0_off425 v390) a + S1x16.size a ≤ S100x128.size a := fun v390 k0_hw27 => k0_hw27.2.2.1
theorem k0_off427_inb : ∀ (v390 : BitVec 32) (k0_hw27 : k0_chk27 v390), ∀ a, (k0_off427 v390) a + S1x16.size a ≤ S100x128.size a := fun v390 k0_hw27 => k0_hw27.2.2.2.1
theorem k0_off429_inb : ∀ (v390 : BitVec 32) (k0_hw27 : k0_chk27 v390), ∀ a, (k0_off429 v390) a + S1x16.size a ≤ S100x128.size a := fun v390 k0_hw27 => k0_hw27.2.2.2.2.1
theorem k0_off431_inb : ∀ (v390 : BitVec 32) (k0_hw27 : k0_chk27 v390), ∀ a, (k0_off431 v390) a + S1x16.size a ≤ S100x128.size a := fun v390 k0_hw27 => k0_hw27.2.2.2.2.2.1
theorem k0_off433_inb : ∀ (v390 : BitVec 32) (k0_hw27 : k0_chk27 v390), ∀ a, (k0_off433 v390) a + S1x16.size a ≤ S100x128.size a := fun v390 k0_hw27 => k0_hw27.2.2.2.2.2.2.1
theorem k0_off435_inb : ∀ (v390 : BitVec 32) (k0_hw27 : k0_chk27 v390), ∀ a, (k0_off435 v390) a + S1x16.size a ≤ S100x128.size a := fun v390 k0_hw27 => k0_hw27.2.2.2.2.2.2.2

def k0_off436 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_201 : BitVec 32 := 16#32
  let v391 : BitVec 32 := Scalar.muli arg16 c16_i32_201
  let c10_i32 : BitVec 32 := 10#32
  let v392 : BitVec 32 := Scalar.addi v391 c10_i32
  let v423 : Index := Scalar.indexCast v392
  let c112_217 : Index := 112#32
  ![v423.toNat, 112]
def k0_off437 (v426 : BitVec 32) : Fin 2 → Nat :=
  let v429 : Index := Scalar.indexCast v426
  let c0_219 : Index := 0#32
  ![v429.toNat, 0]

def k0_off438 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_218 : BitVec 32 := 16#32
  let v427 : BitVec 32 := Scalar.muli arg16 c16_i32_218
  let c11_i32 : BitVec 32 := 11#32
  let v428 : BitVec 32 := Scalar.addi v427 c11_i32
  let v431 : Index := Scalar.indexCast v428
  let c0_220 : Index := 0#32
  ![v431.toNat, 0]
def k0_off439 (v426 : BitVec 32) : Fin 2 → Nat :=
  let v433 : Index := Scalar.indexCast v426
  let c16_221 : Index := 16#32
  ![v433.toNat, 16]
def k0_off440 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_218 : BitVec 32 := 16#32
  let v427 : BitVec 32 := Scalar.muli arg16 c16_i32_218
  let c11_i32 : BitVec 32 := 11#32
  let v428 : BitVec 32 := Scalar.addi v427 c11_i32
  let v435 : Index := Scalar.indexCast v428
  let c16_222 : Index := 16#32
  ![v435.toNat, 16]
def k0_off441 (v426 : BitVec 32) : Fin 2 → Nat :=
  let v437 : Index := Scalar.indexCast v426
  let c32_223 : Index := 32#32
  ![v437.toNat, 32]
def k0_off442 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_218 : BitVec 32 := 16#32
  let v427 : BitVec 32 := Scalar.muli arg16 c16_i32_218
  let c11_i32 : BitVec 32 := 11#32
  let v428 : BitVec 32 := Scalar.addi v427 c11_i32
  let v439 : Index := Scalar.indexCast v428
  let c32_224 : Index := 32#32
  ![v439.toNat, 32]
def k0_off443 (v426 : BitVec 32) : Fin 2 → Nat :=
  let v441 : Index := Scalar.indexCast v426
  let c48_225 : Index := 48#32
  ![v441.toNat, 48]
def k0_off444 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_218 : BitVec 32 := 16#32
  let v427 : BitVec 32 := Scalar.muli arg16 c16_i32_218
  let c11_i32 : BitVec 32 := 11#32
  let v428 : BitVec 32 := Scalar.addi v427 c11_i32
  let v443 : Index := Scalar.indexCast v428
  let c48_226 : Index := 48#32
  ![v443.toNat, 48]
def k0_off445 (v426 : BitVec 32) : Fin 2 → Nat :=
  let v445 : Index := Scalar.indexCast v426
  let c64_227 : Index := 64#32
  ![v445.toNat, 64]
def k0_off446 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_218 : BitVec 32 := 16#32
  let v427 : BitVec 32 := Scalar.muli arg16 c16_i32_218
  let c11_i32 : BitVec 32 := 11#32
  let v428 : BitVec 32 := Scalar.addi v427 c11_i32
  let v447 : Index := Scalar.indexCast v428
  let c64_228 : Index := 64#32
  ![v447.toNat, 64]
def k0_off447 (v426 : BitVec 32) : Fin 2 → Nat :=
  let v449 : Index := Scalar.indexCast v426
  let c80_229 : Index := 80#32
  ![v449.toNat, 80]
def k0_off448 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_218 : BitVec 32 := 16#32
  let v427 : BitVec 32 := Scalar.muli arg16 c16_i32_218
  let c11_i32 : BitVec 32 := 11#32
  let v428 : BitVec 32 := Scalar.addi v427 c11_i32
  let v451 : Index := Scalar.indexCast v428
  let c80_230 : Index := 80#32
  ![v451.toNat, 80]
def k0_off449 (v426 : BitVec 32) : Fin 2 → Nat :=
  let v453 : Index := Scalar.indexCast v426
  let c96_231 : Index := 96#32
  ![v453.toNat, 96]
def k0_off450 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_218 : BitVec 32 := 16#32
  let v427 : BitVec 32 := Scalar.muli arg16 c16_i32_218
  let c11_i32 : BitVec 32 := 11#32
  let v428 : BitVec 32 := Scalar.addi v427 c11_i32
  let v455 : Index := Scalar.indexCast v428
  let c96_232 : Index := 96#32
  ![v455.toNat, 96]
def k0_off451 (v426 : BitVec 32) : Fin 2 → Nat :=
  let v457 : Index := Scalar.indexCast v426
  let c112_233 : Index := 112#32
  ![v457.toNat, 112]

def k0_chk28 (v426 : BitVec 32) : Prop :=
  (∀ a, (k0_off437 v426) a + S1x16.size a ≤ S100x128.size a) ∧
  (∀ a, (k0_off439 v426) a + S1x16.size a ≤ S100x128.size a) ∧
  (∀ a, (k0_off441 v426) a + S1x16.size a ≤ S100x128.size a) ∧
  (∀ a, (k0_off443 v426) a + S1x16.size a ≤ S100x128.size a) ∧
  (∀ a, (k0_off445 v426) a + S1x16.size a ≤ S100x128.size a) ∧
  (∀ a, (k0_off447 v426) a + S1x16.size a ≤ S100x128.size a) ∧
  (∀ a, (k0_off449 v426) a + S1x16.size a ≤ S100x128.size a) ∧
  (∀ a, (k0_off451 v426) a + S1x16.size a ≤ S100x128.size a)
theorem k0_off437_inb : ∀ (v426 : BitVec 32) (k0_hw28 : k0_chk28 v426), ∀ a, (k0_off437 v426) a + S1x16.size a ≤ S100x128.size a := fun v426 k0_hw28 => k0_hw28.1
theorem k0_off439_inb : ∀ (v426 : BitVec 32) (k0_hw28 : k0_chk28 v426), ∀ a, (k0_off439 v426) a + S1x16.size a ≤ S100x128.size a := fun v426 k0_hw28 => k0_hw28.2.1
theorem k0_off441_inb : ∀ (v426 : BitVec 32) (k0_hw28 : k0_chk28 v426), ∀ a, (k0_off441 v426) a + S1x16.size a ≤ S100x128.size a := fun v426 k0_hw28 => k0_hw28.2.2.1
theorem k0_off443_inb : ∀ (v426 : BitVec 32) (k0_hw28 : k0_chk28 v426), ∀ a, (k0_off443 v426) a + S1x16.size a ≤ S100x128.size a := fun v426 k0_hw28 => k0_hw28.2.2.2.1
theorem k0_off445_inb : ∀ (v426 : BitVec 32) (k0_hw28 : k0_chk28 v426), ∀ a, (k0_off445 v426) a + S1x16.size a ≤ S100x128.size a := fun v426 k0_hw28 => k0_hw28.2.2.2.2.1
theorem k0_off447_inb : ∀ (v426 : BitVec 32) (k0_hw28 : k0_chk28 v426), ∀ a, (k0_off447 v426) a + S1x16.size a ≤ S100x128.size a := fun v426 k0_hw28 => k0_hw28.2.2.2.2.2.1
theorem k0_off449_inb : ∀ (v426 : BitVec 32) (k0_hw28 : k0_chk28 v426), ∀ a, (k0_off449 v426) a + S1x16.size a ≤ S100x128.size a := fun v426 k0_hw28 => k0_hw28.2.2.2.2.2.2.1
theorem k0_off451_inb : ∀ (v426 : BitVec 32) (k0_hw28 : k0_chk28 v426), ∀ a, (k0_off451 v426) a + S1x16.size a ≤ S100x128.size a := fun v426 k0_hw28 => k0_hw28.2.2.2.2.2.2.2

def k0_off452 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_218 : BitVec 32 := 16#32
  let v427 : BitVec 32 := Scalar.muli arg16 c16_i32_218
  let c11_i32 : BitVec 32 := 11#32
  let v428 : BitVec 32 := Scalar.addi v427 c11_i32
  let v459 : Index := Scalar.indexCast v428
  let c112_234 : Index := 112#32
  ![v459.toNat, 112]
def k0_off453 (v462 : BitVec 32) : Fin 2 → Nat :=
  let v465 : Index := Scalar.indexCast v462
  let c0_236 : Index := 0#32
  ![v465.toNat, 0]

def k0_off454 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_235 : BitVec 32 := 16#32
  let v463 : BitVec 32 := Scalar.muli arg16 c16_i32_235
  let c12_i32 : BitVec 32 := 12#32
  let v464 : BitVec 32 := Scalar.addi v463 c12_i32
  let v467 : Index := Scalar.indexCast v464
  let c0_237 : Index := 0#32
  ![v467.toNat, 0]
def k0_off455 (v462 : BitVec 32) : Fin 2 → Nat :=
  let v469 : Index := Scalar.indexCast v462
  let c16_238 : Index := 16#32
  ![v469.toNat, 16]
def k0_off456 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_235 : BitVec 32 := 16#32
  let v463 : BitVec 32 := Scalar.muli arg16 c16_i32_235
  let c12_i32 : BitVec 32 := 12#32
  let v464 : BitVec 32 := Scalar.addi v463 c12_i32
  let v471 : Index := Scalar.indexCast v464
  let c16_239 : Index := 16#32
  ![v471.toNat, 16]
def k0_off457 (v462 : BitVec 32) : Fin 2 → Nat :=
  let v473 : Index := Scalar.indexCast v462
  let c32_240 : Index := 32#32
  ![v473.toNat, 32]
def k0_off458 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_235 : BitVec 32 := 16#32
  let v463 : BitVec 32 := Scalar.muli arg16 c16_i32_235
  let c12_i32 : BitVec 32 := 12#32
  let v464 : BitVec 32 := Scalar.addi v463 c12_i32
  let v475 : Index := Scalar.indexCast v464
  let c32_241 : Index := 32#32
  ![v475.toNat, 32]
def k0_off459 (v462 : BitVec 32) : Fin 2 → Nat :=
  let v477 : Index := Scalar.indexCast v462
  let c48_242 : Index := 48#32
  ![v477.toNat, 48]
def k0_off460 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_235 : BitVec 32 := 16#32
  let v463 : BitVec 32 := Scalar.muli arg16 c16_i32_235
  let c12_i32 : BitVec 32 := 12#32
  let v464 : BitVec 32 := Scalar.addi v463 c12_i32
  let v479 : Index := Scalar.indexCast v464
  let c48_243 : Index := 48#32
  ![v479.toNat, 48]
def k0_off461 (v462 : BitVec 32) : Fin 2 → Nat :=
  let v481 : Index := Scalar.indexCast v462
  let c64_244 : Index := 64#32
  ![v481.toNat, 64]
def k0_off462 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_235 : BitVec 32 := 16#32
  let v463 : BitVec 32 := Scalar.muli arg16 c16_i32_235
  let c12_i32 : BitVec 32 := 12#32
  let v464 : BitVec 32 := Scalar.addi v463 c12_i32
  let v483 : Index := Scalar.indexCast v464
  let c64_245 : Index := 64#32
  ![v483.toNat, 64]
def k0_off463 (v462 : BitVec 32) : Fin 2 → Nat :=
  let v485 : Index := Scalar.indexCast v462
  let c80_246 : Index := 80#32
  ![v485.toNat, 80]
def k0_off464 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_235 : BitVec 32 := 16#32
  let v463 : BitVec 32 := Scalar.muli arg16 c16_i32_235
  let c12_i32 : BitVec 32 := 12#32
  let v464 : BitVec 32 := Scalar.addi v463 c12_i32
  let v487 : Index := Scalar.indexCast v464
  let c80_247 : Index := 80#32
  ![v487.toNat, 80]
def k0_off465 (v462 : BitVec 32) : Fin 2 → Nat :=
  let v489 : Index := Scalar.indexCast v462
  let c96_248 : Index := 96#32
  ![v489.toNat, 96]
def k0_off466 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_235 : BitVec 32 := 16#32
  let v463 : BitVec 32 := Scalar.muli arg16 c16_i32_235
  let c12_i32 : BitVec 32 := 12#32
  let v464 : BitVec 32 := Scalar.addi v463 c12_i32
  let v491 : Index := Scalar.indexCast v464
  let c96_249 : Index := 96#32
  ![v491.toNat, 96]
def k0_off467 (v462 : BitVec 32) : Fin 2 → Nat :=
  let v493 : Index := Scalar.indexCast v462
  let c112_250 : Index := 112#32
  ![v493.toNat, 112]

def k0_chk29 (v462 : BitVec 32) : Prop :=
  (∀ a, (k0_off453 v462) a + S1x16.size a ≤ S100x128.size a) ∧
  (∀ a, (k0_off455 v462) a + S1x16.size a ≤ S100x128.size a) ∧
  (∀ a, (k0_off457 v462) a + S1x16.size a ≤ S100x128.size a) ∧
  (∀ a, (k0_off459 v462) a + S1x16.size a ≤ S100x128.size a) ∧
  (∀ a, (k0_off461 v462) a + S1x16.size a ≤ S100x128.size a) ∧
  (∀ a, (k0_off463 v462) a + S1x16.size a ≤ S100x128.size a) ∧
  (∀ a, (k0_off465 v462) a + S1x16.size a ≤ S100x128.size a) ∧
  (∀ a, (k0_off467 v462) a + S1x16.size a ≤ S100x128.size a)
theorem k0_off453_inb : ∀ (v462 : BitVec 32) (k0_hw29 : k0_chk29 v462), ∀ a, (k0_off453 v462) a + S1x16.size a ≤ S100x128.size a := fun v462 k0_hw29 => k0_hw29.1
theorem k0_off455_inb : ∀ (v462 : BitVec 32) (k0_hw29 : k0_chk29 v462), ∀ a, (k0_off455 v462) a + S1x16.size a ≤ S100x128.size a := fun v462 k0_hw29 => k0_hw29.2.1
theorem k0_off457_inb : ∀ (v462 : BitVec 32) (k0_hw29 : k0_chk29 v462), ∀ a, (k0_off457 v462) a + S1x16.size a ≤ S100x128.size a := fun v462 k0_hw29 => k0_hw29.2.2.1
theorem k0_off459_inb : ∀ (v462 : BitVec 32) (k0_hw29 : k0_chk29 v462), ∀ a, (k0_off459 v462) a + S1x16.size a ≤ S100x128.size a := fun v462 k0_hw29 => k0_hw29.2.2.2.1
theorem k0_off461_inb : ∀ (v462 : BitVec 32) (k0_hw29 : k0_chk29 v462), ∀ a, (k0_off461 v462) a + S1x16.size a ≤ S100x128.size a := fun v462 k0_hw29 => k0_hw29.2.2.2.2.1
theorem k0_off463_inb : ∀ (v462 : BitVec 32) (k0_hw29 : k0_chk29 v462), ∀ a, (k0_off463 v462) a + S1x16.size a ≤ S100x128.size a := fun v462 k0_hw29 => k0_hw29.2.2.2.2.2.1
theorem k0_off465_inb : ∀ (v462 : BitVec 32) (k0_hw29 : k0_chk29 v462), ∀ a, (k0_off465 v462) a + S1x16.size a ≤ S100x128.size a := fun v462 k0_hw29 => k0_hw29.2.2.2.2.2.2.1
theorem k0_off467_inb : ∀ (v462 : BitVec 32) (k0_hw29 : k0_chk29 v462), ∀ a, (k0_off467 v462) a + S1x16.size a ≤ S100x128.size a := fun v462 k0_hw29 => k0_hw29.2.2.2.2.2.2.2

def k0_off468 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_235 : BitVec 32 := 16#32
  let v463 : BitVec 32 := Scalar.muli arg16 c16_i32_235
  let c12_i32 : BitVec 32 := 12#32
  let v464 : BitVec 32 := Scalar.addi v463 c12_i32
  let v495 : Index := Scalar.indexCast v464
  let c112_251 : Index := 112#32
  ![v495.toNat, 112]
def k0_off469 (v498 : BitVec 32) : Fin 2 → Nat :=
  let v501 : Index := Scalar.indexCast v498
  let c0_253 : Index := 0#32
  ![v501.toNat, 0]

def k0_off470 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_252 : BitVec 32 := 16#32
  let v499 : BitVec 32 := Scalar.muli arg16 c16_i32_252
  let c13_i32 : BitVec 32 := 13#32
  let v500 : BitVec 32 := Scalar.addi v499 c13_i32
  let v503 : Index := Scalar.indexCast v500
  let c0_254 : Index := 0#32
  ![v503.toNat, 0]
def k0_off471 (v498 : BitVec 32) : Fin 2 → Nat :=
  let v505 : Index := Scalar.indexCast v498
  let c16_255 : Index := 16#32
  ![v505.toNat, 16]
def k0_off472 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_252 : BitVec 32 := 16#32
  let v499 : BitVec 32 := Scalar.muli arg16 c16_i32_252
  let c13_i32 : BitVec 32 := 13#32
  let v500 : BitVec 32 := Scalar.addi v499 c13_i32
  let v507 : Index := Scalar.indexCast v500
  let c16_256 : Index := 16#32
  ![v507.toNat, 16]
def k0_off473 (v498 : BitVec 32) : Fin 2 → Nat :=
  let v509 : Index := Scalar.indexCast v498
  let c32_257 : Index := 32#32
  ![v509.toNat, 32]
def k0_off474 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_252 : BitVec 32 := 16#32
  let v499 : BitVec 32 := Scalar.muli arg16 c16_i32_252
  let c13_i32 : BitVec 32 := 13#32
  let v500 : BitVec 32 := Scalar.addi v499 c13_i32
  let v511 : Index := Scalar.indexCast v500
  let c32_258 : Index := 32#32
  ![v511.toNat, 32]
def k0_off475 (v498 : BitVec 32) : Fin 2 → Nat :=
  let v513 : Index := Scalar.indexCast v498
  let c48_259 : Index := 48#32
  ![v513.toNat, 48]
def k0_off476 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_252 : BitVec 32 := 16#32
  let v499 : BitVec 32 := Scalar.muli arg16 c16_i32_252
  let c13_i32 : BitVec 32 := 13#32
  let v500 : BitVec 32 := Scalar.addi v499 c13_i32
  let v515 : Index := Scalar.indexCast v500
  let c48_260 : Index := 48#32
  ![v515.toNat, 48]
def k0_off477 (v498 : BitVec 32) : Fin 2 → Nat :=
  let v517 : Index := Scalar.indexCast v498
  let c64_261 : Index := 64#32
  ![v517.toNat, 64]
def k0_off478 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_252 : BitVec 32 := 16#32
  let v499 : BitVec 32 := Scalar.muli arg16 c16_i32_252
  let c13_i32 : BitVec 32 := 13#32
  let v500 : BitVec 32 := Scalar.addi v499 c13_i32
  let v519 : Index := Scalar.indexCast v500
  let c64_262 : Index := 64#32
  ![v519.toNat, 64]
def k0_off479 (v498 : BitVec 32) : Fin 2 → Nat :=
  let v521 : Index := Scalar.indexCast v498
  let c80_263 : Index := 80#32
  ![v521.toNat, 80]
def k0_off480 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_252 : BitVec 32 := 16#32
  let v499 : BitVec 32 := Scalar.muli arg16 c16_i32_252
  let c13_i32 : BitVec 32 := 13#32
  let v500 : BitVec 32 := Scalar.addi v499 c13_i32
  let v523 : Index := Scalar.indexCast v500
  let c80_264 : Index := 80#32
  ![v523.toNat, 80]
def k0_off481 (v498 : BitVec 32) : Fin 2 → Nat :=
  let v525 : Index := Scalar.indexCast v498
  let c96_265 : Index := 96#32
  ![v525.toNat, 96]
def k0_off482 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_252 : BitVec 32 := 16#32
  let v499 : BitVec 32 := Scalar.muli arg16 c16_i32_252
  let c13_i32 : BitVec 32 := 13#32
  let v500 : BitVec 32 := Scalar.addi v499 c13_i32
  let v527 : Index := Scalar.indexCast v500
  let c96_266 : Index := 96#32
  ![v527.toNat, 96]
def k0_off483 (v498 : BitVec 32) : Fin 2 → Nat :=
  let v529 : Index := Scalar.indexCast v498
  let c112_267 : Index := 112#32
  ![v529.toNat, 112]

def k0_chk30 (v498 : BitVec 32) : Prop :=
  (∀ a, (k0_off469 v498) a + S1x16.size a ≤ S100x128.size a) ∧
  (∀ a, (k0_off471 v498) a + S1x16.size a ≤ S100x128.size a) ∧
  (∀ a, (k0_off473 v498) a + S1x16.size a ≤ S100x128.size a) ∧
  (∀ a, (k0_off475 v498) a + S1x16.size a ≤ S100x128.size a) ∧
  (∀ a, (k0_off477 v498) a + S1x16.size a ≤ S100x128.size a) ∧
  (∀ a, (k0_off479 v498) a + S1x16.size a ≤ S100x128.size a) ∧
  (∀ a, (k0_off481 v498) a + S1x16.size a ≤ S100x128.size a) ∧
  (∀ a, (k0_off483 v498) a + S1x16.size a ≤ S100x128.size a)
theorem k0_off469_inb : ∀ (v498 : BitVec 32) (k0_hw30 : k0_chk30 v498), ∀ a, (k0_off469 v498) a + S1x16.size a ≤ S100x128.size a := fun v498 k0_hw30 => k0_hw30.1
theorem k0_off471_inb : ∀ (v498 : BitVec 32) (k0_hw30 : k0_chk30 v498), ∀ a, (k0_off471 v498) a + S1x16.size a ≤ S100x128.size a := fun v498 k0_hw30 => k0_hw30.2.1
theorem k0_off473_inb : ∀ (v498 : BitVec 32) (k0_hw30 : k0_chk30 v498), ∀ a, (k0_off473 v498) a + S1x16.size a ≤ S100x128.size a := fun v498 k0_hw30 => k0_hw30.2.2.1
theorem k0_off475_inb : ∀ (v498 : BitVec 32) (k0_hw30 : k0_chk30 v498), ∀ a, (k0_off475 v498) a + S1x16.size a ≤ S100x128.size a := fun v498 k0_hw30 => k0_hw30.2.2.2.1
theorem k0_off477_inb : ∀ (v498 : BitVec 32) (k0_hw30 : k0_chk30 v498), ∀ a, (k0_off477 v498) a + S1x16.size a ≤ S100x128.size a := fun v498 k0_hw30 => k0_hw30.2.2.2.2.1
theorem k0_off479_inb : ∀ (v498 : BitVec 32) (k0_hw30 : k0_chk30 v498), ∀ a, (k0_off479 v498) a + S1x16.size a ≤ S100x128.size a := fun v498 k0_hw30 => k0_hw30.2.2.2.2.2.1
theorem k0_off481_inb : ∀ (v498 : BitVec 32) (k0_hw30 : k0_chk30 v498), ∀ a, (k0_off481 v498) a + S1x16.size a ≤ S100x128.size a := fun v498 k0_hw30 => k0_hw30.2.2.2.2.2.2.1
theorem k0_off483_inb : ∀ (v498 : BitVec 32) (k0_hw30 : k0_chk30 v498), ∀ a, (k0_off483 v498) a + S1x16.size a ≤ S100x128.size a := fun v498 k0_hw30 => k0_hw30.2.2.2.2.2.2.2

def k0_off484 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_252 : BitVec 32 := 16#32
  let v499 : BitVec 32 := Scalar.muli arg16 c16_i32_252
  let c13_i32 : BitVec 32 := 13#32
  let v500 : BitVec 32 := Scalar.addi v499 c13_i32
  let v531 : Index := Scalar.indexCast v500
  let c112_268 : Index := 112#32
  ![v531.toNat, 112]
def k0_off485 (v534 : BitVec 32) : Fin 2 → Nat :=
  let v537 : Index := Scalar.indexCast v534
  let c0_270 : Index := 0#32
  ![v537.toNat, 0]

def k0_off486 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_269 : BitVec 32 := 16#32
  let v535 : BitVec 32 := Scalar.muli arg16 c16_i32_269
  let c14_i32 : BitVec 32 := 14#32
  let v536 : BitVec 32 := Scalar.addi v535 c14_i32
  let v539 : Index := Scalar.indexCast v536
  let c0_271 : Index := 0#32
  ![v539.toNat, 0]
def k0_off487 (v534 : BitVec 32) : Fin 2 → Nat :=
  let v541 : Index := Scalar.indexCast v534
  let c16_272 : Index := 16#32
  ![v541.toNat, 16]
def k0_off488 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_269 : BitVec 32 := 16#32
  let v535 : BitVec 32 := Scalar.muli arg16 c16_i32_269
  let c14_i32 : BitVec 32 := 14#32
  let v536 : BitVec 32 := Scalar.addi v535 c14_i32
  let v543 : Index := Scalar.indexCast v536
  let c16_273 : Index := 16#32
  ![v543.toNat, 16]
def k0_off489 (v534 : BitVec 32) : Fin 2 → Nat :=
  let v545 : Index := Scalar.indexCast v534
  let c32_274 : Index := 32#32
  ![v545.toNat, 32]
def k0_off490 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_269 : BitVec 32 := 16#32
  let v535 : BitVec 32 := Scalar.muli arg16 c16_i32_269
  let c14_i32 : BitVec 32 := 14#32
  let v536 : BitVec 32 := Scalar.addi v535 c14_i32
  let v547 : Index := Scalar.indexCast v536
  let c32_275 : Index := 32#32
  ![v547.toNat, 32]
def k0_off491 (v534 : BitVec 32) : Fin 2 → Nat :=
  let v549 : Index := Scalar.indexCast v534
  let c48_276 : Index := 48#32
  ![v549.toNat, 48]
def k0_off492 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_269 : BitVec 32 := 16#32
  let v535 : BitVec 32 := Scalar.muli arg16 c16_i32_269
  let c14_i32 : BitVec 32 := 14#32
  let v536 : BitVec 32 := Scalar.addi v535 c14_i32
  let v551 : Index := Scalar.indexCast v536
  let c48_277 : Index := 48#32
  ![v551.toNat, 48]
def k0_off493 (v534 : BitVec 32) : Fin 2 → Nat :=
  let v553 : Index := Scalar.indexCast v534
  let c64_278 : Index := 64#32
  ![v553.toNat, 64]
def k0_off494 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_269 : BitVec 32 := 16#32
  let v535 : BitVec 32 := Scalar.muli arg16 c16_i32_269
  let c14_i32 : BitVec 32 := 14#32
  let v536 : BitVec 32 := Scalar.addi v535 c14_i32
  let v555 : Index := Scalar.indexCast v536
  let c64_279 : Index := 64#32
  ![v555.toNat, 64]
def k0_off495 (v534 : BitVec 32) : Fin 2 → Nat :=
  let v557 : Index := Scalar.indexCast v534
  let c80_280 : Index := 80#32
  ![v557.toNat, 80]
def k0_off496 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_269 : BitVec 32 := 16#32
  let v535 : BitVec 32 := Scalar.muli arg16 c16_i32_269
  let c14_i32 : BitVec 32 := 14#32
  let v536 : BitVec 32 := Scalar.addi v535 c14_i32
  let v559 : Index := Scalar.indexCast v536
  let c80_281 : Index := 80#32
  ![v559.toNat, 80]
def k0_off497 (v534 : BitVec 32) : Fin 2 → Nat :=
  let v561 : Index := Scalar.indexCast v534
  let c96_282 : Index := 96#32
  ![v561.toNat, 96]
def k0_off498 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_269 : BitVec 32 := 16#32
  let v535 : BitVec 32 := Scalar.muli arg16 c16_i32_269
  let c14_i32 : BitVec 32 := 14#32
  let v536 : BitVec 32 := Scalar.addi v535 c14_i32
  let v563 : Index := Scalar.indexCast v536
  let c96_283 : Index := 96#32
  ![v563.toNat, 96]
def k0_off499 (v534 : BitVec 32) : Fin 2 → Nat :=
  let v565 : Index := Scalar.indexCast v534
  let c112_284 : Index := 112#32
  ![v565.toNat, 112]

def k0_chk31 (v534 : BitVec 32) : Prop :=
  (∀ a, (k0_off485 v534) a + S1x16.size a ≤ S100x128.size a) ∧
  (∀ a, (k0_off487 v534) a + S1x16.size a ≤ S100x128.size a) ∧
  (∀ a, (k0_off489 v534) a + S1x16.size a ≤ S100x128.size a) ∧
  (∀ a, (k0_off491 v534) a + S1x16.size a ≤ S100x128.size a) ∧
  (∀ a, (k0_off493 v534) a + S1x16.size a ≤ S100x128.size a) ∧
  (∀ a, (k0_off495 v534) a + S1x16.size a ≤ S100x128.size a) ∧
  (∀ a, (k0_off497 v534) a + S1x16.size a ≤ S100x128.size a) ∧
  (∀ a, (k0_off499 v534) a + S1x16.size a ≤ S100x128.size a)
theorem k0_off485_inb : ∀ (v534 : BitVec 32) (k0_hw31 : k0_chk31 v534), ∀ a, (k0_off485 v534) a + S1x16.size a ≤ S100x128.size a := fun v534 k0_hw31 => k0_hw31.1
theorem k0_off487_inb : ∀ (v534 : BitVec 32) (k0_hw31 : k0_chk31 v534), ∀ a, (k0_off487 v534) a + S1x16.size a ≤ S100x128.size a := fun v534 k0_hw31 => k0_hw31.2.1
theorem k0_off489_inb : ∀ (v534 : BitVec 32) (k0_hw31 : k0_chk31 v534), ∀ a, (k0_off489 v534) a + S1x16.size a ≤ S100x128.size a := fun v534 k0_hw31 => k0_hw31.2.2.1
theorem k0_off491_inb : ∀ (v534 : BitVec 32) (k0_hw31 : k0_chk31 v534), ∀ a, (k0_off491 v534) a + S1x16.size a ≤ S100x128.size a := fun v534 k0_hw31 => k0_hw31.2.2.2.1
theorem k0_off493_inb : ∀ (v534 : BitVec 32) (k0_hw31 : k0_chk31 v534), ∀ a, (k0_off493 v534) a + S1x16.size a ≤ S100x128.size a := fun v534 k0_hw31 => k0_hw31.2.2.2.2.1
theorem k0_off495_inb : ∀ (v534 : BitVec 32) (k0_hw31 : k0_chk31 v534), ∀ a, (k0_off495 v534) a + S1x16.size a ≤ S100x128.size a := fun v534 k0_hw31 => k0_hw31.2.2.2.2.2.1
theorem k0_off497_inb : ∀ (v534 : BitVec 32) (k0_hw31 : k0_chk31 v534), ∀ a, (k0_off497 v534) a + S1x16.size a ≤ S100x128.size a := fun v534 k0_hw31 => k0_hw31.2.2.2.2.2.2.1
theorem k0_off499_inb : ∀ (v534 : BitVec 32) (k0_hw31 : k0_chk31 v534), ∀ a, (k0_off499 v534) a + S1x16.size a ≤ S100x128.size a := fun v534 k0_hw31 => k0_hw31.2.2.2.2.2.2.2

def k0_off500 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_269 : BitVec 32 := 16#32
  let v535 : BitVec 32 := Scalar.muli arg16 c16_i32_269
  let c14_i32 : BitVec 32 := 14#32
  let v536 : BitVec 32 := Scalar.addi v535 c14_i32
  let v567 : Index := Scalar.indexCast v536
  let c112_285 : Index := 112#32
  ![v567.toNat, 112]
def k0_off501 (v570 : BitVec 32) : Fin 2 → Nat :=
  let v573 : Index := Scalar.indexCast v570
  let c0_287 : Index := 0#32
  ![v573.toNat, 0]

def k0_off502 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_286 : BitVec 32 := 16#32
  let v571 : BitVec 32 := Scalar.muli arg16 c16_i32_286
  let c15_i32 : BitVec 32 := 15#32
  let v572 : BitVec 32 := Scalar.addi v571 c15_i32
  let v575 : Index := Scalar.indexCast v572
  let c0_288 : Index := 0#32
  ![v575.toNat, 0]
def k0_off503 (v570 : BitVec 32) : Fin 2 → Nat :=
  let v577 : Index := Scalar.indexCast v570
  let c16_289 : Index := 16#32
  ![v577.toNat, 16]
def k0_off504 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_286 : BitVec 32 := 16#32
  let v571 : BitVec 32 := Scalar.muli arg16 c16_i32_286
  let c15_i32 : BitVec 32 := 15#32
  let v572 : BitVec 32 := Scalar.addi v571 c15_i32
  let v579 : Index := Scalar.indexCast v572
  let c16_290 : Index := 16#32
  ![v579.toNat, 16]
def k0_off505 (v570 : BitVec 32) : Fin 2 → Nat :=
  let v581 : Index := Scalar.indexCast v570
  let c32_291 : Index := 32#32
  ![v581.toNat, 32]
def k0_off506 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_286 : BitVec 32 := 16#32
  let v571 : BitVec 32 := Scalar.muli arg16 c16_i32_286
  let c15_i32 : BitVec 32 := 15#32
  let v572 : BitVec 32 := Scalar.addi v571 c15_i32
  let v583 : Index := Scalar.indexCast v572
  let c32_292 : Index := 32#32
  ![v583.toNat, 32]
def k0_off507 (v570 : BitVec 32) : Fin 2 → Nat :=
  let v585 : Index := Scalar.indexCast v570
  let c48_293 : Index := 48#32
  ![v585.toNat, 48]
def k0_off508 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_286 : BitVec 32 := 16#32
  let v571 : BitVec 32 := Scalar.muli arg16 c16_i32_286
  let c15_i32 : BitVec 32 := 15#32
  let v572 : BitVec 32 := Scalar.addi v571 c15_i32
  let v587 : Index := Scalar.indexCast v572
  let c48_294 : Index := 48#32
  ![v587.toNat, 48]
def k0_off509 (v570 : BitVec 32) : Fin 2 → Nat :=
  let v589 : Index := Scalar.indexCast v570
  let c64_295 : Index := 64#32
  ![v589.toNat, 64]
def k0_off510 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_286 : BitVec 32 := 16#32
  let v571 : BitVec 32 := Scalar.muli arg16 c16_i32_286
  let c15_i32 : BitVec 32 := 15#32
  let v572 : BitVec 32 := Scalar.addi v571 c15_i32
  let v591 : Index := Scalar.indexCast v572
  let c64_296 : Index := 64#32
  ![v591.toNat, 64]
def k0_off511 (v570 : BitVec 32) : Fin 2 → Nat :=
  let v593 : Index := Scalar.indexCast v570
  let c80_297 : Index := 80#32
  ![v593.toNat, 80]
def k0_off512 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_286 : BitVec 32 := 16#32
  let v571 : BitVec 32 := Scalar.muli arg16 c16_i32_286
  let c15_i32 : BitVec 32 := 15#32
  let v572 : BitVec 32 := Scalar.addi v571 c15_i32
  let v595 : Index := Scalar.indexCast v572
  let c80_298 : Index := 80#32
  ![v595.toNat, 80]
def k0_off513 (v570 : BitVec 32) : Fin 2 → Nat :=
  let v597 : Index := Scalar.indexCast v570
  let c96_299 : Index := 96#32
  ![v597.toNat, 96]
def k0_off514 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_286 : BitVec 32 := 16#32
  let v571 : BitVec 32 := Scalar.muli arg16 c16_i32_286
  let c15_i32 : BitVec 32 := 15#32
  let v572 : BitVec 32 := Scalar.addi v571 c15_i32
  let v599 : Index := Scalar.indexCast v572
  let c96_300 : Index := 96#32
  ![v599.toNat, 96]
def k0_off515 (v570 : BitVec 32) : Fin 2 → Nat :=
  let v601 : Index := Scalar.indexCast v570
  let c112_301 : Index := 112#32
  ![v601.toNat, 112]

def k0_chk32 (v570 : BitVec 32) : Prop :=
  (∀ a, (k0_off501 v570) a + S1x16.size a ≤ S100x128.size a) ∧
  (∀ a, (k0_off503 v570) a + S1x16.size a ≤ S100x128.size a) ∧
  (∀ a, (k0_off505 v570) a + S1x16.size a ≤ S100x128.size a) ∧
  (∀ a, (k0_off507 v570) a + S1x16.size a ≤ S100x128.size a) ∧
  (∀ a, (k0_off509 v570) a + S1x16.size a ≤ S100x128.size a) ∧
  (∀ a, (k0_off511 v570) a + S1x16.size a ≤ S100x128.size a) ∧
  (∀ a, (k0_off513 v570) a + S1x16.size a ≤ S100x128.size a) ∧
  (∀ a, (k0_off515 v570) a + S1x16.size a ≤ S100x128.size a)
theorem k0_off501_inb : ∀ (v570 : BitVec 32) (k0_hw32 : k0_chk32 v570), ∀ a, (k0_off501 v570) a + S1x16.size a ≤ S100x128.size a := fun v570 k0_hw32 => k0_hw32.1
theorem k0_off503_inb : ∀ (v570 : BitVec 32) (k0_hw32 : k0_chk32 v570), ∀ a, (k0_off503 v570) a + S1x16.size a ≤ S100x128.size a := fun v570 k0_hw32 => k0_hw32.2.1
theorem k0_off505_inb : ∀ (v570 : BitVec 32) (k0_hw32 : k0_chk32 v570), ∀ a, (k0_off505 v570) a + S1x16.size a ≤ S100x128.size a := fun v570 k0_hw32 => k0_hw32.2.2.1
theorem k0_off507_inb : ∀ (v570 : BitVec 32) (k0_hw32 : k0_chk32 v570), ∀ a, (k0_off507 v570) a + S1x16.size a ≤ S100x128.size a := fun v570 k0_hw32 => k0_hw32.2.2.2.1
theorem k0_off509_inb : ∀ (v570 : BitVec 32) (k0_hw32 : k0_chk32 v570), ∀ a, (k0_off509 v570) a + S1x16.size a ≤ S100x128.size a := fun v570 k0_hw32 => k0_hw32.2.2.2.2.1
theorem k0_off511_inb : ∀ (v570 : BitVec 32) (k0_hw32 : k0_chk32 v570), ∀ a, (k0_off511 v570) a + S1x16.size a ≤ S100x128.size a := fun v570 k0_hw32 => k0_hw32.2.2.2.2.2.1
theorem k0_off513_inb : ∀ (v570 : BitVec 32) (k0_hw32 : k0_chk32 v570), ∀ a, (k0_off513 v570) a + S1x16.size a ≤ S100x128.size a := fun v570 k0_hw32 => k0_hw32.2.2.2.2.2.2.1
theorem k0_off515_inb : ∀ (v570 : BitVec 32) (k0_hw32 : k0_chk32 v570), ∀ a, (k0_off515 v570) a + S1x16.size a ≤ S100x128.size a := fun v570 k0_hw32 => k0_hw32.2.2.2.2.2.2.2

def k0_off516 (k0_t2 : Fin k0_t2_loop.trips) : Fin 2 → Nat :=
  let c0_i32_5 : BitVec 32 := 0#32
  let c1_i32_7 : BitVec 32 := 1#32
  let arg16 : BitVec 32 := Scf.iv c0_i32_5 c1_i32_7 k0_t2
  let c16_i32_286 : BitVec 32 := 16#32
  let v571 : BitVec 32 := Scalar.muli arg16 c16_i32_286
  let c15_i32 : BitVec 32 := 15#32
  let v572 : BitVec 32 := Scalar.addi v571 c15_i32
  let v603 : Index := Scalar.indexCast v572
  let c112_302 : Index := 112#32
  ![v603.toNat, 112]
def k0_off517 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c128_i32 : BitVec 32 := 128#32
  let v7 : BitVec 32 := Scalar.addi v2 c128_i32
  let c0_i32_9 : BitVec 32 := 0#32
  ![v7.toNat, 0]
@[reducible] def k0_t3_loop : Scf.Loop 32 :=
  let c0_i32_14 : BitVec 32 := 0#32
  let c8_i32_15 : BitVec 32 := 8#32
  let v12 : BitVec 32 := Scalar.addi c0_i32_14 c8_i32_15
  let c1_i32_16 : BitVec 32 := 1#32
  ⟨c0_i32_14, v12, c1_i32_16⟩
def k0_off518 (k0_t3 : Fin k0_t3_loop.trips) : Fin 1 → Nat :=
  let c0_i32_34 : BitVec 32 := 0#32
  let c0_i32_14 : BitVec 32 := 0#32
  let c1_i32_16 : BitVec 32 := 1#32
  let arg16 : BitVec 32 := Scf.iv c0_i32_14 c1_i32_16 k0_t3
  let c16_i32 : BitVec 32 := 16#32
  let v25 : BitVec 32 := Scalar.muli arg16 c16_i32
  let v26 : BitVec 32 := Scalar.addi c0_i32_34 v25
  let v27 : Index := Scalar.indexCast v26
  ![v27.toNat]
def k0_off519 (v30 : BitVec 32) : Fin 2 → Nat :=
  let v33 : Index := Scalar.indexCast v30
  let c0 : Index := 0#32
  ![v33.toNat, 0]

def k0_off520 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_35 : BitVec 32 := 16#32
  let v31 : BitVec 32 := Scalar.muli arg16 c16_i32_35
  let c0_i32_36 : BitVec 32 := 0#32
  let v32 : BitVec 32 := Scalar.addi v31 c0_i32_36
  let v35 : Index := Scalar.indexCast v32
  let c0_37 : Index := 0#32
  ![v35.toNat, 0]
def k0_off521 (v30 : BitVec 32) : Fin 2 → Nat :=
  let v37 : Index := Scalar.indexCast v30
  let c16 : Index := 16#32
  ![v37.toNat, 16]
def k0_off522 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_35 : BitVec 32 := 16#32
  let v31 : BitVec 32 := Scalar.muli arg16 c16_i32_35
  let c0_i32_36 : BitVec 32 := 0#32
  let v32 : BitVec 32 := Scalar.addi v31 c0_i32_36
  let v39 : Index := Scalar.indexCast v32
  let c16_38 : Index := 16#32
  ![v39.toNat, 16]
def k0_off523 (v30 : BitVec 32) : Fin 2 → Nat :=
  let v41 : Index := Scalar.indexCast v30
  let c32 : Index := 32#32
  ![v41.toNat, 32]
def k0_off524 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_35 : BitVec 32 := 16#32
  let v31 : BitVec 32 := Scalar.muli arg16 c16_i32_35
  let c0_i32_36 : BitVec 32 := 0#32
  let v32 : BitVec 32 := Scalar.addi v31 c0_i32_36
  let v43 : Index := Scalar.indexCast v32
  let c32_39 : Index := 32#32
  ![v43.toNat, 32]
def k0_off525 (v30 : BitVec 32) : Fin 2 → Nat :=
  let v45 : Index := Scalar.indexCast v30
  let c48 : Index := 48#32
  ![v45.toNat, 48]
def k0_off526 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_35 : BitVec 32 := 16#32
  let v31 : BitVec 32 := Scalar.muli arg16 c16_i32_35
  let c0_i32_36 : BitVec 32 := 0#32
  let v32 : BitVec 32 := Scalar.addi v31 c0_i32_36
  let v47 : Index := Scalar.indexCast v32
  let c48_40 : Index := 48#32
  ![v47.toNat, 48]
def k0_off527 (v30 : BitVec 32) : Fin 2 → Nat :=
  let v49 : Index := Scalar.indexCast v30
  let c64 : Index := 64#32
  ![v49.toNat, 64]
def k0_off528 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_35 : BitVec 32 := 16#32
  let v31 : BitVec 32 := Scalar.muli arg16 c16_i32_35
  let c0_i32_36 : BitVec 32 := 0#32
  let v32 : BitVec 32 := Scalar.addi v31 c0_i32_36
  let v51 : Index := Scalar.indexCast v32
  let c64_41 : Index := 64#32
  ![v51.toNat, 64]
def k0_off529 (v30 : BitVec 32) : Fin 2 → Nat :=
  let v53 : Index := Scalar.indexCast v30
  let c80 : Index := 80#32
  ![v53.toNat, 80]
def k0_off530 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_35 : BitVec 32 := 16#32
  let v31 : BitVec 32 := Scalar.muli arg16 c16_i32_35
  let c0_i32_36 : BitVec 32 := 0#32
  let v32 : BitVec 32 := Scalar.addi v31 c0_i32_36
  let v55 : Index := Scalar.indexCast v32
  let c80_42 : Index := 80#32
  ![v55.toNat, 80]
def k0_off531 (v30 : BitVec 32) : Fin 2 → Nat :=
  let v57 : Index := Scalar.indexCast v30
  let c96 : Index := 96#32
  ![v57.toNat, 96]
def k0_off532 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_35 : BitVec 32 := 16#32
  let v31 : BitVec 32 := Scalar.muli arg16 c16_i32_35
  let c0_i32_36 : BitVec 32 := 0#32
  let v32 : BitVec 32 := Scalar.addi v31 c0_i32_36
  let v59 : Index := Scalar.indexCast v32
  let c96_43 : Index := 96#32
  ![v59.toNat, 96]
def k0_off533 (v30 : BitVec 32) : Fin 2 → Nat :=
  let v61 : Index := Scalar.indexCast v30
  let c112 : Index := 112#32
  ![v61.toNat, 112]

def k0_chk33 (v30 : BitVec 32) : Prop :=
  (∀ a, (k0_off519 v30) a + S1x16.size a ≤ S26x128.size a) ∧
  (∀ a, (k0_off521 v30) a + S1x16.size a ≤ S26x128.size a) ∧
  (∀ a, (k0_off523 v30) a + S1x16.size a ≤ S26x128.size a) ∧
  (∀ a, (k0_off525 v30) a + S1x16.size a ≤ S26x128.size a) ∧
  (∀ a, (k0_off527 v30) a + S1x16.size a ≤ S26x128.size a) ∧
  (∀ a, (k0_off529 v30) a + S1x16.size a ≤ S26x128.size a) ∧
  (∀ a, (k0_off531 v30) a + S1x16.size a ≤ S26x128.size a) ∧
  (∀ a, (k0_off533 v30) a + S1x16.size a ≤ S26x128.size a)
theorem k0_off519_inb : ∀ (v30 : BitVec 32) (k0_hw33 : k0_chk33 v30), ∀ a, (k0_off519 v30) a + S1x16.size a ≤ S26x128.size a := fun v30 k0_hw33 => k0_hw33.1
theorem k0_off521_inb : ∀ (v30 : BitVec 32) (k0_hw33 : k0_chk33 v30), ∀ a, (k0_off521 v30) a + S1x16.size a ≤ S26x128.size a := fun v30 k0_hw33 => k0_hw33.2.1
theorem k0_off523_inb : ∀ (v30 : BitVec 32) (k0_hw33 : k0_chk33 v30), ∀ a, (k0_off523 v30) a + S1x16.size a ≤ S26x128.size a := fun v30 k0_hw33 => k0_hw33.2.2.1
theorem k0_off525_inb : ∀ (v30 : BitVec 32) (k0_hw33 : k0_chk33 v30), ∀ a, (k0_off525 v30) a + S1x16.size a ≤ S26x128.size a := fun v30 k0_hw33 => k0_hw33.2.2.2.1
theorem k0_off527_inb : ∀ (v30 : BitVec 32) (k0_hw33 : k0_chk33 v30), ∀ a, (k0_off527 v30) a + S1x16.size a ≤ S26x128.size a := fun v30 k0_hw33 => k0_hw33.2.2.2.2.1
theorem k0_off529_inb : ∀ (v30 : BitVec 32) (k0_hw33 : k0_chk33 v30), ∀ a, (k0_off529 v30) a + S1x16.size a ≤ S26x128.size a := fun v30 k0_hw33 => k0_hw33.2.2.2.2.2.1
theorem k0_off531_inb : ∀ (v30 : BitVec 32) (k0_hw33 : k0_chk33 v30), ∀ a, (k0_off531 v30) a + S1x16.size a ≤ S26x128.size a := fun v30 k0_hw33 => k0_hw33.2.2.2.2.2.2.1
theorem k0_off533_inb : ∀ (v30 : BitVec 32) (k0_hw33 : k0_chk33 v30), ∀ a, (k0_off533 v30) a + S1x16.size a ≤ S26x128.size a := fun v30 k0_hw33 => k0_hw33.2.2.2.2.2.2.2

def k0_off534 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_35 : BitVec 32 := 16#32
  let v31 : BitVec 32 := Scalar.muli arg16 c16_i32_35
  let c0_i32_36 : BitVec 32 := 0#32
  let v32 : BitVec 32 := Scalar.addi v31 c0_i32_36
  let v63 : Index := Scalar.indexCast v32
  let c112_44 : Index := 112#32
  ![v63.toNat, 112]
def k0_off535 (v66 : BitVec 32) : Fin 2 → Nat :=
  let v69 : Index := Scalar.indexCast v66
  let c0_47 : Index := 0#32
  ![v69.toNat, 0]

def k0_off536 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_45 : BitVec 32 := 16#32
  let v67 : BitVec 32 := Scalar.muli arg16 c16_i32_45
  let c1_i32_46 : BitVec 32 := 1#32
  let v68 : BitVec 32 := Scalar.addi v67 c1_i32_46
  let v71 : Index := Scalar.indexCast v68
  let c0_48 : Index := 0#32
  ![v71.toNat, 0]
def k0_off537 (v66 : BitVec 32) : Fin 2 → Nat :=
  let v73 : Index := Scalar.indexCast v66
  let c16_49 : Index := 16#32
  ![v73.toNat, 16]
def k0_off538 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_45 : BitVec 32 := 16#32
  let v67 : BitVec 32 := Scalar.muli arg16 c16_i32_45
  let c1_i32_46 : BitVec 32 := 1#32
  let v68 : BitVec 32 := Scalar.addi v67 c1_i32_46
  let v75 : Index := Scalar.indexCast v68
  let c16_50 : Index := 16#32
  ![v75.toNat, 16]
def k0_off539 (v66 : BitVec 32) : Fin 2 → Nat :=
  let v77 : Index := Scalar.indexCast v66
  let c32_51 : Index := 32#32
  ![v77.toNat, 32]
def k0_off540 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_45 : BitVec 32 := 16#32
  let v67 : BitVec 32 := Scalar.muli arg16 c16_i32_45
  let c1_i32_46 : BitVec 32 := 1#32
  let v68 : BitVec 32 := Scalar.addi v67 c1_i32_46
  let v79 : Index := Scalar.indexCast v68
  let c32_52 : Index := 32#32
  ![v79.toNat, 32]
def k0_off541 (v66 : BitVec 32) : Fin 2 → Nat :=
  let v81 : Index := Scalar.indexCast v66
  let c48_53 : Index := 48#32
  ![v81.toNat, 48]
def k0_off542 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_45 : BitVec 32 := 16#32
  let v67 : BitVec 32 := Scalar.muli arg16 c16_i32_45
  let c1_i32_46 : BitVec 32 := 1#32
  let v68 : BitVec 32 := Scalar.addi v67 c1_i32_46
  let v83 : Index := Scalar.indexCast v68
  let c48_54 : Index := 48#32
  ![v83.toNat, 48]
def k0_off543 (v66 : BitVec 32) : Fin 2 → Nat :=
  let v85 : Index := Scalar.indexCast v66
  let c64_55 : Index := 64#32
  ![v85.toNat, 64]
def k0_off544 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_45 : BitVec 32 := 16#32
  let v67 : BitVec 32 := Scalar.muli arg16 c16_i32_45
  let c1_i32_46 : BitVec 32 := 1#32
  let v68 : BitVec 32 := Scalar.addi v67 c1_i32_46
  let v87 : Index := Scalar.indexCast v68
  let c64_56 : Index := 64#32
  ![v87.toNat, 64]
def k0_off545 (v66 : BitVec 32) : Fin 2 → Nat :=
  let v89 : Index := Scalar.indexCast v66
  let c80_57 : Index := 80#32
  ![v89.toNat, 80]
def k0_off546 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_45 : BitVec 32 := 16#32
  let v67 : BitVec 32 := Scalar.muli arg16 c16_i32_45
  let c1_i32_46 : BitVec 32 := 1#32
  let v68 : BitVec 32 := Scalar.addi v67 c1_i32_46
  let v91 : Index := Scalar.indexCast v68
  let c80_58 : Index := 80#32
  ![v91.toNat, 80]
def k0_off547 (v66 : BitVec 32) : Fin 2 → Nat :=
  let v93 : Index := Scalar.indexCast v66
  let c96_59 : Index := 96#32
  ![v93.toNat, 96]
def k0_off548 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_45 : BitVec 32 := 16#32
  let v67 : BitVec 32 := Scalar.muli arg16 c16_i32_45
  let c1_i32_46 : BitVec 32 := 1#32
  let v68 : BitVec 32 := Scalar.addi v67 c1_i32_46
  let v95 : Index := Scalar.indexCast v68
  let c96_60 : Index := 96#32
  ![v95.toNat, 96]
def k0_off549 (v66 : BitVec 32) : Fin 2 → Nat :=
  let v97 : Index := Scalar.indexCast v66
  let c112_61 : Index := 112#32
  ![v97.toNat, 112]

def k0_chk34 (v66 : BitVec 32) : Prop :=
  (∀ a, (k0_off535 v66) a + S1x16.size a ≤ S26x128.size a) ∧
  (∀ a, (k0_off537 v66) a + S1x16.size a ≤ S26x128.size a) ∧
  (∀ a, (k0_off539 v66) a + S1x16.size a ≤ S26x128.size a) ∧
  (∀ a, (k0_off541 v66) a + S1x16.size a ≤ S26x128.size a) ∧
  (∀ a, (k0_off543 v66) a + S1x16.size a ≤ S26x128.size a) ∧
  (∀ a, (k0_off545 v66) a + S1x16.size a ≤ S26x128.size a) ∧
  (∀ a, (k0_off547 v66) a + S1x16.size a ≤ S26x128.size a) ∧
  (∀ a, (k0_off549 v66) a + S1x16.size a ≤ S26x128.size a)
theorem k0_off535_inb : ∀ (v66 : BitVec 32) (k0_hw34 : k0_chk34 v66), ∀ a, (k0_off535 v66) a + S1x16.size a ≤ S26x128.size a := fun v66 k0_hw34 => k0_hw34.1
theorem k0_off537_inb : ∀ (v66 : BitVec 32) (k0_hw34 : k0_chk34 v66), ∀ a, (k0_off537 v66) a + S1x16.size a ≤ S26x128.size a := fun v66 k0_hw34 => k0_hw34.2.1
theorem k0_off539_inb : ∀ (v66 : BitVec 32) (k0_hw34 : k0_chk34 v66), ∀ a, (k0_off539 v66) a + S1x16.size a ≤ S26x128.size a := fun v66 k0_hw34 => k0_hw34.2.2.1
theorem k0_off541_inb : ∀ (v66 : BitVec 32) (k0_hw34 : k0_chk34 v66), ∀ a, (k0_off541 v66) a + S1x16.size a ≤ S26x128.size a := fun v66 k0_hw34 => k0_hw34.2.2.2.1
theorem k0_off543_inb : ∀ (v66 : BitVec 32) (k0_hw34 : k0_chk34 v66), ∀ a, (k0_off543 v66) a + S1x16.size a ≤ S26x128.size a := fun v66 k0_hw34 => k0_hw34.2.2.2.2.1
theorem k0_off545_inb : ∀ (v66 : BitVec 32) (k0_hw34 : k0_chk34 v66), ∀ a, (k0_off545 v66) a + S1x16.size a ≤ S26x128.size a := fun v66 k0_hw34 => k0_hw34.2.2.2.2.2.1
theorem k0_off547_inb : ∀ (v66 : BitVec 32) (k0_hw34 : k0_chk34 v66), ∀ a, (k0_off547 v66) a + S1x16.size a ≤ S26x128.size a := fun v66 k0_hw34 => k0_hw34.2.2.2.2.2.2.1
theorem k0_off549_inb : ∀ (v66 : BitVec 32) (k0_hw34 : k0_chk34 v66), ∀ a, (k0_off549 v66) a + S1x16.size a ≤ S26x128.size a := fun v66 k0_hw34 => k0_hw34.2.2.2.2.2.2.2

def k0_off550 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_45 : BitVec 32 := 16#32
  let v67 : BitVec 32 := Scalar.muli arg16 c16_i32_45
  let c1_i32_46 : BitVec 32 := 1#32
  let v68 : BitVec 32 := Scalar.addi v67 c1_i32_46
  let v99 : Index := Scalar.indexCast v68
  let c112_62 : Index := 112#32
  ![v99.toNat, 112]
def k0_off551 (v102 : BitVec 32) : Fin 2 → Nat :=
  let v105 : Index := Scalar.indexCast v102
  let c0_65 : Index := 0#32
  ![v105.toNat, 0]

def k0_off552 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_63 : BitVec 32 := 16#32
  let v103 : BitVec 32 := Scalar.muli arg16 c16_i32_63
  let c2_i32_64 : BitVec 32 := 2#32
  let v104 : BitVec 32 := Scalar.addi v103 c2_i32_64
  let v107 : Index := Scalar.indexCast v104
  let c0_66 : Index := 0#32
  ![v107.toNat, 0]
def k0_off553 (v102 : BitVec 32) : Fin 2 → Nat :=
  let v109 : Index := Scalar.indexCast v102
  let c16_67 : Index := 16#32
  ![v109.toNat, 16]
def k0_off554 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_63 : BitVec 32 := 16#32
  let v103 : BitVec 32 := Scalar.muli arg16 c16_i32_63
  let c2_i32_64 : BitVec 32 := 2#32
  let v104 : BitVec 32 := Scalar.addi v103 c2_i32_64
  let v111 : Index := Scalar.indexCast v104
  let c16_68 : Index := 16#32
  ![v111.toNat, 16]
def k0_off555 (v102 : BitVec 32) : Fin 2 → Nat :=
  let v113 : Index := Scalar.indexCast v102
  let c32_69 : Index := 32#32
  ![v113.toNat, 32]
def k0_off556 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_63 : BitVec 32 := 16#32
  let v103 : BitVec 32 := Scalar.muli arg16 c16_i32_63
  let c2_i32_64 : BitVec 32 := 2#32
  let v104 : BitVec 32 := Scalar.addi v103 c2_i32_64
  let v115 : Index := Scalar.indexCast v104
  let c32_70 : Index := 32#32
  ![v115.toNat, 32]
def k0_off557 (v102 : BitVec 32) : Fin 2 → Nat :=
  let v117 : Index := Scalar.indexCast v102
  let c48_71 : Index := 48#32
  ![v117.toNat, 48]
def k0_off558 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_63 : BitVec 32 := 16#32
  let v103 : BitVec 32 := Scalar.muli arg16 c16_i32_63
  let c2_i32_64 : BitVec 32 := 2#32
  let v104 : BitVec 32 := Scalar.addi v103 c2_i32_64
  let v119 : Index := Scalar.indexCast v104
  let c48_72 : Index := 48#32
  ![v119.toNat, 48]
def k0_off559 (v102 : BitVec 32) : Fin 2 → Nat :=
  let v121 : Index := Scalar.indexCast v102
  let c64_73 : Index := 64#32
  ![v121.toNat, 64]
def k0_off560 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_63 : BitVec 32 := 16#32
  let v103 : BitVec 32 := Scalar.muli arg16 c16_i32_63
  let c2_i32_64 : BitVec 32 := 2#32
  let v104 : BitVec 32 := Scalar.addi v103 c2_i32_64
  let v123 : Index := Scalar.indexCast v104
  let c64_74 : Index := 64#32
  ![v123.toNat, 64]
def k0_off561 (v102 : BitVec 32) : Fin 2 → Nat :=
  let v125 : Index := Scalar.indexCast v102
  let c80_75 : Index := 80#32
  ![v125.toNat, 80]
def k0_off562 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_63 : BitVec 32 := 16#32
  let v103 : BitVec 32 := Scalar.muli arg16 c16_i32_63
  let c2_i32_64 : BitVec 32 := 2#32
  let v104 : BitVec 32 := Scalar.addi v103 c2_i32_64
  let v127 : Index := Scalar.indexCast v104
  let c80_76 : Index := 80#32
  ![v127.toNat, 80]
def k0_off563 (v102 : BitVec 32) : Fin 2 → Nat :=
  let v129 : Index := Scalar.indexCast v102
  let c96_77 : Index := 96#32
  ![v129.toNat, 96]
def k0_off564 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_63 : BitVec 32 := 16#32
  let v103 : BitVec 32 := Scalar.muli arg16 c16_i32_63
  let c2_i32_64 : BitVec 32 := 2#32
  let v104 : BitVec 32 := Scalar.addi v103 c2_i32_64
  let v131 : Index := Scalar.indexCast v104
  let c96_78 : Index := 96#32
  ![v131.toNat, 96]
def k0_off565 (v102 : BitVec 32) : Fin 2 → Nat :=
  let v133 : Index := Scalar.indexCast v102
  let c112_79 : Index := 112#32
  ![v133.toNat, 112]

def k0_chk35 (v102 : BitVec 32) : Prop :=
  (∀ a, (k0_off551 v102) a + S1x16.size a ≤ S26x128.size a) ∧
  (∀ a, (k0_off553 v102) a + S1x16.size a ≤ S26x128.size a) ∧
  (∀ a, (k0_off555 v102) a + S1x16.size a ≤ S26x128.size a) ∧
  (∀ a, (k0_off557 v102) a + S1x16.size a ≤ S26x128.size a) ∧
  (∀ a, (k0_off559 v102) a + S1x16.size a ≤ S26x128.size a) ∧
  (∀ a, (k0_off561 v102) a + S1x16.size a ≤ S26x128.size a) ∧
  (∀ a, (k0_off563 v102) a + S1x16.size a ≤ S26x128.size a) ∧
  (∀ a, (k0_off565 v102) a + S1x16.size a ≤ S26x128.size a)
theorem k0_off551_inb : ∀ (v102 : BitVec 32) (k0_hw35 : k0_chk35 v102), ∀ a, (k0_off551 v102) a + S1x16.size a ≤ S26x128.size a := fun v102 k0_hw35 => k0_hw35.1
theorem k0_off553_inb : ∀ (v102 : BitVec 32) (k0_hw35 : k0_chk35 v102), ∀ a, (k0_off553 v102) a + S1x16.size a ≤ S26x128.size a := fun v102 k0_hw35 => k0_hw35.2.1
theorem k0_off555_inb : ∀ (v102 : BitVec 32) (k0_hw35 : k0_chk35 v102), ∀ a, (k0_off555 v102) a + S1x16.size a ≤ S26x128.size a := fun v102 k0_hw35 => k0_hw35.2.2.1
theorem k0_off557_inb : ∀ (v102 : BitVec 32) (k0_hw35 : k0_chk35 v102), ∀ a, (k0_off557 v102) a + S1x16.size a ≤ S26x128.size a := fun v102 k0_hw35 => k0_hw35.2.2.2.1
theorem k0_off559_inb : ∀ (v102 : BitVec 32) (k0_hw35 : k0_chk35 v102), ∀ a, (k0_off559 v102) a + S1x16.size a ≤ S26x128.size a := fun v102 k0_hw35 => k0_hw35.2.2.2.2.1
theorem k0_off561_inb : ∀ (v102 : BitVec 32) (k0_hw35 : k0_chk35 v102), ∀ a, (k0_off561 v102) a + S1x16.size a ≤ S26x128.size a := fun v102 k0_hw35 => k0_hw35.2.2.2.2.2.1
theorem k0_off563_inb : ∀ (v102 : BitVec 32) (k0_hw35 : k0_chk35 v102), ∀ a, (k0_off563 v102) a + S1x16.size a ≤ S26x128.size a := fun v102 k0_hw35 => k0_hw35.2.2.2.2.2.2.1
theorem k0_off565_inb : ∀ (v102 : BitVec 32) (k0_hw35 : k0_chk35 v102), ∀ a, (k0_off565 v102) a + S1x16.size a ≤ S26x128.size a := fun v102 k0_hw35 => k0_hw35.2.2.2.2.2.2.2

def k0_off566 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_63 : BitVec 32 := 16#32
  let v103 : BitVec 32 := Scalar.muli arg16 c16_i32_63
  let c2_i32_64 : BitVec 32 := 2#32
  let v104 : BitVec 32 := Scalar.addi v103 c2_i32_64
  let v135 : Index := Scalar.indexCast v104
  let c112_80 : Index := 112#32
  ![v135.toNat, 112]
def k0_off567 (v138 : BitVec 32) : Fin 2 → Nat :=
  let v141 : Index := Scalar.indexCast v138
  let c0_82 : Index := 0#32
  ![v141.toNat, 0]

def k0_off568 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_81 : BitVec 32 := 16#32
  let v139 : BitVec 32 := Scalar.muli arg16 c16_i32_81
  let c3_i32 : BitVec 32 := 3#32
  let v140 : BitVec 32 := Scalar.addi v139 c3_i32
  let v143 : Index := Scalar.indexCast v140
  let c0_83 : Index := 0#32
  ![v143.toNat, 0]
def k0_off569 (v138 : BitVec 32) : Fin 2 → Nat :=
  let v145 : Index := Scalar.indexCast v138
  let c16_84 : Index := 16#32
  ![v145.toNat, 16]
def k0_off570 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_81 : BitVec 32 := 16#32
  let v139 : BitVec 32 := Scalar.muli arg16 c16_i32_81
  let c3_i32 : BitVec 32 := 3#32
  let v140 : BitVec 32 := Scalar.addi v139 c3_i32
  let v147 : Index := Scalar.indexCast v140
  let c16_85 : Index := 16#32
  ![v147.toNat, 16]
def k0_off571 (v138 : BitVec 32) : Fin 2 → Nat :=
  let v149 : Index := Scalar.indexCast v138
  let c32_86 : Index := 32#32
  ![v149.toNat, 32]
def k0_off572 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_81 : BitVec 32 := 16#32
  let v139 : BitVec 32 := Scalar.muli arg16 c16_i32_81
  let c3_i32 : BitVec 32 := 3#32
  let v140 : BitVec 32 := Scalar.addi v139 c3_i32
  let v151 : Index := Scalar.indexCast v140
  let c32_87 : Index := 32#32
  ![v151.toNat, 32]
def k0_off573 (v138 : BitVec 32) : Fin 2 → Nat :=
  let v153 : Index := Scalar.indexCast v138
  let c48_88 : Index := 48#32
  ![v153.toNat, 48]
def k0_off574 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_81 : BitVec 32 := 16#32
  let v139 : BitVec 32 := Scalar.muli arg16 c16_i32_81
  let c3_i32 : BitVec 32 := 3#32
  let v140 : BitVec 32 := Scalar.addi v139 c3_i32
  let v155 : Index := Scalar.indexCast v140
  let c48_89 : Index := 48#32
  ![v155.toNat, 48]
def k0_off575 (v138 : BitVec 32) : Fin 2 → Nat :=
  let v157 : Index := Scalar.indexCast v138
  let c64_90 : Index := 64#32
  ![v157.toNat, 64]
def k0_off576 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_81 : BitVec 32 := 16#32
  let v139 : BitVec 32 := Scalar.muli arg16 c16_i32_81
  let c3_i32 : BitVec 32 := 3#32
  let v140 : BitVec 32 := Scalar.addi v139 c3_i32
  let v159 : Index := Scalar.indexCast v140
  let c64_91 : Index := 64#32
  ![v159.toNat, 64]
def k0_off577 (v138 : BitVec 32) : Fin 2 → Nat :=
  let v161 : Index := Scalar.indexCast v138
  let c80_92 : Index := 80#32
  ![v161.toNat, 80]
def k0_off578 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_81 : BitVec 32 := 16#32
  let v139 : BitVec 32 := Scalar.muli arg16 c16_i32_81
  let c3_i32 : BitVec 32 := 3#32
  let v140 : BitVec 32 := Scalar.addi v139 c3_i32
  let v163 : Index := Scalar.indexCast v140
  let c80_93 : Index := 80#32
  ![v163.toNat, 80]
def k0_off579 (v138 : BitVec 32) : Fin 2 → Nat :=
  let v165 : Index := Scalar.indexCast v138
  let c96_94 : Index := 96#32
  ![v165.toNat, 96]
def k0_off580 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_81 : BitVec 32 := 16#32
  let v139 : BitVec 32 := Scalar.muli arg16 c16_i32_81
  let c3_i32 : BitVec 32 := 3#32
  let v140 : BitVec 32 := Scalar.addi v139 c3_i32
  let v167 : Index := Scalar.indexCast v140
  let c96_95 : Index := 96#32
  ![v167.toNat, 96]
def k0_off581 (v138 : BitVec 32) : Fin 2 → Nat :=
  let v169 : Index := Scalar.indexCast v138
  let c112_96 : Index := 112#32
  ![v169.toNat, 112]

def k0_chk36 (v138 : BitVec 32) : Prop :=
  (∀ a, (k0_off567 v138) a + S1x16.size a ≤ S26x128.size a) ∧
  (∀ a, (k0_off569 v138) a + S1x16.size a ≤ S26x128.size a) ∧
  (∀ a, (k0_off571 v138) a + S1x16.size a ≤ S26x128.size a) ∧
  (∀ a, (k0_off573 v138) a + S1x16.size a ≤ S26x128.size a) ∧
  (∀ a, (k0_off575 v138) a + S1x16.size a ≤ S26x128.size a) ∧
  (∀ a, (k0_off577 v138) a + S1x16.size a ≤ S26x128.size a) ∧
  (∀ a, (k0_off579 v138) a + S1x16.size a ≤ S26x128.size a) ∧
  (∀ a, (k0_off581 v138) a + S1x16.size a ≤ S26x128.size a)
theorem k0_off567_inb : ∀ (v138 : BitVec 32) (k0_hw36 : k0_chk36 v138), ∀ a, (k0_off567 v138) a + S1x16.size a ≤ S26x128.size a := fun v138 k0_hw36 => k0_hw36.1
theorem k0_off569_inb : ∀ (v138 : BitVec 32) (k0_hw36 : k0_chk36 v138), ∀ a, (k0_off569 v138) a + S1x16.size a ≤ S26x128.size a := fun v138 k0_hw36 => k0_hw36.2.1
theorem k0_off571_inb : ∀ (v138 : BitVec 32) (k0_hw36 : k0_chk36 v138), ∀ a, (k0_off571 v138) a + S1x16.size a ≤ S26x128.size a := fun v138 k0_hw36 => k0_hw36.2.2.1
theorem k0_off573_inb : ∀ (v138 : BitVec 32) (k0_hw36 : k0_chk36 v138), ∀ a, (k0_off573 v138) a + S1x16.size a ≤ S26x128.size a := fun v138 k0_hw36 => k0_hw36.2.2.2.1
theorem k0_off575_inb : ∀ (v138 : BitVec 32) (k0_hw36 : k0_chk36 v138), ∀ a, (k0_off575 v138) a + S1x16.size a ≤ S26x128.size a := fun v138 k0_hw36 => k0_hw36.2.2.2.2.1
theorem k0_off577_inb : ∀ (v138 : BitVec 32) (k0_hw36 : k0_chk36 v138), ∀ a, (k0_off577 v138) a + S1x16.size a ≤ S26x128.size a := fun v138 k0_hw36 => k0_hw36.2.2.2.2.2.1
theorem k0_off579_inb : ∀ (v138 : BitVec 32) (k0_hw36 : k0_chk36 v138), ∀ a, (k0_off579 v138) a + S1x16.size a ≤ S26x128.size a := fun v138 k0_hw36 => k0_hw36.2.2.2.2.2.2.1
theorem k0_off581_inb : ∀ (v138 : BitVec 32) (k0_hw36 : k0_chk36 v138), ∀ a, (k0_off581 v138) a + S1x16.size a ≤ S26x128.size a := fun v138 k0_hw36 => k0_hw36.2.2.2.2.2.2.2

def k0_off582 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_81 : BitVec 32 := 16#32
  let v139 : BitVec 32 := Scalar.muli arg16 c16_i32_81
  let c3_i32 : BitVec 32 := 3#32
  let v140 : BitVec 32 := Scalar.addi v139 c3_i32
  let v171 : Index := Scalar.indexCast v140
  let c112_97 : Index := 112#32
  ![v171.toNat, 112]
def k0_off583 (v174 : BitVec 32) : Fin 2 → Nat :=
  let v177 : Index := Scalar.indexCast v174
  let c0_99 : Index := 0#32
  ![v177.toNat, 0]

def k0_off584 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_98 : BitVec 32 := 16#32
  let v175 : BitVec 32 := Scalar.muli arg16 c16_i32_98
  let c4_i32 : BitVec 32 := 4#32
  let v176 : BitVec 32 := Scalar.addi v175 c4_i32
  let v179 : Index := Scalar.indexCast v176
  let c0_100 : Index := 0#32
  ![v179.toNat, 0]
def k0_off585 (v174 : BitVec 32) : Fin 2 → Nat :=
  let v181 : Index := Scalar.indexCast v174
  let c16_101 : Index := 16#32
  ![v181.toNat, 16]
def k0_off586 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_98 : BitVec 32 := 16#32
  let v175 : BitVec 32 := Scalar.muli arg16 c16_i32_98
  let c4_i32 : BitVec 32 := 4#32
  let v176 : BitVec 32 := Scalar.addi v175 c4_i32
  let v183 : Index := Scalar.indexCast v176
  let c16_102 : Index := 16#32
  ![v183.toNat, 16]
def k0_off587 (v174 : BitVec 32) : Fin 2 → Nat :=
  let v185 : Index := Scalar.indexCast v174
  let c32_103 : Index := 32#32
  ![v185.toNat, 32]
def k0_off588 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_98 : BitVec 32 := 16#32
  let v175 : BitVec 32 := Scalar.muli arg16 c16_i32_98
  let c4_i32 : BitVec 32 := 4#32
  let v176 : BitVec 32 := Scalar.addi v175 c4_i32
  let v187 : Index := Scalar.indexCast v176
  let c32_104 : Index := 32#32
  ![v187.toNat, 32]
def k0_off589 (v174 : BitVec 32) : Fin 2 → Nat :=
  let v189 : Index := Scalar.indexCast v174
  let c48_105 : Index := 48#32
  ![v189.toNat, 48]
def k0_off590 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_98 : BitVec 32 := 16#32
  let v175 : BitVec 32 := Scalar.muli arg16 c16_i32_98
  let c4_i32 : BitVec 32 := 4#32
  let v176 : BitVec 32 := Scalar.addi v175 c4_i32
  let v191 : Index := Scalar.indexCast v176
  let c48_106 : Index := 48#32
  ![v191.toNat, 48]
def k0_off591 (v174 : BitVec 32) : Fin 2 → Nat :=
  let v193 : Index := Scalar.indexCast v174
  let c64_107 : Index := 64#32
  ![v193.toNat, 64]
def k0_off592 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_98 : BitVec 32 := 16#32
  let v175 : BitVec 32 := Scalar.muli arg16 c16_i32_98
  let c4_i32 : BitVec 32 := 4#32
  let v176 : BitVec 32 := Scalar.addi v175 c4_i32
  let v195 : Index := Scalar.indexCast v176
  let c64_108 : Index := 64#32
  ![v195.toNat, 64]
def k0_off593 (v174 : BitVec 32) : Fin 2 → Nat :=
  let v197 : Index := Scalar.indexCast v174
  let c80_109 : Index := 80#32
  ![v197.toNat, 80]
def k0_off594 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_98 : BitVec 32 := 16#32
  let v175 : BitVec 32 := Scalar.muli arg16 c16_i32_98
  let c4_i32 : BitVec 32 := 4#32
  let v176 : BitVec 32 := Scalar.addi v175 c4_i32
  let v199 : Index := Scalar.indexCast v176
  let c80_110 : Index := 80#32
  ![v199.toNat, 80]
def k0_off595 (v174 : BitVec 32) : Fin 2 → Nat :=
  let v201 : Index := Scalar.indexCast v174
  let c96_111 : Index := 96#32
  ![v201.toNat, 96]
def k0_off596 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_98 : BitVec 32 := 16#32
  let v175 : BitVec 32 := Scalar.muli arg16 c16_i32_98
  let c4_i32 : BitVec 32 := 4#32
  let v176 : BitVec 32 := Scalar.addi v175 c4_i32
  let v203 : Index := Scalar.indexCast v176
  let c96_112 : Index := 96#32
  ![v203.toNat, 96]
def k0_off597 (v174 : BitVec 32) : Fin 2 → Nat :=
  let v205 : Index := Scalar.indexCast v174
  let c112_113 : Index := 112#32
  ![v205.toNat, 112]

def k0_chk37 (v174 : BitVec 32) : Prop :=
  (∀ a, (k0_off583 v174) a + S1x16.size a ≤ S26x128.size a) ∧
  (∀ a, (k0_off585 v174) a + S1x16.size a ≤ S26x128.size a) ∧
  (∀ a, (k0_off587 v174) a + S1x16.size a ≤ S26x128.size a) ∧
  (∀ a, (k0_off589 v174) a + S1x16.size a ≤ S26x128.size a) ∧
  (∀ a, (k0_off591 v174) a + S1x16.size a ≤ S26x128.size a) ∧
  (∀ a, (k0_off593 v174) a + S1x16.size a ≤ S26x128.size a) ∧
  (∀ a, (k0_off595 v174) a + S1x16.size a ≤ S26x128.size a) ∧
  (∀ a, (k0_off597 v174) a + S1x16.size a ≤ S26x128.size a)
theorem k0_off583_inb : ∀ (v174 : BitVec 32) (k0_hw37 : k0_chk37 v174), ∀ a, (k0_off583 v174) a + S1x16.size a ≤ S26x128.size a := fun v174 k0_hw37 => k0_hw37.1
theorem k0_off585_inb : ∀ (v174 : BitVec 32) (k0_hw37 : k0_chk37 v174), ∀ a, (k0_off585 v174) a + S1x16.size a ≤ S26x128.size a := fun v174 k0_hw37 => k0_hw37.2.1
theorem k0_off587_inb : ∀ (v174 : BitVec 32) (k0_hw37 : k0_chk37 v174), ∀ a, (k0_off587 v174) a + S1x16.size a ≤ S26x128.size a := fun v174 k0_hw37 => k0_hw37.2.2.1
theorem k0_off589_inb : ∀ (v174 : BitVec 32) (k0_hw37 : k0_chk37 v174), ∀ a, (k0_off589 v174) a + S1x16.size a ≤ S26x128.size a := fun v174 k0_hw37 => k0_hw37.2.2.2.1
theorem k0_off591_inb : ∀ (v174 : BitVec 32) (k0_hw37 : k0_chk37 v174), ∀ a, (k0_off591 v174) a + S1x16.size a ≤ S26x128.size a := fun v174 k0_hw37 => k0_hw37.2.2.2.2.1
theorem k0_off593_inb : ∀ (v174 : BitVec 32) (k0_hw37 : k0_chk37 v174), ∀ a, (k0_off593 v174) a + S1x16.size a ≤ S26x128.size a := fun v174 k0_hw37 => k0_hw37.2.2.2.2.2.1
theorem k0_off595_inb : ∀ (v174 : BitVec 32) (k0_hw37 : k0_chk37 v174), ∀ a, (k0_off595 v174) a + S1x16.size a ≤ S26x128.size a := fun v174 k0_hw37 => k0_hw37.2.2.2.2.2.2.1
theorem k0_off597_inb : ∀ (v174 : BitVec 32) (k0_hw37 : k0_chk37 v174), ∀ a, (k0_off597 v174) a + S1x16.size a ≤ S26x128.size a := fun v174 k0_hw37 => k0_hw37.2.2.2.2.2.2.2

def k0_off598 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_98 : BitVec 32 := 16#32
  let v175 : BitVec 32 := Scalar.muli arg16 c16_i32_98
  let c4_i32 : BitVec 32 := 4#32
  let v176 : BitVec 32 := Scalar.addi v175 c4_i32
  let v207 : Index := Scalar.indexCast v176
  let c112_114 : Index := 112#32
  ![v207.toNat, 112]
def k0_off599 (v210 : BitVec 32) : Fin 2 → Nat :=
  let v213 : Index := Scalar.indexCast v210
  let c0_116 : Index := 0#32
  ![v213.toNat, 0]

def k0_off600 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_115 : BitVec 32 := 16#32
  let v211 : BitVec 32 := Scalar.muli arg16 c16_i32_115
  let c5_i32 : BitVec 32 := 5#32
  let v212 : BitVec 32 := Scalar.addi v211 c5_i32
  let v215 : Index := Scalar.indexCast v212
  let c0_117 : Index := 0#32
  ![v215.toNat, 0]
def k0_off601 (v210 : BitVec 32) : Fin 2 → Nat :=
  let v217 : Index := Scalar.indexCast v210
  let c16_118 : Index := 16#32
  ![v217.toNat, 16]
def k0_off602 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_115 : BitVec 32 := 16#32
  let v211 : BitVec 32 := Scalar.muli arg16 c16_i32_115
  let c5_i32 : BitVec 32 := 5#32
  let v212 : BitVec 32 := Scalar.addi v211 c5_i32
  let v219 : Index := Scalar.indexCast v212
  let c16_119 : Index := 16#32
  ![v219.toNat, 16]
def k0_off603 (v210 : BitVec 32) : Fin 2 → Nat :=
  let v221 : Index := Scalar.indexCast v210
  let c32_120 : Index := 32#32
  ![v221.toNat, 32]
def k0_off604 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_115 : BitVec 32 := 16#32
  let v211 : BitVec 32 := Scalar.muli arg16 c16_i32_115
  let c5_i32 : BitVec 32 := 5#32
  let v212 : BitVec 32 := Scalar.addi v211 c5_i32
  let v223 : Index := Scalar.indexCast v212
  let c32_121 : Index := 32#32
  ![v223.toNat, 32]
def k0_off605 (v210 : BitVec 32) : Fin 2 → Nat :=
  let v225 : Index := Scalar.indexCast v210
  let c48_122 : Index := 48#32
  ![v225.toNat, 48]
def k0_off606 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_115 : BitVec 32 := 16#32
  let v211 : BitVec 32 := Scalar.muli arg16 c16_i32_115
  let c5_i32 : BitVec 32 := 5#32
  let v212 : BitVec 32 := Scalar.addi v211 c5_i32
  let v227 : Index := Scalar.indexCast v212
  let c48_123 : Index := 48#32
  ![v227.toNat, 48]
def k0_off607 (v210 : BitVec 32) : Fin 2 → Nat :=
  let v229 : Index := Scalar.indexCast v210
  let c64_124 : Index := 64#32
  ![v229.toNat, 64]
def k0_off608 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_115 : BitVec 32 := 16#32
  let v211 : BitVec 32 := Scalar.muli arg16 c16_i32_115
  let c5_i32 : BitVec 32 := 5#32
  let v212 : BitVec 32 := Scalar.addi v211 c5_i32
  let v231 : Index := Scalar.indexCast v212
  let c64_125 : Index := 64#32
  ![v231.toNat, 64]
def k0_off609 (v210 : BitVec 32) : Fin 2 → Nat :=
  let v233 : Index := Scalar.indexCast v210
  let c80_126 : Index := 80#32
  ![v233.toNat, 80]
def k0_off610 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_115 : BitVec 32 := 16#32
  let v211 : BitVec 32 := Scalar.muli arg16 c16_i32_115
  let c5_i32 : BitVec 32 := 5#32
  let v212 : BitVec 32 := Scalar.addi v211 c5_i32
  let v235 : Index := Scalar.indexCast v212
  let c80_127 : Index := 80#32
  ![v235.toNat, 80]
def k0_off611 (v210 : BitVec 32) : Fin 2 → Nat :=
  let v237 : Index := Scalar.indexCast v210
  let c96_128 : Index := 96#32
  ![v237.toNat, 96]
def k0_off612 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_115 : BitVec 32 := 16#32
  let v211 : BitVec 32 := Scalar.muli arg16 c16_i32_115
  let c5_i32 : BitVec 32 := 5#32
  let v212 : BitVec 32 := Scalar.addi v211 c5_i32
  let v239 : Index := Scalar.indexCast v212
  let c96_129 : Index := 96#32
  ![v239.toNat, 96]
def k0_off613 (v210 : BitVec 32) : Fin 2 → Nat :=
  let v241 : Index := Scalar.indexCast v210
  let c112_130 : Index := 112#32
  ![v241.toNat, 112]

def k0_chk38 (v210 : BitVec 32) : Prop :=
  (∀ a, (k0_off599 v210) a + S1x16.size a ≤ S26x128.size a) ∧
  (∀ a, (k0_off601 v210) a + S1x16.size a ≤ S26x128.size a) ∧
  (∀ a, (k0_off603 v210) a + S1x16.size a ≤ S26x128.size a) ∧
  (∀ a, (k0_off605 v210) a + S1x16.size a ≤ S26x128.size a) ∧
  (∀ a, (k0_off607 v210) a + S1x16.size a ≤ S26x128.size a) ∧
  (∀ a, (k0_off609 v210) a + S1x16.size a ≤ S26x128.size a) ∧
  (∀ a, (k0_off611 v210) a + S1x16.size a ≤ S26x128.size a) ∧
  (∀ a, (k0_off613 v210) a + S1x16.size a ≤ S26x128.size a)
theorem k0_off599_inb : ∀ (v210 : BitVec 32) (k0_hw38 : k0_chk38 v210), ∀ a, (k0_off599 v210) a + S1x16.size a ≤ S26x128.size a := fun v210 k0_hw38 => k0_hw38.1
theorem k0_off601_inb : ∀ (v210 : BitVec 32) (k0_hw38 : k0_chk38 v210), ∀ a, (k0_off601 v210) a + S1x16.size a ≤ S26x128.size a := fun v210 k0_hw38 => k0_hw38.2.1
theorem k0_off603_inb : ∀ (v210 : BitVec 32) (k0_hw38 : k0_chk38 v210), ∀ a, (k0_off603 v210) a + S1x16.size a ≤ S26x128.size a := fun v210 k0_hw38 => k0_hw38.2.2.1
theorem k0_off605_inb : ∀ (v210 : BitVec 32) (k0_hw38 : k0_chk38 v210), ∀ a, (k0_off605 v210) a + S1x16.size a ≤ S26x128.size a := fun v210 k0_hw38 => k0_hw38.2.2.2.1
theorem k0_off607_inb : ∀ (v210 : BitVec 32) (k0_hw38 : k0_chk38 v210), ∀ a, (k0_off607 v210) a + S1x16.size a ≤ S26x128.size a := fun v210 k0_hw38 => k0_hw38.2.2.2.2.1
theorem k0_off609_inb : ∀ (v210 : BitVec 32) (k0_hw38 : k0_chk38 v210), ∀ a, (k0_off609 v210) a + S1x16.size a ≤ S26x128.size a := fun v210 k0_hw38 => k0_hw38.2.2.2.2.2.1
theorem k0_off611_inb : ∀ (v210 : BitVec 32) (k0_hw38 : k0_chk38 v210), ∀ a, (k0_off611 v210) a + S1x16.size a ≤ S26x128.size a := fun v210 k0_hw38 => k0_hw38.2.2.2.2.2.2.1
theorem k0_off613_inb : ∀ (v210 : BitVec 32) (k0_hw38 : k0_chk38 v210), ∀ a, (k0_off613 v210) a + S1x16.size a ≤ S26x128.size a := fun v210 k0_hw38 => k0_hw38.2.2.2.2.2.2.2

def k0_off614 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_115 : BitVec 32 := 16#32
  let v211 : BitVec 32 := Scalar.muli arg16 c16_i32_115
  let c5_i32 : BitVec 32 := 5#32
  let v212 : BitVec 32 := Scalar.addi v211 c5_i32
  let v243 : Index := Scalar.indexCast v212
  let c112_131 : Index := 112#32
  ![v243.toNat, 112]
def k0_off615 (v246 : BitVec 32) : Fin 2 → Nat :=
  let v249 : Index := Scalar.indexCast v246
  let c0_133 : Index := 0#32
  ![v249.toNat, 0]

def k0_off616 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_132 : BitVec 32 := 16#32
  let v247 : BitVec 32 := Scalar.muli arg16 c16_i32_132
  let c6_i32 : BitVec 32 := 6#32
  let v248 : BitVec 32 := Scalar.addi v247 c6_i32
  let v251 : Index := Scalar.indexCast v248
  let c0_134 : Index := 0#32
  ![v251.toNat, 0]
def k0_off617 (v246 : BitVec 32) : Fin 2 → Nat :=
  let v253 : Index := Scalar.indexCast v246
  let c16_135 : Index := 16#32
  ![v253.toNat, 16]
def k0_off618 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_132 : BitVec 32 := 16#32
  let v247 : BitVec 32 := Scalar.muli arg16 c16_i32_132
  let c6_i32 : BitVec 32 := 6#32
  let v248 : BitVec 32 := Scalar.addi v247 c6_i32
  let v255 : Index := Scalar.indexCast v248
  let c16_136 : Index := 16#32
  ![v255.toNat, 16]
def k0_off619 (v246 : BitVec 32) : Fin 2 → Nat :=
  let v257 : Index := Scalar.indexCast v246
  let c32_137 : Index := 32#32
  ![v257.toNat, 32]
def k0_off620 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_132 : BitVec 32 := 16#32
  let v247 : BitVec 32 := Scalar.muli arg16 c16_i32_132
  let c6_i32 : BitVec 32 := 6#32
  let v248 : BitVec 32 := Scalar.addi v247 c6_i32
  let v259 : Index := Scalar.indexCast v248
  let c32_138 : Index := 32#32
  ![v259.toNat, 32]
def k0_off621 (v246 : BitVec 32) : Fin 2 → Nat :=
  let v261 : Index := Scalar.indexCast v246
  let c48_139 : Index := 48#32
  ![v261.toNat, 48]
def k0_off622 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_132 : BitVec 32 := 16#32
  let v247 : BitVec 32 := Scalar.muli arg16 c16_i32_132
  let c6_i32 : BitVec 32 := 6#32
  let v248 : BitVec 32 := Scalar.addi v247 c6_i32
  let v263 : Index := Scalar.indexCast v248
  let c48_140 : Index := 48#32
  ![v263.toNat, 48]
def k0_off623 (v246 : BitVec 32) : Fin 2 → Nat :=
  let v265 : Index := Scalar.indexCast v246
  let c64_141 : Index := 64#32
  ![v265.toNat, 64]
def k0_off624 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_132 : BitVec 32 := 16#32
  let v247 : BitVec 32 := Scalar.muli arg16 c16_i32_132
  let c6_i32 : BitVec 32 := 6#32
  let v248 : BitVec 32 := Scalar.addi v247 c6_i32
  let v267 : Index := Scalar.indexCast v248
  let c64_142 : Index := 64#32
  ![v267.toNat, 64]
def k0_off625 (v246 : BitVec 32) : Fin 2 → Nat :=
  let v269 : Index := Scalar.indexCast v246
  let c80_143 : Index := 80#32
  ![v269.toNat, 80]
def k0_off626 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_132 : BitVec 32 := 16#32
  let v247 : BitVec 32 := Scalar.muli arg16 c16_i32_132
  let c6_i32 : BitVec 32 := 6#32
  let v248 : BitVec 32 := Scalar.addi v247 c6_i32
  let v271 : Index := Scalar.indexCast v248
  let c80_144 : Index := 80#32
  ![v271.toNat, 80]
def k0_off627 (v246 : BitVec 32) : Fin 2 → Nat :=
  let v273 : Index := Scalar.indexCast v246
  let c96_145 : Index := 96#32
  ![v273.toNat, 96]
def k0_off628 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_132 : BitVec 32 := 16#32
  let v247 : BitVec 32 := Scalar.muli arg16 c16_i32_132
  let c6_i32 : BitVec 32 := 6#32
  let v248 : BitVec 32 := Scalar.addi v247 c6_i32
  let v275 : Index := Scalar.indexCast v248
  let c96_146 : Index := 96#32
  ![v275.toNat, 96]
def k0_off629 (v246 : BitVec 32) : Fin 2 → Nat :=
  let v277 : Index := Scalar.indexCast v246
  let c112_147 : Index := 112#32
  ![v277.toNat, 112]

def k0_chk39 (v246 : BitVec 32) : Prop :=
  (∀ a, (k0_off615 v246) a + S1x16.size a ≤ S26x128.size a) ∧
  (∀ a, (k0_off617 v246) a + S1x16.size a ≤ S26x128.size a) ∧
  (∀ a, (k0_off619 v246) a + S1x16.size a ≤ S26x128.size a) ∧
  (∀ a, (k0_off621 v246) a + S1x16.size a ≤ S26x128.size a) ∧
  (∀ a, (k0_off623 v246) a + S1x16.size a ≤ S26x128.size a) ∧
  (∀ a, (k0_off625 v246) a + S1x16.size a ≤ S26x128.size a) ∧
  (∀ a, (k0_off627 v246) a + S1x16.size a ≤ S26x128.size a) ∧
  (∀ a, (k0_off629 v246) a + S1x16.size a ≤ S26x128.size a)
theorem k0_off615_inb : ∀ (v246 : BitVec 32) (k0_hw39 : k0_chk39 v246), ∀ a, (k0_off615 v246) a + S1x16.size a ≤ S26x128.size a := fun v246 k0_hw39 => k0_hw39.1
theorem k0_off617_inb : ∀ (v246 : BitVec 32) (k0_hw39 : k0_chk39 v246), ∀ a, (k0_off617 v246) a + S1x16.size a ≤ S26x128.size a := fun v246 k0_hw39 => k0_hw39.2.1
theorem k0_off619_inb : ∀ (v246 : BitVec 32) (k0_hw39 : k0_chk39 v246), ∀ a, (k0_off619 v246) a + S1x16.size a ≤ S26x128.size a := fun v246 k0_hw39 => k0_hw39.2.2.1
theorem k0_off621_inb : ∀ (v246 : BitVec 32) (k0_hw39 : k0_chk39 v246), ∀ a, (k0_off621 v246) a + S1x16.size a ≤ S26x128.size a := fun v246 k0_hw39 => k0_hw39.2.2.2.1
theorem k0_off623_inb : ∀ (v246 : BitVec 32) (k0_hw39 : k0_chk39 v246), ∀ a, (k0_off623 v246) a + S1x16.size a ≤ S26x128.size a := fun v246 k0_hw39 => k0_hw39.2.2.2.2.1
theorem k0_off625_inb : ∀ (v246 : BitVec 32) (k0_hw39 : k0_chk39 v246), ∀ a, (k0_off625 v246) a + S1x16.size a ≤ S26x128.size a := fun v246 k0_hw39 => k0_hw39.2.2.2.2.2.1
theorem k0_off627_inb : ∀ (v246 : BitVec 32) (k0_hw39 : k0_chk39 v246), ∀ a, (k0_off627 v246) a + S1x16.size a ≤ S26x128.size a := fun v246 k0_hw39 => k0_hw39.2.2.2.2.2.2.1
theorem k0_off629_inb : ∀ (v246 : BitVec 32) (k0_hw39 : k0_chk39 v246), ∀ a, (k0_off629 v246) a + S1x16.size a ≤ S26x128.size a := fun v246 k0_hw39 => k0_hw39.2.2.2.2.2.2.2

def k0_off630 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_132 : BitVec 32 := 16#32
  let v247 : BitVec 32 := Scalar.muli arg16 c16_i32_132
  let c6_i32 : BitVec 32 := 6#32
  let v248 : BitVec 32 := Scalar.addi v247 c6_i32
  let v279 : Index := Scalar.indexCast v248
  let c112_148 : Index := 112#32
  ![v279.toNat, 112]
def k0_off631 (v282 : BitVec 32) : Fin 2 → Nat :=
  let v285 : Index := Scalar.indexCast v282
  let c0_150 : Index := 0#32
  ![v285.toNat, 0]

def k0_off632 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_149 : BitVec 32 := 16#32
  let v283 : BitVec 32 := Scalar.muli arg16 c16_i32_149
  let c7_i32 : BitVec 32 := 7#32
  let v284 : BitVec 32 := Scalar.addi v283 c7_i32
  let v287 : Index := Scalar.indexCast v284
  let c0_151 : Index := 0#32
  ![v287.toNat, 0]
def k0_off633 (v282 : BitVec 32) : Fin 2 → Nat :=
  let v289 : Index := Scalar.indexCast v282
  let c16_152 : Index := 16#32
  ![v289.toNat, 16]
def k0_off634 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_149 : BitVec 32 := 16#32
  let v283 : BitVec 32 := Scalar.muli arg16 c16_i32_149
  let c7_i32 : BitVec 32 := 7#32
  let v284 : BitVec 32 := Scalar.addi v283 c7_i32
  let v291 : Index := Scalar.indexCast v284
  let c16_153 : Index := 16#32
  ![v291.toNat, 16]
def k0_off635 (v282 : BitVec 32) : Fin 2 → Nat :=
  let v293 : Index := Scalar.indexCast v282
  let c32_154 : Index := 32#32
  ![v293.toNat, 32]
def k0_off636 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_149 : BitVec 32 := 16#32
  let v283 : BitVec 32 := Scalar.muli arg16 c16_i32_149
  let c7_i32 : BitVec 32 := 7#32
  let v284 : BitVec 32 := Scalar.addi v283 c7_i32
  let v295 : Index := Scalar.indexCast v284
  let c32_155 : Index := 32#32
  ![v295.toNat, 32]
def k0_off637 (v282 : BitVec 32) : Fin 2 → Nat :=
  let v297 : Index := Scalar.indexCast v282
  let c48_156 : Index := 48#32
  ![v297.toNat, 48]
def k0_off638 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_149 : BitVec 32 := 16#32
  let v283 : BitVec 32 := Scalar.muli arg16 c16_i32_149
  let c7_i32 : BitVec 32 := 7#32
  let v284 : BitVec 32 := Scalar.addi v283 c7_i32
  let v299 : Index := Scalar.indexCast v284
  let c48_157 : Index := 48#32
  ![v299.toNat, 48]
def k0_off639 (v282 : BitVec 32) : Fin 2 → Nat :=
  let v301 : Index := Scalar.indexCast v282
  let c64_158 : Index := 64#32
  ![v301.toNat, 64]
def k0_off640 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_149 : BitVec 32 := 16#32
  let v283 : BitVec 32 := Scalar.muli arg16 c16_i32_149
  let c7_i32 : BitVec 32 := 7#32
  let v284 : BitVec 32 := Scalar.addi v283 c7_i32
  let v303 : Index := Scalar.indexCast v284
  let c64_159 : Index := 64#32
  ![v303.toNat, 64]
def k0_off641 (v282 : BitVec 32) : Fin 2 → Nat :=
  let v305 : Index := Scalar.indexCast v282
  let c80_160 : Index := 80#32
  ![v305.toNat, 80]
def k0_off642 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_149 : BitVec 32 := 16#32
  let v283 : BitVec 32 := Scalar.muli arg16 c16_i32_149
  let c7_i32 : BitVec 32 := 7#32
  let v284 : BitVec 32 := Scalar.addi v283 c7_i32
  let v307 : Index := Scalar.indexCast v284
  let c80_161 : Index := 80#32
  ![v307.toNat, 80]
def k0_off643 (v282 : BitVec 32) : Fin 2 → Nat :=
  let v309 : Index := Scalar.indexCast v282
  let c96_162 : Index := 96#32
  ![v309.toNat, 96]
def k0_off644 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_149 : BitVec 32 := 16#32
  let v283 : BitVec 32 := Scalar.muli arg16 c16_i32_149
  let c7_i32 : BitVec 32 := 7#32
  let v284 : BitVec 32 := Scalar.addi v283 c7_i32
  let v311 : Index := Scalar.indexCast v284
  let c96_163 : Index := 96#32
  ![v311.toNat, 96]
def k0_off645 (v282 : BitVec 32) : Fin 2 → Nat :=
  let v313 : Index := Scalar.indexCast v282
  let c112_164 : Index := 112#32
  ![v313.toNat, 112]

def k0_chk40 (v282 : BitVec 32) : Prop :=
  (∀ a, (k0_off631 v282) a + S1x16.size a ≤ S26x128.size a) ∧
  (∀ a, (k0_off633 v282) a + S1x16.size a ≤ S26x128.size a) ∧
  (∀ a, (k0_off635 v282) a + S1x16.size a ≤ S26x128.size a) ∧
  (∀ a, (k0_off637 v282) a + S1x16.size a ≤ S26x128.size a) ∧
  (∀ a, (k0_off639 v282) a + S1x16.size a ≤ S26x128.size a) ∧
  (∀ a, (k0_off641 v282) a + S1x16.size a ≤ S26x128.size a) ∧
  (∀ a, (k0_off643 v282) a + S1x16.size a ≤ S26x128.size a) ∧
  (∀ a, (k0_off645 v282) a + S1x16.size a ≤ S26x128.size a)
theorem k0_off631_inb : ∀ (v282 : BitVec 32) (k0_hw40 : k0_chk40 v282), ∀ a, (k0_off631 v282) a + S1x16.size a ≤ S26x128.size a := fun v282 k0_hw40 => k0_hw40.1
theorem k0_off633_inb : ∀ (v282 : BitVec 32) (k0_hw40 : k0_chk40 v282), ∀ a, (k0_off633 v282) a + S1x16.size a ≤ S26x128.size a := fun v282 k0_hw40 => k0_hw40.2.1
theorem k0_off635_inb : ∀ (v282 : BitVec 32) (k0_hw40 : k0_chk40 v282), ∀ a, (k0_off635 v282) a + S1x16.size a ≤ S26x128.size a := fun v282 k0_hw40 => k0_hw40.2.2.1
theorem k0_off637_inb : ∀ (v282 : BitVec 32) (k0_hw40 : k0_chk40 v282), ∀ a, (k0_off637 v282) a + S1x16.size a ≤ S26x128.size a := fun v282 k0_hw40 => k0_hw40.2.2.2.1
theorem k0_off639_inb : ∀ (v282 : BitVec 32) (k0_hw40 : k0_chk40 v282), ∀ a, (k0_off639 v282) a + S1x16.size a ≤ S26x128.size a := fun v282 k0_hw40 => k0_hw40.2.2.2.2.1
theorem k0_off641_inb : ∀ (v282 : BitVec 32) (k0_hw40 : k0_chk40 v282), ∀ a, (k0_off641 v282) a + S1x16.size a ≤ S26x128.size a := fun v282 k0_hw40 => k0_hw40.2.2.2.2.2.1
theorem k0_off643_inb : ∀ (v282 : BitVec 32) (k0_hw40 : k0_chk40 v282), ∀ a, (k0_off643 v282) a + S1x16.size a ≤ S26x128.size a := fun v282 k0_hw40 => k0_hw40.2.2.2.2.2.2.1
theorem k0_off645_inb : ∀ (v282 : BitVec 32) (k0_hw40 : k0_chk40 v282), ∀ a, (k0_off645 v282) a + S1x16.size a ≤ S26x128.size a := fun v282 k0_hw40 => k0_hw40.2.2.2.2.2.2.2

def k0_off646 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_149 : BitVec 32 := 16#32
  let v283 : BitVec 32 := Scalar.muli arg16 c16_i32_149
  let c7_i32 : BitVec 32 := 7#32
  let v284 : BitVec 32 := Scalar.addi v283 c7_i32
  let v315 : Index := Scalar.indexCast v284
  let c112_165 : Index := 112#32
  ![v315.toNat, 112]
def k0_off647 (v318 : BitVec 32) : Fin 2 → Nat :=
  let v321 : Index := Scalar.indexCast v318
  let c0_168 : Index := 0#32
  ![v321.toNat, 0]

def k0_off648 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_166 : BitVec 32 := 16#32
  let v319 : BitVec 32 := Scalar.muli arg16 c16_i32_166
  let c8_i32_167 : BitVec 32 := 8#32
  let v320 : BitVec 32 := Scalar.addi v319 c8_i32_167
  let v323 : Index := Scalar.indexCast v320
  let c0_169 : Index := 0#32
  ![v323.toNat, 0]
def k0_off649 (v318 : BitVec 32) : Fin 2 → Nat :=
  let v325 : Index := Scalar.indexCast v318
  let c16_170 : Index := 16#32
  ![v325.toNat, 16]
def k0_off650 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_166 : BitVec 32 := 16#32
  let v319 : BitVec 32 := Scalar.muli arg16 c16_i32_166
  let c8_i32_167 : BitVec 32 := 8#32
  let v320 : BitVec 32 := Scalar.addi v319 c8_i32_167
  let v327 : Index := Scalar.indexCast v320
  let c16_171 : Index := 16#32
  ![v327.toNat, 16]
def k0_off651 (v318 : BitVec 32) : Fin 2 → Nat :=
  let v329 : Index := Scalar.indexCast v318
  let c32_172 : Index := 32#32
  ![v329.toNat, 32]
def k0_off652 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_166 : BitVec 32 := 16#32
  let v319 : BitVec 32 := Scalar.muli arg16 c16_i32_166
  let c8_i32_167 : BitVec 32 := 8#32
  let v320 : BitVec 32 := Scalar.addi v319 c8_i32_167
  let v331 : Index := Scalar.indexCast v320
  let c32_173 : Index := 32#32
  ![v331.toNat, 32]
def k0_off653 (v318 : BitVec 32) : Fin 2 → Nat :=
  let v333 : Index := Scalar.indexCast v318
  let c48_174 : Index := 48#32
  ![v333.toNat, 48]
def k0_off654 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_166 : BitVec 32 := 16#32
  let v319 : BitVec 32 := Scalar.muli arg16 c16_i32_166
  let c8_i32_167 : BitVec 32 := 8#32
  let v320 : BitVec 32 := Scalar.addi v319 c8_i32_167
  let v335 : Index := Scalar.indexCast v320
  let c48_175 : Index := 48#32
  ![v335.toNat, 48]
def k0_off655 (v318 : BitVec 32) : Fin 2 → Nat :=
  let v337 : Index := Scalar.indexCast v318
  let c64_176 : Index := 64#32
  ![v337.toNat, 64]
def k0_off656 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_166 : BitVec 32 := 16#32
  let v319 : BitVec 32 := Scalar.muli arg16 c16_i32_166
  let c8_i32_167 : BitVec 32 := 8#32
  let v320 : BitVec 32 := Scalar.addi v319 c8_i32_167
  let v339 : Index := Scalar.indexCast v320
  let c64_177 : Index := 64#32
  ![v339.toNat, 64]
def k0_off657 (v318 : BitVec 32) : Fin 2 → Nat :=
  let v341 : Index := Scalar.indexCast v318
  let c80_178 : Index := 80#32
  ![v341.toNat, 80]
def k0_off658 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_166 : BitVec 32 := 16#32
  let v319 : BitVec 32 := Scalar.muli arg16 c16_i32_166
  let c8_i32_167 : BitVec 32 := 8#32
  let v320 : BitVec 32 := Scalar.addi v319 c8_i32_167
  let v343 : Index := Scalar.indexCast v320
  let c80_179 : Index := 80#32
  ![v343.toNat, 80]
def k0_off659 (v318 : BitVec 32) : Fin 2 → Nat :=
  let v345 : Index := Scalar.indexCast v318
  let c96_180 : Index := 96#32
  ![v345.toNat, 96]
def k0_off660 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_166 : BitVec 32 := 16#32
  let v319 : BitVec 32 := Scalar.muli arg16 c16_i32_166
  let c8_i32_167 : BitVec 32 := 8#32
  let v320 : BitVec 32 := Scalar.addi v319 c8_i32_167
  let v347 : Index := Scalar.indexCast v320
  let c96_181 : Index := 96#32
  ![v347.toNat, 96]
def k0_off661 (v318 : BitVec 32) : Fin 2 → Nat :=
  let v349 : Index := Scalar.indexCast v318
  let c112_182 : Index := 112#32
  ![v349.toNat, 112]

def k0_chk41 (v318 : BitVec 32) : Prop :=
  (∀ a, (k0_off647 v318) a + S1x16.size a ≤ S26x128.size a) ∧
  (∀ a, (k0_off649 v318) a + S1x16.size a ≤ S26x128.size a) ∧
  (∀ a, (k0_off651 v318) a + S1x16.size a ≤ S26x128.size a) ∧
  (∀ a, (k0_off653 v318) a + S1x16.size a ≤ S26x128.size a) ∧
  (∀ a, (k0_off655 v318) a + S1x16.size a ≤ S26x128.size a) ∧
  (∀ a, (k0_off657 v318) a + S1x16.size a ≤ S26x128.size a) ∧
  (∀ a, (k0_off659 v318) a + S1x16.size a ≤ S26x128.size a) ∧
  (∀ a, (k0_off661 v318) a + S1x16.size a ≤ S26x128.size a)
theorem k0_off647_inb : ∀ (v318 : BitVec 32) (k0_hw41 : k0_chk41 v318), ∀ a, (k0_off647 v318) a + S1x16.size a ≤ S26x128.size a := fun v318 k0_hw41 => k0_hw41.1
theorem k0_off649_inb : ∀ (v318 : BitVec 32) (k0_hw41 : k0_chk41 v318), ∀ a, (k0_off649 v318) a + S1x16.size a ≤ S26x128.size a := fun v318 k0_hw41 => k0_hw41.2.1
theorem k0_off651_inb : ∀ (v318 : BitVec 32) (k0_hw41 : k0_chk41 v318), ∀ a, (k0_off651 v318) a + S1x16.size a ≤ S26x128.size a := fun v318 k0_hw41 => k0_hw41.2.2.1
theorem k0_off653_inb : ∀ (v318 : BitVec 32) (k0_hw41 : k0_chk41 v318), ∀ a, (k0_off653 v318) a + S1x16.size a ≤ S26x128.size a := fun v318 k0_hw41 => k0_hw41.2.2.2.1
theorem k0_off655_inb : ∀ (v318 : BitVec 32) (k0_hw41 : k0_chk41 v318), ∀ a, (k0_off655 v318) a + S1x16.size a ≤ S26x128.size a := fun v318 k0_hw41 => k0_hw41.2.2.2.2.1
theorem k0_off657_inb : ∀ (v318 : BitVec 32) (k0_hw41 : k0_chk41 v318), ∀ a, (k0_off657 v318) a + S1x16.size a ≤ S26x128.size a := fun v318 k0_hw41 => k0_hw41.2.2.2.2.2.1
theorem k0_off659_inb : ∀ (v318 : BitVec 32) (k0_hw41 : k0_chk41 v318), ∀ a, (k0_off659 v318) a + S1x16.size a ≤ S26x128.size a := fun v318 k0_hw41 => k0_hw41.2.2.2.2.2.2.1
theorem k0_off661_inb : ∀ (v318 : BitVec 32) (k0_hw41 : k0_chk41 v318), ∀ a, (k0_off661 v318) a + S1x16.size a ≤ S26x128.size a := fun v318 k0_hw41 => k0_hw41.2.2.2.2.2.2.2

def k0_off662 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_166 : BitVec 32 := 16#32
  let v319 : BitVec 32 := Scalar.muli arg16 c16_i32_166
  let c8_i32_167 : BitVec 32 := 8#32
  let v320 : BitVec 32 := Scalar.addi v319 c8_i32_167
  let v351 : Index := Scalar.indexCast v320
  let c112_183 : Index := 112#32
  ![v351.toNat, 112]
def k0_off663 (v354 : BitVec 32) : Fin 2 → Nat :=
  let v357 : Index := Scalar.indexCast v354
  let c0_185 : Index := 0#32
  ![v357.toNat, 0]

def k0_off664 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_184 : BitVec 32 := 16#32
  let v355 : BitVec 32 := Scalar.muli arg16 c16_i32_184
  let c9_i32 : BitVec 32 := 9#32
  let v356 : BitVec 32 := Scalar.addi v355 c9_i32
  let v359 : Index := Scalar.indexCast v356
  let c0_186 : Index := 0#32
  ![v359.toNat, 0]
def k0_off665 (v354 : BitVec 32) : Fin 2 → Nat :=
  let v361 : Index := Scalar.indexCast v354
  let c16_187 : Index := 16#32
  ![v361.toNat, 16]
def k0_off666 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_184 : BitVec 32 := 16#32
  let v355 : BitVec 32 := Scalar.muli arg16 c16_i32_184
  let c9_i32 : BitVec 32 := 9#32
  let v356 : BitVec 32 := Scalar.addi v355 c9_i32
  let v363 : Index := Scalar.indexCast v356
  let c16_188 : Index := 16#32
  ![v363.toNat, 16]
def k0_off667 (v354 : BitVec 32) : Fin 2 → Nat :=
  let v365 : Index := Scalar.indexCast v354
  let c32_189 : Index := 32#32
  ![v365.toNat, 32]
def k0_off668 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_184 : BitVec 32 := 16#32
  let v355 : BitVec 32 := Scalar.muli arg16 c16_i32_184
  let c9_i32 : BitVec 32 := 9#32
  let v356 : BitVec 32 := Scalar.addi v355 c9_i32
  let v367 : Index := Scalar.indexCast v356
  let c32_190 : Index := 32#32
  ![v367.toNat, 32]
def k0_off669 (v354 : BitVec 32) : Fin 2 → Nat :=
  let v369 : Index := Scalar.indexCast v354
  let c48_191 : Index := 48#32
  ![v369.toNat, 48]
def k0_off670 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_184 : BitVec 32 := 16#32
  let v355 : BitVec 32 := Scalar.muli arg16 c16_i32_184
  let c9_i32 : BitVec 32 := 9#32
  let v356 : BitVec 32 := Scalar.addi v355 c9_i32
  let v371 : Index := Scalar.indexCast v356
  let c48_192 : Index := 48#32
  ![v371.toNat, 48]
def k0_off671 (v354 : BitVec 32) : Fin 2 → Nat :=
  let v373 : Index := Scalar.indexCast v354
  let c64_193 : Index := 64#32
  ![v373.toNat, 64]
def k0_off672 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_184 : BitVec 32 := 16#32
  let v355 : BitVec 32 := Scalar.muli arg16 c16_i32_184
  let c9_i32 : BitVec 32 := 9#32
  let v356 : BitVec 32 := Scalar.addi v355 c9_i32
  let v375 : Index := Scalar.indexCast v356
  let c64_194 : Index := 64#32
  ![v375.toNat, 64]
def k0_off673 (v354 : BitVec 32) : Fin 2 → Nat :=
  let v377 : Index := Scalar.indexCast v354
  let c80_195 : Index := 80#32
  ![v377.toNat, 80]
def k0_off674 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_184 : BitVec 32 := 16#32
  let v355 : BitVec 32 := Scalar.muli arg16 c16_i32_184
  let c9_i32 : BitVec 32 := 9#32
  let v356 : BitVec 32 := Scalar.addi v355 c9_i32
  let v379 : Index := Scalar.indexCast v356
  let c80_196 : Index := 80#32
  ![v379.toNat, 80]
def k0_off675 (v354 : BitVec 32) : Fin 2 → Nat :=
  let v381 : Index := Scalar.indexCast v354
  let c96_197 : Index := 96#32
  ![v381.toNat, 96]
def k0_off676 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_184 : BitVec 32 := 16#32
  let v355 : BitVec 32 := Scalar.muli arg16 c16_i32_184
  let c9_i32 : BitVec 32 := 9#32
  let v356 : BitVec 32 := Scalar.addi v355 c9_i32
  let v383 : Index := Scalar.indexCast v356
  let c96_198 : Index := 96#32
  ![v383.toNat, 96]
def k0_off677 (v354 : BitVec 32) : Fin 2 → Nat :=
  let v385 : Index := Scalar.indexCast v354
  let c112_199 : Index := 112#32
  ![v385.toNat, 112]

def k0_chk42 (v354 : BitVec 32) : Prop :=
  (∀ a, (k0_off663 v354) a + S1x16.size a ≤ S26x128.size a) ∧
  (∀ a, (k0_off665 v354) a + S1x16.size a ≤ S26x128.size a) ∧
  (∀ a, (k0_off667 v354) a + S1x16.size a ≤ S26x128.size a) ∧
  (∀ a, (k0_off669 v354) a + S1x16.size a ≤ S26x128.size a) ∧
  (∀ a, (k0_off671 v354) a + S1x16.size a ≤ S26x128.size a) ∧
  (∀ a, (k0_off673 v354) a + S1x16.size a ≤ S26x128.size a) ∧
  (∀ a, (k0_off675 v354) a + S1x16.size a ≤ S26x128.size a) ∧
  (∀ a, (k0_off677 v354) a + S1x16.size a ≤ S26x128.size a)
theorem k0_off663_inb : ∀ (v354 : BitVec 32) (k0_hw42 : k0_chk42 v354), ∀ a, (k0_off663 v354) a + S1x16.size a ≤ S26x128.size a := fun v354 k0_hw42 => k0_hw42.1
theorem k0_off665_inb : ∀ (v354 : BitVec 32) (k0_hw42 : k0_chk42 v354), ∀ a, (k0_off665 v354) a + S1x16.size a ≤ S26x128.size a := fun v354 k0_hw42 => k0_hw42.2.1
theorem k0_off667_inb : ∀ (v354 : BitVec 32) (k0_hw42 : k0_chk42 v354), ∀ a, (k0_off667 v354) a + S1x16.size a ≤ S26x128.size a := fun v354 k0_hw42 => k0_hw42.2.2.1
theorem k0_off669_inb : ∀ (v354 : BitVec 32) (k0_hw42 : k0_chk42 v354), ∀ a, (k0_off669 v354) a + S1x16.size a ≤ S26x128.size a := fun v354 k0_hw42 => k0_hw42.2.2.2.1
theorem k0_off671_inb : ∀ (v354 : BitVec 32) (k0_hw42 : k0_chk42 v354), ∀ a, (k0_off671 v354) a + S1x16.size a ≤ S26x128.size a := fun v354 k0_hw42 => k0_hw42.2.2.2.2.1
theorem k0_off673_inb : ∀ (v354 : BitVec 32) (k0_hw42 : k0_chk42 v354), ∀ a, (k0_off673 v354) a + S1x16.size a ≤ S26x128.size a := fun v354 k0_hw42 => k0_hw42.2.2.2.2.2.1
theorem k0_off675_inb : ∀ (v354 : BitVec 32) (k0_hw42 : k0_chk42 v354), ∀ a, (k0_off675 v354) a + S1x16.size a ≤ S26x128.size a := fun v354 k0_hw42 => k0_hw42.2.2.2.2.2.2.1
theorem k0_off677_inb : ∀ (v354 : BitVec 32) (k0_hw42 : k0_chk42 v354), ∀ a, (k0_off677 v354) a + S1x16.size a ≤ S26x128.size a := fun v354 k0_hw42 => k0_hw42.2.2.2.2.2.2.2

def k0_off678 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_184 : BitVec 32 := 16#32
  let v355 : BitVec 32 := Scalar.muli arg16 c16_i32_184
  let c9_i32 : BitVec 32 := 9#32
  let v356 : BitVec 32 := Scalar.addi v355 c9_i32
  let v387 : Index := Scalar.indexCast v356
  let c112_200 : Index := 112#32
  ![v387.toNat, 112]
def k0_off679 (v390 : BitVec 32) : Fin 2 → Nat :=
  let v393 : Index := Scalar.indexCast v390
  let c0_202 : Index := 0#32
  ![v393.toNat, 0]

def k0_off680 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_201 : BitVec 32 := 16#32
  let v391 : BitVec 32 := Scalar.muli arg16 c16_i32_201
  let c10_i32 : BitVec 32 := 10#32
  let v392 : BitVec 32 := Scalar.addi v391 c10_i32
  let v395 : Index := Scalar.indexCast v392
  let c0_203 : Index := 0#32
  ![v395.toNat, 0]
def k0_off681 (v390 : BitVec 32) : Fin 2 → Nat :=
  let v397 : Index := Scalar.indexCast v390
  let c16_204 : Index := 16#32
  ![v397.toNat, 16]
def k0_off682 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_201 : BitVec 32 := 16#32
  let v391 : BitVec 32 := Scalar.muli arg16 c16_i32_201
  let c10_i32 : BitVec 32 := 10#32
  let v392 : BitVec 32 := Scalar.addi v391 c10_i32
  let v399 : Index := Scalar.indexCast v392
  let c16_205 : Index := 16#32
  ![v399.toNat, 16]
def k0_off683 (v390 : BitVec 32) : Fin 2 → Nat :=
  let v401 : Index := Scalar.indexCast v390
  let c32_206 : Index := 32#32
  ![v401.toNat, 32]
def k0_off684 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_201 : BitVec 32 := 16#32
  let v391 : BitVec 32 := Scalar.muli arg16 c16_i32_201
  let c10_i32 : BitVec 32 := 10#32
  let v392 : BitVec 32 := Scalar.addi v391 c10_i32
  let v403 : Index := Scalar.indexCast v392
  let c32_207 : Index := 32#32
  ![v403.toNat, 32]
def k0_off685 (v390 : BitVec 32) : Fin 2 → Nat :=
  let v405 : Index := Scalar.indexCast v390
  let c48_208 : Index := 48#32
  ![v405.toNat, 48]
def k0_off686 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_201 : BitVec 32 := 16#32
  let v391 : BitVec 32 := Scalar.muli arg16 c16_i32_201
  let c10_i32 : BitVec 32 := 10#32
  let v392 : BitVec 32 := Scalar.addi v391 c10_i32
  let v407 : Index := Scalar.indexCast v392
  let c48_209 : Index := 48#32
  ![v407.toNat, 48]
def k0_off687 (v390 : BitVec 32) : Fin 2 → Nat :=
  let v409 : Index := Scalar.indexCast v390
  let c64_210 : Index := 64#32
  ![v409.toNat, 64]
def k0_off688 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_201 : BitVec 32 := 16#32
  let v391 : BitVec 32 := Scalar.muli arg16 c16_i32_201
  let c10_i32 : BitVec 32 := 10#32
  let v392 : BitVec 32 := Scalar.addi v391 c10_i32
  let v411 : Index := Scalar.indexCast v392
  let c64_211 : Index := 64#32
  ![v411.toNat, 64]
def k0_off689 (v390 : BitVec 32) : Fin 2 → Nat :=
  let v413 : Index := Scalar.indexCast v390
  let c80_212 : Index := 80#32
  ![v413.toNat, 80]
def k0_off690 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_201 : BitVec 32 := 16#32
  let v391 : BitVec 32 := Scalar.muli arg16 c16_i32_201
  let c10_i32 : BitVec 32 := 10#32
  let v392 : BitVec 32 := Scalar.addi v391 c10_i32
  let v415 : Index := Scalar.indexCast v392
  let c80_213 : Index := 80#32
  ![v415.toNat, 80]
def k0_off691 (v390 : BitVec 32) : Fin 2 → Nat :=
  let v417 : Index := Scalar.indexCast v390
  let c96_214 : Index := 96#32
  ![v417.toNat, 96]
def k0_off692 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_201 : BitVec 32 := 16#32
  let v391 : BitVec 32 := Scalar.muli arg16 c16_i32_201
  let c10_i32 : BitVec 32 := 10#32
  let v392 : BitVec 32 := Scalar.addi v391 c10_i32
  let v419 : Index := Scalar.indexCast v392
  let c96_215 : Index := 96#32
  ![v419.toNat, 96]
def k0_off693 (v390 : BitVec 32) : Fin 2 → Nat :=
  let v421 : Index := Scalar.indexCast v390
  let c112_216 : Index := 112#32
  ![v421.toNat, 112]

def k0_chk43 (v390 : BitVec 32) : Prop :=
  (∀ a, (k0_off679 v390) a + S1x16.size a ≤ S26x128.size a) ∧
  (∀ a, (k0_off681 v390) a + S1x16.size a ≤ S26x128.size a) ∧
  (∀ a, (k0_off683 v390) a + S1x16.size a ≤ S26x128.size a) ∧
  (∀ a, (k0_off685 v390) a + S1x16.size a ≤ S26x128.size a) ∧
  (∀ a, (k0_off687 v390) a + S1x16.size a ≤ S26x128.size a) ∧
  (∀ a, (k0_off689 v390) a + S1x16.size a ≤ S26x128.size a) ∧
  (∀ a, (k0_off691 v390) a + S1x16.size a ≤ S26x128.size a) ∧
  (∀ a, (k0_off693 v390) a + S1x16.size a ≤ S26x128.size a)
theorem k0_off679_inb : ∀ (v390 : BitVec 32) (k0_hw43 : k0_chk43 v390), ∀ a, (k0_off679 v390) a + S1x16.size a ≤ S26x128.size a := fun v390 k0_hw43 => k0_hw43.1
theorem k0_off681_inb : ∀ (v390 : BitVec 32) (k0_hw43 : k0_chk43 v390), ∀ a, (k0_off681 v390) a + S1x16.size a ≤ S26x128.size a := fun v390 k0_hw43 => k0_hw43.2.1
theorem k0_off683_inb : ∀ (v390 : BitVec 32) (k0_hw43 : k0_chk43 v390), ∀ a, (k0_off683 v390) a + S1x16.size a ≤ S26x128.size a := fun v390 k0_hw43 => k0_hw43.2.2.1
theorem k0_off685_inb : ∀ (v390 : BitVec 32) (k0_hw43 : k0_chk43 v390), ∀ a, (k0_off685 v390) a + S1x16.size a ≤ S26x128.size a := fun v390 k0_hw43 => k0_hw43.2.2.2.1
theorem k0_off687_inb : ∀ (v390 : BitVec 32) (k0_hw43 : k0_chk43 v390), ∀ a, (k0_off687 v390) a + S1x16.size a ≤ S26x128.size a := fun v390 k0_hw43 => k0_hw43.2.2.2.2.1
theorem k0_off689_inb : ∀ (v390 : BitVec 32) (k0_hw43 : k0_chk43 v390), ∀ a, (k0_off689 v390) a + S1x16.size a ≤ S26x128.size a := fun v390 k0_hw43 => k0_hw43.2.2.2.2.2.1
theorem k0_off691_inb : ∀ (v390 : BitVec 32) (k0_hw43 : k0_chk43 v390), ∀ a, (k0_off691 v390) a + S1x16.size a ≤ S26x128.size a := fun v390 k0_hw43 => k0_hw43.2.2.2.2.2.2.1
theorem k0_off693_inb : ∀ (v390 : BitVec 32) (k0_hw43 : k0_chk43 v390), ∀ a, (k0_off693 v390) a + S1x16.size a ≤ S26x128.size a := fun v390 k0_hw43 => k0_hw43.2.2.2.2.2.2.2

def k0_off694 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_201 : BitVec 32 := 16#32
  let v391 : BitVec 32 := Scalar.muli arg16 c16_i32_201
  let c10_i32 : BitVec 32 := 10#32
  let v392 : BitVec 32 := Scalar.addi v391 c10_i32
  let v423 : Index := Scalar.indexCast v392
  let c112_217 : Index := 112#32
  ![v423.toNat, 112]
def k0_off695 (v426 : BitVec 32) : Fin 2 → Nat :=
  let v429 : Index := Scalar.indexCast v426
  let c0_219 : Index := 0#32
  ![v429.toNat, 0]

def k0_off696 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_218 : BitVec 32 := 16#32
  let v427 : BitVec 32 := Scalar.muli arg16 c16_i32_218
  let c11_i32 : BitVec 32 := 11#32
  let v428 : BitVec 32 := Scalar.addi v427 c11_i32
  let v431 : Index := Scalar.indexCast v428
  let c0_220 : Index := 0#32
  ![v431.toNat, 0]
def k0_off697 (v426 : BitVec 32) : Fin 2 → Nat :=
  let v433 : Index := Scalar.indexCast v426
  let c16_221 : Index := 16#32
  ![v433.toNat, 16]
def k0_off698 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_218 : BitVec 32 := 16#32
  let v427 : BitVec 32 := Scalar.muli arg16 c16_i32_218
  let c11_i32 : BitVec 32 := 11#32
  let v428 : BitVec 32 := Scalar.addi v427 c11_i32
  let v435 : Index := Scalar.indexCast v428
  let c16_222 : Index := 16#32
  ![v435.toNat, 16]
def k0_off699 (v426 : BitVec 32) : Fin 2 → Nat :=
  let v437 : Index := Scalar.indexCast v426
  let c32_223 : Index := 32#32
  ![v437.toNat, 32]
def k0_off700 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_218 : BitVec 32 := 16#32
  let v427 : BitVec 32 := Scalar.muli arg16 c16_i32_218
  let c11_i32 : BitVec 32 := 11#32
  let v428 : BitVec 32 := Scalar.addi v427 c11_i32
  let v439 : Index := Scalar.indexCast v428
  let c32_224 : Index := 32#32
  ![v439.toNat, 32]
def k0_off701 (v426 : BitVec 32) : Fin 2 → Nat :=
  let v441 : Index := Scalar.indexCast v426
  let c48_225 : Index := 48#32
  ![v441.toNat, 48]
def k0_off702 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_218 : BitVec 32 := 16#32
  let v427 : BitVec 32 := Scalar.muli arg16 c16_i32_218
  let c11_i32 : BitVec 32 := 11#32
  let v428 : BitVec 32 := Scalar.addi v427 c11_i32
  let v443 : Index := Scalar.indexCast v428
  let c48_226 : Index := 48#32
  ![v443.toNat, 48]
def k0_off703 (v426 : BitVec 32) : Fin 2 → Nat :=
  let v445 : Index := Scalar.indexCast v426
  let c64_227 : Index := 64#32
  ![v445.toNat, 64]
def k0_off704 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_218 : BitVec 32 := 16#32
  let v427 : BitVec 32 := Scalar.muli arg16 c16_i32_218
  let c11_i32 : BitVec 32 := 11#32
  let v428 : BitVec 32 := Scalar.addi v427 c11_i32
  let v447 : Index := Scalar.indexCast v428
  let c64_228 : Index := 64#32
  ![v447.toNat, 64]
def k0_off705 (v426 : BitVec 32) : Fin 2 → Nat :=
  let v449 : Index := Scalar.indexCast v426
  let c80_229 : Index := 80#32
  ![v449.toNat, 80]
def k0_off706 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_218 : BitVec 32 := 16#32
  let v427 : BitVec 32 := Scalar.muli arg16 c16_i32_218
  let c11_i32 : BitVec 32 := 11#32
  let v428 : BitVec 32 := Scalar.addi v427 c11_i32
  let v451 : Index := Scalar.indexCast v428
  let c80_230 : Index := 80#32
  ![v451.toNat, 80]
def k0_off707 (v426 : BitVec 32) : Fin 2 → Nat :=
  let v453 : Index := Scalar.indexCast v426
  let c96_231 : Index := 96#32
  ![v453.toNat, 96]
def k0_off708 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_218 : BitVec 32 := 16#32
  let v427 : BitVec 32 := Scalar.muli arg16 c16_i32_218
  let c11_i32 : BitVec 32 := 11#32
  let v428 : BitVec 32 := Scalar.addi v427 c11_i32
  let v455 : Index := Scalar.indexCast v428
  let c96_232 : Index := 96#32
  ![v455.toNat, 96]
def k0_off709 (v426 : BitVec 32) : Fin 2 → Nat :=
  let v457 : Index := Scalar.indexCast v426
  let c112_233 : Index := 112#32
  ![v457.toNat, 112]

def k0_chk44 (v426 : BitVec 32) : Prop :=
  (∀ a, (k0_off695 v426) a + S1x16.size a ≤ S26x128.size a) ∧
  (∀ a, (k0_off697 v426) a + S1x16.size a ≤ S26x128.size a) ∧
  (∀ a, (k0_off699 v426) a + S1x16.size a ≤ S26x128.size a) ∧
  (∀ a, (k0_off701 v426) a + S1x16.size a ≤ S26x128.size a) ∧
  (∀ a, (k0_off703 v426) a + S1x16.size a ≤ S26x128.size a) ∧
  (∀ a, (k0_off705 v426) a + S1x16.size a ≤ S26x128.size a) ∧
  (∀ a, (k0_off707 v426) a + S1x16.size a ≤ S26x128.size a) ∧
  (∀ a, (k0_off709 v426) a + S1x16.size a ≤ S26x128.size a)
theorem k0_off695_inb : ∀ (v426 : BitVec 32) (k0_hw44 : k0_chk44 v426), ∀ a, (k0_off695 v426) a + S1x16.size a ≤ S26x128.size a := fun v426 k0_hw44 => k0_hw44.1
theorem k0_off697_inb : ∀ (v426 : BitVec 32) (k0_hw44 : k0_chk44 v426), ∀ a, (k0_off697 v426) a + S1x16.size a ≤ S26x128.size a := fun v426 k0_hw44 => k0_hw44.2.1
theorem k0_off699_inb : ∀ (v426 : BitVec 32) (k0_hw44 : k0_chk44 v426), ∀ a, (k0_off699 v426) a + S1x16.size a ≤ S26x128.size a := fun v426 k0_hw44 => k0_hw44.2.2.1
theorem k0_off701_inb : ∀ (v426 : BitVec 32) (k0_hw44 : k0_chk44 v426), ∀ a, (k0_off701 v426) a + S1x16.size a ≤ S26x128.size a := fun v426 k0_hw44 => k0_hw44.2.2.2.1
theorem k0_off703_inb : ∀ (v426 : BitVec 32) (k0_hw44 : k0_chk44 v426), ∀ a, (k0_off703 v426) a + S1x16.size a ≤ S26x128.size a := fun v426 k0_hw44 => k0_hw44.2.2.2.2.1
theorem k0_off705_inb : ∀ (v426 : BitVec 32) (k0_hw44 : k0_chk44 v426), ∀ a, (k0_off705 v426) a + S1x16.size a ≤ S26x128.size a := fun v426 k0_hw44 => k0_hw44.2.2.2.2.2.1
theorem k0_off707_inb : ∀ (v426 : BitVec 32) (k0_hw44 : k0_chk44 v426), ∀ a, (k0_off707 v426) a + S1x16.size a ≤ S26x128.size a := fun v426 k0_hw44 => k0_hw44.2.2.2.2.2.2.1
theorem k0_off709_inb : ∀ (v426 : BitVec 32) (k0_hw44 : k0_chk44 v426), ∀ a, (k0_off709 v426) a + S1x16.size a ≤ S26x128.size a := fun v426 k0_hw44 => k0_hw44.2.2.2.2.2.2.2

def k0_off710 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_218 : BitVec 32 := 16#32
  let v427 : BitVec 32 := Scalar.muli arg16 c16_i32_218
  let c11_i32 : BitVec 32 := 11#32
  let v428 : BitVec 32 := Scalar.addi v427 c11_i32
  let v459 : Index := Scalar.indexCast v428
  let c112_234 : Index := 112#32
  ![v459.toNat, 112]
def k0_off711 (v462 : BitVec 32) : Fin 2 → Nat :=
  let v465 : Index := Scalar.indexCast v462
  let c0_236 : Index := 0#32
  ![v465.toNat, 0]

def k0_off712 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_235 : BitVec 32 := 16#32
  let v463 : BitVec 32 := Scalar.muli arg16 c16_i32_235
  let c12_i32 : BitVec 32 := 12#32
  let v464 : BitVec 32 := Scalar.addi v463 c12_i32
  let v467 : Index := Scalar.indexCast v464
  let c0_237 : Index := 0#32
  ![v467.toNat, 0]
def k0_off713 (v462 : BitVec 32) : Fin 2 → Nat :=
  let v469 : Index := Scalar.indexCast v462
  let c16_238 : Index := 16#32
  ![v469.toNat, 16]
def k0_off714 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_235 : BitVec 32 := 16#32
  let v463 : BitVec 32 := Scalar.muli arg16 c16_i32_235
  let c12_i32 : BitVec 32 := 12#32
  let v464 : BitVec 32 := Scalar.addi v463 c12_i32
  let v471 : Index := Scalar.indexCast v464
  let c16_239 : Index := 16#32
  ![v471.toNat, 16]
def k0_off715 (v462 : BitVec 32) : Fin 2 → Nat :=
  let v473 : Index := Scalar.indexCast v462
  let c32_240 : Index := 32#32
  ![v473.toNat, 32]
def k0_off716 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_235 : BitVec 32 := 16#32
  let v463 : BitVec 32 := Scalar.muli arg16 c16_i32_235
  let c12_i32 : BitVec 32 := 12#32
  let v464 : BitVec 32 := Scalar.addi v463 c12_i32
  let v475 : Index := Scalar.indexCast v464
  let c32_241 : Index := 32#32
  ![v475.toNat, 32]
def k0_off717 (v462 : BitVec 32) : Fin 2 → Nat :=
  let v477 : Index := Scalar.indexCast v462
  let c48_242 : Index := 48#32
  ![v477.toNat, 48]
def k0_off718 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_235 : BitVec 32 := 16#32
  let v463 : BitVec 32 := Scalar.muli arg16 c16_i32_235
  let c12_i32 : BitVec 32 := 12#32
  let v464 : BitVec 32 := Scalar.addi v463 c12_i32
  let v479 : Index := Scalar.indexCast v464
  let c48_243 : Index := 48#32
  ![v479.toNat, 48]
def k0_off719 (v462 : BitVec 32) : Fin 2 → Nat :=
  let v481 : Index := Scalar.indexCast v462
  let c64_244 : Index := 64#32
  ![v481.toNat, 64]
def k0_off720 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_235 : BitVec 32 := 16#32
  let v463 : BitVec 32 := Scalar.muli arg16 c16_i32_235
  let c12_i32 : BitVec 32 := 12#32
  let v464 : BitVec 32 := Scalar.addi v463 c12_i32
  let v483 : Index := Scalar.indexCast v464
  let c64_245 : Index := 64#32
  ![v483.toNat, 64]
def k0_off721 (v462 : BitVec 32) : Fin 2 → Nat :=
  let v485 : Index := Scalar.indexCast v462
  let c80_246 : Index := 80#32
  ![v485.toNat, 80]
def k0_off722 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_235 : BitVec 32 := 16#32
  let v463 : BitVec 32 := Scalar.muli arg16 c16_i32_235
  let c12_i32 : BitVec 32 := 12#32
  let v464 : BitVec 32 := Scalar.addi v463 c12_i32
  let v487 : Index := Scalar.indexCast v464
  let c80_247 : Index := 80#32
  ![v487.toNat, 80]
def k0_off723 (v462 : BitVec 32) : Fin 2 → Nat :=
  let v489 : Index := Scalar.indexCast v462
  let c96_248 : Index := 96#32
  ![v489.toNat, 96]
def k0_off724 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_235 : BitVec 32 := 16#32
  let v463 : BitVec 32 := Scalar.muli arg16 c16_i32_235
  let c12_i32 : BitVec 32 := 12#32
  let v464 : BitVec 32 := Scalar.addi v463 c12_i32
  let v491 : Index := Scalar.indexCast v464
  let c96_249 : Index := 96#32
  ![v491.toNat, 96]
def k0_off725 (v462 : BitVec 32) : Fin 2 → Nat :=
  let v493 : Index := Scalar.indexCast v462
  let c112_250 : Index := 112#32
  ![v493.toNat, 112]

def k0_chk45 (v462 : BitVec 32) : Prop :=
  (∀ a, (k0_off711 v462) a + S1x16.size a ≤ S26x128.size a) ∧
  (∀ a, (k0_off713 v462) a + S1x16.size a ≤ S26x128.size a) ∧
  (∀ a, (k0_off715 v462) a + S1x16.size a ≤ S26x128.size a) ∧
  (∀ a, (k0_off717 v462) a + S1x16.size a ≤ S26x128.size a) ∧
  (∀ a, (k0_off719 v462) a + S1x16.size a ≤ S26x128.size a) ∧
  (∀ a, (k0_off721 v462) a + S1x16.size a ≤ S26x128.size a) ∧
  (∀ a, (k0_off723 v462) a + S1x16.size a ≤ S26x128.size a) ∧
  (∀ a, (k0_off725 v462) a + S1x16.size a ≤ S26x128.size a)
theorem k0_off711_inb : ∀ (v462 : BitVec 32) (k0_hw45 : k0_chk45 v462), ∀ a, (k0_off711 v462) a + S1x16.size a ≤ S26x128.size a := fun v462 k0_hw45 => k0_hw45.1
theorem k0_off713_inb : ∀ (v462 : BitVec 32) (k0_hw45 : k0_chk45 v462), ∀ a, (k0_off713 v462) a + S1x16.size a ≤ S26x128.size a := fun v462 k0_hw45 => k0_hw45.2.1
theorem k0_off715_inb : ∀ (v462 : BitVec 32) (k0_hw45 : k0_chk45 v462), ∀ a, (k0_off715 v462) a + S1x16.size a ≤ S26x128.size a := fun v462 k0_hw45 => k0_hw45.2.2.1
theorem k0_off717_inb : ∀ (v462 : BitVec 32) (k0_hw45 : k0_chk45 v462), ∀ a, (k0_off717 v462) a + S1x16.size a ≤ S26x128.size a := fun v462 k0_hw45 => k0_hw45.2.2.2.1
theorem k0_off719_inb : ∀ (v462 : BitVec 32) (k0_hw45 : k0_chk45 v462), ∀ a, (k0_off719 v462) a + S1x16.size a ≤ S26x128.size a := fun v462 k0_hw45 => k0_hw45.2.2.2.2.1
theorem k0_off721_inb : ∀ (v462 : BitVec 32) (k0_hw45 : k0_chk45 v462), ∀ a, (k0_off721 v462) a + S1x16.size a ≤ S26x128.size a := fun v462 k0_hw45 => k0_hw45.2.2.2.2.2.1
theorem k0_off723_inb : ∀ (v462 : BitVec 32) (k0_hw45 : k0_chk45 v462), ∀ a, (k0_off723 v462) a + S1x16.size a ≤ S26x128.size a := fun v462 k0_hw45 => k0_hw45.2.2.2.2.2.2.1
theorem k0_off725_inb : ∀ (v462 : BitVec 32) (k0_hw45 : k0_chk45 v462), ∀ a, (k0_off725 v462) a + S1x16.size a ≤ S26x128.size a := fun v462 k0_hw45 => k0_hw45.2.2.2.2.2.2.2

def k0_off726 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_235 : BitVec 32 := 16#32
  let v463 : BitVec 32 := Scalar.muli arg16 c16_i32_235
  let c12_i32 : BitVec 32 := 12#32
  let v464 : BitVec 32 := Scalar.addi v463 c12_i32
  let v495 : Index := Scalar.indexCast v464
  let c112_251 : Index := 112#32
  ![v495.toNat, 112]
def k0_off727 (v498 : BitVec 32) : Fin 2 → Nat :=
  let v501 : Index := Scalar.indexCast v498
  let c0_253 : Index := 0#32
  ![v501.toNat, 0]

def k0_off728 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_252 : BitVec 32 := 16#32
  let v499 : BitVec 32 := Scalar.muli arg16 c16_i32_252
  let c13_i32 : BitVec 32 := 13#32
  let v500 : BitVec 32 := Scalar.addi v499 c13_i32
  let v503 : Index := Scalar.indexCast v500
  let c0_254 : Index := 0#32
  ![v503.toNat, 0]
def k0_off729 (v498 : BitVec 32) : Fin 2 → Nat :=
  let v505 : Index := Scalar.indexCast v498
  let c16_255 : Index := 16#32
  ![v505.toNat, 16]
def k0_off730 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_252 : BitVec 32 := 16#32
  let v499 : BitVec 32 := Scalar.muli arg16 c16_i32_252
  let c13_i32 : BitVec 32 := 13#32
  let v500 : BitVec 32 := Scalar.addi v499 c13_i32
  let v507 : Index := Scalar.indexCast v500
  let c16_256 : Index := 16#32
  ![v507.toNat, 16]
def k0_off731 (v498 : BitVec 32) : Fin 2 → Nat :=
  let v509 : Index := Scalar.indexCast v498
  let c32_257 : Index := 32#32
  ![v509.toNat, 32]
def k0_off732 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_252 : BitVec 32 := 16#32
  let v499 : BitVec 32 := Scalar.muli arg16 c16_i32_252
  let c13_i32 : BitVec 32 := 13#32
  let v500 : BitVec 32 := Scalar.addi v499 c13_i32
  let v511 : Index := Scalar.indexCast v500
  let c32_258 : Index := 32#32
  ![v511.toNat, 32]
def k0_off733 (v498 : BitVec 32) : Fin 2 → Nat :=
  let v513 : Index := Scalar.indexCast v498
  let c48_259 : Index := 48#32
  ![v513.toNat, 48]
def k0_off734 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_252 : BitVec 32 := 16#32
  let v499 : BitVec 32 := Scalar.muli arg16 c16_i32_252
  let c13_i32 : BitVec 32 := 13#32
  let v500 : BitVec 32 := Scalar.addi v499 c13_i32
  let v515 : Index := Scalar.indexCast v500
  let c48_260 : Index := 48#32
  ![v515.toNat, 48]
def k0_off735 (v498 : BitVec 32) : Fin 2 → Nat :=
  let v517 : Index := Scalar.indexCast v498
  let c64_261 : Index := 64#32
  ![v517.toNat, 64]
def k0_off736 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_252 : BitVec 32 := 16#32
  let v499 : BitVec 32 := Scalar.muli arg16 c16_i32_252
  let c13_i32 : BitVec 32 := 13#32
  let v500 : BitVec 32 := Scalar.addi v499 c13_i32
  let v519 : Index := Scalar.indexCast v500
  let c64_262 : Index := 64#32
  ![v519.toNat, 64]
def k0_off737 (v498 : BitVec 32) : Fin 2 → Nat :=
  let v521 : Index := Scalar.indexCast v498
  let c80_263 : Index := 80#32
  ![v521.toNat, 80]
def k0_off738 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_252 : BitVec 32 := 16#32
  let v499 : BitVec 32 := Scalar.muli arg16 c16_i32_252
  let c13_i32 : BitVec 32 := 13#32
  let v500 : BitVec 32 := Scalar.addi v499 c13_i32
  let v523 : Index := Scalar.indexCast v500
  let c80_264 : Index := 80#32
  ![v523.toNat, 80]
def k0_off739 (v498 : BitVec 32) : Fin 2 → Nat :=
  let v525 : Index := Scalar.indexCast v498
  let c96_265 : Index := 96#32
  ![v525.toNat, 96]
def k0_off740 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_252 : BitVec 32 := 16#32
  let v499 : BitVec 32 := Scalar.muli arg16 c16_i32_252
  let c13_i32 : BitVec 32 := 13#32
  let v500 : BitVec 32 := Scalar.addi v499 c13_i32
  let v527 : Index := Scalar.indexCast v500
  let c96_266 : Index := 96#32
  ![v527.toNat, 96]
def k0_off741 (v498 : BitVec 32) : Fin 2 → Nat :=
  let v529 : Index := Scalar.indexCast v498
  let c112_267 : Index := 112#32
  ![v529.toNat, 112]

def k0_chk46 (v498 : BitVec 32) : Prop :=
  (∀ a, (k0_off727 v498) a + S1x16.size a ≤ S26x128.size a) ∧
  (∀ a, (k0_off729 v498) a + S1x16.size a ≤ S26x128.size a) ∧
  (∀ a, (k0_off731 v498) a + S1x16.size a ≤ S26x128.size a) ∧
  (∀ a, (k0_off733 v498) a + S1x16.size a ≤ S26x128.size a) ∧
  (∀ a, (k0_off735 v498) a + S1x16.size a ≤ S26x128.size a) ∧
  (∀ a, (k0_off737 v498) a + S1x16.size a ≤ S26x128.size a) ∧
  (∀ a, (k0_off739 v498) a + S1x16.size a ≤ S26x128.size a) ∧
  (∀ a, (k0_off741 v498) a + S1x16.size a ≤ S26x128.size a)
theorem k0_off727_inb : ∀ (v498 : BitVec 32) (k0_hw46 : k0_chk46 v498), ∀ a, (k0_off727 v498) a + S1x16.size a ≤ S26x128.size a := fun v498 k0_hw46 => k0_hw46.1
theorem k0_off729_inb : ∀ (v498 : BitVec 32) (k0_hw46 : k0_chk46 v498), ∀ a, (k0_off729 v498) a + S1x16.size a ≤ S26x128.size a := fun v498 k0_hw46 => k0_hw46.2.1
theorem k0_off731_inb : ∀ (v498 : BitVec 32) (k0_hw46 : k0_chk46 v498), ∀ a, (k0_off731 v498) a + S1x16.size a ≤ S26x128.size a := fun v498 k0_hw46 => k0_hw46.2.2.1
theorem k0_off733_inb : ∀ (v498 : BitVec 32) (k0_hw46 : k0_chk46 v498), ∀ a, (k0_off733 v498) a + S1x16.size a ≤ S26x128.size a := fun v498 k0_hw46 => k0_hw46.2.2.2.1
theorem k0_off735_inb : ∀ (v498 : BitVec 32) (k0_hw46 : k0_chk46 v498), ∀ a, (k0_off735 v498) a + S1x16.size a ≤ S26x128.size a := fun v498 k0_hw46 => k0_hw46.2.2.2.2.1
theorem k0_off737_inb : ∀ (v498 : BitVec 32) (k0_hw46 : k0_chk46 v498), ∀ a, (k0_off737 v498) a + S1x16.size a ≤ S26x128.size a := fun v498 k0_hw46 => k0_hw46.2.2.2.2.2.1
theorem k0_off739_inb : ∀ (v498 : BitVec 32) (k0_hw46 : k0_chk46 v498), ∀ a, (k0_off739 v498) a + S1x16.size a ≤ S26x128.size a := fun v498 k0_hw46 => k0_hw46.2.2.2.2.2.2.1
theorem k0_off741_inb : ∀ (v498 : BitVec 32) (k0_hw46 : k0_chk46 v498), ∀ a, (k0_off741 v498) a + S1x16.size a ≤ S26x128.size a := fun v498 k0_hw46 => k0_hw46.2.2.2.2.2.2.2

def k0_off742 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_252 : BitVec 32 := 16#32
  let v499 : BitVec 32 := Scalar.muli arg16 c16_i32_252
  let c13_i32 : BitVec 32 := 13#32
  let v500 : BitVec 32 := Scalar.addi v499 c13_i32
  let v531 : Index := Scalar.indexCast v500
  let c112_268 : Index := 112#32
  ![v531.toNat, 112]
def k0_off743 (v534 : BitVec 32) : Fin 2 → Nat :=
  let v537 : Index := Scalar.indexCast v534
  let c0_270 : Index := 0#32
  ![v537.toNat, 0]

def k0_off744 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_269 : BitVec 32 := 16#32
  let v535 : BitVec 32 := Scalar.muli arg16 c16_i32_269
  let c14_i32 : BitVec 32 := 14#32
  let v536 : BitVec 32 := Scalar.addi v535 c14_i32
  let v539 : Index := Scalar.indexCast v536
  let c0_271 : Index := 0#32
  ![v539.toNat, 0]
def k0_off745 (v534 : BitVec 32) : Fin 2 → Nat :=
  let v541 : Index := Scalar.indexCast v534
  let c16_272 : Index := 16#32
  ![v541.toNat, 16]
def k0_off746 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_269 : BitVec 32 := 16#32
  let v535 : BitVec 32 := Scalar.muli arg16 c16_i32_269
  let c14_i32 : BitVec 32 := 14#32
  let v536 : BitVec 32 := Scalar.addi v535 c14_i32
  let v543 : Index := Scalar.indexCast v536
  let c16_273 : Index := 16#32
  ![v543.toNat, 16]
def k0_off747 (v534 : BitVec 32) : Fin 2 → Nat :=
  let v545 : Index := Scalar.indexCast v534
  let c32_274 : Index := 32#32
  ![v545.toNat, 32]
def k0_off748 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_269 : BitVec 32 := 16#32
  let v535 : BitVec 32 := Scalar.muli arg16 c16_i32_269
  let c14_i32 : BitVec 32 := 14#32
  let v536 : BitVec 32 := Scalar.addi v535 c14_i32
  let v547 : Index := Scalar.indexCast v536
  let c32_275 : Index := 32#32
  ![v547.toNat, 32]
def k0_off749 (v534 : BitVec 32) : Fin 2 → Nat :=
  let v549 : Index := Scalar.indexCast v534
  let c48_276 : Index := 48#32
  ![v549.toNat, 48]
def k0_off750 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_269 : BitVec 32 := 16#32
  let v535 : BitVec 32 := Scalar.muli arg16 c16_i32_269
  let c14_i32 : BitVec 32 := 14#32
  let v536 : BitVec 32 := Scalar.addi v535 c14_i32
  let v551 : Index := Scalar.indexCast v536
  let c48_277 : Index := 48#32
  ![v551.toNat, 48]
def k0_off751 (v534 : BitVec 32) : Fin 2 → Nat :=
  let v553 : Index := Scalar.indexCast v534
  let c64_278 : Index := 64#32
  ![v553.toNat, 64]
def k0_off752 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_269 : BitVec 32 := 16#32
  let v535 : BitVec 32 := Scalar.muli arg16 c16_i32_269
  let c14_i32 : BitVec 32 := 14#32
  let v536 : BitVec 32 := Scalar.addi v535 c14_i32
  let v555 : Index := Scalar.indexCast v536
  let c64_279 : Index := 64#32
  ![v555.toNat, 64]
def k0_off753 (v534 : BitVec 32) : Fin 2 → Nat :=
  let v557 : Index := Scalar.indexCast v534
  let c80_280 : Index := 80#32
  ![v557.toNat, 80]
def k0_off754 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_269 : BitVec 32 := 16#32
  let v535 : BitVec 32 := Scalar.muli arg16 c16_i32_269
  let c14_i32 : BitVec 32 := 14#32
  let v536 : BitVec 32 := Scalar.addi v535 c14_i32
  let v559 : Index := Scalar.indexCast v536
  let c80_281 : Index := 80#32
  ![v559.toNat, 80]
def k0_off755 (v534 : BitVec 32) : Fin 2 → Nat :=
  let v561 : Index := Scalar.indexCast v534
  let c96_282 : Index := 96#32
  ![v561.toNat, 96]
def k0_off756 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_269 : BitVec 32 := 16#32
  let v535 : BitVec 32 := Scalar.muli arg16 c16_i32_269
  let c14_i32 : BitVec 32 := 14#32
  let v536 : BitVec 32 := Scalar.addi v535 c14_i32
  let v563 : Index := Scalar.indexCast v536
  let c96_283 : Index := 96#32
  ![v563.toNat, 96]
def k0_off757 (v534 : BitVec 32) : Fin 2 → Nat :=
  let v565 : Index := Scalar.indexCast v534
  let c112_284 : Index := 112#32
  ![v565.toNat, 112]

def k0_chk47 (v534 : BitVec 32) : Prop :=
  (∀ a, (k0_off743 v534) a + S1x16.size a ≤ S26x128.size a) ∧
  (∀ a, (k0_off745 v534) a + S1x16.size a ≤ S26x128.size a) ∧
  (∀ a, (k0_off747 v534) a + S1x16.size a ≤ S26x128.size a) ∧
  (∀ a, (k0_off749 v534) a + S1x16.size a ≤ S26x128.size a) ∧
  (∀ a, (k0_off751 v534) a + S1x16.size a ≤ S26x128.size a) ∧
  (∀ a, (k0_off753 v534) a + S1x16.size a ≤ S26x128.size a) ∧
  (∀ a, (k0_off755 v534) a + S1x16.size a ≤ S26x128.size a) ∧
  (∀ a, (k0_off757 v534) a + S1x16.size a ≤ S26x128.size a)
theorem k0_off743_inb : ∀ (v534 : BitVec 32) (k0_hw47 : k0_chk47 v534), ∀ a, (k0_off743 v534) a + S1x16.size a ≤ S26x128.size a := fun v534 k0_hw47 => k0_hw47.1
theorem k0_off745_inb : ∀ (v534 : BitVec 32) (k0_hw47 : k0_chk47 v534), ∀ a, (k0_off745 v534) a + S1x16.size a ≤ S26x128.size a := fun v534 k0_hw47 => k0_hw47.2.1
theorem k0_off747_inb : ∀ (v534 : BitVec 32) (k0_hw47 : k0_chk47 v534), ∀ a, (k0_off747 v534) a + S1x16.size a ≤ S26x128.size a := fun v534 k0_hw47 => k0_hw47.2.2.1
theorem k0_off749_inb : ∀ (v534 : BitVec 32) (k0_hw47 : k0_chk47 v534), ∀ a, (k0_off749 v534) a + S1x16.size a ≤ S26x128.size a := fun v534 k0_hw47 => k0_hw47.2.2.2.1
theorem k0_off751_inb : ∀ (v534 : BitVec 32) (k0_hw47 : k0_chk47 v534), ∀ a, (k0_off751 v534) a + S1x16.size a ≤ S26x128.size a := fun v534 k0_hw47 => k0_hw47.2.2.2.2.1
theorem k0_off753_inb : ∀ (v534 : BitVec 32) (k0_hw47 : k0_chk47 v534), ∀ a, (k0_off753 v534) a + S1x16.size a ≤ S26x128.size a := fun v534 k0_hw47 => k0_hw47.2.2.2.2.2.1
theorem k0_off755_inb : ∀ (v534 : BitVec 32) (k0_hw47 : k0_chk47 v534), ∀ a, (k0_off755 v534) a + S1x16.size a ≤ S26x128.size a := fun v534 k0_hw47 => k0_hw47.2.2.2.2.2.2.1
theorem k0_off757_inb : ∀ (v534 : BitVec 32) (k0_hw47 : k0_chk47 v534), ∀ a, (k0_off757 v534) a + S1x16.size a ≤ S26x128.size a := fun v534 k0_hw47 => k0_hw47.2.2.2.2.2.2.2

def k0_off758 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_269 : BitVec 32 := 16#32
  let v535 : BitVec 32 := Scalar.muli arg16 c16_i32_269
  let c14_i32 : BitVec 32 := 14#32
  let v536 : BitVec 32 := Scalar.addi v535 c14_i32
  let v567 : Index := Scalar.indexCast v536
  let c112_285 : Index := 112#32
  ![v567.toNat, 112]
def k0_off759 (v570 : BitVec 32) : Fin 2 → Nat :=
  let v573 : Index := Scalar.indexCast v570
  let c0_287 : Index := 0#32
  ![v573.toNat, 0]

def k0_off760 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_286 : BitVec 32 := 16#32
  let v571 : BitVec 32 := Scalar.muli arg16 c16_i32_286
  let c15_i32 : BitVec 32 := 15#32
  let v572 : BitVec 32 := Scalar.addi v571 c15_i32
  let v575 : Index := Scalar.indexCast v572
  let c0_288 : Index := 0#32
  ![v575.toNat, 0]
def k0_off761 (v570 : BitVec 32) : Fin 2 → Nat :=
  let v577 : Index := Scalar.indexCast v570
  let c16_289 : Index := 16#32
  ![v577.toNat, 16]
def k0_off762 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_286 : BitVec 32 := 16#32
  let v571 : BitVec 32 := Scalar.muli arg16 c16_i32_286
  let c15_i32 : BitVec 32 := 15#32
  let v572 : BitVec 32 := Scalar.addi v571 c15_i32
  let v579 : Index := Scalar.indexCast v572
  let c16_290 : Index := 16#32
  ![v579.toNat, 16]
def k0_off763 (v570 : BitVec 32) : Fin 2 → Nat :=
  let v581 : Index := Scalar.indexCast v570
  let c32_291 : Index := 32#32
  ![v581.toNat, 32]
def k0_off764 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_286 : BitVec 32 := 16#32
  let v571 : BitVec 32 := Scalar.muli arg16 c16_i32_286
  let c15_i32 : BitVec 32 := 15#32
  let v572 : BitVec 32 := Scalar.addi v571 c15_i32
  let v583 : Index := Scalar.indexCast v572
  let c32_292 : Index := 32#32
  ![v583.toNat, 32]
def k0_off765 (v570 : BitVec 32) : Fin 2 → Nat :=
  let v585 : Index := Scalar.indexCast v570
  let c48_293 : Index := 48#32
  ![v585.toNat, 48]
def k0_off766 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_286 : BitVec 32 := 16#32
  let v571 : BitVec 32 := Scalar.muli arg16 c16_i32_286
  let c15_i32 : BitVec 32 := 15#32
  let v572 : BitVec 32 := Scalar.addi v571 c15_i32
  let v587 : Index := Scalar.indexCast v572
  let c48_294 : Index := 48#32
  ![v587.toNat, 48]
def k0_off767 (v570 : BitVec 32) : Fin 2 → Nat :=
  let v589 : Index := Scalar.indexCast v570
  let c64_295 : Index := 64#32
  ![v589.toNat, 64]
def k0_off768 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_286 : BitVec 32 := 16#32
  let v571 : BitVec 32 := Scalar.muli arg16 c16_i32_286
  let c15_i32 : BitVec 32 := 15#32
  let v572 : BitVec 32 := Scalar.addi v571 c15_i32
  let v591 : Index := Scalar.indexCast v572
  let c64_296 : Index := 64#32
  ![v591.toNat, 64]
def k0_off769 (v570 : BitVec 32) : Fin 2 → Nat :=
  let v593 : Index := Scalar.indexCast v570
  let c80_297 : Index := 80#32
  ![v593.toNat, 80]
def k0_off770 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_286 : BitVec 32 := 16#32
  let v571 : BitVec 32 := Scalar.muli arg16 c16_i32_286
  let c15_i32 : BitVec 32 := 15#32
  let v572 : BitVec 32 := Scalar.addi v571 c15_i32
  let v595 : Index := Scalar.indexCast v572
  let c80_298 : Index := 80#32
  ![v595.toNat, 80]
def k0_off771 (v570 : BitVec 32) : Fin 2 → Nat :=
  let v597 : Index := Scalar.indexCast v570
  let c96_299 : Index := 96#32
  ![v597.toNat, 96]
def k0_off772 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_286 : BitVec 32 := 16#32
  let v571 : BitVec 32 := Scalar.muli arg16 c16_i32_286
  let c15_i32 : BitVec 32 := 15#32
  let v572 : BitVec 32 := Scalar.addi v571 c15_i32
  let v599 : Index := Scalar.indexCast v572
  let c96_300 : Index := 96#32
  ![v599.toNat, 96]
def k0_off773 (v570 : BitVec 32) : Fin 2 → Nat :=
  let v601 : Index := Scalar.indexCast v570
  let c112_301 : Index := 112#32
  ![v601.toNat, 112]

def k0_chk48 (v570 : BitVec 32) : Prop :=
  (∀ a, (k0_off759 v570) a + S1x16.size a ≤ S26x128.size a) ∧
  (∀ a, (k0_off761 v570) a + S1x16.size a ≤ S26x128.size a) ∧
  (∀ a, (k0_off763 v570) a + S1x16.size a ≤ S26x128.size a) ∧
  (∀ a, (k0_off765 v570) a + S1x16.size a ≤ S26x128.size a) ∧
  (∀ a, (k0_off767 v570) a + S1x16.size a ≤ S26x128.size a) ∧
  (∀ a, (k0_off769 v570) a + S1x16.size a ≤ S26x128.size a) ∧
  (∀ a, (k0_off771 v570) a + S1x16.size a ≤ S26x128.size a) ∧
  (∀ a, (k0_off773 v570) a + S1x16.size a ≤ S26x128.size a)
theorem k0_off759_inb : ∀ (v570 : BitVec 32) (k0_hw48 : k0_chk48 v570), ∀ a, (k0_off759 v570) a + S1x16.size a ≤ S26x128.size a := fun v570 k0_hw48 => k0_hw48.1
theorem k0_off761_inb : ∀ (v570 : BitVec 32) (k0_hw48 : k0_chk48 v570), ∀ a, (k0_off761 v570) a + S1x16.size a ≤ S26x128.size a := fun v570 k0_hw48 => k0_hw48.2.1
theorem k0_off763_inb : ∀ (v570 : BitVec 32) (k0_hw48 : k0_chk48 v570), ∀ a, (k0_off763 v570) a + S1x16.size a ≤ S26x128.size a := fun v570 k0_hw48 => k0_hw48.2.2.1
theorem k0_off765_inb : ∀ (v570 : BitVec 32) (k0_hw48 : k0_chk48 v570), ∀ a, (k0_off765 v570) a + S1x16.size a ≤ S26x128.size a := fun v570 k0_hw48 => k0_hw48.2.2.2.1
theorem k0_off767_inb : ∀ (v570 : BitVec 32) (k0_hw48 : k0_chk48 v570), ∀ a, (k0_off767 v570) a + S1x16.size a ≤ S26x128.size a := fun v570 k0_hw48 => k0_hw48.2.2.2.2.1
theorem k0_off769_inb : ∀ (v570 : BitVec 32) (k0_hw48 : k0_chk48 v570), ∀ a, (k0_off769 v570) a + S1x16.size a ≤ S26x128.size a := fun v570 k0_hw48 => k0_hw48.2.2.2.2.2.1
theorem k0_off771_inb : ∀ (v570 : BitVec 32) (k0_hw48 : k0_chk48 v570), ∀ a, (k0_off771 v570) a + S1x16.size a ≤ S26x128.size a := fun v570 k0_hw48 => k0_hw48.2.2.2.2.2.2.1
theorem k0_off773_inb : ∀ (v570 : BitVec 32) (k0_hw48 : k0_chk48 v570), ∀ a, (k0_off773 v570) a + S1x16.size a ≤ S26x128.size a := fun v570 k0_hw48 => k0_hw48.2.2.2.2.2.2.2

def k0_off774 (k0_t3 : Fin k0_t3_loop.trips) : Fin 2 → Nat :=
  let c0_i32_14 : BitVec 32 := 0#32
  let c1_i32_16 : BitVec 32 := 1#32
  let arg16 : BitVec 32 := Scf.iv c0_i32_14 c1_i32_16 k0_t3
  let c16_i32_286 : BitVec 32 := 16#32
  let v571 : BitVec 32 := Scalar.muli arg16 c16_i32_286
  let c15_i32 : BitVec 32 := 15#32
  let v572 : BitVec 32 := Scalar.addi v571 c15_i32
  let v603 : Index := Scalar.indexCast v572
  let c112_302 : Index := 112#32
  ![v603.toNat, 112]
@[reducible] def k0_t4_loop : Scf.Loop 32 :=
  let c0_i32_23 : BitVec 32 := 0#32
  let c8_i32_24 : BitVec 32 := 8#32
  let v17 : BitVec 32 := Scalar.addi c0_i32_23 c8_i32_24
  let c1_i32_25 : BitVec 32 := 1#32
  ⟨c0_i32_23, v17, c1_i32_25⟩
def k0_off775 (k0_t4 : Fin k0_t4_loop.trips) : Fin 1 → Nat :=
  let c128_i32_34 : BitVec 32 := 128#32
  let c0_i32_23 : BitVec 32 := 0#32
  let c1_i32_25 : BitVec 32 := 1#32
  let arg16 : BitVec 32 := Scf.iv c0_i32_23 c1_i32_25 k0_t4
  let c16_i32 : BitVec 32 := 16#32
  let v25 : BitVec 32 := Scalar.muli arg16 c16_i32
  let v26 : BitVec 32 := Scalar.addi c128_i32_34 v25
  let v27 : Index := Scalar.indexCast v26
  ![v27.toNat]
def k0_off776 (v30 : BitVec 32) : Fin 2 → Nat :=
  let v33 : Index := Scalar.indexCast v30
  let c0 : Index := 0#32
  ![v33.toNat, 0]

def k0_off777 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_35 : BitVec 32 := 16#32
  let v31 : BitVec 32 := Scalar.muli arg16 c16_i32_35
  let c0_i32_36 : BitVec 32 := 0#32
  let v32 : BitVec 32 := Scalar.addi v31 c0_i32_36
  let v35 : Index := Scalar.indexCast v32
  let c0_37 : Index := 0#32
  ![v35.toNat, 0]
def k0_off778 (v30 : BitVec 32) : Fin 2 → Nat :=
  let v37 : Index := Scalar.indexCast v30
  let c16 : Index := 16#32
  ![v37.toNat, 16]
def k0_off779 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_35 : BitVec 32 := 16#32
  let v31 : BitVec 32 := Scalar.muli arg16 c16_i32_35
  let c0_i32_36 : BitVec 32 := 0#32
  let v32 : BitVec 32 := Scalar.addi v31 c0_i32_36
  let v39 : Index := Scalar.indexCast v32
  let c16_38 : Index := 16#32
  ![v39.toNat, 16]
def k0_off780 (v30 : BitVec 32) : Fin 2 → Nat :=
  let v41 : Index := Scalar.indexCast v30
  let c32 : Index := 32#32
  ![v41.toNat, 32]
def k0_off781 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_35 : BitVec 32 := 16#32
  let v31 : BitVec 32 := Scalar.muli arg16 c16_i32_35
  let c0_i32_36 : BitVec 32 := 0#32
  let v32 : BitVec 32 := Scalar.addi v31 c0_i32_36
  let v43 : Index := Scalar.indexCast v32
  let c32_39 : Index := 32#32
  ![v43.toNat, 32]
def k0_off782 (v30 : BitVec 32) : Fin 2 → Nat :=
  let v45 : Index := Scalar.indexCast v30
  let c48 : Index := 48#32
  ![v45.toNat, 48]
def k0_off783 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_35 : BitVec 32 := 16#32
  let v31 : BitVec 32 := Scalar.muli arg16 c16_i32_35
  let c0_i32_36 : BitVec 32 := 0#32
  let v32 : BitVec 32 := Scalar.addi v31 c0_i32_36
  let v47 : Index := Scalar.indexCast v32
  let c48_40 : Index := 48#32
  ![v47.toNat, 48]
def k0_off784 (v30 : BitVec 32) : Fin 2 → Nat :=
  let v49 : Index := Scalar.indexCast v30
  let c64 : Index := 64#32
  ![v49.toNat, 64]
def k0_off785 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_35 : BitVec 32 := 16#32
  let v31 : BitVec 32 := Scalar.muli arg16 c16_i32_35
  let c0_i32_36 : BitVec 32 := 0#32
  let v32 : BitVec 32 := Scalar.addi v31 c0_i32_36
  let v51 : Index := Scalar.indexCast v32
  let c64_41 : Index := 64#32
  ![v51.toNat, 64]
def k0_off786 (v30 : BitVec 32) : Fin 2 → Nat :=
  let v53 : Index := Scalar.indexCast v30
  let c80 : Index := 80#32
  ![v53.toNat, 80]
def k0_off787 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_35 : BitVec 32 := 16#32
  let v31 : BitVec 32 := Scalar.muli arg16 c16_i32_35
  let c0_i32_36 : BitVec 32 := 0#32
  let v32 : BitVec 32 := Scalar.addi v31 c0_i32_36
  let v55 : Index := Scalar.indexCast v32
  let c80_42 : Index := 80#32
  ![v55.toNat, 80]
def k0_off788 (v30 : BitVec 32) : Fin 2 → Nat :=
  let v57 : Index := Scalar.indexCast v30
  let c96 : Index := 96#32
  ![v57.toNat, 96]
def k0_off789 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_35 : BitVec 32 := 16#32
  let v31 : BitVec 32 := Scalar.muli arg16 c16_i32_35
  let c0_i32_36 : BitVec 32 := 0#32
  let v32 : BitVec 32 := Scalar.addi v31 c0_i32_36
  let v59 : Index := Scalar.indexCast v32
  let c96_43 : Index := 96#32
  ![v59.toNat, 96]
def k0_off790 (v30 : BitVec 32) : Fin 2 → Nat :=
  let v61 : Index := Scalar.indexCast v30
  let c112 : Index := 112#32
  ![v61.toNat, 112]

def k0_chk49 (v30 : BitVec 32) : Prop :=
  (∀ a, (k0_off776 v30) a + S1x16.size a ≤ S26x128.size a) ∧
  (∀ a, (k0_off778 v30) a + S1x16.size a ≤ S26x128.size a) ∧
  (∀ a, (k0_off780 v30) a + S1x16.size a ≤ S26x128.size a) ∧
  (∀ a, (k0_off782 v30) a + S1x16.size a ≤ S26x128.size a) ∧
  (∀ a, (k0_off784 v30) a + S1x16.size a ≤ S26x128.size a) ∧
  (∀ a, (k0_off786 v30) a + S1x16.size a ≤ S26x128.size a) ∧
  (∀ a, (k0_off788 v30) a + S1x16.size a ≤ S26x128.size a) ∧
  (∀ a, (k0_off790 v30) a + S1x16.size a ≤ S26x128.size a)
theorem k0_off776_inb : ∀ (v30 : BitVec 32) (k0_hw49 : k0_chk49 v30), ∀ a, (k0_off776 v30) a + S1x16.size a ≤ S26x128.size a := fun v30 k0_hw49 => k0_hw49.1
theorem k0_off778_inb : ∀ (v30 : BitVec 32) (k0_hw49 : k0_chk49 v30), ∀ a, (k0_off778 v30) a + S1x16.size a ≤ S26x128.size a := fun v30 k0_hw49 => k0_hw49.2.1
theorem k0_off780_inb : ∀ (v30 : BitVec 32) (k0_hw49 : k0_chk49 v30), ∀ a, (k0_off780 v30) a + S1x16.size a ≤ S26x128.size a := fun v30 k0_hw49 => k0_hw49.2.2.1
theorem k0_off782_inb : ∀ (v30 : BitVec 32) (k0_hw49 : k0_chk49 v30), ∀ a, (k0_off782 v30) a + S1x16.size a ≤ S26x128.size a := fun v30 k0_hw49 => k0_hw49.2.2.2.1
theorem k0_off784_inb : ∀ (v30 : BitVec 32) (k0_hw49 : k0_chk49 v30), ∀ a, (k0_off784 v30) a + S1x16.size a ≤ S26x128.size a := fun v30 k0_hw49 => k0_hw49.2.2.2.2.1
theorem k0_off786_inb : ∀ (v30 : BitVec 32) (k0_hw49 : k0_chk49 v30), ∀ a, (k0_off786 v30) a + S1x16.size a ≤ S26x128.size a := fun v30 k0_hw49 => k0_hw49.2.2.2.2.2.1
theorem k0_off788_inb : ∀ (v30 : BitVec 32) (k0_hw49 : k0_chk49 v30), ∀ a, (k0_off788 v30) a + S1x16.size a ≤ S26x128.size a := fun v30 k0_hw49 => k0_hw49.2.2.2.2.2.2.1
theorem k0_off790_inb : ∀ (v30 : BitVec 32) (k0_hw49 : k0_chk49 v30), ∀ a, (k0_off790 v30) a + S1x16.size a ≤ S26x128.size a := fun v30 k0_hw49 => k0_hw49.2.2.2.2.2.2.2

def k0_off791 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_35 : BitVec 32 := 16#32
  let v31 : BitVec 32 := Scalar.muli arg16 c16_i32_35
  let c0_i32_36 : BitVec 32 := 0#32
  let v32 : BitVec 32 := Scalar.addi v31 c0_i32_36
  let v63 : Index := Scalar.indexCast v32
  let c112_44 : Index := 112#32
  ![v63.toNat, 112]
def k0_off792 (v66 : BitVec 32) : Fin 2 → Nat :=
  let v69 : Index := Scalar.indexCast v66
  let c0_47 : Index := 0#32
  ![v69.toNat, 0]

def k0_off793 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_45 : BitVec 32 := 16#32
  let v67 : BitVec 32 := Scalar.muli arg16 c16_i32_45
  let c1_i32_46 : BitVec 32 := 1#32
  let v68 : BitVec 32 := Scalar.addi v67 c1_i32_46
  let v71 : Index := Scalar.indexCast v68
  let c0_48 : Index := 0#32
  ![v71.toNat, 0]
def k0_off794 (v66 : BitVec 32) : Fin 2 → Nat :=
  let v73 : Index := Scalar.indexCast v66
  let c16_49 : Index := 16#32
  ![v73.toNat, 16]
def k0_off795 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_45 : BitVec 32 := 16#32
  let v67 : BitVec 32 := Scalar.muli arg16 c16_i32_45
  let c1_i32_46 : BitVec 32 := 1#32
  let v68 : BitVec 32 := Scalar.addi v67 c1_i32_46
  let v75 : Index := Scalar.indexCast v68
  let c16_50 : Index := 16#32
  ![v75.toNat, 16]
def k0_off796 (v66 : BitVec 32) : Fin 2 → Nat :=
  let v77 : Index := Scalar.indexCast v66
  let c32_51 : Index := 32#32
  ![v77.toNat, 32]
def k0_off797 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_45 : BitVec 32 := 16#32
  let v67 : BitVec 32 := Scalar.muli arg16 c16_i32_45
  let c1_i32_46 : BitVec 32 := 1#32
  let v68 : BitVec 32 := Scalar.addi v67 c1_i32_46
  let v79 : Index := Scalar.indexCast v68
  let c32_52 : Index := 32#32
  ![v79.toNat, 32]
def k0_off798 (v66 : BitVec 32) : Fin 2 → Nat :=
  let v81 : Index := Scalar.indexCast v66
  let c48_53 : Index := 48#32
  ![v81.toNat, 48]
def k0_off799 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_45 : BitVec 32 := 16#32
  let v67 : BitVec 32 := Scalar.muli arg16 c16_i32_45
  let c1_i32_46 : BitVec 32 := 1#32
  let v68 : BitVec 32 := Scalar.addi v67 c1_i32_46
  let v83 : Index := Scalar.indexCast v68
  let c48_54 : Index := 48#32
  ![v83.toNat, 48]
def k0_off800 (v66 : BitVec 32) : Fin 2 → Nat :=
  let v85 : Index := Scalar.indexCast v66
  let c64_55 : Index := 64#32
  ![v85.toNat, 64]
def k0_off801 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_45 : BitVec 32 := 16#32
  let v67 : BitVec 32 := Scalar.muli arg16 c16_i32_45
  let c1_i32_46 : BitVec 32 := 1#32
  let v68 : BitVec 32 := Scalar.addi v67 c1_i32_46
  let v87 : Index := Scalar.indexCast v68
  let c64_56 : Index := 64#32
  ![v87.toNat, 64]
def k0_off802 (v66 : BitVec 32) : Fin 2 → Nat :=
  let v89 : Index := Scalar.indexCast v66
  let c80_57 : Index := 80#32
  ![v89.toNat, 80]
def k0_off803 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_45 : BitVec 32 := 16#32
  let v67 : BitVec 32 := Scalar.muli arg16 c16_i32_45
  let c1_i32_46 : BitVec 32 := 1#32
  let v68 : BitVec 32 := Scalar.addi v67 c1_i32_46
  let v91 : Index := Scalar.indexCast v68
  let c80_58 : Index := 80#32
  ![v91.toNat, 80]
def k0_off804 (v66 : BitVec 32) : Fin 2 → Nat :=
  let v93 : Index := Scalar.indexCast v66
  let c96_59 : Index := 96#32
  ![v93.toNat, 96]
def k0_off805 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_45 : BitVec 32 := 16#32
  let v67 : BitVec 32 := Scalar.muli arg16 c16_i32_45
  let c1_i32_46 : BitVec 32 := 1#32
  let v68 : BitVec 32 := Scalar.addi v67 c1_i32_46
  let v95 : Index := Scalar.indexCast v68
  let c96_60 : Index := 96#32
  ![v95.toNat, 96]
def k0_off806 (v66 : BitVec 32) : Fin 2 → Nat :=
  let v97 : Index := Scalar.indexCast v66
  let c112_61 : Index := 112#32
  ![v97.toNat, 112]

def k0_chk50 (v66 : BitVec 32) : Prop :=
  (∀ a, (k0_off792 v66) a + S1x16.size a ≤ S26x128.size a) ∧
  (∀ a, (k0_off794 v66) a + S1x16.size a ≤ S26x128.size a) ∧
  (∀ a, (k0_off796 v66) a + S1x16.size a ≤ S26x128.size a) ∧
  (∀ a, (k0_off798 v66) a + S1x16.size a ≤ S26x128.size a) ∧
  (∀ a, (k0_off800 v66) a + S1x16.size a ≤ S26x128.size a) ∧
  (∀ a, (k0_off802 v66) a + S1x16.size a ≤ S26x128.size a) ∧
  (∀ a, (k0_off804 v66) a + S1x16.size a ≤ S26x128.size a) ∧
  (∀ a, (k0_off806 v66) a + S1x16.size a ≤ S26x128.size a)
theorem k0_off792_inb : ∀ (v66 : BitVec 32) (k0_hw50 : k0_chk50 v66), ∀ a, (k0_off792 v66) a + S1x16.size a ≤ S26x128.size a := fun v66 k0_hw50 => k0_hw50.1
theorem k0_off794_inb : ∀ (v66 : BitVec 32) (k0_hw50 : k0_chk50 v66), ∀ a, (k0_off794 v66) a + S1x16.size a ≤ S26x128.size a := fun v66 k0_hw50 => k0_hw50.2.1
theorem k0_off796_inb : ∀ (v66 : BitVec 32) (k0_hw50 : k0_chk50 v66), ∀ a, (k0_off796 v66) a + S1x16.size a ≤ S26x128.size a := fun v66 k0_hw50 => k0_hw50.2.2.1
theorem k0_off798_inb : ∀ (v66 : BitVec 32) (k0_hw50 : k0_chk50 v66), ∀ a, (k0_off798 v66) a + S1x16.size a ≤ S26x128.size a := fun v66 k0_hw50 => k0_hw50.2.2.2.1
theorem k0_off800_inb : ∀ (v66 : BitVec 32) (k0_hw50 : k0_chk50 v66), ∀ a, (k0_off800 v66) a + S1x16.size a ≤ S26x128.size a := fun v66 k0_hw50 => k0_hw50.2.2.2.2.1
theorem k0_off802_inb : ∀ (v66 : BitVec 32) (k0_hw50 : k0_chk50 v66), ∀ a, (k0_off802 v66) a + S1x16.size a ≤ S26x128.size a := fun v66 k0_hw50 => k0_hw50.2.2.2.2.2.1
theorem k0_off804_inb : ∀ (v66 : BitVec 32) (k0_hw50 : k0_chk50 v66), ∀ a, (k0_off804 v66) a + S1x16.size a ≤ S26x128.size a := fun v66 k0_hw50 => k0_hw50.2.2.2.2.2.2.1
theorem k0_off806_inb : ∀ (v66 : BitVec 32) (k0_hw50 : k0_chk50 v66), ∀ a, (k0_off806 v66) a + S1x16.size a ≤ S26x128.size a := fun v66 k0_hw50 => k0_hw50.2.2.2.2.2.2.2

def k0_off807 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_45 : BitVec 32 := 16#32
  let v67 : BitVec 32 := Scalar.muli arg16 c16_i32_45
  let c1_i32_46 : BitVec 32 := 1#32
  let v68 : BitVec 32 := Scalar.addi v67 c1_i32_46
  let v99 : Index := Scalar.indexCast v68
  let c112_62 : Index := 112#32
  ![v99.toNat, 112]
def k0_off808 (v102 : BitVec 32) : Fin 2 → Nat :=
  let v105 : Index := Scalar.indexCast v102
  let c0_65 : Index := 0#32
  ![v105.toNat, 0]

def k0_off809 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_63 : BitVec 32 := 16#32
  let v103 : BitVec 32 := Scalar.muli arg16 c16_i32_63
  let c2_i32_64 : BitVec 32 := 2#32
  let v104 : BitVec 32 := Scalar.addi v103 c2_i32_64
  let v107 : Index := Scalar.indexCast v104
  let c0_66 : Index := 0#32
  ![v107.toNat, 0]
def k0_off810 (v102 : BitVec 32) : Fin 2 → Nat :=
  let v109 : Index := Scalar.indexCast v102
  let c16_67 : Index := 16#32
  ![v109.toNat, 16]
def k0_off811 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_63 : BitVec 32 := 16#32
  let v103 : BitVec 32 := Scalar.muli arg16 c16_i32_63
  let c2_i32_64 : BitVec 32 := 2#32
  let v104 : BitVec 32 := Scalar.addi v103 c2_i32_64
  let v111 : Index := Scalar.indexCast v104
  let c16_68 : Index := 16#32
  ![v111.toNat, 16]
def k0_off812 (v102 : BitVec 32) : Fin 2 → Nat :=
  let v113 : Index := Scalar.indexCast v102
  let c32_69 : Index := 32#32
  ![v113.toNat, 32]
def k0_off813 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_63 : BitVec 32 := 16#32
  let v103 : BitVec 32 := Scalar.muli arg16 c16_i32_63
  let c2_i32_64 : BitVec 32 := 2#32
  let v104 : BitVec 32 := Scalar.addi v103 c2_i32_64
  let v115 : Index := Scalar.indexCast v104
  let c32_70 : Index := 32#32
  ![v115.toNat, 32]
def k0_off814 (v102 : BitVec 32) : Fin 2 → Nat :=
  let v117 : Index := Scalar.indexCast v102
  let c48_71 : Index := 48#32
  ![v117.toNat, 48]
def k0_off815 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_63 : BitVec 32 := 16#32
  let v103 : BitVec 32 := Scalar.muli arg16 c16_i32_63
  let c2_i32_64 : BitVec 32 := 2#32
  let v104 : BitVec 32 := Scalar.addi v103 c2_i32_64
  let v119 : Index := Scalar.indexCast v104
  let c48_72 : Index := 48#32
  ![v119.toNat, 48]
def k0_off816 (v102 : BitVec 32) : Fin 2 → Nat :=
  let v121 : Index := Scalar.indexCast v102
  let c64_73 : Index := 64#32
  ![v121.toNat, 64]
def k0_off817 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_63 : BitVec 32 := 16#32
  let v103 : BitVec 32 := Scalar.muli arg16 c16_i32_63
  let c2_i32_64 : BitVec 32 := 2#32
  let v104 : BitVec 32 := Scalar.addi v103 c2_i32_64
  let v123 : Index := Scalar.indexCast v104
  let c64_74 : Index := 64#32
  ![v123.toNat, 64]
def k0_off818 (v102 : BitVec 32) : Fin 2 → Nat :=
  let v125 : Index := Scalar.indexCast v102
  let c80_75 : Index := 80#32
  ![v125.toNat, 80]
def k0_off819 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_63 : BitVec 32 := 16#32
  let v103 : BitVec 32 := Scalar.muli arg16 c16_i32_63
  let c2_i32_64 : BitVec 32 := 2#32
  let v104 : BitVec 32 := Scalar.addi v103 c2_i32_64
  let v127 : Index := Scalar.indexCast v104
  let c80_76 : Index := 80#32
  ![v127.toNat, 80]
def k0_off820 (v102 : BitVec 32) : Fin 2 → Nat :=
  let v129 : Index := Scalar.indexCast v102
  let c96_77 : Index := 96#32
  ![v129.toNat, 96]
def k0_off821 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_63 : BitVec 32 := 16#32
  let v103 : BitVec 32 := Scalar.muli arg16 c16_i32_63
  let c2_i32_64 : BitVec 32 := 2#32
  let v104 : BitVec 32 := Scalar.addi v103 c2_i32_64
  let v131 : Index := Scalar.indexCast v104
  let c96_78 : Index := 96#32
  ![v131.toNat, 96]
def k0_off822 (v102 : BitVec 32) : Fin 2 → Nat :=
  let v133 : Index := Scalar.indexCast v102
  let c112_79 : Index := 112#32
  ![v133.toNat, 112]

def k0_chk51 (v102 : BitVec 32) : Prop :=
  (∀ a, (k0_off808 v102) a + S1x16.size a ≤ S26x128.size a) ∧
  (∀ a, (k0_off810 v102) a + S1x16.size a ≤ S26x128.size a) ∧
  (∀ a, (k0_off812 v102) a + S1x16.size a ≤ S26x128.size a) ∧
  (∀ a, (k0_off814 v102) a + S1x16.size a ≤ S26x128.size a) ∧
  (∀ a, (k0_off816 v102) a + S1x16.size a ≤ S26x128.size a) ∧
  (∀ a, (k0_off818 v102) a + S1x16.size a ≤ S26x128.size a) ∧
  (∀ a, (k0_off820 v102) a + S1x16.size a ≤ S26x128.size a) ∧
  (∀ a, (k0_off822 v102) a + S1x16.size a ≤ S26x128.size a)
theorem k0_off808_inb : ∀ (v102 : BitVec 32) (k0_hw51 : k0_chk51 v102), ∀ a, (k0_off808 v102) a + S1x16.size a ≤ S26x128.size a := fun v102 k0_hw51 => k0_hw51.1
theorem k0_off810_inb : ∀ (v102 : BitVec 32) (k0_hw51 : k0_chk51 v102), ∀ a, (k0_off810 v102) a + S1x16.size a ≤ S26x128.size a := fun v102 k0_hw51 => k0_hw51.2.1
theorem k0_off812_inb : ∀ (v102 : BitVec 32) (k0_hw51 : k0_chk51 v102), ∀ a, (k0_off812 v102) a + S1x16.size a ≤ S26x128.size a := fun v102 k0_hw51 => k0_hw51.2.2.1
theorem k0_off814_inb : ∀ (v102 : BitVec 32) (k0_hw51 : k0_chk51 v102), ∀ a, (k0_off814 v102) a + S1x16.size a ≤ S26x128.size a := fun v102 k0_hw51 => k0_hw51.2.2.2.1
theorem k0_off816_inb : ∀ (v102 : BitVec 32) (k0_hw51 : k0_chk51 v102), ∀ a, (k0_off816 v102) a + S1x16.size a ≤ S26x128.size a := fun v102 k0_hw51 => k0_hw51.2.2.2.2.1
theorem k0_off818_inb : ∀ (v102 : BitVec 32) (k0_hw51 : k0_chk51 v102), ∀ a, (k0_off818 v102) a + S1x16.size a ≤ S26x128.size a := fun v102 k0_hw51 => k0_hw51.2.2.2.2.2.1
theorem k0_off820_inb : ∀ (v102 : BitVec 32) (k0_hw51 : k0_chk51 v102), ∀ a, (k0_off820 v102) a + S1x16.size a ≤ S26x128.size a := fun v102 k0_hw51 => k0_hw51.2.2.2.2.2.2.1
theorem k0_off822_inb : ∀ (v102 : BitVec 32) (k0_hw51 : k0_chk51 v102), ∀ a, (k0_off822 v102) a + S1x16.size a ≤ S26x128.size a := fun v102 k0_hw51 => k0_hw51.2.2.2.2.2.2.2

def k0_off823 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_63 : BitVec 32 := 16#32
  let v103 : BitVec 32 := Scalar.muli arg16 c16_i32_63
  let c2_i32_64 : BitVec 32 := 2#32
  let v104 : BitVec 32 := Scalar.addi v103 c2_i32_64
  let v135 : Index := Scalar.indexCast v104
  let c112_80 : Index := 112#32
  ![v135.toNat, 112]
def k0_off824 (v138 : BitVec 32) : Fin 2 → Nat :=
  let v141 : Index := Scalar.indexCast v138
  let c0_82 : Index := 0#32
  ![v141.toNat, 0]

def k0_off825 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_81 : BitVec 32 := 16#32
  let v139 : BitVec 32 := Scalar.muli arg16 c16_i32_81
  let c3_i32 : BitVec 32 := 3#32
  let v140 : BitVec 32 := Scalar.addi v139 c3_i32
  let v143 : Index := Scalar.indexCast v140
  let c0_83 : Index := 0#32
  ![v143.toNat, 0]
def k0_off826 (v138 : BitVec 32) : Fin 2 → Nat :=
  let v145 : Index := Scalar.indexCast v138
  let c16_84 : Index := 16#32
  ![v145.toNat, 16]
def k0_off827 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_81 : BitVec 32 := 16#32
  let v139 : BitVec 32 := Scalar.muli arg16 c16_i32_81
  let c3_i32 : BitVec 32 := 3#32
  let v140 : BitVec 32 := Scalar.addi v139 c3_i32
  let v147 : Index := Scalar.indexCast v140
  let c16_85 : Index := 16#32
  ![v147.toNat, 16]
def k0_off828 (v138 : BitVec 32) : Fin 2 → Nat :=
  let v149 : Index := Scalar.indexCast v138
  let c32_86 : Index := 32#32
  ![v149.toNat, 32]
def k0_off829 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_81 : BitVec 32 := 16#32
  let v139 : BitVec 32 := Scalar.muli arg16 c16_i32_81
  let c3_i32 : BitVec 32 := 3#32
  let v140 : BitVec 32 := Scalar.addi v139 c3_i32
  let v151 : Index := Scalar.indexCast v140
  let c32_87 : Index := 32#32
  ![v151.toNat, 32]
def k0_off830 (v138 : BitVec 32) : Fin 2 → Nat :=
  let v153 : Index := Scalar.indexCast v138
  let c48_88 : Index := 48#32
  ![v153.toNat, 48]
def k0_off831 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_81 : BitVec 32 := 16#32
  let v139 : BitVec 32 := Scalar.muli arg16 c16_i32_81
  let c3_i32 : BitVec 32 := 3#32
  let v140 : BitVec 32 := Scalar.addi v139 c3_i32
  let v155 : Index := Scalar.indexCast v140
  let c48_89 : Index := 48#32
  ![v155.toNat, 48]
def k0_off832 (v138 : BitVec 32) : Fin 2 → Nat :=
  let v157 : Index := Scalar.indexCast v138
  let c64_90 : Index := 64#32
  ![v157.toNat, 64]
def k0_off833 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_81 : BitVec 32 := 16#32
  let v139 : BitVec 32 := Scalar.muli arg16 c16_i32_81
  let c3_i32 : BitVec 32 := 3#32
  let v140 : BitVec 32 := Scalar.addi v139 c3_i32
  let v159 : Index := Scalar.indexCast v140
  let c64_91 : Index := 64#32
  ![v159.toNat, 64]
def k0_off834 (v138 : BitVec 32) : Fin 2 → Nat :=
  let v161 : Index := Scalar.indexCast v138
  let c80_92 : Index := 80#32
  ![v161.toNat, 80]
def k0_off835 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_81 : BitVec 32 := 16#32
  let v139 : BitVec 32 := Scalar.muli arg16 c16_i32_81
  let c3_i32 : BitVec 32 := 3#32
  let v140 : BitVec 32 := Scalar.addi v139 c3_i32
  let v163 : Index := Scalar.indexCast v140
  let c80_93 : Index := 80#32
  ![v163.toNat, 80]
def k0_off836 (v138 : BitVec 32) : Fin 2 → Nat :=
  let v165 : Index := Scalar.indexCast v138
  let c96_94 : Index := 96#32
  ![v165.toNat, 96]
def k0_off837 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_81 : BitVec 32 := 16#32
  let v139 : BitVec 32 := Scalar.muli arg16 c16_i32_81
  let c3_i32 : BitVec 32 := 3#32
  let v140 : BitVec 32 := Scalar.addi v139 c3_i32
  let v167 : Index := Scalar.indexCast v140
  let c96_95 : Index := 96#32
  ![v167.toNat, 96]
def k0_off838 (v138 : BitVec 32) : Fin 2 → Nat :=
  let v169 : Index := Scalar.indexCast v138
  let c112_96 : Index := 112#32
  ![v169.toNat, 112]

def k0_chk52 (v138 : BitVec 32) : Prop :=
  (∀ a, (k0_off824 v138) a + S1x16.size a ≤ S26x128.size a) ∧
  (∀ a, (k0_off826 v138) a + S1x16.size a ≤ S26x128.size a) ∧
  (∀ a, (k0_off828 v138) a + S1x16.size a ≤ S26x128.size a) ∧
  (∀ a, (k0_off830 v138) a + S1x16.size a ≤ S26x128.size a) ∧
  (∀ a, (k0_off832 v138) a + S1x16.size a ≤ S26x128.size a) ∧
  (∀ a, (k0_off834 v138) a + S1x16.size a ≤ S26x128.size a) ∧
  (∀ a, (k0_off836 v138) a + S1x16.size a ≤ S26x128.size a) ∧
  (∀ a, (k0_off838 v138) a + S1x16.size a ≤ S26x128.size a)
theorem k0_off824_inb : ∀ (v138 : BitVec 32) (k0_hw52 : k0_chk52 v138), ∀ a, (k0_off824 v138) a + S1x16.size a ≤ S26x128.size a := fun v138 k0_hw52 => k0_hw52.1
theorem k0_off826_inb : ∀ (v138 : BitVec 32) (k0_hw52 : k0_chk52 v138), ∀ a, (k0_off826 v138) a + S1x16.size a ≤ S26x128.size a := fun v138 k0_hw52 => k0_hw52.2.1
theorem k0_off828_inb : ∀ (v138 : BitVec 32) (k0_hw52 : k0_chk52 v138), ∀ a, (k0_off828 v138) a + S1x16.size a ≤ S26x128.size a := fun v138 k0_hw52 => k0_hw52.2.2.1
theorem k0_off830_inb : ∀ (v138 : BitVec 32) (k0_hw52 : k0_chk52 v138), ∀ a, (k0_off830 v138) a + S1x16.size a ≤ S26x128.size a := fun v138 k0_hw52 => k0_hw52.2.2.2.1
theorem k0_off832_inb : ∀ (v138 : BitVec 32) (k0_hw52 : k0_chk52 v138), ∀ a, (k0_off832 v138) a + S1x16.size a ≤ S26x128.size a := fun v138 k0_hw52 => k0_hw52.2.2.2.2.1
theorem k0_off834_inb : ∀ (v138 : BitVec 32) (k0_hw52 : k0_chk52 v138), ∀ a, (k0_off834 v138) a + S1x16.size a ≤ S26x128.size a := fun v138 k0_hw52 => k0_hw52.2.2.2.2.2.1
theorem k0_off836_inb : ∀ (v138 : BitVec 32) (k0_hw52 : k0_chk52 v138), ∀ a, (k0_off836 v138) a + S1x16.size a ≤ S26x128.size a := fun v138 k0_hw52 => k0_hw52.2.2.2.2.2.2.1
theorem k0_off838_inb : ∀ (v138 : BitVec 32) (k0_hw52 : k0_chk52 v138), ∀ a, (k0_off838 v138) a + S1x16.size a ≤ S26x128.size a := fun v138 k0_hw52 => k0_hw52.2.2.2.2.2.2.2

def k0_off839 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_81 : BitVec 32 := 16#32
  let v139 : BitVec 32 := Scalar.muli arg16 c16_i32_81
  let c3_i32 : BitVec 32 := 3#32
  let v140 : BitVec 32 := Scalar.addi v139 c3_i32
  let v171 : Index := Scalar.indexCast v140
  let c112_97 : Index := 112#32
  ![v171.toNat, 112]
def k0_off840 (v174 : BitVec 32) : Fin 2 → Nat :=
  let v177 : Index := Scalar.indexCast v174
  let c0_99 : Index := 0#32
  ![v177.toNat, 0]

def k0_off841 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_98 : BitVec 32 := 16#32
  let v175 : BitVec 32 := Scalar.muli arg16 c16_i32_98
  let c4_i32 : BitVec 32 := 4#32
  let v176 : BitVec 32 := Scalar.addi v175 c4_i32
  let v179 : Index := Scalar.indexCast v176
  let c0_100 : Index := 0#32
  ![v179.toNat, 0]
def k0_off842 (v174 : BitVec 32) : Fin 2 → Nat :=
  let v181 : Index := Scalar.indexCast v174
  let c16_101 : Index := 16#32
  ![v181.toNat, 16]
def k0_off843 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_98 : BitVec 32 := 16#32
  let v175 : BitVec 32 := Scalar.muli arg16 c16_i32_98
  let c4_i32 : BitVec 32 := 4#32
  let v176 : BitVec 32 := Scalar.addi v175 c4_i32
  let v183 : Index := Scalar.indexCast v176
  let c16_102 : Index := 16#32
  ![v183.toNat, 16]
def k0_off844 (v174 : BitVec 32) : Fin 2 → Nat :=
  let v185 : Index := Scalar.indexCast v174
  let c32_103 : Index := 32#32
  ![v185.toNat, 32]
def k0_off845 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_98 : BitVec 32 := 16#32
  let v175 : BitVec 32 := Scalar.muli arg16 c16_i32_98
  let c4_i32 : BitVec 32 := 4#32
  let v176 : BitVec 32 := Scalar.addi v175 c4_i32
  let v187 : Index := Scalar.indexCast v176
  let c32_104 : Index := 32#32
  ![v187.toNat, 32]
def k0_off846 (v174 : BitVec 32) : Fin 2 → Nat :=
  let v189 : Index := Scalar.indexCast v174
  let c48_105 : Index := 48#32
  ![v189.toNat, 48]
def k0_off847 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_98 : BitVec 32 := 16#32
  let v175 : BitVec 32 := Scalar.muli arg16 c16_i32_98
  let c4_i32 : BitVec 32 := 4#32
  let v176 : BitVec 32 := Scalar.addi v175 c4_i32
  let v191 : Index := Scalar.indexCast v176
  let c48_106 : Index := 48#32
  ![v191.toNat, 48]
def k0_off848 (v174 : BitVec 32) : Fin 2 → Nat :=
  let v193 : Index := Scalar.indexCast v174
  let c64_107 : Index := 64#32
  ![v193.toNat, 64]
def k0_off849 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_98 : BitVec 32 := 16#32
  let v175 : BitVec 32 := Scalar.muli arg16 c16_i32_98
  let c4_i32 : BitVec 32 := 4#32
  let v176 : BitVec 32 := Scalar.addi v175 c4_i32
  let v195 : Index := Scalar.indexCast v176
  let c64_108 : Index := 64#32
  ![v195.toNat, 64]
def k0_off850 (v174 : BitVec 32) : Fin 2 → Nat :=
  let v197 : Index := Scalar.indexCast v174
  let c80_109 : Index := 80#32
  ![v197.toNat, 80]
def k0_off851 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_98 : BitVec 32 := 16#32
  let v175 : BitVec 32 := Scalar.muli arg16 c16_i32_98
  let c4_i32 : BitVec 32 := 4#32
  let v176 : BitVec 32 := Scalar.addi v175 c4_i32
  let v199 : Index := Scalar.indexCast v176
  let c80_110 : Index := 80#32
  ![v199.toNat, 80]
def k0_off852 (v174 : BitVec 32) : Fin 2 → Nat :=
  let v201 : Index := Scalar.indexCast v174
  let c96_111 : Index := 96#32
  ![v201.toNat, 96]
def k0_off853 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_98 : BitVec 32 := 16#32
  let v175 : BitVec 32 := Scalar.muli arg16 c16_i32_98
  let c4_i32 : BitVec 32 := 4#32
  let v176 : BitVec 32 := Scalar.addi v175 c4_i32
  let v203 : Index := Scalar.indexCast v176
  let c96_112 : Index := 96#32
  ![v203.toNat, 96]
def k0_off854 (v174 : BitVec 32) : Fin 2 → Nat :=
  let v205 : Index := Scalar.indexCast v174
  let c112_113 : Index := 112#32
  ![v205.toNat, 112]

def k0_chk53 (v174 : BitVec 32) : Prop :=
  (∀ a, (k0_off840 v174) a + S1x16.size a ≤ S26x128.size a) ∧
  (∀ a, (k0_off842 v174) a + S1x16.size a ≤ S26x128.size a) ∧
  (∀ a, (k0_off844 v174) a + S1x16.size a ≤ S26x128.size a) ∧
  (∀ a, (k0_off846 v174) a + S1x16.size a ≤ S26x128.size a) ∧
  (∀ a, (k0_off848 v174) a + S1x16.size a ≤ S26x128.size a) ∧
  (∀ a, (k0_off850 v174) a + S1x16.size a ≤ S26x128.size a) ∧
  (∀ a, (k0_off852 v174) a + S1x16.size a ≤ S26x128.size a) ∧
  (∀ a, (k0_off854 v174) a + S1x16.size a ≤ S26x128.size a)
theorem k0_off840_inb : ∀ (v174 : BitVec 32) (k0_hw53 : k0_chk53 v174), ∀ a, (k0_off840 v174) a + S1x16.size a ≤ S26x128.size a := fun v174 k0_hw53 => k0_hw53.1
theorem k0_off842_inb : ∀ (v174 : BitVec 32) (k0_hw53 : k0_chk53 v174), ∀ a, (k0_off842 v174) a + S1x16.size a ≤ S26x128.size a := fun v174 k0_hw53 => k0_hw53.2.1
theorem k0_off844_inb : ∀ (v174 : BitVec 32) (k0_hw53 : k0_chk53 v174), ∀ a, (k0_off844 v174) a + S1x16.size a ≤ S26x128.size a := fun v174 k0_hw53 => k0_hw53.2.2.1
theorem k0_off846_inb : ∀ (v174 : BitVec 32) (k0_hw53 : k0_chk53 v174), ∀ a, (k0_off846 v174) a + S1x16.size a ≤ S26x128.size a := fun v174 k0_hw53 => k0_hw53.2.2.2.1
theorem k0_off848_inb : ∀ (v174 : BitVec 32) (k0_hw53 : k0_chk53 v174), ∀ a, (k0_off848 v174) a + S1x16.size a ≤ S26x128.size a := fun v174 k0_hw53 => k0_hw53.2.2.2.2.1
theorem k0_off850_inb : ∀ (v174 : BitVec 32) (k0_hw53 : k0_chk53 v174), ∀ a, (k0_off850 v174) a + S1x16.size a ≤ S26x128.size a := fun v174 k0_hw53 => k0_hw53.2.2.2.2.2.1
theorem k0_off852_inb : ∀ (v174 : BitVec 32) (k0_hw53 : k0_chk53 v174), ∀ a, (k0_off852 v174) a + S1x16.size a ≤ S26x128.size a := fun v174 k0_hw53 => k0_hw53.2.2.2.2.2.2.1
theorem k0_off854_inb : ∀ (v174 : BitVec 32) (k0_hw53 : k0_chk53 v174), ∀ a, (k0_off854 v174) a + S1x16.size a ≤ S26x128.size a := fun v174 k0_hw53 => k0_hw53.2.2.2.2.2.2.2

def k0_off855 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_98 : BitVec 32 := 16#32
  let v175 : BitVec 32 := Scalar.muli arg16 c16_i32_98
  let c4_i32 : BitVec 32 := 4#32
  let v176 : BitVec 32 := Scalar.addi v175 c4_i32
  let v207 : Index := Scalar.indexCast v176
  let c112_114 : Index := 112#32
  ![v207.toNat, 112]
def k0_off856 (v210 : BitVec 32) : Fin 2 → Nat :=
  let v213 : Index := Scalar.indexCast v210
  let c0_116 : Index := 0#32
  ![v213.toNat, 0]

def k0_off857 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_115 : BitVec 32 := 16#32
  let v211 : BitVec 32 := Scalar.muli arg16 c16_i32_115
  let c5_i32 : BitVec 32 := 5#32
  let v212 : BitVec 32 := Scalar.addi v211 c5_i32
  let v215 : Index := Scalar.indexCast v212
  let c0_117 : Index := 0#32
  ![v215.toNat, 0]
def k0_off858 (v210 : BitVec 32) : Fin 2 → Nat :=
  let v217 : Index := Scalar.indexCast v210
  let c16_118 : Index := 16#32
  ![v217.toNat, 16]
def k0_off859 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_115 : BitVec 32 := 16#32
  let v211 : BitVec 32 := Scalar.muli arg16 c16_i32_115
  let c5_i32 : BitVec 32 := 5#32
  let v212 : BitVec 32 := Scalar.addi v211 c5_i32
  let v219 : Index := Scalar.indexCast v212
  let c16_119 : Index := 16#32
  ![v219.toNat, 16]
def k0_off860 (v210 : BitVec 32) : Fin 2 → Nat :=
  let v221 : Index := Scalar.indexCast v210
  let c32_120 : Index := 32#32
  ![v221.toNat, 32]
def k0_off861 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_115 : BitVec 32 := 16#32
  let v211 : BitVec 32 := Scalar.muli arg16 c16_i32_115
  let c5_i32 : BitVec 32 := 5#32
  let v212 : BitVec 32 := Scalar.addi v211 c5_i32
  let v223 : Index := Scalar.indexCast v212
  let c32_121 : Index := 32#32
  ![v223.toNat, 32]
def k0_off862 (v210 : BitVec 32) : Fin 2 → Nat :=
  let v225 : Index := Scalar.indexCast v210
  let c48_122 : Index := 48#32
  ![v225.toNat, 48]
def k0_off863 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_115 : BitVec 32 := 16#32
  let v211 : BitVec 32 := Scalar.muli arg16 c16_i32_115
  let c5_i32 : BitVec 32 := 5#32
  let v212 : BitVec 32 := Scalar.addi v211 c5_i32
  let v227 : Index := Scalar.indexCast v212
  let c48_123 : Index := 48#32
  ![v227.toNat, 48]
def k0_off864 (v210 : BitVec 32) : Fin 2 → Nat :=
  let v229 : Index := Scalar.indexCast v210
  let c64_124 : Index := 64#32
  ![v229.toNat, 64]
def k0_off865 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_115 : BitVec 32 := 16#32
  let v211 : BitVec 32 := Scalar.muli arg16 c16_i32_115
  let c5_i32 : BitVec 32 := 5#32
  let v212 : BitVec 32 := Scalar.addi v211 c5_i32
  let v231 : Index := Scalar.indexCast v212
  let c64_125 : Index := 64#32
  ![v231.toNat, 64]
def k0_off866 (v210 : BitVec 32) : Fin 2 → Nat :=
  let v233 : Index := Scalar.indexCast v210
  let c80_126 : Index := 80#32
  ![v233.toNat, 80]
def k0_off867 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_115 : BitVec 32 := 16#32
  let v211 : BitVec 32 := Scalar.muli arg16 c16_i32_115
  let c5_i32 : BitVec 32 := 5#32
  let v212 : BitVec 32 := Scalar.addi v211 c5_i32
  let v235 : Index := Scalar.indexCast v212
  let c80_127 : Index := 80#32
  ![v235.toNat, 80]
def k0_off868 (v210 : BitVec 32) : Fin 2 → Nat :=
  let v237 : Index := Scalar.indexCast v210
  let c96_128 : Index := 96#32
  ![v237.toNat, 96]
def k0_off869 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_115 : BitVec 32 := 16#32
  let v211 : BitVec 32 := Scalar.muli arg16 c16_i32_115
  let c5_i32 : BitVec 32 := 5#32
  let v212 : BitVec 32 := Scalar.addi v211 c5_i32
  let v239 : Index := Scalar.indexCast v212
  let c96_129 : Index := 96#32
  ![v239.toNat, 96]
def k0_off870 (v210 : BitVec 32) : Fin 2 → Nat :=
  let v241 : Index := Scalar.indexCast v210
  let c112_130 : Index := 112#32
  ![v241.toNat, 112]

def k0_chk54 (v210 : BitVec 32) : Prop :=
  (∀ a, (k0_off856 v210) a + S1x16.size a ≤ S26x128.size a) ∧
  (∀ a, (k0_off858 v210) a + S1x16.size a ≤ S26x128.size a) ∧
  (∀ a, (k0_off860 v210) a + S1x16.size a ≤ S26x128.size a) ∧
  (∀ a, (k0_off862 v210) a + S1x16.size a ≤ S26x128.size a) ∧
  (∀ a, (k0_off864 v210) a + S1x16.size a ≤ S26x128.size a) ∧
  (∀ a, (k0_off866 v210) a + S1x16.size a ≤ S26x128.size a) ∧
  (∀ a, (k0_off868 v210) a + S1x16.size a ≤ S26x128.size a) ∧
  (∀ a, (k0_off870 v210) a + S1x16.size a ≤ S26x128.size a)
theorem k0_off856_inb : ∀ (v210 : BitVec 32) (k0_hw54 : k0_chk54 v210), ∀ a, (k0_off856 v210) a + S1x16.size a ≤ S26x128.size a := fun v210 k0_hw54 => k0_hw54.1
theorem k0_off858_inb : ∀ (v210 : BitVec 32) (k0_hw54 : k0_chk54 v210), ∀ a, (k0_off858 v210) a + S1x16.size a ≤ S26x128.size a := fun v210 k0_hw54 => k0_hw54.2.1
theorem k0_off860_inb : ∀ (v210 : BitVec 32) (k0_hw54 : k0_chk54 v210), ∀ a, (k0_off860 v210) a + S1x16.size a ≤ S26x128.size a := fun v210 k0_hw54 => k0_hw54.2.2.1
theorem k0_off862_inb : ∀ (v210 : BitVec 32) (k0_hw54 : k0_chk54 v210), ∀ a, (k0_off862 v210) a + S1x16.size a ≤ S26x128.size a := fun v210 k0_hw54 => k0_hw54.2.2.2.1
theorem k0_off864_inb : ∀ (v210 : BitVec 32) (k0_hw54 : k0_chk54 v210), ∀ a, (k0_off864 v210) a + S1x16.size a ≤ S26x128.size a := fun v210 k0_hw54 => k0_hw54.2.2.2.2.1
theorem k0_off866_inb : ∀ (v210 : BitVec 32) (k0_hw54 : k0_chk54 v210), ∀ a, (k0_off866 v210) a + S1x16.size a ≤ S26x128.size a := fun v210 k0_hw54 => k0_hw54.2.2.2.2.2.1
theorem k0_off868_inb : ∀ (v210 : BitVec 32) (k0_hw54 : k0_chk54 v210), ∀ a, (k0_off868 v210) a + S1x16.size a ≤ S26x128.size a := fun v210 k0_hw54 => k0_hw54.2.2.2.2.2.2.1
theorem k0_off870_inb : ∀ (v210 : BitVec 32) (k0_hw54 : k0_chk54 v210), ∀ a, (k0_off870 v210) a + S1x16.size a ≤ S26x128.size a := fun v210 k0_hw54 => k0_hw54.2.2.2.2.2.2.2

def k0_off871 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_115 : BitVec 32 := 16#32
  let v211 : BitVec 32 := Scalar.muli arg16 c16_i32_115
  let c5_i32 : BitVec 32 := 5#32
  let v212 : BitVec 32 := Scalar.addi v211 c5_i32
  let v243 : Index := Scalar.indexCast v212
  let c112_131 : Index := 112#32
  ![v243.toNat, 112]
def k0_off872 (v246 : BitVec 32) : Fin 2 → Nat :=
  let v249 : Index := Scalar.indexCast v246
  let c0_133 : Index := 0#32
  ![v249.toNat, 0]

def k0_off873 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_132 : BitVec 32 := 16#32
  let v247 : BitVec 32 := Scalar.muli arg16 c16_i32_132
  let c6_i32 : BitVec 32 := 6#32
  let v248 : BitVec 32 := Scalar.addi v247 c6_i32
  let v251 : Index := Scalar.indexCast v248
  let c0_134 : Index := 0#32
  ![v251.toNat, 0]
def k0_off874 (v246 : BitVec 32) : Fin 2 → Nat :=
  let v253 : Index := Scalar.indexCast v246
  let c16_135 : Index := 16#32
  ![v253.toNat, 16]
def k0_off875 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_132 : BitVec 32 := 16#32
  let v247 : BitVec 32 := Scalar.muli arg16 c16_i32_132
  let c6_i32 : BitVec 32 := 6#32
  let v248 : BitVec 32 := Scalar.addi v247 c6_i32
  let v255 : Index := Scalar.indexCast v248
  let c16_136 : Index := 16#32
  ![v255.toNat, 16]
def k0_off876 (v246 : BitVec 32) : Fin 2 → Nat :=
  let v257 : Index := Scalar.indexCast v246
  let c32_137 : Index := 32#32
  ![v257.toNat, 32]
def k0_off877 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_132 : BitVec 32 := 16#32
  let v247 : BitVec 32 := Scalar.muli arg16 c16_i32_132
  let c6_i32 : BitVec 32 := 6#32
  let v248 : BitVec 32 := Scalar.addi v247 c6_i32
  let v259 : Index := Scalar.indexCast v248
  let c32_138 : Index := 32#32
  ![v259.toNat, 32]
def k0_off878 (v246 : BitVec 32) : Fin 2 → Nat :=
  let v261 : Index := Scalar.indexCast v246
  let c48_139 : Index := 48#32
  ![v261.toNat, 48]
def k0_off879 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_132 : BitVec 32 := 16#32
  let v247 : BitVec 32 := Scalar.muli arg16 c16_i32_132
  let c6_i32 : BitVec 32 := 6#32
  let v248 : BitVec 32 := Scalar.addi v247 c6_i32
  let v263 : Index := Scalar.indexCast v248
  let c48_140 : Index := 48#32
  ![v263.toNat, 48]
def k0_off880 (v246 : BitVec 32) : Fin 2 → Nat :=
  let v265 : Index := Scalar.indexCast v246
  let c64_141 : Index := 64#32
  ![v265.toNat, 64]
def k0_off881 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_132 : BitVec 32 := 16#32
  let v247 : BitVec 32 := Scalar.muli arg16 c16_i32_132
  let c6_i32 : BitVec 32 := 6#32
  let v248 : BitVec 32 := Scalar.addi v247 c6_i32
  let v267 : Index := Scalar.indexCast v248
  let c64_142 : Index := 64#32
  ![v267.toNat, 64]
def k0_off882 (v246 : BitVec 32) : Fin 2 → Nat :=
  let v269 : Index := Scalar.indexCast v246
  let c80_143 : Index := 80#32
  ![v269.toNat, 80]
def k0_off883 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_132 : BitVec 32 := 16#32
  let v247 : BitVec 32 := Scalar.muli arg16 c16_i32_132
  let c6_i32 : BitVec 32 := 6#32
  let v248 : BitVec 32 := Scalar.addi v247 c6_i32
  let v271 : Index := Scalar.indexCast v248
  let c80_144 : Index := 80#32
  ![v271.toNat, 80]
def k0_off884 (v246 : BitVec 32) : Fin 2 → Nat :=
  let v273 : Index := Scalar.indexCast v246
  let c96_145 : Index := 96#32
  ![v273.toNat, 96]
def k0_off885 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_132 : BitVec 32 := 16#32
  let v247 : BitVec 32 := Scalar.muli arg16 c16_i32_132
  let c6_i32 : BitVec 32 := 6#32
  let v248 : BitVec 32 := Scalar.addi v247 c6_i32
  let v275 : Index := Scalar.indexCast v248
  let c96_146 : Index := 96#32
  ![v275.toNat, 96]
def k0_off886 (v246 : BitVec 32) : Fin 2 → Nat :=
  let v277 : Index := Scalar.indexCast v246
  let c112_147 : Index := 112#32
  ![v277.toNat, 112]

def k0_chk55 (v246 : BitVec 32) : Prop :=
  (∀ a, (k0_off872 v246) a + S1x16.size a ≤ S26x128.size a) ∧
  (∀ a, (k0_off874 v246) a + S1x16.size a ≤ S26x128.size a) ∧
  (∀ a, (k0_off876 v246) a + S1x16.size a ≤ S26x128.size a) ∧
  (∀ a, (k0_off878 v246) a + S1x16.size a ≤ S26x128.size a) ∧
  (∀ a, (k0_off880 v246) a + S1x16.size a ≤ S26x128.size a) ∧
  (∀ a, (k0_off882 v246) a + S1x16.size a ≤ S26x128.size a) ∧
  (∀ a, (k0_off884 v246) a + S1x16.size a ≤ S26x128.size a) ∧
  (∀ a, (k0_off886 v246) a + S1x16.size a ≤ S26x128.size a)
theorem k0_off872_inb : ∀ (v246 : BitVec 32) (k0_hw55 : k0_chk55 v246), ∀ a, (k0_off872 v246) a + S1x16.size a ≤ S26x128.size a := fun v246 k0_hw55 => k0_hw55.1
theorem k0_off874_inb : ∀ (v246 : BitVec 32) (k0_hw55 : k0_chk55 v246), ∀ a, (k0_off874 v246) a + S1x16.size a ≤ S26x128.size a := fun v246 k0_hw55 => k0_hw55.2.1
theorem k0_off876_inb : ∀ (v246 : BitVec 32) (k0_hw55 : k0_chk55 v246), ∀ a, (k0_off876 v246) a + S1x16.size a ≤ S26x128.size a := fun v246 k0_hw55 => k0_hw55.2.2.1
theorem k0_off878_inb : ∀ (v246 : BitVec 32) (k0_hw55 : k0_chk55 v246), ∀ a, (k0_off878 v246) a + S1x16.size a ≤ S26x128.size a := fun v246 k0_hw55 => k0_hw55.2.2.2.1
theorem k0_off880_inb : ∀ (v246 : BitVec 32) (k0_hw55 : k0_chk55 v246), ∀ a, (k0_off880 v246) a + S1x16.size a ≤ S26x128.size a := fun v246 k0_hw55 => k0_hw55.2.2.2.2.1
theorem k0_off882_inb : ∀ (v246 : BitVec 32) (k0_hw55 : k0_chk55 v246), ∀ a, (k0_off882 v246) a + S1x16.size a ≤ S26x128.size a := fun v246 k0_hw55 => k0_hw55.2.2.2.2.2.1
theorem k0_off884_inb : ∀ (v246 : BitVec 32) (k0_hw55 : k0_chk55 v246), ∀ a, (k0_off884 v246) a + S1x16.size a ≤ S26x128.size a := fun v246 k0_hw55 => k0_hw55.2.2.2.2.2.2.1
theorem k0_off886_inb : ∀ (v246 : BitVec 32) (k0_hw55 : k0_chk55 v246), ∀ a, (k0_off886 v246) a + S1x16.size a ≤ S26x128.size a := fun v246 k0_hw55 => k0_hw55.2.2.2.2.2.2.2

def k0_off887 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_132 : BitVec 32 := 16#32
  let v247 : BitVec 32 := Scalar.muli arg16 c16_i32_132
  let c6_i32 : BitVec 32 := 6#32
  let v248 : BitVec 32 := Scalar.addi v247 c6_i32
  let v279 : Index := Scalar.indexCast v248
  let c112_148 : Index := 112#32
  ![v279.toNat, 112]
def k0_off888 (v282 : BitVec 32) : Fin 2 → Nat :=
  let v285 : Index := Scalar.indexCast v282
  let c0_150 : Index := 0#32
  ![v285.toNat, 0]

def k0_off889 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_149 : BitVec 32 := 16#32
  let v283 : BitVec 32 := Scalar.muli arg16 c16_i32_149
  let c7_i32 : BitVec 32 := 7#32
  let v284 : BitVec 32 := Scalar.addi v283 c7_i32
  let v287 : Index := Scalar.indexCast v284
  let c0_151 : Index := 0#32
  ![v287.toNat, 0]
def k0_off890 (v282 : BitVec 32) : Fin 2 → Nat :=
  let v289 : Index := Scalar.indexCast v282
  let c16_152 : Index := 16#32
  ![v289.toNat, 16]
def k0_off891 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_149 : BitVec 32 := 16#32
  let v283 : BitVec 32 := Scalar.muli arg16 c16_i32_149
  let c7_i32 : BitVec 32 := 7#32
  let v284 : BitVec 32 := Scalar.addi v283 c7_i32
  let v291 : Index := Scalar.indexCast v284
  let c16_153 : Index := 16#32
  ![v291.toNat, 16]
def k0_off892 (v282 : BitVec 32) : Fin 2 → Nat :=
  let v293 : Index := Scalar.indexCast v282
  let c32_154 : Index := 32#32
  ![v293.toNat, 32]
def k0_off893 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_149 : BitVec 32 := 16#32
  let v283 : BitVec 32 := Scalar.muli arg16 c16_i32_149
  let c7_i32 : BitVec 32 := 7#32
  let v284 : BitVec 32 := Scalar.addi v283 c7_i32
  let v295 : Index := Scalar.indexCast v284
  let c32_155 : Index := 32#32
  ![v295.toNat, 32]
def k0_off894 (v282 : BitVec 32) : Fin 2 → Nat :=
  let v297 : Index := Scalar.indexCast v282
  let c48_156 : Index := 48#32
  ![v297.toNat, 48]
def k0_off895 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_149 : BitVec 32 := 16#32
  let v283 : BitVec 32 := Scalar.muli arg16 c16_i32_149
  let c7_i32 : BitVec 32 := 7#32
  let v284 : BitVec 32 := Scalar.addi v283 c7_i32
  let v299 : Index := Scalar.indexCast v284
  let c48_157 : Index := 48#32
  ![v299.toNat, 48]
def k0_off896 (v282 : BitVec 32) : Fin 2 → Nat :=
  let v301 : Index := Scalar.indexCast v282
  let c64_158 : Index := 64#32
  ![v301.toNat, 64]
def k0_off897 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_149 : BitVec 32 := 16#32
  let v283 : BitVec 32 := Scalar.muli arg16 c16_i32_149
  let c7_i32 : BitVec 32 := 7#32
  let v284 : BitVec 32 := Scalar.addi v283 c7_i32
  let v303 : Index := Scalar.indexCast v284
  let c64_159 : Index := 64#32
  ![v303.toNat, 64]
def k0_off898 (v282 : BitVec 32) : Fin 2 → Nat :=
  let v305 : Index := Scalar.indexCast v282
  let c80_160 : Index := 80#32
  ![v305.toNat, 80]
def k0_off899 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_149 : BitVec 32 := 16#32
  let v283 : BitVec 32 := Scalar.muli arg16 c16_i32_149
  let c7_i32 : BitVec 32 := 7#32
  let v284 : BitVec 32 := Scalar.addi v283 c7_i32
  let v307 : Index := Scalar.indexCast v284
  let c80_161 : Index := 80#32
  ![v307.toNat, 80]
def k0_off900 (v282 : BitVec 32) : Fin 2 → Nat :=
  let v309 : Index := Scalar.indexCast v282
  let c96_162 : Index := 96#32
  ![v309.toNat, 96]
def k0_off901 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_149 : BitVec 32 := 16#32
  let v283 : BitVec 32 := Scalar.muli arg16 c16_i32_149
  let c7_i32 : BitVec 32 := 7#32
  let v284 : BitVec 32 := Scalar.addi v283 c7_i32
  let v311 : Index := Scalar.indexCast v284
  let c96_163 : Index := 96#32
  ![v311.toNat, 96]
def k0_off902 (v282 : BitVec 32) : Fin 2 → Nat :=
  let v313 : Index := Scalar.indexCast v282
  let c112_164 : Index := 112#32
  ![v313.toNat, 112]

def k0_chk56 (v282 : BitVec 32) : Prop :=
  (∀ a, (k0_off888 v282) a + S1x16.size a ≤ S26x128.size a) ∧
  (∀ a, (k0_off890 v282) a + S1x16.size a ≤ S26x128.size a) ∧
  (∀ a, (k0_off892 v282) a + S1x16.size a ≤ S26x128.size a) ∧
  (∀ a, (k0_off894 v282) a + S1x16.size a ≤ S26x128.size a) ∧
  (∀ a, (k0_off896 v282) a + S1x16.size a ≤ S26x128.size a) ∧
  (∀ a, (k0_off898 v282) a + S1x16.size a ≤ S26x128.size a) ∧
  (∀ a, (k0_off900 v282) a + S1x16.size a ≤ S26x128.size a) ∧
  (∀ a, (k0_off902 v282) a + S1x16.size a ≤ S26x128.size a)
theorem k0_off888_inb : ∀ (v282 : BitVec 32) (k0_hw56 : k0_chk56 v282), ∀ a, (k0_off888 v282) a + S1x16.size a ≤ S26x128.size a := fun v282 k0_hw56 => k0_hw56.1
theorem k0_off890_inb : ∀ (v282 : BitVec 32) (k0_hw56 : k0_chk56 v282), ∀ a, (k0_off890 v282) a + S1x16.size a ≤ S26x128.size a := fun v282 k0_hw56 => k0_hw56.2.1
theorem k0_off892_inb : ∀ (v282 : BitVec 32) (k0_hw56 : k0_chk56 v282), ∀ a, (k0_off892 v282) a + S1x16.size a ≤ S26x128.size a := fun v282 k0_hw56 => k0_hw56.2.2.1
theorem k0_off894_inb : ∀ (v282 : BitVec 32) (k0_hw56 : k0_chk56 v282), ∀ a, (k0_off894 v282) a + S1x16.size a ≤ S26x128.size a := fun v282 k0_hw56 => k0_hw56.2.2.2.1
theorem k0_off896_inb : ∀ (v282 : BitVec 32) (k0_hw56 : k0_chk56 v282), ∀ a, (k0_off896 v282) a + S1x16.size a ≤ S26x128.size a := fun v282 k0_hw56 => k0_hw56.2.2.2.2.1
theorem k0_off898_inb : ∀ (v282 : BitVec 32) (k0_hw56 : k0_chk56 v282), ∀ a, (k0_off898 v282) a + S1x16.size a ≤ S26x128.size a := fun v282 k0_hw56 => k0_hw56.2.2.2.2.2.1
theorem k0_off900_inb : ∀ (v282 : BitVec 32) (k0_hw56 : k0_chk56 v282), ∀ a, (k0_off900 v282) a + S1x16.size a ≤ S26x128.size a := fun v282 k0_hw56 => k0_hw56.2.2.2.2.2.2.1
theorem k0_off902_inb : ∀ (v282 : BitVec 32) (k0_hw56 : k0_chk56 v282), ∀ a, (k0_off902 v282) a + S1x16.size a ≤ S26x128.size a := fun v282 k0_hw56 => k0_hw56.2.2.2.2.2.2.2

def k0_off903 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_149 : BitVec 32 := 16#32
  let v283 : BitVec 32 := Scalar.muli arg16 c16_i32_149
  let c7_i32 : BitVec 32 := 7#32
  let v284 : BitVec 32 := Scalar.addi v283 c7_i32
  let v315 : Index := Scalar.indexCast v284
  let c112_165 : Index := 112#32
  ![v315.toNat, 112]
def k0_off904 (v318 : BitVec 32) : Fin 2 → Nat :=
  let v321 : Index := Scalar.indexCast v318
  let c0_168 : Index := 0#32
  ![v321.toNat, 0]

def k0_off905 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_166 : BitVec 32 := 16#32
  let v319 : BitVec 32 := Scalar.muli arg16 c16_i32_166
  let c8_i32_167 : BitVec 32 := 8#32
  let v320 : BitVec 32 := Scalar.addi v319 c8_i32_167
  let v323 : Index := Scalar.indexCast v320
  let c0_169 : Index := 0#32
  ![v323.toNat, 0]
def k0_off906 (v318 : BitVec 32) : Fin 2 → Nat :=
  let v325 : Index := Scalar.indexCast v318
  let c16_170 : Index := 16#32
  ![v325.toNat, 16]
def k0_off907 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_166 : BitVec 32 := 16#32
  let v319 : BitVec 32 := Scalar.muli arg16 c16_i32_166
  let c8_i32_167 : BitVec 32 := 8#32
  let v320 : BitVec 32 := Scalar.addi v319 c8_i32_167
  let v327 : Index := Scalar.indexCast v320
  let c16_171 : Index := 16#32
  ![v327.toNat, 16]
def k0_off908 (v318 : BitVec 32) : Fin 2 → Nat :=
  let v329 : Index := Scalar.indexCast v318
  let c32_172 : Index := 32#32
  ![v329.toNat, 32]
def k0_off909 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_166 : BitVec 32 := 16#32
  let v319 : BitVec 32 := Scalar.muli arg16 c16_i32_166
  let c8_i32_167 : BitVec 32 := 8#32
  let v320 : BitVec 32 := Scalar.addi v319 c8_i32_167
  let v331 : Index := Scalar.indexCast v320
  let c32_173 : Index := 32#32
  ![v331.toNat, 32]
def k0_off910 (v318 : BitVec 32) : Fin 2 → Nat :=
  let v333 : Index := Scalar.indexCast v318
  let c48_174 : Index := 48#32
  ![v333.toNat, 48]
def k0_off911 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_166 : BitVec 32 := 16#32
  let v319 : BitVec 32 := Scalar.muli arg16 c16_i32_166
  let c8_i32_167 : BitVec 32 := 8#32
  let v320 : BitVec 32 := Scalar.addi v319 c8_i32_167
  let v335 : Index := Scalar.indexCast v320
  let c48_175 : Index := 48#32
  ![v335.toNat, 48]
def k0_off912 (v318 : BitVec 32) : Fin 2 → Nat :=
  let v337 : Index := Scalar.indexCast v318
  let c64_176 : Index := 64#32
  ![v337.toNat, 64]
def k0_off913 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_166 : BitVec 32 := 16#32
  let v319 : BitVec 32 := Scalar.muli arg16 c16_i32_166
  let c8_i32_167 : BitVec 32 := 8#32
  let v320 : BitVec 32 := Scalar.addi v319 c8_i32_167
  let v339 : Index := Scalar.indexCast v320
  let c64_177 : Index := 64#32
  ![v339.toNat, 64]
def k0_off914 (v318 : BitVec 32) : Fin 2 → Nat :=
  let v341 : Index := Scalar.indexCast v318
  let c80_178 : Index := 80#32
  ![v341.toNat, 80]
def k0_off915 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_166 : BitVec 32 := 16#32
  let v319 : BitVec 32 := Scalar.muli arg16 c16_i32_166
  let c8_i32_167 : BitVec 32 := 8#32
  let v320 : BitVec 32 := Scalar.addi v319 c8_i32_167
  let v343 : Index := Scalar.indexCast v320
  let c80_179 : Index := 80#32
  ![v343.toNat, 80]
def k0_off916 (v318 : BitVec 32) : Fin 2 → Nat :=
  let v345 : Index := Scalar.indexCast v318
  let c96_180 : Index := 96#32
  ![v345.toNat, 96]
def k0_off917 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_166 : BitVec 32 := 16#32
  let v319 : BitVec 32 := Scalar.muli arg16 c16_i32_166
  let c8_i32_167 : BitVec 32 := 8#32
  let v320 : BitVec 32 := Scalar.addi v319 c8_i32_167
  let v347 : Index := Scalar.indexCast v320
  let c96_181 : Index := 96#32
  ![v347.toNat, 96]
def k0_off918 (v318 : BitVec 32) : Fin 2 → Nat :=
  let v349 : Index := Scalar.indexCast v318
  let c112_182 : Index := 112#32
  ![v349.toNat, 112]

def k0_chk57 (v318 : BitVec 32) : Prop :=
  (∀ a, (k0_off904 v318) a + S1x16.size a ≤ S26x128.size a) ∧
  (∀ a, (k0_off906 v318) a + S1x16.size a ≤ S26x128.size a) ∧
  (∀ a, (k0_off908 v318) a + S1x16.size a ≤ S26x128.size a) ∧
  (∀ a, (k0_off910 v318) a + S1x16.size a ≤ S26x128.size a) ∧
  (∀ a, (k0_off912 v318) a + S1x16.size a ≤ S26x128.size a) ∧
  (∀ a, (k0_off914 v318) a + S1x16.size a ≤ S26x128.size a) ∧
  (∀ a, (k0_off916 v318) a + S1x16.size a ≤ S26x128.size a) ∧
  (∀ a, (k0_off918 v318) a + S1x16.size a ≤ S26x128.size a)
theorem k0_off904_inb : ∀ (v318 : BitVec 32) (k0_hw57 : k0_chk57 v318), ∀ a, (k0_off904 v318) a + S1x16.size a ≤ S26x128.size a := fun v318 k0_hw57 => k0_hw57.1
theorem k0_off906_inb : ∀ (v318 : BitVec 32) (k0_hw57 : k0_chk57 v318), ∀ a, (k0_off906 v318) a + S1x16.size a ≤ S26x128.size a := fun v318 k0_hw57 => k0_hw57.2.1
theorem k0_off908_inb : ∀ (v318 : BitVec 32) (k0_hw57 : k0_chk57 v318), ∀ a, (k0_off908 v318) a + S1x16.size a ≤ S26x128.size a := fun v318 k0_hw57 => k0_hw57.2.2.1
theorem k0_off910_inb : ∀ (v318 : BitVec 32) (k0_hw57 : k0_chk57 v318), ∀ a, (k0_off910 v318) a + S1x16.size a ≤ S26x128.size a := fun v318 k0_hw57 => k0_hw57.2.2.2.1
theorem k0_off912_inb : ∀ (v318 : BitVec 32) (k0_hw57 : k0_chk57 v318), ∀ a, (k0_off912 v318) a + S1x16.size a ≤ S26x128.size a := fun v318 k0_hw57 => k0_hw57.2.2.2.2.1
theorem k0_off914_inb : ∀ (v318 : BitVec 32) (k0_hw57 : k0_chk57 v318), ∀ a, (k0_off914 v318) a + S1x16.size a ≤ S26x128.size a := fun v318 k0_hw57 => k0_hw57.2.2.2.2.2.1
theorem k0_off916_inb : ∀ (v318 : BitVec 32) (k0_hw57 : k0_chk57 v318), ∀ a, (k0_off916 v318) a + S1x16.size a ≤ S26x128.size a := fun v318 k0_hw57 => k0_hw57.2.2.2.2.2.2.1
theorem k0_off918_inb : ∀ (v318 : BitVec 32) (k0_hw57 : k0_chk57 v318), ∀ a, (k0_off918 v318) a + S1x16.size a ≤ S26x128.size a := fun v318 k0_hw57 => k0_hw57.2.2.2.2.2.2.2

def k0_off919 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_166 : BitVec 32 := 16#32
  let v319 : BitVec 32 := Scalar.muli arg16 c16_i32_166
  let c8_i32_167 : BitVec 32 := 8#32
  let v320 : BitVec 32 := Scalar.addi v319 c8_i32_167
  let v351 : Index := Scalar.indexCast v320
  let c112_183 : Index := 112#32
  ![v351.toNat, 112]
def k0_off920 (v354 : BitVec 32) : Fin 2 → Nat :=
  let v357 : Index := Scalar.indexCast v354
  let c0_185 : Index := 0#32
  ![v357.toNat, 0]

def k0_off921 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_184 : BitVec 32 := 16#32
  let v355 : BitVec 32 := Scalar.muli arg16 c16_i32_184
  let c9_i32 : BitVec 32 := 9#32
  let v356 : BitVec 32 := Scalar.addi v355 c9_i32
  let v359 : Index := Scalar.indexCast v356
  let c0_186 : Index := 0#32
  ![v359.toNat, 0]
def k0_off922 (v354 : BitVec 32) : Fin 2 → Nat :=
  let v361 : Index := Scalar.indexCast v354
  let c16_187 : Index := 16#32
  ![v361.toNat, 16]
def k0_off923 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_184 : BitVec 32 := 16#32
  let v355 : BitVec 32 := Scalar.muli arg16 c16_i32_184
  let c9_i32 : BitVec 32 := 9#32
  let v356 : BitVec 32 := Scalar.addi v355 c9_i32
  let v363 : Index := Scalar.indexCast v356
  let c16_188 : Index := 16#32
  ![v363.toNat, 16]
def k0_off924 (v354 : BitVec 32) : Fin 2 → Nat :=
  let v365 : Index := Scalar.indexCast v354
  let c32_189 : Index := 32#32
  ![v365.toNat, 32]
def k0_off925 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_184 : BitVec 32 := 16#32
  let v355 : BitVec 32 := Scalar.muli arg16 c16_i32_184
  let c9_i32 : BitVec 32 := 9#32
  let v356 : BitVec 32 := Scalar.addi v355 c9_i32
  let v367 : Index := Scalar.indexCast v356
  let c32_190 : Index := 32#32
  ![v367.toNat, 32]
def k0_off926 (v354 : BitVec 32) : Fin 2 → Nat :=
  let v369 : Index := Scalar.indexCast v354
  let c48_191 : Index := 48#32
  ![v369.toNat, 48]
def k0_off927 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_184 : BitVec 32 := 16#32
  let v355 : BitVec 32 := Scalar.muli arg16 c16_i32_184
  let c9_i32 : BitVec 32 := 9#32
  let v356 : BitVec 32 := Scalar.addi v355 c9_i32
  let v371 : Index := Scalar.indexCast v356
  let c48_192 : Index := 48#32
  ![v371.toNat, 48]
def k0_off928 (v354 : BitVec 32) : Fin 2 → Nat :=
  let v373 : Index := Scalar.indexCast v354
  let c64_193 : Index := 64#32
  ![v373.toNat, 64]
def k0_off929 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_184 : BitVec 32 := 16#32
  let v355 : BitVec 32 := Scalar.muli arg16 c16_i32_184
  let c9_i32 : BitVec 32 := 9#32
  let v356 : BitVec 32 := Scalar.addi v355 c9_i32
  let v375 : Index := Scalar.indexCast v356
  let c64_194 : Index := 64#32
  ![v375.toNat, 64]
def k0_off930 (v354 : BitVec 32) : Fin 2 → Nat :=
  let v377 : Index := Scalar.indexCast v354
  let c80_195 : Index := 80#32
  ![v377.toNat, 80]
def k0_off931 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_184 : BitVec 32 := 16#32
  let v355 : BitVec 32 := Scalar.muli arg16 c16_i32_184
  let c9_i32 : BitVec 32 := 9#32
  let v356 : BitVec 32 := Scalar.addi v355 c9_i32
  let v379 : Index := Scalar.indexCast v356
  let c80_196 : Index := 80#32
  ![v379.toNat, 80]
def k0_off932 (v354 : BitVec 32) : Fin 2 → Nat :=
  let v381 : Index := Scalar.indexCast v354
  let c96_197 : Index := 96#32
  ![v381.toNat, 96]
def k0_off933 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_184 : BitVec 32 := 16#32
  let v355 : BitVec 32 := Scalar.muli arg16 c16_i32_184
  let c9_i32 : BitVec 32 := 9#32
  let v356 : BitVec 32 := Scalar.addi v355 c9_i32
  let v383 : Index := Scalar.indexCast v356
  let c96_198 : Index := 96#32
  ![v383.toNat, 96]
def k0_off934 (v354 : BitVec 32) : Fin 2 → Nat :=
  let v385 : Index := Scalar.indexCast v354
  let c112_199 : Index := 112#32
  ![v385.toNat, 112]

def k0_chk58 (v354 : BitVec 32) : Prop :=
  (∀ a, (k0_off920 v354) a + S1x16.size a ≤ S26x128.size a) ∧
  (∀ a, (k0_off922 v354) a + S1x16.size a ≤ S26x128.size a) ∧
  (∀ a, (k0_off924 v354) a + S1x16.size a ≤ S26x128.size a) ∧
  (∀ a, (k0_off926 v354) a + S1x16.size a ≤ S26x128.size a) ∧
  (∀ a, (k0_off928 v354) a + S1x16.size a ≤ S26x128.size a) ∧
  (∀ a, (k0_off930 v354) a + S1x16.size a ≤ S26x128.size a) ∧
  (∀ a, (k0_off932 v354) a + S1x16.size a ≤ S26x128.size a) ∧
  (∀ a, (k0_off934 v354) a + S1x16.size a ≤ S26x128.size a)
theorem k0_off920_inb : ∀ (v354 : BitVec 32) (k0_hw58 : k0_chk58 v354), ∀ a, (k0_off920 v354) a + S1x16.size a ≤ S26x128.size a := fun v354 k0_hw58 => k0_hw58.1
theorem k0_off922_inb : ∀ (v354 : BitVec 32) (k0_hw58 : k0_chk58 v354), ∀ a, (k0_off922 v354) a + S1x16.size a ≤ S26x128.size a := fun v354 k0_hw58 => k0_hw58.2.1
theorem k0_off924_inb : ∀ (v354 : BitVec 32) (k0_hw58 : k0_chk58 v354), ∀ a, (k0_off924 v354) a + S1x16.size a ≤ S26x128.size a := fun v354 k0_hw58 => k0_hw58.2.2.1
theorem k0_off926_inb : ∀ (v354 : BitVec 32) (k0_hw58 : k0_chk58 v354), ∀ a, (k0_off926 v354) a + S1x16.size a ≤ S26x128.size a := fun v354 k0_hw58 => k0_hw58.2.2.2.1
theorem k0_off928_inb : ∀ (v354 : BitVec 32) (k0_hw58 : k0_chk58 v354), ∀ a, (k0_off928 v354) a + S1x16.size a ≤ S26x128.size a := fun v354 k0_hw58 => k0_hw58.2.2.2.2.1
theorem k0_off930_inb : ∀ (v354 : BitVec 32) (k0_hw58 : k0_chk58 v354), ∀ a, (k0_off930 v354) a + S1x16.size a ≤ S26x128.size a := fun v354 k0_hw58 => k0_hw58.2.2.2.2.2.1
theorem k0_off932_inb : ∀ (v354 : BitVec 32) (k0_hw58 : k0_chk58 v354), ∀ a, (k0_off932 v354) a + S1x16.size a ≤ S26x128.size a := fun v354 k0_hw58 => k0_hw58.2.2.2.2.2.2.1
theorem k0_off934_inb : ∀ (v354 : BitVec 32) (k0_hw58 : k0_chk58 v354), ∀ a, (k0_off934 v354) a + S1x16.size a ≤ S26x128.size a := fun v354 k0_hw58 => k0_hw58.2.2.2.2.2.2.2

def k0_off935 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_184 : BitVec 32 := 16#32
  let v355 : BitVec 32 := Scalar.muli arg16 c16_i32_184
  let c9_i32 : BitVec 32 := 9#32
  let v356 : BitVec 32 := Scalar.addi v355 c9_i32
  let v387 : Index := Scalar.indexCast v356
  let c112_200 : Index := 112#32
  ![v387.toNat, 112]
def k0_off936 (v390 : BitVec 32) : Fin 2 → Nat :=
  let v393 : Index := Scalar.indexCast v390
  let c0_202 : Index := 0#32
  ![v393.toNat, 0]

def k0_off937 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_201 : BitVec 32 := 16#32
  let v391 : BitVec 32 := Scalar.muli arg16 c16_i32_201
  let c10_i32 : BitVec 32 := 10#32
  let v392 : BitVec 32 := Scalar.addi v391 c10_i32
  let v395 : Index := Scalar.indexCast v392
  let c0_203 : Index := 0#32
  ![v395.toNat, 0]
def k0_off938 (v390 : BitVec 32) : Fin 2 → Nat :=
  let v397 : Index := Scalar.indexCast v390
  let c16_204 : Index := 16#32
  ![v397.toNat, 16]
def k0_off939 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_201 : BitVec 32 := 16#32
  let v391 : BitVec 32 := Scalar.muli arg16 c16_i32_201
  let c10_i32 : BitVec 32 := 10#32
  let v392 : BitVec 32 := Scalar.addi v391 c10_i32
  let v399 : Index := Scalar.indexCast v392
  let c16_205 : Index := 16#32
  ![v399.toNat, 16]
def k0_off940 (v390 : BitVec 32) : Fin 2 → Nat :=
  let v401 : Index := Scalar.indexCast v390
  let c32_206 : Index := 32#32
  ![v401.toNat, 32]
def k0_off941 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_201 : BitVec 32 := 16#32
  let v391 : BitVec 32 := Scalar.muli arg16 c16_i32_201
  let c10_i32 : BitVec 32 := 10#32
  let v392 : BitVec 32 := Scalar.addi v391 c10_i32
  let v403 : Index := Scalar.indexCast v392
  let c32_207 : Index := 32#32
  ![v403.toNat, 32]
def k0_off942 (v390 : BitVec 32) : Fin 2 → Nat :=
  let v405 : Index := Scalar.indexCast v390
  let c48_208 : Index := 48#32
  ![v405.toNat, 48]
def k0_off943 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_201 : BitVec 32 := 16#32
  let v391 : BitVec 32 := Scalar.muli arg16 c16_i32_201
  let c10_i32 : BitVec 32 := 10#32
  let v392 : BitVec 32 := Scalar.addi v391 c10_i32
  let v407 : Index := Scalar.indexCast v392
  let c48_209 : Index := 48#32
  ![v407.toNat, 48]
def k0_off944 (v390 : BitVec 32) : Fin 2 → Nat :=
  let v409 : Index := Scalar.indexCast v390
  let c64_210 : Index := 64#32
  ![v409.toNat, 64]
def k0_off945 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_201 : BitVec 32 := 16#32
  let v391 : BitVec 32 := Scalar.muli arg16 c16_i32_201
  let c10_i32 : BitVec 32 := 10#32
  let v392 : BitVec 32 := Scalar.addi v391 c10_i32
  let v411 : Index := Scalar.indexCast v392
  let c64_211 : Index := 64#32
  ![v411.toNat, 64]
def k0_off946 (v390 : BitVec 32) : Fin 2 → Nat :=
  let v413 : Index := Scalar.indexCast v390
  let c80_212 : Index := 80#32
  ![v413.toNat, 80]
def k0_off947 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_201 : BitVec 32 := 16#32
  let v391 : BitVec 32 := Scalar.muli arg16 c16_i32_201
  let c10_i32 : BitVec 32 := 10#32
  let v392 : BitVec 32 := Scalar.addi v391 c10_i32
  let v415 : Index := Scalar.indexCast v392
  let c80_213 : Index := 80#32
  ![v415.toNat, 80]
def k0_off948 (v390 : BitVec 32) : Fin 2 → Nat :=
  let v417 : Index := Scalar.indexCast v390
  let c96_214 : Index := 96#32
  ![v417.toNat, 96]
def k0_off949 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_201 : BitVec 32 := 16#32
  let v391 : BitVec 32 := Scalar.muli arg16 c16_i32_201
  let c10_i32 : BitVec 32 := 10#32
  let v392 : BitVec 32 := Scalar.addi v391 c10_i32
  let v419 : Index := Scalar.indexCast v392
  let c96_215 : Index := 96#32
  ![v419.toNat, 96]
def k0_off950 (v390 : BitVec 32) : Fin 2 → Nat :=
  let v421 : Index := Scalar.indexCast v390
  let c112_216 : Index := 112#32
  ![v421.toNat, 112]

def k0_chk59 (v390 : BitVec 32) : Prop :=
  (∀ a, (k0_off936 v390) a + S1x16.size a ≤ S26x128.size a) ∧
  (∀ a, (k0_off938 v390) a + S1x16.size a ≤ S26x128.size a) ∧
  (∀ a, (k0_off940 v390) a + S1x16.size a ≤ S26x128.size a) ∧
  (∀ a, (k0_off942 v390) a + S1x16.size a ≤ S26x128.size a) ∧
  (∀ a, (k0_off944 v390) a + S1x16.size a ≤ S26x128.size a) ∧
  (∀ a, (k0_off946 v390) a + S1x16.size a ≤ S26x128.size a) ∧
  (∀ a, (k0_off948 v390) a + S1x16.size a ≤ S26x128.size a) ∧
  (∀ a, (k0_off950 v390) a + S1x16.size a ≤ S26x128.size a)
theorem k0_off936_inb : ∀ (v390 : BitVec 32) (k0_hw59 : k0_chk59 v390), ∀ a, (k0_off936 v390) a + S1x16.size a ≤ S26x128.size a := fun v390 k0_hw59 => k0_hw59.1
theorem k0_off938_inb : ∀ (v390 : BitVec 32) (k0_hw59 : k0_chk59 v390), ∀ a, (k0_off938 v390) a + S1x16.size a ≤ S26x128.size a := fun v390 k0_hw59 => k0_hw59.2.1
theorem k0_off940_inb : ∀ (v390 : BitVec 32) (k0_hw59 : k0_chk59 v390), ∀ a, (k0_off940 v390) a + S1x16.size a ≤ S26x128.size a := fun v390 k0_hw59 => k0_hw59.2.2.1
theorem k0_off942_inb : ∀ (v390 : BitVec 32) (k0_hw59 : k0_chk59 v390), ∀ a, (k0_off942 v390) a + S1x16.size a ≤ S26x128.size a := fun v390 k0_hw59 => k0_hw59.2.2.2.1
theorem k0_off944_inb : ∀ (v390 : BitVec 32) (k0_hw59 : k0_chk59 v390), ∀ a, (k0_off944 v390) a + S1x16.size a ≤ S26x128.size a := fun v390 k0_hw59 => k0_hw59.2.2.2.2.1
theorem k0_off946_inb : ∀ (v390 : BitVec 32) (k0_hw59 : k0_chk59 v390), ∀ a, (k0_off946 v390) a + S1x16.size a ≤ S26x128.size a := fun v390 k0_hw59 => k0_hw59.2.2.2.2.2.1
theorem k0_off948_inb : ∀ (v390 : BitVec 32) (k0_hw59 : k0_chk59 v390), ∀ a, (k0_off948 v390) a + S1x16.size a ≤ S26x128.size a := fun v390 k0_hw59 => k0_hw59.2.2.2.2.2.2.1
theorem k0_off950_inb : ∀ (v390 : BitVec 32) (k0_hw59 : k0_chk59 v390), ∀ a, (k0_off950 v390) a + S1x16.size a ≤ S26x128.size a := fun v390 k0_hw59 => k0_hw59.2.2.2.2.2.2.2

def k0_off951 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_201 : BitVec 32 := 16#32
  let v391 : BitVec 32 := Scalar.muli arg16 c16_i32_201
  let c10_i32 : BitVec 32 := 10#32
  let v392 : BitVec 32 := Scalar.addi v391 c10_i32
  let v423 : Index := Scalar.indexCast v392
  let c112_217 : Index := 112#32
  ![v423.toNat, 112]
def k0_off952 (v426 : BitVec 32) : Fin 2 → Nat :=
  let v429 : Index := Scalar.indexCast v426
  let c0_219 : Index := 0#32
  ![v429.toNat, 0]

def k0_off953 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_218 : BitVec 32 := 16#32
  let v427 : BitVec 32 := Scalar.muli arg16 c16_i32_218
  let c11_i32 : BitVec 32 := 11#32
  let v428 : BitVec 32 := Scalar.addi v427 c11_i32
  let v431 : Index := Scalar.indexCast v428
  let c0_220 : Index := 0#32
  ![v431.toNat, 0]
def k0_off954 (v426 : BitVec 32) : Fin 2 → Nat :=
  let v433 : Index := Scalar.indexCast v426
  let c16_221 : Index := 16#32
  ![v433.toNat, 16]
def k0_off955 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_218 : BitVec 32 := 16#32
  let v427 : BitVec 32 := Scalar.muli arg16 c16_i32_218
  let c11_i32 : BitVec 32 := 11#32
  let v428 : BitVec 32 := Scalar.addi v427 c11_i32
  let v435 : Index := Scalar.indexCast v428
  let c16_222 : Index := 16#32
  ![v435.toNat, 16]
def k0_off956 (v426 : BitVec 32) : Fin 2 → Nat :=
  let v437 : Index := Scalar.indexCast v426
  let c32_223 : Index := 32#32
  ![v437.toNat, 32]
def k0_off957 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_218 : BitVec 32 := 16#32
  let v427 : BitVec 32 := Scalar.muli arg16 c16_i32_218
  let c11_i32 : BitVec 32 := 11#32
  let v428 : BitVec 32 := Scalar.addi v427 c11_i32
  let v439 : Index := Scalar.indexCast v428
  let c32_224 : Index := 32#32
  ![v439.toNat, 32]
def k0_off958 (v426 : BitVec 32) : Fin 2 → Nat :=
  let v441 : Index := Scalar.indexCast v426
  let c48_225 : Index := 48#32
  ![v441.toNat, 48]
def k0_off959 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_218 : BitVec 32 := 16#32
  let v427 : BitVec 32 := Scalar.muli arg16 c16_i32_218
  let c11_i32 : BitVec 32 := 11#32
  let v428 : BitVec 32 := Scalar.addi v427 c11_i32
  let v443 : Index := Scalar.indexCast v428
  let c48_226 : Index := 48#32
  ![v443.toNat, 48]
def k0_off960 (v426 : BitVec 32) : Fin 2 → Nat :=
  let v445 : Index := Scalar.indexCast v426
  let c64_227 : Index := 64#32
  ![v445.toNat, 64]
def k0_off961 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_218 : BitVec 32 := 16#32
  let v427 : BitVec 32 := Scalar.muli arg16 c16_i32_218
  let c11_i32 : BitVec 32 := 11#32
  let v428 : BitVec 32 := Scalar.addi v427 c11_i32
  let v447 : Index := Scalar.indexCast v428
  let c64_228 : Index := 64#32
  ![v447.toNat, 64]
def k0_off962 (v426 : BitVec 32) : Fin 2 → Nat :=
  let v449 : Index := Scalar.indexCast v426
  let c80_229 : Index := 80#32
  ![v449.toNat, 80]
def k0_off963 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_218 : BitVec 32 := 16#32
  let v427 : BitVec 32 := Scalar.muli arg16 c16_i32_218
  let c11_i32 : BitVec 32 := 11#32
  let v428 : BitVec 32 := Scalar.addi v427 c11_i32
  let v451 : Index := Scalar.indexCast v428
  let c80_230 : Index := 80#32
  ![v451.toNat, 80]
def k0_off964 (v426 : BitVec 32) : Fin 2 → Nat :=
  let v453 : Index := Scalar.indexCast v426
  let c96_231 : Index := 96#32
  ![v453.toNat, 96]
def k0_off965 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_218 : BitVec 32 := 16#32
  let v427 : BitVec 32 := Scalar.muli arg16 c16_i32_218
  let c11_i32 : BitVec 32 := 11#32
  let v428 : BitVec 32 := Scalar.addi v427 c11_i32
  let v455 : Index := Scalar.indexCast v428
  let c96_232 : Index := 96#32
  ![v455.toNat, 96]
def k0_off966 (v426 : BitVec 32) : Fin 2 → Nat :=
  let v457 : Index := Scalar.indexCast v426
  let c112_233 : Index := 112#32
  ![v457.toNat, 112]

def k0_chk60 (v426 : BitVec 32) : Prop :=
  (∀ a, (k0_off952 v426) a + S1x16.size a ≤ S26x128.size a) ∧
  (∀ a, (k0_off954 v426) a + S1x16.size a ≤ S26x128.size a) ∧
  (∀ a, (k0_off956 v426) a + S1x16.size a ≤ S26x128.size a) ∧
  (∀ a, (k0_off958 v426) a + S1x16.size a ≤ S26x128.size a) ∧
  (∀ a, (k0_off960 v426) a + S1x16.size a ≤ S26x128.size a) ∧
  (∀ a, (k0_off962 v426) a + S1x16.size a ≤ S26x128.size a) ∧
  (∀ a, (k0_off964 v426) a + S1x16.size a ≤ S26x128.size a) ∧
  (∀ a, (k0_off966 v426) a + S1x16.size a ≤ S26x128.size a)
theorem k0_off952_inb : ∀ (v426 : BitVec 32) (k0_hw60 : k0_chk60 v426), ∀ a, (k0_off952 v426) a + S1x16.size a ≤ S26x128.size a := fun v426 k0_hw60 => k0_hw60.1
theorem k0_off954_inb : ∀ (v426 : BitVec 32) (k0_hw60 : k0_chk60 v426), ∀ a, (k0_off954 v426) a + S1x16.size a ≤ S26x128.size a := fun v426 k0_hw60 => k0_hw60.2.1
theorem k0_off956_inb : ∀ (v426 : BitVec 32) (k0_hw60 : k0_chk60 v426), ∀ a, (k0_off956 v426) a + S1x16.size a ≤ S26x128.size a := fun v426 k0_hw60 => k0_hw60.2.2.1
theorem k0_off958_inb : ∀ (v426 : BitVec 32) (k0_hw60 : k0_chk60 v426), ∀ a, (k0_off958 v426) a + S1x16.size a ≤ S26x128.size a := fun v426 k0_hw60 => k0_hw60.2.2.2.1
theorem k0_off960_inb : ∀ (v426 : BitVec 32) (k0_hw60 : k0_chk60 v426), ∀ a, (k0_off960 v426) a + S1x16.size a ≤ S26x128.size a := fun v426 k0_hw60 => k0_hw60.2.2.2.2.1
theorem k0_off962_inb : ∀ (v426 : BitVec 32) (k0_hw60 : k0_chk60 v426), ∀ a, (k0_off962 v426) a + S1x16.size a ≤ S26x128.size a := fun v426 k0_hw60 => k0_hw60.2.2.2.2.2.1
theorem k0_off964_inb : ∀ (v426 : BitVec 32) (k0_hw60 : k0_chk60 v426), ∀ a, (k0_off964 v426) a + S1x16.size a ≤ S26x128.size a := fun v426 k0_hw60 => k0_hw60.2.2.2.2.2.2.1
theorem k0_off966_inb : ∀ (v426 : BitVec 32) (k0_hw60 : k0_chk60 v426), ∀ a, (k0_off966 v426) a + S1x16.size a ≤ S26x128.size a := fun v426 k0_hw60 => k0_hw60.2.2.2.2.2.2.2

def k0_off967 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_218 : BitVec 32 := 16#32
  let v427 : BitVec 32 := Scalar.muli arg16 c16_i32_218
  let c11_i32 : BitVec 32 := 11#32
  let v428 : BitVec 32 := Scalar.addi v427 c11_i32
  let v459 : Index := Scalar.indexCast v428
  let c112_234 : Index := 112#32
  ![v459.toNat, 112]
def k0_off968 (v462 : BitVec 32) : Fin 2 → Nat :=
  let v465 : Index := Scalar.indexCast v462
  let c0_236 : Index := 0#32
  ![v465.toNat, 0]

def k0_off969 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_235 : BitVec 32 := 16#32
  let v463 : BitVec 32 := Scalar.muli arg16 c16_i32_235
  let c12_i32 : BitVec 32 := 12#32
  let v464 : BitVec 32 := Scalar.addi v463 c12_i32
  let v467 : Index := Scalar.indexCast v464
  let c0_237 : Index := 0#32
  ![v467.toNat, 0]
def k0_off970 (v462 : BitVec 32) : Fin 2 → Nat :=
  let v469 : Index := Scalar.indexCast v462
  let c16_238 : Index := 16#32
  ![v469.toNat, 16]
def k0_off971 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_235 : BitVec 32 := 16#32
  let v463 : BitVec 32 := Scalar.muli arg16 c16_i32_235
  let c12_i32 : BitVec 32 := 12#32
  let v464 : BitVec 32 := Scalar.addi v463 c12_i32
  let v471 : Index := Scalar.indexCast v464
  let c16_239 : Index := 16#32
  ![v471.toNat, 16]
def k0_off972 (v462 : BitVec 32) : Fin 2 → Nat :=
  let v473 : Index := Scalar.indexCast v462
  let c32_240 : Index := 32#32
  ![v473.toNat, 32]
def k0_off973 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_235 : BitVec 32 := 16#32
  let v463 : BitVec 32 := Scalar.muli arg16 c16_i32_235
  let c12_i32 : BitVec 32 := 12#32
  let v464 : BitVec 32 := Scalar.addi v463 c12_i32
  let v475 : Index := Scalar.indexCast v464
  let c32_241 : Index := 32#32
  ![v475.toNat, 32]
def k0_off974 (v462 : BitVec 32) : Fin 2 → Nat :=
  let v477 : Index := Scalar.indexCast v462
  let c48_242 : Index := 48#32
  ![v477.toNat, 48]
def k0_off975 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_235 : BitVec 32 := 16#32
  let v463 : BitVec 32 := Scalar.muli arg16 c16_i32_235
  let c12_i32 : BitVec 32 := 12#32
  let v464 : BitVec 32 := Scalar.addi v463 c12_i32
  let v479 : Index := Scalar.indexCast v464
  let c48_243 : Index := 48#32
  ![v479.toNat, 48]
def k0_off976 (v462 : BitVec 32) : Fin 2 → Nat :=
  let v481 : Index := Scalar.indexCast v462
  let c64_244 : Index := 64#32
  ![v481.toNat, 64]
def k0_off977 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_235 : BitVec 32 := 16#32
  let v463 : BitVec 32 := Scalar.muli arg16 c16_i32_235
  let c12_i32 : BitVec 32 := 12#32
  let v464 : BitVec 32 := Scalar.addi v463 c12_i32
  let v483 : Index := Scalar.indexCast v464
  let c64_245 : Index := 64#32
  ![v483.toNat, 64]
def k0_off978 (v462 : BitVec 32) : Fin 2 → Nat :=
  let v485 : Index := Scalar.indexCast v462
  let c80_246 : Index := 80#32
  ![v485.toNat, 80]
def k0_off979 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_235 : BitVec 32 := 16#32
  let v463 : BitVec 32 := Scalar.muli arg16 c16_i32_235
  let c12_i32 : BitVec 32 := 12#32
  let v464 : BitVec 32 := Scalar.addi v463 c12_i32
  let v487 : Index := Scalar.indexCast v464
  let c80_247 : Index := 80#32
  ![v487.toNat, 80]
def k0_off980 (v462 : BitVec 32) : Fin 2 → Nat :=
  let v489 : Index := Scalar.indexCast v462
  let c96_248 : Index := 96#32
  ![v489.toNat, 96]
def k0_off981 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_235 : BitVec 32 := 16#32
  let v463 : BitVec 32 := Scalar.muli arg16 c16_i32_235
  let c12_i32 : BitVec 32 := 12#32
  let v464 : BitVec 32 := Scalar.addi v463 c12_i32
  let v491 : Index := Scalar.indexCast v464
  let c96_249 : Index := 96#32
  ![v491.toNat, 96]
def k0_off982 (v462 : BitVec 32) : Fin 2 → Nat :=
  let v493 : Index := Scalar.indexCast v462
  let c112_250 : Index := 112#32
  ![v493.toNat, 112]

def k0_chk61 (v462 : BitVec 32) : Prop :=
  (∀ a, (k0_off968 v462) a + S1x16.size a ≤ S26x128.size a) ∧
  (∀ a, (k0_off970 v462) a + S1x16.size a ≤ S26x128.size a) ∧
  (∀ a, (k0_off972 v462) a + S1x16.size a ≤ S26x128.size a) ∧
  (∀ a, (k0_off974 v462) a + S1x16.size a ≤ S26x128.size a) ∧
  (∀ a, (k0_off976 v462) a + S1x16.size a ≤ S26x128.size a) ∧
  (∀ a, (k0_off978 v462) a + S1x16.size a ≤ S26x128.size a) ∧
  (∀ a, (k0_off980 v462) a + S1x16.size a ≤ S26x128.size a) ∧
  (∀ a, (k0_off982 v462) a + S1x16.size a ≤ S26x128.size a)
theorem k0_off968_inb : ∀ (v462 : BitVec 32) (k0_hw61 : k0_chk61 v462), ∀ a, (k0_off968 v462) a + S1x16.size a ≤ S26x128.size a := fun v462 k0_hw61 => k0_hw61.1
theorem k0_off970_inb : ∀ (v462 : BitVec 32) (k0_hw61 : k0_chk61 v462), ∀ a, (k0_off970 v462) a + S1x16.size a ≤ S26x128.size a := fun v462 k0_hw61 => k0_hw61.2.1
theorem k0_off972_inb : ∀ (v462 : BitVec 32) (k0_hw61 : k0_chk61 v462), ∀ a, (k0_off972 v462) a + S1x16.size a ≤ S26x128.size a := fun v462 k0_hw61 => k0_hw61.2.2.1
theorem k0_off974_inb : ∀ (v462 : BitVec 32) (k0_hw61 : k0_chk61 v462), ∀ a, (k0_off974 v462) a + S1x16.size a ≤ S26x128.size a := fun v462 k0_hw61 => k0_hw61.2.2.2.1
theorem k0_off976_inb : ∀ (v462 : BitVec 32) (k0_hw61 : k0_chk61 v462), ∀ a, (k0_off976 v462) a + S1x16.size a ≤ S26x128.size a := fun v462 k0_hw61 => k0_hw61.2.2.2.2.1
theorem k0_off978_inb : ∀ (v462 : BitVec 32) (k0_hw61 : k0_chk61 v462), ∀ a, (k0_off978 v462) a + S1x16.size a ≤ S26x128.size a := fun v462 k0_hw61 => k0_hw61.2.2.2.2.2.1
theorem k0_off980_inb : ∀ (v462 : BitVec 32) (k0_hw61 : k0_chk61 v462), ∀ a, (k0_off980 v462) a + S1x16.size a ≤ S26x128.size a := fun v462 k0_hw61 => k0_hw61.2.2.2.2.2.2.1
theorem k0_off982_inb : ∀ (v462 : BitVec 32) (k0_hw61 : k0_chk61 v462), ∀ a, (k0_off982 v462) a + S1x16.size a ≤ S26x128.size a := fun v462 k0_hw61 => k0_hw61.2.2.2.2.2.2.2

def k0_off983 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_235 : BitVec 32 := 16#32
  let v463 : BitVec 32 := Scalar.muli arg16 c16_i32_235
  let c12_i32 : BitVec 32 := 12#32
  let v464 : BitVec 32 := Scalar.addi v463 c12_i32
  let v495 : Index := Scalar.indexCast v464
  let c112_251 : Index := 112#32
  ![v495.toNat, 112]
def k0_off984 (v498 : BitVec 32) : Fin 2 → Nat :=
  let v501 : Index := Scalar.indexCast v498
  let c0_253 : Index := 0#32
  ![v501.toNat, 0]

def k0_off985 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_252 : BitVec 32 := 16#32
  let v499 : BitVec 32 := Scalar.muli arg16 c16_i32_252
  let c13_i32 : BitVec 32 := 13#32
  let v500 : BitVec 32 := Scalar.addi v499 c13_i32
  let v503 : Index := Scalar.indexCast v500
  let c0_254 : Index := 0#32
  ![v503.toNat, 0]
def k0_off986 (v498 : BitVec 32) : Fin 2 → Nat :=
  let v505 : Index := Scalar.indexCast v498
  let c16_255 : Index := 16#32
  ![v505.toNat, 16]
def k0_off987 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_252 : BitVec 32 := 16#32
  let v499 : BitVec 32 := Scalar.muli arg16 c16_i32_252
  let c13_i32 : BitVec 32 := 13#32
  let v500 : BitVec 32 := Scalar.addi v499 c13_i32
  let v507 : Index := Scalar.indexCast v500
  let c16_256 : Index := 16#32
  ![v507.toNat, 16]
def k0_off988 (v498 : BitVec 32) : Fin 2 → Nat :=
  let v509 : Index := Scalar.indexCast v498
  let c32_257 : Index := 32#32
  ![v509.toNat, 32]
def k0_off989 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_252 : BitVec 32 := 16#32
  let v499 : BitVec 32 := Scalar.muli arg16 c16_i32_252
  let c13_i32 : BitVec 32 := 13#32
  let v500 : BitVec 32 := Scalar.addi v499 c13_i32
  let v511 : Index := Scalar.indexCast v500
  let c32_258 : Index := 32#32
  ![v511.toNat, 32]
def k0_off990 (v498 : BitVec 32) : Fin 2 → Nat :=
  let v513 : Index := Scalar.indexCast v498
  let c48_259 : Index := 48#32
  ![v513.toNat, 48]
def k0_off991 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_252 : BitVec 32 := 16#32
  let v499 : BitVec 32 := Scalar.muli arg16 c16_i32_252
  let c13_i32 : BitVec 32 := 13#32
  let v500 : BitVec 32 := Scalar.addi v499 c13_i32
  let v515 : Index := Scalar.indexCast v500
  let c48_260 : Index := 48#32
  ![v515.toNat, 48]
def k0_off992 (v498 : BitVec 32) : Fin 2 → Nat :=
  let v517 : Index := Scalar.indexCast v498
  let c64_261 : Index := 64#32
  ![v517.toNat, 64]
def k0_off993 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_252 : BitVec 32 := 16#32
  let v499 : BitVec 32 := Scalar.muli arg16 c16_i32_252
  let c13_i32 : BitVec 32 := 13#32
  let v500 : BitVec 32 := Scalar.addi v499 c13_i32
  let v519 : Index := Scalar.indexCast v500
  let c64_262 : Index := 64#32
  ![v519.toNat, 64]
def k0_off994 (v498 : BitVec 32) : Fin 2 → Nat :=
  let v521 : Index := Scalar.indexCast v498
  let c80_263 : Index := 80#32
  ![v521.toNat, 80]
def k0_off995 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_252 : BitVec 32 := 16#32
  let v499 : BitVec 32 := Scalar.muli arg16 c16_i32_252
  let c13_i32 : BitVec 32 := 13#32
  let v500 : BitVec 32 := Scalar.addi v499 c13_i32
  let v523 : Index := Scalar.indexCast v500
  let c80_264 : Index := 80#32
  ![v523.toNat, 80]
def k0_off996 (v498 : BitVec 32) : Fin 2 → Nat :=
  let v525 : Index := Scalar.indexCast v498
  let c96_265 : Index := 96#32
  ![v525.toNat, 96]
def k0_off997 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_252 : BitVec 32 := 16#32
  let v499 : BitVec 32 := Scalar.muli arg16 c16_i32_252
  let c13_i32 : BitVec 32 := 13#32
  let v500 : BitVec 32 := Scalar.addi v499 c13_i32
  let v527 : Index := Scalar.indexCast v500
  let c96_266 : Index := 96#32
  ![v527.toNat, 96]
def k0_off998 (v498 : BitVec 32) : Fin 2 → Nat :=
  let v529 : Index := Scalar.indexCast v498
  let c112_267 : Index := 112#32
  ![v529.toNat, 112]

def k0_chk62 (v498 : BitVec 32) : Prop :=
  (∀ a, (k0_off984 v498) a + S1x16.size a ≤ S26x128.size a) ∧
  (∀ a, (k0_off986 v498) a + S1x16.size a ≤ S26x128.size a) ∧
  (∀ a, (k0_off988 v498) a + S1x16.size a ≤ S26x128.size a) ∧
  (∀ a, (k0_off990 v498) a + S1x16.size a ≤ S26x128.size a) ∧
  (∀ a, (k0_off992 v498) a + S1x16.size a ≤ S26x128.size a) ∧
  (∀ a, (k0_off994 v498) a + S1x16.size a ≤ S26x128.size a) ∧
  (∀ a, (k0_off996 v498) a + S1x16.size a ≤ S26x128.size a) ∧
  (∀ a, (k0_off998 v498) a + S1x16.size a ≤ S26x128.size a)
theorem k0_off984_inb : ∀ (v498 : BitVec 32) (k0_hw62 : k0_chk62 v498), ∀ a, (k0_off984 v498) a + S1x16.size a ≤ S26x128.size a := fun v498 k0_hw62 => k0_hw62.1
theorem k0_off986_inb : ∀ (v498 : BitVec 32) (k0_hw62 : k0_chk62 v498), ∀ a, (k0_off986 v498) a + S1x16.size a ≤ S26x128.size a := fun v498 k0_hw62 => k0_hw62.2.1
theorem k0_off988_inb : ∀ (v498 : BitVec 32) (k0_hw62 : k0_chk62 v498), ∀ a, (k0_off988 v498) a + S1x16.size a ≤ S26x128.size a := fun v498 k0_hw62 => k0_hw62.2.2.1
theorem k0_off990_inb : ∀ (v498 : BitVec 32) (k0_hw62 : k0_chk62 v498), ∀ a, (k0_off990 v498) a + S1x16.size a ≤ S26x128.size a := fun v498 k0_hw62 => k0_hw62.2.2.2.1
theorem k0_off992_inb : ∀ (v498 : BitVec 32) (k0_hw62 : k0_chk62 v498), ∀ a, (k0_off992 v498) a + S1x16.size a ≤ S26x128.size a := fun v498 k0_hw62 => k0_hw62.2.2.2.2.1
theorem k0_off994_inb : ∀ (v498 : BitVec 32) (k0_hw62 : k0_chk62 v498), ∀ a, (k0_off994 v498) a + S1x16.size a ≤ S26x128.size a := fun v498 k0_hw62 => k0_hw62.2.2.2.2.2.1
theorem k0_off996_inb : ∀ (v498 : BitVec 32) (k0_hw62 : k0_chk62 v498), ∀ a, (k0_off996 v498) a + S1x16.size a ≤ S26x128.size a := fun v498 k0_hw62 => k0_hw62.2.2.2.2.2.2.1
theorem k0_off998_inb : ∀ (v498 : BitVec 32) (k0_hw62 : k0_chk62 v498), ∀ a, (k0_off998 v498) a + S1x16.size a ≤ S26x128.size a := fun v498 k0_hw62 => k0_hw62.2.2.2.2.2.2.2

def k0_off999 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_252 : BitVec 32 := 16#32
  let v499 : BitVec 32 := Scalar.muli arg16 c16_i32_252
  let c13_i32 : BitVec 32 := 13#32
  let v500 : BitVec 32 := Scalar.addi v499 c13_i32
  let v531 : Index := Scalar.indexCast v500
  let c112_268 : Index := 112#32
  ![v531.toNat, 112]
def k0_off1000 (v534 : BitVec 32) : Fin 2 → Nat :=
  let v537 : Index := Scalar.indexCast v534
  let c0_270 : Index := 0#32
  ![v537.toNat, 0]

def k0_off1001 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_269 : BitVec 32 := 16#32
  let v535 : BitVec 32 := Scalar.muli arg16 c16_i32_269
  let c14_i32 : BitVec 32 := 14#32
  let v536 : BitVec 32 := Scalar.addi v535 c14_i32
  let v539 : Index := Scalar.indexCast v536
  let c0_271 : Index := 0#32
  ![v539.toNat, 0]
def k0_off1002 (v534 : BitVec 32) : Fin 2 → Nat :=
  let v541 : Index := Scalar.indexCast v534
  let c16_272 : Index := 16#32
  ![v541.toNat, 16]
def k0_off1003 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_269 : BitVec 32 := 16#32
  let v535 : BitVec 32 := Scalar.muli arg16 c16_i32_269
  let c14_i32 : BitVec 32 := 14#32
  let v536 : BitVec 32 := Scalar.addi v535 c14_i32
  let v543 : Index := Scalar.indexCast v536
  let c16_273 : Index := 16#32
  ![v543.toNat, 16]
def k0_off1004 (v534 : BitVec 32) : Fin 2 → Nat :=
  let v545 : Index := Scalar.indexCast v534
  let c32_274 : Index := 32#32
  ![v545.toNat, 32]
def k0_off1005 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_269 : BitVec 32 := 16#32
  let v535 : BitVec 32 := Scalar.muli arg16 c16_i32_269
  let c14_i32 : BitVec 32 := 14#32
  let v536 : BitVec 32 := Scalar.addi v535 c14_i32
  let v547 : Index := Scalar.indexCast v536
  let c32_275 : Index := 32#32
  ![v547.toNat, 32]
def k0_off1006 (v534 : BitVec 32) : Fin 2 → Nat :=
  let v549 : Index := Scalar.indexCast v534
  let c48_276 : Index := 48#32
  ![v549.toNat, 48]
def k0_off1007 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_269 : BitVec 32 := 16#32
  let v535 : BitVec 32 := Scalar.muli arg16 c16_i32_269
  let c14_i32 : BitVec 32 := 14#32
  let v536 : BitVec 32 := Scalar.addi v535 c14_i32
  let v551 : Index := Scalar.indexCast v536
  let c48_277 : Index := 48#32
  ![v551.toNat, 48]
def k0_off1008 (v534 : BitVec 32) : Fin 2 → Nat :=
  let v553 : Index := Scalar.indexCast v534
  let c64_278 : Index := 64#32
  ![v553.toNat, 64]
def k0_off1009 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_269 : BitVec 32 := 16#32
  let v535 : BitVec 32 := Scalar.muli arg16 c16_i32_269
  let c14_i32 : BitVec 32 := 14#32
  let v536 : BitVec 32 := Scalar.addi v535 c14_i32
  let v555 : Index := Scalar.indexCast v536
  let c64_279 : Index := 64#32
  ![v555.toNat, 64]
def k0_off1010 (v534 : BitVec 32) : Fin 2 → Nat :=
  let v557 : Index := Scalar.indexCast v534
  let c80_280 : Index := 80#32
  ![v557.toNat, 80]
def k0_off1011 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_269 : BitVec 32 := 16#32
  let v535 : BitVec 32 := Scalar.muli arg16 c16_i32_269
  let c14_i32 : BitVec 32 := 14#32
  let v536 : BitVec 32 := Scalar.addi v535 c14_i32
  let v559 : Index := Scalar.indexCast v536
  let c80_281 : Index := 80#32
  ![v559.toNat, 80]
def k0_off1012 (v534 : BitVec 32) : Fin 2 → Nat :=
  let v561 : Index := Scalar.indexCast v534
  let c96_282 : Index := 96#32
  ![v561.toNat, 96]
def k0_off1013 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_269 : BitVec 32 := 16#32
  let v535 : BitVec 32 := Scalar.muli arg16 c16_i32_269
  let c14_i32 : BitVec 32 := 14#32
  let v536 : BitVec 32 := Scalar.addi v535 c14_i32
  let v563 : Index := Scalar.indexCast v536
  let c96_283 : Index := 96#32
  ![v563.toNat, 96]
def k0_off1014 (v534 : BitVec 32) : Fin 2 → Nat :=
  let v565 : Index := Scalar.indexCast v534
  let c112_284 : Index := 112#32
  ![v565.toNat, 112]

def k0_chk63 (v534 : BitVec 32) : Prop :=
  (∀ a, (k0_off1000 v534) a + S1x16.size a ≤ S26x128.size a) ∧
  (∀ a, (k0_off1002 v534) a + S1x16.size a ≤ S26x128.size a) ∧
  (∀ a, (k0_off1004 v534) a + S1x16.size a ≤ S26x128.size a) ∧
  (∀ a, (k0_off1006 v534) a + S1x16.size a ≤ S26x128.size a) ∧
  (∀ a, (k0_off1008 v534) a + S1x16.size a ≤ S26x128.size a) ∧
  (∀ a, (k0_off1010 v534) a + S1x16.size a ≤ S26x128.size a) ∧
  (∀ a, (k0_off1012 v534) a + S1x16.size a ≤ S26x128.size a) ∧
  (∀ a, (k0_off1014 v534) a + S1x16.size a ≤ S26x128.size a)
theorem k0_off1000_inb : ∀ (v534 : BitVec 32) (k0_hw63 : k0_chk63 v534), ∀ a, (k0_off1000 v534) a + S1x16.size a ≤ S26x128.size a := fun v534 k0_hw63 => k0_hw63.1
theorem k0_off1002_inb : ∀ (v534 : BitVec 32) (k0_hw63 : k0_chk63 v534), ∀ a, (k0_off1002 v534) a + S1x16.size a ≤ S26x128.size a := fun v534 k0_hw63 => k0_hw63.2.1
theorem k0_off1004_inb : ∀ (v534 : BitVec 32) (k0_hw63 : k0_chk63 v534), ∀ a, (k0_off1004 v534) a + S1x16.size a ≤ S26x128.size a := fun v534 k0_hw63 => k0_hw63.2.2.1
theorem k0_off1006_inb : ∀ (v534 : BitVec 32) (k0_hw63 : k0_chk63 v534), ∀ a, (k0_off1006 v534) a + S1x16.size a ≤ S26x128.size a := fun v534 k0_hw63 => k0_hw63.2.2.2.1
theorem k0_off1008_inb : ∀ (v534 : BitVec 32) (k0_hw63 : k0_chk63 v534), ∀ a, (k0_off1008 v534) a + S1x16.size a ≤ S26x128.size a := fun v534 k0_hw63 => k0_hw63.2.2.2.2.1
theorem k0_off1010_inb : ∀ (v534 : BitVec 32) (k0_hw63 : k0_chk63 v534), ∀ a, (k0_off1010 v534) a + S1x16.size a ≤ S26x128.size a := fun v534 k0_hw63 => k0_hw63.2.2.2.2.2.1
theorem k0_off1012_inb : ∀ (v534 : BitVec 32) (k0_hw63 : k0_chk63 v534), ∀ a, (k0_off1012 v534) a + S1x16.size a ≤ S26x128.size a := fun v534 k0_hw63 => k0_hw63.2.2.2.2.2.2.1
theorem k0_off1014_inb : ∀ (v534 : BitVec 32) (k0_hw63 : k0_chk63 v534), ∀ a, (k0_off1014 v534) a + S1x16.size a ≤ S26x128.size a := fun v534 k0_hw63 => k0_hw63.2.2.2.2.2.2.2

def k0_off1015 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_269 : BitVec 32 := 16#32
  let v535 : BitVec 32 := Scalar.muli arg16 c16_i32_269
  let c14_i32 : BitVec 32 := 14#32
  let v536 : BitVec 32 := Scalar.addi v535 c14_i32
  let v567 : Index := Scalar.indexCast v536
  let c112_285 : Index := 112#32
  ![v567.toNat, 112]
def k0_off1016 (v570 : BitVec 32) : Fin 2 → Nat :=
  let v573 : Index := Scalar.indexCast v570
  let c0_287 : Index := 0#32
  ![v573.toNat, 0]

def k0_off1017 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_286 : BitVec 32 := 16#32
  let v571 : BitVec 32 := Scalar.muli arg16 c16_i32_286
  let c15_i32 : BitVec 32 := 15#32
  let v572 : BitVec 32 := Scalar.addi v571 c15_i32
  let v575 : Index := Scalar.indexCast v572
  let c0_288 : Index := 0#32
  ![v575.toNat, 0]
def k0_off1018 (v570 : BitVec 32) : Fin 2 → Nat :=
  let v577 : Index := Scalar.indexCast v570
  let c16_289 : Index := 16#32
  ![v577.toNat, 16]
def k0_off1019 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_286 : BitVec 32 := 16#32
  let v571 : BitVec 32 := Scalar.muli arg16 c16_i32_286
  let c15_i32 : BitVec 32 := 15#32
  let v572 : BitVec 32 := Scalar.addi v571 c15_i32
  let v579 : Index := Scalar.indexCast v572
  let c16_290 : Index := 16#32
  ![v579.toNat, 16]
def k0_off1020 (v570 : BitVec 32) : Fin 2 → Nat :=
  let v581 : Index := Scalar.indexCast v570
  let c32_291 : Index := 32#32
  ![v581.toNat, 32]
def k0_off1021 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_286 : BitVec 32 := 16#32
  let v571 : BitVec 32 := Scalar.muli arg16 c16_i32_286
  let c15_i32 : BitVec 32 := 15#32
  let v572 : BitVec 32 := Scalar.addi v571 c15_i32
  let v583 : Index := Scalar.indexCast v572
  let c32_292 : Index := 32#32
  ![v583.toNat, 32]
def k0_off1022 (v570 : BitVec 32) : Fin 2 → Nat :=
  let v585 : Index := Scalar.indexCast v570
  let c48_293 : Index := 48#32
  ![v585.toNat, 48]
def k0_off1023 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_286 : BitVec 32 := 16#32
  let v571 : BitVec 32 := Scalar.muli arg16 c16_i32_286
  let c15_i32 : BitVec 32 := 15#32
  let v572 : BitVec 32 := Scalar.addi v571 c15_i32
  let v587 : Index := Scalar.indexCast v572
  let c48_294 : Index := 48#32
  ![v587.toNat, 48]
def k0_off1024 (v570 : BitVec 32) : Fin 2 → Nat :=
  let v589 : Index := Scalar.indexCast v570
  let c64_295 : Index := 64#32
  ![v589.toNat, 64]
def k0_off1025 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_286 : BitVec 32 := 16#32
  let v571 : BitVec 32 := Scalar.muli arg16 c16_i32_286
  let c15_i32 : BitVec 32 := 15#32
  let v572 : BitVec 32 := Scalar.addi v571 c15_i32
  let v591 : Index := Scalar.indexCast v572
  let c64_296 : Index := 64#32
  ![v591.toNat, 64]
def k0_off1026 (v570 : BitVec 32) : Fin 2 → Nat :=
  let v593 : Index := Scalar.indexCast v570
  let c80_297 : Index := 80#32
  ![v593.toNat, 80]
def k0_off1027 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_286 : BitVec 32 := 16#32
  let v571 : BitVec 32 := Scalar.muli arg16 c16_i32_286
  let c15_i32 : BitVec 32 := 15#32
  let v572 : BitVec 32 := Scalar.addi v571 c15_i32
  let v595 : Index := Scalar.indexCast v572
  let c80_298 : Index := 80#32
  ![v595.toNat, 80]
def k0_off1028 (v570 : BitVec 32) : Fin 2 → Nat :=
  let v597 : Index := Scalar.indexCast v570
  let c96_299 : Index := 96#32
  ![v597.toNat, 96]
def k0_off1029 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_286 : BitVec 32 := 16#32
  let v571 : BitVec 32 := Scalar.muli arg16 c16_i32_286
  let c15_i32 : BitVec 32 := 15#32
  let v572 : BitVec 32 := Scalar.addi v571 c15_i32
  let v599 : Index := Scalar.indexCast v572
  let c96_300 : Index := 96#32
  ![v599.toNat, 96]
def k0_off1030 (v570 : BitVec 32) : Fin 2 → Nat :=
  let v601 : Index := Scalar.indexCast v570
  let c112_301 : Index := 112#32
  ![v601.toNat, 112]

def k0_chk64 (v570 : BitVec 32) : Prop :=
  (∀ a, (k0_off1016 v570) a + S1x16.size a ≤ S26x128.size a) ∧
  (∀ a, (k0_off1018 v570) a + S1x16.size a ≤ S26x128.size a) ∧
  (∀ a, (k0_off1020 v570) a + S1x16.size a ≤ S26x128.size a) ∧
  (∀ a, (k0_off1022 v570) a + S1x16.size a ≤ S26x128.size a) ∧
  (∀ a, (k0_off1024 v570) a + S1x16.size a ≤ S26x128.size a) ∧
  (∀ a, (k0_off1026 v570) a + S1x16.size a ≤ S26x128.size a) ∧
  (∀ a, (k0_off1028 v570) a + S1x16.size a ≤ S26x128.size a) ∧
  (∀ a, (k0_off1030 v570) a + S1x16.size a ≤ S26x128.size a)
theorem k0_off1016_inb : ∀ (v570 : BitVec 32) (k0_hw64 : k0_chk64 v570), ∀ a, (k0_off1016 v570) a + S1x16.size a ≤ S26x128.size a := fun v570 k0_hw64 => k0_hw64.1
theorem k0_off1018_inb : ∀ (v570 : BitVec 32) (k0_hw64 : k0_chk64 v570), ∀ a, (k0_off1018 v570) a + S1x16.size a ≤ S26x128.size a := fun v570 k0_hw64 => k0_hw64.2.1
theorem k0_off1020_inb : ∀ (v570 : BitVec 32) (k0_hw64 : k0_chk64 v570), ∀ a, (k0_off1020 v570) a + S1x16.size a ≤ S26x128.size a := fun v570 k0_hw64 => k0_hw64.2.2.1
theorem k0_off1022_inb : ∀ (v570 : BitVec 32) (k0_hw64 : k0_chk64 v570), ∀ a, (k0_off1022 v570) a + S1x16.size a ≤ S26x128.size a := fun v570 k0_hw64 => k0_hw64.2.2.2.1
theorem k0_off1024_inb : ∀ (v570 : BitVec 32) (k0_hw64 : k0_chk64 v570), ∀ a, (k0_off1024 v570) a + S1x16.size a ≤ S26x128.size a := fun v570 k0_hw64 => k0_hw64.2.2.2.2.1
theorem k0_off1026_inb : ∀ (v570 : BitVec 32) (k0_hw64 : k0_chk64 v570), ∀ a, (k0_off1026 v570) a + S1x16.size a ≤ S26x128.size a := fun v570 k0_hw64 => k0_hw64.2.2.2.2.2.1
theorem k0_off1028_inb : ∀ (v570 : BitVec 32) (k0_hw64 : k0_chk64 v570), ∀ a, (k0_off1028 v570) a + S1x16.size a ≤ S26x128.size a := fun v570 k0_hw64 => k0_hw64.2.2.2.2.2.2.1
theorem k0_off1030_inb : ∀ (v570 : BitVec 32) (k0_hw64 : k0_chk64 v570), ∀ a, (k0_off1030 v570) a + S1x16.size a ≤ S26x128.size a := fun v570 k0_hw64 => k0_hw64.2.2.2.2.2.2.2

def k0_off1031 (k0_t4 : Fin k0_t4_loop.trips) : Fin 2 → Nat :=
  let c0_i32_23 : BitVec 32 := 0#32
  let c1_i32_25 : BitVec 32 := 1#32
  let arg16 : BitVec 32 := Scf.iv c0_i32_23 c1_i32_25 k0_t4
  let c16_i32_286 : BitVec 32 := 16#32
  let v571 : BitVec 32 := Scalar.muli arg16 c16_i32_286
  let c15_i32 : BitVec 32 := 15#32
  let v572 : BitVec 32 := Scalar.addi v571 c15_i32
  let v603 : Index := Scalar.indexCast v572
  let c112_302 : Index := 112#32
  ![v603.toNat, 112]
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
@[reducible] def k1_t1_loop : Scf.Loop 32 :=
  let c0_i32_0 : BitVec 32 := 0#32
  let c8_i32 : BitVec 32 := 8#32
  let v3 : BitVec 32 := Scalar.addi c0_i32_0 c8_i32
  let c1_i32 : BitVec 32 := 1#32
  ⟨c0_i32_0, v3, c1_i32⟩
def k1_off2 (k1_t1 : Fin k1_t1_loop.trips) : Fin 1 → Nat :=
  let c0_i32_34 : BitVec 32 := 0#32
  let c0_i32_0 : BitVec 32 := 0#32
  let c1_i32 : BitVec 32 := 1#32
  let arg16 : BitVec 32 := Scf.iv c0_i32_0 c1_i32 k1_t1
  let c16_i32 : BitVec 32 := 16#32
  let v25 : BitVec 32 := Scalar.muli arg16 c16_i32
  let v26 : BitVec 32 := Scalar.addi c0_i32_34 v25
  let v27 : Index := Scalar.indexCast v26
  ![v27.toNat]
def k1_off3 (v30 : BitVec 32) : Fin 2 → Nat :=
  let v33 : Index := Scalar.indexCast v30
  let c0 : Index := 0#32
  ![v33.toNat, 0]

def k1_off4 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_35 : BitVec 32 := 16#32
  let v31 : BitVec 32 := Scalar.muli arg16 c16_i32_35
  let c0_i32_36 : BitVec 32 := 0#32
  let v32 : BitVec 32 := Scalar.addi v31 c0_i32_36
  let v35 : Index := Scalar.indexCast v32
  let c0_37 : Index := 0#32
  ![v35.toNat, 0]
def k1_off5 (v30 : BitVec 32) : Fin 2 → Nat :=
  let v37 : Index := Scalar.indexCast v30
  let c16 : Index := 16#32
  ![v37.toNat, 16]
def k1_off6 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_35 : BitVec 32 := 16#32
  let v31 : BitVec 32 := Scalar.muli arg16 c16_i32_35
  let c0_i32_36 : BitVec 32 := 0#32
  let v32 : BitVec 32 := Scalar.addi v31 c0_i32_36
  let v39 : Index := Scalar.indexCast v32
  let c16_38 : Index := 16#32
  ![v39.toNat, 16]
def k1_off7 (v30 : BitVec 32) : Fin 2 → Nat :=
  let v41 : Index := Scalar.indexCast v30
  let c32 : Index := 32#32
  ![v41.toNat, 32]
def k1_off8 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_35 : BitVec 32 := 16#32
  let v31 : BitVec 32 := Scalar.muli arg16 c16_i32_35
  let c0_i32_36 : BitVec 32 := 0#32
  let v32 : BitVec 32 := Scalar.addi v31 c0_i32_36
  let v43 : Index := Scalar.indexCast v32
  let c32_39 : Index := 32#32
  ![v43.toNat, 32]
def k1_off9 (v30 : BitVec 32) : Fin 2 → Nat :=
  let v45 : Index := Scalar.indexCast v30
  let c48 : Index := 48#32
  ![v45.toNat, 48]
def k1_off10 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_35 : BitVec 32 := 16#32
  let v31 : BitVec 32 := Scalar.muli arg16 c16_i32_35
  let c0_i32_36 : BitVec 32 := 0#32
  let v32 : BitVec 32 := Scalar.addi v31 c0_i32_36
  let v47 : Index := Scalar.indexCast v32
  let c48_40 : Index := 48#32
  ![v47.toNat, 48]
def k1_off11 (v30 : BitVec 32) : Fin 2 → Nat :=
  let v49 : Index := Scalar.indexCast v30
  let c64 : Index := 64#32
  ![v49.toNat, 64]
def k1_off12 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_35 : BitVec 32 := 16#32
  let v31 : BitVec 32 := Scalar.muli arg16 c16_i32_35
  let c0_i32_36 : BitVec 32 := 0#32
  let v32 : BitVec 32 := Scalar.addi v31 c0_i32_36
  let v51 : Index := Scalar.indexCast v32
  let c64_41 : Index := 64#32
  ![v51.toNat, 64]
def k1_off13 (v30 : BitVec 32) : Fin 2 → Nat :=
  let v53 : Index := Scalar.indexCast v30
  let c80 : Index := 80#32
  ![v53.toNat, 80]
def k1_off14 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_35 : BitVec 32 := 16#32
  let v31 : BitVec 32 := Scalar.muli arg16 c16_i32_35
  let c0_i32_36 : BitVec 32 := 0#32
  let v32 : BitVec 32 := Scalar.addi v31 c0_i32_36
  let v55 : Index := Scalar.indexCast v32
  let c80_42 : Index := 80#32
  ![v55.toNat, 80]
def k1_off15 (v30 : BitVec 32) : Fin 2 → Nat :=
  let v57 : Index := Scalar.indexCast v30
  let c96 : Index := 96#32
  ![v57.toNat, 96]
def k1_off16 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_35 : BitVec 32 := 16#32
  let v31 : BitVec 32 := Scalar.muli arg16 c16_i32_35
  let c0_i32_36 : BitVec 32 := 0#32
  let v32 : BitVec 32 := Scalar.addi v31 c0_i32_36
  let v59 : Index := Scalar.indexCast v32
  let c96_43 : Index := 96#32
  ![v59.toNat, 96]
def k1_off17 (v30 : BitVec 32) : Fin 2 → Nat :=
  let v61 : Index := Scalar.indexCast v30
  let c112 : Index := 112#32
  ![v61.toNat, 112]

def k1_chk1 (v30 : BitVec 32) : Prop :=
  (∀ a, (k1_off3 v30) a + S1x16.size a ≤ S100x128.size a) ∧
  (∀ a, (k1_off5 v30) a + S1x16.size a ≤ S100x128.size a) ∧
  (∀ a, (k1_off7 v30) a + S1x16.size a ≤ S100x128.size a) ∧
  (∀ a, (k1_off9 v30) a + S1x16.size a ≤ S100x128.size a) ∧
  (∀ a, (k1_off11 v30) a + S1x16.size a ≤ S100x128.size a) ∧
  (∀ a, (k1_off13 v30) a + S1x16.size a ≤ S100x128.size a) ∧
  (∀ a, (k1_off15 v30) a + S1x16.size a ≤ S100x128.size a) ∧
  (∀ a, (k1_off17 v30) a + S1x16.size a ≤ S100x128.size a)
theorem k1_off3_inb : ∀ (v30 : BitVec 32) (k1_hw1 : k1_chk1 v30), ∀ a, (k1_off3 v30) a + S1x16.size a ≤ S100x128.size a := fun v30 k1_hw1 => k1_hw1.1
theorem k1_off5_inb : ∀ (v30 : BitVec 32) (k1_hw1 : k1_chk1 v30), ∀ a, (k1_off5 v30) a + S1x16.size a ≤ S100x128.size a := fun v30 k1_hw1 => k1_hw1.2.1
theorem k1_off7_inb : ∀ (v30 : BitVec 32) (k1_hw1 : k1_chk1 v30), ∀ a, (k1_off7 v30) a + S1x16.size a ≤ S100x128.size a := fun v30 k1_hw1 => k1_hw1.2.2.1
theorem k1_off9_inb : ∀ (v30 : BitVec 32) (k1_hw1 : k1_chk1 v30), ∀ a, (k1_off9 v30) a + S1x16.size a ≤ S100x128.size a := fun v30 k1_hw1 => k1_hw1.2.2.2.1
theorem k1_off11_inb : ∀ (v30 : BitVec 32) (k1_hw1 : k1_chk1 v30), ∀ a, (k1_off11 v30) a + S1x16.size a ≤ S100x128.size a := fun v30 k1_hw1 => k1_hw1.2.2.2.2.1
theorem k1_off13_inb : ∀ (v30 : BitVec 32) (k1_hw1 : k1_chk1 v30), ∀ a, (k1_off13 v30) a + S1x16.size a ≤ S100x128.size a := fun v30 k1_hw1 => k1_hw1.2.2.2.2.2.1
theorem k1_off15_inb : ∀ (v30 : BitVec 32) (k1_hw1 : k1_chk1 v30), ∀ a, (k1_off15 v30) a + S1x16.size a ≤ S100x128.size a := fun v30 k1_hw1 => k1_hw1.2.2.2.2.2.2.1
theorem k1_off17_inb : ∀ (v30 : BitVec 32) (k1_hw1 : k1_chk1 v30), ∀ a, (k1_off17 v30) a + S1x16.size a ≤ S100x128.size a := fun v30 k1_hw1 => k1_hw1.2.2.2.2.2.2.2

def k1_off18 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_35 : BitVec 32 := 16#32
  let v31 : BitVec 32 := Scalar.muli arg16 c16_i32_35
  let c0_i32_36 : BitVec 32 := 0#32
  let v32 : BitVec 32 := Scalar.addi v31 c0_i32_36
  let v63 : Index := Scalar.indexCast v32
  let c112_44 : Index := 112#32
  ![v63.toNat, 112]
def k1_off19 (v66 : BitVec 32) : Fin 2 → Nat :=
  let v69 : Index := Scalar.indexCast v66
  let c0_47 : Index := 0#32
  ![v69.toNat, 0]

def k1_off20 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_45 : BitVec 32 := 16#32
  let v67 : BitVec 32 := Scalar.muli arg16 c16_i32_45
  let c1_i32_46 : BitVec 32 := 1#32
  let v68 : BitVec 32 := Scalar.addi v67 c1_i32_46
  let v71 : Index := Scalar.indexCast v68
  let c0_48 : Index := 0#32
  ![v71.toNat, 0]
def k1_off21 (v66 : BitVec 32) : Fin 2 → Nat :=
  let v73 : Index := Scalar.indexCast v66
  let c16_49 : Index := 16#32
  ![v73.toNat, 16]
def k1_off22 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_45 : BitVec 32 := 16#32
  let v67 : BitVec 32 := Scalar.muli arg16 c16_i32_45
  let c1_i32_46 : BitVec 32 := 1#32
  let v68 : BitVec 32 := Scalar.addi v67 c1_i32_46
  let v75 : Index := Scalar.indexCast v68
  let c16_50 : Index := 16#32
  ![v75.toNat, 16]
def k1_off23 (v66 : BitVec 32) : Fin 2 → Nat :=
  let v77 : Index := Scalar.indexCast v66
  let c32_51 : Index := 32#32
  ![v77.toNat, 32]
def k1_off24 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_45 : BitVec 32 := 16#32
  let v67 : BitVec 32 := Scalar.muli arg16 c16_i32_45
  let c1_i32_46 : BitVec 32 := 1#32
  let v68 : BitVec 32 := Scalar.addi v67 c1_i32_46
  let v79 : Index := Scalar.indexCast v68
  let c32_52 : Index := 32#32
  ![v79.toNat, 32]
def k1_off25 (v66 : BitVec 32) : Fin 2 → Nat :=
  let v81 : Index := Scalar.indexCast v66
  let c48_53 : Index := 48#32
  ![v81.toNat, 48]
def k1_off26 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_45 : BitVec 32 := 16#32
  let v67 : BitVec 32 := Scalar.muli arg16 c16_i32_45
  let c1_i32_46 : BitVec 32 := 1#32
  let v68 : BitVec 32 := Scalar.addi v67 c1_i32_46
  let v83 : Index := Scalar.indexCast v68
  let c48_54 : Index := 48#32
  ![v83.toNat, 48]
def k1_off27 (v66 : BitVec 32) : Fin 2 → Nat :=
  let v85 : Index := Scalar.indexCast v66
  let c64_55 : Index := 64#32
  ![v85.toNat, 64]
def k1_off28 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_45 : BitVec 32 := 16#32
  let v67 : BitVec 32 := Scalar.muli arg16 c16_i32_45
  let c1_i32_46 : BitVec 32 := 1#32
  let v68 : BitVec 32 := Scalar.addi v67 c1_i32_46
  let v87 : Index := Scalar.indexCast v68
  let c64_56 : Index := 64#32
  ![v87.toNat, 64]
def k1_off29 (v66 : BitVec 32) : Fin 2 → Nat :=
  let v89 : Index := Scalar.indexCast v66
  let c80_57 : Index := 80#32
  ![v89.toNat, 80]
def k1_off30 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_45 : BitVec 32 := 16#32
  let v67 : BitVec 32 := Scalar.muli arg16 c16_i32_45
  let c1_i32_46 : BitVec 32 := 1#32
  let v68 : BitVec 32 := Scalar.addi v67 c1_i32_46
  let v91 : Index := Scalar.indexCast v68
  let c80_58 : Index := 80#32
  ![v91.toNat, 80]
def k1_off31 (v66 : BitVec 32) : Fin 2 → Nat :=
  let v93 : Index := Scalar.indexCast v66
  let c96_59 : Index := 96#32
  ![v93.toNat, 96]
def k1_off32 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_45 : BitVec 32 := 16#32
  let v67 : BitVec 32 := Scalar.muli arg16 c16_i32_45
  let c1_i32_46 : BitVec 32 := 1#32
  let v68 : BitVec 32 := Scalar.addi v67 c1_i32_46
  let v95 : Index := Scalar.indexCast v68
  let c96_60 : Index := 96#32
  ![v95.toNat, 96]
def k1_off33 (v66 : BitVec 32) : Fin 2 → Nat :=
  let v97 : Index := Scalar.indexCast v66
  let c112_61 : Index := 112#32
  ![v97.toNat, 112]

def k1_chk2 (v66 : BitVec 32) : Prop :=
  (∀ a, (k1_off19 v66) a + S1x16.size a ≤ S100x128.size a) ∧
  (∀ a, (k1_off21 v66) a + S1x16.size a ≤ S100x128.size a) ∧
  (∀ a, (k1_off23 v66) a + S1x16.size a ≤ S100x128.size a) ∧
  (∀ a, (k1_off25 v66) a + S1x16.size a ≤ S100x128.size a) ∧
  (∀ a, (k1_off27 v66) a + S1x16.size a ≤ S100x128.size a) ∧
  (∀ a, (k1_off29 v66) a + S1x16.size a ≤ S100x128.size a) ∧
  (∀ a, (k1_off31 v66) a + S1x16.size a ≤ S100x128.size a) ∧
  (∀ a, (k1_off33 v66) a + S1x16.size a ≤ S100x128.size a)
theorem k1_off19_inb : ∀ (v66 : BitVec 32) (k1_hw2 : k1_chk2 v66), ∀ a, (k1_off19 v66) a + S1x16.size a ≤ S100x128.size a := fun v66 k1_hw2 => k1_hw2.1
theorem k1_off21_inb : ∀ (v66 : BitVec 32) (k1_hw2 : k1_chk2 v66), ∀ a, (k1_off21 v66) a + S1x16.size a ≤ S100x128.size a := fun v66 k1_hw2 => k1_hw2.2.1
theorem k1_off23_inb : ∀ (v66 : BitVec 32) (k1_hw2 : k1_chk2 v66), ∀ a, (k1_off23 v66) a + S1x16.size a ≤ S100x128.size a := fun v66 k1_hw2 => k1_hw2.2.2.1
theorem k1_off25_inb : ∀ (v66 : BitVec 32) (k1_hw2 : k1_chk2 v66), ∀ a, (k1_off25 v66) a + S1x16.size a ≤ S100x128.size a := fun v66 k1_hw2 => k1_hw2.2.2.2.1
theorem k1_off27_inb : ∀ (v66 : BitVec 32) (k1_hw2 : k1_chk2 v66), ∀ a, (k1_off27 v66) a + S1x16.size a ≤ S100x128.size a := fun v66 k1_hw2 => k1_hw2.2.2.2.2.1
theorem k1_off29_inb : ∀ (v66 : BitVec 32) (k1_hw2 : k1_chk2 v66), ∀ a, (k1_off29 v66) a + S1x16.size a ≤ S100x128.size a := fun v66 k1_hw2 => k1_hw2.2.2.2.2.2.1
theorem k1_off31_inb : ∀ (v66 : BitVec 32) (k1_hw2 : k1_chk2 v66), ∀ a, (k1_off31 v66) a + S1x16.size a ≤ S100x128.size a := fun v66 k1_hw2 => k1_hw2.2.2.2.2.2.2.1
theorem k1_off33_inb : ∀ (v66 : BitVec 32) (k1_hw2 : k1_chk2 v66), ∀ a, (k1_off33 v66) a + S1x16.size a ≤ S100x128.size a := fun v66 k1_hw2 => k1_hw2.2.2.2.2.2.2.2

def k1_off34 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_45 : BitVec 32 := 16#32
  let v67 : BitVec 32 := Scalar.muli arg16 c16_i32_45
  let c1_i32_46 : BitVec 32 := 1#32
  let v68 : BitVec 32 := Scalar.addi v67 c1_i32_46
  let v99 : Index := Scalar.indexCast v68
  let c112_62 : Index := 112#32
  ![v99.toNat, 112]
def k1_off35 (v102 : BitVec 32) : Fin 2 → Nat :=
  let v105 : Index := Scalar.indexCast v102
  let c0_65 : Index := 0#32
  ![v105.toNat, 0]

def k1_off36 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_63 : BitVec 32 := 16#32
  let v103 : BitVec 32 := Scalar.muli arg16 c16_i32_63
  let c2_i32_64 : BitVec 32 := 2#32
  let v104 : BitVec 32 := Scalar.addi v103 c2_i32_64
  let v107 : Index := Scalar.indexCast v104
  let c0_66 : Index := 0#32
  ![v107.toNat, 0]
def k1_off37 (v102 : BitVec 32) : Fin 2 → Nat :=
  let v109 : Index := Scalar.indexCast v102
  let c16_67 : Index := 16#32
  ![v109.toNat, 16]
def k1_off38 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_63 : BitVec 32 := 16#32
  let v103 : BitVec 32 := Scalar.muli arg16 c16_i32_63
  let c2_i32_64 : BitVec 32 := 2#32
  let v104 : BitVec 32 := Scalar.addi v103 c2_i32_64
  let v111 : Index := Scalar.indexCast v104
  let c16_68 : Index := 16#32
  ![v111.toNat, 16]
def k1_off39 (v102 : BitVec 32) : Fin 2 → Nat :=
  let v113 : Index := Scalar.indexCast v102
  let c32_69 : Index := 32#32
  ![v113.toNat, 32]
def k1_off40 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_63 : BitVec 32 := 16#32
  let v103 : BitVec 32 := Scalar.muli arg16 c16_i32_63
  let c2_i32_64 : BitVec 32 := 2#32
  let v104 : BitVec 32 := Scalar.addi v103 c2_i32_64
  let v115 : Index := Scalar.indexCast v104
  let c32_70 : Index := 32#32
  ![v115.toNat, 32]
def k1_off41 (v102 : BitVec 32) : Fin 2 → Nat :=
  let v117 : Index := Scalar.indexCast v102
  let c48_71 : Index := 48#32
  ![v117.toNat, 48]
def k1_off42 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_63 : BitVec 32 := 16#32
  let v103 : BitVec 32 := Scalar.muli arg16 c16_i32_63
  let c2_i32_64 : BitVec 32 := 2#32
  let v104 : BitVec 32 := Scalar.addi v103 c2_i32_64
  let v119 : Index := Scalar.indexCast v104
  let c48_72 : Index := 48#32
  ![v119.toNat, 48]
def k1_off43 (v102 : BitVec 32) : Fin 2 → Nat :=
  let v121 : Index := Scalar.indexCast v102
  let c64_73 : Index := 64#32
  ![v121.toNat, 64]
def k1_off44 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_63 : BitVec 32 := 16#32
  let v103 : BitVec 32 := Scalar.muli arg16 c16_i32_63
  let c2_i32_64 : BitVec 32 := 2#32
  let v104 : BitVec 32 := Scalar.addi v103 c2_i32_64
  let v123 : Index := Scalar.indexCast v104
  let c64_74 : Index := 64#32
  ![v123.toNat, 64]
def k1_off45 (v102 : BitVec 32) : Fin 2 → Nat :=
  let v125 : Index := Scalar.indexCast v102
  let c80_75 : Index := 80#32
  ![v125.toNat, 80]
def k1_off46 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_63 : BitVec 32 := 16#32
  let v103 : BitVec 32 := Scalar.muli arg16 c16_i32_63
  let c2_i32_64 : BitVec 32 := 2#32
  let v104 : BitVec 32 := Scalar.addi v103 c2_i32_64
  let v127 : Index := Scalar.indexCast v104
  let c80_76 : Index := 80#32
  ![v127.toNat, 80]
def k1_off47 (v102 : BitVec 32) : Fin 2 → Nat :=
  let v129 : Index := Scalar.indexCast v102
  let c96_77 : Index := 96#32
  ![v129.toNat, 96]
def k1_off48 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_63 : BitVec 32 := 16#32
  let v103 : BitVec 32 := Scalar.muli arg16 c16_i32_63
  let c2_i32_64 : BitVec 32 := 2#32
  let v104 : BitVec 32 := Scalar.addi v103 c2_i32_64
  let v131 : Index := Scalar.indexCast v104
  let c96_78 : Index := 96#32
  ![v131.toNat, 96]
def k1_off49 (v102 : BitVec 32) : Fin 2 → Nat :=
  let v133 : Index := Scalar.indexCast v102
  let c112_79 : Index := 112#32
  ![v133.toNat, 112]

def k1_chk3 (v102 : BitVec 32) : Prop :=
  (∀ a, (k1_off35 v102) a + S1x16.size a ≤ S100x128.size a) ∧
  (∀ a, (k1_off37 v102) a + S1x16.size a ≤ S100x128.size a) ∧
  (∀ a, (k1_off39 v102) a + S1x16.size a ≤ S100x128.size a) ∧
  (∀ a, (k1_off41 v102) a + S1x16.size a ≤ S100x128.size a) ∧
  (∀ a, (k1_off43 v102) a + S1x16.size a ≤ S100x128.size a) ∧
  (∀ a, (k1_off45 v102) a + S1x16.size a ≤ S100x128.size a) ∧
  (∀ a, (k1_off47 v102) a + S1x16.size a ≤ S100x128.size a) ∧
  (∀ a, (k1_off49 v102) a + S1x16.size a ≤ S100x128.size a)
theorem k1_off35_inb : ∀ (v102 : BitVec 32) (k1_hw3 : k1_chk3 v102), ∀ a, (k1_off35 v102) a + S1x16.size a ≤ S100x128.size a := fun v102 k1_hw3 => k1_hw3.1
theorem k1_off37_inb : ∀ (v102 : BitVec 32) (k1_hw3 : k1_chk3 v102), ∀ a, (k1_off37 v102) a + S1x16.size a ≤ S100x128.size a := fun v102 k1_hw3 => k1_hw3.2.1
theorem k1_off39_inb : ∀ (v102 : BitVec 32) (k1_hw3 : k1_chk3 v102), ∀ a, (k1_off39 v102) a + S1x16.size a ≤ S100x128.size a := fun v102 k1_hw3 => k1_hw3.2.2.1
theorem k1_off41_inb : ∀ (v102 : BitVec 32) (k1_hw3 : k1_chk3 v102), ∀ a, (k1_off41 v102) a + S1x16.size a ≤ S100x128.size a := fun v102 k1_hw3 => k1_hw3.2.2.2.1
theorem k1_off43_inb : ∀ (v102 : BitVec 32) (k1_hw3 : k1_chk3 v102), ∀ a, (k1_off43 v102) a + S1x16.size a ≤ S100x128.size a := fun v102 k1_hw3 => k1_hw3.2.2.2.2.1
theorem k1_off45_inb : ∀ (v102 : BitVec 32) (k1_hw3 : k1_chk3 v102), ∀ a, (k1_off45 v102) a + S1x16.size a ≤ S100x128.size a := fun v102 k1_hw3 => k1_hw3.2.2.2.2.2.1
theorem k1_off47_inb : ∀ (v102 : BitVec 32) (k1_hw3 : k1_chk3 v102), ∀ a, (k1_off47 v102) a + S1x16.size a ≤ S100x128.size a := fun v102 k1_hw3 => k1_hw3.2.2.2.2.2.2.1
theorem k1_off49_inb : ∀ (v102 : BitVec 32) (k1_hw3 : k1_chk3 v102), ∀ a, (k1_off49 v102) a + S1x16.size a ≤ S100x128.size a := fun v102 k1_hw3 => k1_hw3.2.2.2.2.2.2.2

def k1_off50 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_63 : BitVec 32 := 16#32
  let v103 : BitVec 32 := Scalar.muli arg16 c16_i32_63
  let c2_i32_64 : BitVec 32 := 2#32
  let v104 : BitVec 32 := Scalar.addi v103 c2_i32_64
  let v135 : Index := Scalar.indexCast v104
  let c112_80 : Index := 112#32
  ![v135.toNat, 112]
def k1_off51 (v138 : BitVec 32) : Fin 2 → Nat :=
  let v141 : Index := Scalar.indexCast v138
  let c0_82 : Index := 0#32
  ![v141.toNat, 0]

def k1_off52 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_81 : BitVec 32 := 16#32
  let v139 : BitVec 32 := Scalar.muli arg16 c16_i32_81
  let c3_i32 : BitVec 32 := 3#32
  let v140 : BitVec 32 := Scalar.addi v139 c3_i32
  let v143 : Index := Scalar.indexCast v140
  let c0_83 : Index := 0#32
  ![v143.toNat, 0]
def k1_off53 (v138 : BitVec 32) : Fin 2 → Nat :=
  let v145 : Index := Scalar.indexCast v138
  let c16_84 : Index := 16#32
  ![v145.toNat, 16]
def k1_off54 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_81 : BitVec 32 := 16#32
  let v139 : BitVec 32 := Scalar.muli arg16 c16_i32_81
  let c3_i32 : BitVec 32 := 3#32
  let v140 : BitVec 32 := Scalar.addi v139 c3_i32
  let v147 : Index := Scalar.indexCast v140
  let c16_85 : Index := 16#32
  ![v147.toNat, 16]
def k1_off55 (v138 : BitVec 32) : Fin 2 → Nat :=
  let v149 : Index := Scalar.indexCast v138
  let c32_86 : Index := 32#32
  ![v149.toNat, 32]
def k1_off56 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_81 : BitVec 32 := 16#32
  let v139 : BitVec 32 := Scalar.muli arg16 c16_i32_81
  let c3_i32 : BitVec 32 := 3#32
  let v140 : BitVec 32 := Scalar.addi v139 c3_i32
  let v151 : Index := Scalar.indexCast v140
  let c32_87 : Index := 32#32
  ![v151.toNat, 32]
def k1_off57 (v138 : BitVec 32) : Fin 2 → Nat :=
  let v153 : Index := Scalar.indexCast v138
  let c48_88 : Index := 48#32
  ![v153.toNat, 48]
def k1_off58 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_81 : BitVec 32 := 16#32
  let v139 : BitVec 32 := Scalar.muli arg16 c16_i32_81
  let c3_i32 : BitVec 32 := 3#32
  let v140 : BitVec 32 := Scalar.addi v139 c3_i32
  let v155 : Index := Scalar.indexCast v140
  let c48_89 : Index := 48#32
  ![v155.toNat, 48]
def k1_off59 (v138 : BitVec 32) : Fin 2 → Nat :=
  let v157 : Index := Scalar.indexCast v138
  let c64_90 : Index := 64#32
  ![v157.toNat, 64]
def k1_off60 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_81 : BitVec 32 := 16#32
  let v139 : BitVec 32 := Scalar.muli arg16 c16_i32_81
  let c3_i32 : BitVec 32 := 3#32
  let v140 : BitVec 32 := Scalar.addi v139 c3_i32
  let v159 : Index := Scalar.indexCast v140
  let c64_91 : Index := 64#32
  ![v159.toNat, 64]
def k1_off61 (v138 : BitVec 32) : Fin 2 → Nat :=
  let v161 : Index := Scalar.indexCast v138
  let c80_92 : Index := 80#32
  ![v161.toNat, 80]
def k1_off62 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_81 : BitVec 32 := 16#32
  let v139 : BitVec 32 := Scalar.muli arg16 c16_i32_81
  let c3_i32 : BitVec 32 := 3#32
  let v140 : BitVec 32 := Scalar.addi v139 c3_i32
  let v163 : Index := Scalar.indexCast v140
  let c80_93 : Index := 80#32
  ![v163.toNat, 80]
def k1_off63 (v138 : BitVec 32) : Fin 2 → Nat :=
  let v165 : Index := Scalar.indexCast v138
  let c96_94 : Index := 96#32
  ![v165.toNat, 96]
def k1_off64 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_81 : BitVec 32 := 16#32
  let v139 : BitVec 32 := Scalar.muli arg16 c16_i32_81
  let c3_i32 : BitVec 32 := 3#32
  let v140 : BitVec 32 := Scalar.addi v139 c3_i32
  let v167 : Index := Scalar.indexCast v140
  let c96_95 : Index := 96#32
  ![v167.toNat, 96]
def k1_off65 (v138 : BitVec 32) : Fin 2 → Nat :=
  let v169 : Index := Scalar.indexCast v138
  let c112_96 : Index := 112#32
  ![v169.toNat, 112]

def k1_chk4 (v138 : BitVec 32) : Prop :=
  (∀ a, (k1_off51 v138) a + S1x16.size a ≤ S100x128.size a) ∧
  (∀ a, (k1_off53 v138) a + S1x16.size a ≤ S100x128.size a) ∧
  (∀ a, (k1_off55 v138) a + S1x16.size a ≤ S100x128.size a) ∧
  (∀ a, (k1_off57 v138) a + S1x16.size a ≤ S100x128.size a) ∧
  (∀ a, (k1_off59 v138) a + S1x16.size a ≤ S100x128.size a) ∧
  (∀ a, (k1_off61 v138) a + S1x16.size a ≤ S100x128.size a) ∧
  (∀ a, (k1_off63 v138) a + S1x16.size a ≤ S100x128.size a) ∧
  (∀ a, (k1_off65 v138) a + S1x16.size a ≤ S100x128.size a)
theorem k1_off51_inb : ∀ (v138 : BitVec 32) (k1_hw4 : k1_chk4 v138), ∀ a, (k1_off51 v138) a + S1x16.size a ≤ S100x128.size a := fun v138 k1_hw4 => k1_hw4.1
theorem k1_off53_inb : ∀ (v138 : BitVec 32) (k1_hw4 : k1_chk4 v138), ∀ a, (k1_off53 v138) a + S1x16.size a ≤ S100x128.size a := fun v138 k1_hw4 => k1_hw4.2.1
theorem k1_off55_inb : ∀ (v138 : BitVec 32) (k1_hw4 : k1_chk4 v138), ∀ a, (k1_off55 v138) a + S1x16.size a ≤ S100x128.size a := fun v138 k1_hw4 => k1_hw4.2.2.1
theorem k1_off57_inb : ∀ (v138 : BitVec 32) (k1_hw4 : k1_chk4 v138), ∀ a, (k1_off57 v138) a + S1x16.size a ≤ S100x128.size a := fun v138 k1_hw4 => k1_hw4.2.2.2.1
theorem k1_off59_inb : ∀ (v138 : BitVec 32) (k1_hw4 : k1_chk4 v138), ∀ a, (k1_off59 v138) a + S1x16.size a ≤ S100x128.size a := fun v138 k1_hw4 => k1_hw4.2.2.2.2.1
theorem k1_off61_inb : ∀ (v138 : BitVec 32) (k1_hw4 : k1_chk4 v138), ∀ a, (k1_off61 v138) a + S1x16.size a ≤ S100x128.size a := fun v138 k1_hw4 => k1_hw4.2.2.2.2.2.1
theorem k1_off63_inb : ∀ (v138 : BitVec 32) (k1_hw4 : k1_chk4 v138), ∀ a, (k1_off63 v138) a + S1x16.size a ≤ S100x128.size a := fun v138 k1_hw4 => k1_hw4.2.2.2.2.2.2.1
theorem k1_off65_inb : ∀ (v138 : BitVec 32) (k1_hw4 : k1_chk4 v138), ∀ a, (k1_off65 v138) a + S1x16.size a ≤ S100x128.size a := fun v138 k1_hw4 => k1_hw4.2.2.2.2.2.2.2

def k1_off66 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_81 : BitVec 32 := 16#32
  let v139 : BitVec 32 := Scalar.muli arg16 c16_i32_81
  let c3_i32 : BitVec 32 := 3#32
  let v140 : BitVec 32 := Scalar.addi v139 c3_i32
  let v171 : Index := Scalar.indexCast v140
  let c112_97 : Index := 112#32
  ![v171.toNat, 112]
def k1_off67 (v174 : BitVec 32) : Fin 2 → Nat :=
  let v177 : Index := Scalar.indexCast v174
  let c0_99 : Index := 0#32
  ![v177.toNat, 0]

def k1_off68 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_98 : BitVec 32 := 16#32
  let v175 : BitVec 32 := Scalar.muli arg16 c16_i32_98
  let c4_i32 : BitVec 32 := 4#32
  let v176 : BitVec 32 := Scalar.addi v175 c4_i32
  let v179 : Index := Scalar.indexCast v176
  let c0_100 : Index := 0#32
  ![v179.toNat, 0]
def k1_off69 (v174 : BitVec 32) : Fin 2 → Nat :=
  let v181 : Index := Scalar.indexCast v174
  let c16_101 : Index := 16#32
  ![v181.toNat, 16]
def k1_off70 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_98 : BitVec 32 := 16#32
  let v175 : BitVec 32 := Scalar.muli arg16 c16_i32_98
  let c4_i32 : BitVec 32 := 4#32
  let v176 : BitVec 32 := Scalar.addi v175 c4_i32
  let v183 : Index := Scalar.indexCast v176
  let c16_102 : Index := 16#32
  ![v183.toNat, 16]
def k1_off71 (v174 : BitVec 32) : Fin 2 → Nat :=
  let v185 : Index := Scalar.indexCast v174
  let c32_103 : Index := 32#32
  ![v185.toNat, 32]
def k1_off72 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_98 : BitVec 32 := 16#32
  let v175 : BitVec 32 := Scalar.muli arg16 c16_i32_98
  let c4_i32 : BitVec 32 := 4#32
  let v176 : BitVec 32 := Scalar.addi v175 c4_i32
  let v187 : Index := Scalar.indexCast v176
  let c32_104 : Index := 32#32
  ![v187.toNat, 32]
def k1_off73 (v174 : BitVec 32) : Fin 2 → Nat :=
  let v189 : Index := Scalar.indexCast v174
  let c48_105 : Index := 48#32
  ![v189.toNat, 48]
def k1_off74 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_98 : BitVec 32 := 16#32
  let v175 : BitVec 32 := Scalar.muli arg16 c16_i32_98
  let c4_i32 : BitVec 32 := 4#32
  let v176 : BitVec 32 := Scalar.addi v175 c4_i32
  let v191 : Index := Scalar.indexCast v176
  let c48_106 : Index := 48#32
  ![v191.toNat, 48]
def k1_off75 (v174 : BitVec 32) : Fin 2 → Nat :=
  let v193 : Index := Scalar.indexCast v174
  let c64_107 : Index := 64#32
  ![v193.toNat, 64]
def k1_off76 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_98 : BitVec 32 := 16#32
  let v175 : BitVec 32 := Scalar.muli arg16 c16_i32_98
  let c4_i32 : BitVec 32 := 4#32
  let v176 : BitVec 32 := Scalar.addi v175 c4_i32
  let v195 : Index := Scalar.indexCast v176
  let c64_108 : Index := 64#32
  ![v195.toNat, 64]
def k1_off77 (v174 : BitVec 32) : Fin 2 → Nat :=
  let v197 : Index := Scalar.indexCast v174
  let c80_109 : Index := 80#32
  ![v197.toNat, 80]
def k1_off78 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_98 : BitVec 32 := 16#32
  let v175 : BitVec 32 := Scalar.muli arg16 c16_i32_98
  let c4_i32 : BitVec 32 := 4#32
  let v176 : BitVec 32 := Scalar.addi v175 c4_i32
  let v199 : Index := Scalar.indexCast v176
  let c80_110 : Index := 80#32
  ![v199.toNat, 80]
def k1_off79 (v174 : BitVec 32) : Fin 2 → Nat :=
  let v201 : Index := Scalar.indexCast v174
  let c96_111 : Index := 96#32
  ![v201.toNat, 96]
def k1_off80 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_98 : BitVec 32 := 16#32
  let v175 : BitVec 32 := Scalar.muli arg16 c16_i32_98
  let c4_i32 : BitVec 32 := 4#32
  let v176 : BitVec 32 := Scalar.addi v175 c4_i32
  let v203 : Index := Scalar.indexCast v176
  let c96_112 : Index := 96#32
  ![v203.toNat, 96]
def k1_off81 (v174 : BitVec 32) : Fin 2 → Nat :=
  let v205 : Index := Scalar.indexCast v174
  let c112_113 : Index := 112#32
  ![v205.toNat, 112]

def k1_chk5 (v174 : BitVec 32) : Prop :=
  (∀ a, (k1_off67 v174) a + S1x16.size a ≤ S100x128.size a) ∧
  (∀ a, (k1_off69 v174) a + S1x16.size a ≤ S100x128.size a) ∧
  (∀ a, (k1_off71 v174) a + S1x16.size a ≤ S100x128.size a) ∧
  (∀ a, (k1_off73 v174) a + S1x16.size a ≤ S100x128.size a) ∧
  (∀ a, (k1_off75 v174) a + S1x16.size a ≤ S100x128.size a) ∧
  (∀ a, (k1_off77 v174) a + S1x16.size a ≤ S100x128.size a) ∧
  (∀ a, (k1_off79 v174) a + S1x16.size a ≤ S100x128.size a) ∧
  (∀ a, (k1_off81 v174) a + S1x16.size a ≤ S100x128.size a)
theorem k1_off67_inb : ∀ (v174 : BitVec 32) (k1_hw5 : k1_chk5 v174), ∀ a, (k1_off67 v174) a + S1x16.size a ≤ S100x128.size a := fun v174 k1_hw5 => k1_hw5.1
theorem k1_off69_inb : ∀ (v174 : BitVec 32) (k1_hw5 : k1_chk5 v174), ∀ a, (k1_off69 v174) a + S1x16.size a ≤ S100x128.size a := fun v174 k1_hw5 => k1_hw5.2.1
theorem k1_off71_inb : ∀ (v174 : BitVec 32) (k1_hw5 : k1_chk5 v174), ∀ a, (k1_off71 v174) a + S1x16.size a ≤ S100x128.size a := fun v174 k1_hw5 => k1_hw5.2.2.1
theorem k1_off73_inb : ∀ (v174 : BitVec 32) (k1_hw5 : k1_chk5 v174), ∀ a, (k1_off73 v174) a + S1x16.size a ≤ S100x128.size a := fun v174 k1_hw5 => k1_hw5.2.2.2.1
theorem k1_off75_inb : ∀ (v174 : BitVec 32) (k1_hw5 : k1_chk5 v174), ∀ a, (k1_off75 v174) a + S1x16.size a ≤ S100x128.size a := fun v174 k1_hw5 => k1_hw5.2.2.2.2.1
theorem k1_off77_inb : ∀ (v174 : BitVec 32) (k1_hw5 : k1_chk5 v174), ∀ a, (k1_off77 v174) a + S1x16.size a ≤ S100x128.size a := fun v174 k1_hw5 => k1_hw5.2.2.2.2.2.1
theorem k1_off79_inb : ∀ (v174 : BitVec 32) (k1_hw5 : k1_chk5 v174), ∀ a, (k1_off79 v174) a + S1x16.size a ≤ S100x128.size a := fun v174 k1_hw5 => k1_hw5.2.2.2.2.2.2.1
theorem k1_off81_inb : ∀ (v174 : BitVec 32) (k1_hw5 : k1_chk5 v174), ∀ a, (k1_off81 v174) a + S1x16.size a ≤ S100x128.size a := fun v174 k1_hw5 => k1_hw5.2.2.2.2.2.2.2

def k1_off82 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_98 : BitVec 32 := 16#32
  let v175 : BitVec 32 := Scalar.muli arg16 c16_i32_98
  let c4_i32 : BitVec 32 := 4#32
  let v176 : BitVec 32 := Scalar.addi v175 c4_i32
  let v207 : Index := Scalar.indexCast v176
  let c112_114 : Index := 112#32
  ![v207.toNat, 112]
def k1_off83 (v210 : BitVec 32) : Fin 2 → Nat :=
  let v213 : Index := Scalar.indexCast v210
  let c0_116 : Index := 0#32
  ![v213.toNat, 0]

def k1_off84 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_115 : BitVec 32 := 16#32
  let v211 : BitVec 32 := Scalar.muli arg16 c16_i32_115
  let c5_i32 : BitVec 32 := 5#32
  let v212 : BitVec 32 := Scalar.addi v211 c5_i32
  let v215 : Index := Scalar.indexCast v212
  let c0_117 : Index := 0#32
  ![v215.toNat, 0]
def k1_off85 (v210 : BitVec 32) : Fin 2 → Nat :=
  let v217 : Index := Scalar.indexCast v210
  let c16_118 : Index := 16#32
  ![v217.toNat, 16]
def k1_off86 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_115 : BitVec 32 := 16#32
  let v211 : BitVec 32 := Scalar.muli arg16 c16_i32_115
  let c5_i32 : BitVec 32 := 5#32
  let v212 : BitVec 32 := Scalar.addi v211 c5_i32
  let v219 : Index := Scalar.indexCast v212
  let c16_119 : Index := 16#32
  ![v219.toNat, 16]
def k1_off87 (v210 : BitVec 32) : Fin 2 → Nat :=
  let v221 : Index := Scalar.indexCast v210
  let c32_120 : Index := 32#32
  ![v221.toNat, 32]
def k1_off88 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_115 : BitVec 32 := 16#32
  let v211 : BitVec 32 := Scalar.muli arg16 c16_i32_115
  let c5_i32 : BitVec 32 := 5#32
  let v212 : BitVec 32 := Scalar.addi v211 c5_i32
  let v223 : Index := Scalar.indexCast v212
  let c32_121 : Index := 32#32
  ![v223.toNat, 32]
def k1_off89 (v210 : BitVec 32) : Fin 2 → Nat :=
  let v225 : Index := Scalar.indexCast v210
  let c48_122 : Index := 48#32
  ![v225.toNat, 48]
def k1_off90 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_115 : BitVec 32 := 16#32
  let v211 : BitVec 32 := Scalar.muli arg16 c16_i32_115
  let c5_i32 : BitVec 32 := 5#32
  let v212 : BitVec 32 := Scalar.addi v211 c5_i32
  let v227 : Index := Scalar.indexCast v212
  let c48_123 : Index := 48#32
  ![v227.toNat, 48]
def k1_off91 (v210 : BitVec 32) : Fin 2 → Nat :=
  let v229 : Index := Scalar.indexCast v210
  let c64_124 : Index := 64#32
  ![v229.toNat, 64]
def k1_off92 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_115 : BitVec 32 := 16#32
  let v211 : BitVec 32 := Scalar.muli arg16 c16_i32_115
  let c5_i32 : BitVec 32 := 5#32
  let v212 : BitVec 32 := Scalar.addi v211 c5_i32
  let v231 : Index := Scalar.indexCast v212
  let c64_125 : Index := 64#32
  ![v231.toNat, 64]
def k1_off93 (v210 : BitVec 32) : Fin 2 → Nat :=
  let v233 : Index := Scalar.indexCast v210
  let c80_126 : Index := 80#32
  ![v233.toNat, 80]
def k1_off94 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_115 : BitVec 32 := 16#32
  let v211 : BitVec 32 := Scalar.muli arg16 c16_i32_115
  let c5_i32 : BitVec 32 := 5#32
  let v212 : BitVec 32 := Scalar.addi v211 c5_i32
  let v235 : Index := Scalar.indexCast v212
  let c80_127 : Index := 80#32
  ![v235.toNat, 80]
def k1_off95 (v210 : BitVec 32) : Fin 2 → Nat :=
  let v237 : Index := Scalar.indexCast v210
  let c96_128 : Index := 96#32
  ![v237.toNat, 96]
def k1_off96 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_115 : BitVec 32 := 16#32
  let v211 : BitVec 32 := Scalar.muli arg16 c16_i32_115
  let c5_i32 : BitVec 32 := 5#32
  let v212 : BitVec 32 := Scalar.addi v211 c5_i32
  let v239 : Index := Scalar.indexCast v212
  let c96_129 : Index := 96#32
  ![v239.toNat, 96]
def k1_off97 (v210 : BitVec 32) : Fin 2 → Nat :=
  let v241 : Index := Scalar.indexCast v210
  let c112_130 : Index := 112#32
  ![v241.toNat, 112]

def k1_chk6 (v210 : BitVec 32) : Prop :=
  (∀ a, (k1_off83 v210) a + S1x16.size a ≤ S100x128.size a) ∧
  (∀ a, (k1_off85 v210) a + S1x16.size a ≤ S100x128.size a) ∧
  (∀ a, (k1_off87 v210) a + S1x16.size a ≤ S100x128.size a) ∧
  (∀ a, (k1_off89 v210) a + S1x16.size a ≤ S100x128.size a) ∧
  (∀ a, (k1_off91 v210) a + S1x16.size a ≤ S100x128.size a) ∧
  (∀ a, (k1_off93 v210) a + S1x16.size a ≤ S100x128.size a) ∧
  (∀ a, (k1_off95 v210) a + S1x16.size a ≤ S100x128.size a) ∧
  (∀ a, (k1_off97 v210) a + S1x16.size a ≤ S100x128.size a)
theorem k1_off83_inb : ∀ (v210 : BitVec 32) (k1_hw6 : k1_chk6 v210), ∀ a, (k1_off83 v210) a + S1x16.size a ≤ S100x128.size a := fun v210 k1_hw6 => k1_hw6.1
theorem k1_off85_inb : ∀ (v210 : BitVec 32) (k1_hw6 : k1_chk6 v210), ∀ a, (k1_off85 v210) a + S1x16.size a ≤ S100x128.size a := fun v210 k1_hw6 => k1_hw6.2.1
theorem k1_off87_inb : ∀ (v210 : BitVec 32) (k1_hw6 : k1_chk6 v210), ∀ a, (k1_off87 v210) a + S1x16.size a ≤ S100x128.size a := fun v210 k1_hw6 => k1_hw6.2.2.1
theorem k1_off89_inb : ∀ (v210 : BitVec 32) (k1_hw6 : k1_chk6 v210), ∀ a, (k1_off89 v210) a + S1x16.size a ≤ S100x128.size a := fun v210 k1_hw6 => k1_hw6.2.2.2.1
theorem k1_off91_inb : ∀ (v210 : BitVec 32) (k1_hw6 : k1_chk6 v210), ∀ a, (k1_off91 v210) a + S1x16.size a ≤ S100x128.size a := fun v210 k1_hw6 => k1_hw6.2.2.2.2.1
theorem k1_off93_inb : ∀ (v210 : BitVec 32) (k1_hw6 : k1_chk6 v210), ∀ a, (k1_off93 v210) a + S1x16.size a ≤ S100x128.size a := fun v210 k1_hw6 => k1_hw6.2.2.2.2.2.1
theorem k1_off95_inb : ∀ (v210 : BitVec 32) (k1_hw6 : k1_chk6 v210), ∀ a, (k1_off95 v210) a + S1x16.size a ≤ S100x128.size a := fun v210 k1_hw6 => k1_hw6.2.2.2.2.2.2.1
theorem k1_off97_inb : ∀ (v210 : BitVec 32) (k1_hw6 : k1_chk6 v210), ∀ a, (k1_off97 v210) a + S1x16.size a ≤ S100x128.size a := fun v210 k1_hw6 => k1_hw6.2.2.2.2.2.2.2

def k1_off98 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_115 : BitVec 32 := 16#32
  let v211 : BitVec 32 := Scalar.muli arg16 c16_i32_115
  let c5_i32 : BitVec 32 := 5#32
  let v212 : BitVec 32 := Scalar.addi v211 c5_i32
  let v243 : Index := Scalar.indexCast v212
  let c112_131 : Index := 112#32
  ![v243.toNat, 112]
def k1_off99 (v246 : BitVec 32) : Fin 2 → Nat :=
  let v249 : Index := Scalar.indexCast v246
  let c0_133 : Index := 0#32
  ![v249.toNat, 0]

def k1_off100 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_132 : BitVec 32 := 16#32
  let v247 : BitVec 32 := Scalar.muli arg16 c16_i32_132
  let c6_i32 : BitVec 32 := 6#32
  let v248 : BitVec 32 := Scalar.addi v247 c6_i32
  let v251 : Index := Scalar.indexCast v248
  let c0_134 : Index := 0#32
  ![v251.toNat, 0]
def k1_off101 (v246 : BitVec 32) : Fin 2 → Nat :=
  let v253 : Index := Scalar.indexCast v246
  let c16_135 : Index := 16#32
  ![v253.toNat, 16]
def k1_off102 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_132 : BitVec 32 := 16#32
  let v247 : BitVec 32 := Scalar.muli arg16 c16_i32_132
  let c6_i32 : BitVec 32 := 6#32
  let v248 : BitVec 32 := Scalar.addi v247 c6_i32
  let v255 : Index := Scalar.indexCast v248
  let c16_136 : Index := 16#32
  ![v255.toNat, 16]
def k1_off103 (v246 : BitVec 32) : Fin 2 → Nat :=
  let v257 : Index := Scalar.indexCast v246
  let c32_137 : Index := 32#32
  ![v257.toNat, 32]
def k1_off104 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_132 : BitVec 32 := 16#32
  let v247 : BitVec 32 := Scalar.muli arg16 c16_i32_132
  let c6_i32 : BitVec 32 := 6#32
  let v248 : BitVec 32 := Scalar.addi v247 c6_i32
  let v259 : Index := Scalar.indexCast v248
  let c32_138 : Index := 32#32
  ![v259.toNat, 32]
def k1_off105 (v246 : BitVec 32) : Fin 2 → Nat :=
  let v261 : Index := Scalar.indexCast v246
  let c48_139 : Index := 48#32
  ![v261.toNat, 48]
def k1_off106 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_132 : BitVec 32 := 16#32
  let v247 : BitVec 32 := Scalar.muli arg16 c16_i32_132
  let c6_i32 : BitVec 32 := 6#32
  let v248 : BitVec 32 := Scalar.addi v247 c6_i32
  let v263 : Index := Scalar.indexCast v248
  let c48_140 : Index := 48#32
  ![v263.toNat, 48]
def k1_off107 (v246 : BitVec 32) : Fin 2 → Nat :=
  let v265 : Index := Scalar.indexCast v246
  let c64_141 : Index := 64#32
  ![v265.toNat, 64]
def k1_off108 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_132 : BitVec 32 := 16#32
  let v247 : BitVec 32 := Scalar.muli arg16 c16_i32_132
  let c6_i32 : BitVec 32 := 6#32
  let v248 : BitVec 32 := Scalar.addi v247 c6_i32
  let v267 : Index := Scalar.indexCast v248
  let c64_142 : Index := 64#32
  ![v267.toNat, 64]
def k1_off109 (v246 : BitVec 32) : Fin 2 → Nat :=
  let v269 : Index := Scalar.indexCast v246
  let c80_143 : Index := 80#32
  ![v269.toNat, 80]
def k1_off110 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_132 : BitVec 32 := 16#32
  let v247 : BitVec 32 := Scalar.muli arg16 c16_i32_132
  let c6_i32 : BitVec 32 := 6#32
  let v248 : BitVec 32 := Scalar.addi v247 c6_i32
  let v271 : Index := Scalar.indexCast v248
  let c80_144 : Index := 80#32
  ![v271.toNat, 80]
def k1_off111 (v246 : BitVec 32) : Fin 2 → Nat :=
  let v273 : Index := Scalar.indexCast v246
  let c96_145 : Index := 96#32
  ![v273.toNat, 96]
def k1_off112 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_132 : BitVec 32 := 16#32
  let v247 : BitVec 32 := Scalar.muli arg16 c16_i32_132
  let c6_i32 : BitVec 32 := 6#32
  let v248 : BitVec 32 := Scalar.addi v247 c6_i32
  let v275 : Index := Scalar.indexCast v248
  let c96_146 : Index := 96#32
  ![v275.toNat, 96]
def k1_off113 (v246 : BitVec 32) : Fin 2 → Nat :=
  let v277 : Index := Scalar.indexCast v246
  let c112_147 : Index := 112#32
  ![v277.toNat, 112]

def k1_chk7 (v246 : BitVec 32) : Prop :=
  (∀ a, (k1_off99 v246) a + S1x16.size a ≤ S100x128.size a) ∧
  (∀ a, (k1_off101 v246) a + S1x16.size a ≤ S100x128.size a) ∧
  (∀ a, (k1_off103 v246) a + S1x16.size a ≤ S100x128.size a) ∧
  (∀ a, (k1_off105 v246) a + S1x16.size a ≤ S100x128.size a) ∧
  (∀ a, (k1_off107 v246) a + S1x16.size a ≤ S100x128.size a) ∧
  (∀ a, (k1_off109 v246) a + S1x16.size a ≤ S100x128.size a) ∧
  (∀ a, (k1_off111 v246) a + S1x16.size a ≤ S100x128.size a) ∧
  (∀ a, (k1_off113 v246) a + S1x16.size a ≤ S100x128.size a)
theorem k1_off99_inb : ∀ (v246 : BitVec 32) (k1_hw7 : k1_chk7 v246), ∀ a, (k1_off99 v246) a + S1x16.size a ≤ S100x128.size a := fun v246 k1_hw7 => k1_hw7.1
theorem k1_off101_inb : ∀ (v246 : BitVec 32) (k1_hw7 : k1_chk7 v246), ∀ a, (k1_off101 v246) a + S1x16.size a ≤ S100x128.size a := fun v246 k1_hw7 => k1_hw7.2.1
theorem k1_off103_inb : ∀ (v246 : BitVec 32) (k1_hw7 : k1_chk7 v246), ∀ a, (k1_off103 v246) a + S1x16.size a ≤ S100x128.size a := fun v246 k1_hw7 => k1_hw7.2.2.1
theorem k1_off105_inb : ∀ (v246 : BitVec 32) (k1_hw7 : k1_chk7 v246), ∀ a, (k1_off105 v246) a + S1x16.size a ≤ S100x128.size a := fun v246 k1_hw7 => k1_hw7.2.2.2.1
theorem k1_off107_inb : ∀ (v246 : BitVec 32) (k1_hw7 : k1_chk7 v246), ∀ a, (k1_off107 v246) a + S1x16.size a ≤ S100x128.size a := fun v246 k1_hw7 => k1_hw7.2.2.2.2.1
theorem k1_off109_inb : ∀ (v246 : BitVec 32) (k1_hw7 : k1_chk7 v246), ∀ a, (k1_off109 v246) a + S1x16.size a ≤ S100x128.size a := fun v246 k1_hw7 => k1_hw7.2.2.2.2.2.1
theorem k1_off111_inb : ∀ (v246 : BitVec 32) (k1_hw7 : k1_chk7 v246), ∀ a, (k1_off111 v246) a + S1x16.size a ≤ S100x128.size a := fun v246 k1_hw7 => k1_hw7.2.2.2.2.2.2.1
theorem k1_off113_inb : ∀ (v246 : BitVec 32) (k1_hw7 : k1_chk7 v246), ∀ a, (k1_off113 v246) a + S1x16.size a ≤ S100x128.size a := fun v246 k1_hw7 => k1_hw7.2.2.2.2.2.2.2

def k1_off114 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_132 : BitVec 32 := 16#32
  let v247 : BitVec 32 := Scalar.muli arg16 c16_i32_132
  let c6_i32 : BitVec 32 := 6#32
  let v248 : BitVec 32 := Scalar.addi v247 c6_i32
  let v279 : Index := Scalar.indexCast v248
  let c112_148 : Index := 112#32
  ![v279.toNat, 112]
def k1_off115 (v282 : BitVec 32) : Fin 2 → Nat :=
  let v285 : Index := Scalar.indexCast v282
  let c0_150 : Index := 0#32
  ![v285.toNat, 0]

def k1_off116 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_149 : BitVec 32 := 16#32
  let v283 : BitVec 32 := Scalar.muli arg16 c16_i32_149
  let c7_i32 : BitVec 32 := 7#32
  let v284 : BitVec 32 := Scalar.addi v283 c7_i32
  let v287 : Index := Scalar.indexCast v284
  let c0_151 : Index := 0#32
  ![v287.toNat, 0]
def k1_off117 (v282 : BitVec 32) : Fin 2 → Nat :=
  let v289 : Index := Scalar.indexCast v282
  let c16_152 : Index := 16#32
  ![v289.toNat, 16]
def k1_off118 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_149 : BitVec 32 := 16#32
  let v283 : BitVec 32 := Scalar.muli arg16 c16_i32_149
  let c7_i32 : BitVec 32 := 7#32
  let v284 : BitVec 32 := Scalar.addi v283 c7_i32
  let v291 : Index := Scalar.indexCast v284
  let c16_153 : Index := 16#32
  ![v291.toNat, 16]
def k1_off119 (v282 : BitVec 32) : Fin 2 → Nat :=
  let v293 : Index := Scalar.indexCast v282
  let c32_154 : Index := 32#32
  ![v293.toNat, 32]
def k1_off120 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_149 : BitVec 32 := 16#32
  let v283 : BitVec 32 := Scalar.muli arg16 c16_i32_149
  let c7_i32 : BitVec 32 := 7#32
  let v284 : BitVec 32 := Scalar.addi v283 c7_i32
  let v295 : Index := Scalar.indexCast v284
  let c32_155 : Index := 32#32
  ![v295.toNat, 32]
def k1_off121 (v282 : BitVec 32) : Fin 2 → Nat :=
  let v297 : Index := Scalar.indexCast v282
  let c48_156 : Index := 48#32
  ![v297.toNat, 48]
def k1_off122 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_149 : BitVec 32 := 16#32
  let v283 : BitVec 32 := Scalar.muli arg16 c16_i32_149
  let c7_i32 : BitVec 32 := 7#32
  let v284 : BitVec 32 := Scalar.addi v283 c7_i32
  let v299 : Index := Scalar.indexCast v284
  let c48_157 : Index := 48#32
  ![v299.toNat, 48]
def k1_off123 (v282 : BitVec 32) : Fin 2 → Nat :=
  let v301 : Index := Scalar.indexCast v282
  let c64_158 : Index := 64#32
  ![v301.toNat, 64]
def k1_off124 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_149 : BitVec 32 := 16#32
  let v283 : BitVec 32 := Scalar.muli arg16 c16_i32_149
  let c7_i32 : BitVec 32 := 7#32
  let v284 : BitVec 32 := Scalar.addi v283 c7_i32
  let v303 : Index := Scalar.indexCast v284
  let c64_159 : Index := 64#32
  ![v303.toNat, 64]
def k1_off125 (v282 : BitVec 32) : Fin 2 → Nat :=
  let v305 : Index := Scalar.indexCast v282
  let c80_160 : Index := 80#32
  ![v305.toNat, 80]
def k1_off126 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_149 : BitVec 32 := 16#32
  let v283 : BitVec 32 := Scalar.muli arg16 c16_i32_149
  let c7_i32 : BitVec 32 := 7#32
  let v284 : BitVec 32 := Scalar.addi v283 c7_i32
  let v307 : Index := Scalar.indexCast v284
  let c80_161 : Index := 80#32
  ![v307.toNat, 80]
def k1_off127 (v282 : BitVec 32) : Fin 2 → Nat :=
  let v309 : Index := Scalar.indexCast v282
  let c96_162 : Index := 96#32
  ![v309.toNat, 96]
def k1_off128 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_149 : BitVec 32 := 16#32
  let v283 : BitVec 32 := Scalar.muli arg16 c16_i32_149
  let c7_i32 : BitVec 32 := 7#32
  let v284 : BitVec 32 := Scalar.addi v283 c7_i32
  let v311 : Index := Scalar.indexCast v284
  let c96_163 : Index := 96#32
  ![v311.toNat, 96]
def k1_off129 (v282 : BitVec 32) : Fin 2 → Nat :=
  let v313 : Index := Scalar.indexCast v282
  let c112_164 : Index := 112#32
  ![v313.toNat, 112]

def k1_chk8 (v282 : BitVec 32) : Prop :=
  (∀ a, (k1_off115 v282) a + S1x16.size a ≤ S100x128.size a) ∧
  (∀ a, (k1_off117 v282) a + S1x16.size a ≤ S100x128.size a) ∧
  (∀ a, (k1_off119 v282) a + S1x16.size a ≤ S100x128.size a) ∧
  (∀ a, (k1_off121 v282) a + S1x16.size a ≤ S100x128.size a) ∧
  (∀ a, (k1_off123 v282) a + S1x16.size a ≤ S100x128.size a) ∧
  (∀ a, (k1_off125 v282) a + S1x16.size a ≤ S100x128.size a) ∧
  (∀ a, (k1_off127 v282) a + S1x16.size a ≤ S100x128.size a) ∧
  (∀ a, (k1_off129 v282) a + S1x16.size a ≤ S100x128.size a)
theorem k1_off115_inb : ∀ (v282 : BitVec 32) (k1_hw8 : k1_chk8 v282), ∀ a, (k1_off115 v282) a + S1x16.size a ≤ S100x128.size a := fun v282 k1_hw8 => k1_hw8.1
theorem k1_off117_inb : ∀ (v282 : BitVec 32) (k1_hw8 : k1_chk8 v282), ∀ a, (k1_off117 v282) a + S1x16.size a ≤ S100x128.size a := fun v282 k1_hw8 => k1_hw8.2.1
theorem k1_off119_inb : ∀ (v282 : BitVec 32) (k1_hw8 : k1_chk8 v282), ∀ a, (k1_off119 v282) a + S1x16.size a ≤ S100x128.size a := fun v282 k1_hw8 => k1_hw8.2.2.1
theorem k1_off121_inb : ∀ (v282 : BitVec 32) (k1_hw8 : k1_chk8 v282), ∀ a, (k1_off121 v282) a + S1x16.size a ≤ S100x128.size a := fun v282 k1_hw8 => k1_hw8.2.2.2.1
theorem k1_off123_inb : ∀ (v282 : BitVec 32) (k1_hw8 : k1_chk8 v282), ∀ a, (k1_off123 v282) a + S1x16.size a ≤ S100x128.size a := fun v282 k1_hw8 => k1_hw8.2.2.2.2.1
theorem k1_off125_inb : ∀ (v282 : BitVec 32) (k1_hw8 : k1_chk8 v282), ∀ a, (k1_off125 v282) a + S1x16.size a ≤ S100x128.size a := fun v282 k1_hw8 => k1_hw8.2.2.2.2.2.1
theorem k1_off127_inb : ∀ (v282 : BitVec 32) (k1_hw8 : k1_chk8 v282), ∀ a, (k1_off127 v282) a + S1x16.size a ≤ S100x128.size a := fun v282 k1_hw8 => k1_hw8.2.2.2.2.2.2.1
theorem k1_off129_inb : ∀ (v282 : BitVec 32) (k1_hw8 : k1_chk8 v282), ∀ a, (k1_off129 v282) a + S1x16.size a ≤ S100x128.size a := fun v282 k1_hw8 => k1_hw8.2.2.2.2.2.2.2

def k1_off130 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_149 : BitVec 32 := 16#32
  let v283 : BitVec 32 := Scalar.muli arg16 c16_i32_149
  let c7_i32 : BitVec 32 := 7#32
  let v284 : BitVec 32 := Scalar.addi v283 c7_i32
  let v315 : Index := Scalar.indexCast v284
  let c112_165 : Index := 112#32
  ![v315.toNat, 112]
def k1_off131 (v318 : BitVec 32) : Fin 2 → Nat :=
  let v321 : Index := Scalar.indexCast v318
  let c0_168 : Index := 0#32
  ![v321.toNat, 0]

def k1_off132 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_166 : BitVec 32 := 16#32
  let v319 : BitVec 32 := Scalar.muli arg16 c16_i32_166
  let c8_i32_167 : BitVec 32 := 8#32
  let v320 : BitVec 32 := Scalar.addi v319 c8_i32_167
  let v323 : Index := Scalar.indexCast v320
  let c0_169 : Index := 0#32
  ![v323.toNat, 0]
def k1_off133 (v318 : BitVec 32) : Fin 2 → Nat :=
  let v325 : Index := Scalar.indexCast v318
  let c16_170 : Index := 16#32
  ![v325.toNat, 16]
def k1_off134 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_166 : BitVec 32 := 16#32
  let v319 : BitVec 32 := Scalar.muli arg16 c16_i32_166
  let c8_i32_167 : BitVec 32 := 8#32
  let v320 : BitVec 32 := Scalar.addi v319 c8_i32_167
  let v327 : Index := Scalar.indexCast v320
  let c16_171 : Index := 16#32
  ![v327.toNat, 16]
def k1_off135 (v318 : BitVec 32) : Fin 2 → Nat :=
  let v329 : Index := Scalar.indexCast v318
  let c32_172 : Index := 32#32
  ![v329.toNat, 32]
def k1_off136 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_166 : BitVec 32 := 16#32
  let v319 : BitVec 32 := Scalar.muli arg16 c16_i32_166
  let c8_i32_167 : BitVec 32 := 8#32
  let v320 : BitVec 32 := Scalar.addi v319 c8_i32_167
  let v331 : Index := Scalar.indexCast v320
  let c32_173 : Index := 32#32
  ![v331.toNat, 32]
def k1_off137 (v318 : BitVec 32) : Fin 2 → Nat :=
  let v333 : Index := Scalar.indexCast v318
  let c48_174 : Index := 48#32
  ![v333.toNat, 48]
def k1_off138 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_166 : BitVec 32 := 16#32
  let v319 : BitVec 32 := Scalar.muli arg16 c16_i32_166
  let c8_i32_167 : BitVec 32 := 8#32
  let v320 : BitVec 32 := Scalar.addi v319 c8_i32_167
  let v335 : Index := Scalar.indexCast v320
  let c48_175 : Index := 48#32
  ![v335.toNat, 48]
def k1_off139 (v318 : BitVec 32) : Fin 2 → Nat :=
  let v337 : Index := Scalar.indexCast v318
  let c64_176 : Index := 64#32
  ![v337.toNat, 64]
def k1_off140 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_166 : BitVec 32 := 16#32
  let v319 : BitVec 32 := Scalar.muli arg16 c16_i32_166
  let c8_i32_167 : BitVec 32 := 8#32
  let v320 : BitVec 32 := Scalar.addi v319 c8_i32_167
  let v339 : Index := Scalar.indexCast v320
  let c64_177 : Index := 64#32
  ![v339.toNat, 64]
def k1_off141 (v318 : BitVec 32) : Fin 2 → Nat :=
  let v341 : Index := Scalar.indexCast v318
  let c80_178 : Index := 80#32
  ![v341.toNat, 80]
def k1_off142 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_166 : BitVec 32 := 16#32
  let v319 : BitVec 32 := Scalar.muli arg16 c16_i32_166
  let c8_i32_167 : BitVec 32 := 8#32
  let v320 : BitVec 32 := Scalar.addi v319 c8_i32_167
  let v343 : Index := Scalar.indexCast v320
  let c80_179 : Index := 80#32
  ![v343.toNat, 80]
def k1_off143 (v318 : BitVec 32) : Fin 2 → Nat :=
  let v345 : Index := Scalar.indexCast v318
  let c96_180 : Index := 96#32
  ![v345.toNat, 96]
def k1_off144 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_166 : BitVec 32 := 16#32
  let v319 : BitVec 32 := Scalar.muli arg16 c16_i32_166
  let c8_i32_167 : BitVec 32 := 8#32
  let v320 : BitVec 32 := Scalar.addi v319 c8_i32_167
  let v347 : Index := Scalar.indexCast v320
  let c96_181 : Index := 96#32
  ![v347.toNat, 96]
def k1_off145 (v318 : BitVec 32) : Fin 2 → Nat :=
  let v349 : Index := Scalar.indexCast v318
  let c112_182 : Index := 112#32
  ![v349.toNat, 112]

def k1_chk9 (v318 : BitVec 32) : Prop :=
  (∀ a, (k1_off131 v318) a + S1x16.size a ≤ S100x128.size a) ∧
  (∀ a, (k1_off133 v318) a + S1x16.size a ≤ S100x128.size a) ∧
  (∀ a, (k1_off135 v318) a + S1x16.size a ≤ S100x128.size a) ∧
  (∀ a, (k1_off137 v318) a + S1x16.size a ≤ S100x128.size a) ∧
  (∀ a, (k1_off139 v318) a + S1x16.size a ≤ S100x128.size a) ∧
  (∀ a, (k1_off141 v318) a + S1x16.size a ≤ S100x128.size a) ∧
  (∀ a, (k1_off143 v318) a + S1x16.size a ≤ S100x128.size a) ∧
  (∀ a, (k1_off145 v318) a + S1x16.size a ≤ S100x128.size a)
theorem k1_off131_inb : ∀ (v318 : BitVec 32) (k1_hw9 : k1_chk9 v318), ∀ a, (k1_off131 v318) a + S1x16.size a ≤ S100x128.size a := fun v318 k1_hw9 => k1_hw9.1
theorem k1_off133_inb : ∀ (v318 : BitVec 32) (k1_hw9 : k1_chk9 v318), ∀ a, (k1_off133 v318) a + S1x16.size a ≤ S100x128.size a := fun v318 k1_hw9 => k1_hw9.2.1
theorem k1_off135_inb : ∀ (v318 : BitVec 32) (k1_hw9 : k1_chk9 v318), ∀ a, (k1_off135 v318) a + S1x16.size a ≤ S100x128.size a := fun v318 k1_hw9 => k1_hw9.2.2.1
theorem k1_off137_inb : ∀ (v318 : BitVec 32) (k1_hw9 : k1_chk9 v318), ∀ a, (k1_off137 v318) a + S1x16.size a ≤ S100x128.size a := fun v318 k1_hw9 => k1_hw9.2.2.2.1
theorem k1_off139_inb : ∀ (v318 : BitVec 32) (k1_hw9 : k1_chk9 v318), ∀ a, (k1_off139 v318) a + S1x16.size a ≤ S100x128.size a := fun v318 k1_hw9 => k1_hw9.2.2.2.2.1
theorem k1_off141_inb : ∀ (v318 : BitVec 32) (k1_hw9 : k1_chk9 v318), ∀ a, (k1_off141 v318) a + S1x16.size a ≤ S100x128.size a := fun v318 k1_hw9 => k1_hw9.2.2.2.2.2.1
theorem k1_off143_inb : ∀ (v318 : BitVec 32) (k1_hw9 : k1_chk9 v318), ∀ a, (k1_off143 v318) a + S1x16.size a ≤ S100x128.size a := fun v318 k1_hw9 => k1_hw9.2.2.2.2.2.2.1
theorem k1_off145_inb : ∀ (v318 : BitVec 32) (k1_hw9 : k1_chk9 v318), ∀ a, (k1_off145 v318) a + S1x16.size a ≤ S100x128.size a := fun v318 k1_hw9 => k1_hw9.2.2.2.2.2.2.2

def k1_off146 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_166 : BitVec 32 := 16#32
  let v319 : BitVec 32 := Scalar.muli arg16 c16_i32_166
  let c8_i32_167 : BitVec 32 := 8#32
  let v320 : BitVec 32 := Scalar.addi v319 c8_i32_167
  let v351 : Index := Scalar.indexCast v320
  let c112_183 : Index := 112#32
  ![v351.toNat, 112]
def k1_off147 (v354 : BitVec 32) : Fin 2 → Nat :=
  let v357 : Index := Scalar.indexCast v354
  let c0_185 : Index := 0#32
  ![v357.toNat, 0]

def k1_off148 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_184 : BitVec 32 := 16#32
  let v355 : BitVec 32 := Scalar.muli arg16 c16_i32_184
  let c9_i32 : BitVec 32 := 9#32
  let v356 : BitVec 32 := Scalar.addi v355 c9_i32
  let v359 : Index := Scalar.indexCast v356
  let c0_186 : Index := 0#32
  ![v359.toNat, 0]
def k1_off149 (v354 : BitVec 32) : Fin 2 → Nat :=
  let v361 : Index := Scalar.indexCast v354
  let c16_187 : Index := 16#32
  ![v361.toNat, 16]
def k1_off150 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_184 : BitVec 32 := 16#32
  let v355 : BitVec 32 := Scalar.muli arg16 c16_i32_184
  let c9_i32 : BitVec 32 := 9#32
  let v356 : BitVec 32 := Scalar.addi v355 c9_i32
  let v363 : Index := Scalar.indexCast v356
  let c16_188 : Index := 16#32
  ![v363.toNat, 16]
def k1_off151 (v354 : BitVec 32) : Fin 2 → Nat :=
  let v365 : Index := Scalar.indexCast v354
  let c32_189 : Index := 32#32
  ![v365.toNat, 32]
def k1_off152 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_184 : BitVec 32 := 16#32
  let v355 : BitVec 32 := Scalar.muli arg16 c16_i32_184
  let c9_i32 : BitVec 32 := 9#32
  let v356 : BitVec 32 := Scalar.addi v355 c9_i32
  let v367 : Index := Scalar.indexCast v356
  let c32_190 : Index := 32#32
  ![v367.toNat, 32]
def k1_off153 (v354 : BitVec 32) : Fin 2 → Nat :=
  let v369 : Index := Scalar.indexCast v354
  let c48_191 : Index := 48#32
  ![v369.toNat, 48]
def k1_off154 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_184 : BitVec 32 := 16#32
  let v355 : BitVec 32 := Scalar.muli arg16 c16_i32_184
  let c9_i32 : BitVec 32 := 9#32
  let v356 : BitVec 32 := Scalar.addi v355 c9_i32
  let v371 : Index := Scalar.indexCast v356
  let c48_192 : Index := 48#32
  ![v371.toNat, 48]
def k1_off155 (v354 : BitVec 32) : Fin 2 → Nat :=
  let v373 : Index := Scalar.indexCast v354
  let c64_193 : Index := 64#32
  ![v373.toNat, 64]
def k1_off156 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_184 : BitVec 32 := 16#32
  let v355 : BitVec 32 := Scalar.muli arg16 c16_i32_184
  let c9_i32 : BitVec 32 := 9#32
  let v356 : BitVec 32 := Scalar.addi v355 c9_i32
  let v375 : Index := Scalar.indexCast v356
  let c64_194 : Index := 64#32
  ![v375.toNat, 64]
def k1_off157 (v354 : BitVec 32) : Fin 2 → Nat :=
  let v377 : Index := Scalar.indexCast v354
  let c80_195 : Index := 80#32
  ![v377.toNat, 80]
def k1_off158 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_184 : BitVec 32 := 16#32
  let v355 : BitVec 32 := Scalar.muli arg16 c16_i32_184
  let c9_i32 : BitVec 32 := 9#32
  let v356 : BitVec 32 := Scalar.addi v355 c9_i32
  let v379 : Index := Scalar.indexCast v356
  let c80_196 : Index := 80#32
  ![v379.toNat, 80]
def k1_off159 (v354 : BitVec 32) : Fin 2 → Nat :=
  let v381 : Index := Scalar.indexCast v354
  let c96_197 : Index := 96#32
  ![v381.toNat, 96]
def k1_off160 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_184 : BitVec 32 := 16#32
  let v355 : BitVec 32 := Scalar.muli arg16 c16_i32_184
  let c9_i32 : BitVec 32 := 9#32
  let v356 : BitVec 32 := Scalar.addi v355 c9_i32
  let v383 : Index := Scalar.indexCast v356
  let c96_198 : Index := 96#32
  ![v383.toNat, 96]
def k1_off161 (v354 : BitVec 32) : Fin 2 → Nat :=
  let v385 : Index := Scalar.indexCast v354
  let c112_199 : Index := 112#32
  ![v385.toNat, 112]

def k1_chk10 (v354 : BitVec 32) : Prop :=
  (∀ a, (k1_off147 v354) a + S1x16.size a ≤ S100x128.size a) ∧
  (∀ a, (k1_off149 v354) a + S1x16.size a ≤ S100x128.size a) ∧
  (∀ a, (k1_off151 v354) a + S1x16.size a ≤ S100x128.size a) ∧
  (∀ a, (k1_off153 v354) a + S1x16.size a ≤ S100x128.size a) ∧
  (∀ a, (k1_off155 v354) a + S1x16.size a ≤ S100x128.size a) ∧
  (∀ a, (k1_off157 v354) a + S1x16.size a ≤ S100x128.size a) ∧
  (∀ a, (k1_off159 v354) a + S1x16.size a ≤ S100x128.size a) ∧
  (∀ a, (k1_off161 v354) a + S1x16.size a ≤ S100x128.size a)
theorem k1_off147_inb : ∀ (v354 : BitVec 32) (k1_hw10 : k1_chk10 v354), ∀ a, (k1_off147 v354) a + S1x16.size a ≤ S100x128.size a := fun v354 k1_hw10 => k1_hw10.1
theorem k1_off149_inb : ∀ (v354 : BitVec 32) (k1_hw10 : k1_chk10 v354), ∀ a, (k1_off149 v354) a + S1x16.size a ≤ S100x128.size a := fun v354 k1_hw10 => k1_hw10.2.1
theorem k1_off151_inb : ∀ (v354 : BitVec 32) (k1_hw10 : k1_chk10 v354), ∀ a, (k1_off151 v354) a + S1x16.size a ≤ S100x128.size a := fun v354 k1_hw10 => k1_hw10.2.2.1
theorem k1_off153_inb : ∀ (v354 : BitVec 32) (k1_hw10 : k1_chk10 v354), ∀ a, (k1_off153 v354) a + S1x16.size a ≤ S100x128.size a := fun v354 k1_hw10 => k1_hw10.2.2.2.1
theorem k1_off155_inb : ∀ (v354 : BitVec 32) (k1_hw10 : k1_chk10 v354), ∀ a, (k1_off155 v354) a + S1x16.size a ≤ S100x128.size a := fun v354 k1_hw10 => k1_hw10.2.2.2.2.1
theorem k1_off157_inb : ∀ (v354 : BitVec 32) (k1_hw10 : k1_chk10 v354), ∀ a, (k1_off157 v354) a + S1x16.size a ≤ S100x128.size a := fun v354 k1_hw10 => k1_hw10.2.2.2.2.2.1
theorem k1_off159_inb : ∀ (v354 : BitVec 32) (k1_hw10 : k1_chk10 v354), ∀ a, (k1_off159 v354) a + S1x16.size a ≤ S100x128.size a := fun v354 k1_hw10 => k1_hw10.2.2.2.2.2.2.1
theorem k1_off161_inb : ∀ (v354 : BitVec 32) (k1_hw10 : k1_chk10 v354), ∀ a, (k1_off161 v354) a + S1x16.size a ≤ S100x128.size a := fun v354 k1_hw10 => k1_hw10.2.2.2.2.2.2.2

def k1_off162 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_184 : BitVec 32 := 16#32
  let v355 : BitVec 32 := Scalar.muli arg16 c16_i32_184
  let c9_i32 : BitVec 32 := 9#32
  let v356 : BitVec 32 := Scalar.addi v355 c9_i32
  let v387 : Index := Scalar.indexCast v356
  let c112_200 : Index := 112#32
  ![v387.toNat, 112]
def k1_off163 (v390 : BitVec 32) : Fin 2 → Nat :=
  let v393 : Index := Scalar.indexCast v390
  let c0_202 : Index := 0#32
  ![v393.toNat, 0]

def k1_off164 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_201 : BitVec 32 := 16#32
  let v391 : BitVec 32 := Scalar.muli arg16 c16_i32_201
  let c10_i32 : BitVec 32 := 10#32
  let v392 : BitVec 32 := Scalar.addi v391 c10_i32
  let v395 : Index := Scalar.indexCast v392
  let c0_203 : Index := 0#32
  ![v395.toNat, 0]
def k1_off165 (v390 : BitVec 32) : Fin 2 → Nat :=
  let v397 : Index := Scalar.indexCast v390
  let c16_204 : Index := 16#32
  ![v397.toNat, 16]
def k1_off166 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_201 : BitVec 32 := 16#32
  let v391 : BitVec 32 := Scalar.muli arg16 c16_i32_201
  let c10_i32 : BitVec 32 := 10#32
  let v392 : BitVec 32 := Scalar.addi v391 c10_i32
  let v399 : Index := Scalar.indexCast v392
  let c16_205 : Index := 16#32
  ![v399.toNat, 16]
def k1_off167 (v390 : BitVec 32) : Fin 2 → Nat :=
  let v401 : Index := Scalar.indexCast v390
  let c32_206 : Index := 32#32
  ![v401.toNat, 32]
def k1_off168 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_201 : BitVec 32 := 16#32
  let v391 : BitVec 32 := Scalar.muli arg16 c16_i32_201
  let c10_i32 : BitVec 32 := 10#32
  let v392 : BitVec 32 := Scalar.addi v391 c10_i32
  let v403 : Index := Scalar.indexCast v392
  let c32_207 : Index := 32#32
  ![v403.toNat, 32]
def k1_off169 (v390 : BitVec 32) : Fin 2 → Nat :=
  let v405 : Index := Scalar.indexCast v390
  let c48_208 : Index := 48#32
  ![v405.toNat, 48]
def k1_off170 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_201 : BitVec 32 := 16#32
  let v391 : BitVec 32 := Scalar.muli arg16 c16_i32_201
  let c10_i32 : BitVec 32 := 10#32
  let v392 : BitVec 32 := Scalar.addi v391 c10_i32
  let v407 : Index := Scalar.indexCast v392
  let c48_209 : Index := 48#32
  ![v407.toNat, 48]
def k1_off171 (v390 : BitVec 32) : Fin 2 → Nat :=
  let v409 : Index := Scalar.indexCast v390
  let c64_210 : Index := 64#32
  ![v409.toNat, 64]
def k1_off172 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_201 : BitVec 32 := 16#32
  let v391 : BitVec 32 := Scalar.muli arg16 c16_i32_201
  let c10_i32 : BitVec 32 := 10#32
  let v392 : BitVec 32 := Scalar.addi v391 c10_i32
  let v411 : Index := Scalar.indexCast v392
  let c64_211 : Index := 64#32
  ![v411.toNat, 64]
def k1_off173 (v390 : BitVec 32) : Fin 2 → Nat :=
  let v413 : Index := Scalar.indexCast v390
  let c80_212 : Index := 80#32
  ![v413.toNat, 80]
def k1_off174 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_201 : BitVec 32 := 16#32
  let v391 : BitVec 32 := Scalar.muli arg16 c16_i32_201
  let c10_i32 : BitVec 32 := 10#32
  let v392 : BitVec 32 := Scalar.addi v391 c10_i32
  let v415 : Index := Scalar.indexCast v392
  let c80_213 : Index := 80#32
  ![v415.toNat, 80]
def k1_off175 (v390 : BitVec 32) : Fin 2 → Nat :=
  let v417 : Index := Scalar.indexCast v390
  let c96_214 : Index := 96#32
  ![v417.toNat, 96]
def k1_off176 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_201 : BitVec 32 := 16#32
  let v391 : BitVec 32 := Scalar.muli arg16 c16_i32_201
  let c10_i32 : BitVec 32 := 10#32
  let v392 : BitVec 32 := Scalar.addi v391 c10_i32
  let v419 : Index := Scalar.indexCast v392
  let c96_215 : Index := 96#32
  ![v419.toNat, 96]
def k1_off177 (v390 : BitVec 32) : Fin 2 → Nat :=
  let v421 : Index := Scalar.indexCast v390
  let c112_216 : Index := 112#32
  ![v421.toNat, 112]

def k1_chk11 (v390 : BitVec 32) : Prop :=
  (∀ a, (k1_off163 v390) a + S1x16.size a ≤ S100x128.size a) ∧
  (∀ a, (k1_off165 v390) a + S1x16.size a ≤ S100x128.size a) ∧
  (∀ a, (k1_off167 v390) a + S1x16.size a ≤ S100x128.size a) ∧
  (∀ a, (k1_off169 v390) a + S1x16.size a ≤ S100x128.size a) ∧
  (∀ a, (k1_off171 v390) a + S1x16.size a ≤ S100x128.size a) ∧
  (∀ a, (k1_off173 v390) a + S1x16.size a ≤ S100x128.size a) ∧
  (∀ a, (k1_off175 v390) a + S1x16.size a ≤ S100x128.size a) ∧
  (∀ a, (k1_off177 v390) a + S1x16.size a ≤ S100x128.size a)
theorem k1_off163_inb : ∀ (v390 : BitVec 32) (k1_hw11 : k1_chk11 v390), ∀ a, (k1_off163 v390) a + S1x16.size a ≤ S100x128.size a := fun v390 k1_hw11 => k1_hw11.1
theorem k1_off165_inb : ∀ (v390 : BitVec 32) (k1_hw11 : k1_chk11 v390), ∀ a, (k1_off165 v390) a + S1x16.size a ≤ S100x128.size a := fun v390 k1_hw11 => k1_hw11.2.1
theorem k1_off167_inb : ∀ (v390 : BitVec 32) (k1_hw11 : k1_chk11 v390), ∀ a, (k1_off167 v390) a + S1x16.size a ≤ S100x128.size a := fun v390 k1_hw11 => k1_hw11.2.2.1
theorem k1_off169_inb : ∀ (v390 : BitVec 32) (k1_hw11 : k1_chk11 v390), ∀ a, (k1_off169 v390) a + S1x16.size a ≤ S100x128.size a := fun v390 k1_hw11 => k1_hw11.2.2.2.1
theorem k1_off171_inb : ∀ (v390 : BitVec 32) (k1_hw11 : k1_chk11 v390), ∀ a, (k1_off171 v390) a + S1x16.size a ≤ S100x128.size a := fun v390 k1_hw11 => k1_hw11.2.2.2.2.1
theorem k1_off173_inb : ∀ (v390 : BitVec 32) (k1_hw11 : k1_chk11 v390), ∀ a, (k1_off173 v390) a + S1x16.size a ≤ S100x128.size a := fun v390 k1_hw11 => k1_hw11.2.2.2.2.2.1
theorem k1_off175_inb : ∀ (v390 : BitVec 32) (k1_hw11 : k1_chk11 v390), ∀ a, (k1_off175 v390) a + S1x16.size a ≤ S100x128.size a := fun v390 k1_hw11 => k1_hw11.2.2.2.2.2.2.1
theorem k1_off177_inb : ∀ (v390 : BitVec 32) (k1_hw11 : k1_chk11 v390), ∀ a, (k1_off177 v390) a + S1x16.size a ≤ S100x128.size a := fun v390 k1_hw11 => k1_hw11.2.2.2.2.2.2.2

def k1_off178 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_201 : BitVec 32 := 16#32
  let v391 : BitVec 32 := Scalar.muli arg16 c16_i32_201
  let c10_i32 : BitVec 32 := 10#32
  let v392 : BitVec 32 := Scalar.addi v391 c10_i32
  let v423 : Index := Scalar.indexCast v392
  let c112_217 : Index := 112#32
  ![v423.toNat, 112]
def k1_off179 (v426 : BitVec 32) : Fin 2 → Nat :=
  let v429 : Index := Scalar.indexCast v426
  let c0_219 : Index := 0#32
  ![v429.toNat, 0]

def k1_off180 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_218 : BitVec 32 := 16#32
  let v427 : BitVec 32 := Scalar.muli arg16 c16_i32_218
  let c11_i32 : BitVec 32 := 11#32
  let v428 : BitVec 32 := Scalar.addi v427 c11_i32
  let v431 : Index := Scalar.indexCast v428
  let c0_220 : Index := 0#32
  ![v431.toNat, 0]
def k1_off181 (v426 : BitVec 32) : Fin 2 → Nat :=
  let v433 : Index := Scalar.indexCast v426
  let c16_221 : Index := 16#32
  ![v433.toNat, 16]
def k1_off182 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_218 : BitVec 32 := 16#32
  let v427 : BitVec 32 := Scalar.muli arg16 c16_i32_218
  let c11_i32 : BitVec 32 := 11#32
  let v428 : BitVec 32 := Scalar.addi v427 c11_i32
  let v435 : Index := Scalar.indexCast v428
  let c16_222 : Index := 16#32
  ![v435.toNat, 16]
def k1_off183 (v426 : BitVec 32) : Fin 2 → Nat :=
  let v437 : Index := Scalar.indexCast v426
  let c32_223 : Index := 32#32
  ![v437.toNat, 32]
def k1_off184 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_218 : BitVec 32 := 16#32
  let v427 : BitVec 32 := Scalar.muli arg16 c16_i32_218
  let c11_i32 : BitVec 32 := 11#32
  let v428 : BitVec 32 := Scalar.addi v427 c11_i32
  let v439 : Index := Scalar.indexCast v428
  let c32_224 : Index := 32#32
  ![v439.toNat, 32]
def k1_off185 (v426 : BitVec 32) : Fin 2 → Nat :=
  let v441 : Index := Scalar.indexCast v426
  let c48_225 : Index := 48#32
  ![v441.toNat, 48]
def k1_off186 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_218 : BitVec 32 := 16#32
  let v427 : BitVec 32 := Scalar.muli arg16 c16_i32_218
  let c11_i32 : BitVec 32 := 11#32
  let v428 : BitVec 32 := Scalar.addi v427 c11_i32
  let v443 : Index := Scalar.indexCast v428
  let c48_226 : Index := 48#32
  ![v443.toNat, 48]
def k1_off187 (v426 : BitVec 32) : Fin 2 → Nat :=
  let v445 : Index := Scalar.indexCast v426
  let c64_227 : Index := 64#32
  ![v445.toNat, 64]
def k1_off188 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_218 : BitVec 32 := 16#32
  let v427 : BitVec 32 := Scalar.muli arg16 c16_i32_218
  let c11_i32 : BitVec 32 := 11#32
  let v428 : BitVec 32 := Scalar.addi v427 c11_i32
  let v447 : Index := Scalar.indexCast v428
  let c64_228 : Index := 64#32
  ![v447.toNat, 64]
def k1_off189 (v426 : BitVec 32) : Fin 2 → Nat :=
  let v449 : Index := Scalar.indexCast v426
  let c80_229 : Index := 80#32
  ![v449.toNat, 80]
def k1_off190 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_218 : BitVec 32 := 16#32
  let v427 : BitVec 32 := Scalar.muli arg16 c16_i32_218
  let c11_i32 : BitVec 32 := 11#32
  let v428 : BitVec 32 := Scalar.addi v427 c11_i32
  let v451 : Index := Scalar.indexCast v428
  let c80_230 : Index := 80#32
  ![v451.toNat, 80]
def k1_off191 (v426 : BitVec 32) : Fin 2 → Nat :=
  let v453 : Index := Scalar.indexCast v426
  let c96_231 : Index := 96#32
  ![v453.toNat, 96]
def k1_off192 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_218 : BitVec 32 := 16#32
  let v427 : BitVec 32 := Scalar.muli arg16 c16_i32_218
  let c11_i32 : BitVec 32 := 11#32
  let v428 : BitVec 32 := Scalar.addi v427 c11_i32
  let v455 : Index := Scalar.indexCast v428
  let c96_232 : Index := 96#32
  ![v455.toNat, 96]
def k1_off193 (v426 : BitVec 32) : Fin 2 → Nat :=
  let v457 : Index := Scalar.indexCast v426
  let c112_233 : Index := 112#32
  ![v457.toNat, 112]

def k1_chk12 (v426 : BitVec 32) : Prop :=
  (∀ a, (k1_off179 v426) a + S1x16.size a ≤ S100x128.size a) ∧
  (∀ a, (k1_off181 v426) a + S1x16.size a ≤ S100x128.size a) ∧
  (∀ a, (k1_off183 v426) a + S1x16.size a ≤ S100x128.size a) ∧
  (∀ a, (k1_off185 v426) a + S1x16.size a ≤ S100x128.size a) ∧
  (∀ a, (k1_off187 v426) a + S1x16.size a ≤ S100x128.size a) ∧
  (∀ a, (k1_off189 v426) a + S1x16.size a ≤ S100x128.size a) ∧
  (∀ a, (k1_off191 v426) a + S1x16.size a ≤ S100x128.size a) ∧
  (∀ a, (k1_off193 v426) a + S1x16.size a ≤ S100x128.size a)
theorem k1_off179_inb : ∀ (v426 : BitVec 32) (k1_hw12 : k1_chk12 v426), ∀ a, (k1_off179 v426) a + S1x16.size a ≤ S100x128.size a := fun v426 k1_hw12 => k1_hw12.1
theorem k1_off181_inb : ∀ (v426 : BitVec 32) (k1_hw12 : k1_chk12 v426), ∀ a, (k1_off181 v426) a + S1x16.size a ≤ S100x128.size a := fun v426 k1_hw12 => k1_hw12.2.1
theorem k1_off183_inb : ∀ (v426 : BitVec 32) (k1_hw12 : k1_chk12 v426), ∀ a, (k1_off183 v426) a + S1x16.size a ≤ S100x128.size a := fun v426 k1_hw12 => k1_hw12.2.2.1
theorem k1_off185_inb : ∀ (v426 : BitVec 32) (k1_hw12 : k1_chk12 v426), ∀ a, (k1_off185 v426) a + S1x16.size a ≤ S100x128.size a := fun v426 k1_hw12 => k1_hw12.2.2.2.1
theorem k1_off187_inb : ∀ (v426 : BitVec 32) (k1_hw12 : k1_chk12 v426), ∀ a, (k1_off187 v426) a + S1x16.size a ≤ S100x128.size a := fun v426 k1_hw12 => k1_hw12.2.2.2.2.1
theorem k1_off189_inb : ∀ (v426 : BitVec 32) (k1_hw12 : k1_chk12 v426), ∀ a, (k1_off189 v426) a + S1x16.size a ≤ S100x128.size a := fun v426 k1_hw12 => k1_hw12.2.2.2.2.2.1
theorem k1_off191_inb : ∀ (v426 : BitVec 32) (k1_hw12 : k1_chk12 v426), ∀ a, (k1_off191 v426) a + S1x16.size a ≤ S100x128.size a := fun v426 k1_hw12 => k1_hw12.2.2.2.2.2.2.1
theorem k1_off193_inb : ∀ (v426 : BitVec 32) (k1_hw12 : k1_chk12 v426), ∀ a, (k1_off193 v426) a + S1x16.size a ≤ S100x128.size a := fun v426 k1_hw12 => k1_hw12.2.2.2.2.2.2.2

def k1_off194 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_218 : BitVec 32 := 16#32
  let v427 : BitVec 32 := Scalar.muli arg16 c16_i32_218
  let c11_i32 : BitVec 32 := 11#32
  let v428 : BitVec 32 := Scalar.addi v427 c11_i32
  let v459 : Index := Scalar.indexCast v428
  let c112_234 : Index := 112#32
  ![v459.toNat, 112]
def k1_off195 (v462 : BitVec 32) : Fin 2 → Nat :=
  let v465 : Index := Scalar.indexCast v462
  let c0_236 : Index := 0#32
  ![v465.toNat, 0]

def k1_off196 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_235 : BitVec 32 := 16#32
  let v463 : BitVec 32 := Scalar.muli arg16 c16_i32_235
  let c12_i32 : BitVec 32 := 12#32
  let v464 : BitVec 32 := Scalar.addi v463 c12_i32
  let v467 : Index := Scalar.indexCast v464
  let c0_237 : Index := 0#32
  ![v467.toNat, 0]
def k1_off197 (v462 : BitVec 32) : Fin 2 → Nat :=
  let v469 : Index := Scalar.indexCast v462
  let c16_238 : Index := 16#32
  ![v469.toNat, 16]
def k1_off198 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_235 : BitVec 32 := 16#32
  let v463 : BitVec 32 := Scalar.muli arg16 c16_i32_235
  let c12_i32 : BitVec 32 := 12#32
  let v464 : BitVec 32 := Scalar.addi v463 c12_i32
  let v471 : Index := Scalar.indexCast v464
  let c16_239 : Index := 16#32
  ![v471.toNat, 16]
def k1_off199 (v462 : BitVec 32) : Fin 2 → Nat :=
  let v473 : Index := Scalar.indexCast v462
  let c32_240 : Index := 32#32
  ![v473.toNat, 32]
def k1_off200 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_235 : BitVec 32 := 16#32
  let v463 : BitVec 32 := Scalar.muli arg16 c16_i32_235
  let c12_i32 : BitVec 32 := 12#32
  let v464 : BitVec 32 := Scalar.addi v463 c12_i32
  let v475 : Index := Scalar.indexCast v464
  let c32_241 : Index := 32#32
  ![v475.toNat, 32]
def k1_off201 (v462 : BitVec 32) : Fin 2 → Nat :=
  let v477 : Index := Scalar.indexCast v462
  let c48_242 : Index := 48#32
  ![v477.toNat, 48]
def k1_off202 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_235 : BitVec 32 := 16#32
  let v463 : BitVec 32 := Scalar.muli arg16 c16_i32_235
  let c12_i32 : BitVec 32 := 12#32
  let v464 : BitVec 32 := Scalar.addi v463 c12_i32
  let v479 : Index := Scalar.indexCast v464
  let c48_243 : Index := 48#32
  ![v479.toNat, 48]
def k1_off203 (v462 : BitVec 32) : Fin 2 → Nat :=
  let v481 : Index := Scalar.indexCast v462
  let c64_244 : Index := 64#32
  ![v481.toNat, 64]
def k1_off204 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_235 : BitVec 32 := 16#32
  let v463 : BitVec 32 := Scalar.muli arg16 c16_i32_235
  let c12_i32 : BitVec 32 := 12#32
  let v464 : BitVec 32 := Scalar.addi v463 c12_i32
  let v483 : Index := Scalar.indexCast v464
  let c64_245 : Index := 64#32
  ![v483.toNat, 64]
def k1_off205 (v462 : BitVec 32) : Fin 2 → Nat :=
  let v485 : Index := Scalar.indexCast v462
  let c80_246 : Index := 80#32
  ![v485.toNat, 80]
def k1_off206 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_235 : BitVec 32 := 16#32
  let v463 : BitVec 32 := Scalar.muli arg16 c16_i32_235
  let c12_i32 : BitVec 32 := 12#32
  let v464 : BitVec 32 := Scalar.addi v463 c12_i32
  let v487 : Index := Scalar.indexCast v464
  let c80_247 : Index := 80#32
  ![v487.toNat, 80]
def k1_off207 (v462 : BitVec 32) : Fin 2 → Nat :=
  let v489 : Index := Scalar.indexCast v462
  let c96_248 : Index := 96#32
  ![v489.toNat, 96]
def k1_off208 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_235 : BitVec 32 := 16#32
  let v463 : BitVec 32 := Scalar.muli arg16 c16_i32_235
  let c12_i32 : BitVec 32 := 12#32
  let v464 : BitVec 32 := Scalar.addi v463 c12_i32
  let v491 : Index := Scalar.indexCast v464
  let c96_249 : Index := 96#32
  ![v491.toNat, 96]
def k1_off209 (v462 : BitVec 32) : Fin 2 → Nat :=
  let v493 : Index := Scalar.indexCast v462
  let c112_250 : Index := 112#32
  ![v493.toNat, 112]

def k1_chk13 (v462 : BitVec 32) : Prop :=
  (∀ a, (k1_off195 v462) a + S1x16.size a ≤ S100x128.size a) ∧
  (∀ a, (k1_off197 v462) a + S1x16.size a ≤ S100x128.size a) ∧
  (∀ a, (k1_off199 v462) a + S1x16.size a ≤ S100x128.size a) ∧
  (∀ a, (k1_off201 v462) a + S1x16.size a ≤ S100x128.size a) ∧
  (∀ a, (k1_off203 v462) a + S1x16.size a ≤ S100x128.size a) ∧
  (∀ a, (k1_off205 v462) a + S1x16.size a ≤ S100x128.size a) ∧
  (∀ a, (k1_off207 v462) a + S1x16.size a ≤ S100x128.size a) ∧
  (∀ a, (k1_off209 v462) a + S1x16.size a ≤ S100x128.size a)
theorem k1_off195_inb : ∀ (v462 : BitVec 32) (k1_hw13 : k1_chk13 v462), ∀ a, (k1_off195 v462) a + S1x16.size a ≤ S100x128.size a := fun v462 k1_hw13 => k1_hw13.1
theorem k1_off197_inb : ∀ (v462 : BitVec 32) (k1_hw13 : k1_chk13 v462), ∀ a, (k1_off197 v462) a + S1x16.size a ≤ S100x128.size a := fun v462 k1_hw13 => k1_hw13.2.1
theorem k1_off199_inb : ∀ (v462 : BitVec 32) (k1_hw13 : k1_chk13 v462), ∀ a, (k1_off199 v462) a + S1x16.size a ≤ S100x128.size a := fun v462 k1_hw13 => k1_hw13.2.2.1
theorem k1_off201_inb : ∀ (v462 : BitVec 32) (k1_hw13 : k1_chk13 v462), ∀ a, (k1_off201 v462) a + S1x16.size a ≤ S100x128.size a := fun v462 k1_hw13 => k1_hw13.2.2.2.1
theorem k1_off203_inb : ∀ (v462 : BitVec 32) (k1_hw13 : k1_chk13 v462), ∀ a, (k1_off203 v462) a + S1x16.size a ≤ S100x128.size a := fun v462 k1_hw13 => k1_hw13.2.2.2.2.1
theorem k1_off205_inb : ∀ (v462 : BitVec 32) (k1_hw13 : k1_chk13 v462), ∀ a, (k1_off205 v462) a + S1x16.size a ≤ S100x128.size a := fun v462 k1_hw13 => k1_hw13.2.2.2.2.2.1
theorem k1_off207_inb : ∀ (v462 : BitVec 32) (k1_hw13 : k1_chk13 v462), ∀ a, (k1_off207 v462) a + S1x16.size a ≤ S100x128.size a := fun v462 k1_hw13 => k1_hw13.2.2.2.2.2.2.1
theorem k1_off209_inb : ∀ (v462 : BitVec 32) (k1_hw13 : k1_chk13 v462), ∀ a, (k1_off209 v462) a + S1x16.size a ≤ S100x128.size a := fun v462 k1_hw13 => k1_hw13.2.2.2.2.2.2.2

def k1_off210 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_235 : BitVec 32 := 16#32
  let v463 : BitVec 32 := Scalar.muli arg16 c16_i32_235
  let c12_i32 : BitVec 32 := 12#32
  let v464 : BitVec 32 := Scalar.addi v463 c12_i32
  let v495 : Index := Scalar.indexCast v464
  let c112_251 : Index := 112#32
  ![v495.toNat, 112]
def k1_off211 (v498 : BitVec 32) : Fin 2 → Nat :=
  let v501 : Index := Scalar.indexCast v498
  let c0_253 : Index := 0#32
  ![v501.toNat, 0]

def k1_off212 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_252 : BitVec 32 := 16#32
  let v499 : BitVec 32 := Scalar.muli arg16 c16_i32_252
  let c13_i32 : BitVec 32 := 13#32
  let v500 : BitVec 32 := Scalar.addi v499 c13_i32
  let v503 : Index := Scalar.indexCast v500
  let c0_254 : Index := 0#32
  ![v503.toNat, 0]
def k1_off213 (v498 : BitVec 32) : Fin 2 → Nat :=
  let v505 : Index := Scalar.indexCast v498
  let c16_255 : Index := 16#32
  ![v505.toNat, 16]
def k1_off214 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_252 : BitVec 32 := 16#32
  let v499 : BitVec 32 := Scalar.muli arg16 c16_i32_252
  let c13_i32 : BitVec 32 := 13#32
  let v500 : BitVec 32 := Scalar.addi v499 c13_i32
  let v507 : Index := Scalar.indexCast v500
  let c16_256 : Index := 16#32
  ![v507.toNat, 16]
def k1_off215 (v498 : BitVec 32) : Fin 2 → Nat :=
  let v509 : Index := Scalar.indexCast v498
  let c32_257 : Index := 32#32
  ![v509.toNat, 32]
def k1_off216 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_252 : BitVec 32 := 16#32
  let v499 : BitVec 32 := Scalar.muli arg16 c16_i32_252
  let c13_i32 : BitVec 32 := 13#32
  let v500 : BitVec 32 := Scalar.addi v499 c13_i32
  let v511 : Index := Scalar.indexCast v500
  let c32_258 : Index := 32#32
  ![v511.toNat, 32]
def k1_off217 (v498 : BitVec 32) : Fin 2 → Nat :=
  let v513 : Index := Scalar.indexCast v498
  let c48_259 : Index := 48#32
  ![v513.toNat, 48]
def k1_off218 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_252 : BitVec 32 := 16#32
  let v499 : BitVec 32 := Scalar.muli arg16 c16_i32_252
  let c13_i32 : BitVec 32 := 13#32
  let v500 : BitVec 32 := Scalar.addi v499 c13_i32
  let v515 : Index := Scalar.indexCast v500
  let c48_260 : Index := 48#32
  ![v515.toNat, 48]
def k1_off219 (v498 : BitVec 32) : Fin 2 → Nat :=
  let v517 : Index := Scalar.indexCast v498
  let c64_261 : Index := 64#32
  ![v517.toNat, 64]
def k1_off220 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_252 : BitVec 32 := 16#32
  let v499 : BitVec 32 := Scalar.muli arg16 c16_i32_252
  let c13_i32 : BitVec 32 := 13#32
  let v500 : BitVec 32 := Scalar.addi v499 c13_i32
  let v519 : Index := Scalar.indexCast v500
  let c64_262 : Index := 64#32
  ![v519.toNat, 64]
def k1_off221 (v498 : BitVec 32) : Fin 2 → Nat :=
  let v521 : Index := Scalar.indexCast v498
  let c80_263 : Index := 80#32
  ![v521.toNat, 80]
def k1_off222 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_252 : BitVec 32 := 16#32
  let v499 : BitVec 32 := Scalar.muli arg16 c16_i32_252
  let c13_i32 : BitVec 32 := 13#32
  let v500 : BitVec 32 := Scalar.addi v499 c13_i32
  let v523 : Index := Scalar.indexCast v500
  let c80_264 : Index := 80#32
  ![v523.toNat, 80]
def k1_off223 (v498 : BitVec 32) : Fin 2 → Nat :=
  let v525 : Index := Scalar.indexCast v498
  let c96_265 : Index := 96#32
  ![v525.toNat, 96]
def k1_off224 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_252 : BitVec 32 := 16#32
  let v499 : BitVec 32 := Scalar.muli arg16 c16_i32_252
  let c13_i32 : BitVec 32 := 13#32
  let v500 : BitVec 32 := Scalar.addi v499 c13_i32
  let v527 : Index := Scalar.indexCast v500
  let c96_266 : Index := 96#32
  ![v527.toNat, 96]
def k1_off225 (v498 : BitVec 32) : Fin 2 → Nat :=
  let v529 : Index := Scalar.indexCast v498
  let c112_267 : Index := 112#32
  ![v529.toNat, 112]

def k1_chk14 (v498 : BitVec 32) : Prop :=
  (∀ a, (k1_off211 v498) a + S1x16.size a ≤ S100x128.size a) ∧
  (∀ a, (k1_off213 v498) a + S1x16.size a ≤ S100x128.size a) ∧
  (∀ a, (k1_off215 v498) a + S1x16.size a ≤ S100x128.size a) ∧
  (∀ a, (k1_off217 v498) a + S1x16.size a ≤ S100x128.size a) ∧
  (∀ a, (k1_off219 v498) a + S1x16.size a ≤ S100x128.size a) ∧
  (∀ a, (k1_off221 v498) a + S1x16.size a ≤ S100x128.size a) ∧
  (∀ a, (k1_off223 v498) a + S1x16.size a ≤ S100x128.size a) ∧
  (∀ a, (k1_off225 v498) a + S1x16.size a ≤ S100x128.size a)
theorem k1_off211_inb : ∀ (v498 : BitVec 32) (k1_hw14 : k1_chk14 v498), ∀ a, (k1_off211 v498) a + S1x16.size a ≤ S100x128.size a := fun v498 k1_hw14 => k1_hw14.1
theorem k1_off213_inb : ∀ (v498 : BitVec 32) (k1_hw14 : k1_chk14 v498), ∀ a, (k1_off213 v498) a + S1x16.size a ≤ S100x128.size a := fun v498 k1_hw14 => k1_hw14.2.1
theorem k1_off215_inb : ∀ (v498 : BitVec 32) (k1_hw14 : k1_chk14 v498), ∀ a, (k1_off215 v498) a + S1x16.size a ≤ S100x128.size a := fun v498 k1_hw14 => k1_hw14.2.2.1
theorem k1_off217_inb : ∀ (v498 : BitVec 32) (k1_hw14 : k1_chk14 v498), ∀ a, (k1_off217 v498) a + S1x16.size a ≤ S100x128.size a := fun v498 k1_hw14 => k1_hw14.2.2.2.1
theorem k1_off219_inb : ∀ (v498 : BitVec 32) (k1_hw14 : k1_chk14 v498), ∀ a, (k1_off219 v498) a + S1x16.size a ≤ S100x128.size a := fun v498 k1_hw14 => k1_hw14.2.2.2.2.1
theorem k1_off221_inb : ∀ (v498 : BitVec 32) (k1_hw14 : k1_chk14 v498), ∀ a, (k1_off221 v498) a + S1x16.size a ≤ S100x128.size a := fun v498 k1_hw14 => k1_hw14.2.2.2.2.2.1
theorem k1_off223_inb : ∀ (v498 : BitVec 32) (k1_hw14 : k1_chk14 v498), ∀ a, (k1_off223 v498) a + S1x16.size a ≤ S100x128.size a := fun v498 k1_hw14 => k1_hw14.2.2.2.2.2.2.1
theorem k1_off225_inb : ∀ (v498 : BitVec 32) (k1_hw14 : k1_chk14 v498), ∀ a, (k1_off225 v498) a + S1x16.size a ≤ S100x128.size a := fun v498 k1_hw14 => k1_hw14.2.2.2.2.2.2.2

def k1_off226 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_252 : BitVec 32 := 16#32
  let v499 : BitVec 32 := Scalar.muli arg16 c16_i32_252
  let c13_i32 : BitVec 32 := 13#32
  let v500 : BitVec 32 := Scalar.addi v499 c13_i32
  let v531 : Index := Scalar.indexCast v500
  let c112_268 : Index := 112#32
  ![v531.toNat, 112]
def k1_off227 (v534 : BitVec 32) : Fin 2 → Nat :=
  let v537 : Index := Scalar.indexCast v534
  let c0_270 : Index := 0#32
  ![v537.toNat, 0]

def k1_off228 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_269 : BitVec 32 := 16#32
  let v535 : BitVec 32 := Scalar.muli arg16 c16_i32_269
  let c14_i32 : BitVec 32 := 14#32
  let v536 : BitVec 32 := Scalar.addi v535 c14_i32
  let v539 : Index := Scalar.indexCast v536
  let c0_271 : Index := 0#32
  ![v539.toNat, 0]
def k1_off229 (v534 : BitVec 32) : Fin 2 → Nat :=
  let v541 : Index := Scalar.indexCast v534
  let c16_272 : Index := 16#32
  ![v541.toNat, 16]
def k1_off230 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_269 : BitVec 32 := 16#32
  let v535 : BitVec 32 := Scalar.muli arg16 c16_i32_269
  let c14_i32 : BitVec 32 := 14#32
  let v536 : BitVec 32 := Scalar.addi v535 c14_i32
  let v543 : Index := Scalar.indexCast v536
  let c16_273 : Index := 16#32
  ![v543.toNat, 16]
def k1_off231 (v534 : BitVec 32) : Fin 2 → Nat :=
  let v545 : Index := Scalar.indexCast v534
  let c32_274 : Index := 32#32
  ![v545.toNat, 32]
def k1_off232 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_269 : BitVec 32 := 16#32
  let v535 : BitVec 32 := Scalar.muli arg16 c16_i32_269
  let c14_i32 : BitVec 32 := 14#32
  let v536 : BitVec 32 := Scalar.addi v535 c14_i32
  let v547 : Index := Scalar.indexCast v536
  let c32_275 : Index := 32#32
  ![v547.toNat, 32]
def k1_off233 (v534 : BitVec 32) : Fin 2 → Nat :=
  let v549 : Index := Scalar.indexCast v534
  let c48_276 : Index := 48#32
  ![v549.toNat, 48]
def k1_off234 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_269 : BitVec 32 := 16#32
  let v535 : BitVec 32 := Scalar.muli arg16 c16_i32_269
  let c14_i32 : BitVec 32 := 14#32
  let v536 : BitVec 32 := Scalar.addi v535 c14_i32
  let v551 : Index := Scalar.indexCast v536
  let c48_277 : Index := 48#32
  ![v551.toNat, 48]
def k1_off235 (v534 : BitVec 32) : Fin 2 → Nat :=
  let v553 : Index := Scalar.indexCast v534
  let c64_278 : Index := 64#32
  ![v553.toNat, 64]
def k1_off236 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_269 : BitVec 32 := 16#32
  let v535 : BitVec 32 := Scalar.muli arg16 c16_i32_269
  let c14_i32 : BitVec 32 := 14#32
  let v536 : BitVec 32 := Scalar.addi v535 c14_i32
  let v555 : Index := Scalar.indexCast v536
  let c64_279 : Index := 64#32
  ![v555.toNat, 64]
def k1_off237 (v534 : BitVec 32) : Fin 2 → Nat :=
  let v557 : Index := Scalar.indexCast v534
  let c80_280 : Index := 80#32
  ![v557.toNat, 80]
def k1_off238 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_269 : BitVec 32 := 16#32
  let v535 : BitVec 32 := Scalar.muli arg16 c16_i32_269
  let c14_i32 : BitVec 32 := 14#32
  let v536 : BitVec 32 := Scalar.addi v535 c14_i32
  let v559 : Index := Scalar.indexCast v536
  let c80_281 : Index := 80#32
  ![v559.toNat, 80]
def k1_off239 (v534 : BitVec 32) : Fin 2 → Nat :=
  let v561 : Index := Scalar.indexCast v534
  let c96_282 : Index := 96#32
  ![v561.toNat, 96]
def k1_off240 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_269 : BitVec 32 := 16#32
  let v535 : BitVec 32 := Scalar.muli arg16 c16_i32_269
  let c14_i32 : BitVec 32 := 14#32
  let v536 : BitVec 32 := Scalar.addi v535 c14_i32
  let v563 : Index := Scalar.indexCast v536
  let c96_283 : Index := 96#32
  ![v563.toNat, 96]
def k1_off241 (v534 : BitVec 32) : Fin 2 → Nat :=
  let v565 : Index := Scalar.indexCast v534
  let c112_284 : Index := 112#32
  ![v565.toNat, 112]

def k1_chk15 (v534 : BitVec 32) : Prop :=
  (∀ a, (k1_off227 v534) a + S1x16.size a ≤ S100x128.size a) ∧
  (∀ a, (k1_off229 v534) a + S1x16.size a ≤ S100x128.size a) ∧
  (∀ a, (k1_off231 v534) a + S1x16.size a ≤ S100x128.size a) ∧
  (∀ a, (k1_off233 v534) a + S1x16.size a ≤ S100x128.size a) ∧
  (∀ a, (k1_off235 v534) a + S1x16.size a ≤ S100x128.size a) ∧
  (∀ a, (k1_off237 v534) a + S1x16.size a ≤ S100x128.size a) ∧
  (∀ a, (k1_off239 v534) a + S1x16.size a ≤ S100x128.size a) ∧
  (∀ a, (k1_off241 v534) a + S1x16.size a ≤ S100x128.size a)
theorem k1_off227_inb : ∀ (v534 : BitVec 32) (k1_hw15 : k1_chk15 v534), ∀ a, (k1_off227 v534) a + S1x16.size a ≤ S100x128.size a := fun v534 k1_hw15 => k1_hw15.1
theorem k1_off229_inb : ∀ (v534 : BitVec 32) (k1_hw15 : k1_chk15 v534), ∀ a, (k1_off229 v534) a + S1x16.size a ≤ S100x128.size a := fun v534 k1_hw15 => k1_hw15.2.1
theorem k1_off231_inb : ∀ (v534 : BitVec 32) (k1_hw15 : k1_chk15 v534), ∀ a, (k1_off231 v534) a + S1x16.size a ≤ S100x128.size a := fun v534 k1_hw15 => k1_hw15.2.2.1
theorem k1_off233_inb : ∀ (v534 : BitVec 32) (k1_hw15 : k1_chk15 v534), ∀ a, (k1_off233 v534) a + S1x16.size a ≤ S100x128.size a := fun v534 k1_hw15 => k1_hw15.2.2.2.1
theorem k1_off235_inb : ∀ (v534 : BitVec 32) (k1_hw15 : k1_chk15 v534), ∀ a, (k1_off235 v534) a + S1x16.size a ≤ S100x128.size a := fun v534 k1_hw15 => k1_hw15.2.2.2.2.1
theorem k1_off237_inb : ∀ (v534 : BitVec 32) (k1_hw15 : k1_chk15 v534), ∀ a, (k1_off237 v534) a + S1x16.size a ≤ S100x128.size a := fun v534 k1_hw15 => k1_hw15.2.2.2.2.2.1
theorem k1_off239_inb : ∀ (v534 : BitVec 32) (k1_hw15 : k1_chk15 v534), ∀ a, (k1_off239 v534) a + S1x16.size a ≤ S100x128.size a := fun v534 k1_hw15 => k1_hw15.2.2.2.2.2.2.1
theorem k1_off241_inb : ∀ (v534 : BitVec 32) (k1_hw15 : k1_chk15 v534), ∀ a, (k1_off241 v534) a + S1x16.size a ≤ S100x128.size a := fun v534 k1_hw15 => k1_hw15.2.2.2.2.2.2.2

def k1_off242 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_269 : BitVec 32 := 16#32
  let v535 : BitVec 32 := Scalar.muli arg16 c16_i32_269
  let c14_i32 : BitVec 32 := 14#32
  let v536 : BitVec 32 := Scalar.addi v535 c14_i32
  let v567 : Index := Scalar.indexCast v536
  let c112_285 : Index := 112#32
  ![v567.toNat, 112]
def k1_off243 (v570 : BitVec 32) : Fin 2 → Nat :=
  let v573 : Index := Scalar.indexCast v570
  let c0_287 : Index := 0#32
  ![v573.toNat, 0]

def k1_off244 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_286 : BitVec 32 := 16#32
  let v571 : BitVec 32 := Scalar.muli arg16 c16_i32_286
  let c15_i32 : BitVec 32 := 15#32
  let v572 : BitVec 32 := Scalar.addi v571 c15_i32
  let v575 : Index := Scalar.indexCast v572
  let c0_288 : Index := 0#32
  ![v575.toNat, 0]
def k1_off245 (v570 : BitVec 32) : Fin 2 → Nat :=
  let v577 : Index := Scalar.indexCast v570
  let c16_289 : Index := 16#32
  ![v577.toNat, 16]
def k1_off246 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_286 : BitVec 32 := 16#32
  let v571 : BitVec 32 := Scalar.muli arg16 c16_i32_286
  let c15_i32 : BitVec 32 := 15#32
  let v572 : BitVec 32 := Scalar.addi v571 c15_i32
  let v579 : Index := Scalar.indexCast v572
  let c16_290 : Index := 16#32
  ![v579.toNat, 16]
def k1_off247 (v570 : BitVec 32) : Fin 2 → Nat :=
  let v581 : Index := Scalar.indexCast v570
  let c32_291 : Index := 32#32
  ![v581.toNat, 32]
def k1_off248 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_286 : BitVec 32 := 16#32
  let v571 : BitVec 32 := Scalar.muli arg16 c16_i32_286
  let c15_i32 : BitVec 32 := 15#32
  let v572 : BitVec 32 := Scalar.addi v571 c15_i32
  let v583 : Index := Scalar.indexCast v572
  let c32_292 : Index := 32#32
  ![v583.toNat, 32]
def k1_off249 (v570 : BitVec 32) : Fin 2 → Nat :=
  let v585 : Index := Scalar.indexCast v570
  let c48_293 : Index := 48#32
  ![v585.toNat, 48]
def k1_off250 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_286 : BitVec 32 := 16#32
  let v571 : BitVec 32 := Scalar.muli arg16 c16_i32_286
  let c15_i32 : BitVec 32 := 15#32
  let v572 : BitVec 32 := Scalar.addi v571 c15_i32
  let v587 : Index := Scalar.indexCast v572
  let c48_294 : Index := 48#32
  ![v587.toNat, 48]
def k1_off251 (v570 : BitVec 32) : Fin 2 → Nat :=
  let v589 : Index := Scalar.indexCast v570
  let c64_295 : Index := 64#32
  ![v589.toNat, 64]
def k1_off252 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_286 : BitVec 32 := 16#32
  let v571 : BitVec 32 := Scalar.muli arg16 c16_i32_286
  let c15_i32 : BitVec 32 := 15#32
  let v572 : BitVec 32 := Scalar.addi v571 c15_i32
  let v591 : Index := Scalar.indexCast v572
  let c64_296 : Index := 64#32
  ![v591.toNat, 64]
def k1_off253 (v570 : BitVec 32) : Fin 2 → Nat :=
  let v593 : Index := Scalar.indexCast v570
  let c80_297 : Index := 80#32
  ![v593.toNat, 80]
def k1_off254 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_286 : BitVec 32 := 16#32
  let v571 : BitVec 32 := Scalar.muli arg16 c16_i32_286
  let c15_i32 : BitVec 32 := 15#32
  let v572 : BitVec 32 := Scalar.addi v571 c15_i32
  let v595 : Index := Scalar.indexCast v572
  let c80_298 : Index := 80#32
  ![v595.toNat, 80]
def k1_off255 (v570 : BitVec 32) : Fin 2 → Nat :=
  let v597 : Index := Scalar.indexCast v570
  let c96_299 : Index := 96#32
  ![v597.toNat, 96]
def k1_off256 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_286 : BitVec 32 := 16#32
  let v571 : BitVec 32 := Scalar.muli arg16 c16_i32_286
  let c15_i32 : BitVec 32 := 15#32
  let v572 : BitVec 32 := Scalar.addi v571 c15_i32
  let v599 : Index := Scalar.indexCast v572
  let c96_300 : Index := 96#32
  ![v599.toNat, 96]
def k1_off257 (v570 : BitVec 32) : Fin 2 → Nat :=
  let v601 : Index := Scalar.indexCast v570
  let c112_301 : Index := 112#32
  ![v601.toNat, 112]

def k1_chk16 (v570 : BitVec 32) : Prop :=
  (∀ a, (k1_off243 v570) a + S1x16.size a ≤ S100x128.size a) ∧
  (∀ a, (k1_off245 v570) a + S1x16.size a ≤ S100x128.size a) ∧
  (∀ a, (k1_off247 v570) a + S1x16.size a ≤ S100x128.size a) ∧
  (∀ a, (k1_off249 v570) a + S1x16.size a ≤ S100x128.size a) ∧
  (∀ a, (k1_off251 v570) a + S1x16.size a ≤ S100x128.size a) ∧
  (∀ a, (k1_off253 v570) a + S1x16.size a ≤ S100x128.size a) ∧
  (∀ a, (k1_off255 v570) a + S1x16.size a ≤ S100x128.size a) ∧
  (∀ a, (k1_off257 v570) a + S1x16.size a ≤ S100x128.size a)
theorem k1_off243_inb : ∀ (v570 : BitVec 32) (k1_hw16 : k1_chk16 v570), ∀ a, (k1_off243 v570) a + S1x16.size a ≤ S100x128.size a := fun v570 k1_hw16 => k1_hw16.1
theorem k1_off245_inb : ∀ (v570 : BitVec 32) (k1_hw16 : k1_chk16 v570), ∀ a, (k1_off245 v570) a + S1x16.size a ≤ S100x128.size a := fun v570 k1_hw16 => k1_hw16.2.1
theorem k1_off247_inb : ∀ (v570 : BitVec 32) (k1_hw16 : k1_chk16 v570), ∀ a, (k1_off247 v570) a + S1x16.size a ≤ S100x128.size a := fun v570 k1_hw16 => k1_hw16.2.2.1
theorem k1_off249_inb : ∀ (v570 : BitVec 32) (k1_hw16 : k1_chk16 v570), ∀ a, (k1_off249 v570) a + S1x16.size a ≤ S100x128.size a := fun v570 k1_hw16 => k1_hw16.2.2.2.1
theorem k1_off251_inb : ∀ (v570 : BitVec 32) (k1_hw16 : k1_chk16 v570), ∀ a, (k1_off251 v570) a + S1x16.size a ≤ S100x128.size a := fun v570 k1_hw16 => k1_hw16.2.2.2.2.1
theorem k1_off253_inb : ∀ (v570 : BitVec 32) (k1_hw16 : k1_chk16 v570), ∀ a, (k1_off253 v570) a + S1x16.size a ≤ S100x128.size a := fun v570 k1_hw16 => k1_hw16.2.2.2.2.2.1
theorem k1_off255_inb : ∀ (v570 : BitVec 32) (k1_hw16 : k1_chk16 v570), ∀ a, (k1_off255 v570) a + S1x16.size a ≤ S100x128.size a := fun v570 k1_hw16 => k1_hw16.2.2.2.2.2.2.1
theorem k1_off257_inb : ∀ (v570 : BitVec 32) (k1_hw16 : k1_chk16 v570), ∀ a, (k1_off257 v570) a + S1x16.size a ≤ S100x128.size a := fun v570 k1_hw16 => k1_hw16.2.2.2.2.2.2.2

def k1_off258 (k1_t1 : Fin k1_t1_loop.trips) : Fin 2 → Nat :=
  let c0_i32_0 : BitVec 32 := 0#32
  let c1_i32 : BitVec 32 := 1#32
  let arg16 : BitVec 32 := Scf.iv c0_i32_0 c1_i32 k1_t1
  let c16_i32_286 : BitVec 32 := 16#32
  let v571 : BitVec 32 := Scalar.muli arg16 c16_i32_286
  let c15_i32 : BitVec 32 := 15#32
  let v572 : BitVec 32 := Scalar.addi v571 c15_i32
  let v603 : Index := Scalar.indexCast v572
  let c112_302 : Index := 112#32
  ![v603.toNat, 112]
def k1_off259 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_2 : BitVec 32 := 0#32
  ![v2.toNat, 0]
@[reducible] def k1_t2_loop : Scf.Loop 32 :=
  let c0_i32_5 : BitVec 32 := 0#32
  let c8_i32_6 : BitVec 32 := 8#32
  let v6 : BitVec 32 := Scalar.addi c0_i32_5 c8_i32_6
  let c1_i32_7 : BitVec 32 := 1#32
  ⟨c0_i32_5, v6, c1_i32_7⟩
def k1_off260 (k1_t2 : Fin k1_t2_loop.trips) : Fin 1 → Nat :=
  let c128_i32_34 : BitVec 32 := 128#32
  let c0_i32_5 : BitVec 32 := 0#32
  let c1_i32_7 : BitVec 32 := 1#32
  let arg16 : BitVec 32 := Scf.iv c0_i32_5 c1_i32_7 k1_t2
  let c16_i32 : BitVec 32 := 16#32
  let v25 : BitVec 32 := Scalar.muli arg16 c16_i32
  let v26 : BitVec 32 := Scalar.addi c128_i32_34 v25
  let v27 : Index := Scalar.indexCast v26
  ![v27.toNat]
def k1_off261 (v30 : BitVec 32) : Fin 2 → Nat :=
  let v33 : Index := Scalar.indexCast v30
  let c0 : Index := 0#32
  ![v33.toNat, 0]

def k1_off262 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_35 : BitVec 32 := 16#32
  let v31 : BitVec 32 := Scalar.muli arg16 c16_i32_35
  let c0_i32_36 : BitVec 32 := 0#32
  let v32 : BitVec 32 := Scalar.addi v31 c0_i32_36
  let v35 : Index := Scalar.indexCast v32
  let c0_37 : Index := 0#32
  ![v35.toNat, 0]
def k1_off263 (v30 : BitVec 32) : Fin 2 → Nat :=
  let v37 : Index := Scalar.indexCast v30
  let c16 : Index := 16#32
  ![v37.toNat, 16]
def k1_off264 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_35 : BitVec 32 := 16#32
  let v31 : BitVec 32 := Scalar.muli arg16 c16_i32_35
  let c0_i32_36 : BitVec 32 := 0#32
  let v32 : BitVec 32 := Scalar.addi v31 c0_i32_36
  let v39 : Index := Scalar.indexCast v32
  let c16_38 : Index := 16#32
  ![v39.toNat, 16]
def k1_off265 (v30 : BitVec 32) : Fin 2 → Nat :=
  let v41 : Index := Scalar.indexCast v30
  let c32 : Index := 32#32
  ![v41.toNat, 32]
def k1_off266 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_35 : BitVec 32 := 16#32
  let v31 : BitVec 32 := Scalar.muli arg16 c16_i32_35
  let c0_i32_36 : BitVec 32 := 0#32
  let v32 : BitVec 32 := Scalar.addi v31 c0_i32_36
  let v43 : Index := Scalar.indexCast v32
  let c32_39 : Index := 32#32
  ![v43.toNat, 32]
def k1_off267 (v30 : BitVec 32) : Fin 2 → Nat :=
  let v45 : Index := Scalar.indexCast v30
  let c48 : Index := 48#32
  ![v45.toNat, 48]
def k1_off268 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_35 : BitVec 32 := 16#32
  let v31 : BitVec 32 := Scalar.muli arg16 c16_i32_35
  let c0_i32_36 : BitVec 32 := 0#32
  let v32 : BitVec 32 := Scalar.addi v31 c0_i32_36
  let v47 : Index := Scalar.indexCast v32
  let c48_40 : Index := 48#32
  ![v47.toNat, 48]
def k1_off269 (v30 : BitVec 32) : Fin 2 → Nat :=
  let v49 : Index := Scalar.indexCast v30
  let c64 : Index := 64#32
  ![v49.toNat, 64]
def k1_off270 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_35 : BitVec 32 := 16#32
  let v31 : BitVec 32 := Scalar.muli arg16 c16_i32_35
  let c0_i32_36 : BitVec 32 := 0#32
  let v32 : BitVec 32 := Scalar.addi v31 c0_i32_36
  let v51 : Index := Scalar.indexCast v32
  let c64_41 : Index := 64#32
  ![v51.toNat, 64]
def k1_off271 (v30 : BitVec 32) : Fin 2 → Nat :=
  let v53 : Index := Scalar.indexCast v30
  let c80 : Index := 80#32
  ![v53.toNat, 80]
def k1_off272 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_35 : BitVec 32 := 16#32
  let v31 : BitVec 32 := Scalar.muli arg16 c16_i32_35
  let c0_i32_36 : BitVec 32 := 0#32
  let v32 : BitVec 32 := Scalar.addi v31 c0_i32_36
  let v55 : Index := Scalar.indexCast v32
  let c80_42 : Index := 80#32
  ![v55.toNat, 80]
def k1_off273 (v30 : BitVec 32) : Fin 2 → Nat :=
  let v57 : Index := Scalar.indexCast v30
  let c96 : Index := 96#32
  ![v57.toNat, 96]
def k1_off274 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_35 : BitVec 32 := 16#32
  let v31 : BitVec 32 := Scalar.muli arg16 c16_i32_35
  let c0_i32_36 : BitVec 32 := 0#32
  let v32 : BitVec 32 := Scalar.addi v31 c0_i32_36
  let v59 : Index := Scalar.indexCast v32
  let c96_43 : Index := 96#32
  ![v59.toNat, 96]
def k1_off275 (v30 : BitVec 32) : Fin 2 → Nat :=
  let v61 : Index := Scalar.indexCast v30
  let c112 : Index := 112#32
  ![v61.toNat, 112]

def k1_chk17 (v30 : BitVec 32) : Prop :=
  (∀ a, (k1_off261 v30) a + S1x16.size a ≤ S100x128.size a) ∧
  (∀ a, (k1_off263 v30) a + S1x16.size a ≤ S100x128.size a) ∧
  (∀ a, (k1_off265 v30) a + S1x16.size a ≤ S100x128.size a) ∧
  (∀ a, (k1_off267 v30) a + S1x16.size a ≤ S100x128.size a) ∧
  (∀ a, (k1_off269 v30) a + S1x16.size a ≤ S100x128.size a) ∧
  (∀ a, (k1_off271 v30) a + S1x16.size a ≤ S100x128.size a) ∧
  (∀ a, (k1_off273 v30) a + S1x16.size a ≤ S100x128.size a) ∧
  (∀ a, (k1_off275 v30) a + S1x16.size a ≤ S100x128.size a)
theorem k1_off261_inb : ∀ (v30 : BitVec 32) (k1_hw17 : k1_chk17 v30), ∀ a, (k1_off261 v30) a + S1x16.size a ≤ S100x128.size a := fun v30 k1_hw17 => k1_hw17.1
theorem k1_off263_inb : ∀ (v30 : BitVec 32) (k1_hw17 : k1_chk17 v30), ∀ a, (k1_off263 v30) a + S1x16.size a ≤ S100x128.size a := fun v30 k1_hw17 => k1_hw17.2.1
theorem k1_off265_inb : ∀ (v30 : BitVec 32) (k1_hw17 : k1_chk17 v30), ∀ a, (k1_off265 v30) a + S1x16.size a ≤ S100x128.size a := fun v30 k1_hw17 => k1_hw17.2.2.1
theorem k1_off267_inb : ∀ (v30 : BitVec 32) (k1_hw17 : k1_chk17 v30), ∀ a, (k1_off267 v30) a + S1x16.size a ≤ S100x128.size a := fun v30 k1_hw17 => k1_hw17.2.2.2.1
theorem k1_off269_inb : ∀ (v30 : BitVec 32) (k1_hw17 : k1_chk17 v30), ∀ a, (k1_off269 v30) a + S1x16.size a ≤ S100x128.size a := fun v30 k1_hw17 => k1_hw17.2.2.2.2.1
theorem k1_off271_inb : ∀ (v30 : BitVec 32) (k1_hw17 : k1_chk17 v30), ∀ a, (k1_off271 v30) a + S1x16.size a ≤ S100x128.size a := fun v30 k1_hw17 => k1_hw17.2.2.2.2.2.1
theorem k1_off273_inb : ∀ (v30 : BitVec 32) (k1_hw17 : k1_chk17 v30), ∀ a, (k1_off273 v30) a + S1x16.size a ≤ S100x128.size a := fun v30 k1_hw17 => k1_hw17.2.2.2.2.2.2.1
theorem k1_off275_inb : ∀ (v30 : BitVec 32) (k1_hw17 : k1_chk17 v30), ∀ a, (k1_off275 v30) a + S1x16.size a ≤ S100x128.size a := fun v30 k1_hw17 => k1_hw17.2.2.2.2.2.2.2

def k1_off276 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_35 : BitVec 32 := 16#32
  let v31 : BitVec 32 := Scalar.muli arg16 c16_i32_35
  let c0_i32_36 : BitVec 32 := 0#32
  let v32 : BitVec 32 := Scalar.addi v31 c0_i32_36
  let v63 : Index := Scalar.indexCast v32
  let c112_44 : Index := 112#32
  ![v63.toNat, 112]
def k1_off277 (v66 : BitVec 32) : Fin 2 → Nat :=
  let v69 : Index := Scalar.indexCast v66
  let c0_47 : Index := 0#32
  ![v69.toNat, 0]

def k1_off278 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_45 : BitVec 32 := 16#32
  let v67 : BitVec 32 := Scalar.muli arg16 c16_i32_45
  let c1_i32_46 : BitVec 32 := 1#32
  let v68 : BitVec 32 := Scalar.addi v67 c1_i32_46
  let v71 : Index := Scalar.indexCast v68
  let c0_48 : Index := 0#32
  ![v71.toNat, 0]
def k1_off279 (v66 : BitVec 32) : Fin 2 → Nat :=
  let v73 : Index := Scalar.indexCast v66
  let c16_49 : Index := 16#32
  ![v73.toNat, 16]
def k1_off280 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_45 : BitVec 32 := 16#32
  let v67 : BitVec 32 := Scalar.muli arg16 c16_i32_45
  let c1_i32_46 : BitVec 32 := 1#32
  let v68 : BitVec 32 := Scalar.addi v67 c1_i32_46
  let v75 : Index := Scalar.indexCast v68
  let c16_50 : Index := 16#32
  ![v75.toNat, 16]
def k1_off281 (v66 : BitVec 32) : Fin 2 → Nat :=
  let v77 : Index := Scalar.indexCast v66
  let c32_51 : Index := 32#32
  ![v77.toNat, 32]
def k1_off282 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_45 : BitVec 32 := 16#32
  let v67 : BitVec 32 := Scalar.muli arg16 c16_i32_45
  let c1_i32_46 : BitVec 32 := 1#32
  let v68 : BitVec 32 := Scalar.addi v67 c1_i32_46
  let v79 : Index := Scalar.indexCast v68
  let c32_52 : Index := 32#32
  ![v79.toNat, 32]
def k1_off283 (v66 : BitVec 32) : Fin 2 → Nat :=
  let v81 : Index := Scalar.indexCast v66
  let c48_53 : Index := 48#32
  ![v81.toNat, 48]
def k1_off284 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_45 : BitVec 32 := 16#32
  let v67 : BitVec 32 := Scalar.muli arg16 c16_i32_45
  let c1_i32_46 : BitVec 32 := 1#32
  let v68 : BitVec 32 := Scalar.addi v67 c1_i32_46
  let v83 : Index := Scalar.indexCast v68
  let c48_54 : Index := 48#32
  ![v83.toNat, 48]
def k1_off285 (v66 : BitVec 32) : Fin 2 → Nat :=
  let v85 : Index := Scalar.indexCast v66
  let c64_55 : Index := 64#32
  ![v85.toNat, 64]
def k1_off286 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_45 : BitVec 32 := 16#32
  let v67 : BitVec 32 := Scalar.muli arg16 c16_i32_45
  let c1_i32_46 : BitVec 32 := 1#32
  let v68 : BitVec 32 := Scalar.addi v67 c1_i32_46
  let v87 : Index := Scalar.indexCast v68
  let c64_56 : Index := 64#32
  ![v87.toNat, 64]
def k1_off287 (v66 : BitVec 32) : Fin 2 → Nat :=
  let v89 : Index := Scalar.indexCast v66
  let c80_57 : Index := 80#32
  ![v89.toNat, 80]
def k1_off288 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_45 : BitVec 32 := 16#32
  let v67 : BitVec 32 := Scalar.muli arg16 c16_i32_45
  let c1_i32_46 : BitVec 32 := 1#32
  let v68 : BitVec 32 := Scalar.addi v67 c1_i32_46
  let v91 : Index := Scalar.indexCast v68
  let c80_58 : Index := 80#32
  ![v91.toNat, 80]
def k1_off289 (v66 : BitVec 32) : Fin 2 → Nat :=
  let v93 : Index := Scalar.indexCast v66
  let c96_59 : Index := 96#32
  ![v93.toNat, 96]
def k1_off290 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_45 : BitVec 32 := 16#32
  let v67 : BitVec 32 := Scalar.muli arg16 c16_i32_45
  let c1_i32_46 : BitVec 32 := 1#32
  let v68 : BitVec 32 := Scalar.addi v67 c1_i32_46
  let v95 : Index := Scalar.indexCast v68
  let c96_60 : Index := 96#32
  ![v95.toNat, 96]
def k1_off291 (v66 : BitVec 32) : Fin 2 → Nat :=
  let v97 : Index := Scalar.indexCast v66
  let c112_61 : Index := 112#32
  ![v97.toNat, 112]

def k1_chk18 (v66 : BitVec 32) : Prop :=
  (∀ a, (k1_off277 v66) a + S1x16.size a ≤ S100x128.size a) ∧
  (∀ a, (k1_off279 v66) a + S1x16.size a ≤ S100x128.size a) ∧
  (∀ a, (k1_off281 v66) a + S1x16.size a ≤ S100x128.size a) ∧
  (∀ a, (k1_off283 v66) a + S1x16.size a ≤ S100x128.size a) ∧
  (∀ a, (k1_off285 v66) a + S1x16.size a ≤ S100x128.size a) ∧
  (∀ a, (k1_off287 v66) a + S1x16.size a ≤ S100x128.size a) ∧
  (∀ a, (k1_off289 v66) a + S1x16.size a ≤ S100x128.size a) ∧
  (∀ a, (k1_off291 v66) a + S1x16.size a ≤ S100x128.size a)
theorem k1_off277_inb : ∀ (v66 : BitVec 32) (k1_hw18 : k1_chk18 v66), ∀ a, (k1_off277 v66) a + S1x16.size a ≤ S100x128.size a := fun v66 k1_hw18 => k1_hw18.1
theorem k1_off279_inb : ∀ (v66 : BitVec 32) (k1_hw18 : k1_chk18 v66), ∀ a, (k1_off279 v66) a + S1x16.size a ≤ S100x128.size a := fun v66 k1_hw18 => k1_hw18.2.1
theorem k1_off281_inb : ∀ (v66 : BitVec 32) (k1_hw18 : k1_chk18 v66), ∀ a, (k1_off281 v66) a + S1x16.size a ≤ S100x128.size a := fun v66 k1_hw18 => k1_hw18.2.2.1
theorem k1_off283_inb : ∀ (v66 : BitVec 32) (k1_hw18 : k1_chk18 v66), ∀ a, (k1_off283 v66) a + S1x16.size a ≤ S100x128.size a := fun v66 k1_hw18 => k1_hw18.2.2.2.1
theorem k1_off285_inb : ∀ (v66 : BitVec 32) (k1_hw18 : k1_chk18 v66), ∀ a, (k1_off285 v66) a + S1x16.size a ≤ S100x128.size a := fun v66 k1_hw18 => k1_hw18.2.2.2.2.1
theorem k1_off287_inb : ∀ (v66 : BitVec 32) (k1_hw18 : k1_chk18 v66), ∀ a, (k1_off287 v66) a + S1x16.size a ≤ S100x128.size a := fun v66 k1_hw18 => k1_hw18.2.2.2.2.2.1
theorem k1_off289_inb : ∀ (v66 : BitVec 32) (k1_hw18 : k1_chk18 v66), ∀ a, (k1_off289 v66) a + S1x16.size a ≤ S100x128.size a := fun v66 k1_hw18 => k1_hw18.2.2.2.2.2.2.1
theorem k1_off291_inb : ∀ (v66 : BitVec 32) (k1_hw18 : k1_chk18 v66), ∀ a, (k1_off291 v66) a + S1x16.size a ≤ S100x128.size a := fun v66 k1_hw18 => k1_hw18.2.2.2.2.2.2.2

def k1_off292 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_45 : BitVec 32 := 16#32
  let v67 : BitVec 32 := Scalar.muli arg16 c16_i32_45
  let c1_i32_46 : BitVec 32 := 1#32
  let v68 : BitVec 32 := Scalar.addi v67 c1_i32_46
  let v99 : Index := Scalar.indexCast v68
  let c112_62 : Index := 112#32
  ![v99.toNat, 112]
def k1_off293 (v102 : BitVec 32) : Fin 2 → Nat :=
  let v105 : Index := Scalar.indexCast v102
  let c0_65 : Index := 0#32
  ![v105.toNat, 0]

def k1_off294 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_63 : BitVec 32 := 16#32
  let v103 : BitVec 32 := Scalar.muli arg16 c16_i32_63
  let c2_i32_64 : BitVec 32 := 2#32
  let v104 : BitVec 32 := Scalar.addi v103 c2_i32_64
  let v107 : Index := Scalar.indexCast v104
  let c0_66 : Index := 0#32
  ![v107.toNat, 0]
def k1_off295 (v102 : BitVec 32) : Fin 2 → Nat :=
  let v109 : Index := Scalar.indexCast v102
  let c16_67 : Index := 16#32
  ![v109.toNat, 16]
def k1_off296 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_63 : BitVec 32 := 16#32
  let v103 : BitVec 32 := Scalar.muli arg16 c16_i32_63
  let c2_i32_64 : BitVec 32 := 2#32
  let v104 : BitVec 32 := Scalar.addi v103 c2_i32_64
  let v111 : Index := Scalar.indexCast v104
  let c16_68 : Index := 16#32
  ![v111.toNat, 16]
def k1_off297 (v102 : BitVec 32) : Fin 2 → Nat :=
  let v113 : Index := Scalar.indexCast v102
  let c32_69 : Index := 32#32
  ![v113.toNat, 32]
def k1_off298 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_63 : BitVec 32 := 16#32
  let v103 : BitVec 32 := Scalar.muli arg16 c16_i32_63
  let c2_i32_64 : BitVec 32 := 2#32
  let v104 : BitVec 32 := Scalar.addi v103 c2_i32_64
  let v115 : Index := Scalar.indexCast v104
  let c32_70 : Index := 32#32
  ![v115.toNat, 32]
def k1_off299 (v102 : BitVec 32) : Fin 2 → Nat :=
  let v117 : Index := Scalar.indexCast v102
  let c48_71 : Index := 48#32
  ![v117.toNat, 48]
def k1_off300 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_63 : BitVec 32 := 16#32
  let v103 : BitVec 32 := Scalar.muli arg16 c16_i32_63
  let c2_i32_64 : BitVec 32 := 2#32
  let v104 : BitVec 32 := Scalar.addi v103 c2_i32_64
  let v119 : Index := Scalar.indexCast v104
  let c48_72 : Index := 48#32
  ![v119.toNat, 48]
def k1_off301 (v102 : BitVec 32) : Fin 2 → Nat :=
  let v121 : Index := Scalar.indexCast v102
  let c64_73 : Index := 64#32
  ![v121.toNat, 64]
def k1_off302 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_63 : BitVec 32 := 16#32
  let v103 : BitVec 32 := Scalar.muli arg16 c16_i32_63
  let c2_i32_64 : BitVec 32 := 2#32
  let v104 : BitVec 32 := Scalar.addi v103 c2_i32_64
  let v123 : Index := Scalar.indexCast v104
  let c64_74 : Index := 64#32
  ![v123.toNat, 64]
def k1_off303 (v102 : BitVec 32) : Fin 2 → Nat :=
  let v125 : Index := Scalar.indexCast v102
  let c80_75 : Index := 80#32
  ![v125.toNat, 80]
def k1_off304 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_63 : BitVec 32 := 16#32
  let v103 : BitVec 32 := Scalar.muli arg16 c16_i32_63
  let c2_i32_64 : BitVec 32 := 2#32
  let v104 : BitVec 32 := Scalar.addi v103 c2_i32_64
  let v127 : Index := Scalar.indexCast v104
  let c80_76 : Index := 80#32
  ![v127.toNat, 80]
def k1_off305 (v102 : BitVec 32) : Fin 2 → Nat :=
  let v129 : Index := Scalar.indexCast v102
  let c96_77 : Index := 96#32
  ![v129.toNat, 96]
def k1_off306 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_63 : BitVec 32 := 16#32
  let v103 : BitVec 32 := Scalar.muli arg16 c16_i32_63
  let c2_i32_64 : BitVec 32 := 2#32
  let v104 : BitVec 32 := Scalar.addi v103 c2_i32_64
  let v131 : Index := Scalar.indexCast v104
  let c96_78 : Index := 96#32
  ![v131.toNat, 96]
def k1_off307 (v102 : BitVec 32) : Fin 2 → Nat :=
  let v133 : Index := Scalar.indexCast v102
  let c112_79 : Index := 112#32
  ![v133.toNat, 112]

def k1_chk19 (v102 : BitVec 32) : Prop :=
  (∀ a, (k1_off293 v102) a + S1x16.size a ≤ S100x128.size a) ∧
  (∀ a, (k1_off295 v102) a + S1x16.size a ≤ S100x128.size a) ∧
  (∀ a, (k1_off297 v102) a + S1x16.size a ≤ S100x128.size a) ∧
  (∀ a, (k1_off299 v102) a + S1x16.size a ≤ S100x128.size a) ∧
  (∀ a, (k1_off301 v102) a + S1x16.size a ≤ S100x128.size a) ∧
  (∀ a, (k1_off303 v102) a + S1x16.size a ≤ S100x128.size a) ∧
  (∀ a, (k1_off305 v102) a + S1x16.size a ≤ S100x128.size a) ∧
  (∀ a, (k1_off307 v102) a + S1x16.size a ≤ S100x128.size a)
theorem k1_off293_inb : ∀ (v102 : BitVec 32) (k1_hw19 : k1_chk19 v102), ∀ a, (k1_off293 v102) a + S1x16.size a ≤ S100x128.size a := fun v102 k1_hw19 => k1_hw19.1
theorem k1_off295_inb : ∀ (v102 : BitVec 32) (k1_hw19 : k1_chk19 v102), ∀ a, (k1_off295 v102) a + S1x16.size a ≤ S100x128.size a := fun v102 k1_hw19 => k1_hw19.2.1
theorem k1_off297_inb : ∀ (v102 : BitVec 32) (k1_hw19 : k1_chk19 v102), ∀ a, (k1_off297 v102) a + S1x16.size a ≤ S100x128.size a := fun v102 k1_hw19 => k1_hw19.2.2.1
theorem k1_off299_inb : ∀ (v102 : BitVec 32) (k1_hw19 : k1_chk19 v102), ∀ a, (k1_off299 v102) a + S1x16.size a ≤ S100x128.size a := fun v102 k1_hw19 => k1_hw19.2.2.2.1
theorem k1_off301_inb : ∀ (v102 : BitVec 32) (k1_hw19 : k1_chk19 v102), ∀ a, (k1_off301 v102) a + S1x16.size a ≤ S100x128.size a := fun v102 k1_hw19 => k1_hw19.2.2.2.2.1
theorem k1_off303_inb : ∀ (v102 : BitVec 32) (k1_hw19 : k1_chk19 v102), ∀ a, (k1_off303 v102) a + S1x16.size a ≤ S100x128.size a := fun v102 k1_hw19 => k1_hw19.2.2.2.2.2.1
theorem k1_off305_inb : ∀ (v102 : BitVec 32) (k1_hw19 : k1_chk19 v102), ∀ a, (k1_off305 v102) a + S1x16.size a ≤ S100x128.size a := fun v102 k1_hw19 => k1_hw19.2.2.2.2.2.2.1
theorem k1_off307_inb : ∀ (v102 : BitVec 32) (k1_hw19 : k1_chk19 v102), ∀ a, (k1_off307 v102) a + S1x16.size a ≤ S100x128.size a := fun v102 k1_hw19 => k1_hw19.2.2.2.2.2.2.2

def k1_off308 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_63 : BitVec 32 := 16#32
  let v103 : BitVec 32 := Scalar.muli arg16 c16_i32_63
  let c2_i32_64 : BitVec 32 := 2#32
  let v104 : BitVec 32 := Scalar.addi v103 c2_i32_64
  let v135 : Index := Scalar.indexCast v104
  let c112_80 : Index := 112#32
  ![v135.toNat, 112]
def k1_off309 (v138 : BitVec 32) : Fin 2 → Nat :=
  let v141 : Index := Scalar.indexCast v138
  let c0_82 : Index := 0#32
  ![v141.toNat, 0]

def k1_off310 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_81 : BitVec 32 := 16#32
  let v139 : BitVec 32 := Scalar.muli arg16 c16_i32_81
  let c3_i32 : BitVec 32 := 3#32
  let v140 : BitVec 32 := Scalar.addi v139 c3_i32
  let v143 : Index := Scalar.indexCast v140
  let c0_83 : Index := 0#32
  ![v143.toNat, 0]
def k1_off311 (v138 : BitVec 32) : Fin 2 → Nat :=
  let v145 : Index := Scalar.indexCast v138
  let c16_84 : Index := 16#32
  ![v145.toNat, 16]
def k1_off312 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_81 : BitVec 32 := 16#32
  let v139 : BitVec 32 := Scalar.muli arg16 c16_i32_81
  let c3_i32 : BitVec 32 := 3#32
  let v140 : BitVec 32 := Scalar.addi v139 c3_i32
  let v147 : Index := Scalar.indexCast v140
  let c16_85 : Index := 16#32
  ![v147.toNat, 16]
def k1_off313 (v138 : BitVec 32) : Fin 2 → Nat :=
  let v149 : Index := Scalar.indexCast v138
  let c32_86 : Index := 32#32
  ![v149.toNat, 32]
def k1_off314 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_81 : BitVec 32 := 16#32
  let v139 : BitVec 32 := Scalar.muli arg16 c16_i32_81
  let c3_i32 : BitVec 32 := 3#32
  let v140 : BitVec 32 := Scalar.addi v139 c3_i32
  let v151 : Index := Scalar.indexCast v140
  let c32_87 : Index := 32#32
  ![v151.toNat, 32]
def k1_off315 (v138 : BitVec 32) : Fin 2 → Nat :=
  let v153 : Index := Scalar.indexCast v138
  let c48_88 : Index := 48#32
  ![v153.toNat, 48]
def k1_off316 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_81 : BitVec 32 := 16#32
  let v139 : BitVec 32 := Scalar.muli arg16 c16_i32_81
  let c3_i32 : BitVec 32 := 3#32
  let v140 : BitVec 32 := Scalar.addi v139 c3_i32
  let v155 : Index := Scalar.indexCast v140
  let c48_89 : Index := 48#32
  ![v155.toNat, 48]
def k1_off317 (v138 : BitVec 32) : Fin 2 → Nat :=
  let v157 : Index := Scalar.indexCast v138
  let c64_90 : Index := 64#32
  ![v157.toNat, 64]
def k1_off318 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_81 : BitVec 32 := 16#32
  let v139 : BitVec 32 := Scalar.muli arg16 c16_i32_81
  let c3_i32 : BitVec 32 := 3#32
  let v140 : BitVec 32 := Scalar.addi v139 c3_i32
  let v159 : Index := Scalar.indexCast v140
  let c64_91 : Index := 64#32
  ![v159.toNat, 64]
def k1_off319 (v138 : BitVec 32) : Fin 2 → Nat :=
  let v161 : Index := Scalar.indexCast v138
  let c80_92 : Index := 80#32
  ![v161.toNat, 80]
def k1_off320 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_81 : BitVec 32 := 16#32
  let v139 : BitVec 32 := Scalar.muli arg16 c16_i32_81
  let c3_i32 : BitVec 32 := 3#32
  let v140 : BitVec 32 := Scalar.addi v139 c3_i32
  let v163 : Index := Scalar.indexCast v140
  let c80_93 : Index := 80#32
  ![v163.toNat, 80]
def k1_off321 (v138 : BitVec 32) : Fin 2 → Nat :=
  let v165 : Index := Scalar.indexCast v138
  let c96_94 : Index := 96#32
  ![v165.toNat, 96]
def k1_off322 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_81 : BitVec 32 := 16#32
  let v139 : BitVec 32 := Scalar.muli arg16 c16_i32_81
  let c3_i32 : BitVec 32 := 3#32
  let v140 : BitVec 32 := Scalar.addi v139 c3_i32
  let v167 : Index := Scalar.indexCast v140
  let c96_95 : Index := 96#32
  ![v167.toNat, 96]
def k1_off323 (v138 : BitVec 32) : Fin 2 → Nat :=
  let v169 : Index := Scalar.indexCast v138
  let c112_96 : Index := 112#32
  ![v169.toNat, 112]

def k1_chk20 (v138 : BitVec 32) : Prop :=
  (∀ a, (k1_off309 v138) a + S1x16.size a ≤ S100x128.size a) ∧
  (∀ a, (k1_off311 v138) a + S1x16.size a ≤ S100x128.size a) ∧
  (∀ a, (k1_off313 v138) a + S1x16.size a ≤ S100x128.size a) ∧
  (∀ a, (k1_off315 v138) a + S1x16.size a ≤ S100x128.size a) ∧
  (∀ a, (k1_off317 v138) a + S1x16.size a ≤ S100x128.size a) ∧
  (∀ a, (k1_off319 v138) a + S1x16.size a ≤ S100x128.size a) ∧
  (∀ a, (k1_off321 v138) a + S1x16.size a ≤ S100x128.size a) ∧
  (∀ a, (k1_off323 v138) a + S1x16.size a ≤ S100x128.size a)
theorem k1_off309_inb : ∀ (v138 : BitVec 32) (k1_hw20 : k1_chk20 v138), ∀ a, (k1_off309 v138) a + S1x16.size a ≤ S100x128.size a := fun v138 k1_hw20 => k1_hw20.1
theorem k1_off311_inb : ∀ (v138 : BitVec 32) (k1_hw20 : k1_chk20 v138), ∀ a, (k1_off311 v138) a + S1x16.size a ≤ S100x128.size a := fun v138 k1_hw20 => k1_hw20.2.1
theorem k1_off313_inb : ∀ (v138 : BitVec 32) (k1_hw20 : k1_chk20 v138), ∀ a, (k1_off313 v138) a + S1x16.size a ≤ S100x128.size a := fun v138 k1_hw20 => k1_hw20.2.2.1
theorem k1_off315_inb : ∀ (v138 : BitVec 32) (k1_hw20 : k1_chk20 v138), ∀ a, (k1_off315 v138) a + S1x16.size a ≤ S100x128.size a := fun v138 k1_hw20 => k1_hw20.2.2.2.1
theorem k1_off317_inb : ∀ (v138 : BitVec 32) (k1_hw20 : k1_chk20 v138), ∀ a, (k1_off317 v138) a + S1x16.size a ≤ S100x128.size a := fun v138 k1_hw20 => k1_hw20.2.2.2.2.1
theorem k1_off319_inb : ∀ (v138 : BitVec 32) (k1_hw20 : k1_chk20 v138), ∀ a, (k1_off319 v138) a + S1x16.size a ≤ S100x128.size a := fun v138 k1_hw20 => k1_hw20.2.2.2.2.2.1
theorem k1_off321_inb : ∀ (v138 : BitVec 32) (k1_hw20 : k1_chk20 v138), ∀ a, (k1_off321 v138) a + S1x16.size a ≤ S100x128.size a := fun v138 k1_hw20 => k1_hw20.2.2.2.2.2.2.1
theorem k1_off323_inb : ∀ (v138 : BitVec 32) (k1_hw20 : k1_chk20 v138), ∀ a, (k1_off323 v138) a + S1x16.size a ≤ S100x128.size a := fun v138 k1_hw20 => k1_hw20.2.2.2.2.2.2.2

def k1_off324 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_81 : BitVec 32 := 16#32
  let v139 : BitVec 32 := Scalar.muli arg16 c16_i32_81
  let c3_i32 : BitVec 32 := 3#32
  let v140 : BitVec 32 := Scalar.addi v139 c3_i32
  let v171 : Index := Scalar.indexCast v140
  let c112_97 : Index := 112#32
  ![v171.toNat, 112]
def k1_off325 (v174 : BitVec 32) : Fin 2 → Nat :=
  let v177 : Index := Scalar.indexCast v174
  let c0_99 : Index := 0#32
  ![v177.toNat, 0]

def k1_off326 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_98 : BitVec 32 := 16#32
  let v175 : BitVec 32 := Scalar.muli arg16 c16_i32_98
  let c4_i32 : BitVec 32 := 4#32
  let v176 : BitVec 32 := Scalar.addi v175 c4_i32
  let v179 : Index := Scalar.indexCast v176
  let c0_100 : Index := 0#32
  ![v179.toNat, 0]
def k1_off327 (v174 : BitVec 32) : Fin 2 → Nat :=
  let v181 : Index := Scalar.indexCast v174
  let c16_101 : Index := 16#32
  ![v181.toNat, 16]
def k1_off328 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_98 : BitVec 32 := 16#32
  let v175 : BitVec 32 := Scalar.muli arg16 c16_i32_98
  let c4_i32 : BitVec 32 := 4#32
  let v176 : BitVec 32 := Scalar.addi v175 c4_i32
  let v183 : Index := Scalar.indexCast v176
  let c16_102 : Index := 16#32
  ![v183.toNat, 16]
def k1_off329 (v174 : BitVec 32) : Fin 2 → Nat :=
  let v185 : Index := Scalar.indexCast v174
  let c32_103 : Index := 32#32
  ![v185.toNat, 32]
def k1_off330 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_98 : BitVec 32 := 16#32
  let v175 : BitVec 32 := Scalar.muli arg16 c16_i32_98
  let c4_i32 : BitVec 32 := 4#32
  let v176 : BitVec 32 := Scalar.addi v175 c4_i32
  let v187 : Index := Scalar.indexCast v176
  let c32_104 : Index := 32#32
  ![v187.toNat, 32]
def k1_off331 (v174 : BitVec 32) : Fin 2 → Nat :=
  let v189 : Index := Scalar.indexCast v174
  let c48_105 : Index := 48#32
  ![v189.toNat, 48]
def k1_off332 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_98 : BitVec 32 := 16#32
  let v175 : BitVec 32 := Scalar.muli arg16 c16_i32_98
  let c4_i32 : BitVec 32 := 4#32
  let v176 : BitVec 32 := Scalar.addi v175 c4_i32
  let v191 : Index := Scalar.indexCast v176
  let c48_106 : Index := 48#32
  ![v191.toNat, 48]
def k1_off333 (v174 : BitVec 32) : Fin 2 → Nat :=
  let v193 : Index := Scalar.indexCast v174
  let c64_107 : Index := 64#32
  ![v193.toNat, 64]
def k1_off334 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_98 : BitVec 32 := 16#32
  let v175 : BitVec 32 := Scalar.muli arg16 c16_i32_98
  let c4_i32 : BitVec 32 := 4#32
  let v176 : BitVec 32 := Scalar.addi v175 c4_i32
  let v195 : Index := Scalar.indexCast v176
  let c64_108 : Index := 64#32
  ![v195.toNat, 64]
def k1_off335 (v174 : BitVec 32) : Fin 2 → Nat :=
  let v197 : Index := Scalar.indexCast v174
  let c80_109 : Index := 80#32
  ![v197.toNat, 80]
def k1_off336 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_98 : BitVec 32 := 16#32
  let v175 : BitVec 32 := Scalar.muli arg16 c16_i32_98
  let c4_i32 : BitVec 32 := 4#32
  let v176 : BitVec 32 := Scalar.addi v175 c4_i32
  let v199 : Index := Scalar.indexCast v176
  let c80_110 : Index := 80#32
  ![v199.toNat, 80]
def k1_off337 (v174 : BitVec 32) : Fin 2 → Nat :=
  let v201 : Index := Scalar.indexCast v174
  let c96_111 : Index := 96#32
  ![v201.toNat, 96]
def k1_off338 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_98 : BitVec 32 := 16#32
  let v175 : BitVec 32 := Scalar.muli arg16 c16_i32_98
  let c4_i32 : BitVec 32 := 4#32
  let v176 : BitVec 32 := Scalar.addi v175 c4_i32
  let v203 : Index := Scalar.indexCast v176
  let c96_112 : Index := 96#32
  ![v203.toNat, 96]
def k1_off339 (v174 : BitVec 32) : Fin 2 → Nat :=
  let v205 : Index := Scalar.indexCast v174
  let c112_113 : Index := 112#32
  ![v205.toNat, 112]

def k1_chk21 (v174 : BitVec 32) : Prop :=
  (∀ a, (k1_off325 v174) a + S1x16.size a ≤ S100x128.size a) ∧
  (∀ a, (k1_off327 v174) a + S1x16.size a ≤ S100x128.size a) ∧
  (∀ a, (k1_off329 v174) a + S1x16.size a ≤ S100x128.size a) ∧
  (∀ a, (k1_off331 v174) a + S1x16.size a ≤ S100x128.size a) ∧
  (∀ a, (k1_off333 v174) a + S1x16.size a ≤ S100x128.size a) ∧
  (∀ a, (k1_off335 v174) a + S1x16.size a ≤ S100x128.size a) ∧
  (∀ a, (k1_off337 v174) a + S1x16.size a ≤ S100x128.size a) ∧
  (∀ a, (k1_off339 v174) a + S1x16.size a ≤ S100x128.size a)
theorem k1_off325_inb : ∀ (v174 : BitVec 32) (k1_hw21 : k1_chk21 v174), ∀ a, (k1_off325 v174) a + S1x16.size a ≤ S100x128.size a := fun v174 k1_hw21 => k1_hw21.1
theorem k1_off327_inb : ∀ (v174 : BitVec 32) (k1_hw21 : k1_chk21 v174), ∀ a, (k1_off327 v174) a + S1x16.size a ≤ S100x128.size a := fun v174 k1_hw21 => k1_hw21.2.1
theorem k1_off329_inb : ∀ (v174 : BitVec 32) (k1_hw21 : k1_chk21 v174), ∀ a, (k1_off329 v174) a + S1x16.size a ≤ S100x128.size a := fun v174 k1_hw21 => k1_hw21.2.2.1
theorem k1_off331_inb : ∀ (v174 : BitVec 32) (k1_hw21 : k1_chk21 v174), ∀ a, (k1_off331 v174) a + S1x16.size a ≤ S100x128.size a := fun v174 k1_hw21 => k1_hw21.2.2.2.1
theorem k1_off333_inb : ∀ (v174 : BitVec 32) (k1_hw21 : k1_chk21 v174), ∀ a, (k1_off333 v174) a + S1x16.size a ≤ S100x128.size a := fun v174 k1_hw21 => k1_hw21.2.2.2.2.1
theorem k1_off335_inb : ∀ (v174 : BitVec 32) (k1_hw21 : k1_chk21 v174), ∀ a, (k1_off335 v174) a + S1x16.size a ≤ S100x128.size a := fun v174 k1_hw21 => k1_hw21.2.2.2.2.2.1
theorem k1_off337_inb : ∀ (v174 : BitVec 32) (k1_hw21 : k1_chk21 v174), ∀ a, (k1_off337 v174) a + S1x16.size a ≤ S100x128.size a := fun v174 k1_hw21 => k1_hw21.2.2.2.2.2.2.1
theorem k1_off339_inb : ∀ (v174 : BitVec 32) (k1_hw21 : k1_chk21 v174), ∀ a, (k1_off339 v174) a + S1x16.size a ≤ S100x128.size a := fun v174 k1_hw21 => k1_hw21.2.2.2.2.2.2.2

def k1_off340 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_98 : BitVec 32 := 16#32
  let v175 : BitVec 32 := Scalar.muli arg16 c16_i32_98
  let c4_i32 : BitVec 32 := 4#32
  let v176 : BitVec 32 := Scalar.addi v175 c4_i32
  let v207 : Index := Scalar.indexCast v176
  let c112_114 : Index := 112#32
  ![v207.toNat, 112]
def k1_off341 (v210 : BitVec 32) : Fin 2 → Nat :=
  let v213 : Index := Scalar.indexCast v210
  let c0_116 : Index := 0#32
  ![v213.toNat, 0]

def k1_off342 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_115 : BitVec 32 := 16#32
  let v211 : BitVec 32 := Scalar.muli arg16 c16_i32_115
  let c5_i32 : BitVec 32 := 5#32
  let v212 : BitVec 32 := Scalar.addi v211 c5_i32
  let v215 : Index := Scalar.indexCast v212
  let c0_117 : Index := 0#32
  ![v215.toNat, 0]
def k1_off343 (v210 : BitVec 32) : Fin 2 → Nat :=
  let v217 : Index := Scalar.indexCast v210
  let c16_118 : Index := 16#32
  ![v217.toNat, 16]
def k1_off344 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_115 : BitVec 32 := 16#32
  let v211 : BitVec 32 := Scalar.muli arg16 c16_i32_115
  let c5_i32 : BitVec 32 := 5#32
  let v212 : BitVec 32 := Scalar.addi v211 c5_i32
  let v219 : Index := Scalar.indexCast v212
  let c16_119 : Index := 16#32
  ![v219.toNat, 16]
def k1_off345 (v210 : BitVec 32) : Fin 2 → Nat :=
  let v221 : Index := Scalar.indexCast v210
  let c32_120 : Index := 32#32
  ![v221.toNat, 32]
def k1_off346 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_115 : BitVec 32 := 16#32
  let v211 : BitVec 32 := Scalar.muli arg16 c16_i32_115
  let c5_i32 : BitVec 32 := 5#32
  let v212 : BitVec 32 := Scalar.addi v211 c5_i32
  let v223 : Index := Scalar.indexCast v212
  let c32_121 : Index := 32#32
  ![v223.toNat, 32]
def k1_off347 (v210 : BitVec 32) : Fin 2 → Nat :=
  let v225 : Index := Scalar.indexCast v210
  let c48_122 : Index := 48#32
  ![v225.toNat, 48]
def k1_off348 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_115 : BitVec 32 := 16#32
  let v211 : BitVec 32 := Scalar.muli arg16 c16_i32_115
  let c5_i32 : BitVec 32 := 5#32
  let v212 : BitVec 32 := Scalar.addi v211 c5_i32
  let v227 : Index := Scalar.indexCast v212
  let c48_123 : Index := 48#32
  ![v227.toNat, 48]
def k1_off349 (v210 : BitVec 32) : Fin 2 → Nat :=
  let v229 : Index := Scalar.indexCast v210
  let c64_124 : Index := 64#32
  ![v229.toNat, 64]
def k1_off350 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_115 : BitVec 32 := 16#32
  let v211 : BitVec 32 := Scalar.muli arg16 c16_i32_115
  let c5_i32 : BitVec 32 := 5#32
  let v212 : BitVec 32 := Scalar.addi v211 c5_i32
  let v231 : Index := Scalar.indexCast v212
  let c64_125 : Index := 64#32
  ![v231.toNat, 64]
def k1_off351 (v210 : BitVec 32) : Fin 2 → Nat :=
  let v233 : Index := Scalar.indexCast v210
  let c80_126 : Index := 80#32
  ![v233.toNat, 80]
def k1_off352 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_115 : BitVec 32 := 16#32
  let v211 : BitVec 32 := Scalar.muli arg16 c16_i32_115
  let c5_i32 : BitVec 32 := 5#32
  let v212 : BitVec 32 := Scalar.addi v211 c5_i32
  let v235 : Index := Scalar.indexCast v212
  let c80_127 : Index := 80#32
  ![v235.toNat, 80]
def k1_off353 (v210 : BitVec 32) : Fin 2 → Nat :=
  let v237 : Index := Scalar.indexCast v210
  let c96_128 : Index := 96#32
  ![v237.toNat, 96]
def k1_off354 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_115 : BitVec 32 := 16#32
  let v211 : BitVec 32 := Scalar.muli arg16 c16_i32_115
  let c5_i32 : BitVec 32 := 5#32
  let v212 : BitVec 32 := Scalar.addi v211 c5_i32
  let v239 : Index := Scalar.indexCast v212
  let c96_129 : Index := 96#32
  ![v239.toNat, 96]
def k1_off355 (v210 : BitVec 32) : Fin 2 → Nat :=
  let v241 : Index := Scalar.indexCast v210
  let c112_130 : Index := 112#32
  ![v241.toNat, 112]

def k1_chk22 (v210 : BitVec 32) : Prop :=
  (∀ a, (k1_off341 v210) a + S1x16.size a ≤ S100x128.size a) ∧
  (∀ a, (k1_off343 v210) a + S1x16.size a ≤ S100x128.size a) ∧
  (∀ a, (k1_off345 v210) a + S1x16.size a ≤ S100x128.size a) ∧
  (∀ a, (k1_off347 v210) a + S1x16.size a ≤ S100x128.size a) ∧
  (∀ a, (k1_off349 v210) a + S1x16.size a ≤ S100x128.size a) ∧
  (∀ a, (k1_off351 v210) a + S1x16.size a ≤ S100x128.size a) ∧
  (∀ a, (k1_off353 v210) a + S1x16.size a ≤ S100x128.size a) ∧
  (∀ a, (k1_off355 v210) a + S1x16.size a ≤ S100x128.size a)
theorem k1_off341_inb : ∀ (v210 : BitVec 32) (k1_hw22 : k1_chk22 v210), ∀ a, (k1_off341 v210) a + S1x16.size a ≤ S100x128.size a := fun v210 k1_hw22 => k1_hw22.1
theorem k1_off343_inb : ∀ (v210 : BitVec 32) (k1_hw22 : k1_chk22 v210), ∀ a, (k1_off343 v210) a + S1x16.size a ≤ S100x128.size a := fun v210 k1_hw22 => k1_hw22.2.1
theorem k1_off345_inb : ∀ (v210 : BitVec 32) (k1_hw22 : k1_chk22 v210), ∀ a, (k1_off345 v210) a + S1x16.size a ≤ S100x128.size a := fun v210 k1_hw22 => k1_hw22.2.2.1
theorem k1_off347_inb : ∀ (v210 : BitVec 32) (k1_hw22 : k1_chk22 v210), ∀ a, (k1_off347 v210) a + S1x16.size a ≤ S100x128.size a := fun v210 k1_hw22 => k1_hw22.2.2.2.1
theorem k1_off349_inb : ∀ (v210 : BitVec 32) (k1_hw22 : k1_chk22 v210), ∀ a, (k1_off349 v210) a + S1x16.size a ≤ S100x128.size a := fun v210 k1_hw22 => k1_hw22.2.2.2.2.1
theorem k1_off351_inb : ∀ (v210 : BitVec 32) (k1_hw22 : k1_chk22 v210), ∀ a, (k1_off351 v210) a + S1x16.size a ≤ S100x128.size a := fun v210 k1_hw22 => k1_hw22.2.2.2.2.2.1
theorem k1_off353_inb : ∀ (v210 : BitVec 32) (k1_hw22 : k1_chk22 v210), ∀ a, (k1_off353 v210) a + S1x16.size a ≤ S100x128.size a := fun v210 k1_hw22 => k1_hw22.2.2.2.2.2.2.1
theorem k1_off355_inb : ∀ (v210 : BitVec 32) (k1_hw22 : k1_chk22 v210), ∀ a, (k1_off355 v210) a + S1x16.size a ≤ S100x128.size a := fun v210 k1_hw22 => k1_hw22.2.2.2.2.2.2.2

def k1_off356 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_115 : BitVec 32 := 16#32
  let v211 : BitVec 32 := Scalar.muli arg16 c16_i32_115
  let c5_i32 : BitVec 32 := 5#32
  let v212 : BitVec 32 := Scalar.addi v211 c5_i32
  let v243 : Index := Scalar.indexCast v212
  let c112_131 : Index := 112#32
  ![v243.toNat, 112]
def k1_off357 (v246 : BitVec 32) : Fin 2 → Nat :=
  let v249 : Index := Scalar.indexCast v246
  let c0_133 : Index := 0#32
  ![v249.toNat, 0]

def k1_off358 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_132 : BitVec 32 := 16#32
  let v247 : BitVec 32 := Scalar.muli arg16 c16_i32_132
  let c6_i32 : BitVec 32 := 6#32
  let v248 : BitVec 32 := Scalar.addi v247 c6_i32
  let v251 : Index := Scalar.indexCast v248
  let c0_134 : Index := 0#32
  ![v251.toNat, 0]
def k1_off359 (v246 : BitVec 32) : Fin 2 → Nat :=
  let v253 : Index := Scalar.indexCast v246
  let c16_135 : Index := 16#32
  ![v253.toNat, 16]
def k1_off360 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_132 : BitVec 32 := 16#32
  let v247 : BitVec 32 := Scalar.muli arg16 c16_i32_132
  let c6_i32 : BitVec 32 := 6#32
  let v248 : BitVec 32 := Scalar.addi v247 c6_i32
  let v255 : Index := Scalar.indexCast v248
  let c16_136 : Index := 16#32
  ![v255.toNat, 16]
def k1_off361 (v246 : BitVec 32) : Fin 2 → Nat :=
  let v257 : Index := Scalar.indexCast v246
  let c32_137 : Index := 32#32
  ![v257.toNat, 32]
def k1_off362 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_132 : BitVec 32 := 16#32
  let v247 : BitVec 32 := Scalar.muli arg16 c16_i32_132
  let c6_i32 : BitVec 32 := 6#32
  let v248 : BitVec 32 := Scalar.addi v247 c6_i32
  let v259 : Index := Scalar.indexCast v248
  let c32_138 : Index := 32#32
  ![v259.toNat, 32]
def k1_off363 (v246 : BitVec 32) : Fin 2 → Nat :=
  let v261 : Index := Scalar.indexCast v246
  let c48_139 : Index := 48#32
  ![v261.toNat, 48]
def k1_off364 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_132 : BitVec 32 := 16#32
  let v247 : BitVec 32 := Scalar.muli arg16 c16_i32_132
  let c6_i32 : BitVec 32 := 6#32
  let v248 : BitVec 32 := Scalar.addi v247 c6_i32
  let v263 : Index := Scalar.indexCast v248
  let c48_140 : Index := 48#32
  ![v263.toNat, 48]
def k1_off365 (v246 : BitVec 32) : Fin 2 → Nat :=
  let v265 : Index := Scalar.indexCast v246
  let c64_141 : Index := 64#32
  ![v265.toNat, 64]
def k1_off366 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_132 : BitVec 32 := 16#32
  let v247 : BitVec 32 := Scalar.muli arg16 c16_i32_132
  let c6_i32 : BitVec 32 := 6#32
  let v248 : BitVec 32 := Scalar.addi v247 c6_i32
  let v267 : Index := Scalar.indexCast v248
  let c64_142 : Index := 64#32
  ![v267.toNat, 64]
def k1_off367 (v246 : BitVec 32) : Fin 2 → Nat :=
  let v269 : Index := Scalar.indexCast v246
  let c80_143 : Index := 80#32
  ![v269.toNat, 80]
def k1_off368 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_132 : BitVec 32 := 16#32
  let v247 : BitVec 32 := Scalar.muli arg16 c16_i32_132
  let c6_i32 : BitVec 32 := 6#32
  let v248 : BitVec 32 := Scalar.addi v247 c6_i32
  let v271 : Index := Scalar.indexCast v248
  let c80_144 : Index := 80#32
  ![v271.toNat, 80]
def k1_off369 (v246 : BitVec 32) : Fin 2 → Nat :=
  let v273 : Index := Scalar.indexCast v246
  let c96_145 : Index := 96#32
  ![v273.toNat, 96]
def k1_off370 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_132 : BitVec 32 := 16#32
  let v247 : BitVec 32 := Scalar.muli arg16 c16_i32_132
  let c6_i32 : BitVec 32 := 6#32
  let v248 : BitVec 32 := Scalar.addi v247 c6_i32
  let v275 : Index := Scalar.indexCast v248
  let c96_146 : Index := 96#32
  ![v275.toNat, 96]
def k1_off371 (v246 : BitVec 32) : Fin 2 → Nat :=
  let v277 : Index := Scalar.indexCast v246
  let c112_147 : Index := 112#32
  ![v277.toNat, 112]

def k1_chk23 (v246 : BitVec 32) : Prop :=
  (∀ a, (k1_off357 v246) a + S1x16.size a ≤ S100x128.size a) ∧
  (∀ a, (k1_off359 v246) a + S1x16.size a ≤ S100x128.size a) ∧
  (∀ a, (k1_off361 v246) a + S1x16.size a ≤ S100x128.size a) ∧
  (∀ a, (k1_off363 v246) a + S1x16.size a ≤ S100x128.size a) ∧
  (∀ a, (k1_off365 v246) a + S1x16.size a ≤ S100x128.size a) ∧
  (∀ a, (k1_off367 v246) a + S1x16.size a ≤ S100x128.size a) ∧
  (∀ a, (k1_off369 v246) a + S1x16.size a ≤ S100x128.size a) ∧
  (∀ a, (k1_off371 v246) a + S1x16.size a ≤ S100x128.size a)
theorem k1_off357_inb : ∀ (v246 : BitVec 32) (k1_hw23 : k1_chk23 v246), ∀ a, (k1_off357 v246) a + S1x16.size a ≤ S100x128.size a := fun v246 k1_hw23 => k1_hw23.1
theorem k1_off359_inb : ∀ (v246 : BitVec 32) (k1_hw23 : k1_chk23 v246), ∀ a, (k1_off359 v246) a + S1x16.size a ≤ S100x128.size a := fun v246 k1_hw23 => k1_hw23.2.1
theorem k1_off361_inb : ∀ (v246 : BitVec 32) (k1_hw23 : k1_chk23 v246), ∀ a, (k1_off361 v246) a + S1x16.size a ≤ S100x128.size a := fun v246 k1_hw23 => k1_hw23.2.2.1
theorem k1_off363_inb : ∀ (v246 : BitVec 32) (k1_hw23 : k1_chk23 v246), ∀ a, (k1_off363 v246) a + S1x16.size a ≤ S100x128.size a := fun v246 k1_hw23 => k1_hw23.2.2.2.1
theorem k1_off365_inb : ∀ (v246 : BitVec 32) (k1_hw23 : k1_chk23 v246), ∀ a, (k1_off365 v246) a + S1x16.size a ≤ S100x128.size a := fun v246 k1_hw23 => k1_hw23.2.2.2.2.1
theorem k1_off367_inb : ∀ (v246 : BitVec 32) (k1_hw23 : k1_chk23 v246), ∀ a, (k1_off367 v246) a + S1x16.size a ≤ S100x128.size a := fun v246 k1_hw23 => k1_hw23.2.2.2.2.2.1
theorem k1_off369_inb : ∀ (v246 : BitVec 32) (k1_hw23 : k1_chk23 v246), ∀ a, (k1_off369 v246) a + S1x16.size a ≤ S100x128.size a := fun v246 k1_hw23 => k1_hw23.2.2.2.2.2.2.1
theorem k1_off371_inb : ∀ (v246 : BitVec 32) (k1_hw23 : k1_chk23 v246), ∀ a, (k1_off371 v246) a + S1x16.size a ≤ S100x128.size a := fun v246 k1_hw23 => k1_hw23.2.2.2.2.2.2.2

def k1_off372 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_132 : BitVec 32 := 16#32
  let v247 : BitVec 32 := Scalar.muli arg16 c16_i32_132
  let c6_i32 : BitVec 32 := 6#32
  let v248 : BitVec 32 := Scalar.addi v247 c6_i32
  let v279 : Index := Scalar.indexCast v248
  let c112_148 : Index := 112#32
  ![v279.toNat, 112]
def k1_off373 (v282 : BitVec 32) : Fin 2 → Nat :=
  let v285 : Index := Scalar.indexCast v282
  let c0_150 : Index := 0#32
  ![v285.toNat, 0]

def k1_off374 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_149 : BitVec 32 := 16#32
  let v283 : BitVec 32 := Scalar.muli arg16 c16_i32_149
  let c7_i32 : BitVec 32 := 7#32
  let v284 : BitVec 32 := Scalar.addi v283 c7_i32
  let v287 : Index := Scalar.indexCast v284
  let c0_151 : Index := 0#32
  ![v287.toNat, 0]
def k1_off375 (v282 : BitVec 32) : Fin 2 → Nat :=
  let v289 : Index := Scalar.indexCast v282
  let c16_152 : Index := 16#32
  ![v289.toNat, 16]
def k1_off376 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_149 : BitVec 32 := 16#32
  let v283 : BitVec 32 := Scalar.muli arg16 c16_i32_149
  let c7_i32 : BitVec 32 := 7#32
  let v284 : BitVec 32 := Scalar.addi v283 c7_i32
  let v291 : Index := Scalar.indexCast v284
  let c16_153 : Index := 16#32
  ![v291.toNat, 16]
def k1_off377 (v282 : BitVec 32) : Fin 2 → Nat :=
  let v293 : Index := Scalar.indexCast v282
  let c32_154 : Index := 32#32
  ![v293.toNat, 32]
def k1_off378 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_149 : BitVec 32 := 16#32
  let v283 : BitVec 32 := Scalar.muli arg16 c16_i32_149
  let c7_i32 : BitVec 32 := 7#32
  let v284 : BitVec 32 := Scalar.addi v283 c7_i32
  let v295 : Index := Scalar.indexCast v284
  let c32_155 : Index := 32#32
  ![v295.toNat, 32]
def k1_off379 (v282 : BitVec 32) : Fin 2 → Nat :=
  let v297 : Index := Scalar.indexCast v282
  let c48_156 : Index := 48#32
  ![v297.toNat, 48]
def k1_off380 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_149 : BitVec 32 := 16#32
  let v283 : BitVec 32 := Scalar.muli arg16 c16_i32_149
  let c7_i32 : BitVec 32 := 7#32
  let v284 : BitVec 32 := Scalar.addi v283 c7_i32
  let v299 : Index := Scalar.indexCast v284
  let c48_157 : Index := 48#32
  ![v299.toNat, 48]
def k1_off381 (v282 : BitVec 32) : Fin 2 → Nat :=
  let v301 : Index := Scalar.indexCast v282
  let c64_158 : Index := 64#32
  ![v301.toNat, 64]
def k1_off382 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_149 : BitVec 32 := 16#32
  let v283 : BitVec 32 := Scalar.muli arg16 c16_i32_149
  let c7_i32 : BitVec 32 := 7#32
  let v284 : BitVec 32 := Scalar.addi v283 c7_i32
  let v303 : Index := Scalar.indexCast v284
  let c64_159 : Index := 64#32
  ![v303.toNat, 64]
def k1_off383 (v282 : BitVec 32) : Fin 2 → Nat :=
  let v305 : Index := Scalar.indexCast v282
  let c80_160 : Index := 80#32
  ![v305.toNat, 80]
def k1_off384 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_149 : BitVec 32 := 16#32
  let v283 : BitVec 32 := Scalar.muli arg16 c16_i32_149
  let c7_i32 : BitVec 32 := 7#32
  let v284 : BitVec 32 := Scalar.addi v283 c7_i32
  let v307 : Index := Scalar.indexCast v284
  let c80_161 : Index := 80#32
  ![v307.toNat, 80]
def k1_off385 (v282 : BitVec 32) : Fin 2 → Nat :=
  let v309 : Index := Scalar.indexCast v282
  let c96_162 : Index := 96#32
  ![v309.toNat, 96]
def k1_off386 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_149 : BitVec 32 := 16#32
  let v283 : BitVec 32 := Scalar.muli arg16 c16_i32_149
  let c7_i32 : BitVec 32 := 7#32
  let v284 : BitVec 32 := Scalar.addi v283 c7_i32
  let v311 : Index := Scalar.indexCast v284
  let c96_163 : Index := 96#32
  ![v311.toNat, 96]
def k1_off387 (v282 : BitVec 32) : Fin 2 → Nat :=
  let v313 : Index := Scalar.indexCast v282
  let c112_164 : Index := 112#32
  ![v313.toNat, 112]

def k1_chk24 (v282 : BitVec 32) : Prop :=
  (∀ a, (k1_off373 v282) a + S1x16.size a ≤ S100x128.size a) ∧
  (∀ a, (k1_off375 v282) a + S1x16.size a ≤ S100x128.size a) ∧
  (∀ a, (k1_off377 v282) a + S1x16.size a ≤ S100x128.size a) ∧
  (∀ a, (k1_off379 v282) a + S1x16.size a ≤ S100x128.size a) ∧
  (∀ a, (k1_off381 v282) a + S1x16.size a ≤ S100x128.size a) ∧
  (∀ a, (k1_off383 v282) a + S1x16.size a ≤ S100x128.size a) ∧
  (∀ a, (k1_off385 v282) a + S1x16.size a ≤ S100x128.size a) ∧
  (∀ a, (k1_off387 v282) a + S1x16.size a ≤ S100x128.size a)
theorem k1_off373_inb : ∀ (v282 : BitVec 32) (k1_hw24 : k1_chk24 v282), ∀ a, (k1_off373 v282) a + S1x16.size a ≤ S100x128.size a := fun v282 k1_hw24 => k1_hw24.1
theorem k1_off375_inb : ∀ (v282 : BitVec 32) (k1_hw24 : k1_chk24 v282), ∀ a, (k1_off375 v282) a + S1x16.size a ≤ S100x128.size a := fun v282 k1_hw24 => k1_hw24.2.1
theorem k1_off377_inb : ∀ (v282 : BitVec 32) (k1_hw24 : k1_chk24 v282), ∀ a, (k1_off377 v282) a + S1x16.size a ≤ S100x128.size a := fun v282 k1_hw24 => k1_hw24.2.2.1
theorem k1_off379_inb : ∀ (v282 : BitVec 32) (k1_hw24 : k1_chk24 v282), ∀ a, (k1_off379 v282) a + S1x16.size a ≤ S100x128.size a := fun v282 k1_hw24 => k1_hw24.2.2.2.1
theorem k1_off381_inb : ∀ (v282 : BitVec 32) (k1_hw24 : k1_chk24 v282), ∀ a, (k1_off381 v282) a + S1x16.size a ≤ S100x128.size a := fun v282 k1_hw24 => k1_hw24.2.2.2.2.1
theorem k1_off383_inb : ∀ (v282 : BitVec 32) (k1_hw24 : k1_chk24 v282), ∀ a, (k1_off383 v282) a + S1x16.size a ≤ S100x128.size a := fun v282 k1_hw24 => k1_hw24.2.2.2.2.2.1
theorem k1_off385_inb : ∀ (v282 : BitVec 32) (k1_hw24 : k1_chk24 v282), ∀ a, (k1_off385 v282) a + S1x16.size a ≤ S100x128.size a := fun v282 k1_hw24 => k1_hw24.2.2.2.2.2.2.1
theorem k1_off387_inb : ∀ (v282 : BitVec 32) (k1_hw24 : k1_chk24 v282), ∀ a, (k1_off387 v282) a + S1x16.size a ≤ S100x128.size a := fun v282 k1_hw24 => k1_hw24.2.2.2.2.2.2.2

def k1_off388 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_149 : BitVec 32 := 16#32
  let v283 : BitVec 32 := Scalar.muli arg16 c16_i32_149
  let c7_i32 : BitVec 32 := 7#32
  let v284 : BitVec 32 := Scalar.addi v283 c7_i32
  let v315 : Index := Scalar.indexCast v284
  let c112_165 : Index := 112#32
  ![v315.toNat, 112]
def k1_off389 (v318 : BitVec 32) : Fin 2 → Nat :=
  let v321 : Index := Scalar.indexCast v318
  let c0_168 : Index := 0#32
  ![v321.toNat, 0]

def k1_off390 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_166 : BitVec 32 := 16#32
  let v319 : BitVec 32 := Scalar.muli arg16 c16_i32_166
  let c8_i32_167 : BitVec 32 := 8#32
  let v320 : BitVec 32 := Scalar.addi v319 c8_i32_167
  let v323 : Index := Scalar.indexCast v320
  let c0_169 : Index := 0#32
  ![v323.toNat, 0]
def k1_off391 (v318 : BitVec 32) : Fin 2 → Nat :=
  let v325 : Index := Scalar.indexCast v318
  let c16_170 : Index := 16#32
  ![v325.toNat, 16]
def k1_off392 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_166 : BitVec 32 := 16#32
  let v319 : BitVec 32 := Scalar.muli arg16 c16_i32_166
  let c8_i32_167 : BitVec 32 := 8#32
  let v320 : BitVec 32 := Scalar.addi v319 c8_i32_167
  let v327 : Index := Scalar.indexCast v320
  let c16_171 : Index := 16#32
  ![v327.toNat, 16]
def k1_off393 (v318 : BitVec 32) : Fin 2 → Nat :=
  let v329 : Index := Scalar.indexCast v318
  let c32_172 : Index := 32#32
  ![v329.toNat, 32]
def k1_off394 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_166 : BitVec 32 := 16#32
  let v319 : BitVec 32 := Scalar.muli arg16 c16_i32_166
  let c8_i32_167 : BitVec 32 := 8#32
  let v320 : BitVec 32 := Scalar.addi v319 c8_i32_167
  let v331 : Index := Scalar.indexCast v320
  let c32_173 : Index := 32#32
  ![v331.toNat, 32]
def k1_off395 (v318 : BitVec 32) : Fin 2 → Nat :=
  let v333 : Index := Scalar.indexCast v318
  let c48_174 : Index := 48#32
  ![v333.toNat, 48]
def k1_off396 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_166 : BitVec 32 := 16#32
  let v319 : BitVec 32 := Scalar.muli arg16 c16_i32_166
  let c8_i32_167 : BitVec 32 := 8#32
  let v320 : BitVec 32 := Scalar.addi v319 c8_i32_167
  let v335 : Index := Scalar.indexCast v320
  let c48_175 : Index := 48#32
  ![v335.toNat, 48]
def k1_off397 (v318 : BitVec 32) : Fin 2 → Nat :=
  let v337 : Index := Scalar.indexCast v318
  let c64_176 : Index := 64#32
  ![v337.toNat, 64]
def k1_off398 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_166 : BitVec 32 := 16#32
  let v319 : BitVec 32 := Scalar.muli arg16 c16_i32_166
  let c8_i32_167 : BitVec 32 := 8#32
  let v320 : BitVec 32 := Scalar.addi v319 c8_i32_167
  let v339 : Index := Scalar.indexCast v320
  let c64_177 : Index := 64#32
  ![v339.toNat, 64]
def k1_off399 (v318 : BitVec 32) : Fin 2 → Nat :=
  let v341 : Index := Scalar.indexCast v318
  let c80_178 : Index := 80#32
  ![v341.toNat, 80]
def k1_off400 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_166 : BitVec 32 := 16#32
  let v319 : BitVec 32 := Scalar.muli arg16 c16_i32_166
  let c8_i32_167 : BitVec 32 := 8#32
  let v320 : BitVec 32 := Scalar.addi v319 c8_i32_167
  let v343 : Index := Scalar.indexCast v320
  let c80_179 : Index := 80#32
  ![v343.toNat, 80]
def k1_off401 (v318 : BitVec 32) : Fin 2 → Nat :=
  let v345 : Index := Scalar.indexCast v318
  let c96_180 : Index := 96#32
  ![v345.toNat, 96]
def k1_off402 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_166 : BitVec 32 := 16#32
  let v319 : BitVec 32 := Scalar.muli arg16 c16_i32_166
  let c8_i32_167 : BitVec 32 := 8#32
  let v320 : BitVec 32 := Scalar.addi v319 c8_i32_167
  let v347 : Index := Scalar.indexCast v320
  let c96_181 : Index := 96#32
  ![v347.toNat, 96]
def k1_off403 (v318 : BitVec 32) : Fin 2 → Nat :=
  let v349 : Index := Scalar.indexCast v318
  let c112_182 : Index := 112#32
  ![v349.toNat, 112]

def k1_chk25 (v318 : BitVec 32) : Prop :=
  (∀ a, (k1_off389 v318) a + S1x16.size a ≤ S100x128.size a) ∧
  (∀ a, (k1_off391 v318) a + S1x16.size a ≤ S100x128.size a) ∧
  (∀ a, (k1_off393 v318) a + S1x16.size a ≤ S100x128.size a) ∧
  (∀ a, (k1_off395 v318) a + S1x16.size a ≤ S100x128.size a) ∧
  (∀ a, (k1_off397 v318) a + S1x16.size a ≤ S100x128.size a) ∧
  (∀ a, (k1_off399 v318) a + S1x16.size a ≤ S100x128.size a) ∧
  (∀ a, (k1_off401 v318) a + S1x16.size a ≤ S100x128.size a) ∧
  (∀ a, (k1_off403 v318) a + S1x16.size a ≤ S100x128.size a)
theorem k1_off389_inb : ∀ (v318 : BitVec 32) (k1_hw25 : k1_chk25 v318), ∀ a, (k1_off389 v318) a + S1x16.size a ≤ S100x128.size a := fun v318 k1_hw25 => k1_hw25.1
theorem k1_off391_inb : ∀ (v318 : BitVec 32) (k1_hw25 : k1_chk25 v318), ∀ a, (k1_off391 v318) a + S1x16.size a ≤ S100x128.size a := fun v318 k1_hw25 => k1_hw25.2.1
theorem k1_off393_inb : ∀ (v318 : BitVec 32) (k1_hw25 : k1_chk25 v318), ∀ a, (k1_off393 v318) a + S1x16.size a ≤ S100x128.size a := fun v318 k1_hw25 => k1_hw25.2.2.1
theorem k1_off395_inb : ∀ (v318 : BitVec 32) (k1_hw25 : k1_chk25 v318), ∀ a, (k1_off395 v318) a + S1x16.size a ≤ S100x128.size a := fun v318 k1_hw25 => k1_hw25.2.2.2.1
theorem k1_off397_inb : ∀ (v318 : BitVec 32) (k1_hw25 : k1_chk25 v318), ∀ a, (k1_off397 v318) a + S1x16.size a ≤ S100x128.size a := fun v318 k1_hw25 => k1_hw25.2.2.2.2.1
theorem k1_off399_inb : ∀ (v318 : BitVec 32) (k1_hw25 : k1_chk25 v318), ∀ a, (k1_off399 v318) a + S1x16.size a ≤ S100x128.size a := fun v318 k1_hw25 => k1_hw25.2.2.2.2.2.1
theorem k1_off401_inb : ∀ (v318 : BitVec 32) (k1_hw25 : k1_chk25 v318), ∀ a, (k1_off401 v318) a + S1x16.size a ≤ S100x128.size a := fun v318 k1_hw25 => k1_hw25.2.2.2.2.2.2.1
theorem k1_off403_inb : ∀ (v318 : BitVec 32) (k1_hw25 : k1_chk25 v318), ∀ a, (k1_off403 v318) a + S1x16.size a ≤ S100x128.size a := fun v318 k1_hw25 => k1_hw25.2.2.2.2.2.2.2

def k1_off404 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_166 : BitVec 32 := 16#32
  let v319 : BitVec 32 := Scalar.muli arg16 c16_i32_166
  let c8_i32_167 : BitVec 32 := 8#32
  let v320 : BitVec 32 := Scalar.addi v319 c8_i32_167
  let v351 : Index := Scalar.indexCast v320
  let c112_183 : Index := 112#32
  ![v351.toNat, 112]
def k1_off405 (v354 : BitVec 32) : Fin 2 → Nat :=
  let v357 : Index := Scalar.indexCast v354
  let c0_185 : Index := 0#32
  ![v357.toNat, 0]

def k1_off406 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_184 : BitVec 32 := 16#32
  let v355 : BitVec 32 := Scalar.muli arg16 c16_i32_184
  let c9_i32 : BitVec 32 := 9#32
  let v356 : BitVec 32 := Scalar.addi v355 c9_i32
  let v359 : Index := Scalar.indexCast v356
  let c0_186 : Index := 0#32
  ![v359.toNat, 0]
def k1_off407 (v354 : BitVec 32) : Fin 2 → Nat :=
  let v361 : Index := Scalar.indexCast v354
  let c16_187 : Index := 16#32
  ![v361.toNat, 16]
def k1_off408 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_184 : BitVec 32 := 16#32
  let v355 : BitVec 32 := Scalar.muli arg16 c16_i32_184
  let c9_i32 : BitVec 32 := 9#32
  let v356 : BitVec 32 := Scalar.addi v355 c9_i32
  let v363 : Index := Scalar.indexCast v356
  let c16_188 : Index := 16#32
  ![v363.toNat, 16]
def k1_off409 (v354 : BitVec 32) : Fin 2 → Nat :=
  let v365 : Index := Scalar.indexCast v354
  let c32_189 : Index := 32#32
  ![v365.toNat, 32]
def k1_off410 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_184 : BitVec 32 := 16#32
  let v355 : BitVec 32 := Scalar.muli arg16 c16_i32_184
  let c9_i32 : BitVec 32 := 9#32
  let v356 : BitVec 32 := Scalar.addi v355 c9_i32
  let v367 : Index := Scalar.indexCast v356
  let c32_190 : Index := 32#32
  ![v367.toNat, 32]
def k1_off411 (v354 : BitVec 32) : Fin 2 → Nat :=
  let v369 : Index := Scalar.indexCast v354
  let c48_191 : Index := 48#32
  ![v369.toNat, 48]
def k1_off412 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_184 : BitVec 32 := 16#32
  let v355 : BitVec 32 := Scalar.muli arg16 c16_i32_184
  let c9_i32 : BitVec 32 := 9#32
  let v356 : BitVec 32 := Scalar.addi v355 c9_i32
  let v371 : Index := Scalar.indexCast v356
  let c48_192 : Index := 48#32
  ![v371.toNat, 48]
def k1_off413 (v354 : BitVec 32) : Fin 2 → Nat :=
  let v373 : Index := Scalar.indexCast v354
  let c64_193 : Index := 64#32
  ![v373.toNat, 64]
def k1_off414 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_184 : BitVec 32 := 16#32
  let v355 : BitVec 32 := Scalar.muli arg16 c16_i32_184
  let c9_i32 : BitVec 32 := 9#32
  let v356 : BitVec 32 := Scalar.addi v355 c9_i32
  let v375 : Index := Scalar.indexCast v356
  let c64_194 : Index := 64#32
  ![v375.toNat, 64]
def k1_off415 (v354 : BitVec 32) : Fin 2 → Nat :=
  let v377 : Index := Scalar.indexCast v354
  let c80_195 : Index := 80#32
  ![v377.toNat, 80]
def k1_off416 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_184 : BitVec 32 := 16#32
  let v355 : BitVec 32 := Scalar.muli arg16 c16_i32_184
  let c9_i32 : BitVec 32 := 9#32
  let v356 : BitVec 32 := Scalar.addi v355 c9_i32
  let v379 : Index := Scalar.indexCast v356
  let c80_196 : Index := 80#32
  ![v379.toNat, 80]
def k1_off417 (v354 : BitVec 32) : Fin 2 → Nat :=
  let v381 : Index := Scalar.indexCast v354
  let c96_197 : Index := 96#32
  ![v381.toNat, 96]
def k1_off418 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_184 : BitVec 32 := 16#32
  let v355 : BitVec 32 := Scalar.muli arg16 c16_i32_184
  let c9_i32 : BitVec 32 := 9#32
  let v356 : BitVec 32 := Scalar.addi v355 c9_i32
  let v383 : Index := Scalar.indexCast v356
  let c96_198 : Index := 96#32
  ![v383.toNat, 96]
def k1_off419 (v354 : BitVec 32) : Fin 2 → Nat :=
  let v385 : Index := Scalar.indexCast v354
  let c112_199 : Index := 112#32
  ![v385.toNat, 112]

def k1_chk26 (v354 : BitVec 32) : Prop :=
  (∀ a, (k1_off405 v354) a + S1x16.size a ≤ S100x128.size a) ∧
  (∀ a, (k1_off407 v354) a + S1x16.size a ≤ S100x128.size a) ∧
  (∀ a, (k1_off409 v354) a + S1x16.size a ≤ S100x128.size a) ∧
  (∀ a, (k1_off411 v354) a + S1x16.size a ≤ S100x128.size a) ∧
  (∀ a, (k1_off413 v354) a + S1x16.size a ≤ S100x128.size a) ∧
  (∀ a, (k1_off415 v354) a + S1x16.size a ≤ S100x128.size a) ∧
  (∀ a, (k1_off417 v354) a + S1x16.size a ≤ S100x128.size a) ∧
  (∀ a, (k1_off419 v354) a + S1x16.size a ≤ S100x128.size a)
theorem k1_off405_inb : ∀ (v354 : BitVec 32) (k1_hw26 : k1_chk26 v354), ∀ a, (k1_off405 v354) a + S1x16.size a ≤ S100x128.size a := fun v354 k1_hw26 => k1_hw26.1
theorem k1_off407_inb : ∀ (v354 : BitVec 32) (k1_hw26 : k1_chk26 v354), ∀ a, (k1_off407 v354) a + S1x16.size a ≤ S100x128.size a := fun v354 k1_hw26 => k1_hw26.2.1
theorem k1_off409_inb : ∀ (v354 : BitVec 32) (k1_hw26 : k1_chk26 v354), ∀ a, (k1_off409 v354) a + S1x16.size a ≤ S100x128.size a := fun v354 k1_hw26 => k1_hw26.2.2.1
theorem k1_off411_inb : ∀ (v354 : BitVec 32) (k1_hw26 : k1_chk26 v354), ∀ a, (k1_off411 v354) a + S1x16.size a ≤ S100x128.size a := fun v354 k1_hw26 => k1_hw26.2.2.2.1
theorem k1_off413_inb : ∀ (v354 : BitVec 32) (k1_hw26 : k1_chk26 v354), ∀ a, (k1_off413 v354) a + S1x16.size a ≤ S100x128.size a := fun v354 k1_hw26 => k1_hw26.2.2.2.2.1
theorem k1_off415_inb : ∀ (v354 : BitVec 32) (k1_hw26 : k1_chk26 v354), ∀ a, (k1_off415 v354) a + S1x16.size a ≤ S100x128.size a := fun v354 k1_hw26 => k1_hw26.2.2.2.2.2.1
theorem k1_off417_inb : ∀ (v354 : BitVec 32) (k1_hw26 : k1_chk26 v354), ∀ a, (k1_off417 v354) a + S1x16.size a ≤ S100x128.size a := fun v354 k1_hw26 => k1_hw26.2.2.2.2.2.2.1
theorem k1_off419_inb : ∀ (v354 : BitVec 32) (k1_hw26 : k1_chk26 v354), ∀ a, (k1_off419 v354) a + S1x16.size a ≤ S100x128.size a := fun v354 k1_hw26 => k1_hw26.2.2.2.2.2.2.2

def k1_off420 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_184 : BitVec 32 := 16#32
  let v355 : BitVec 32 := Scalar.muli arg16 c16_i32_184
  let c9_i32 : BitVec 32 := 9#32
  let v356 : BitVec 32 := Scalar.addi v355 c9_i32
  let v387 : Index := Scalar.indexCast v356
  let c112_200 : Index := 112#32
  ![v387.toNat, 112]
def k1_off421 (v390 : BitVec 32) : Fin 2 → Nat :=
  let v393 : Index := Scalar.indexCast v390
  let c0_202 : Index := 0#32
  ![v393.toNat, 0]

def k1_off422 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_201 : BitVec 32 := 16#32
  let v391 : BitVec 32 := Scalar.muli arg16 c16_i32_201
  let c10_i32 : BitVec 32 := 10#32
  let v392 : BitVec 32 := Scalar.addi v391 c10_i32
  let v395 : Index := Scalar.indexCast v392
  let c0_203 : Index := 0#32
  ![v395.toNat, 0]
def k1_off423 (v390 : BitVec 32) : Fin 2 → Nat :=
  let v397 : Index := Scalar.indexCast v390
  let c16_204 : Index := 16#32
  ![v397.toNat, 16]
def k1_off424 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_201 : BitVec 32 := 16#32
  let v391 : BitVec 32 := Scalar.muli arg16 c16_i32_201
  let c10_i32 : BitVec 32 := 10#32
  let v392 : BitVec 32 := Scalar.addi v391 c10_i32
  let v399 : Index := Scalar.indexCast v392
  let c16_205 : Index := 16#32
  ![v399.toNat, 16]
def k1_off425 (v390 : BitVec 32) : Fin 2 → Nat :=
  let v401 : Index := Scalar.indexCast v390
  let c32_206 : Index := 32#32
  ![v401.toNat, 32]
def k1_off426 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_201 : BitVec 32 := 16#32
  let v391 : BitVec 32 := Scalar.muli arg16 c16_i32_201
  let c10_i32 : BitVec 32 := 10#32
  let v392 : BitVec 32 := Scalar.addi v391 c10_i32
  let v403 : Index := Scalar.indexCast v392
  let c32_207 : Index := 32#32
  ![v403.toNat, 32]
def k1_off427 (v390 : BitVec 32) : Fin 2 → Nat :=
  let v405 : Index := Scalar.indexCast v390
  let c48_208 : Index := 48#32
  ![v405.toNat, 48]
def k1_off428 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_201 : BitVec 32 := 16#32
  let v391 : BitVec 32 := Scalar.muli arg16 c16_i32_201
  let c10_i32 : BitVec 32 := 10#32
  let v392 : BitVec 32 := Scalar.addi v391 c10_i32
  let v407 : Index := Scalar.indexCast v392
  let c48_209 : Index := 48#32
  ![v407.toNat, 48]
def k1_off429 (v390 : BitVec 32) : Fin 2 → Nat :=
  let v409 : Index := Scalar.indexCast v390
  let c64_210 : Index := 64#32
  ![v409.toNat, 64]
def k1_off430 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_201 : BitVec 32 := 16#32
  let v391 : BitVec 32 := Scalar.muli arg16 c16_i32_201
  let c10_i32 : BitVec 32 := 10#32
  let v392 : BitVec 32 := Scalar.addi v391 c10_i32
  let v411 : Index := Scalar.indexCast v392
  let c64_211 : Index := 64#32
  ![v411.toNat, 64]
def k1_off431 (v390 : BitVec 32) : Fin 2 → Nat :=
  let v413 : Index := Scalar.indexCast v390
  let c80_212 : Index := 80#32
  ![v413.toNat, 80]
def k1_off432 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_201 : BitVec 32 := 16#32
  let v391 : BitVec 32 := Scalar.muli arg16 c16_i32_201
  let c10_i32 : BitVec 32 := 10#32
  let v392 : BitVec 32 := Scalar.addi v391 c10_i32
  let v415 : Index := Scalar.indexCast v392
  let c80_213 : Index := 80#32
  ![v415.toNat, 80]
def k1_off433 (v390 : BitVec 32) : Fin 2 → Nat :=
  let v417 : Index := Scalar.indexCast v390
  let c96_214 : Index := 96#32
  ![v417.toNat, 96]
def k1_off434 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_201 : BitVec 32 := 16#32
  let v391 : BitVec 32 := Scalar.muli arg16 c16_i32_201
  let c10_i32 : BitVec 32 := 10#32
  let v392 : BitVec 32 := Scalar.addi v391 c10_i32
  let v419 : Index := Scalar.indexCast v392
  let c96_215 : Index := 96#32
  ![v419.toNat, 96]
def k1_off435 (v390 : BitVec 32) : Fin 2 → Nat :=
  let v421 : Index := Scalar.indexCast v390
  let c112_216 : Index := 112#32
  ![v421.toNat, 112]

def k1_chk27 (v390 : BitVec 32) : Prop :=
  (∀ a, (k1_off421 v390) a + S1x16.size a ≤ S100x128.size a) ∧
  (∀ a, (k1_off423 v390) a + S1x16.size a ≤ S100x128.size a) ∧
  (∀ a, (k1_off425 v390) a + S1x16.size a ≤ S100x128.size a) ∧
  (∀ a, (k1_off427 v390) a + S1x16.size a ≤ S100x128.size a) ∧
  (∀ a, (k1_off429 v390) a + S1x16.size a ≤ S100x128.size a) ∧
  (∀ a, (k1_off431 v390) a + S1x16.size a ≤ S100x128.size a) ∧
  (∀ a, (k1_off433 v390) a + S1x16.size a ≤ S100x128.size a) ∧
  (∀ a, (k1_off435 v390) a + S1x16.size a ≤ S100x128.size a)
theorem k1_off421_inb : ∀ (v390 : BitVec 32) (k1_hw27 : k1_chk27 v390), ∀ a, (k1_off421 v390) a + S1x16.size a ≤ S100x128.size a := fun v390 k1_hw27 => k1_hw27.1
theorem k1_off423_inb : ∀ (v390 : BitVec 32) (k1_hw27 : k1_chk27 v390), ∀ a, (k1_off423 v390) a + S1x16.size a ≤ S100x128.size a := fun v390 k1_hw27 => k1_hw27.2.1
theorem k1_off425_inb : ∀ (v390 : BitVec 32) (k1_hw27 : k1_chk27 v390), ∀ a, (k1_off425 v390) a + S1x16.size a ≤ S100x128.size a := fun v390 k1_hw27 => k1_hw27.2.2.1
theorem k1_off427_inb : ∀ (v390 : BitVec 32) (k1_hw27 : k1_chk27 v390), ∀ a, (k1_off427 v390) a + S1x16.size a ≤ S100x128.size a := fun v390 k1_hw27 => k1_hw27.2.2.2.1
theorem k1_off429_inb : ∀ (v390 : BitVec 32) (k1_hw27 : k1_chk27 v390), ∀ a, (k1_off429 v390) a + S1x16.size a ≤ S100x128.size a := fun v390 k1_hw27 => k1_hw27.2.2.2.2.1
theorem k1_off431_inb : ∀ (v390 : BitVec 32) (k1_hw27 : k1_chk27 v390), ∀ a, (k1_off431 v390) a + S1x16.size a ≤ S100x128.size a := fun v390 k1_hw27 => k1_hw27.2.2.2.2.2.1
theorem k1_off433_inb : ∀ (v390 : BitVec 32) (k1_hw27 : k1_chk27 v390), ∀ a, (k1_off433 v390) a + S1x16.size a ≤ S100x128.size a := fun v390 k1_hw27 => k1_hw27.2.2.2.2.2.2.1
theorem k1_off435_inb : ∀ (v390 : BitVec 32) (k1_hw27 : k1_chk27 v390), ∀ a, (k1_off435 v390) a + S1x16.size a ≤ S100x128.size a := fun v390 k1_hw27 => k1_hw27.2.2.2.2.2.2.2

def k1_off436 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_201 : BitVec 32 := 16#32
  let v391 : BitVec 32 := Scalar.muli arg16 c16_i32_201
  let c10_i32 : BitVec 32 := 10#32
  let v392 : BitVec 32 := Scalar.addi v391 c10_i32
  let v423 : Index := Scalar.indexCast v392
  let c112_217 : Index := 112#32
  ![v423.toNat, 112]
def k1_off437 (v426 : BitVec 32) : Fin 2 → Nat :=
  let v429 : Index := Scalar.indexCast v426
  let c0_219 : Index := 0#32
  ![v429.toNat, 0]

def k1_off438 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_218 : BitVec 32 := 16#32
  let v427 : BitVec 32 := Scalar.muli arg16 c16_i32_218
  let c11_i32 : BitVec 32 := 11#32
  let v428 : BitVec 32 := Scalar.addi v427 c11_i32
  let v431 : Index := Scalar.indexCast v428
  let c0_220 : Index := 0#32
  ![v431.toNat, 0]
def k1_off439 (v426 : BitVec 32) : Fin 2 → Nat :=
  let v433 : Index := Scalar.indexCast v426
  let c16_221 : Index := 16#32
  ![v433.toNat, 16]
def k1_off440 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_218 : BitVec 32 := 16#32
  let v427 : BitVec 32 := Scalar.muli arg16 c16_i32_218
  let c11_i32 : BitVec 32 := 11#32
  let v428 : BitVec 32 := Scalar.addi v427 c11_i32
  let v435 : Index := Scalar.indexCast v428
  let c16_222 : Index := 16#32
  ![v435.toNat, 16]
def k1_off441 (v426 : BitVec 32) : Fin 2 → Nat :=
  let v437 : Index := Scalar.indexCast v426
  let c32_223 : Index := 32#32
  ![v437.toNat, 32]
def k1_off442 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_218 : BitVec 32 := 16#32
  let v427 : BitVec 32 := Scalar.muli arg16 c16_i32_218
  let c11_i32 : BitVec 32 := 11#32
  let v428 : BitVec 32 := Scalar.addi v427 c11_i32
  let v439 : Index := Scalar.indexCast v428
  let c32_224 : Index := 32#32
  ![v439.toNat, 32]
def k1_off443 (v426 : BitVec 32) : Fin 2 → Nat :=
  let v441 : Index := Scalar.indexCast v426
  let c48_225 : Index := 48#32
  ![v441.toNat, 48]
def k1_off444 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_218 : BitVec 32 := 16#32
  let v427 : BitVec 32 := Scalar.muli arg16 c16_i32_218
  let c11_i32 : BitVec 32 := 11#32
  let v428 : BitVec 32 := Scalar.addi v427 c11_i32
  let v443 : Index := Scalar.indexCast v428
  let c48_226 : Index := 48#32
  ![v443.toNat, 48]
def k1_off445 (v426 : BitVec 32) : Fin 2 → Nat :=
  let v445 : Index := Scalar.indexCast v426
  let c64_227 : Index := 64#32
  ![v445.toNat, 64]
def k1_off446 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_218 : BitVec 32 := 16#32
  let v427 : BitVec 32 := Scalar.muli arg16 c16_i32_218
  let c11_i32 : BitVec 32 := 11#32
  let v428 : BitVec 32 := Scalar.addi v427 c11_i32
  let v447 : Index := Scalar.indexCast v428
  let c64_228 : Index := 64#32
  ![v447.toNat, 64]
def k1_off447 (v426 : BitVec 32) : Fin 2 → Nat :=
  let v449 : Index := Scalar.indexCast v426
  let c80_229 : Index := 80#32
  ![v449.toNat, 80]
def k1_off448 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_218 : BitVec 32 := 16#32
  let v427 : BitVec 32 := Scalar.muli arg16 c16_i32_218
  let c11_i32 : BitVec 32 := 11#32
  let v428 : BitVec 32 := Scalar.addi v427 c11_i32
  let v451 : Index := Scalar.indexCast v428
  let c80_230 : Index := 80#32
  ![v451.toNat, 80]
def k1_off449 (v426 : BitVec 32) : Fin 2 → Nat :=
  let v453 : Index := Scalar.indexCast v426
  let c96_231 : Index := 96#32
  ![v453.toNat, 96]
def k1_off450 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_218 : BitVec 32 := 16#32
  let v427 : BitVec 32 := Scalar.muli arg16 c16_i32_218
  let c11_i32 : BitVec 32 := 11#32
  let v428 : BitVec 32 := Scalar.addi v427 c11_i32
  let v455 : Index := Scalar.indexCast v428
  let c96_232 : Index := 96#32
  ![v455.toNat, 96]
def k1_off451 (v426 : BitVec 32) : Fin 2 → Nat :=
  let v457 : Index := Scalar.indexCast v426
  let c112_233 : Index := 112#32
  ![v457.toNat, 112]

def k1_chk28 (v426 : BitVec 32) : Prop :=
  (∀ a, (k1_off437 v426) a + S1x16.size a ≤ S100x128.size a) ∧
  (∀ a, (k1_off439 v426) a + S1x16.size a ≤ S100x128.size a) ∧
  (∀ a, (k1_off441 v426) a + S1x16.size a ≤ S100x128.size a) ∧
  (∀ a, (k1_off443 v426) a + S1x16.size a ≤ S100x128.size a) ∧
  (∀ a, (k1_off445 v426) a + S1x16.size a ≤ S100x128.size a) ∧
  (∀ a, (k1_off447 v426) a + S1x16.size a ≤ S100x128.size a) ∧
  (∀ a, (k1_off449 v426) a + S1x16.size a ≤ S100x128.size a) ∧
  (∀ a, (k1_off451 v426) a + S1x16.size a ≤ S100x128.size a)
theorem k1_off437_inb : ∀ (v426 : BitVec 32) (k1_hw28 : k1_chk28 v426), ∀ a, (k1_off437 v426) a + S1x16.size a ≤ S100x128.size a := fun v426 k1_hw28 => k1_hw28.1
theorem k1_off439_inb : ∀ (v426 : BitVec 32) (k1_hw28 : k1_chk28 v426), ∀ a, (k1_off439 v426) a + S1x16.size a ≤ S100x128.size a := fun v426 k1_hw28 => k1_hw28.2.1
theorem k1_off441_inb : ∀ (v426 : BitVec 32) (k1_hw28 : k1_chk28 v426), ∀ a, (k1_off441 v426) a + S1x16.size a ≤ S100x128.size a := fun v426 k1_hw28 => k1_hw28.2.2.1
theorem k1_off443_inb : ∀ (v426 : BitVec 32) (k1_hw28 : k1_chk28 v426), ∀ a, (k1_off443 v426) a + S1x16.size a ≤ S100x128.size a := fun v426 k1_hw28 => k1_hw28.2.2.2.1
theorem k1_off445_inb : ∀ (v426 : BitVec 32) (k1_hw28 : k1_chk28 v426), ∀ a, (k1_off445 v426) a + S1x16.size a ≤ S100x128.size a := fun v426 k1_hw28 => k1_hw28.2.2.2.2.1
theorem k1_off447_inb : ∀ (v426 : BitVec 32) (k1_hw28 : k1_chk28 v426), ∀ a, (k1_off447 v426) a + S1x16.size a ≤ S100x128.size a := fun v426 k1_hw28 => k1_hw28.2.2.2.2.2.1
theorem k1_off449_inb : ∀ (v426 : BitVec 32) (k1_hw28 : k1_chk28 v426), ∀ a, (k1_off449 v426) a + S1x16.size a ≤ S100x128.size a := fun v426 k1_hw28 => k1_hw28.2.2.2.2.2.2.1
theorem k1_off451_inb : ∀ (v426 : BitVec 32) (k1_hw28 : k1_chk28 v426), ∀ a, (k1_off451 v426) a + S1x16.size a ≤ S100x128.size a := fun v426 k1_hw28 => k1_hw28.2.2.2.2.2.2.2

def k1_off452 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_218 : BitVec 32 := 16#32
  let v427 : BitVec 32 := Scalar.muli arg16 c16_i32_218
  let c11_i32 : BitVec 32 := 11#32
  let v428 : BitVec 32 := Scalar.addi v427 c11_i32
  let v459 : Index := Scalar.indexCast v428
  let c112_234 : Index := 112#32
  ![v459.toNat, 112]
def k1_off453 (v462 : BitVec 32) : Fin 2 → Nat :=
  let v465 : Index := Scalar.indexCast v462
  let c0_236 : Index := 0#32
  ![v465.toNat, 0]

def k1_off454 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_235 : BitVec 32 := 16#32
  let v463 : BitVec 32 := Scalar.muli arg16 c16_i32_235
  let c12_i32 : BitVec 32 := 12#32
  let v464 : BitVec 32 := Scalar.addi v463 c12_i32
  let v467 : Index := Scalar.indexCast v464
  let c0_237 : Index := 0#32
  ![v467.toNat, 0]
def k1_off455 (v462 : BitVec 32) : Fin 2 → Nat :=
  let v469 : Index := Scalar.indexCast v462
  let c16_238 : Index := 16#32
  ![v469.toNat, 16]
def k1_off456 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_235 : BitVec 32 := 16#32
  let v463 : BitVec 32 := Scalar.muli arg16 c16_i32_235
  let c12_i32 : BitVec 32 := 12#32
  let v464 : BitVec 32 := Scalar.addi v463 c12_i32
  let v471 : Index := Scalar.indexCast v464
  let c16_239 : Index := 16#32
  ![v471.toNat, 16]
def k1_off457 (v462 : BitVec 32) : Fin 2 → Nat :=
  let v473 : Index := Scalar.indexCast v462
  let c32_240 : Index := 32#32
  ![v473.toNat, 32]
def k1_off458 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_235 : BitVec 32 := 16#32
  let v463 : BitVec 32 := Scalar.muli arg16 c16_i32_235
  let c12_i32 : BitVec 32 := 12#32
  let v464 : BitVec 32 := Scalar.addi v463 c12_i32
  let v475 : Index := Scalar.indexCast v464
  let c32_241 : Index := 32#32
  ![v475.toNat, 32]
def k1_off459 (v462 : BitVec 32) : Fin 2 → Nat :=
  let v477 : Index := Scalar.indexCast v462
  let c48_242 : Index := 48#32
  ![v477.toNat, 48]
def k1_off460 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_235 : BitVec 32 := 16#32
  let v463 : BitVec 32 := Scalar.muli arg16 c16_i32_235
  let c12_i32 : BitVec 32 := 12#32
  let v464 : BitVec 32 := Scalar.addi v463 c12_i32
  let v479 : Index := Scalar.indexCast v464
  let c48_243 : Index := 48#32
  ![v479.toNat, 48]
def k1_off461 (v462 : BitVec 32) : Fin 2 → Nat :=
  let v481 : Index := Scalar.indexCast v462
  let c64_244 : Index := 64#32
  ![v481.toNat, 64]
def k1_off462 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_235 : BitVec 32 := 16#32
  let v463 : BitVec 32 := Scalar.muli arg16 c16_i32_235
  let c12_i32 : BitVec 32 := 12#32
  let v464 : BitVec 32 := Scalar.addi v463 c12_i32
  let v483 : Index := Scalar.indexCast v464
  let c64_245 : Index := 64#32
  ![v483.toNat, 64]
def k1_off463 (v462 : BitVec 32) : Fin 2 → Nat :=
  let v485 : Index := Scalar.indexCast v462
  let c80_246 : Index := 80#32
  ![v485.toNat, 80]
def k1_off464 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_235 : BitVec 32 := 16#32
  let v463 : BitVec 32 := Scalar.muli arg16 c16_i32_235
  let c12_i32 : BitVec 32 := 12#32
  let v464 : BitVec 32 := Scalar.addi v463 c12_i32
  let v487 : Index := Scalar.indexCast v464
  let c80_247 : Index := 80#32
  ![v487.toNat, 80]
def k1_off465 (v462 : BitVec 32) : Fin 2 → Nat :=
  let v489 : Index := Scalar.indexCast v462
  let c96_248 : Index := 96#32
  ![v489.toNat, 96]
def k1_off466 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_235 : BitVec 32 := 16#32
  let v463 : BitVec 32 := Scalar.muli arg16 c16_i32_235
  let c12_i32 : BitVec 32 := 12#32
  let v464 : BitVec 32 := Scalar.addi v463 c12_i32
  let v491 : Index := Scalar.indexCast v464
  let c96_249 : Index := 96#32
  ![v491.toNat, 96]
def k1_off467 (v462 : BitVec 32) : Fin 2 → Nat :=
  let v493 : Index := Scalar.indexCast v462
  let c112_250 : Index := 112#32
  ![v493.toNat, 112]

def k1_chk29 (v462 : BitVec 32) : Prop :=
  (∀ a, (k1_off453 v462) a + S1x16.size a ≤ S100x128.size a) ∧
  (∀ a, (k1_off455 v462) a + S1x16.size a ≤ S100x128.size a) ∧
  (∀ a, (k1_off457 v462) a + S1x16.size a ≤ S100x128.size a) ∧
  (∀ a, (k1_off459 v462) a + S1x16.size a ≤ S100x128.size a) ∧
  (∀ a, (k1_off461 v462) a + S1x16.size a ≤ S100x128.size a) ∧
  (∀ a, (k1_off463 v462) a + S1x16.size a ≤ S100x128.size a) ∧
  (∀ a, (k1_off465 v462) a + S1x16.size a ≤ S100x128.size a) ∧
  (∀ a, (k1_off467 v462) a + S1x16.size a ≤ S100x128.size a)
theorem k1_off453_inb : ∀ (v462 : BitVec 32) (k1_hw29 : k1_chk29 v462), ∀ a, (k1_off453 v462) a + S1x16.size a ≤ S100x128.size a := fun v462 k1_hw29 => k1_hw29.1
theorem k1_off455_inb : ∀ (v462 : BitVec 32) (k1_hw29 : k1_chk29 v462), ∀ a, (k1_off455 v462) a + S1x16.size a ≤ S100x128.size a := fun v462 k1_hw29 => k1_hw29.2.1
theorem k1_off457_inb : ∀ (v462 : BitVec 32) (k1_hw29 : k1_chk29 v462), ∀ a, (k1_off457 v462) a + S1x16.size a ≤ S100x128.size a := fun v462 k1_hw29 => k1_hw29.2.2.1
theorem k1_off459_inb : ∀ (v462 : BitVec 32) (k1_hw29 : k1_chk29 v462), ∀ a, (k1_off459 v462) a + S1x16.size a ≤ S100x128.size a := fun v462 k1_hw29 => k1_hw29.2.2.2.1
theorem k1_off461_inb : ∀ (v462 : BitVec 32) (k1_hw29 : k1_chk29 v462), ∀ a, (k1_off461 v462) a + S1x16.size a ≤ S100x128.size a := fun v462 k1_hw29 => k1_hw29.2.2.2.2.1
theorem k1_off463_inb : ∀ (v462 : BitVec 32) (k1_hw29 : k1_chk29 v462), ∀ a, (k1_off463 v462) a + S1x16.size a ≤ S100x128.size a := fun v462 k1_hw29 => k1_hw29.2.2.2.2.2.1
theorem k1_off465_inb : ∀ (v462 : BitVec 32) (k1_hw29 : k1_chk29 v462), ∀ a, (k1_off465 v462) a + S1x16.size a ≤ S100x128.size a := fun v462 k1_hw29 => k1_hw29.2.2.2.2.2.2.1
theorem k1_off467_inb : ∀ (v462 : BitVec 32) (k1_hw29 : k1_chk29 v462), ∀ a, (k1_off467 v462) a + S1x16.size a ≤ S100x128.size a := fun v462 k1_hw29 => k1_hw29.2.2.2.2.2.2.2

def k1_off468 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_235 : BitVec 32 := 16#32
  let v463 : BitVec 32 := Scalar.muli arg16 c16_i32_235
  let c12_i32 : BitVec 32 := 12#32
  let v464 : BitVec 32 := Scalar.addi v463 c12_i32
  let v495 : Index := Scalar.indexCast v464
  let c112_251 : Index := 112#32
  ![v495.toNat, 112]
def k1_off469 (v498 : BitVec 32) : Fin 2 → Nat :=
  let v501 : Index := Scalar.indexCast v498
  let c0_253 : Index := 0#32
  ![v501.toNat, 0]

def k1_off470 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_252 : BitVec 32 := 16#32
  let v499 : BitVec 32 := Scalar.muli arg16 c16_i32_252
  let c13_i32 : BitVec 32 := 13#32
  let v500 : BitVec 32 := Scalar.addi v499 c13_i32
  let v503 : Index := Scalar.indexCast v500
  let c0_254 : Index := 0#32
  ![v503.toNat, 0]
def k1_off471 (v498 : BitVec 32) : Fin 2 → Nat :=
  let v505 : Index := Scalar.indexCast v498
  let c16_255 : Index := 16#32
  ![v505.toNat, 16]
def k1_off472 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_252 : BitVec 32 := 16#32
  let v499 : BitVec 32 := Scalar.muli arg16 c16_i32_252
  let c13_i32 : BitVec 32 := 13#32
  let v500 : BitVec 32 := Scalar.addi v499 c13_i32
  let v507 : Index := Scalar.indexCast v500
  let c16_256 : Index := 16#32
  ![v507.toNat, 16]
def k1_off473 (v498 : BitVec 32) : Fin 2 → Nat :=
  let v509 : Index := Scalar.indexCast v498
  let c32_257 : Index := 32#32
  ![v509.toNat, 32]
def k1_off474 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_252 : BitVec 32 := 16#32
  let v499 : BitVec 32 := Scalar.muli arg16 c16_i32_252
  let c13_i32 : BitVec 32 := 13#32
  let v500 : BitVec 32 := Scalar.addi v499 c13_i32
  let v511 : Index := Scalar.indexCast v500
  let c32_258 : Index := 32#32
  ![v511.toNat, 32]
def k1_off475 (v498 : BitVec 32) : Fin 2 → Nat :=
  let v513 : Index := Scalar.indexCast v498
  let c48_259 : Index := 48#32
  ![v513.toNat, 48]
def k1_off476 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_252 : BitVec 32 := 16#32
  let v499 : BitVec 32 := Scalar.muli arg16 c16_i32_252
  let c13_i32 : BitVec 32 := 13#32
  let v500 : BitVec 32 := Scalar.addi v499 c13_i32
  let v515 : Index := Scalar.indexCast v500
  let c48_260 : Index := 48#32
  ![v515.toNat, 48]
def k1_off477 (v498 : BitVec 32) : Fin 2 → Nat :=
  let v517 : Index := Scalar.indexCast v498
  let c64_261 : Index := 64#32
  ![v517.toNat, 64]
def k1_off478 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_252 : BitVec 32 := 16#32
  let v499 : BitVec 32 := Scalar.muli arg16 c16_i32_252
  let c13_i32 : BitVec 32 := 13#32
  let v500 : BitVec 32 := Scalar.addi v499 c13_i32
  let v519 : Index := Scalar.indexCast v500
  let c64_262 : Index := 64#32
  ![v519.toNat, 64]
def k1_off479 (v498 : BitVec 32) : Fin 2 → Nat :=
  let v521 : Index := Scalar.indexCast v498
  let c80_263 : Index := 80#32
  ![v521.toNat, 80]
def k1_off480 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_252 : BitVec 32 := 16#32
  let v499 : BitVec 32 := Scalar.muli arg16 c16_i32_252
  let c13_i32 : BitVec 32 := 13#32
  let v500 : BitVec 32 := Scalar.addi v499 c13_i32
  let v523 : Index := Scalar.indexCast v500
  let c80_264 : Index := 80#32
  ![v523.toNat, 80]
def k1_off481 (v498 : BitVec 32) : Fin 2 → Nat :=
  let v525 : Index := Scalar.indexCast v498
  let c96_265 : Index := 96#32
  ![v525.toNat, 96]
def k1_off482 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_252 : BitVec 32 := 16#32
  let v499 : BitVec 32 := Scalar.muli arg16 c16_i32_252
  let c13_i32 : BitVec 32 := 13#32
  let v500 : BitVec 32 := Scalar.addi v499 c13_i32
  let v527 : Index := Scalar.indexCast v500
  let c96_266 : Index := 96#32
  ![v527.toNat, 96]
def k1_off483 (v498 : BitVec 32) : Fin 2 → Nat :=
  let v529 : Index := Scalar.indexCast v498
  let c112_267 : Index := 112#32
  ![v529.toNat, 112]

def k1_chk30 (v498 : BitVec 32) : Prop :=
  (∀ a, (k1_off469 v498) a + S1x16.size a ≤ S100x128.size a) ∧
  (∀ a, (k1_off471 v498) a + S1x16.size a ≤ S100x128.size a) ∧
  (∀ a, (k1_off473 v498) a + S1x16.size a ≤ S100x128.size a) ∧
  (∀ a, (k1_off475 v498) a + S1x16.size a ≤ S100x128.size a) ∧
  (∀ a, (k1_off477 v498) a + S1x16.size a ≤ S100x128.size a) ∧
  (∀ a, (k1_off479 v498) a + S1x16.size a ≤ S100x128.size a) ∧
  (∀ a, (k1_off481 v498) a + S1x16.size a ≤ S100x128.size a) ∧
  (∀ a, (k1_off483 v498) a + S1x16.size a ≤ S100x128.size a)
theorem k1_off469_inb : ∀ (v498 : BitVec 32) (k1_hw30 : k1_chk30 v498), ∀ a, (k1_off469 v498) a + S1x16.size a ≤ S100x128.size a := fun v498 k1_hw30 => k1_hw30.1
theorem k1_off471_inb : ∀ (v498 : BitVec 32) (k1_hw30 : k1_chk30 v498), ∀ a, (k1_off471 v498) a + S1x16.size a ≤ S100x128.size a := fun v498 k1_hw30 => k1_hw30.2.1
theorem k1_off473_inb : ∀ (v498 : BitVec 32) (k1_hw30 : k1_chk30 v498), ∀ a, (k1_off473 v498) a + S1x16.size a ≤ S100x128.size a := fun v498 k1_hw30 => k1_hw30.2.2.1
theorem k1_off475_inb : ∀ (v498 : BitVec 32) (k1_hw30 : k1_chk30 v498), ∀ a, (k1_off475 v498) a + S1x16.size a ≤ S100x128.size a := fun v498 k1_hw30 => k1_hw30.2.2.2.1
theorem k1_off477_inb : ∀ (v498 : BitVec 32) (k1_hw30 : k1_chk30 v498), ∀ a, (k1_off477 v498) a + S1x16.size a ≤ S100x128.size a := fun v498 k1_hw30 => k1_hw30.2.2.2.2.1
theorem k1_off479_inb : ∀ (v498 : BitVec 32) (k1_hw30 : k1_chk30 v498), ∀ a, (k1_off479 v498) a + S1x16.size a ≤ S100x128.size a := fun v498 k1_hw30 => k1_hw30.2.2.2.2.2.1
theorem k1_off481_inb : ∀ (v498 : BitVec 32) (k1_hw30 : k1_chk30 v498), ∀ a, (k1_off481 v498) a + S1x16.size a ≤ S100x128.size a := fun v498 k1_hw30 => k1_hw30.2.2.2.2.2.2.1
theorem k1_off483_inb : ∀ (v498 : BitVec 32) (k1_hw30 : k1_chk30 v498), ∀ a, (k1_off483 v498) a + S1x16.size a ≤ S100x128.size a := fun v498 k1_hw30 => k1_hw30.2.2.2.2.2.2.2

def k1_off484 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_252 : BitVec 32 := 16#32
  let v499 : BitVec 32 := Scalar.muli arg16 c16_i32_252
  let c13_i32 : BitVec 32 := 13#32
  let v500 : BitVec 32 := Scalar.addi v499 c13_i32
  let v531 : Index := Scalar.indexCast v500
  let c112_268 : Index := 112#32
  ![v531.toNat, 112]
def k1_off485 (v534 : BitVec 32) : Fin 2 → Nat :=
  let v537 : Index := Scalar.indexCast v534
  let c0_270 : Index := 0#32
  ![v537.toNat, 0]

def k1_off486 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_269 : BitVec 32 := 16#32
  let v535 : BitVec 32 := Scalar.muli arg16 c16_i32_269
  let c14_i32 : BitVec 32 := 14#32
  let v536 : BitVec 32 := Scalar.addi v535 c14_i32
  let v539 : Index := Scalar.indexCast v536
  let c0_271 : Index := 0#32
  ![v539.toNat, 0]
def k1_off487 (v534 : BitVec 32) : Fin 2 → Nat :=
  let v541 : Index := Scalar.indexCast v534
  let c16_272 : Index := 16#32
  ![v541.toNat, 16]
def k1_off488 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_269 : BitVec 32 := 16#32
  let v535 : BitVec 32 := Scalar.muli arg16 c16_i32_269
  let c14_i32 : BitVec 32 := 14#32
  let v536 : BitVec 32 := Scalar.addi v535 c14_i32
  let v543 : Index := Scalar.indexCast v536
  let c16_273 : Index := 16#32
  ![v543.toNat, 16]
def k1_off489 (v534 : BitVec 32) : Fin 2 → Nat :=
  let v545 : Index := Scalar.indexCast v534
  let c32_274 : Index := 32#32
  ![v545.toNat, 32]
def k1_off490 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_269 : BitVec 32 := 16#32
  let v535 : BitVec 32 := Scalar.muli arg16 c16_i32_269
  let c14_i32 : BitVec 32 := 14#32
  let v536 : BitVec 32 := Scalar.addi v535 c14_i32
  let v547 : Index := Scalar.indexCast v536
  let c32_275 : Index := 32#32
  ![v547.toNat, 32]
def k1_off491 (v534 : BitVec 32) : Fin 2 → Nat :=
  let v549 : Index := Scalar.indexCast v534
  let c48_276 : Index := 48#32
  ![v549.toNat, 48]
def k1_off492 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_269 : BitVec 32 := 16#32
  let v535 : BitVec 32 := Scalar.muli arg16 c16_i32_269
  let c14_i32 : BitVec 32 := 14#32
  let v536 : BitVec 32 := Scalar.addi v535 c14_i32
  let v551 : Index := Scalar.indexCast v536
  let c48_277 : Index := 48#32
  ![v551.toNat, 48]
def k1_off493 (v534 : BitVec 32) : Fin 2 → Nat :=
  let v553 : Index := Scalar.indexCast v534
  let c64_278 : Index := 64#32
  ![v553.toNat, 64]
def k1_off494 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_269 : BitVec 32 := 16#32
  let v535 : BitVec 32 := Scalar.muli arg16 c16_i32_269
  let c14_i32 : BitVec 32 := 14#32
  let v536 : BitVec 32 := Scalar.addi v535 c14_i32
  let v555 : Index := Scalar.indexCast v536
  let c64_279 : Index := 64#32
  ![v555.toNat, 64]
def k1_off495 (v534 : BitVec 32) : Fin 2 → Nat :=
  let v557 : Index := Scalar.indexCast v534
  let c80_280 : Index := 80#32
  ![v557.toNat, 80]
def k1_off496 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_269 : BitVec 32 := 16#32
  let v535 : BitVec 32 := Scalar.muli arg16 c16_i32_269
  let c14_i32 : BitVec 32 := 14#32
  let v536 : BitVec 32 := Scalar.addi v535 c14_i32
  let v559 : Index := Scalar.indexCast v536
  let c80_281 : Index := 80#32
  ![v559.toNat, 80]
def k1_off497 (v534 : BitVec 32) : Fin 2 → Nat :=
  let v561 : Index := Scalar.indexCast v534
  let c96_282 : Index := 96#32
  ![v561.toNat, 96]
def k1_off498 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_269 : BitVec 32 := 16#32
  let v535 : BitVec 32 := Scalar.muli arg16 c16_i32_269
  let c14_i32 : BitVec 32 := 14#32
  let v536 : BitVec 32 := Scalar.addi v535 c14_i32
  let v563 : Index := Scalar.indexCast v536
  let c96_283 : Index := 96#32
  ![v563.toNat, 96]
def k1_off499 (v534 : BitVec 32) : Fin 2 → Nat :=
  let v565 : Index := Scalar.indexCast v534
  let c112_284 : Index := 112#32
  ![v565.toNat, 112]

def k1_chk31 (v534 : BitVec 32) : Prop :=
  (∀ a, (k1_off485 v534) a + S1x16.size a ≤ S100x128.size a) ∧
  (∀ a, (k1_off487 v534) a + S1x16.size a ≤ S100x128.size a) ∧
  (∀ a, (k1_off489 v534) a + S1x16.size a ≤ S100x128.size a) ∧
  (∀ a, (k1_off491 v534) a + S1x16.size a ≤ S100x128.size a) ∧
  (∀ a, (k1_off493 v534) a + S1x16.size a ≤ S100x128.size a) ∧
  (∀ a, (k1_off495 v534) a + S1x16.size a ≤ S100x128.size a) ∧
  (∀ a, (k1_off497 v534) a + S1x16.size a ≤ S100x128.size a) ∧
  (∀ a, (k1_off499 v534) a + S1x16.size a ≤ S100x128.size a)
theorem k1_off485_inb : ∀ (v534 : BitVec 32) (k1_hw31 : k1_chk31 v534), ∀ a, (k1_off485 v534) a + S1x16.size a ≤ S100x128.size a := fun v534 k1_hw31 => k1_hw31.1
theorem k1_off487_inb : ∀ (v534 : BitVec 32) (k1_hw31 : k1_chk31 v534), ∀ a, (k1_off487 v534) a + S1x16.size a ≤ S100x128.size a := fun v534 k1_hw31 => k1_hw31.2.1
theorem k1_off489_inb : ∀ (v534 : BitVec 32) (k1_hw31 : k1_chk31 v534), ∀ a, (k1_off489 v534) a + S1x16.size a ≤ S100x128.size a := fun v534 k1_hw31 => k1_hw31.2.2.1
theorem k1_off491_inb : ∀ (v534 : BitVec 32) (k1_hw31 : k1_chk31 v534), ∀ a, (k1_off491 v534) a + S1x16.size a ≤ S100x128.size a := fun v534 k1_hw31 => k1_hw31.2.2.2.1
theorem k1_off493_inb : ∀ (v534 : BitVec 32) (k1_hw31 : k1_chk31 v534), ∀ a, (k1_off493 v534) a + S1x16.size a ≤ S100x128.size a := fun v534 k1_hw31 => k1_hw31.2.2.2.2.1
theorem k1_off495_inb : ∀ (v534 : BitVec 32) (k1_hw31 : k1_chk31 v534), ∀ a, (k1_off495 v534) a + S1x16.size a ≤ S100x128.size a := fun v534 k1_hw31 => k1_hw31.2.2.2.2.2.1
theorem k1_off497_inb : ∀ (v534 : BitVec 32) (k1_hw31 : k1_chk31 v534), ∀ a, (k1_off497 v534) a + S1x16.size a ≤ S100x128.size a := fun v534 k1_hw31 => k1_hw31.2.2.2.2.2.2.1
theorem k1_off499_inb : ∀ (v534 : BitVec 32) (k1_hw31 : k1_chk31 v534), ∀ a, (k1_off499 v534) a + S1x16.size a ≤ S100x128.size a := fun v534 k1_hw31 => k1_hw31.2.2.2.2.2.2.2

def k1_off500 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_269 : BitVec 32 := 16#32
  let v535 : BitVec 32 := Scalar.muli arg16 c16_i32_269
  let c14_i32 : BitVec 32 := 14#32
  let v536 : BitVec 32 := Scalar.addi v535 c14_i32
  let v567 : Index := Scalar.indexCast v536
  let c112_285 : Index := 112#32
  ![v567.toNat, 112]
def k1_off501 (v570 : BitVec 32) : Fin 2 → Nat :=
  let v573 : Index := Scalar.indexCast v570
  let c0_287 : Index := 0#32
  ![v573.toNat, 0]

def k1_off502 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_286 : BitVec 32 := 16#32
  let v571 : BitVec 32 := Scalar.muli arg16 c16_i32_286
  let c15_i32 : BitVec 32 := 15#32
  let v572 : BitVec 32 := Scalar.addi v571 c15_i32
  let v575 : Index := Scalar.indexCast v572
  let c0_288 : Index := 0#32
  ![v575.toNat, 0]
def k1_off503 (v570 : BitVec 32) : Fin 2 → Nat :=
  let v577 : Index := Scalar.indexCast v570
  let c16_289 : Index := 16#32
  ![v577.toNat, 16]
def k1_off504 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_286 : BitVec 32 := 16#32
  let v571 : BitVec 32 := Scalar.muli arg16 c16_i32_286
  let c15_i32 : BitVec 32 := 15#32
  let v572 : BitVec 32 := Scalar.addi v571 c15_i32
  let v579 : Index := Scalar.indexCast v572
  let c16_290 : Index := 16#32
  ![v579.toNat, 16]
def k1_off505 (v570 : BitVec 32) : Fin 2 → Nat :=
  let v581 : Index := Scalar.indexCast v570
  let c32_291 : Index := 32#32
  ![v581.toNat, 32]
def k1_off506 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_286 : BitVec 32 := 16#32
  let v571 : BitVec 32 := Scalar.muli arg16 c16_i32_286
  let c15_i32 : BitVec 32 := 15#32
  let v572 : BitVec 32 := Scalar.addi v571 c15_i32
  let v583 : Index := Scalar.indexCast v572
  let c32_292 : Index := 32#32
  ![v583.toNat, 32]
def k1_off507 (v570 : BitVec 32) : Fin 2 → Nat :=
  let v585 : Index := Scalar.indexCast v570
  let c48_293 : Index := 48#32
  ![v585.toNat, 48]
def k1_off508 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_286 : BitVec 32 := 16#32
  let v571 : BitVec 32 := Scalar.muli arg16 c16_i32_286
  let c15_i32 : BitVec 32 := 15#32
  let v572 : BitVec 32 := Scalar.addi v571 c15_i32
  let v587 : Index := Scalar.indexCast v572
  let c48_294 : Index := 48#32
  ![v587.toNat, 48]
def k1_off509 (v570 : BitVec 32) : Fin 2 → Nat :=
  let v589 : Index := Scalar.indexCast v570
  let c64_295 : Index := 64#32
  ![v589.toNat, 64]
def k1_off510 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_286 : BitVec 32 := 16#32
  let v571 : BitVec 32 := Scalar.muli arg16 c16_i32_286
  let c15_i32 : BitVec 32 := 15#32
  let v572 : BitVec 32 := Scalar.addi v571 c15_i32
  let v591 : Index := Scalar.indexCast v572
  let c64_296 : Index := 64#32
  ![v591.toNat, 64]
def k1_off511 (v570 : BitVec 32) : Fin 2 → Nat :=
  let v593 : Index := Scalar.indexCast v570
  let c80_297 : Index := 80#32
  ![v593.toNat, 80]
def k1_off512 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_286 : BitVec 32 := 16#32
  let v571 : BitVec 32 := Scalar.muli arg16 c16_i32_286
  let c15_i32 : BitVec 32 := 15#32
  let v572 : BitVec 32 := Scalar.addi v571 c15_i32
  let v595 : Index := Scalar.indexCast v572
  let c80_298 : Index := 80#32
  ![v595.toNat, 80]
def k1_off513 (v570 : BitVec 32) : Fin 2 → Nat :=
  let v597 : Index := Scalar.indexCast v570
  let c96_299 : Index := 96#32
  ![v597.toNat, 96]
def k1_off514 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_286 : BitVec 32 := 16#32
  let v571 : BitVec 32 := Scalar.muli arg16 c16_i32_286
  let c15_i32 : BitVec 32 := 15#32
  let v572 : BitVec 32 := Scalar.addi v571 c15_i32
  let v599 : Index := Scalar.indexCast v572
  let c96_300 : Index := 96#32
  ![v599.toNat, 96]
def k1_off515 (v570 : BitVec 32) : Fin 2 → Nat :=
  let v601 : Index := Scalar.indexCast v570
  let c112_301 : Index := 112#32
  ![v601.toNat, 112]

def k1_chk32 (v570 : BitVec 32) : Prop :=
  (∀ a, (k1_off501 v570) a + S1x16.size a ≤ S100x128.size a) ∧
  (∀ a, (k1_off503 v570) a + S1x16.size a ≤ S100x128.size a) ∧
  (∀ a, (k1_off505 v570) a + S1x16.size a ≤ S100x128.size a) ∧
  (∀ a, (k1_off507 v570) a + S1x16.size a ≤ S100x128.size a) ∧
  (∀ a, (k1_off509 v570) a + S1x16.size a ≤ S100x128.size a) ∧
  (∀ a, (k1_off511 v570) a + S1x16.size a ≤ S100x128.size a) ∧
  (∀ a, (k1_off513 v570) a + S1x16.size a ≤ S100x128.size a) ∧
  (∀ a, (k1_off515 v570) a + S1x16.size a ≤ S100x128.size a)
theorem k1_off501_inb : ∀ (v570 : BitVec 32) (k1_hw32 : k1_chk32 v570), ∀ a, (k1_off501 v570) a + S1x16.size a ≤ S100x128.size a := fun v570 k1_hw32 => k1_hw32.1
theorem k1_off503_inb : ∀ (v570 : BitVec 32) (k1_hw32 : k1_chk32 v570), ∀ a, (k1_off503 v570) a + S1x16.size a ≤ S100x128.size a := fun v570 k1_hw32 => k1_hw32.2.1
theorem k1_off505_inb : ∀ (v570 : BitVec 32) (k1_hw32 : k1_chk32 v570), ∀ a, (k1_off505 v570) a + S1x16.size a ≤ S100x128.size a := fun v570 k1_hw32 => k1_hw32.2.2.1
theorem k1_off507_inb : ∀ (v570 : BitVec 32) (k1_hw32 : k1_chk32 v570), ∀ a, (k1_off507 v570) a + S1x16.size a ≤ S100x128.size a := fun v570 k1_hw32 => k1_hw32.2.2.2.1
theorem k1_off509_inb : ∀ (v570 : BitVec 32) (k1_hw32 : k1_chk32 v570), ∀ a, (k1_off509 v570) a + S1x16.size a ≤ S100x128.size a := fun v570 k1_hw32 => k1_hw32.2.2.2.2.1
theorem k1_off511_inb : ∀ (v570 : BitVec 32) (k1_hw32 : k1_chk32 v570), ∀ a, (k1_off511 v570) a + S1x16.size a ≤ S100x128.size a := fun v570 k1_hw32 => k1_hw32.2.2.2.2.2.1
theorem k1_off513_inb : ∀ (v570 : BitVec 32) (k1_hw32 : k1_chk32 v570), ∀ a, (k1_off513 v570) a + S1x16.size a ≤ S100x128.size a := fun v570 k1_hw32 => k1_hw32.2.2.2.2.2.2.1
theorem k1_off515_inb : ∀ (v570 : BitVec 32) (k1_hw32 : k1_chk32 v570), ∀ a, (k1_off515 v570) a + S1x16.size a ≤ S100x128.size a := fun v570 k1_hw32 => k1_hw32.2.2.2.2.2.2.2

def k1_off516 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c16_i32_286 : BitVec 32 := 16#32
  let v571 : BitVec 32 := Scalar.muli arg16 c16_i32_286
  let c15_i32 : BitVec 32 := 15#32
  let v572 : BitVec 32 := Scalar.addi v571 c15_i32
  let v603 : Index := Scalar.indexCast v572
  let c112_302 : Index := 112#32
  ![v603.toNat, 112]
def k1_off517 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c128_i32 : BitVec 32 := 128#32
  let v7 : BitVec 32 := Scalar.addi v2 c128_i32
  let c0_i32_9 : BitVec 32 := 0#32
  ![v7.toNat, 0]
@[reducible] def k1_t3_loop : Scf.Loop 32 :=
  let c0_i32_14 : BitVec 32 := 0#32
  let c8_i32_15 : BitVec 32 := 8#32
  let v12 : BitVec 32 := Scalar.addi c0_i32_14 c8_i32_15
  let c1_i32_16 : BitVec 32 := 1#32
  ⟨c0_i32_14, v12, c1_i32_16⟩
def k1_off518 (k1_t3 : Fin k1_t3_loop.trips) : Fin 1 → Nat :=
  let c0_i32_34 : BitVec 32 := 0#32
  let c0_i32_14 : BitVec 32 := 0#32
  let c1_i32_16 : BitVec 32 := 1#32
  let arg16 : BitVec 32 := Scf.iv c0_i32_14 c1_i32_16 k1_t3
  let c16_i32 : BitVec 32 := 16#32
  let v25 : BitVec 32 := Scalar.muli arg16 c16_i32
  let v26 : BitVec 32 := Scalar.addi c0_i32_34 v25
  let v27 : Index := Scalar.indexCast v26
  ![v27.toNat]
def k1_off519 (v30 : BitVec 32) : Fin 2 → Nat :=
  let v33 : Index := Scalar.indexCast v30
  let c0 : Index := 0#32
  ![v33.toNat, 0]

def k1_off520 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_35 : BitVec 32 := 16#32
  let v31 : BitVec 32 := Scalar.muli arg16 c16_i32_35
  let c0_i32_36 : BitVec 32 := 0#32
  let v32 : BitVec 32 := Scalar.addi v31 c0_i32_36
  let v35 : Index := Scalar.indexCast v32
  let c0_37 : Index := 0#32
  ![v35.toNat, 0]
def k1_off521 (v30 : BitVec 32) : Fin 2 → Nat :=
  let v37 : Index := Scalar.indexCast v30
  let c16 : Index := 16#32
  ![v37.toNat, 16]
def k1_off522 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_35 : BitVec 32 := 16#32
  let v31 : BitVec 32 := Scalar.muli arg16 c16_i32_35
  let c0_i32_36 : BitVec 32 := 0#32
  let v32 : BitVec 32 := Scalar.addi v31 c0_i32_36
  let v39 : Index := Scalar.indexCast v32
  let c16_38 : Index := 16#32
  ![v39.toNat, 16]
def k1_off523 (v30 : BitVec 32) : Fin 2 → Nat :=
  let v41 : Index := Scalar.indexCast v30
  let c32 : Index := 32#32
  ![v41.toNat, 32]
def k1_off524 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_35 : BitVec 32 := 16#32
  let v31 : BitVec 32 := Scalar.muli arg16 c16_i32_35
  let c0_i32_36 : BitVec 32 := 0#32
  let v32 : BitVec 32 := Scalar.addi v31 c0_i32_36
  let v43 : Index := Scalar.indexCast v32
  let c32_39 : Index := 32#32
  ![v43.toNat, 32]
def k1_off525 (v30 : BitVec 32) : Fin 2 → Nat :=
  let v45 : Index := Scalar.indexCast v30
  let c48 : Index := 48#32
  ![v45.toNat, 48]
def k1_off526 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_35 : BitVec 32 := 16#32
  let v31 : BitVec 32 := Scalar.muli arg16 c16_i32_35
  let c0_i32_36 : BitVec 32 := 0#32
  let v32 : BitVec 32 := Scalar.addi v31 c0_i32_36
  let v47 : Index := Scalar.indexCast v32
  let c48_40 : Index := 48#32
  ![v47.toNat, 48]
def k1_off527 (v30 : BitVec 32) : Fin 2 → Nat :=
  let v49 : Index := Scalar.indexCast v30
  let c64 : Index := 64#32
  ![v49.toNat, 64]
def k1_off528 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_35 : BitVec 32 := 16#32
  let v31 : BitVec 32 := Scalar.muli arg16 c16_i32_35
  let c0_i32_36 : BitVec 32 := 0#32
  let v32 : BitVec 32 := Scalar.addi v31 c0_i32_36
  let v51 : Index := Scalar.indexCast v32
  let c64_41 : Index := 64#32
  ![v51.toNat, 64]
def k1_off529 (v30 : BitVec 32) : Fin 2 → Nat :=
  let v53 : Index := Scalar.indexCast v30
  let c80 : Index := 80#32
  ![v53.toNat, 80]
def k1_off530 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_35 : BitVec 32 := 16#32
  let v31 : BitVec 32 := Scalar.muli arg16 c16_i32_35
  let c0_i32_36 : BitVec 32 := 0#32
  let v32 : BitVec 32 := Scalar.addi v31 c0_i32_36
  let v55 : Index := Scalar.indexCast v32
  let c80_42 : Index := 80#32
  ![v55.toNat, 80]
def k1_off531 (v30 : BitVec 32) : Fin 2 → Nat :=
  let v57 : Index := Scalar.indexCast v30
  let c96 : Index := 96#32
  ![v57.toNat, 96]
def k1_off532 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_35 : BitVec 32 := 16#32
  let v31 : BitVec 32 := Scalar.muli arg16 c16_i32_35
  let c0_i32_36 : BitVec 32 := 0#32
  let v32 : BitVec 32 := Scalar.addi v31 c0_i32_36
  let v59 : Index := Scalar.indexCast v32
  let c96_43 : Index := 96#32
  ![v59.toNat, 96]
def k1_off533 (v30 : BitVec 32) : Fin 2 → Nat :=
  let v61 : Index := Scalar.indexCast v30
  let c112 : Index := 112#32
  ![v61.toNat, 112]

def k1_chk33 (v30 : BitVec 32) : Prop :=
  (∀ a, (k1_off519 v30) a + S1x16.size a ≤ S26x128.size a) ∧
  (∀ a, (k1_off521 v30) a + S1x16.size a ≤ S26x128.size a) ∧
  (∀ a, (k1_off523 v30) a + S1x16.size a ≤ S26x128.size a) ∧
  (∀ a, (k1_off525 v30) a + S1x16.size a ≤ S26x128.size a) ∧
  (∀ a, (k1_off527 v30) a + S1x16.size a ≤ S26x128.size a) ∧
  (∀ a, (k1_off529 v30) a + S1x16.size a ≤ S26x128.size a) ∧
  (∀ a, (k1_off531 v30) a + S1x16.size a ≤ S26x128.size a) ∧
  (∀ a, (k1_off533 v30) a + S1x16.size a ≤ S26x128.size a)
theorem k1_off519_inb : ∀ (v30 : BitVec 32) (k1_hw33 : k1_chk33 v30), ∀ a, (k1_off519 v30) a + S1x16.size a ≤ S26x128.size a := fun v30 k1_hw33 => k1_hw33.1
theorem k1_off521_inb : ∀ (v30 : BitVec 32) (k1_hw33 : k1_chk33 v30), ∀ a, (k1_off521 v30) a + S1x16.size a ≤ S26x128.size a := fun v30 k1_hw33 => k1_hw33.2.1
theorem k1_off523_inb : ∀ (v30 : BitVec 32) (k1_hw33 : k1_chk33 v30), ∀ a, (k1_off523 v30) a + S1x16.size a ≤ S26x128.size a := fun v30 k1_hw33 => k1_hw33.2.2.1
theorem k1_off525_inb : ∀ (v30 : BitVec 32) (k1_hw33 : k1_chk33 v30), ∀ a, (k1_off525 v30) a + S1x16.size a ≤ S26x128.size a := fun v30 k1_hw33 => k1_hw33.2.2.2.1
theorem k1_off527_inb : ∀ (v30 : BitVec 32) (k1_hw33 : k1_chk33 v30), ∀ a, (k1_off527 v30) a + S1x16.size a ≤ S26x128.size a := fun v30 k1_hw33 => k1_hw33.2.2.2.2.1
theorem k1_off529_inb : ∀ (v30 : BitVec 32) (k1_hw33 : k1_chk33 v30), ∀ a, (k1_off529 v30) a + S1x16.size a ≤ S26x128.size a := fun v30 k1_hw33 => k1_hw33.2.2.2.2.2.1
theorem k1_off531_inb : ∀ (v30 : BitVec 32) (k1_hw33 : k1_chk33 v30), ∀ a, (k1_off531 v30) a + S1x16.size a ≤ S26x128.size a := fun v30 k1_hw33 => k1_hw33.2.2.2.2.2.2.1
theorem k1_off533_inb : ∀ (v30 : BitVec 32) (k1_hw33 : k1_chk33 v30), ∀ a, (k1_off533 v30) a + S1x16.size a ≤ S26x128.size a := fun v30 k1_hw33 => k1_hw33.2.2.2.2.2.2.2

def k1_off534 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_35 : BitVec 32 := 16#32
  let v31 : BitVec 32 := Scalar.muli arg16 c16_i32_35
  let c0_i32_36 : BitVec 32 := 0#32
  let v32 : BitVec 32 := Scalar.addi v31 c0_i32_36
  let v63 : Index := Scalar.indexCast v32
  let c112_44 : Index := 112#32
  ![v63.toNat, 112]
def k1_off535 (v66 : BitVec 32) : Fin 2 → Nat :=
  let v69 : Index := Scalar.indexCast v66
  let c0_47 : Index := 0#32
  ![v69.toNat, 0]

def k1_off536 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_45 : BitVec 32 := 16#32
  let v67 : BitVec 32 := Scalar.muli arg16 c16_i32_45
  let c1_i32_46 : BitVec 32 := 1#32
  let v68 : BitVec 32 := Scalar.addi v67 c1_i32_46
  let v71 : Index := Scalar.indexCast v68
  let c0_48 : Index := 0#32
  ![v71.toNat, 0]
def k1_off537 (v66 : BitVec 32) : Fin 2 → Nat :=
  let v73 : Index := Scalar.indexCast v66
  let c16_49 : Index := 16#32
  ![v73.toNat, 16]
def k1_off538 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_45 : BitVec 32 := 16#32
  let v67 : BitVec 32 := Scalar.muli arg16 c16_i32_45
  let c1_i32_46 : BitVec 32 := 1#32
  let v68 : BitVec 32 := Scalar.addi v67 c1_i32_46
  let v75 : Index := Scalar.indexCast v68
  let c16_50 : Index := 16#32
  ![v75.toNat, 16]
def k1_off539 (v66 : BitVec 32) : Fin 2 → Nat :=
  let v77 : Index := Scalar.indexCast v66
  let c32_51 : Index := 32#32
  ![v77.toNat, 32]
def k1_off540 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_45 : BitVec 32 := 16#32
  let v67 : BitVec 32 := Scalar.muli arg16 c16_i32_45
  let c1_i32_46 : BitVec 32 := 1#32
  let v68 : BitVec 32 := Scalar.addi v67 c1_i32_46
  let v79 : Index := Scalar.indexCast v68
  let c32_52 : Index := 32#32
  ![v79.toNat, 32]
def k1_off541 (v66 : BitVec 32) : Fin 2 → Nat :=
  let v81 : Index := Scalar.indexCast v66
  let c48_53 : Index := 48#32
  ![v81.toNat, 48]
def k1_off542 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_45 : BitVec 32 := 16#32
  let v67 : BitVec 32 := Scalar.muli arg16 c16_i32_45
  let c1_i32_46 : BitVec 32 := 1#32
  let v68 : BitVec 32 := Scalar.addi v67 c1_i32_46
  let v83 : Index := Scalar.indexCast v68
  let c48_54 : Index := 48#32
  ![v83.toNat, 48]
def k1_off543 (v66 : BitVec 32) : Fin 2 → Nat :=
  let v85 : Index := Scalar.indexCast v66
  let c64_55 : Index := 64#32
  ![v85.toNat, 64]
def k1_off544 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_45 : BitVec 32 := 16#32
  let v67 : BitVec 32 := Scalar.muli arg16 c16_i32_45
  let c1_i32_46 : BitVec 32 := 1#32
  let v68 : BitVec 32 := Scalar.addi v67 c1_i32_46
  let v87 : Index := Scalar.indexCast v68
  let c64_56 : Index := 64#32
  ![v87.toNat, 64]
def k1_off545 (v66 : BitVec 32) : Fin 2 → Nat :=
  let v89 : Index := Scalar.indexCast v66
  let c80_57 : Index := 80#32
  ![v89.toNat, 80]
def k1_off546 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_45 : BitVec 32 := 16#32
  let v67 : BitVec 32 := Scalar.muli arg16 c16_i32_45
  let c1_i32_46 : BitVec 32 := 1#32
  let v68 : BitVec 32 := Scalar.addi v67 c1_i32_46
  let v91 : Index := Scalar.indexCast v68
  let c80_58 : Index := 80#32
  ![v91.toNat, 80]
def k1_off547 (v66 : BitVec 32) : Fin 2 → Nat :=
  let v93 : Index := Scalar.indexCast v66
  let c96_59 : Index := 96#32
  ![v93.toNat, 96]
def k1_off548 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_45 : BitVec 32 := 16#32
  let v67 : BitVec 32 := Scalar.muli arg16 c16_i32_45
  let c1_i32_46 : BitVec 32 := 1#32
  let v68 : BitVec 32 := Scalar.addi v67 c1_i32_46
  let v95 : Index := Scalar.indexCast v68
  let c96_60 : Index := 96#32
  ![v95.toNat, 96]
def k1_off549 (v66 : BitVec 32) : Fin 2 → Nat :=
  let v97 : Index := Scalar.indexCast v66
  let c112_61 : Index := 112#32
  ![v97.toNat, 112]

def k1_chk34 (v66 : BitVec 32) : Prop :=
  (∀ a, (k1_off535 v66) a + S1x16.size a ≤ S26x128.size a) ∧
  (∀ a, (k1_off537 v66) a + S1x16.size a ≤ S26x128.size a) ∧
  (∀ a, (k1_off539 v66) a + S1x16.size a ≤ S26x128.size a) ∧
  (∀ a, (k1_off541 v66) a + S1x16.size a ≤ S26x128.size a) ∧
  (∀ a, (k1_off543 v66) a + S1x16.size a ≤ S26x128.size a) ∧
  (∀ a, (k1_off545 v66) a + S1x16.size a ≤ S26x128.size a) ∧
  (∀ a, (k1_off547 v66) a + S1x16.size a ≤ S26x128.size a) ∧
  (∀ a, (k1_off549 v66) a + S1x16.size a ≤ S26x128.size a)
theorem k1_off535_inb : ∀ (v66 : BitVec 32) (k1_hw34 : k1_chk34 v66), ∀ a, (k1_off535 v66) a + S1x16.size a ≤ S26x128.size a := fun v66 k1_hw34 => k1_hw34.1
theorem k1_off537_inb : ∀ (v66 : BitVec 32) (k1_hw34 : k1_chk34 v66), ∀ a, (k1_off537 v66) a + S1x16.size a ≤ S26x128.size a := fun v66 k1_hw34 => k1_hw34.2.1
theorem k1_off539_inb : ∀ (v66 : BitVec 32) (k1_hw34 : k1_chk34 v66), ∀ a, (k1_off539 v66) a + S1x16.size a ≤ S26x128.size a := fun v66 k1_hw34 => k1_hw34.2.2.1
theorem k1_off541_inb : ∀ (v66 : BitVec 32) (k1_hw34 : k1_chk34 v66), ∀ a, (k1_off541 v66) a + S1x16.size a ≤ S26x128.size a := fun v66 k1_hw34 => k1_hw34.2.2.2.1
theorem k1_off543_inb : ∀ (v66 : BitVec 32) (k1_hw34 : k1_chk34 v66), ∀ a, (k1_off543 v66) a + S1x16.size a ≤ S26x128.size a := fun v66 k1_hw34 => k1_hw34.2.2.2.2.1
theorem k1_off545_inb : ∀ (v66 : BitVec 32) (k1_hw34 : k1_chk34 v66), ∀ a, (k1_off545 v66) a + S1x16.size a ≤ S26x128.size a := fun v66 k1_hw34 => k1_hw34.2.2.2.2.2.1
theorem k1_off547_inb : ∀ (v66 : BitVec 32) (k1_hw34 : k1_chk34 v66), ∀ a, (k1_off547 v66) a + S1x16.size a ≤ S26x128.size a := fun v66 k1_hw34 => k1_hw34.2.2.2.2.2.2.1
theorem k1_off549_inb : ∀ (v66 : BitVec 32) (k1_hw34 : k1_chk34 v66), ∀ a, (k1_off549 v66) a + S1x16.size a ≤ S26x128.size a := fun v66 k1_hw34 => k1_hw34.2.2.2.2.2.2.2

def k1_off550 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_45 : BitVec 32 := 16#32
  let v67 : BitVec 32 := Scalar.muli arg16 c16_i32_45
  let c1_i32_46 : BitVec 32 := 1#32
  let v68 : BitVec 32 := Scalar.addi v67 c1_i32_46
  let v99 : Index := Scalar.indexCast v68
  let c112_62 : Index := 112#32
  ![v99.toNat, 112]
def k1_off551 (v102 : BitVec 32) : Fin 2 → Nat :=
  let v105 : Index := Scalar.indexCast v102
  let c0_65 : Index := 0#32
  ![v105.toNat, 0]

def k1_off552 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_63 : BitVec 32 := 16#32
  let v103 : BitVec 32 := Scalar.muli arg16 c16_i32_63
  let c2_i32_64 : BitVec 32 := 2#32
  let v104 : BitVec 32 := Scalar.addi v103 c2_i32_64
  let v107 : Index := Scalar.indexCast v104
  let c0_66 : Index := 0#32
  ![v107.toNat, 0]
def k1_off553 (v102 : BitVec 32) : Fin 2 → Nat :=
  let v109 : Index := Scalar.indexCast v102
  let c16_67 : Index := 16#32
  ![v109.toNat, 16]
def k1_off554 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_63 : BitVec 32 := 16#32
  let v103 : BitVec 32 := Scalar.muli arg16 c16_i32_63
  let c2_i32_64 : BitVec 32 := 2#32
  let v104 : BitVec 32 := Scalar.addi v103 c2_i32_64
  let v111 : Index := Scalar.indexCast v104
  let c16_68 : Index := 16#32
  ![v111.toNat, 16]
def k1_off555 (v102 : BitVec 32) : Fin 2 → Nat :=
  let v113 : Index := Scalar.indexCast v102
  let c32_69 : Index := 32#32
  ![v113.toNat, 32]
def k1_off556 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_63 : BitVec 32 := 16#32
  let v103 : BitVec 32 := Scalar.muli arg16 c16_i32_63
  let c2_i32_64 : BitVec 32 := 2#32
  let v104 : BitVec 32 := Scalar.addi v103 c2_i32_64
  let v115 : Index := Scalar.indexCast v104
  let c32_70 : Index := 32#32
  ![v115.toNat, 32]
def k1_off557 (v102 : BitVec 32) : Fin 2 → Nat :=
  let v117 : Index := Scalar.indexCast v102
  let c48_71 : Index := 48#32
  ![v117.toNat, 48]
def k1_off558 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_63 : BitVec 32 := 16#32
  let v103 : BitVec 32 := Scalar.muli arg16 c16_i32_63
  let c2_i32_64 : BitVec 32 := 2#32
  let v104 : BitVec 32 := Scalar.addi v103 c2_i32_64
  let v119 : Index := Scalar.indexCast v104
  let c48_72 : Index := 48#32
  ![v119.toNat, 48]
def k1_off559 (v102 : BitVec 32) : Fin 2 → Nat :=
  let v121 : Index := Scalar.indexCast v102
  let c64_73 : Index := 64#32
  ![v121.toNat, 64]
def k1_off560 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_63 : BitVec 32 := 16#32
  let v103 : BitVec 32 := Scalar.muli arg16 c16_i32_63
  let c2_i32_64 : BitVec 32 := 2#32
  let v104 : BitVec 32 := Scalar.addi v103 c2_i32_64
  let v123 : Index := Scalar.indexCast v104
  let c64_74 : Index := 64#32
  ![v123.toNat, 64]
def k1_off561 (v102 : BitVec 32) : Fin 2 → Nat :=
  let v125 : Index := Scalar.indexCast v102
  let c80_75 : Index := 80#32
  ![v125.toNat, 80]
def k1_off562 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_63 : BitVec 32 := 16#32
  let v103 : BitVec 32 := Scalar.muli arg16 c16_i32_63
  let c2_i32_64 : BitVec 32 := 2#32
  let v104 : BitVec 32 := Scalar.addi v103 c2_i32_64
  let v127 : Index := Scalar.indexCast v104
  let c80_76 : Index := 80#32
  ![v127.toNat, 80]
def k1_off563 (v102 : BitVec 32) : Fin 2 → Nat :=
  let v129 : Index := Scalar.indexCast v102
  let c96_77 : Index := 96#32
  ![v129.toNat, 96]
def k1_off564 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_63 : BitVec 32 := 16#32
  let v103 : BitVec 32 := Scalar.muli arg16 c16_i32_63
  let c2_i32_64 : BitVec 32 := 2#32
  let v104 : BitVec 32 := Scalar.addi v103 c2_i32_64
  let v131 : Index := Scalar.indexCast v104
  let c96_78 : Index := 96#32
  ![v131.toNat, 96]
def k1_off565 (v102 : BitVec 32) : Fin 2 → Nat :=
  let v133 : Index := Scalar.indexCast v102
  let c112_79 : Index := 112#32
  ![v133.toNat, 112]

def k1_chk35 (v102 : BitVec 32) : Prop :=
  (∀ a, (k1_off551 v102) a + S1x16.size a ≤ S26x128.size a) ∧
  (∀ a, (k1_off553 v102) a + S1x16.size a ≤ S26x128.size a) ∧
  (∀ a, (k1_off555 v102) a + S1x16.size a ≤ S26x128.size a) ∧
  (∀ a, (k1_off557 v102) a + S1x16.size a ≤ S26x128.size a) ∧
  (∀ a, (k1_off559 v102) a + S1x16.size a ≤ S26x128.size a) ∧
  (∀ a, (k1_off561 v102) a + S1x16.size a ≤ S26x128.size a) ∧
  (∀ a, (k1_off563 v102) a + S1x16.size a ≤ S26x128.size a) ∧
  (∀ a, (k1_off565 v102) a + S1x16.size a ≤ S26x128.size a)
theorem k1_off551_inb : ∀ (v102 : BitVec 32) (k1_hw35 : k1_chk35 v102), ∀ a, (k1_off551 v102) a + S1x16.size a ≤ S26x128.size a := fun v102 k1_hw35 => k1_hw35.1
theorem k1_off553_inb : ∀ (v102 : BitVec 32) (k1_hw35 : k1_chk35 v102), ∀ a, (k1_off553 v102) a + S1x16.size a ≤ S26x128.size a := fun v102 k1_hw35 => k1_hw35.2.1
theorem k1_off555_inb : ∀ (v102 : BitVec 32) (k1_hw35 : k1_chk35 v102), ∀ a, (k1_off555 v102) a + S1x16.size a ≤ S26x128.size a := fun v102 k1_hw35 => k1_hw35.2.2.1
theorem k1_off557_inb : ∀ (v102 : BitVec 32) (k1_hw35 : k1_chk35 v102), ∀ a, (k1_off557 v102) a + S1x16.size a ≤ S26x128.size a := fun v102 k1_hw35 => k1_hw35.2.2.2.1
theorem k1_off559_inb : ∀ (v102 : BitVec 32) (k1_hw35 : k1_chk35 v102), ∀ a, (k1_off559 v102) a + S1x16.size a ≤ S26x128.size a := fun v102 k1_hw35 => k1_hw35.2.2.2.2.1
theorem k1_off561_inb : ∀ (v102 : BitVec 32) (k1_hw35 : k1_chk35 v102), ∀ a, (k1_off561 v102) a + S1x16.size a ≤ S26x128.size a := fun v102 k1_hw35 => k1_hw35.2.2.2.2.2.1
theorem k1_off563_inb : ∀ (v102 : BitVec 32) (k1_hw35 : k1_chk35 v102), ∀ a, (k1_off563 v102) a + S1x16.size a ≤ S26x128.size a := fun v102 k1_hw35 => k1_hw35.2.2.2.2.2.2.1
theorem k1_off565_inb : ∀ (v102 : BitVec 32) (k1_hw35 : k1_chk35 v102), ∀ a, (k1_off565 v102) a + S1x16.size a ≤ S26x128.size a := fun v102 k1_hw35 => k1_hw35.2.2.2.2.2.2.2

def k1_off566 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_63 : BitVec 32 := 16#32
  let v103 : BitVec 32 := Scalar.muli arg16 c16_i32_63
  let c2_i32_64 : BitVec 32 := 2#32
  let v104 : BitVec 32 := Scalar.addi v103 c2_i32_64
  let v135 : Index := Scalar.indexCast v104
  let c112_80 : Index := 112#32
  ![v135.toNat, 112]
def k1_off567 (v138 : BitVec 32) : Fin 2 → Nat :=
  let v141 : Index := Scalar.indexCast v138
  let c0_82 : Index := 0#32
  ![v141.toNat, 0]

def k1_off568 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_81 : BitVec 32 := 16#32
  let v139 : BitVec 32 := Scalar.muli arg16 c16_i32_81
  let c3_i32 : BitVec 32 := 3#32
  let v140 : BitVec 32 := Scalar.addi v139 c3_i32
  let v143 : Index := Scalar.indexCast v140
  let c0_83 : Index := 0#32
  ![v143.toNat, 0]
def k1_off569 (v138 : BitVec 32) : Fin 2 → Nat :=
  let v145 : Index := Scalar.indexCast v138
  let c16_84 : Index := 16#32
  ![v145.toNat, 16]
def k1_off570 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_81 : BitVec 32 := 16#32
  let v139 : BitVec 32 := Scalar.muli arg16 c16_i32_81
  let c3_i32 : BitVec 32 := 3#32
  let v140 : BitVec 32 := Scalar.addi v139 c3_i32
  let v147 : Index := Scalar.indexCast v140
  let c16_85 : Index := 16#32
  ![v147.toNat, 16]
def k1_off571 (v138 : BitVec 32) : Fin 2 → Nat :=
  let v149 : Index := Scalar.indexCast v138
  let c32_86 : Index := 32#32
  ![v149.toNat, 32]
def k1_off572 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_81 : BitVec 32 := 16#32
  let v139 : BitVec 32 := Scalar.muli arg16 c16_i32_81
  let c3_i32 : BitVec 32 := 3#32
  let v140 : BitVec 32 := Scalar.addi v139 c3_i32
  let v151 : Index := Scalar.indexCast v140
  let c32_87 : Index := 32#32
  ![v151.toNat, 32]
def k1_off573 (v138 : BitVec 32) : Fin 2 → Nat :=
  let v153 : Index := Scalar.indexCast v138
  let c48_88 : Index := 48#32
  ![v153.toNat, 48]
def k1_off574 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_81 : BitVec 32 := 16#32
  let v139 : BitVec 32 := Scalar.muli arg16 c16_i32_81
  let c3_i32 : BitVec 32 := 3#32
  let v140 : BitVec 32 := Scalar.addi v139 c3_i32
  let v155 : Index := Scalar.indexCast v140
  let c48_89 : Index := 48#32
  ![v155.toNat, 48]
def k1_off575 (v138 : BitVec 32) : Fin 2 → Nat :=
  let v157 : Index := Scalar.indexCast v138
  let c64_90 : Index := 64#32
  ![v157.toNat, 64]
def k1_off576 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_81 : BitVec 32 := 16#32
  let v139 : BitVec 32 := Scalar.muli arg16 c16_i32_81
  let c3_i32 : BitVec 32 := 3#32
  let v140 : BitVec 32 := Scalar.addi v139 c3_i32
  let v159 : Index := Scalar.indexCast v140
  let c64_91 : Index := 64#32
  ![v159.toNat, 64]
def k1_off577 (v138 : BitVec 32) : Fin 2 → Nat :=
  let v161 : Index := Scalar.indexCast v138
  let c80_92 : Index := 80#32
  ![v161.toNat, 80]
def k1_off578 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_81 : BitVec 32 := 16#32
  let v139 : BitVec 32 := Scalar.muli arg16 c16_i32_81
  let c3_i32 : BitVec 32 := 3#32
  let v140 : BitVec 32 := Scalar.addi v139 c3_i32
  let v163 : Index := Scalar.indexCast v140
  let c80_93 : Index := 80#32
  ![v163.toNat, 80]
def k1_off579 (v138 : BitVec 32) : Fin 2 → Nat :=
  let v165 : Index := Scalar.indexCast v138
  let c96_94 : Index := 96#32
  ![v165.toNat, 96]
def k1_off580 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_81 : BitVec 32 := 16#32
  let v139 : BitVec 32 := Scalar.muli arg16 c16_i32_81
  let c3_i32 : BitVec 32 := 3#32
  let v140 : BitVec 32 := Scalar.addi v139 c3_i32
  let v167 : Index := Scalar.indexCast v140
  let c96_95 : Index := 96#32
  ![v167.toNat, 96]
def k1_off581 (v138 : BitVec 32) : Fin 2 → Nat :=
  let v169 : Index := Scalar.indexCast v138
  let c112_96 : Index := 112#32
  ![v169.toNat, 112]

def k1_chk36 (v138 : BitVec 32) : Prop :=
  (∀ a, (k1_off567 v138) a + S1x16.size a ≤ S26x128.size a) ∧
  (∀ a, (k1_off569 v138) a + S1x16.size a ≤ S26x128.size a) ∧
  (∀ a, (k1_off571 v138) a + S1x16.size a ≤ S26x128.size a) ∧
  (∀ a, (k1_off573 v138) a + S1x16.size a ≤ S26x128.size a) ∧
  (∀ a, (k1_off575 v138) a + S1x16.size a ≤ S26x128.size a) ∧
  (∀ a, (k1_off577 v138) a + S1x16.size a ≤ S26x128.size a) ∧
  (∀ a, (k1_off579 v138) a + S1x16.size a ≤ S26x128.size a) ∧
  (∀ a, (k1_off581 v138) a + S1x16.size a ≤ S26x128.size a)
theorem k1_off567_inb : ∀ (v138 : BitVec 32) (k1_hw36 : k1_chk36 v138), ∀ a, (k1_off567 v138) a + S1x16.size a ≤ S26x128.size a := fun v138 k1_hw36 => k1_hw36.1
theorem k1_off569_inb : ∀ (v138 : BitVec 32) (k1_hw36 : k1_chk36 v138), ∀ a, (k1_off569 v138) a + S1x16.size a ≤ S26x128.size a := fun v138 k1_hw36 => k1_hw36.2.1
theorem k1_off571_inb : ∀ (v138 : BitVec 32) (k1_hw36 : k1_chk36 v138), ∀ a, (k1_off571 v138) a + S1x16.size a ≤ S26x128.size a := fun v138 k1_hw36 => k1_hw36.2.2.1
theorem k1_off573_inb : ∀ (v138 : BitVec 32) (k1_hw36 : k1_chk36 v138), ∀ a, (k1_off573 v138) a + S1x16.size a ≤ S26x128.size a := fun v138 k1_hw36 => k1_hw36.2.2.2.1
theorem k1_off575_inb : ∀ (v138 : BitVec 32) (k1_hw36 : k1_chk36 v138), ∀ a, (k1_off575 v138) a + S1x16.size a ≤ S26x128.size a := fun v138 k1_hw36 => k1_hw36.2.2.2.2.1
theorem k1_off577_inb : ∀ (v138 : BitVec 32) (k1_hw36 : k1_chk36 v138), ∀ a, (k1_off577 v138) a + S1x16.size a ≤ S26x128.size a := fun v138 k1_hw36 => k1_hw36.2.2.2.2.2.1
theorem k1_off579_inb : ∀ (v138 : BitVec 32) (k1_hw36 : k1_chk36 v138), ∀ a, (k1_off579 v138) a + S1x16.size a ≤ S26x128.size a := fun v138 k1_hw36 => k1_hw36.2.2.2.2.2.2.1
theorem k1_off581_inb : ∀ (v138 : BitVec 32) (k1_hw36 : k1_chk36 v138), ∀ a, (k1_off581 v138) a + S1x16.size a ≤ S26x128.size a := fun v138 k1_hw36 => k1_hw36.2.2.2.2.2.2.2

def k1_off582 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_81 : BitVec 32 := 16#32
  let v139 : BitVec 32 := Scalar.muli arg16 c16_i32_81
  let c3_i32 : BitVec 32 := 3#32
  let v140 : BitVec 32 := Scalar.addi v139 c3_i32
  let v171 : Index := Scalar.indexCast v140
  let c112_97 : Index := 112#32
  ![v171.toNat, 112]
def k1_off583 (v174 : BitVec 32) : Fin 2 → Nat :=
  let v177 : Index := Scalar.indexCast v174
  let c0_99 : Index := 0#32
  ![v177.toNat, 0]

def k1_off584 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_98 : BitVec 32 := 16#32
  let v175 : BitVec 32 := Scalar.muli arg16 c16_i32_98
  let c4_i32 : BitVec 32 := 4#32
  let v176 : BitVec 32 := Scalar.addi v175 c4_i32
  let v179 : Index := Scalar.indexCast v176
  let c0_100 : Index := 0#32
  ![v179.toNat, 0]
def k1_off585 (v174 : BitVec 32) : Fin 2 → Nat :=
  let v181 : Index := Scalar.indexCast v174
  let c16_101 : Index := 16#32
  ![v181.toNat, 16]
def k1_off586 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_98 : BitVec 32 := 16#32
  let v175 : BitVec 32 := Scalar.muli arg16 c16_i32_98
  let c4_i32 : BitVec 32 := 4#32
  let v176 : BitVec 32 := Scalar.addi v175 c4_i32
  let v183 : Index := Scalar.indexCast v176
  let c16_102 : Index := 16#32
  ![v183.toNat, 16]
def k1_off587 (v174 : BitVec 32) : Fin 2 → Nat :=
  let v185 : Index := Scalar.indexCast v174
  let c32_103 : Index := 32#32
  ![v185.toNat, 32]
def k1_off588 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_98 : BitVec 32 := 16#32
  let v175 : BitVec 32 := Scalar.muli arg16 c16_i32_98
  let c4_i32 : BitVec 32 := 4#32
  let v176 : BitVec 32 := Scalar.addi v175 c4_i32
  let v187 : Index := Scalar.indexCast v176
  let c32_104 : Index := 32#32
  ![v187.toNat, 32]
def k1_off589 (v174 : BitVec 32) : Fin 2 → Nat :=
  let v189 : Index := Scalar.indexCast v174
  let c48_105 : Index := 48#32
  ![v189.toNat, 48]
def k1_off590 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_98 : BitVec 32 := 16#32
  let v175 : BitVec 32 := Scalar.muli arg16 c16_i32_98
  let c4_i32 : BitVec 32 := 4#32
  let v176 : BitVec 32 := Scalar.addi v175 c4_i32
  let v191 : Index := Scalar.indexCast v176
  let c48_106 : Index := 48#32
  ![v191.toNat, 48]
def k1_off591 (v174 : BitVec 32) : Fin 2 → Nat :=
  let v193 : Index := Scalar.indexCast v174
  let c64_107 : Index := 64#32
  ![v193.toNat, 64]
def k1_off592 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_98 : BitVec 32 := 16#32
  let v175 : BitVec 32 := Scalar.muli arg16 c16_i32_98
  let c4_i32 : BitVec 32 := 4#32
  let v176 : BitVec 32 := Scalar.addi v175 c4_i32
  let v195 : Index := Scalar.indexCast v176
  let c64_108 : Index := 64#32
  ![v195.toNat, 64]
def k1_off593 (v174 : BitVec 32) : Fin 2 → Nat :=
  let v197 : Index := Scalar.indexCast v174
  let c80_109 : Index := 80#32
  ![v197.toNat, 80]
def k1_off594 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_98 : BitVec 32 := 16#32
  let v175 : BitVec 32 := Scalar.muli arg16 c16_i32_98
  let c4_i32 : BitVec 32 := 4#32
  let v176 : BitVec 32 := Scalar.addi v175 c4_i32
  let v199 : Index := Scalar.indexCast v176
  let c80_110 : Index := 80#32
  ![v199.toNat, 80]
def k1_off595 (v174 : BitVec 32) : Fin 2 → Nat :=
  let v201 : Index := Scalar.indexCast v174
  let c96_111 : Index := 96#32
  ![v201.toNat, 96]
def k1_off596 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_98 : BitVec 32 := 16#32
  let v175 : BitVec 32 := Scalar.muli arg16 c16_i32_98
  let c4_i32 : BitVec 32 := 4#32
  let v176 : BitVec 32 := Scalar.addi v175 c4_i32
  let v203 : Index := Scalar.indexCast v176
  let c96_112 : Index := 96#32
  ![v203.toNat, 96]
def k1_off597 (v174 : BitVec 32) : Fin 2 → Nat :=
  let v205 : Index := Scalar.indexCast v174
  let c112_113 : Index := 112#32
  ![v205.toNat, 112]

def k1_chk37 (v174 : BitVec 32) : Prop :=
  (∀ a, (k1_off583 v174) a + S1x16.size a ≤ S26x128.size a) ∧
  (∀ a, (k1_off585 v174) a + S1x16.size a ≤ S26x128.size a) ∧
  (∀ a, (k1_off587 v174) a + S1x16.size a ≤ S26x128.size a) ∧
  (∀ a, (k1_off589 v174) a + S1x16.size a ≤ S26x128.size a) ∧
  (∀ a, (k1_off591 v174) a + S1x16.size a ≤ S26x128.size a) ∧
  (∀ a, (k1_off593 v174) a + S1x16.size a ≤ S26x128.size a) ∧
  (∀ a, (k1_off595 v174) a + S1x16.size a ≤ S26x128.size a) ∧
  (∀ a, (k1_off597 v174) a + S1x16.size a ≤ S26x128.size a)
theorem k1_off583_inb : ∀ (v174 : BitVec 32) (k1_hw37 : k1_chk37 v174), ∀ a, (k1_off583 v174) a + S1x16.size a ≤ S26x128.size a := fun v174 k1_hw37 => k1_hw37.1
theorem k1_off585_inb : ∀ (v174 : BitVec 32) (k1_hw37 : k1_chk37 v174), ∀ a, (k1_off585 v174) a + S1x16.size a ≤ S26x128.size a := fun v174 k1_hw37 => k1_hw37.2.1
theorem k1_off587_inb : ∀ (v174 : BitVec 32) (k1_hw37 : k1_chk37 v174), ∀ a, (k1_off587 v174) a + S1x16.size a ≤ S26x128.size a := fun v174 k1_hw37 => k1_hw37.2.2.1
theorem k1_off589_inb : ∀ (v174 : BitVec 32) (k1_hw37 : k1_chk37 v174), ∀ a, (k1_off589 v174) a + S1x16.size a ≤ S26x128.size a := fun v174 k1_hw37 => k1_hw37.2.2.2.1
theorem k1_off591_inb : ∀ (v174 : BitVec 32) (k1_hw37 : k1_chk37 v174), ∀ a, (k1_off591 v174) a + S1x16.size a ≤ S26x128.size a := fun v174 k1_hw37 => k1_hw37.2.2.2.2.1
theorem k1_off593_inb : ∀ (v174 : BitVec 32) (k1_hw37 : k1_chk37 v174), ∀ a, (k1_off593 v174) a + S1x16.size a ≤ S26x128.size a := fun v174 k1_hw37 => k1_hw37.2.2.2.2.2.1
theorem k1_off595_inb : ∀ (v174 : BitVec 32) (k1_hw37 : k1_chk37 v174), ∀ a, (k1_off595 v174) a + S1x16.size a ≤ S26x128.size a := fun v174 k1_hw37 => k1_hw37.2.2.2.2.2.2.1
theorem k1_off597_inb : ∀ (v174 : BitVec 32) (k1_hw37 : k1_chk37 v174), ∀ a, (k1_off597 v174) a + S1x16.size a ≤ S26x128.size a := fun v174 k1_hw37 => k1_hw37.2.2.2.2.2.2.2

def k1_off598 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_98 : BitVec 32 := 16#32
  let v175 : BitVec 32 := Scalar.muli arg16 c16_i32_98
  let c4_i32 : BitVec 32 := 4#32
  let v176 : BitVec 32 := Scalar.addi v175 c4_i32
  let v207 : Index := Scalar.indexCast v176
  let c112_114 : Index := 112#32
  ![v207.toNat, 112]
def k1_off599 (v210 : BitVec 32) : Fin 2 → Nat :=
  let v213 : Index := Scalar.indexCast v210
  let c0_116 : Index := 0#32
  ![v213.toNat, 0]

def k1_off600 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_115 : BitVec 32 := 16#32
  let v211 : BitVec 32 := Scalar.muli arg16 c16_i32_115
  let c5_i32 : BitVec 32 := 5#32
  let v212 : BitVec 32 := Scalar.addi v211 c5_i32
  let v215 : Index := Scalar.indexCast v212
  let c0_117 : Index := 0#32
  ![v215.toNat, 0]
def k1_off601 (v210 : BitVec 32) : Fin 2 → Nat :=
  let v217 : Index := Scalar.indexCast v210
  let c16_118 : Index := 16#32
  ![v217.toNat, 16]
def k1_off602 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_115 : BitVec 32 := 16#32
  let v211 : BitVec 32 := Scalar.muli arg16 c16_i32_115
  let c5_i32 : BitVec 32 := 5#32
  let v212 : BitVec 32 := Scalar.addi v211 c5_i32
  let v219 : Index := Scalar.indexCast v212
  let c16_119 : Index := 16#32
  ![v219.toNat, 16]
def k1_off603 (v210 : BitVec 32) : Fin 2 → Nat :=
  let v221 : Index := Scalar.indexCast v210
  let c32_120 : Index := 32#32
  ![v221.toNat, 32]
def k1_off604 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_115 : BitVec 32 := 16#32
  let v211 : BitVec 32 := Scalar.muli arg16 c16_i32_115
  let c5_i32 : BitVec 32 := 5#32
  let v212 : BitVec 32 := Scalar.addi v211 c5_i32
  let v223 : Index := Scalar.indexCast v212
  let c32_121 : Index := 32#32
  ![v223.toNat, 32]
def k1_off605 (v210 : BitVec 32) : Fin 2 → Nat :=
  let v225 : Index := Scalar.indexCast v210
  let c48_122 : Index := 48#32
  ![v225.toNat, 48]
def k1_off606 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_115 : BitVec 32 := 16#32
  let v211 : BitVec 32 := Scalar.muli arg16 c16_i32_115
  let c5_i32 : BitVec 32 := 5#32
  let v212 : BitVec 32 := Scalar.addi v211 c5_i32
  let v227 : Index := Scalar.indexCast v212
  let c48_123 : Index := 48#32
  ![v227.toNat, 48]
def k1_off607 (v210 : BitVec 32) : Fin 2 → Nat :=
  let v229 : Index := Scalar.indexCast v210
  let c64_124 : Index := 64#32
  ![v229.toNat, 64]
def k1_off608 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_115 : BitVec 32 := 16#32
  let v211 : BitVec 32 := Scalar.muli arg16 c16_i32_115
  let c5_i32 : BitVec 32 := 5#32
  let v212 : BitVec 32 := Scalar.addi v211 c5_i32
  let v231 : Index := Scalar.indexCast v212
  let c64_125 : Index := 64#32
  ![v231.toNat, 64]
def k1_off609 (v210 : BitVec 32) : Fin 2 → Nat :=
  let v233 : Index := Scalar.indexCast v210
  let c80_126 : Index := 80#32
  ![v233.toNat, 80]
def k1_off610 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_115 : BitVec 32 := 16#32
  let v211 : BitVec 32 := Scalar.muli arg16 c16_i32_115
  let c5_i32 : BitVec 32 := 5#32
  let v212 : BitVec 32 := Scalar.addi v211 c5_i32
  let v235 : Index := Scalar.indexCast v212
  let c80_127 : Index := 80#32
  ![v235.toNat, 80]
def k1_off611 (v210 : BitVec 32) : Fin 2 → Nat :=
  let v237 : Index := Scalar.indexCast v210
  let c96_128 : Index := 96#32
  ![v237.toNat, 96]
def k1_off612 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_115 : BitVec 32 := 16#32
  let v211 : BitVec 32 := Scalar.muli arg16 c16_i32_115
  let c5_i32 : BitVec 32 := 5#32
  let v212 : BitVec 32 := Scalar.addi v211 c5_i32
  let v239 : Index := Scalar.indexCast v212
  let c96_129 : Index := 96#32
  ![v239.toNat, 96]
def k1_off613 (v210 : BitVec 32) : Fin 2 → Nat :=
  let v241 : Index := Scalar.indexCast v210
  let c112_130 : Index := 112#32
  ![v241.toNat, 112]

def k1_chk38 (v210 : BitVec 32) : Prop :=
  (∀ a, (k1_off599 v210) a + S1x16.size a ≤ S26x128.size a) ∧
  (∀ a, (k1_off601 v210) a + S1x16.size a ≤ S26x128.size a) ∧
  (∀ a, (k1_off603 v210) a + S1x16.size a ≤ S26x128.size a) ∧
  (∀ a, (k1_off605 v210) a + S1x16.size a ≤ S26x128.size a) ∧
  (∀ a, (k1_off607 v210) a + S1x16.size a ≤ S26x128.size a) ∧
  (∀ a, (k1_off609 v210) a + S1x16.size a ≤ S26x128.size a) ∧
  (∀ a, (k1_off611 v210) a + S1x16.size a ≤ S26x128.size a) ∧
  (∀ a, (k1_off613 v210) a + S1x16.size a ≤ S26x128.size a)
theorem k1_off599_inb : ∀ (v210 : BitVec 32) (k1_hw38 : k1_chk38 v210), ∀ a, (k1_off599 v210) a + S1x16.size a ≤ S26x128.size a := fun v210 k1_hw38 => k1_hw38.1
theorem k1_off601_inb : ∀ (v210 : BitVec 32) (k1_hw38 : k1_chk38 v210), ∀ a, (k1_off601 v210) a + S1x16.size a ≤ S26x128.size a := fun v210 k1_hw38 => k1_hw38.2.1
theorem k1_off603_inb : ∀ (v210 : BitVec 32) (k1_hw38 : k1_chk38 v210), ∀ a, (k1_off603 v210) a + S1x16.size a ≤ S26x128.size a := fun v210 k1_hw38 => k1_hw38.2.2.1
theorem k1_off605_inb : ∀ (v210 : BitVec 32) (k1_hw38 : k1_chk38 v210), ∀ a, (k1_off605 v210) a + S1x16.size a ≤ S26x128.size a := fun v210 k1_hw38 => k1_hw38.2.2.2.1
theorem k1_off607_inb : ∀ (v210 : BitVec 32) (k1_hw38 : k1_chk38 v210), ∀ a, (k1_off607 v210) a + S1x16.size a ≤ S26x128.size a := fun v210 k1_hw38 => k1_hw38.2.2.2.2.1
theorem k1_off609_inb : ∀ (v210 : BitVec 32) (k1_hw38 : k1_chk38 v210), ∀ a, (k1_off609 v210) a + S1x16.size a ≤ S26x128.size a := fun v210 k1_hw38 => k1_hw38.2.2.2.2.2.1
theorem k1_off611_inb : ∀ (v210 : BitVec 32) (k1_hw38 : k1_chk38 v210), ∀ a, (k1_off611 v210) a + S1x16.size a ≤ S26x128.size a := fun v210 k1_hw38 => k1_hw38.2.2.2.2.2.2.1
theorem k1_off613_inb : ∀ (v210 : BitVec 32) (k1_hw38 : k1_chk38 v210), ∀ a, (k1_off613 v210) a + S1x16.size a ≤ S26x128.size a := fun v210 k1_hw38 => k1_hw38.2.2.2.2.2.2.2

def k1_off614 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_115 : BitVec 32 := 16#32
  let v211 : BitVec 32 := Scalar.muli arg16 c16_i32_115
  let c5_i32 : BitVec 32 := 5#32
  let v212 : BitVec 32 := Scalar.addi v211 c5_i32
  let v243 : Index := Scalar.indexCast v212
  let c112_131 : Index := 112#32
  ![v243.toNat, 112]
def k1_off615 (v246 : BitVec 32) : Fin 2 → Nat :=
  let v249 : Index := Scalar.indexCast v246
  let c0_133 : Index := 0#32
  ![v249.toNat, 0]

def k1_off616 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_132 : BitVec 32 := 16#32
  let v247 : BitVec 32 := Scalar.muli arg16 c16_i32_132
  let c6_i32 : BitVec 32 := 6#32
  let v248 : BitVec 32 := Scalar.addi v247 c6_i32
  let v251 : Index := Scalar.indexCast v248
  let c0_134 : Index := 0#32
  ![v251.toNat, 0]
def k1_off617 (v246 : BitVec 32) : Fin 2 → Nat :=
  let v253 : Index := Scalar.indexCast v246
  let c16_135 : Index := 16#32
  ![v253.toNat, 16]
def k1_off618 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_132 : BitVec 32 := 16#32
  let v247 : BitVec 32 := Scalar.muli arg16 c16_i32_132
  let c6_i32 : BitVec 32 := 6#32
  let v248 : BitVec 32 := Scalar.addi v247 c6_i32
  let v255 : Index := Scalar.indexCast v248
  let c16_136 : Index := 16#32
  ![v255.toNat, 16]
def k1_off619 (v246 : BitVec 32) : Fin 2 → Nat :=
  let v257 : Index := Scalar.indexCast v246
  let c32_137 : Index := 32#32
  ![v257.toNat, 32]
def k1_off620 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_132 : BitVec 32 := 16#32
  let v247 : BitVec 32 := Scalar.muli arg16 c16_i32_132
  let c6_i32 : BitVec 32 := 6#32
  let v248 : BitVec 32 := Scalar.addi v247 c6_i32
  let v259 : Index := Scalar.indexCast v248
  let c32_138 : Index := 32#32
  ![v259.toNat, 32]
def k1_off621 (v246 : BitVec 32) : Fin 2 → Nat :=
  let v261 : Index := Scalar.indexCast v246
  let c48_139 : Index := 48#32
  ![v261.toNat, 48]
def k1_off622 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_132 : BitVec 32 := 16#32
  let v247 : BitVec 32 := Scalar.muli arg16 c16_i32_132
  let c6_i32 : BitVec 32 := 6#32
  let v248 : BitVec 32 := Scalar.addi v247 c6_i32
  let v263 : Index := Scalar.indexCast v248
  let c48_140 : Index := 48#32
  ![v263.toNat, 48]
def k1_off623 (v246 : BitVec 32) : Fin 2 → Nat :=
  let v265 : Index := Scalar.indexCast v246
  let c64_141 : Index := 64#32
  ![v265.toNat, 64]
def k1_off624 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_132 : BitVec 32 := 16#32
  let v247 : BitVec 32 := Scalar.muli arg16 c16_i32_132
  let c6_i32 : BitVec 32 := 6#32
  let v248 : BitVec 32 := Scalar.addi v247 c6_i32
  let v267 : Index := Scalar.indexCast v248
  let c64_142 : Index := 64#32
  ![v267.toNat, 64]
def k1_off625 (v246 : BitVec 32) : Fin 2 → Nat :=
  let v269 : Index := Scalar.indexCast v246
  let c80_143 : Index := 80#32
  ![v269.toNat, 80]
def k1_off626 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_132 : BitVec 32 := 16#32
  let v247 : BitVec 32 := Scalar.muli arg16 c16_i32_132
  let c6_i32 : BitVec 32 := 6#32
  let v248 : BitVec 32 := Scalar.addi v247 c6_i32
  let v271 : Index := Scalar.indexCast v248
  let c80_144 : Index := 80#32
  ![v271.toNat, 80]
def k1_off627 (v246 : BitVec 32) : Fin 2 → Nat :=
  let v273 : Index := Scalar.indexCast v246
  let c96_145 : Index := 96#32
  ![v273.toNat, 96]
def k1_off628 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_132 : BitVec 32 := 16#32
  let v247 : BitVec 32 := Scalar.muli arg16 c16_i32_132
  let c6_i32 : BitVec 32 := 6#32
  let v248 : BitVec 32 := Scalar.addi v247 c6_i32
  let v275 : Index := Scalar.indexCast v248
  let c96_146 : Index := 96#32
  ![v275.toNat, 96]
def k1_off629 (v246 : BitVec 32) : Fin 2 → Nat :=
  let v277 : Index := Scalar.indexCast v246
  let c112_147 : Index := 112#32
  ![v277.toNat, 112]

def k1_chk39 (v246 : BitVec 32) : Prop :=
  (∀ a, (k1_off615 v246) a + S1x16.size a ≤ S26x128.size a) ∧
  (∀ a, (k1_off617 v246) a + S1x16.size a ≤ S26x128.size a) ∧
  (∀ a, (k1_off619 v246) a + S1x16.size a ≤ S26x128.size a) ∧
  (∀ a, (k1_off621 v246) a + S1x16.size a ≤ S26x128.size a) ∧
  (∀ a, (k1_off623 v246) a + S1x16.size a ≤ S26x128.size a) ∧
  (∀ a, (k1_off625 v246) a + S1x16.size a ≤ S26x128.size a) ∧
  (∀ a, (k1_off627 v246) a + S1x16.size a ≤ S26x128.size a) ∧
  (∀ a, (k1_off629 v246) a + S1x16.size a ≤ S26x128.size a)
theorem k1_off615_inb : ∀ (v246 : BitVec 32) (k1_hw39 : k1_chk39 v246), ∀ a, (k1_off615 v246) a + S1x16.size a ≤ S26x128.size a := fun v246 k1_hw39 => k1_hw39.1
theorem k1_off617_inb : ∀ (v246 : BitVec 32) (k1_hw39 : k1_chk39 v246), ∀ a, (k1_off617 v246) a + S1x16.size a ≤ S26x128.size a := fun v246 k1_hw39 => k1_hw39.2.1
theorem k1_off619_inb : ∀ (v246 : BitVec 32) (k1_hw39 : k1_chk39 v246), ∀ a, (k1_off619 v246) a + S1x16.size a ≤ S26x128.size a := fun v246 k1_hw39 => k1_hw39.2.2.1
theorem k1_off621_inb : ∀ (v246 : BitVec 32) (k1_hw39 : k1_chk39 v246), ∀ a, (k1_off621 v246) a + S1x16.size a ≤ S26x128.size a := fun v246 k1_hw39 => k1_hw39.2.2.2.1
theorem k1_off623_inb : ∀ (v246 : BitVec 32) (k1_hw39 : k1_chk39 v246), ∀ a, (k1_off623 v246) a + S1x16.size a ≤ S26x128.size a := fun v246 k1_hw39 => k1_hw39.2.2.2.2.1
theorem k1_off625_inb : ∀ (v246 : BitVec 32) (k1_hw39 : k1_chk39 v246), ∀ a, (k1_off625 v246) a + S1x16.size a ≤ S26x128.size a := fun v246 k1_hw39 => k1_hw39.2.2.2.2.2.1
theorem k1_off627_inb : ∀ (v246 : BitVec 32) (k1_hw39 : k1_chk39 v246), ∀ a, (k1_off627 v246) a + S1x16.size a ≤ S26x128.size a := fun v246 k1_hw39 => k1_hw39.2.2.2.2.2.2.1
theorem k1_off629_inb : ∀ (v246 : BitVec 32) (k1_hw39 : k1_chk39 v246), ∀ a, (k1_off629 v246) a + S1x16.size a ≤ S26x128.size a := fun v246 k1_hw39 => k1_hw39.2.2.2.2.2.2.2

def k1_off630 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_132 : BitVec 32 := 16#32
  let v247 : BitVec 32 := Scalar.muli arg16 c16_i32_132
  let c6_i32 : BitVec 32 := 6#32
  let v248 : BitVec 32 := Scalar.addi v247 c6_i32
  let v279 : Index := Scalar.indexCast v248
  let c112_148 : Index := 112#32
  ![v279.toNat, 112]
def k1_off631 (v282 : BitVec 32) : Fin 2 → Nat :=
  let v285 : Index := Scalar.indexCast v282
  let c0_150 : Index := 0#32
  ![v285.toNat, 0]

def k1_off632 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_149 : BitVec 32 := 16#32
  let v283 : BitVec 32 := Scalar.muli arg16 c16_i32_149
  let c7_i32 : BitVec 32 := 7#32
  let v284 : BitVec 32 := Scalar.addi v283 c7_i32
  let v287 : Index := Scalar.indexCast v284
  let c0_151 : Index := 0#32
  ![v287.toNat, 0]
def k1_off633 (v282 : BitVec 32) : Fin 2 → Nat :=
  let v289 : Index := Scalar.indexCast v282
  let c16_152 : Index := 16#32
  ![v289.toNat, 16]
def k1_off634 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_149 : BitVec 32 := 16#32
  let v283 : BitVec 32 := Scalar.muli arg16 c16_i32_149
  let c7_i32 : BitVec 32 := 7#32
  let v284 : BitVec 32 := Scalar.addi v283 c7_i32
  let v291 : Index := Scalar.indexCast v284
  let c16_153 : Index := 16#32
  ![v291.toNat, 16]
def k1_off635 (v282 : BitVec 32) : Fin 2 → Nat :=
  let v293 : Index := Scalar.indexCast v282
  let c32_154 : Index := 32#32
  ![v293.toNat, 32]
def k1_off636 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_149 : BitVec 32 := 16#32
  let v283 : BitVec 32 := Scalar.muli arg16 c16_i32_149
  let c7_i32 : BitVec 32 := 7#32
  let v284 : BitVec 32 := Scalar.addi v283 c7_i32
  let v295 : Index := Scalar.indexCast v284
  let c32_155 : Index := 32#32
  ![v295.toNat, 32]
def k1_off637 (v282 : BitVec 32) : Fin 2 → Nat :=
  let v297 : Index := Scalar.indexCast v282
  let c48_156 : Index := 48#32
  ![v297.toNat, 48]
def k1_off638 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_149 : BitVec 32 := 16#32
  let v283 : BitVec 32 := Scalar.muli arg16 c16_i32_149
  let c7_i32 : BitVec 32 := 7#32
  let v284 : BitVec 32 := Scalar.addi v283 c7_i32
  let v299 : Index := Scalar.indexCast v284
  let c48_157 : Index := 48#32
  ![v299.toNat, 48]
def k1_off639 (v282 : BitVec 32) : Fin 2 → Nat :=
  let v301 : Index := Scalar.indexCast v282
  let c64_158 : Index := 64#32
  ![v301.toNat, 64]
def k1_off640 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_149 : BitVec 32 := 16#32
  let v283 : BitVec 32 := Scalar.muli arg16 c16_i32_149
  let c7_i32 : BitVec 32 := 7#32
  let v284 : BitVec 32 := Scalar.addi v283 c7_i32
  let v303 : Index := Scalar.indexCast v284
  let c64_159 : Index := 64#32
  ![v303.toNat, 64]
def k1_off641 (v282 : BitVec 32) : Fin 2 → Nat :=
  let v305 : Index := Scalar.indexCast v282
  let c80_160 : Index := 80#32
  ![v305.toNat, 80]
def k1_off642 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_149 : BitVec 32 := 16#32
  let v283 : BitVec 32 := Scalar.muli arg16 c16_i32_149
  let c7_i32 : BitVec 32 := 7#32
  let v284 : BitVec 32 := Scalar.addi v283 c7_i32
  let v307 : Index := Scalar.indexCast v284
  let c80_161 : Index := 80#32
  ![v307.toNat, 80]
def k1_off643 (v282 : BitVec 32) : Fin 2 → Nat :=
  let v309 : Index := Scalar.indexCast v282
  let c96_162 : Index := 96#32
  ![v309.toNat, 96]
def k1_off644 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_149 : BitVec 32 := 16#32
  let v283 : BitVec 32 := Scalar.muli arg16 c16_i32_149
  let c7_i32 : BitVec 32 := 7#32
  let v284 : BitVec 32 := Scalar.addi v283 c7_i32
  let v311 : Index := Scalar.indexCast v284
  let c96_163 : Index := 96#32
  ![v311.toNat, 96]
def k1_off645 (v282 : BitVec 32) : Fin 2 → Nat :=
  let v313 : Index := Scalar.indexCast v282
  let c112_164 : Index := 112#32
  ![v313.toNat, 112]

def k1_chk40 (v282 : BitVec 32) : Prop :=
  (∀ a, (k1_off631 v282) a + S1x16.size a ≤ S26x128.size a) ∧
  (∀ a, (k1_off633 v282) a + S1x16.size a ≤ S26x128.size a) ∧
  (∀ a, (k1_off635 v282) a + S1x16.size a ≤ S26x128.size a) ∧
  (∀ a, (k1_off637 v282) a + S1x16.size a ≤ S26x128.size a) ∧
  (∀ a, (k1_off639 v282) a + S1x16.size a ≤ S26x128.size a) ∧
  (∀ a, (k1_off641 v282) a + S1x16.size a ≤ S26x128.size a) ∧
  (∀ a, (k1_off643 v282) a + S1x16.size a ≤ S26x128.size a) ∧
  (∀ a, (k1_off645 v282) a + S1x16.size a ≤ S26x128.size a)
theorem k1_off631_inb : ∀ (v282 : BitVec 32) (k1_hw40 : k1_chk40 v282), ∀ a, (k1_off631 v282) a + S1x16.size a ≤ S26x128.size a := fun v282 k1_hw40 => k1_hw40.1
theorem k1_off633_inb : ∀ (v282 : BitVec 32) (k1_hw40 : k1_chk40 v282), ∀ a, (k1_off633 v282) a + S1x16.size a ≤ S26x128.size a := fun v282 k1_hw40 => k1_hw40.2.1
theorem k1_off635_inb : ∀ (v282 : BitVec 32) (k1_hw40 : k1_chk40 v282), ∀ a, (k1_off635 v282) a + S1x16.size a ≤ S26x128.size a := fun v282 k1_hw40 => k1_hw40.2.2.1
theorem k1_off637_inb : ∀ (v282 : BitVec 32) (k1_hw40 : k1_chk40 v282), ∀ a, (k1_off637 v282) a + S1x16.size a ≤ S26x128.size a := fun v282 k1_hw40 => k1_hw40.2.2.2.1
theorem k1_off639_inb : ∀ (v282 : BitVec 32) (k1_hw40 : k1_chk40 v282), ∀ a, (k1_off639 v282) a + S1x16.size a ≤ S26x128.size a := fun v282 k1_hw40 => k1_hw40.2.2.2.2.1
theorem k1_off641_inb : ∀ (v282 : BitVec 32) (k1_hw40 : k1_chk40 v282), ∀ a, (k1_off641 v282) a + S1x16.size a ≤ S26x128.size a := fun v282 k1_hw40 => k1_hw40.2.2.2.2.2.1
theorem k1_off643_inb : ∀ (v282 : BitVec 32) (k1_hw40 : k1_chk40 v282), ∀ a, (k1_off643 v282) a + S1x16.size a ≤ S26x128.size a := fun v282 k1_hw40 => k1_hw40.2.2.2.2.2.2.1
theorem k1_off645_inb : ∀ (v282 : BitVec 32) (k1_hw40 : k1_chk40 v282), ∀ a, (k1_off645 v282) a + S1x16.size a ≤ S26x128.size a := fun v282 k1_hw40 => k1_hw40.2.2.2.2.2.2.2

def k1_off646 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_149 : BitVec 32 := 16#32
  let v283 : BitVec 32 := Scalar.muli arg16 c16_i32_149
  let c7_i32 : BitVec 32 := 7#32
  let v284 : BitVec 32 := Scalar.addi v283 c7_i32
  let v315 : Index := Scalar.indexCast v284
  let c112_165 : Index := 112#32
  ![v315.toNat, 112]
def k1_off647 (v318 : BitVec 32) : Fin 2 → Nat :=
  let v321 : Index := Scalar.indexCast v318
  let c0_168 : Index := 0#32
  ![v321.toNat, 0]

def k1_off648 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_166 : BitVec 32 := 16#32
  let v319 : BitVec 32 := Scalar.muli arg16 c16_i32_166
  let c8_i32_167 : BitVec 32 := 8#32
  let v320 : BitVec 32 := Scalar.addi v319 c8_i32_167
  let v323 : Index := Scalar.indexCast v320
  let c0_169 : Index := 0#32
  ![v323.toNat, 0]
def k1_off649 (v318 : BitVec 32) : Fin 2 → Nat :=
  let v325 : Index := Scalar.indexCast v318
  let c16_170 : Index := 16#32
  ![v325.toNat, 16]
def k1_off650 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_166 : BitVec 32 := 16#32
  let v319 : BitVec 32 := Scalar.muli arg16 c16_i32_166
  let c8_i32_167 : BitVec 32 := 8#32
  let v320 : BitVec 32 := Scalar.addi v319 c8_i32_167
  let v327 : Index := Scalar.indexCast v320
  let c16_171 : Index := 16#32
  ![v327.toNat, 16]
def k1_off651 (v318 : BitVec 32) : Fin 2 → Nat :=
  let v329 : Index := Scalar.indexCast v318
  let c32_172 : Index := 32#32
  ![v329.toNat, 32]
def k1_off652 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_166 : BitVec 32 := 16#32
  let v319 : BitVec 32 := Scalar.muli arg16 c16_i32_166
  let c8_i32_167 : BitVec 32 := 8#32
  let v320 : BitVec 32 := Scalar.addi v319 c8_i32_167
  let v331 : Index := Scalar.indexCast v320
  let c32_173 : Index := 32#32
  ![v331.toNat, 32]
def k1_off653 (v318 : BitVec 32) : Fin 2 → Nat :=
  let v333 : Index := Scalar.indexCast v318
  let c48_174 : Index := 48#32
  ![v333.toNat, 48]
def k1_off654 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_166 : BitVec 32 := 16#32
  let v319 : BitVec 32 := Scalar.muli arg16 c16_i32_166
  let c8_i32_167 : BitVec 32 := 8#32
  let v320 : BitVec 32 := Scalar.addi v319 c8_i32_167
  let v335 : Index := Scalar.indexCast v320
  let c48_175 : Index := 48#32
  ![v335.toNat, 48]
def k1_off655 (v318 : BitVec 32) : Fin 2 → Nat :=
  let v337 : Index := Scalar.indexCast v318
  let c64_176 : Index := 64#32
  ![v337.toNat, 64]
def k1_off656 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_166 : BitVec 32 := 16#32
  let v319 : BitVec 32 := Scalar.muli arg16 c16_i32_166
  let c8_i32_167 : BitVec 32 := 8#32
  let v320 : BitVec 32 := Scalar.addi v319 c8_i32_167
  let v339 : Index := Scalar.indexCast v320
  let c64_177 : Index := 64#32
  ![v339.toNat, 64]
def k1_off657 (v318 : BitVec 32) : Fin 2 → Nat :=
  let v341 : Index := Scalar.indexCast v318
  let c80_178 : Index := 80#32
  ![v341.toNat, 80]
def k1_off658 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_166 : BitVec 32 := 16#32
  let v319 : BitVec 32 := Scalar.muli arg16 c16_i32_166
  let c8_i32_167 : BitVec 32 := 8#32
  let v320 : BitVec 32 := Scalar.addi v319 c8_i32_167
  let v343 : Index := Scalar.indexCast v320
  let c80_179 : Index := 80#32
  ![v343.toNat, 80]
def k1_off659 (v318 : BitVec 32) : Fin 2 → Nat :=
  let v345 : Index := Scalar.indexCast v318
  let c96_180 : Index := 96#32
  ![v345.toNat, 96]
def k1_off660 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_166 : BitVec 32 := 16#32
  let v319 : BitVec 32 := Scalar.muli arg16 c16_i32_166
  let c8_i32_167 : BitVec 32 := 8#32
  let v320 : BitVec 32 := Scalar.addi v319 c8_i32_167
  let v347 : Index := Scalar.indexCast v320
  let c96_181 : Index := 96#32
  ![v347.toNat, 96]
def k1_off661 (v318 : BitVec 32) : Fin 2 → Nat :=
  let v349 : Index := Scalar.indexCast v318
  let c112_182 : Index := 112#32
  ![v349.toNat, 112]

def k1_chk41 (v318 : BitVec 32) : Prop :=
  (∀ a, (k1_off647 v318) a + S1x16.size a ≤ S26x128.size a) ∧
  (∀ a, (k1_off649 v318) a + S1x16.size a ≤ S26x128.size a) ∧
  (∀ a, (k1_off651 v318) a + S1x16.size a ≤ S26x128.size a) ∧
  (∀ a, (k1_off653 v318) a + S1x16.size a ≤ S26x128.size a) ∧
  (∀ a, (k1_off655 v318) a + S1x16.size a ≤ S26x128.size a) ∧
  (∀ a, (k1_off657 v318) a + S1x16.size a ≤ S26x128.size a) ∧
  (∀ a, (k1_off659 v318) a + S1x16.size a ≤ S26x128.size a) ∧
  (∀ a, (k1_off661 v318) a + S1x16.size a ≤ S26x128.size a)
theorem k1_off647_inb : ∀ (v318 : BitVec 32) (k1_hw41 : k1_chk41 v318), ∀ a, (k1_off647 v318) a + S1x16.size a ≤ S26x128.size a := fun v318 k1_hw41 => k1_hw41.1
theorem k1_off649_inb : ∀ (v318 : BitVec 32) (k1_hw41 : k1_chk41 v318), ∀ a, (k1_off649 v318) a + S1x16.size a ≤ S26x128.size a := fun v318 k1_hw41 => k1_hw41.2.1
theorem k1_off651_inb : ∀ (v318 : BitVec 32) (k1_hw41 : k1_chk41 v318), ∀ a, (k1_off651 v318) a + S1x16.size a ≤ S26x128.size a := fun v318 k1_hw41 => k1_hw41.2.2.1
theorem k1_off653_inb : ∀ (v318 : BitVec 32) (k1_hw41 : k1_chk41 v318), ∀ a, (k1_off653 v318) a + S1x16.size a ≤ S26x128.size a := fun v318 k1_hw41 => k1_hw41.2.2.2.1
theorem k1_off655_inb : ∀ (v318 : BitVec 32) (k1_hw41 : k1_chk41 v318), ∀ a, (k1_off655 v318) a + S1x16.size a ≤ S26x128.size a := fun v318 k1_hw41 => k1_hw41.2.2.2.2.1
theorem k1_off657_inb : ∀ (v318 : BitVec 32) (k1_hw41 : k1_chk41 v318), ∀ a, (k1_off657 v318) a + S1x16.size a ≤ S26x128.size a := fun v318 k1_hw41 => k1_hw41.2.2.2.2.2.1
theorem k1_off659_inb : ∀ (v318 : BitVec 32) (k1_hw41 : k1_chk41 v318), ∀ a, (k1_off659 v318) a + S1x16.size a ≤ S26x128.size a := fun v318 k1_hw41 => k1_hw41.2.2.2.2.2.2.1
theorem k1_off661_inb : ∀ (v318 : BitVec 32) (k1_hw41 : k1_chk41 v318), ∀ a, (k1_off661 v318) a + S1x16.size a ≤ S26x128.size a := fun v318 k1_hw41 => k1_hw41.2.2.2.2.2.2.2

def k1_off662 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_166 : BitVec 32 := 16#32
  let v319 : BitVec 32 := Scalar.muli arg16 c16_i32_166
  let c8_i32_167 : BitVec 32 := 8#32
  let v320 : BitVec 32 := Scalar.addi v319 c8_i32_167
  let v351 : Index := Scalar.indexCast v320
  let c112_183 : Index := 112#32
  ![v351.toNat, 112]
def k1_off663 (v354 : BitVec 32) : Fin 2 → Nat :=
  let v357 : Index := Scalar.indexCast v354
  let c0_185 : Index := 0#32
  ![v357.toNat, 0]

def k1_off664 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_184 : BitVec 32 := 16#32
  let v355 : BitVec 32 := Scalar.muli arg16 c16_i32_184
  let c9_i32 : BitVec 32 := 9#32
  let v356 : BitVec 32 := Scalar.addi v355 c9_i32
  let v359 : Index := Scalar.indexCast v356
  let c0_186 : Index := 0#32
  ![v359.toNat, 0]
def k1_off665 (v354 : BitVec 32) : Fin 2 → Nat :=
  let v361 : Index := Scalar.indexCast v354
  let c16_187 : Index := 16#32
  ![v361.toNat, 16]
def k1_off666 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_184 : BitVec 32 := 16#32
  let v355 : BitVec 32 := Scalar.muli arg16 c16_i32_184
  let c9_i32 : BitVec 32 := 9#32
  let v356 : BitVec 32 := Scalar.addi v355 c9_i32
  let v363 : Index := Scalar.indexCast v356
  let c16_188 : Index := 16#32
  ![v363.toNat, 16]
def k1_off667 (v354 : BitVec 32) : Fin 2 → Nat :=
  let v365 : Index := Scalar.indexCast v354
  let c32_189 : Index := 32#32
  ![v365.toNat, 32]
def k1_off668 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_184 : BitVec 32 := 16#32
  let v355 : BitVec 32 := Scalar.muli arg16 c16_i32_184
  let c9_i32 : BitVec 32 := 9#32
  let v356 : BitVec 32 := Scalar.addi v355 c9_i32
  let v367 : Index := Scalar.indexCast v356
  let c32_190 : Index := 32#32
  ![v367.toNat, 32]
def k1_off669 (v354 : BitVec 32) : Fin 2 → Nat :=
  let v369 : Index := Scalar.indexCast v354
  let c48_191 : Index := 48#32
  ![v369.toNat, 48]
def k1_off670 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_184 : BitVec 32 := 16#32
  let v355 : BitVec 32 := Scalar.muli arg16 c16_i32_184
  let c9_i32 : BitVec 32 := 9#32
  let v356 : BitVec 32 := Scalar.addi v355 c9_i32
  let v371 : Index := Scalar.indexCast v356
  let c48_192 : Index := 48#32
  ![v371.toNat, 48]
def k1_off671 (v354 : BitVec 32) : Fin 2 → Nat :=
  let v373 : Index := Scalar.indexCast v354
  let c64_193 : Index := 64#32
  ![v373.toNat, 64]
def k1_off672 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_184 : BitVec 32 := 16#32
  let v355 : BitVec 32 := Scalar.muli arg16 c16_i32_184
  let c9_i32 : BitVec 32 := 9#32
  let v356 : BitVec 32 := Scalar.addi v355 c9_i32
  let v375 : Index := Scalar.indexCast v356
  let c64_194 : Index := 64#32
  ![v375.toNat, 64]
def k1_off673 (v354 : BitVec 32) : Fin 2 → Nat :=
  let v377 : Index := Scalar.indexCast v354
  let c80_195 : Index := 80#32
  ![v377.toNat, 80]
def k1_off674 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_184 : BitVec 32 := 16#32
  let v355 : BitVec 32 := Scalar.muli arg16 c16_i32_184
  let c9_i32 : BitVec 32 := 9#32
  let v356 : BitVec 32 := Scalar.addi v355 c9_i32
  let v379 : Index := Scalar.indexCast v356
  let c80_196 : Index := 80#32
  ![v379.toNat, 80]
def k1_off675 (v354 : BitVec 32) : Fin 2 → Nat :=
  let v381 : Index := Scalar.indexCast v354
  let c96_197 : Index := 96#32
  ![v381.toNat, 96]
def k1_off676 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_184 : BitVec 32 := 16#32
  let v355 : BitVec 32 := Scalar.muli arg16 c16_i32_184
  let c9_i32 : BitVec 32 := 9#32
  let v356 : BitVec 32 := Scalar.addi v355 c9_i32
  let v383 : Index := Scalar.indexCast v356
  let c96_198 : Index := 96#32
  ![v383.toNat, 96]
def k1_off677 (v354 : BitVec 32) : Fin 2 → Nat :=
  let v385 : Index := Scalar.indexCast v354
  let c112_199 : Index := 112#32
  ![v385.toNat, 112]

def k1_chk42 (v354 : BitVec 32) : Prop :=
  (∀ a, (k1_off663 v354) a + S1x16.size a ≤ S26x128.size a) ∧
  (∀ a, (k1_off665 v354) a + S1x16.size a ≤ S26x128.size a) ∧
  (∀ a, (k1_off667 v354) a + S1x16.size a ≤ S26x128.size a) ∧
  (∀ a, (k1_off669 v354) a + S1x16.size a ≤ S26x128.size a) ∧
  (∀ a, (k1_off671 v354) a + S1x16.size a ≤ S26x128.size a) ∧
  (∀ a, (k1_off673 v354) a + S1x16.size a ≤ S26x128.size a) ∧
  (∀ a, (k1_off675 v354) a + S1x16.size a ≤ S26x128.size a) ∧
  (∀ a, (k1_off677 v354) a + S1x16.size a ≤ S26x128.size a)
theorem k1_off663_inb : ∀ (v354 : BitVec 32) (k1_hw42 : k1_chk42 v354), ∀ a, (k1_off663 v354) a + S1x16.size a ≤ S26x128.size a := fun v354 k1_hw42 => k1_hw42.1
theorem k1_off665_inb : ∀ (v354 : BitVec 32) (k1_hw42 : k1_chk42 v354), ∀ a, (k1_off665 v354) a + S1x16.size a ≤ S26x128.size a := fun v354 k1_hw42 => k1_hw42.2.1
theorem k1_off667_inb : ∀ (v354 : BitVec 32) (k1_hw42 : k1_chk42 v354), ∀ a, (k1_off667 v354) a + S1x16.size a ≤ S26x128.size a := fun v354 k1_hw42 => k1_hw42.2.2.1
theorem k1_off669_inb : ∀ (v354 : BitVec 32) (k1_hw42 : k1_chk42 v354), ∀ a, (k1_off669 v354) a + S1x16.size a ≤ S26x128.size a := fun v354 k1_hw42 => k1_hw42.2.2.2.1
theorem k1_off671_inb : ∀ (v354 : BitVec 32) (k1_hw42 : k1_chk42 v354), ∀ a, (k1_off671 v354) a + S1x16.size a ≤ S26x128.size a := fun v354 k1_hw42 => k1_hw42.2.2.2.2.1
theorem k1_off673_inb : ∀ (v354 : BitVec 32) (k1_hw42 : k1_chk42 v354), ∀ a, (k1_off673 v354) a + S1x16.size a ≤ S26x128.size a := fun v354 k1_hw42 => k1_hw42.2.2.2.2.2.1
theorem k1_off675_inb : ∀ (v354 : BitVec 32) (k1_hw42 : k1_chk42 v354), ∀ a, (k1_off675 v354) a + S1x16.size a ≤ S26x128.size a := fun v354 k1_hw42 => k1_hw42.2.2.2.2.2.2.1
theorem k1_off677_inb : ∀ (v354 : BitVec 32) (k1_hw42 : k1_chk42 v354), ∀ a, (k1_off677 v354) a + S1x16.size a ≤ S26x128.size a := fun v354 k1_hw42 => k1_hw42.2.2.2.2.2.2.2

def k1_off678 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_184 : BitVec 32 := 16#32
  let v355 : BitVec 32 := Scalar.muli arg16 c16_i32_184
  let c9_i32 : BitVec 32 := 9#32
  let v356 : BitVec 32 := Scalar.addi v355 c9_i32
  let v387 : Index := Scalar.indexCast v356
  let c112_200 : Index := 112#32
  ![v387.toNat, 112]
def k1_off679 (v390 : BitVec 32) : Fin 2 → Nat :=
  let v393 : Index := Scalar.indexCast v390
  let c0_202 : Index := 0#32
  ![v393.toNat, 0]

def k1_off680 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_201 : BitVec 32 := 16#32
  let v391 : BitVec 32 := Scalar.muli arg16 c16_i32_201
  let c10_i32 : BitVec 32 := 10#32
  let v392 : BitVec 32 := Scalar.addi v391 c10_i32
  let v395 : Index := Scalar.indexCast v392
  let c0_203 : Index := 0#32
  ![v395.toNat, 0]
def k1_off681 (v390 : BitVec 32) : Fin 2 → Nat :=
  let v397 : Index := Scalar.indexCast v390
  let c16_204 : Index := 16#32
  ![v397.toNat, 16]
def k1_off682 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_201 : BitVec 32 := 16#32
  let v391 : BitVec 32 := Scalar.muli arg16 c16_i32_201
  let c10_i32 : BitVec 32 := 10#32
  let v392 : BitVec 32 := Scalar.addi v391 c10_i32
  let v399 : Index := Scalar.indexCast v392
  let c16_205 : Index := 16#32
  ![v399.toNat, 16]
def k1_off683 (v390 : BitVec 32) : Fin 2 → Nat :=
  let v401 : Index := Scalar.indexCast v390
  let c32_206 : Index := 32#32
  ![v401.toNat, 32]
def k1_off684 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_201 : BitVec 32 := 16#32
  let v391 : BitVec 32 := Scalar.muli arg16 c16_i32_201
  let c10_i32 : BitVec 32 := 10#32
  let v392 : BitVec 32 := Scalar.addi v391 c10_i32
  let v403 : Index := Scalar.indexCast v392
  let c32_207 : Index := 32#32
  ![v403.toNat, 32]
def k1_off685 (v390 : BitVec 32) : Fin 2 → Nat :=
  let v405 : Index := Scalar.indexCast v390
  let c48_208 : Index := 48#32
  ![v405.toNat, 48]
def k1_off686 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_201 : BitVec 32 := 16#32
  let v391 : BitVec 32 := Scalar.muli arg16 c16_i32_201
  let c10_i32 : BitVec 32 := 10#32
  let v392 : BitVec 32 := Scalar.addi v391 c10_i32
  let v407 : Index := Scalar.indexCast v392
  let c48_209 : Index := 48#32
  ![v407.toNat, 48]
def k1_off687 (v390 : BitVec 32) : Fin 2 → Nat :=
  let v409 : Index := Scalar.indexCast v390
  let c64_210 : Index := 64#32
  ![v409.toNat, 64]
def k1_off688 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_201 : BitVec 32 := 16#32
  let v391 : BitVec 32 := Scalar.muli arg16 c16_i32_201
  let c10_i32 : BitVec 32 := 10#32
  let v392 : BitVec 32 := Scalar.addi v391 c10_i32
  let v411 : Index := Scalar.indexCast v392
  let c64_211 : Index := 64#32
  ![v411.toNat, 64]
def k1_off689 (v390 : BitVec 32) : Fin 2 → Nat :=
  let v413 : Index := Scalar.indexCast v390
  let c80_212 : Index := 80#32
  ![v413.toNat, 80]
def k1_off690 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_201 : BitVec 32 := 16#32
  let v391 : BitVec 32 := Scalar.muli arg16 c16_i32_201
  let c10_i32 : BitVec 32 := 10#32
  let v392 : BitVec 32 := Scalar.addi v391 c10_i32
  let v415 : Index := Scalar.indexCast v392
  let c80_213 : Index := 80#32
  ![v415.toNat, 80]
def k1_off691 (v390 : BitVec 32) : Fin 2 → Nat :=
  let v417 : Index := Scalar.indexCast v390
  let c96_214 : Index := 96#32
  ![v417.toNat, 96]
def k1_off692 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_201 : BitVec 32 := 16#32
  let v391 : BitVec 32 := Scalar.muli arg16 c16_i32_201
  let c10_i32 : BitVec 32 := 10#32
  let v392 : BitVec 32 := Scalar.addi v391 c10_i32
  let v419 : Index := Scalar.indexCast v392
  let c96_215 : Index := 96#32
  ![v419.toNat, 96]
def k1_off693 (v390 : BitVec 32) : Fin 2 → Nat :=
  let v421 : Index := Scalar.indexCast v390
  let c112_216 : Index := 112#32
  ![v421.toNat, 112]

def k1_chk43 (v390 : BitVec 32) : Prop :=
  (∀ a, (k1_off679 v390) a + S1x16.size a ≤ S26x128.size a) ∧
  (∀ a, (k1_off681 v390) a + S1x16.size a ≤ S26x128.size a) ∧
  (∀ a, (k1_off683 v390) a + S1x16.size a ≤ S26x128.size a) ∧
  (∀ a, (k1_off685 v390) a + S1x16.size a ≤ S26x128.size a) ∧
  (∀ a, (k1_off687 v390) a + S1x16.size a ≤ S26x128.size a) ∧
  (∀ a, (k1_off689 v390) a + S1x16.size a ≤ S26x128.size a) ∧
  (∀ a, (k1_off691 v390) a + S1x16.size a ≤ S26x128.size a) ∧
  (∀ a, (k1_off693 v390) a + S1x16.size a ≤ S26x128.size a)
theorem k1_off679_inb : ∀ (v390 : BitVec 32) (k1_hw43 : k1_chk43 v390), ∀ a, (k1_off679 v390) a + S1x16.size a ≤ S26x128.size a := fun v390 k1_hw43 => k1_hw43.1
theorem k1_off681_inb : ∀ (v390 : BitVec 32) (k1_hw43 : k1_chk43 v390), ∀ a, (k1_off681 v390) a + S1x16.size a ≤ S26x128.size a := fun v390 k1_hw43 => k1_hw43.2.1
theorem k1_off683_inb : ∀ (v390 : BitVec 32) (k1_hw43 : k1_chk43 v390), ∀ a, (k1_off683 v390) a + S1x16.size a ≤ S26x128.size a := fun v390 k1_hw43 => k1_hw43.2.2.1
theorem k1_off685_inb : ∀ (v390 : BitVec 32) (k1_hw43 : k1_chk43 v390), ∀ a, (k1_off685 v390) a + S1x16.size a ≤ S26x128.size a := fun v390 k1_hw43 => k1_hw43.2.2.2.1
theorem k1_off687_inb : ∀ (v390 : BitVec 32) (k1_hw43 : k1_chk43 v390), ∀ a, (k1_off687 v390) a + S1x16.size a ≤ S26x128.size a := fun v390 k1_hw43 => k1_hw43.2.2.2.2.1
theorem k1_off689_inb : ∀ (v390 : BitVec 32) (k1_hw43 : k1_chk43 v390), ∀ a, (k1_off689 v390) a + S1x16.size a ≤ S26x128.size a := fun v390 k1_hw43 => k1_hw43.2.2.2.2.2.1
theorem k1_off691_inb : ∀ (v390 : BitVec 32) (k1_hw43 : k1_chk43 v390), ∀ a, (k1_off691 v390) a + S1x16.size a ≤ S26x128.size a := fun v390 k1_hw43 => k1_hw43.2.2.2.2.2.2.1
theorem k1_off693_inb : ∀ (v390 : BitVec 32) (k1_hw43 : k1_chk43 v390), ∀ a, (k1_off693 v390) a + S1x16.size a ≤ S26x128.size a := fun v390 k1_hw43 => k1_hw43.2.2.2.2.2.2.2

def k1_off694 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_201 : BitVec 32 := 16#32
  let v391 : BitVec 32 := Scalar.muli arg16 c16_i32_201
  let c10_i32 : BitVec 32 := 10#32
  let v392 : BitVec 32 := Scalar.addi v391 c10_i32
  let v423 : Index := Scalar.indexCast v392
  let c112_217 : Index := 112#32
  ![v423.toNat, 112]
def k1_off695 (v426 : BitVec 32) : Fin 2 → Nat :=
  let v429 : Index := Scalar.indexCast v426
  let c0_219 : Index := 0#32
  ![v429.toNat, 0]

def k1_off696 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_218 : BitVec 32 := 16#32
  let v427 : BitVec 32 := Scalar.muli arg16 c16_i32_218
  let c11_i32 : BitVec 32 := 11#32
  let v428 : BitVec 32 := Scalar.addi v427 c11_i32
  let v431 : Index := Scalar.indexCast v428
  let c0_220 : Index := 0#32
  ![v431.toNat, 0]
def k1_off697 (v426 : BitVec 32) : Fin 2 → Nat :=
  let v433 : Index := Scalar.indexCast v426
  let c16_221 : Index := 16#32
  ![v433.toNat, 16]
def k1_off698 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_218 : BitVec 32 := 16#32
  let v427 : BitVec 32 := Scalar.muli arg16 c16_i32_218
  let c11_i32 : BitVec 32 := 11#32
  let v428 : BitVec 32 := Scalar.addi v427 c11_i32
  let v435 : Index := Scalar.indexCast v428
  let c16_222 : Index := 16#32
  ![v435.toNat, 16]
def k1_off699 (v426 : BitVec 32) : Fin 2 → Nat :=
  let v437 : Index := Scalar.indexCast v426
  let c32_223 : Index := 32#32
  ![v437.toNat, 32]
def k1_off700 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_218 : BitVec 32 := 16#32
  let v427 : BitVec 32 := Scalar.muli arg16 c16_i32_218
  let c11_i32 : BitVec 32 := 11#32
  let v428 : BitVec 32 := Scalar.addi v427 c11_i32
  let v439 : Index := Scalar.indexCast v428
  let c32_224 : Index := 32#32
  ![v439.toNat, 32]
def k1_off701 (v426 : BitVec 32) : Fin 2 → Nat :=
  let v441 : Index := Scalar.indexCast v426
  let c48_225 : Index := 48#32
  ![v441.toNat, 48]
def k1_off702 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_218 : BitVec 32 := 16#32
  let v427 : BitVec 32 := Scalar.muli arg16 c16_i32_218
  let c11_i32 : BitVec 32 := 11#32
  let v428 : BitVec 32 := Scalar.addi v427 c11_i32
  let v443 : Index := Scalar.indexCast v428
  let c48_226 : Index := 48#32
  ![v443.toNat, 48]
def k1_off703 (v426 : BitVec 32) : Fin 2 → Nat :=
  let v445 : Index := Scalar.indexCast v426
  let c64_227 : Index := 64#32
  ![v445.toNat, 64]
def k1_off704 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_218 : BitVec 32 := 16#32
  let v427 : BitVec 32 := Scalar.muli arg16 c16_i32_218
  let c11_i32 : BitVec 32 := 11#32
  let v428 : BitVec 32 := Scalar.addi v427 c11_i32
  let v447 : Index := Scalar.indexCast v428
  let c64_228 : Index := 64#32
  ![v447.toNat, 64]
def k1_off705 (v426 : BitVec 32) : Fin 2 → Nat :=
  let v449 : Index := Scalar.indexCast v426
  let c80_229 : Index := 80#32
  ![v449.toNat, 80]
def k1_off706 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_218 : BitVec 32 := 16#32
  let v427 : BitVec 32 := Scalar.muli arg16 c16_i32_218
  let c11_i32 : BitVec 32 := 11#32
  let v428 : BitVec 32 := Scalar.addi v427 c11_i32
  let v451 : Index := Scalar.indexCast v428
  let c80_230 : Index := 80#32
  ![v451.toNat, 80]
def k1_off707 (v426 : BitVec 32) : Fin 2 → Nat :=
  let v453 : Index := Scalar.indexCast v426
  let c96_231 : Index := 96#32
  ![v453.toNat, 96]
def k1_off708 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_218 : BitVec 32 := 16#32
  let v427 : BitVec 32 := Scalar.muli arg16 c16_i32_218
  let c11_i32 : BitVec 32 := 11#32
  let v428 : BitVec 32 := Scalar.addi v427 c11_i32
  let v455 : Index := Scalar.indexCast v428
  let c96_232 : Index := 96#32
  ![v455.toNat, 96]
def k1_off709 (v426 : BitVec 32) : Fin 2 → Nat :=
  let v457 : Index := Scalar.indexCast v426
  let c112_233 : Index := 112#32
  ![v457.toNat, 112]

def k1_chk44 (v426 : BitVec 32) : Prop :=
  (∀ a, (k1_off695 v426) a + S1x16.size a ≤ S26x128.size a) ∧
  (∀ a, (k1_off697 v426) a + S1x16.size a ≤ S26x128.size a) ∧
  (∀ a, (k1_off699 v426) a + S1x16.size a ≤ S26x128.size a) ∧
  (∀ a, (k1_off701 v426) a + S1x16.size a ≤ S26x128.size a) ∧
  (∀ a, (k1_off703 v426) a + S1x16.size a ≤ S26x128.size a) ∧
  (∀ a, (k1_off705 v426) a + S1x16.size a ≤ S26x128.size a) ∧
  (∀ a, (k1_off707 v426) a + S1x16.size a ≤ S26x128.size a) ∧
  (∀ a, (k1_off709 v426) a + S1x16.size a ≤ S26x128.size a)
theorem k1_off695_inb : ∀ (v426 : BitVec 32) (k1_hw44 : k1_chk44 v426), ∀ a, (k1_off695 v426) a + S1x16.size a ≤ S26x128.size a := fun v426 k1_hw44 => k1_hw44.1
theorem k1_off697_inb : ∀ (v426 : BitVec 32) (k1_hw44 : k1_chk44 v426), ∀ a, (k1_off697 v426) a + S1x16.size a ≤ S26x128.size a := fun v426 k1_hw44 => k1_hw44.2.1
theorem k1_off699_inb : ∀ (v426 : BitVec 32) (k1_hw44 : k1_chk44 v426), ∀ a, (k1_off699 v426) a + S1x16.size a ≤ S26x128.size a := fun v426 k1_hw44 => k1_hw44.2.2.1
theorem k1_off701_inb : ∀ (v426 : BitVec 32) (k1_hw44 : k1_chk44 v426), ∀ a, (k1_off701 v426) a + S1x16.size a ≤ S26x128.size a := fun v426 k1_hw44 => k1_hw44.2.2.2.1
theorem k1_off703_inb : ∀ (v426 : BitVec 32) (k1_hw44 : k1_chk44 v426), ∀ a, (k1_off703 v426) a + S1x16.size a ≤ S26x128.size a := fun v426 k1_hw44 => k1_hw44.2.2.2.2.1
theorem k1_off705_inb : ∀ (v426 : BitVec 32) (k1_hw44 : k1_chk44 v426), ∀ a, (k1_off705 v426) a + S1x16.size a ≤ S26x128.size a := fun v426 k1_hw44 => k1_hw44.2.2.2.2.2.1
theorem k1_off707_inb : ∀ (v426 : BitVec 32) (k1_hw44 : k1_chk44 v426), ∀ a, (k1_off707 v426) a + S1x16.size a ≤ S26x128.size a := fun v426 k1_hw44 => k1_hw44.2.2.2.2.2.2.1
theorem k1_off709_inb : ∀ (v426 : BitVec 32) (k1_hw44 : k1_chk44 v426), ∀ a, (k1_off709 v426) a + S1x16.size a ≤ S26x128.size a := fun v426 k1_hw44 => k1_hw44.2.2.2.2.2.2.2

def k1_off710 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_218 : BitVec 32 := 16#32
  let v427 : BitVec 32 := Scalar.muli arg16 c16_i32_218
  let c11_i32 : BitVec 32 := 11#32
  let v428 : BitVec 32 := Scalar.addi v427 c11_i32
  let v459 : Index := Scalar.indexCast v428
  let c112_234 : Index := 112#32
  ![v459.toNat, 112]
def k1_off711 (v462 : BitVec 32) : Fin 2 → Nat :=
  let v465 : Index := Scalar.indexCast v462
  let c0_236 : Index := 0#32
  ![v465.toNat, 0]

def k1_off712 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_235 : BitVec 32 := 16#32
  let v463 : BitVec 32 := Scalar.muli arg16 c16_i32_235
  let c12_i32 : BitVec 32 := 12#32
  let v464 : BitVec 32 := Scalar.addi v463 c12_i32
  let v467 : Index := Scalar.indexCast v464
  let c0_237 : Index := 0#32
  ![v467.toNat, 0]
def k1_off713 (v462 : BitVec 32) : Fin 2 → Nat :=
  let v469 : Index := Scalar.indexCast v462
  let c16_238 : Index := 16#32
  ![v469.toNat, 16]
def k1_off714 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_235 : BitVec 32 := 16#32
  let v463 : BitVec 32 := Scalar.muli arg16 c16_i32_235
  let c12_i32 : BitVec 32 := 12#32
  let v464 : BitVec 32 := Scalar.addi v463 c12_i32
  let v471 : Index := Scalar.indexCast v464
  let c16_239 : Index := 16#32
  ![v471.toNat, 16]
def k1_off715 (v462 : BitVec 32) : Fin 2 → Nat :=
  let v473 : Index := Scalar.indexCast v462
  let c32_240 : Index := 32#32
  ![v473.toNat, 32]
def k1_off716 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_235 : BitVec 32 := 16#32
  let v463 : BitVec 32 := Scalar.muli arg16 c16_i32_235
  let c12_i32 : BitVec 32 := 12#32
  let v464 : BitVec 32 := Scalar.addi v463 c12_i32
  let v475 : Index := Scalar.indexCast v464
  let c32_241 : Index := 32#32
  ![v475.toNat, 32]
def k1_off717 (v462 : BitVec 32) : Fin 2 → Nat :=
  let v477 : Index := Scalar.indexCast v462
  let c48_242 : Index := 48#32
  ![v477.toNat, 48]
def k1_off718 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_235 : BitVec 32 := 16#32
  let v463 : BitVec 32 := Scalar.muli arg16 c16_i32_235
  let c12_i32 : BitVec 32 := 12#32
  let v464 : BitVec 32 := Scalar.addi v463 c12_i32
  let v479 : Index := Scalar.indexCast v464
  let c48_243 : Index := 48#32
  ![v479.toNat, 48]
def k1_off719 (v462 : BitVec 32) : Fin 2 → Nat :=
  let v481 : Index := Scalar.indexCast v462
  let c64_244 : Index := 64#32
  ![v481.toNat, 64]
def k1_off720 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_235 : BitVec 32 := 16#32
  let v463 : BitVec 32 := Scalar.muli arg16 c16_i32_235
  let c12_i32 : BitVec 32 := 12#32
  let v464 : BitVec 32 := Scalar.addi v463 c12_i32
  let v483 : Index := Scalar.indexCast v464
  let c64_245 : Index := 64#32
  ![v483.toNat, 64]
def k1_off721 (v462 : BitVec 32) : Fin 2 → Nat :=
  let v485 : Index := Scalar.indexCast v462
  let c80_246 : Index := 80#32
  ![v485.toNat, 80]
def k1_off722 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_235 : BitVec 32 := 16#32
  let v463 : BitVec 32 := Scalar.muli arg16 c16_i32_235
  let c12_i32 : BitVec 32 := 12#32
  let v464 : BitVec 32 := Scalar.addi v463 c12_i32
  let v487 : Index := Scalar.indexCast v464
  let c80_247 : Index := 80#32
  ![v487.toNat, 80]
def k1_off723 (v462 : BitVec 32) : Fin 2 → Nat :=
  let v489 : Index := Scalar.indexCast v462
  let c96_248 : Index := 96#32
  ![v489.toNat, 96]
def k1_off724 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_235 : BitVec 32 := 16#32
  let v463 : BitVec 32 := Scalar.muli arg16 c16_i32_235
  let c12_i32 : BitVec 32 := 12#32
  let v464 : BitVec 32 := Scalar.addi v463 c12_i32
  let v491 : Index := Scalar.indexCast v464
  let c96_249 : Index := 96#32
  ![v491.toNat, 96]
def k1_off725 (v462 : BitVec 32) : Fin 2 → Nat :=
  let v493 : Index := Scalar.indexCast v462
  let c112_250 : Index := 112#32
  ![v493.toNat, 112]

def k1_chk45 (v462 : BitVec 32) : Prop :=
  (∀ a, (k1_off711 v462) a + S1x16.size a ≤ S26x128.size a) ∧
  (∀ a, (k1_off713 v462) a + S1x16.size a ≤ S26x128.size a) ∧
  (∀ a, (k1_off715 v462) a + S1x16.size a ≤ S26x128.size a) ∧
  (∀ a, (k1_off717 v462) a + S1x16.size a ≤ S26x128.size a) ∧
  (∀ a, (k1_off719 v462) a + S1x16.size a ≤ S26x128.size a) ∧
  (∀ a, (k1_off721 v462) a + S1x16.size a ≤ S26x128.size a) ∧
  (∀ a, (k1_off723 v462) a + S1x16.size a ≤ S26x128.size a) ∧
  (∀ a, (k1_off725 v462) a + S1x16.size a ≤ S26x128.size a)
theorem k1_off711_inb : ∀ (v462 : BitVec 32) (k1_hw45 : k1_chk45 v462), ∀ a, (k1_off711 v462) a + S1x16.size a ≤ S26x128.size a := fun v462 k1_hw45 => k1_hw45.1
theorem k1_off713_inb : ∀ (v462 : BitVec 32) (k1_hw45 : k1_chk45 v462), ∀ a, (k1_off713 v462) a + S1x16.size a ≤ S26x128.size a := fun v462 k1_hw45 => k1_hw45.2.1
theorem k1_off715_inb : ∀ (v462 : BitVec 32) (k1_hw45 : k1_chk45 v462), ∀ a, (k1_off715 v462) a + S1x16.size a ≤ S26x128.size a := fun v462 k1_hw45 => k1_hw45.2.2.1
theorem k1_off717_inb : ∀ (v462 : BitVec 32) (k1_hw45 : k1_chk45 v462), ∀ a, (k1_off717 v462) a + S1x16.size a ≤ S26x128.size a := fun v462 k1_hw45 => k1_hw45.2.2.2.1
theorem k1_off719_inb : ∀ (v462 : BitVec 32) (k1_hw45 : k1_chk45 v462), ∀ a, (k1_off719 v462) a + S1x16.size a ≤ S26x128.size a := fun v462 k1_hw45 => k1_hw45.2.2.2.2.1
theorem k1_off721_inb : ∀ (v462 : BitVec 32) (k1_hw45 : k1_chk45 v462), ∀ a, (k1_off721 v462) a + S1x16.size a ≤ S26x128.size a := fun v462 k1_hw45 => k1_hw45.2.2.2.2.2.1
theorem k1_off723_inb : ∀ (v462 : BitVec 32) (k1_hw45 : k1_chk45 v462), ∀ a, (k1_off723 v462) a + S1x16.size a ≤ S26x128.size a := fun v462 k1_hw45 => k1_hw45.2.2.2.2.2.2.1
theorem k1_off725_inb : ∀ (v462 : BitVec 32) (k1_hw45 : k1_chk45 v462), ∀ a, (k1_off725 v462) a + S1x16.size a ≤ S26x128.size a := fun v462 k1_hw45 => k1_hw45.2.2.2.2.2.2.2

def k1_off726 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_235 : BitVec 32 := 16#32
  let v463 : BitVec 32 := Scalar.muli arg16 c16_i32_235
  let c12_i32 : BitVec 32 := 12#32
  let v464 : BitVec 32 := Scalar.addi v463 c12_i32
  let v495 : Index := Scalar.indexCast v464
  let c112_251 : Index := 112#32
  ![v495.toNat, 112]
def k1_off727 (v498 : BitVec 32) : Fin 2 → Nat :=
  let v501 : Index := Scalar.indexCast v498
  let c0_253 : Index := 0#32
  ![v501.toNat, 0]

def k1_off728 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_252 : BitVec 32 := 16#32
  let v499 : BitVec 32 := Scalar.muli arg16 c16_i32_252
  let c13_i32 : BitVec 32 := 13#32
  let v500 : BitVec 32 := Scalar.addi v499 c13_i32
  let v503 : Index := Scalar.indexCast v500
  let c0_254 : Index := 0#32
  ![v503.toNat, 0]
def k1_off729 (v498 : BitVec 32) : Fin 2 → Nat :=
  let v505 : Index := Scalar.indexCast v498
  let c16_255 : Index := 16#32
  ![v505.toNat, 16]
def k1_off730 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_252 : BitVec 32 := 16#32
  let v499 : BitVec 32 := Scalar.muli arg16 c16_i32_252
  let c13_i32 : BitVec 32 := 13#32
  let v500 : BitVec 32 := Scalar.addi v499 c13_i32
  let v507 : Index := Scalar.indexCast v500
  let c16_256 : Index := 16#32
  ![v507.toNat, 16]
def k1_off731 (v498 : BitVec 32) : Fin 2 → Nat :=
  let v509 : Index := Scalar.indexCast v498
  let c32_257 : Index := 32#32
  ![v509.toNat, 32]
def k1_off732 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_252 : BitVec 32 := 16#32
  let v499 : BitVec 32 := Scalar.muli arg16 c16_i32_252
  let c13_i32 : BitVec 32 := 13#32
  let v500 : BitVec 32 := Scalar.addi v499 c13_i32
  let v511 : Index := Scalar.indexCast v500
  let c32_258 : Index := 32#32
  ![v511.toNat, 32]
def k1_off733 (v498 : BitVec 32) : Fin 2 → Nat :=
  let v513 : Index := Scalar.indexCast v498
  let c48_259 : Index := 48#32
  ![v513.toNat, 48]
def k1_off734 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_252 : BitVec 32 := 16#32
  let v499 : BitVec 32 := Scalar.muli arg16 c16_i32_252
  let c13_i32 : BitVec 32 := 13#32
  let v500 : BitVec 32 := Scalar.addi v499 c13_i32
  let v515 : Index := Scalar.indexCast v500
  let c48_260 : Index := 48#32
  ![v515.toNat, 48]
def k1_off735 (v498 : BitVec 32) : Fin 2 → Nat :=
  let v517 : Index := Scalar.indexCast v498
  let c64_261 : Index := 64#32
  ![v517.toNat, 64]
def k1_off736 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_252 : BitVec 32 := 16#32
  let v499 : BitVec 32 := Scalar.muli arg16 c16_i32_252
  let c13_i32 : BitVec 32 := 13#32
  let v500 : BitVec 32 := Scalar.addi v499 c13_i32
  let v519 : Index := Scalar.indexCast v500
  let c64_262 : Index := 64#32
  ![v519.toNat, 64]
def k1_off737 (v498 : BitVec 32) : Fin 2 → Nat :=
  let v521 : Index := Scalar.indexCast v498
  let c80_263 : Index := 80#32
  ![v521.toNat, 80]
def k1_off738 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_252 : BitVec 32 := 16#32
  let v499 : BitVec 32 := Scalar.muli arg16 c16_i32_252
  let c13_i32 : BitVec 32 := 13#32
  let v500 : BitVec 32 := Scalar.addi v499 c13_i32
  let v523 : Index := Scalar.indexCast v500
  let c80_264 : Index := 80#32
  ![v523.toNat, 80]
def k1_off739 (v498 : BitVec 32) : Fin 2 → Nat :=
  let v525 : Index := Scalar.indexCast v498
  let c96_265 : Index := 96#32
  ![v525.toNat, 96]
def k1_off740 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_252 : BitVec 32 := 16#32
  let v499 : BitVec 32 := Scalar.muli arg16 c16_i32_252
  let c13_i32 : BitVec 32 := 13#32
  let v500 : BitVec 32 := Scalar.addi v499 c13_i32
  let v527 : Index := Scalar.indexCast v500
  let c96_266 : Index := 96#32
  ![v527.toNat, 96]
def k1_off741 (v498 : BitVec 32) : Fin 2 → Nat :=
  let v529 : Index := Scalar.indexCast v498
  let c112_267 : Index := 112#32
  ![v529.toNat, 112]

def k1_chk46 (v498 : BitVec 32) : Prop :=
  (∀ a, (k1_off727 v498) a + S1x16.size a ≤ S26x128.size a) ∧
  (∀ a, (k1_off729 v498) a + S1x16.size a ≤ S26x128.size a) ∧
  (∀ a, (k1_off731 v498) a + S1x16.size a ≤ S26x128.size a) ∧
  (∀ a, (k1_off733 v498) a + S1x16.size a ≤ S26x128.size a) ∧
  (∀ a, (k1_off735 v498) a + S1x16.size a ≤ S26x128.size a) ∧
  (∀ a, (k1_off737 v498) a + S1x16.size a ≤ S26x128.size a) ∧
  (∀ a, (k1_off739 v498) a + S1x16.size a ≤ S26x128.size a) ∧
  (∀ a, (k1_off741 v498) a + S1x16.size a ≤ S26x128.size a)
theorem k1_off727_inb : ∀ (v498 : BitVec 32) (k1_hw46 : k1_chk46 v498), ∀ a, (k1_off727 v498) a + S1x16.size a ≤ S26x128.size a := fun v498 k1_hw46 => k1_hw46.1
theorem k1_off729_inb : ∀ (v498 : BitVec 32) (k1_hw46 : k1_chk46 v498), ∀ a, (k1_off729 v498) a + S1x16.size a ≤ S26x128.size a := fun v498 k1_hw46 => k1_hw46.2.1
theorem k1_off731_inb : ∀ (v498 : BitVec 32) (k1_hw46 : k1_chk46 v498), ∀ a, (k1_off731 v498) a + S1x16.size a ≤ S26x128.size a := fun v498 k1_hw46 => k1_hw46.2.2.1
theorem k1_off733_inb : ∀ (v498 : BitVec 32) (k1_hw46 : k1_chk46 v498), ∀ a, (k1_off733 v498) a + S1x16.size a ≤ S26x128.size a := fun v498 k1_hw46 => k1_hw46.2.2.2.1
theorem k1_off735_inb : ∀ (v498 : BitVec 32) (k1_hw46 : k1_chk46 v498), ∀ a, (k1_off735 v498) a + S1x16.size a ≤ S26x128.size a := fun v498 k1_hw46 => k1_hw46.2.2.2.2.1
theorem k1_off737_inb : ∀ (v498 : BitVec 32) (k1_hw46 : k1_chk46 v498), ∀ a, (k1_off737 v498) a + S1x16.size a ≤ S26x128.size a := fun v498 k1_hw46 => k1_hw46.2.2.2.2.2.1
theorem k1_off739_inb : ∀ (v498 : BitVec 32) (k1_hw46 : k1_chk46 v498), ∀ a, (k1_off739 v498) a + S1x16.size a ≤ S26x128.size a := fun v498 k1_hw46 => k1_hw46.2.2.2.2.2.2.1
theorem k1_off741_inb : ∀ (v498 : BitVec 32) (k1_hw46 : k1_chk46 v498), ∀ a, (k1_off741 v498) a + S1x16.size a ≤ S26x128.size a := fun v498 k1_hw46 => k1_hw46.2.2.2.2.2.2.2

def k1_off742 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_252 : BitVec 32 := 16#32
  let v499 : BitVec 32 := Scalar.muli arg16 c16_i32_252
  let c13_i32 : BitVec 32 := 13#32
  let v500 : BitVec 32 := Scalar.addi v499 c13_i32
  let v531 : Index := Scalar.indexCast v500
  let c112_268 : Index := 112#32
  ![v531.toNat, 112]
def k1_off743 (v534 : BitVec 32) : Fin 2 → Nat :=
  let v537 : Index := Scalar.indexCast v534
  let c0_270 : Index := 0#32
  ![v537.toNat, 0]

def k1_off744 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_269 : BitVec 32 := 16#32
  let v535 : BitVec 32 := Scalar.muli arg16 c16_i32_269
  let c14_i32 : BitVec 32 := 14#32
  let v536 : BitVec 32 := Scalar.addi v535 c14_i32
  let v539 : Index := Scalar.indexCast v536
  let c0_271 : Index := 0#32
  ![v539.toNat, 0]
def k1_off745 (v534 : BitVec 32) : Fin 2 → Nat :=
  let v541 : Index := Scalar.indexCast v534
  let c16_272 : Index := 16#32
  ![v541.toNat, 16]
def k1_off746 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_269 : BitVec 32 := 16#32
  let v535 : BitVec 32 := Scalar.muli arg16 c16_i32_269
  let c14_i32 : BitVec 32 := 14#32
  let v536 : BitVec 32 := Scalar.addi v535 c14_i32
  let v543 : Index := Scalar.indexCast v536
  let c16_273 : Index := 16#32
  ![v543.toNat, 16]
def k1_off747 (v534 : BitVec 32) : Fin 2 → Nat :=
  let v545 : Index := Scalar.indexCast v534
  let c32_274 : Index := 32#32
  ![v545.toNat, 32]
def k1_off748 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_269 : BitVec 32 := 16#32
  let v535 : BitVec 32 := Scalar.muli arg16 c16_i32_269
  let c14_i32 : BitVec 32 := 14#32
  let v536 : BitVec 32 := Scalar.addi v535 c14_i32
  let v547 : Index := Scalar.indexCast v536
  let c32_275 : Index := 32#32
  ![v547.toNat, 32]
def k1_off749 (v534 : BitVec 32) : Fin 2 → Nat :=
  let v549 : Index := Scalar.indexCast v534
  let c48_276 : Index := 48#32
  ![v549.toNat, 48]
def k1_off750 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_269 : BitVec 32 := 16#32
  let v535 : BitVec 32 := Scalar.muli arg16 c16_i32_269
  let c14_i32 : BitVec 32 := 14#32
  let v536 : BitVec 32 := Scalar.addi v535 c14_i32
  let v551 : Index := Scalar.indexCast v536
  let c48_277 : Index := 48#32
  ![v551.toNat, 48]
def k1_off751 (v534 : BitVec 32) : Fin 2 → Nat :=
  let v553 : Index := Scalar.indexCast v534
  let c64_278 : Index := 64#32
  ![v553.toNat, 64]
def k1_off752 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_269 : BitVec 32 := 16#32
  let v535 : BitVec 32 := Scalar.muli arg16 c16_i32_269
  let c14_i32 : BitVec 32 := 14#32
  let v536 : BitVec 32 := Scalar.addi v535 c14_i32
  let v555 : Index := Scalar.indexCast v536
  let c64_279 : Index := 64#32
  ![v555.toNat, 64]
def k1_off753 (v534 : BitVec 32) : Fin 2 → Nat :=
  let v557 : Index := Scalar.indexCast v534
  let c80_280 : Index := 80#32
  ![v557.toNat, 80]
def k1_off754 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_269 : BitVec 32 := 16#32
  let v535 : BitVec 32 := Scalar.muli arg16 c16_i32_269
  let c14_i32 : BitVec 32 := 14#32
  let v536 : BitVec 32 := Scalar.addi v535 c14_i32
  let v559 : Index := Scalar.indexCast v536
  let c80_281 : Index := 80#32
  ![v559.toNat, 80]
def k1_off755 (v534 : BitVec 32) : Fin 2 → Nat :=
  let v561 : Index := Scalar.indexCast v534
  let c96_282 : Index := 96#32
  ![v561.toNat, 96]
def k1_off756 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_269 : BitVec 32 := 16#32
  let v535 : BitVec 32 := Scalar.muli arg16 c16_i32_269
  let c14_i32 : BitVec 32 := 14#32
  let v536 : BitVec 32 := Scalar.addi v535 c14_i32
  let v563 : Index := Scalar.indexCast v536
  let c96_283 : Index := 96#32
  ![v563.toNat, 96]
def k1_off757 (v534 : BitVec 32) : Fin 2 → Nat :=
  let v565 : Index := Scalar.indexCast v534
  let c112_284 : Index := 112#32
  ![v565.toNat, 112]

def k1_chk47 (v534 : BitVec 32) : Prop :=
  (∀ a, (k1_off743 v534) a + S1x16.size a ≤ S26x128.size a) ∧
  (∀ a, (k1_off745 v534) a + S1x16.size a ≤ S26x128.size a) ∧
  (∀ a, (k1_off747 v534) a + S1x16.size a ≤ S26x128.size a) ∧
  (∀ a, (k1_off749 v534) a + S1x16.size a ≤ S26x128.size a) ∧
  (∀ a, (k1_off751 v534) a + S1x16.size a ≤ S26x128.size a) ∧
  (∀ a, (k1_off753 v534) a + S1x16.size a ≤ S26x128.size a) ∧
  (∀ a, (k1_off755 v534) a + S1x16.size a ≤ S26x128.size a) ∧
  (∀ a, (k1_off757 v534) a + S1x16.size a ≤ S26x128.size a)
theorem k1_off743_inb : ∀ (v534 : BitVec 32) (k1_hw47 : k1_chk47 v534), ∀ a, (k1_off743 v534) a + S1x16.size a ≤ S26x128.size a := fun v534 k1_hw47 => k1_hw47.1
theorem k1_off745_inb : ∀ (v534 : BitVec 32) (k1_hw47 : k1_chk47 v534), ∀ a, (k1_off745 v534) a + S1x16.size a ≤ S26x128.size a := fun v534 k1_hw47 => k1_hw47.2.1
theorem k1_off747_inb : ∀ (v534 : BitVec 32) (k1_hw47 : k1_chk47 v534), ∀ a, (k1_off747 v534) a + S1x16.size a ≤ S26x128.size a := fun v534 k1_hw47 => k1_hw47.2.2.1
theorem k1_off749_inb : ∀ (v534 : BitVec 32) (k1_hw47 : k1_chk47 v534), ∀ a, (k1_off749 v534) a + S1x16.size a ≤ S26x128.size a := fun v534 k1_hw47 => k1_hw47.2.2.2.1
theorem k1_off751_inb : ∀ (v534 : BitVec 32) (k1_hw47 : k1_chk47 v534), ∀ a, (k1_off751 v534) a + S1x16.size a ≤ S26x128.size a := fun v534 k1_hw47 => k1_hw47.2.2.2.2.1
theorem k1_off753_inb : ∀ (v534 : BitVec 32) (k1_hw47 : k1_chk47 v534), ∀ a, (k1_off753 v534) a + S1x16.size a ≤ S26x128.size a := fun v534 k1_hw47 => k1_hw47.2.2.2.2.2.1
theorem k1_off755_inb : ∀ (v534 : BitVec 32) (k1_hw47 : k1_chk47 v534), ∀ a, (k1_off755 v534) a + S1x16.size a ≤ S26x128.size a := fun v534 k1_hw47 => k1_hw47.2.2.2.2.2.2.1
theorem k1_off757_inb : ∀ (v534 : BitVec 32) (k1_hw47 : k1_chk47 v534), ∀ a, (k1_off757 v534) a + S1x16.size a ≤ S26x128.size a := fun v534 k1_hw47 => k1_hw47.2.2.2.2.2.2.2

def k1_off758 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_269 : BitVec 32 := 16#32
  let v535 : BitVec 32 := Scalar.muli arg16 c16_i32_269
  let c14_i32 : BitVec 32 := 14#32
  let v536 : BitVec 32 := Scalar.addi v535 c14_i32
  let v567 : Index := Scalar.indexCast v536
  let c112_285 : Index := 112#32
  ![v567.toNat, 112]
def k1_off759 (v570 : BitVec 32) : Fin 2 → Nat :=
  let v573 : Index := Scalar.indexCast v570
  let c0_287 : Index := 0#32
  ![v573.toNat, 0]

def k1_off760 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_286 : BitVec 32 := 16#32
  let v571 : BitVec 32 := Scalar.muli arg16 c16_i32_286
  let c15_i32 : BitVec 32 := 15#32
  let v572 : BitVec 32 := Scalar.addi v571 c15_i32
  let v575 : Index := Scalar.indexCast v572
  let c0_288 : Index := 0#32
  ![v575.toNat, 0]
def k1_off761 (v570 : BitVec 32) : Fin 2 → Nat :=
  let v577 : Index := Scalar.indexCast v570
  let c16_289 : Index := 16#32
  ![v577.toNat, 16]
def k1_off762 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_286 : BitVec 32 := 16#32
  let v571 : BitVec 32 := Scalar.muli arg16 c16_i32_286
  let c15_i32 : BitVec 32 := 15#32
  let v572 : BitVec 32 := Scalar.addi v571 c15_i32
  let v579 : Index := Scalar.indexCast v572
  let c16_290 : Index := 16#32
  ![v579.toNat, 16]
def k1_off763 (v570 : BitVec 32) : Fin 2 → Nat :=
  let v581 : Index := Scalar.indexCast v570
  let c32_291 : Index := 32#32
  ![v581.toNat, 32]
def k1_off764 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_286 : BitVec 32 := 16#32
  let v571 : BitVec 32 := Scalar.muli arg16 c16_i32_286
  let c15_i32 : BitVec 32 := 15#32
  let v572 : BitVec 32 := Scalar.addi v571 c15_i32
  let v583 : Index := Scalar.indexCast v572
  let c32_292 : Index := 32#32
  ![v583.toNat, 32]
def k1_off765 (v570 : BitVec 32) : Fin 2 → Nat :=
  let v585 : Index := Scalar.indexCast v570
  let c48_293 : Index := 48#32
  ![v585.toNat, 48]
def k1_off766 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_286 : BitVec 32 := 16#32
  let v571 : BitVec 32 := Scalar.muli arg16 c16_i32_286
  let c15_i32 : BitVec 32 := 15#32
  let v572 : BitVec 32 := Scalar.addi v571 c15_i32
  let v587 : Index := Scalar.indexCast v572
  let c48_294 : Index := 48#32
  ![v587.toNat, 48]
def k1_off767 (v570 : BitVec 32) : Fin 2 → Nat :=
  let v589 : Index := Scalar.indexCast v570
  let c64_295 : Index := 64#32
  ![v589.toNat, 64]
def k1_off768 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_286 : BitVec 32 := 16#32
  let v571 : BitVec 32 := Scalar.muli arg16 c16_i32_286
  let c15_i32 : BitVec 32 := 15#32
  let v572 : BitVec 32 := Scalar.addi v571 c15_i32
  let v591 : Index := Scalar.indexCast v572
  let c64_296 : Index := 64#32
  ![v591.toNat, 64]
def k1_off769 (v570 : BitVec 32) : Fin 2 → Nat :=
  let v593 : Index := Scalar.indexCast v570
  let c80_297 : Index := 80#32
  ![v593.toNat, 80]
def k1_off770 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_286 : BitVec 32 := 16#32
  let v571 : BitVec 32 := Scalar.muli arg16 c16_i32_286
  let c15_i32 : BitVec 32 := 15#32
  let v572 : BitVec 32 := Scalar.addi v571 c15_i32
  let v595 : Index := Scalar.indexCast v572
  let c80_298 : Index := 80#32
  ![v595.toNat, 80]
def k1_off771 (v570 : BitVec 32) : Fin 2 → Nat :=
  let v597 : Index := Scalar.indexCast v570
  let c96_299 : Index := 96#32
  ![v597.toNat, 96]
def k1_off772 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_286 : BitVec 32 := 16#32
  let v571 : BitVec 32 := Scalar.muli arg16 c16_i32_286
  let c15_i32 : BitVec 32 := 15#32
  let v572 : BitVec 32 := Scalar.addi v571 c15_i32
  let v599 : Index := Scalar.indexCast v572
  let c96_300 : Index := 96#32
  ![v599.toNat, 96]
def k1_off773 (v570 : BitVec 32) : Fin 2 → Nat :=
  let v601 : Index := Scalar.indexCast v570
  let c112_301 : Index := 112#32
  ![v601.toNat, 112]

def k1_chk48 (v570 : BitVec 32) : Prop :=
  (∀ a, (k1_off759 v570) a + S1x16.size a ≤ S26x128.size a) ∧
  (∀ a, (k1_off761 v570) a + S1x16.size a ≤ S26x128.size a) ∧
  (∀ a, (k1_off763 v570) a + S1x16.size a ≤ S26x128.size a) ∧
  (∀ a, (k1_off765 v570) a + S1x16.size a ≤ S26x128.size a) ∧
  (∀ a, (k1_off767 v570) a + S1x16.size a ≤ S26x128.size a) ∧
  (∀ a, (k1_off769 v570) a + S1x16.size a ≤ S26x128.size a) ∧
  (∀ a, (k1_off771 v570) a + S1x16.size a ≤ S26x128.size a) ∧
  (∀ a, (k1_off773 v570) a + S1x16.size a ≤ S26x128.size a)
theorem k1_off759_inb : ∀ (v570 : BitVec 32) (k1_hw48 : k1_chk48 v570), ∀ a, (k1_off759 v570) a + S1x16.size a ≤ S26x128.size a := fun v570 k1_hw48 => k1_hw48.1
theorem k1_off761_inb : ∀ (v570 : BitVec 32) (k1_hw48 : k1_chk48 v570), ∀ a, (k1_off761 v570) a + S1x16.size a ≤ S26x128.size a := fun v570 k1_hw48 => k1_hw48.2.1
theorem k1_off763_inb : ∀ (v570 : BitVec 32) (k1_hw48 : k1_chk48 v570), ∀ a, (k1_off763 v570) a + S1x16.size a ≤ S26x128.size a := fun v570 k1_hw48 => k1_hw48.2.2.1
theorem k1_off765_inb : ∀ (v570 : BitVec 32) (k1_hw48 : k1_chk48 v570), ∀ a, (k1_off765 v570) a + S1x16.size a ≤ S26x128.size a := fun v570 k1_hw48 => k1_hw48.2.2.2.1
theorem k1_off767_inb : ∀ (v570 : BitVec 32) (k1_hw48 : k1_chk48 v570), ∀ a, (k1_off767 v570) a + S1x16.size a ≤ S26x128.size a := fun v570 k1_hw48 => k1_hw48.2.2.2.2.1
theorem k1_off769_inb : ∀ (v570 : BitVec 32) (k1_hw48 : k1_chk48 v570), ∀ a, (k1_off769 v570) a + S1x16.size a ≤ S26x128.size a := fun v570 k1_hw48 => k1_hw48.2.2.2.2.2.1
theorem k1_off771_inb : ∀ (v570 : BitVec 32) (k1_hw48 : k1_chk48 v570), ∀ a, (k1_off771 v570) a + S1x16.size a ≤ S26x128.size a := fun v570 k1_hw48 => k1_hw48.2.2.2.2.2.2.1
theorem k1_off773_inb : ∀ (v570 : BitVec 32) (k1_hw48 : k1_chk48 v570), ∀ a, (k1_off773 v570) a + S1x16.size a ≤ S26x128.size a := fun v570 k1_hw48 => k1_hw48.2.2.2.2.2.2.2

def k1_off774 (k1_t3 : Fin k1_t3_loop.trips) : Fin 2 → Nat :=
  let c0_i32_14 : BitVec 32 := 0#32
  let c1_i32_16 : BitVec 32 := 1#32
  let arg16 : BitVec 32 := Scf.iv c0_i32_14 c1_i32_16 k1_t3
  let c16_i32_286 : BitVec 32 := 16#32
  let v571 : BitVec 32 := Scalar.muli arg16 c16_i32_286
  let c15_i32 : BitVec 32 := 15#32
  let v572 : BitVec 32 := Scalar.addi v571 c15_i32
  let v603 : Index := Scalar.indexCast v572
  let c112_302 : Index := 112#32
  ![v603.toNat, 112]
@[reducible] def k1_t4_loop : Scf.Loop 32 :=
  let c0_i32_23 : BitVec 32 := 0#32
  let c8_i32_24 : BitVec 32 := 8#32
  let v17 : BitVec 32 := Scalar.addi c0_i32_23 c8_i32_24
  let c1_i32_25 : BitVec 32 := 1#32
  ⟨c0_i32_23, v17, c1_i32_25⟩
def k1_off775 (k1_t4 : Fin k1_t4_loop.trips) : Fin 1 → Nat :=
  let c128_i32_34 : BitVec 32 := 128#32
  let c0_i32_23 : BitVec 32 := 0#32
  let c1_i32_25 : BitVec 32 := 1#32
  let arg16 : BitVec 32 := Scf.iv c0_i32_23 c1_i32_25 k1_t4
  let c16_i32 : BitVec 32 := 16#32
  let v25 : BitVec 32 := Scalar.muli arg16 c16_i32
  let v26 : BitVec 32 := Scalar.addi c128_i32_34 v25
  let v27 : Index := Scalar.indexCast v26
  ![v27.toNat]
def k1_off776 (v30 : BitVec 32) : Fin 2 → Nat :=
  let v33 : Index := Scalar.indexCast v30
  let c0 : Index := 0#32
  ![v33.toNat, 0]

def k1_off777 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_35 : BitVec 32 := 16#32
  let v31 : BitVec 32 := Scalar.muli arg16 c16_i32_35
  let c0_i32_36 : BitVec 32 := 0#32
  let v32 : BitVec 32 := Scalar.addi v31 c0_i32_36
  let v35 : Index := Scalar.indexCast v32
  let c0_37 : Index := 0#32
  ![v35.toNat, 0]
def k1_off778 (v30 : BitVec 32) : Fin 2 → Nat :=
  let v37 : Index := Scalar.indexCast v30
  let c16 : Index := 16#32
  ![v37.toNat, 16]
def k1_off779 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_35 : BitVec 32 := 16#32
  let v31 : BitVec 32 := Scalar.muli arg16 c16_i32_35
  let c0_i32_36 : BitVec 32 := 0#32
  let v32 : BitVec 32 := Scalar.addi v31 c0_i32_36
  let v39 : Index := Scalar.indexCast v32
  let c16_38 : Index := 16#32
  ![v39.toNat, 16]
def k1_off780 (v30 : BitVec 32) : Fin 2 → Nat :=
  let v41 : Index := Scalar.indexCast v30
  let c32 : Index := 32#32
  ![v41.toNat, 32]
def k1_off781 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_35 : BitVec 32 := 16#32
  let v31 : BitVec 32 := Scalar.muli arg16 c16_i32_35
  let c0_i32_36 : BitVec 32 := 0#32
  let v32 : BitVec 32 := Scalar.addi v31 c0_i32_36
  let v43 : Index := Scalar.indexCast v32
  let c32_39 : Index := 32#32
  ![v43.toNat, 32]
def k1_off782 (v30 : BitVec 32) : Fin 2 → Nat :=
  let v45 : Index := Scalar.indexCast v30
  let c48 : Index := 48#32
  ![v45.toNat, 48]
def k1_off783 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_35 : BitVec 32 := 16#32
  let v31 : BitVec 32 := Scalar.muli arg16 c16_i32_35
  let c0_i32_36 : BitVec 32 := 0#32
  let v32 : BitVec 32 := Scalar.addi v31 c0_i32_36
  let v47 : Index := Scalar.indexCast v32
  let c48_40 : Index := 48#32
  ![v47.toNat, 48]
def k1_off784 (v30 : BitVec 32) : Fin 2 → Nat :=
  let v49 : Index := Scalar.indexCast v30
  let c64 : Index := 64#32
  ![v49.toNat, 64]
def k1_off785 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_35 : BitVec 32 := 16#32
  let v31 : BitVec 32 := Scalar.muli arg16 c16_i32_35
  let c0_i32_36 : BitVec 32 := 0#32
  let v32 : BitVec 32 := Scalar.addi v31 c0_i32_36
  let v51 : Index := Scalar.indexCast v32
  let c64_41 : Index := 64#32
  ![v51.toNat, 64]
def k1_off786 (v30 : BitVec 32) : Fin 2 → Nat :=
  let v53 : Index := Scalar.indexCast v30
  let c80 : Index := 80#32
  ![v53.toNat, 80]
def k1_off787 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_35 : BitVec 32 := 16#32
  let v31 : BitVec 32 := Scalar.muli arg16 c16_i32_35
  let c0_i32_36 : BitVec 32 := 0#32
  let v32 : BitVec 32 := Scalar.addi v31 c0_i32_36
  let v55 : Index := Scalar.indexCast v32
  let c80_42 : Index := 80#32
  ![v55.toNat, 80]
def k1_off788 (v30 : BitVec 32) : Fin 2 → Nat :=
  let v57 : Index := Scalar.indexCast v30
  let c96 : Index := 96#32
  ![v57.toNat, 96]
def k1_off789 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_35 : BitVec 32 := 16#32
  let v31 : BitVec 32 := Scalar.muli arg16 c16_i32_35
  let c0_i32_36 : BitVec 32 := 0#32
  let v32 : BitVec 32 := Scalar.addi v31 c0_i32_36
  let v59 : Index := Scalar.indexCast v32
  let c96_43 : Index := 96#32
  ![v59.toNat, 96]
def k1_off790 (v30 : BitVec 32) : Fin 2 → Nat :=
  let v61 : Index := Scalar.indexCast v30
  let c112 : Index := 112#32
  ![v61.toNat, 112]

def k1_chk49 (v30 : BitVec 32) : Prop :=
  (∀ a, (k1_off776 v30) a + S1x16.size a ≤ S26x128.size a) ∧
  (∀ a, (k1_off778 v30) a + S1x16.size a ≤ S26x128.size a) ∧
  (∀ a, (k1_off780 v30) a + S1x16.size a ≤ S26x128.size a) ∧
  (∀ a, (k1_off782 v30) a + S1x16.size a ≤ S26x128.size a) ∧
  (∀ a, (k1_off784 v30) a + S1x16.size a ≤ S26x128.size a) ∧
  (∀ a, (k1_off786 v30) a + S1x16.size a ≤ S26x128.size a) ∧
  (∀ a, (k1_off788 v30) a + S1x16.size a ≤ S26x128.size a) ∧
  (∀ a, (k1_off790 v30) a + S1x16.size a ≤ S26x128.size a)
theorem k1_off776_inb : ∀ (v30 : BitVec 32) (k1_hw49 : k1_chk49 v30), ∀ a, (k1_off776 v30) a + S1x16.size a ≤ S26x128.size a := fun v30 k1_hw49 => k1_hw49.1
theorem k1_off778_inb : ∀ (v30 : BitVec 32) (k1_hw49 : k1_chk49 v30), ∀ a, (k1_off778 v30) a + S1x16.size a ≤ S26x128.size a := fun v30 k1_hw49 => k1_hw49.2.1
theorem k1_off780_inb : ∀ (v30 : BitVec 32) (k1_hw49 : k1_chk49 v30), ∀ a, (k1_off780 v30) a + S1x16.size a ≤ S26x128.size a := fun v30 k1_hw49 => k1_hw49.2.2.1
theorem k1_off782_inb : ∀ (v30 : BitVec 32) (k1_hw49 : k1_chk49 v30), ∀ a, (k1_off782 v30) a + S1x16.size a ≤ S26x128.size a := fun v30 k1_hw49 => k1_hw49.2.2.2.1
theorem k1_off784_inb : ∀ (v30 : BitVec 32) (k1_hw49 : k1_chk49 v30), ∀ a, (k1_off784 v30) a + S1x16.size a ≤ S26x128.size a := fun v30 k1_hw49 => k1_hw49.2.2.2.2.1
theorem k1_off786_inb : ∀ (v30 : BitVec 32) (k1_hw49 : k1_chk49 v30), ∀ a, (k1_off786 v30) a + S1x16.size a ≤ S26x128.size a := fun v30 k1_hw49 => k1_hw49.2.2.2.2.2.1
theorem k1_off788_inb : ∀ (v30 : BitVec 32) (k1_hw49 : k1_chk49 v30), ∀ a, (k1_off788 v30) a + S1x16.size a ≤ S26x128.size a := fun v30 k1_hw49 => k1_hw49.2.2.2.2.2.2.1
theorem k1_off790_inb : ∀ (v30 : BitVec 32) (k1_hw49 : k1_chk49 v30), ∀ a, (k1_off790 v30) a + S1x16.size a ≤ S26x128.size a := fun v30 k1_hw49 => k1_hw49.2.2.2.2.2.2.2

def k1_off791 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_35 : BitVec 32 := 16#32
  let v31 : BitVec 32 := Scalar.muli arg16 c16_i32_35
  let c0_i32_36 : BitVec 32 := 0#32
  let v32 : BitVec 32 := Scalar.addi v31 c0_i32_36
  let v63 : Index := Scalar.indexCast v32
  let c112_44 : Index := 112#32
  ![v63.toNat, 112]
def k1_off792 (v66 : BitVec 32) : Fin 2 → Nat :=
  let v69 : Index := Scalar.indexCast v66
  let c0_47 : Index := 0#32
  ![v69.toNat, 0]

def k1_off793 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_45 : BitVec 32 := 16#32
  let v67 : BitVec 32 := Scalar.muli arg16 c16_i32_45
  let c1_i32_46 : BitVec 32 := 1#32
  let v68 : BitVec 32 := Scalar.addi v67 c1_i32_46
  let v71 : Index := Scalar.indexCast v68
  let c0_48 : Index := 0#32
  ![v71.toNat, 0]
def k1_off794 (v66 : BitVec 32) : Fin 2 → Nat :=
  let v73 : Index := Scalar.indexCast v66
  let c16_49 : Index := 16#32
  ![v73.toNat, 16]
def k1_off795 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_45 : BitVec 32 := 16#32
  let v67 : BitVec 32 := Scalar.muli arg16 c16_i32_45
  let c1_i32_46 : BitVec 32 := 1#32
  let v68 : BitVec 32 := Scalar.addi v67 c1_i32_46
  let v75 : Index := Scalar.indexCast v68
  let c16_50 : Index := 16#32
  ![v75.toNat, 16]
def k1_off796 (v66 : BitVec 32) : Fin 2 → Nat :=
  let v77 : Index := Scalar.indexCast v66
  let c32_51 : Index := 32#32
  ![v77.toNat, 32]
def k1_off797 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_45 : BitVec 32 := 16#32
  let v67 : BitVec 32 := Scalar.muli arg16 c16_i32_45
  let c1_i32_46 : BitVec 32 := 1#32
  let v68 : BitVec 32 := Scalar.addi v67 c1_i32_46
  let v79 : Index := Scalar.indexCast v68
  let c32_52 : Index := 32#32
  ![v79.toNat, 32]
def k1_off798 (v66 : BitVec 32) : Fin 2 → Nat :=
  let v81 : Index := Scalar.indexCast v66
  let c48_53 : Index := 48#32
  ![v81.toNat, 48]
def k1_off799 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_45 : BitVec 32 := 16#32
  let v67 : BitVec 32 := Scalar.muli arg16 c16_i32_45
  let c1_i32_46 : BitVec 32 := 1#32
  let v68 : BitVec 32 := Scalar.addi v67 c1_i32_46
  let v83 : Index := Scalar.indexCast v68
  let c48_54 : Index := 48#32
  ![v83.toNat, 48]
def k1_off800 (v66 : BitVec 32) : Fin 2 → Nat :=
  let v85 : Index := Scalar.indexCast v66
  let c64_55 : Index := 64#32
  ![v85.toNat, 64]
def k1_off801 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_45 : BitVec 32 := 16#32
  let v67 : BitVec 32 := Scalar.muli arg16 c16_i32_45
  let c1_i32_46 : BitVec 32 := 1#32
  let v68 : BitVec 32 := Scalar.addi v67 c1_i32_46
  let v87 : Index := Scalar.indexCast v68
  let c64_56 : Index := 64#32
  ![v87.toNat, 64]
def k1_off802 (v66 : BitVec 32) : Fin 2 → Nat :=
  let v89 : Index := Scalar.indexCast v66
  let c80_57 : Index := 80#32
  ![v89.toNat, 80]
def k1_off803 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_45 : BitVec 32 := 16#32
  let v67 : BitVec 32 := Scalar.muli arg16 c16_i32_45
  let c1_i32_46 : BitVec 32 := 1#32
  let v68 : BitVec 32 := Scalar.addi v67 c1_i32_46
  let v91 : Index := Scalar.indexCast v68
  let c80_58 : Index := 80#32
  ![v91.toNat, 80]
def k1_off804 (v66 : BitVec 32) : Fin 2 → Nat :=
  let v93 : Index := Scalar.indexCast v66
  let c96_59 : Index := 96#32
  ![v93.toNat, 96]
def k1_off805 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_45 : BitVec 32 := 16#32
  let v67 : BitVec 32 := Scalar.muli arg16 c16_i32_45
  let c1_i32_46 : BitVec 32 := 1#32
  let v68 : BitVec 32 := Scalar.addi v67 c1_i32_46
  let v95 : Index := Scalar.indexCast v68
  let c96_60 : Index := 96#32
  ![v95.toNat, 96]
def k1_off806 (v66 : BitVec 32) : Fin 2 → Nat :=
  let v97 : Index := Scalar.indexCast v66
  let c112_61 : Index := 112#32
  ![v97.toNat, 112]

def k1_chk50 (v66 : BitVec 32) : Prop :=
  (∀ a, (k1_off792 v66) a + S1x16.size a ≤ S26x128.size a) ∧
  (∀ a, (k1_off794 v66) a + S1x16.size a ≤ S26x128.size a) ∧
  (∀ a, (k1_off796 v66) a + S1x16.size a ≤ S26x128.size a) ∧
  (∀ a, (k1_off798 v66) a + S1x16.size a ≤ S26x128.size a) ∧
  (∀ a, (k1_off800 v66) a + S1x16.size a ≤ S26x128.size a) ∧
  (∀ a, (k1_off802 v66) a + S1x16.size a ≤ S26x128.size a) ∧
  (∀ a, (k1_off804 v66) a + S1x16.size a ≤ S26x128.size a) ∧
  (∀ a, (k1_off806 v66) a + S1x16.size a ≤ S26x128.size a)
theorem k1_off792_inb : ∀ (v66 : BitVec 32) (k1_hw50 : k1_chk50 v66), ∀ a, (k1_off792 v66) a + S1x16.size a ≤ S26x128.size a := fun v66 k1_hw50 => k1_hw50.1
theorem k1_off794_inb : ∀ (v66 : BitVec 32) (k1_hw50 : k1_chk50 v66), ∀ a, (k1_off794 v66) a + S1x16.size a ≤ S26x128.size a := fun v66 k1_hw50 => k1_hw50.2.1
theorem k1_off796_inb : ∀ (v66 : BitVec 32) (k1_hw50 : k1_chk50 v66), ∀ a, (k1_off796 v66) a + S1x16.size a ≤ S26x128.size a := fun v66 k1_hw50 => k1_hw50.2.2.1
theorem k1_off798_inb : ∀ (v66 : BitVec 32) (k1_hw50 : k1_chk50 v66), ∀ a, (k1_off798 v66) a + S1x16.size a ≤ S26x128.size a := fun v66 k1_hw50 => k1_hw50.2.2.2.1
theorem k1_off800_inb : ∀ (v66 : BitVec 32) (k1_hw50 : k1_chk50 v66), ∀ a, (k1_off800 v66) a + S1x16.size a ≤ S26x128.size a := fun v66 k1_hw50 => k1_hw50.2.2.2.2.1
theorem k1_off802_inb : ∀ (v66 : BitVec 32) (k1_hw50 : k1_chk50 v66), ∀ a, (k1_off802 v66) a + S1x16.size a ≤ S26x128.size a := fun v66 k1_hw50 => k1_hw50.2.2.2.2.2.1
theorem k1_off804_inb : ∀ (v66 : BitVec 32) (k1_hw50 : k1_chk50 v66), ∀ a, (k1_off804 v66) a + S1x16.size a ≤ S26x128.size a := fun v66 k1_hw50 => k1_hw50.2.2.2.2.2.2.1
theorem k1_off806_inb : ∀ (v66 : BitVec 32) (k1_hw50 : k1_chk50 v66), ∀ a, (k1_off806 v66) a + S1x16.size a ≤ S26x128.size a := fun v66 k1_hw50 => k1_hw50.2.2.2.2.2.2.2

def k1_off807 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_45 : BitVec 32 := 16#32
  let v67 : BitVec 32 := Scalar.muli arg16 c16_i32_45
  let c1_i32_46 : BitVec 32 := 1#32
  let v68 : BitVec 32 := Scalar.addi v67 c1_i32_46
  let v99 : Index := Scalar.indexCast v68
  let c112_62 : Index := 112#32
  ![v99.toNat, 112]
def k1_off808 (v102 : BitVec 32) : Fin 2 → Nat :=
  let v105 : Index := Scalar.indexCast v102
  let c0_65 : Index := 0#32
  ![v105.toNat, 0]

def k1_off809 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_63 : BitVec 32 := 16#32
  let v103 : BitVec 32 := Scalar.muli arg16 c16_i32_63
  let c2_i32_64 : BitVec 32 := 2#32
  let v104 : BitVec 32 := Scalar.addi v103 c2_i32_64
  let v107 : Index := Scalar.indexCast v104
  let c0_66 : Index := 0#32
  ![v107.toNat, 0]
def k1_off810 (v102 : BitVec 32) : Fin 2 → Nat :=
  let v109 : Index := Scalar.indexCast v102
  let c16_67 : Index := 16#32
  ![v109.toNat, 16]
def k1_off811 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_63 : BitVec 32 := 16#32
  let v103 : BitVec 32 := Scalar.muli arg16 c16_i32_63
  let c2_i32_64 : BitVec 32 := 2#32
  let v104 : BitVec 32 := Scalar.addi v103 c2_i32_64
  let v111 : Index := Scalar.indexCast v104
  let c16_68 : Index := 16#32
  ![v111.toNat, 16]
def k1_off812 (v102 : BitVec 32) : Fin 2 → Nat :=
  let v113 : Index := Scalar.indexCast v102
  let c32_69 : Index := 32#32
  ![v113.toNat, 32]
def k1_off813 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_63 : BitVec 32 := 16#32
  let v103 : BitVec 32 := Scalar.muli arg16 c16_i32_63
  let c2_i32_64 : BitVec 32 := 2#32
  let v104 : BitVec 32 := Scalar.addi v103 c2_i32_64
  let v115 : Index := Scalar.indexCast v104
  let c32_70 : Index := 32#32
  ![v115.toNat, 32]
def k1_off814 (v102 : BitVec 32) : Fin 2 → Nat :=
  let v117 : Index := Scalar.indexCast v102
  let c48_71 : Index := 48#32
  ![v117.toNat, 48]
def k1_off815 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_63 : BitVec 32 := 16#32
  let v103 : BitVec 32 := Scalar.muli arg16 c16_i32_63
  let c2_i32_64 : BitVec 32 := 2#32
  let v104 : BitVec 32 := Scalar.addi v103 c2_i32_64
  let v119 : Index := Scalar.indexCast v104
  let c48_72 : Index := 48#32
  ![v119.toNat, 48]
def k1_off816 (v102 : BitVec 32) : Fin 2 → Nat :=
  let v121 : Index := Scalar.indexCast v102
  let c64_73 : Index := 64#32
  ![v121.toNat, 64]
def k1_off817 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_63 : BitVec 32 := 16#32
  let v103 : BitVec 32 := Scalar.muli arg16 c16_i32_63
  let c2_i32_64 : BitVec 32 := 2#32
  let v104 : BitVec 32 := Scalar.addi v103 c2_i32_64
  let v123 : Index := Scalar.indexCast v104
  let c64_74 : Index := 64#32
  ![v123.toNat, 64]
def k1_off818 (v102 : BitVec 32) : Fin 2 → Nat :=
  let v125 : Index := Scalar.indexCast v102
  let c80_75 : Index := 80#32
  ![v125.toNat, 80]
def k1_off819 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_63 : BitVec 32 := 16#32
  let v103 : BitVec 32 := Scalar.muli arg16 c16_i32_63
  let c2_i32_64 : BitVec 32 := 2#32
  let v104 : BitVec 32 := Scalar.addi v103 c2_i32_64
  let v127 : Index := Scalar.indexCast v104
  let c80_76 : Index := 80#32
  ![v127.toNat, 80]
def k1_off820 (v102 : BitVec 32) : Fin 2 → Nat :=
  let v129 : Index := Scalar.indexCast v102
  let c96_77 : Index := 96#32
  ![v129.toNat, 96]
def k1_off821 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_63 : BitVec 32 := 16#32
  let v103 : BitVec 32 := Scalar.muli arg16 c16_i32_63
  let c2_i32_64 : BitVec 32 := 2#32
  let v104 : BitVec 32 := Scalar.addi v103 c2_i32_64
  let v131 : Index := Scalar.indexCast v104
  let c96_78 : Index := 96#32
  ![v131.toNat, 96]
def k1_off822 (v102 : BitVec 32) : Fin 2 → Nat :=
  let v133 : Index := Scalar.indexCast v102
  let c112_79 : Index := 112#32
  ![v133.toNat, 112]

def k1_chk51 (v102 : BitVec 32) : Prop :=
  (∀ a, (k1_off808 v102) a + S1x16.size a ≤ S26x128.size a) ∧
  (∀ a, (k1_off810 v102) a + S1x16.size a ≤ S26x128.size a) ∧
  (∀ a, (k1_off812 v102) a + S1x16.size a ≤ S26x128.size a) ∧
  (∀ a, (k1_off814 v102) a + S1x16.size a ≤ S26x128.size a) ∧
  (∀ a, (k1_off816 v102) a + S1x16.size a ≤ S26x128.size a) ∧
  (∀ a, (k1_off818 v102) a + S1x16.size a ≤ S26x128.size a) ∧
  (∀ a, (k1_off820 v102) a + S1x16.size a ≤ S26x128.size a) ∧
  (∀ a, (k1_off822 v102) a + S1x16.size a ≤ S26x128.size a)
theorem k1_off808_inb : ∀ (v102 : BitVec 32) (k1_hw51 : k1_chk51 v102), ∀ a, (k1_off808 v102) a + S1x16.size a ≤ S26x128.size a := fun v102 k1_hw51 => k1_hw51.1
theorem k1_off810_inb : ∀ (v102 : BitVec 32) (k1_hw51 : k1_chk51 v102), ∀ a, (k1_off810 v102) a + S1x16.size a ≤ S26x128.size a := fun v102 k1_hw51 => k1_hw51.2.1
theorem k1_off812_inb : ∀ (v102 : BitVec 32) (k1_hw51 : k1_chk51 v102), ∀ a, (k1_off812 v102) a + S1x16.size a ≤ S26x128.size a := fun v102 k1_hw51 => k1_hw51.2.2.1
theorem k1_off814_inb : ∀ (v102 : BitVec 32) (k1_hw51 : k1_chk51 v102), ∀ a, (k1_off814 v102) a + S1x16.size a ≤ S26x128.size a := fun v102 k1_hw51 => k1_hw51.2.2.2.1
theorem k1_off816_inb : ∀ (v102 : BitVec 32) (k1_hw51 : k1_chk51 v102), ∀ a, (k1_off816 v102) a + S1x16.size a ≤ S26x128.size a := fun v102 k1_hw51 => k1_hw51.2.2.2.2.1
theorem k1_off818_inb : ∀ (v102 : BitVec 32) (k1_hw51 : k1_chk51 v102), ∀ a, (k1_off818 v102) a + S1x16.size a ≤ S26x128.size a := fun v102 k1_hw51 => k1_hw51.2.2.2.2.2.1
theorem k1_off820_inb : ∀ (v102 : BitVec 32) (k1_hw51 : k1_chk51 v102), ∀ a, (k1_off820 v102) a + S1x16.size a ≤ S26x128.size a := fun v102 k1_hw51 => k1_hw51.2.2.2.2.2.2.1
theorem k1_off822_inb : ∀ (v102 : BitVec 32) (k1_hw51 : k1_chk51 v102), ∀ a, (k1_off822 v102) a + S1x16.size a ≤ S26x128.size a := fun v102 k1_hw51 => k1_hw51.2.2.2.2.2.2.2

def k1_off823 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_63 : BitVec 32 := 16#32
  let v103 : BitVec 32 := Scalar.muli arg16 c16_i32_63
  let c2_i32_64 : BitVec 32 := 2#32
  let v104 : BitVec 32 := Scalar.addi v103 c2_i32_64
  let v135 : Index := Scalar.indexCast v104
  let c112_80 : Index := 112#32
  ![v135.toNat, 112]
def k1_off824 (v138 : BitVec 32) : Fin 2 → Nat :=
  let v141 : Index := Scalar.indexCast v138
  let c0_82 : Index := 0#32
  ![v141.toNat, 0]

def k1_off825 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_81 : BitVec 32 := 16#32
  let v139 : BitVec 32 := Scalar.muli arg16 c16_i32_81
  let c3_i32 : BitVec 32 := 3#32
  let v140 : BitVec 32 := Scalar.addi v139 c3_i32
  let v143 : Index := Scalar.indexCast v140
  let c0_83 : Index := 0#32
  ![v143.toNat, 0]
def k1_off826 (v138 : BitVec 32) : Fin 2 → Nat :=
  let v145 : Index := Scalar.indexCast v138
  let c16_84 : Index := 16#32
  ![v145.toNat, 16]
def k1_off827 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_81 : BitVec 32 := 16#32
  let v139 : BitVec 32 := Scalar.muli arg16 c16_i32_81
  let c3_i32 : BitVec 32 := 3#32
  let v140 : BitVec 32 := Scalar.addi v139 c3_i32
  let v147 : Index := Scalar.indexCast v140
  let c16_85 : Index := 16#32
  ![v147.toNat, 16]
def k1_off828 (v138 : BitVec 32) : Fin 2 → Nat :=
  let v149 : Index := Scalar.indexCast v138
  let c32_86 : Index := 32#32
  ![v149.toNat, 32]
def k1_off829 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_81 : BitVec 32 := 16#32
  let v139 : BitVec 32 := Scalar.muli arg16 c16_i32_81
  let c3_i32 : BitVec 32 := 3#32
  let v140 : BitVec 32 := Scalar.addi v139 c3_i32
  let v151 : Index := Scalar.indexCast v140
  let c32_87 : Index := 32#32
  ![v151.toNat, 32]
def k1_off830 (v138 : BitVec 32) : Fin 2 → Nat :=
  let v153 : Index := Scalar.indexCast v138
  let c48_88 : Index := 48#32
  ![v153.toNat, 48]
def k1_off831 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_81 : BitVec 32 := 16#32
  let v139 : BitVec 32 := Scalar.muli arg16 c16_i32_81
  let c3_i32 : BitVec 32 := 3#32
  let v140 : BitVec 32 := Scalar.addi v139 c3_i32
  let v155 : Index := Scalar.indexCast v140
  let c48_89 : Index := 48#32
  ![v155.toNat, 48]
def k1_off832 (v138 : BitVec 32) : Fin 2 → Nat :=
  let v157 : Index := Scalar.indexCast v138
  let c64_90 : Index := 64#32
  ![v157.toNat, 64]
def k1_off833 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_81 : BitVec 32 := 16#32
  let v139 : BitVec 32 := Scalar.muli arg16 c16_i32_81
  let c3_i32 : BitVec 32 := 3#32
  let v140 : BitVec 32 := Scalar.addi v139 c3_i32
  let v159 : Index := Scalar.indexCast v140
  let c64_91 : Index := 64#32
  ![v159.toNat, 64]
def k1_off834 (v138 : BitVec 32) : Fin 2 → Nat :=
  let v161 : Index := Scalar.indexCast v138
  let c80_92 : Index := 80#32
  ![v161.toNat, 80]
def k1_off835 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_81 : BitVec 32 := 16#32
  let v139 : BitVec 32 := Scalar.muli arg16 c16_i32_81
  let c3_i32 : BitVec 32 := 3#32
  let v140 : BitVec 32 := Scalar.addi v139 c3_i32
  let v163 : Index := Scalar.indexCast v140
  let c80_93 : Index := 80#32
  ![v163.toNat, 80]
def k1_off836 (v138 : BitVec 32) : Fin 2 → Nat :=
  let v165 : Index := Scalar.indexCast v138
  let c96_94 : Index := 96#32
  ![v165.toNat, 96]
def k1_off837 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_81 : BitVec 32 := 16#32
  let v139 : BitVec 32 := Scalar.muli arg16 c16_i32_81
  let c3_i32 : BitVec 32 := 3#32
  let v140 : BitVec 32 := Scalar.addi v139 c3_i32
  let v167 : Index := Scalar.indexCast v140
  let c96_95 : Index := 96#32
  ![v167.toNat, 96]
def k1_off838 (v138 : BitVec 32) : Fin 2 → Nat :=
  let v169 : Index := Scalar.indexCast v138
  let c112_96 : Index := 112#32
  ![v169.toNat, 112]

def k1_chk52 (v138 : BitVec 32) : Prop :=
  (∀ a, (k1_off824 v138) a + S1x16.size a ≤ S26x128.size a) ∧
  (∀ a, (k1_off826 v138) a + S1x16.size a ≤ S26x128.size a) ∧
  (∀ a, (k1_off828 v138) a + S1x16.size a ≤ S26x128.size a) ∧
  (∀ a, (k1_off830 v138) a + S1x16.size a ≤ S26x128.size a) ∧
  (∀ a, (k1_off832 v138) a + S1x16.size a ≤ S26x128.size a) ∧
  (∀ a, (k1_off834 v138) a + S1x16.size a ≤ S26x128.size a) ∧
  (∀ a, (k1_off836 v138) a + S1x16.size a ≤ S26x128.size a) ∧
  (∀ a, (k1_off838 v138) a + S1x16.size a ≤ S26x128.size a)
theorem k1_off824_inb : ∀ (v138 : BitVec 32) (k1_hw52 : k1_chk52 v138), ∀ a, (k1_off824 v138) a + S1x16.size a ≤ S26x128.size a := fun v138 k1_hw52 => k1_hw52.1
theorem k1_off826_inb : ∀ (v138 : BitVec 32) (k1_hw52 : k1_chk52 v138), ∀ a, (k1_off826 v138) a + S1x16.size a ≤ S26x128.size a := fun v138 k1_hw52 => k1_hw52.2.1
theorem k1_off828_inb : ∀ (v138 : BitVec 32) (k1_hw52 : k1_chk52 v138), ∀ a, (k1_off828 v138) a + S1x16.size a ≤ S26x128.size a := fun v138 k1_hw52 => k1_hw52.2.2.1
theorem k1_off830_inb : ∀ (v138 : BitVec 32) (k1_hw52 : k1_chk52 v138), ∀ a, (k1_off830 v138) a + S1x16.size a ≤ S26x128.size a := fun v138 k1_hw52 => k1_hw52.2.2.2.1
theorem k1_off832_inb : ∀ (v138 : BitVec 32) (k1_hw52 : k1_chk52 v138), ∀ a, (k1_off832 v138) a + S1x16.size a ≤ S26x128.size a := fun v138 k1_hw52 => k1_hw52.2.2.2.2.1
theorem k1_off834_inb : ∀ (v138 : BitVec 32) (k1_hw52 : k1_chk52 v138), ∀ a, (k1_off834 v138) a + S1x16.size a ≤ S26x128.size a := fun v138 k1_hw52 => k1_hw52.2.2.2.2.2.1
theorem k1_off836_inb : ∀ (v138 : BitVec 32) (k1_hw52 : k1_chk52 v138), ∀ a, (k1_off836 v138) a + S1x16.size a ≤ S26x128.size a := fun v138 k1_hw52 => k1_hw52.2.2.2.2.2.2.1
theorem k1_off838_inb : ∀ (v138 : BitVec 32) (k1_hw52 : k1_chk52 v138), ∀ a, (k1_off838 v138) a + S1x16.size a ≤ S26x128.size a := fun v138 k1_hw52 => k1_hw52.2.2.2.2.2.2.2

def k1_off839 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_81 : BitVec 32 := 16#32
  let v139 : BitVec 32 := Scalar.muli arg16 c16_i32_81
  let c3_i32 : BitVec 32 := 3#32
  let v140 : BitVec 32 := Scalar.addi v139 c3_i32
  let v171 : Index := Scalar.indexCast v140
  let c112_97 : Index := 112#32
  ![v171.toNat, 112]
def k1_off840 (v174 : BitVec 32) : Fin 2 → Nat :=
  let v177 : Index := Scalar.indexCast v174
  let c0_99 : Index := 0#32
  ![v177.toNat, 0]

def k1_off841 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_98 : BitVec 32 := 16#32
  let v175 : BitVec 32 := Scalar.muli arg16 c16_i32_98
  let c4_i32 : BitVec 32 := 4#32
  let v176 : BitVec 32 := Scalar.addi v175 c4_i32
  let v179 : Index := Scalar.indexCast v176
  let c0_100 : Index := 0#32
  ![v179.toNat, 0]
def k1_off842 (v174 : BitVec 32) : Fin 2 → Nat :=
  let v181 : Index := Scalar.indexCast v174
  let c16_101 : Index := 16#32
  ![v181.toNat, 16]
def k1_off843 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_98 : BitVec 32 := 16#32
  let v175 : BitVec 32 := Scalar.muli arg16 c16_i32_98
  let c4_i32 : BitVec 32 := 4#32
  let v176 : BitVec 32 := Scalar.addi v175 c4_i32
  let v183 : Index := Scalar.indexCast v176
  let c16_102 : Index := 16#32
  ![v183.toNat, 16]
def k1_off844 (v174 : BitVec 32) : Fin 2 → Nat :=
  let v185 : Index := Scalar.indexCast v174
  let c32_103 : Index := 32#32
  ![v185.toNat, 32]
def k1_off845 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_98 : BitVec 32 := 16#32
  let v175 : BitVec 32 := Scalar.muli arg16 c16_i32_98
  let c4_i32 : BitVec 32 := 4#32
  let v176 : BitVec 32 := Scalar.addi v175 c4_i32
  let v187 : Index := Scalar.indexCast v176
  let c32_104 : Index := 32#32
  ![v187.toNat, 32]
def k1_off846 (v174 : BitVec 32) : Fin 2 → Nat :=
  let v189 : Index := Scalar.indexCast v174
  let c48_105 : Index := 48#32
  ![v189.toNat, 48]
def k1_off847 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_98 : BitVec 32 := 16#32
  let v175 : BitVec 32 := Scalar.muli arg16 c16_i32_98
  let c4_i32 : BitVec 32 := 4#32
  let v176 : BitVec 32 := Scalar.addi v175 c4_i32
  let v191 : Index := Scalar.indexCast v176
  let c48_106 : Index := 48#32
  ![v191.toNat, 48]
def k1_off848 (v174 : BitVec 32) : Fin 2 → Nat :=
  let v193 : Index := Scalar.indexCast v174
  let c64_107 : Index := 64#32
  ![v193.toNat, 64]
def k1_off849 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_98 : BitVec 32 := 16#32
  let v175 : BitVec 32 := Scalar.muli arg16 c16_i32_98
  let c4_i32 : BitVec 32 := 4#32
  let v176 : BitVec 32 := Scalar.addi v175 c4_i32
  let v195 : Index := Scalar.indexCast v176
  let c64_108 : Index := 64#32
  ![v195.toNat, 64]
def k1_off850 (v174 : BitVec 32) : Fin 2 → Nat :=
  let v197 : Index := Scalar.indexCast v174
  let c80_109 : Index := 80#32
  ![v197.toNat, 80]
def k1_off851 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_98 : BitVec 32 := 16#32
  let v175 : BitVec 32 := Scalar.muli arg16 c16_i32_98
  let c4_i32 : BitVec 32 := 4#32
  let v176 : BitVec 32 := Scalar.addi v175 c4_i32
  let v199 : Index := Scalar.indexCast v176
  let c80_110 : Index := 80#32
  ![v199.toNat, 80]
def k1_off852 (v174 : BitVec 32) : Fin 2 → Nat :=
  let v201 : Index := Scalar.indexCast v174
  let c96_111 : Index := 96#32
  ![v201.toNat, 96]
def k1_off853 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_98 : BitVec 32 := 16#32
  let v175 : BitVec 32 := Scalar.muli arg16 c16_i32_98
  let c4_i32 : BitVec 32 := 4#32
  let v176 : BitVec 32 := Scalar.addi v175 c4_i32
  let v203 : Index := Scalar.indexCast v176
  let c96_112 : Index := 96#32
  ![v203.toNat, 96]
def k1_off854 (v174 : BitVec 32) : Fin 2 → Nat :=
  let v205 : Index := Scalar.indexCast v174
  let c112_113 : Index := 112#32
  ![v205.toNat, 112]

def k1_chk53 (v174 : BitVec 32) : Prop :=
  (∀ a, (k1_off840 v174) a + S1x16.size a ≤ S26x128.size a) ∧
  (∀ a, (k1_off842 v174) a + S1x16.size a ≤ S26x128.size a) ∧
  (∀ a, (k1_off844 v174) a + S1x16.size a ≤ S26x128.size a) ∧
  (∀ a, (k1_off846 v174) a + S1x16.size a ≤ S26x128.size a) ∧
  (∀ a, (k1_off848 v174) a + S1x16.size a ≤ S26x128.size a) ∧
  (∀ a, (k1_off850 v174) a + S1x16.size a ≤ S26x128.size a) ∧
  (∀ a, (k1_off852 v174) a + S1x16.size a ≤ S26x128.size a) ∧
  (∀ a, (k1_off854 v174) a + S1x16.size a ≤ S26x128.size a)
theorem k1_off840_inb : ∀ (v174 : BitVec 32) (k1_hw53 : k1_chk53 v174), ∀ a, (k1_off840 v174) a + S1x16.size a ≤ S26x128.size a := fun v174 k1_hw53 => k1_hw53.1
theorem k1_off842_inb : ∀ (v174 : BitVec 32) (k1_hw53 : k1_chk53 v174), ∀ a, (k1_off842 v174) a + S1x16.size a ≤ S26x128.size a := fun v174 k1_hw53 => k1_hw53.2.1
theorem k1_off844_inb : ∀ (v174 : BitVec 32) (k1_hw53 : k1_chk53 v174), ∀ a, (k1_off844 v174) a + S1x16.size a ≤ S26x128.size a := fun v174 k1_hw53 => k1_hw53.2.2.1
theorem k1_off846_inb : ∀ (v174 : BitVec 32) (k1_hw53 : k1_chk53 v174), ∀ a, (k1_off846 v174) a + S1x16.size a ≤ S26x128.size a := fun v174 k1_hw53 => k1_hw53.2.2.2.1
theorem k1_off848_inb : ∀ (v174 : BitVec 32) (k1_hw53 : k1_chk53 v174), ∀ a, (k1_off848 v174) a + S1x16.size a ≤ S26x128.size a := fun v174 k1_hw53 => k1_hw53.2.2.2.2.1
theorem k1_off850_inb : ∀ (v174 : BitVec 32) (k1_hw53 : k1_chk53 v174), ∀ a, (k1_off850 v174) a + S1x16.size a ≤ S26x128.size a := fun v174 k1_hw53 => k1_hw53.2.2.2.2.2.1
theorem k1_off852_inb : ∀ (v174 : BitVec 32) (k1_hw53 : k1_chk53 v174), ∀ a, (k1_off852 v174) a + S1x16.size a ≤ S26x128.size a := fun v174 k1_hw53 => k1_hw53.2.2.2.2.2.2.1
theorem k1_off854_inb : ∀ (v174 : BitVec 32) (k1_hw53 : k1_chk53 v174), ∀ a, (k1_off854 v174) a + S1x16.size a ≤ S26x128.size a := fun v174 k1_hw53 => k1_hw53.2.2.2.2.2.2.2

def k1_off855 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_98 : BitVec 32 := 16#32
  let v175 : BitVec 32 := Scalar.muli arg16 c16_i32_98
  let c4_i32 : BitVec 32 := 4#32
  let v176 : BitVec 32 := Scalar.addi v175 c4_i32
  let v207 : Index := Scalar.indexCast v176
  let c112_114 : Index := 112#32
  ![v207.toNat, 112]
def k1_off856 (v210 : BitVec 32) : Fin 2 → Nat :=
  let v213 : Index := Scalar.indexCast v210
  let c0_116 : Index := 0#32
  ![v213.toNat, 0]

def k1_off857 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_115 : BitVec 32 := 16#32
  let v211 : BitVec 32 := Scalar.muli arg16 c16_i32_115
  let c5_i32 : BitVec 32 := 5#32
  let v212 : BitVec 32 := Scalar.addi v211 c5_i32
  let v215 : Index := Scalar.indexCast v212
  let c0_117 : Index := 0#32
  ![v215.toNat, 0]
def k1_off858 (v210 : BitVec 32) : Fin 2 → Nat :=
  let v217 : Index := Scalar.indexCast v210
  let c16_118 : Index := 16#32
  ![v217.toNat, 16]
def k1_off859 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_115 : BitVec 32 := 16#32
  let v211 : BitVec 32 := Scalar.muli arg16 c16_i32_115
  let c5_i32 : BitVec 32 := 5#32
  let v212 : BitVec 32 := Scalar.addi v211 c5_i32
  let v219 : Index := Scalar.indexCast v212
  let c16_119 : Index := 16#32
  ![v219.toNat, 16]
def k1_off860 (v210 : BitVec 32) : Fin 2 → Nat :=
  let v221 : Index := Scalar.indexCast v210
  let c32_120 : Index := 32#32
  ![v221.toNat, 32]
def k1_off861 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_115 : BitVec 32 := 16#32
  let v211 : BitVec 32 := Scalar.muli arg16 c16_i32_115
  let c5_i32 : BitVec 32 := 5#32
  let v212 : BitVec 32 := Scalar.addi v211 c5_i32
  let v223 : Index := Scalar.indexCast v212
  let c32_121 : Index := 32#32
  ![v223.toNat, 32]
def k1_off862 (v210 : BitVec 32) : Fin 2 → Nat :=
  let v225 : Index := Scalar.indexCast v210
  let c48_122 : Index := 48#32
  ![v225.toNat, 48]
def k1_off863 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_115 : BitVec 32 := 16#32
  let v211 : BitVec 32 := Scalar.muli arg16 c16_i32_115
  let c5_i32 : BitVec 32 := 5#32
  let v212 : BitVec 32 := Scalar.addi v211 c5_i32
  let v227 : Index := Scalar.indexCast v212
  let c48_123 : Index := 48#32
  ![v227.toNat, 48]
def k1_off864 (v210 : BitVec 32) : Fin 2 → Nat :=
  let v229 : Index := Scalar.indexCast v210
  let c64_124 : Index := 64#32
  ![v229.toNat, 64]
def k1_off865 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_115 : BitVec 32 := 16#32
  let v211 : BitVec 32 := Scalar.muli arg16 c16_i32_115
  let c5_i32 : BitVec 32 := 5#32
  let v212 : BitVec 32 := Scalar.addi v211 c5_i32
  let v231 : Index := Scalar.indexCast v212
  let c64_125 : Index := 64#32
  ![v231.toNat, 64]
def k1_off866 (v210 : BitVec 32) : Fin 2 → Nat :=
  let v233 : Index := Scalar.indexCast v210
  let c80_126 : Index := 80#32
  ![v233.toNat, 80]
def k1_off867 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_115 : BitVec 32 := 16#32
  let v211 : BitVec 32 := Scalar.muli arg16 c16_i32_115
  let c5_i32 : BitVec 32 := 5#32
  let v212 : BitVec 32 := Scalar.addi v211 c5_i32
  let v235 : Index := Scalar.indexCast v212
  let c80_127 : Index := 80#32
  ![v235.toNat, 80]
def k1_off868 (v210 : BitVec 32) : Fin 2 → Nat :=
  let v237 : Index := Scalar.indexCast v210
  let c96_128 : Index := 96#32
  ![v237.toNat, 96]
def k1_off869 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_115 : BitVec 32 := 16#32
  let v211 : BitVec 32 := Scalar.muli arg16 c16_i32_115
  let c5_i32 : BitVec 32 := 5#32
  let v212 : BitVec 32 := Scalar.addi v211 c5_i32
  let v239 : Index := Scalar.indexCast v212
  let c96_129 : Index := 96#32
  ![v239.toNat, 96]
def k1_off870 (v210 : BitVec 32) : Fin 2 → Nat :=
  let v241 : Index := Scalar.indexCast v210
  let c112_130 : Index := 112#32
  ![v241.toNat, 112]

def k1_chk54 (v210 : BitVec 32) : Prop :=
  (∀ a, (k1_off856 v210) a + S1x16.size a ≤ S26x128.size a) ∧
  (∀ a, (k1_off858 v210) a + S1x16.size a ≤ S26x128.size a) ∧
  (∀ a, (k1_off860 v210) a + S1x16.size a ≤ S26x128.size a) ∧
  (∀ a, (k1_off862 v210) a + S1x16.size a ≤ S26x128.size a) ∧
  (∀ a, (k1_off864 v210) a + S1x16.size a ≤ S26x128.size a) ∧
  (∀ a, (k1_off866 v210) a + S1x16.size a ≤ S26x128.size a) ∧
  (∀ a, (k1_off868 v210) a + S1x16.size a ≤ S26x128.size a) ∧
  (∀ a, (k1_off870 v210) a + S1x16.size a ≤ S26x128.size a)
theorem k1_off856_inb : ∀ (v210 : BitVec 32) (k1_hw54 : k1_chk54 v210), ∀ a, (k1_off856 v210) a + S1x16.size a ≤ S26x128.size a := fun v210 k1_hw54 => k1_hw54.1
theorem k1_off858_inb : ∀ (v210 : BitVec 32) (k1_hw54 : k1_chk54 v210), ∀ a, (k1_off858 v210) a + S1x16.size a ≤ S26x128.size a := fun v210 k1_hw54 => k1_hw54.2.1
theorem k1_off860_inb : ∀ (v210 : BitVec 32) (k1_hw54 : k1_chk54 v210), ∀ a, (k1_off860 v210) a + S1x16.size a ≤ S26x128.size a := fun v210 k1_hw54 => k1_hw54.2.2.1
theorem k1_off862_inb : ∀ (v210 : BitVec 32) (k1_hw54 : k1_chk54 v210), ∀ a, (k1_off862 v210) a + S1x16.size a ≤ S26x128.size a := fun v210 k1_hw54 => k1_hw54.2.2.2.1
theorem k1_off864_inb : ∀ (v210 : BitVec 32) (k1_hw54 : k1_chk54 v210), ∀ a, (k1_off864 v210) a + S1x16.size a ≤ S26x128.size a := fun v210 k1_hw54 => k1_hw54.2.2.2.2.1
theorem k1_off866_inb : ∀ (v210 : BitVec 32) (k1_hw54 : k1_chk54 v210), ∀ a, (k1_off866 v210) a + S1x16.size a ≤ S26x128.size a := fun v210 k1_hw54 => k1_hw54.2.2.2.2.2.1
theorem k1_off868_inb : ∀ (v210 : BitVec 32) (k1_hw54 : k1_chk54 v210), ∀ a, (k1_off868 v210) a + S1x16.size a ≤ S26x128.size a := fun v210 k1_hw54 => k1_hw54.2.2.2.2.2.2.1
theorem k1_off870_inb : ∀ (v210 : BitVec 32) (k1_hw54 : k1_chk54 v210), ∀ a, (k1_off870 v210) a + S1x16.size a ≤ S26x128.size a := fun v210 k1_hw54 => k1_hw54.2.2.2.2.2.2.2

def k1_off871 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_115 : BitVec 32 := 16#32
  let v211 : BitVec 32 := Scalar.muli arg16 c16_i32_115
  let c5_i32 : BitVec 32 := 5#32
  let v212 : BitVec 32 := Scalar.addi v211 c5_i32
  let v243 : Index := Scalar.indexCast v212
  let c112_131 : Index := 112#32
  ![v243.toNat, 112]
def k1_off872 (v246 : BitVec 32) : Fin 2 → Nat :=
  let v249 : Index := Scalar.indexCast v246
  let c0_133 : Index := 0#32
  ![v249.toNat, 0]

def k1_off873 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_132 : BitVec 32 := 16#32
  let v247 : BitVec 32 := Scalar.muli arg16 c16_i32_132
  let c6_i32 : BitVec 32 := 6#32
  let v248 : BitVec 32 := Scalar.addi v247 c6_i32
  let v251 : Index := Scalar.indexCast v248
  let c0_134 : Index := 0#32
  ![v251.toNat, 0]
def k1_off874 (v246 : BitVec 32) : Fin 2 → Nat :=
  let v253 : Index := Scalar.indexCast v246
  let c16_135 : Index := 16#32
  ![v253.toNat, 16]
def k1_off875 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_132 : BitVec 32 := 16#32
  let v247 : BitVec 32 := Scalar.muli arg16 c16_i32_132
  let c6_i32 : BitVec 32 := 6#32
  let v248 : BitVec 32 := Scalar.addi v247 c6_i32
  let v255 : Index := Scalar.indexCast v248
  let c16_136 : Index := 16#32
  ![v255.toNat, 16]
def k1_off876 (v246 : BitVec 32) : Fin 2 → Nat :=
  let v257 : Index := Scalar.indexCast v246
  let c32_137 : Index := 32#32
  ![v257.toNat, 32]
def k1_off877 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_132 : BitVec 32 := 16#32
  let v247 : BitVec 32 := Scalar.muli arg16 c16_i32_132
  let c6_i32 : BitVec 32 := 6#32
  let v248 : BitVec 32 := Scalar.addi v247 c6_i32
  let v259 : Index := Scalar.indexCast v248
  let c32_138 : Index := 32#32
  ![v259.toNat, 32]
def k1_off878 (v246 : BitVec 32) : Fin 2 → Nat :=
  let v261 : Index := Scalar.indexCast v246
  let c48_139 : Index := 48#32
  ![v261.toNat, 48]
def k1_off879 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_132 : BitVec 32 := 16#32
  let v247 : BitVec 32 := Scalar.muli arg16 c16_i32_132
  let c6_i32 : BitVec 32 := 6#32
  let v248 : BitVec 32 := Scalar.addi v247 c6_i32
  let v263 : Index := Scalar.indexCast v248
  let c48_140 : Index := 48#32
  ![v263.toNat, 48]
def k1_off880 (v246 : BitVec 32) : Fin 2 → Nat :=
  let v265 : Index := Scalar.indexCast v246
  let c64_141 : Index := 64#32
  ![v265.toNat, 64]
def k1_off881 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_132 : BitVec 32 := 16#32
  let v247 : BitVec 32 := Scalar.muli arg16 c16_i32_132
  let c6_i32 : BitVec 32 := 6#32
  let v248 : BitVec 32 := Scalar.addi v247 c6_i32
  let v267 : Index := Scalar.indexCast v248
  let c64_142 : Index := 64#32
  ![v267.toNat, 64]
def k1_off882 (v246 : BitVec 32) : Fin 2 → Nat :=
  let v269 : Index := Scalar.indexCast v246
  let c80_143 : Index := 80#32
  ![v269.toNat, 80]
def k1_off883 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_132 : BitVec 32 := 16#32
  let v247 : BitVec 32 := Scalar.muli arg16 c16_i32_132
  let c6_i32 : BitVec 32 := 6#32
  let v248 : BitVec 32 := Scalar.addi v247 c6_i32
  let v271 : Index := Scalar.indexCast v248
  let c80_144 : Index := 80#32
  ![v271.toNat, 80]
def k1_off884 (v246 : BitVec 32) : Fin 2 → Nat :=
  let v273 : Index := Scalar.indexCast v246
  let c96_145 : Index := 96#32
  ![v273.toNat, 96]
def k1_off885 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_132 : BitVec 32 := 16#32
  let v247 : BitVec 32 := Scalar.muli arg16 c16_i32_132
  let c6_i32 : BitVec 32 := 6#32
  let v248 : BitVec 32 := Scalar.addi v247 c6_i32
  let v275 : Index := Scalar.indexCast v248
  let c96_146 : Index := 96#32
  ![v275.toNat, 96]
def k1_off886 (v246 : BitVec 32) : Fin 2 → Nat :=
  let v277 : Index := Scalar.indexCast v246
  let c112_147 : Index := 112#32
  ![v277.toNat, 112]

def k1_chk55 (v246 : BitVec 32) : Prop :=
  (∀ a, (k1_off872 v246) a + S1x16.size a ≤ S26x128.size a) ∧
  (∀ a, (k1_off874 v246) a + S1x16.size a ≤ S26x128.size a) ∧
  (∀ a, (k1_off876 v246) a + S1x16.size a ≤ S26x128.size a) ∧
  (∀ a, (k1_off878 v246) a + S1x16.size a ≤ S26x128.size a) ∧
  (∀ a, (k1_off880 v246) a + S1x16.size a ≤ S26x128.size a) ∧
  (∀ a, (k1_off882 v246) a + S1x16.size a ≤ S26x128.size a) ∧
  (∀ a, (k1_off884 v246) a + S1x16.size a ≤ S26x128.size a) ∧
  (∀ a, (k1_off886 v246) a + S1x16.size a ≤ S26x128.size a)
theorem k1_off872_inb : ∀ (v246 : BitVec 32) (k1_hw55 : k1_chk55 v246), ∀ a, (k1_off872 v246) a + S1x16.size a ≤ S26x128.size a := fun v246 k1_hw55 => k1_hw55.1
theorem k1_off874_inb : ∀ (v246 : BitVec 32) (k1_hw55 : k1_chk55 v246), ∀ a, (k1_off874 v246) a + S1x16.size a ≤ S26x128.size a := fun v246 k1_hw55 => k1_hw55.2.1
theorem k1_off876_inb : ∀ (v246 : BitVec 32) (k1_hw55 : k1_chk55 v246), ∀ a, (k1_off876 v246) a + S1x16.size a ≤ S26x128.size a := fun v246 k1_hw55 => k1_hw55.2.2.1
theorem k1_off878_inb : ∀ (v246 : BitVec 32) (k1_hw55 : k1_chk55 v246), ∀ a, (k1_off878 v246) a + S1x16.size a ≤ S26x128.size a := fun v246 k1_hw55 => k1_hw55.2.2.2.1
theorem k1_off880_inb : ∀ (v246 : BitVec 32) (k1_hw55 : k1_chk55 v246), ∀ a, (k1_off880 v246) a + S1x16.size a ≤ S26x128.size a := fun v246 k1_hw55 => k1_hw55.2.2.2.2.1
theorem k1_off882_inb : ∀ (v246 : BitVec 32) (k1_hw55 : k1_chk55 v246), ∀ a, (k1_off882 v246) a + S1x16.size a ≤ S26x128.size a := fun v246 k1_hw55 => k1_hw55.2.2.2.2.2.1
theorem k1_off884_inb : ∀ (v246 : BitVec 32) (k1_hw55 : k1_chk55 v246), ∀ a, (k1_off884 v246) a + S1x16.size a ≤ S26x128.size a := fun v246 k1_hw55 => k1_hw55.2.2.2.2.2.2.1
theorem k1_off886_inb : ∀ (v246 : BitVec 32) (k1_hw55 : k1_chk55 v246), ∀ a, (k1_off886 v246) a + S1x16.size a ≤ S26x128.size a := fun v246 k1_hw55 => k1_hw55.2.2.2.2.2.2.2

def k1_off887 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_132 : BitVec 32 := 16#32
  let v247 : BitVec 32 := Scalar.muli arg16 c16_i32_132
  let c6_i32 : BitVec 32 := 6#32
  let v248 : BitVec 32 := Scalar.addi v247 c6_i32
  let v279 : Index := Scalar.indexCast v248
  let c112_148 : Index := 112#32
  ![v279.toNat, 112]
def k1_off888 (v282 : BitVec 32) : Fin 2 → Nat :=
  let v285 : Index := Scalar.indexCast v282
  let c0_150 : Index := 0#32
  ![v285.toNat, 0]

def k1_off889 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_149 : BitVec 32 := 16#32
  let v283 : BitVec 32 := Scalar.muli arg16 c16_i32_149
  let c7_i32 : BitVec 32 := 7#32
  let v284 : BitVec 32 := Scalar.addi v283 c7_i32
  let v287 : Index := Scalar.indexCast v284
  let c0_151 : Index := 0#32
  ![v287.toNat, 0]
def k1_off890 (v282 : BitVec 32) : Fin 2 → Nat :=
  let v289 : Index := Scalar.indexCast v282
  let c16_152 : Index := 16#32
  ![v289.toNat, 16]
def k1_off891 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_149 : BitVec 32 := 16#32
  let v283 : BitVec 32 := Scalar.muli arg16 c16_i32_149
  let c7_i32 : BitVec 32 := 7#32
  let v284 : BitVec 32 := Scalar.addi v283 c7_i32
  let v291 : Index := Scalar.indexCast v284
  let c16_153 : Index := 16#32
  ![v291.toNat, 16]
def k1_off892 (v282 : BitVec 32) : Fin 2 → Nat :=
  let v293 : Index := Scalar.indexCast v282
  let c32_154 : Index := 32#32
  ![v293.toNat, 32]
def k1_off893 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_149 : BitVec 32 := 16#32
  let v283 : BitVec 32 := Scalar.muli arg16 c16_i32_149
  let c7_i32 : BitVec 32 := 7#32
  let v284 : BitVec 32 := Scalar.addi v283 c7_i32
  let v295 : Index := Scalar.indexCast v284
  let c32_155 : Index := 32#32
  ![v295.toNat, 32]
def k1_off894 (v282 : BitVec 32) : Fin 2 → Nat :=
  let v297 : Index := Scalar.indexCast v282
  let c48_156 : Index := 48#32
  ![v297.toNat, 48]
def k1_off895 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_149 : BitVec 32 := 16#32
  let v283 : BitVec 32 := Scalar.muli arg16 c16_i32_149
  let c7_i32 : BitVec 32 := 7#32
  let v284 : BitVec 32 := Scalar.addi v283 c7_i32
  let v299 : Index := Scalar.indexCast v284
  let c48_157 : Index := 48#32
  ![v299.toNat, 48]
def k1_off896 (v282 : BitVec 32) : Fin 2 → Nat :=
  let v301 : Index := Scalar.indexCast v282
  let c64_158 : Index := 64#32
  ![v301.toNat, 64]
def k1_off897 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_149 : BitVec 32 := 16#32
  let v283 : BitVec 32 := Scalar.muli arg16 c16_i32_149
  let c7_i32 : BitVec 32 := 7#32
  let v284 : BitVec 32 := Scalar.addi v283 c7_i32
  let v303 : Index := Scalar.indexCast v284
  let c64_159 : Index := 64#32
  ![v303.toNat, 64]
def k1_off898 (v282 : BitVec 32) : Fin 2 → Nat :=
  let v305 : Index := Scalar.indexCast v282
  let c80_160 : Index := 80#32
  ![v305.toNat, 80]
def k1_off899 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_149 : BitVec 32 := 16#32
  let v283 : BitVec 32 := Scalar.muli arg16 c16_i32_149
  let c7_i32 : BitVec 32 := 7#32
  let v284 : BitVec 32 := Scalar.addi v283 c7_i32
  let v307 : Index := Scalar.indexCast v284
  let c80_161 : Index := 80#32
  ![v307.toNat, 80]
def k1_off900 (v282 : BitVec 32) : Fin 2 → Nat :=
  let v309 : Index := Scalar.indexCast v282
  let c96_162 : Index := 96#32
  ![v309.toNat, 96]
def k1_off901 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_149 : BitVec 32 := 16#32
  let v283 : BitVec 32 := Scalar.muli arg16 c16_i32_149
  let c7_i32 : BitVec 32 := 7#32
  let v284 : BitVec 32 := Scalar.addi v283 c7_i32
  let v311 : Index := Scalar.indexCast v284
  let c96_163 : Index := 96#32
  ![v311.toNat, 96]
def k1_off902 (v282 : BitVec 32) : Fin 2 → Nat :=
  let v313 : Index := Scalar.indexCast v282
  let c112_164 : Index := 112#32
  ![v313.toNat, 112]

def k1_chk56 (v282 : BitVec 32) : Prop :=
  (∀ a, (k1_off888 v282) a + S1x16.size a ≤ S26x128.size a) ∧
  (∀ a, (k1_off890 v282) a + S1x16.size a ≤ S26x128.size a) ∧
  (∀ a, (k1_off892 v282) a + S1x16.size a ≤ S26x128.size a) ∧
  (∀ a, (k1_off894 v282) a + S1x16.size a ≤ S26x128.size a) ∧
  (∀ a, (k1_off896 v282) a + S1x16.size a ≤ S26x128.size a) ∧
  (∀ a, (k1_off898 v282) a + S1x16.size a ≤ S26x128.size a) ∧
  (∀ a, (k1_off900 v282) a + S1x16.size a ≤ S26x128.size a) ∧
  (∀ a, (k1_off902 v282) a + S1x16.size a ≤ S26x128.size a)
theorem k1_off888_inb : ∀ (v282 : BitVec 32) (k1_hw56 : k1_chk56 v282), ∀ a, (k1_off888 v282) a + S1x16.size a ≤ S26x128.size a := fun v282 k1_hw56 => k1_hw56.1
theorem k1_off890_inb : ∀ (v282 : BitVec 32) (k1_hw56 : k1_chk56 v282), ∀ a, (k1_off890 v282) a + S1x16.size a ≤ S26x128.size a := fun v282 k1_hw56 => k1_hw56.2.1
theorem k1_off892_inb : ∀ (v282 : BitVec 32) (k1_hw56 : k1_chk56 v282), ∀ a, (k1_off892 v282) a + S1x16.size a ≤ S26x128.size a := fun v282 k1_hw56 => k1_hw56.2.2.1
theorem k1_off894_inb : ∀ (v282 : BitVec 32) (k1_hw56 : k1_chk56 v282), ∀ a, (k1_off894 v282) a + S1x16.size a ≤ S26x128.size a := fun v282 k1_hw56 => k1_hw56.2.2.2.1
theorem k1_off896_inb : ∀ (v282 : BitVec 32) (k1_hw56 : k1_chk56 v282), ∀ a, (k1_off896 v282) a + S1x16.size a ≤ S26x128.size a := fun v282 k1_hw56 => k1_hw56.2.2.2.2.1
theorem k1_off898_inb : ∀ (v282 : BitVec 32) (k1_hw56 : k1_chk56 v282), ∀ a, (k1_off898 v282) a + S1x16.size a ≤ S26x128.size a := fun v282 k1_hw56 => k1_hw56.2.2.2.2.2.1
theorem k1_off900_inb : ∀ (v282 : BitVec 32) (k1_hw56 : k1_chk56 v282), ∀ a, (k1_off900 v282) a + S1x16.size a ≤ S26x128.size a := fun v282 k1_hw56 => k1_hw56.2.2.2.2.2.2.1
theorem k1_off902_inb : ∀ (v282 : BitVec 32) (k1_hw56 : k1_chk56 v282), ∀ a, (k1_off902 v282) a + S1x16.size a ≤ S26x128.size a := fun v282 k1_hw56 => k1_hw56.2.2.2.2.2.2.2

def k1_off903 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_149 : BitVec 32 := 16#32
  let v283 : BitVec 32 := Scalar.muli arg16 c16_i32_149
  let c7_i32 : BitVec 32 := 7#32
  let v284 : BitVec 32 := Scalar.addi v283 c7_i32
  let v315 : Index := Scalar.indexCast v284
  let c112_165 : Index := 112#32
  ![v315.toNat, 112]
def k1_off904 (v318 : BitVec 32) : Fin 2 → Nat :=
  let v321 : Index := Scalar.indexCast v318
  let c0_168 : Index := 0#32
  ![v321.toNat, 0]

def k1_off905 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_166 : BitVec 32 := 16#32
  let v319 : BitVec 32 := Scalar.muli arg16 c16_i32_166
  let c8_i32_167 : BitVec 32 := 8#32
  let v320 : BitVec 32 := Scalar.addi v319 c8_i32_167
  let v323 : Index := Scalar.indexCast v320
  let c0_169 : Index := 0#32
  ![v323.toNat, 0]
def k1_off906 (v318 : BitVec 32) : Fin 2 → Nat :=
  let v325 : Index := Scalar.indexCast v318
  let c16_170 : Index := 16#32
  ![v325.toNat, 16]
def k1_off907 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_166 : BitVec 32 := 16#32
  let v319 : BitVec 32 := Scalar.muli arg16 c16_i32_166
  let c8_i32_167 : BitVec 32 := 8#32
  let v320 : BitVec 32 := Scalar.addi v319 c8_i32_167
  let v327 : Index := Scalar.indexCast v320
  let c16_171 : Index := 16#32
  ![v327.toNat, 16]
def k1_off908 (v318 : BitVec 32) : Fin 2 → Nat :=
  let v329 : Index := Scalar.indexCast v318
  let c32_172 : Index := 32#32
  ![v329.toNat, 32]
def k1_off909 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_166 : BitVec 32 := 16#32
  let v319 : BitVec 32 := Scalar.muli arg16 c16_i32_166
  let c8_i32_167 : BitVec 32 := 8#32
  let v320 : BitVec 32 := Scalar.addi v319 c8_i32_167
  let v331 : Index := Scalar.indexCast v320
  let c32_173 : Index := 32#32
  ![v331.toNat, 32]
def k1_off910 (v318 : BitVec 32) : Fin 2 → Nat :=
  let v333 : Index := Scalar.indexCast v318
  let c48_174 : Index := 48#32
  ![v333.toNat, 48]
def k1_off911 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_166 : BitVec 32 := 16#32
  let v319 : BitVec 32 := Scalar.muli arg16 c16_i32_166
  let c8_i32_167 : BitVec 32 := 8#32
  let v320 : BitVec 32 := Scalar.addi v319 c8_i32_167
  let v335 : Index := Scalar.indexCast v320
  let c48_175 : Index := 48#32
  ![v335.toNat, 48]
def k1_off912 (v318 : BitVec 32) : Fin 2 → Nat :=
  let v337 : Index := Scalar.indexCast v318
  let c64_176 : Index := 64#32
  ![v337.toNat, 64]
def k1_off913 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_166 : BitVec 32 := 16#32
  let v319 : BitVec 32 := Scalar.muli arg16 c16_i32_166
  let c8_i32_167 : BitVec 32 := 8#32
  let v320 : BitVec 32 := Scalar.addi v319 c8_i32_167
  let v339 : Index := Scalar.indexCast v320
  let c64_177 : Index := 64#32
  ![v339.toNat, 64]
def k1_off914 (v318 : BitVec 32) : Fin 2 → Nat :=
  let v341 : Index := Scalar.indexCast v318
  let c80_178 : Index := 80#32
  ![v341.toNat, 80]
def k1_off915 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_166 : BitVec 32 := 16#32
  let v319 : BitVec 32 := Scalar.muli arg16 c16_i32_166
  let c8_i32_167 : BitVec 32 := 8#32
  let v320 : BitVec 32 := Scalar.addi v319 c8_i32_167
  let v343 : Index := Scalar.indexCast v320
  let c80_179 : Index := 80#32
  ![v343.toNat, 80]
def k1_off916 (v318 : BitVec 32) : Fin 2 → Nat :=
  let v345 : Index := Scalar.indexCast v318
  let c96_180 : Index := 96#32
  ![v345.toNat, 96]
def k1_off917 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_166 : BitVec 32 := 16#32
  let v319 : BitVec 32 := Scalar.muli arg16 c16_i32_166
  let c8_i32_167 : BitVec 32 := 8#32
  let v320 : BitVec 32 := Scalar.addi v319 c8_i32_167
  let v347 : Index := Scalar.indexCast v320
  let c96_181 : Index := 96#32
  ![v347.toNat, 96]
def k1_off918 (v318 : BitVec 32) : Fin 2 → Nat :=
  let v349 : Index := Scalar.indexCast v318
  let c112_182 : Index := 112#32
  ![v349.toNat, 112]

def k1_chk57 (v318 : BitVec 32) : Prop :=
  (∀ a, (k1_off904 v318) a + S1x16.size a ≤ S26x128.size a) ∧
  (∀ a, (k1_off906 v318) a + S1x16.size a ≤ S26x128.size a) ∧
  (∀ a, (k1_off908 v318) a + S1x16.size a ≤ S26x128.size a) ∧
  (∀ a, (k1_off910 v318) a + S1x16.size a ≤ S26x128.size a) ∧
  (∀ a, (k1_off912 v318) a + S1x16.size a ≤ S26x128.size a) ∧
  (∀ a, (k1_off914 v318) a + S1x16.size a ≤ S26x128.size a) ∧
  (∀ a, (k1_off916 v318) a + S1x16.size a ≤ S26x128.size a) ∧
  (∀ a, (k1_off918 v318) a + S1x16.size a ≤ S26x128.size a)
theorem k1_off904_inb : ∀ (v318 : BitVec 32) (k1_hw57 : k1_chk57 v318), ∀ a, (k1_off904 v318) a + S1x16.size a ≤ S26x128.size a := fun v318 k1_hw57 => k1_hw57.1
theorem k1_off906_inb : ∀ (v318 : BitVec 32) (k1_hw57 : k1_chk57 v318), ∀ a, (k1_off906 v318) a + S1x16.size a ≤ S26x128.size a := fun v318 k1_hw57 => k1_hw57.2.1
theorem k1_off908_inb : ∀ (v318 : BitVec 32) (k1_hw57 : k1_chk57 v318), ∀ a, (k1_off908 v318) a + S1x16.size a ≤ S26x128.size a := fun v318 k1_hw57 => k1_hw57.2.2.1
theorem k1_off910_inb : ∀ (v318 : BitVec 32) (k1_hw57 : k1_chk57 v318), ∀ a, (k1_off910 v318) a + S1x16.size a ≤ S26x128.size a := fun v318 k1_hw57 => k1_hw57.2.2.2.1
theorem k1_off912_inb : ∀ (v318 : BitVec 32) (k1_hw57 : k1_chk57 v318), ∀ a, (k1_off912 v318) a + S1x16.size a ≤ S26x128.size a := fun v318 k1_hw57 => k1_hw57.2.2.2.2.1
theorem k1_off914_inb : ∀ (v318 : BitVec 32) (k1_hw57 : k1_chk57 v318), ∀ a, (k1_off914 v318) a + S1x16.size a ≤ S26x128.size a := fun v318 k1_hw57 => k1_hw57.2.2.2.2.2.1
theorem k1_off916_inb : ∀ (v318 : BitVec 32) (k1_hw57 : k1_chk57 v318), ∀ a, (k1_off916 v318) a + S1x16.size a ≤ S26x128.size a := fun v318 k1_hw57 => k1_hw57.2.2.2.2.2.2.1
theorem k1_off918_inb : ∀ (v318 : BitVec 32) (k1_hw57 : k1_chk57 v318), ∀ a, (k1_off918 v318) a + S1x16.size a ≤ S26x128.size a := fun v318 k1_hw57 => k1_hw57.2.2.2.2.2.2.2

def k1_off919 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_166 : BitVec 32 := 16#32
  let v319 : BitVec 32 := Scalar.muli arg16 c16_i32_166
  let c8_i32_167 : BitVec 32 := 8#32
  let v320 : BitVec 32 := Scalar.addi v319 c8_i32_167
  let v351 : Index := Scalar.indexCast v320
  let c112_183 : Index := 112#32
  ![v351.toNat, 112]
def k1_off920 (v354 : BitVec 32) : Fin 2 → Nat :=
  let v357 : Index := Scalar.indexCast v354
  let c0_185 : Index := 0#32
  ![v357.toNat, 0]

def k1_off921 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_184 : BitVec 32 := 16#32
  let v355 : BitVec 32 := Scalar.muli arg16 c16_i32_184
  let c9_i32 : BitVec 32 := 9#32
  let v356 : BitVec 32 := Scalar.addi v355 c9_i32
  let v359 : Index := Scalar.indexCast v356
  let c0_186 : Index := 0#32
  ![v359.toNat, 0]
def k1_off922 (v354 : BitVec 32) : Fin 2 → Nat :=
  let v361 : Index := Scalar.indexCast v354
  let c16_187 : Index := 16#32
  ![v361.toNat, 16]
def k1_off923 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_184 : BitVec 32 := 16#32
  let v355 : BitVec 32 := Scalar.muli arg16 c16_i32_184
  let c9_i32 : BitVec 32 := 9#32
  let v356 : BitVec 32 := Scalar.addi v355 c9_i32
  let v363 : Index := Scalar.indexCast v356
  let c16_188 : Index := 16#32
  ![v363.toNat, 16]
def k1_off924 (v354 : BitVec 32) : Fin 2 → Nat :=
  let v365 : Index := Scalar.indexCast v354
  let c32_189 : Index := 32#32
  ![v365.toNat, 32]
def k1_off925 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_184 : BitVec 32 := 16#32
  let v355 : BitVec 32 := Scalar.muli arg16 c16_i32_184
  let c9_i32 : BitVec 32 := 9#32
  let v356 : BitVec 32 := Scalar.addi v355 c9_i32
  let v367 : Index := Scalar.indexCast v356
  let c32_190 : Index := 32#32
  ![v367.toNat, 32]
def k1_off926 (v354 : BitVec 32) : Fin 2 → Nat :=
  let v369 : Index := Scalar.indexCast v354
  let c48_191 : Index := 48#32
  ![v369.toNat, 48]
def k1_off927 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_184 : BitVec 32 := 16#32
  let v355 : BitVec 32 := Scalar.muli arg16 c16_i32_184
  let c9_i32 : BitVec 32 := 9#32
  let v356 : BitVec 32 := Scalar.addi v355 c9_i32
  let v371 : Index := Scalar.indexCast v356
  let c48_192 : Index := 48#32
  ![v371.toNat, 48]
def k1_off928 (v354 : BitVec 32) : Fin 2 → Nat :=
  let v373 : Index := Scalar.indexCast v354
  let c64_193 : Index := 64#32
  ![v373.toNat, 64]
def k1_off929 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_184 : BitVec 32 := 16#32
  let v355 : BitVec 32 := Scalar.muli arg16 c16_i32_184
  let c9_i32 : BitVec 32 := 9#32
  let v356 : BitVec 32 := Scalar.addi v355 c9_i32
  let v375 : Index := Scalar.indexCast v356
  let c64_194 : Index := 64#32
  ![v375.toNat, 64]
def k1_off930 (v354 : BitVec 32) : Fin 2 → Nat :=
  let v377 : Index := Scalar.indexCast v354
  let c80_195 : Index := 80#32
  ![v377.toNat, 80]
def k1_off931 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_184 : BitVec 32 := 16#32
  let v355 : BitVec 32 := Scalar.muli arg16 c16_i32_184
  let c9_i32 : BitVec 32 := 9#32
  let v356 : BitVec 32 := Scalar.addi v355 c9_i32
  let v379 : Index := Scalar.indexCast v356
  let c80_196 : Index := 80#32
  ![v379.toNat, 80]
def k1_off932 (v354 : BitVec 32) : Fin 2 → Nat :=
  let v381 : Index := Scalar.indexCast v354
  let c96_197 : Index := 96#32
  ![v381.toNat, 96]
def k1_off933 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_184 : BitVec 32 := 16#32
  let v355 : BitVec 32 := Scalar.muli arg16 c16_i32_184
  let c9_i32 : BitVec 32 := 9#32
  let v356 : BitVec 32 := Scalar.addi v355 c9_i32
  let v383 : Index := Scalar.indexCast v356
  let c96_198 : Index := 96#32
  ![v383.toNat, 96]
def k1_off934 (v354 : BitVec 32) : Fin 2 → Nat :=
  let v385 : Index := Scalar.indexCast v354
  let c112_199 : Index := 112#32
  ![v385.toNat, 112]

def k1_chk58 (v354 : BitVec 32) : Prop :=
  (∀ a, (k1_off920 v354) a + S1x16.size a ≤ S26x128.size a) ∧
  (∀ a, (k1_off922 v354) a + S1x16.size a ≤ S26x128.size a) ∧
  (∀ a, (k1_off924 v354) a + S1x16.size a ≤ S26x128.size a) ∧
  (∀ a, (k1_off926 v354) a + S1x16.size a ≤ S26x128.size a) ∧
  (∀ a, (k1_off928 v354) a + S1x16.size a ≤ S26x128.size a) ∧
  (∀ a, (k1_off930 v354) a + S1x16.size a ≤ S26x128.size a) ∧
  (∀ a, (k1_off932 v354) a + S1x16.size a ≤ S26x128.size a) ∧
  (∀ a, (k1_off934 v354) a + S1x16.size a ≤ S26x128.size a)
theorem k1_off920_inb : ∀ (v354 : BitVec 32) (k1_hw58 : k1_chk58 v354), ∀ a, (k1_off920 v354) a + S1x16.size a ≤ S26x128.size a := fun v354 k1_hw58 => k1_hw58.1
theorem k1_off922_inb : ∀ (v354 : BitVec 32) (k1_hw58 : k1_chk58 v354), ∀ a, (k1_off922 v354) a + S1x16.size a ≤ S26x128.size a := fun v354 k1_hw58 => k1_hw58.2.1
theorem k1_off924_inb : ∀ (v354 : BitVec 32) (k1_hw58 : k1_chk58 v354), ∀ a, (k1_off924 v354) a + S1x16.size a ≤ S26x128.size a := fun v354 k1_hw58 => k1_hw58.2.2.1
theorem k1_off926_inb : ∀ (v354 : BitVec 32) (k1_hw58 : k1_chk58 v354), ∀ a, (k1_off926 v354) a + S1x16.size a ≤ S26x128.size a := fun v354 k1_hw58 => k1_hw58.2.2.2.1
theorem k1_off928_inb : ∀ (v354 : BitVec 32) (k1_hw58 : k1_chk58 v354), ∀ a, (k1_off928 v354) a + S1x16.size a ≤ S26x128.size a := fun v354 k1_hw58 => k1_hw58.2.2.2.2.1
theorem k1_off930_inb : ∀ (v354 : BitVec 32) (k1_hw58 : k1_chk58 v354), ∀ a, (k1_off930 v354) a + S1x16.size a ≤ S26x128.size a := fun v354 k1_hw58 => k1_hw58.2.2.2.2.2.1
theorem k1_off932_inb : ∀ (v354 : BitVec 32) (k1_hw58 : k1_chk58 v354), ∀ a, (k1_off932 v354) a + S1x16.size a ≤ S26x128.size a := fun v354 k1_hw58 => k1_hw58.2.2.2.2.2.2.1
theorem k1_off934_inb : ∀ (v354 : BitVec 32) (k1_hw58 : k1_chk58 v354), ∀ a, (k1_off934 v354) a + S1x16.size a ≤ S26x128.size a := fun v354 k1_hw58 => k1_hw58.2.2.2.2.2.2.2

def k1_off935 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_184 : BitVec 32 := 16#32
  let v355 : BitVec 32 := Scalar.muli arg16 c16_i32_184
  let c9_i32 : BitVec 32 := 9#32
  let v356 : BitVec 32 := Scalar.addi v355 c9_i32
  let v387 : Index := Scalar.indexCast v356
  let c112_200 : Index := 112#32
  ![v387.toNat, 112]
def k1_off936 (v390 : BitVec 32) : Fin 2 → Nat :=
  let v393 : Index := Scalar.indexCast v390
  let c0_202 : Index := 0#32
  ![v393.toNat, 0]

def k1_off937 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_201 : BitVec 32 := 16#32
  let v391 : BitVec 32 := Scalar.muli arg16 c16_i32_201
  let c10_i32 : BitVec 32 := 10#32
  let v392 : BitVec 32 := Scalar.addi v391 c10_i32
  let v395 : Index := Scalar.indexCast v392
  let c0_203 : Index := 0#32
  ![v395.toNat, 0]
def k1_off938 (v390 : BitVec 32) : Fin 2 → Nat :=
  let v397 : Index := Scalar.indexCast v390
  let c16_204 : Index := 16#32
  ![v397.toNat, 16]
def k1_off939 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_201 : BitVec 32 := 16#32
  let v391 : BitVec 32 := Scalar.muli arg16 c16_i32_201
  let c10_i32 : BitVec 32 := 10#32
  let v392 : BitVec 32 := Scalar.addi v391 c10_i32
  let v399 : Index := Scalar.indexCast v392
  let c16_205 : Index := 16#32
  ![v399.toNat, 16]
def k1_off940 (v390 : BitVec 32) : Fin 2 → Nat :=
  let v401 : Index := Scalar.indexCast v390
  let c32_206 : Index := 32#32
  ![v401.toNat, 32]
def k1_off941 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_201 : BitVec 32 := 16#32
  let v391 : BitVec 32 := Scalar.muli arg16 c16_i32_201
  let c10_i32 : BitVec 32 := 10#32
  let v392 : BitVec 32 := Scalar.addi v391 c10_i32
  let v403 : Index := Scalar.indexCast v392
  let c32_207 : Index := 32#32
  ![v403.toNat, 32]
def k1_off942 (v390 : BitVec 32) : Fin 2 → Nat :=
  let v405 : Index := Scalar.indexCast v390
  let c48_208 : Index := 48#32
  ![v405.toNat, 48]
def k1_off943 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_201 : BitVec 32 := 16#32
  let v391 : BitVec 32 := Scalar.muli arg16 c16_i32_201
  let c10_i32 : BitVec 32 := 10#32
  let v392 : BitVec 32 := Scalar.addi v391 c10_i32
  let v407 : Index := Scalar.indexCast v392
  let c48_209 : Index := 48#32
  ![v407.toNat, 48]
def k1_off944 (v390 : BitVec 32) : Fin 2 → Nat :=
  let v409 : Index := Scalar.indexCast v390
  let c64_210 : Index := 64#32
  ![v409.toNat, 64]
def k1_off945 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_201 : BitVec 32 := 16#32
  let v391 : BitVec 32 := Scalar.muli arg16 c16_i32_201
  let c10_i32 : BitVec 32 := 10#32
  let v392 : BitVec 32 := Scalar.addi v391 c10_i32
  let v411 : Index := Scalar.indexCast v392
  let c64_211 : Index := 64#32
  ![v411.toNat, 64]
def k1_off946 (v390 : BitVec 32) : Fin 2 → Nat :=
  let v413 : Index := Scalar.indexCast v390
  let c80_212 : Index := 80#32
  ![v413.toNat, 80]
def k1_off947 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_201 : BitVec 32 := 16#32
  let v391 : BitVec 32 := Scalar.muli arg16 c16_i32_201
  let c10_i32 : BitVec 32 := 10#32
  let v392 : BitVec 32 := Scalar.addi v391 c10_i32
  let v415 : Index := Scalar.indexCast v392
  let c80_213 : Index := 80#32
  ![v415.toNat, 80]
def k1_off948 (v390 : BitVec 32) : Fin 2 → Nat :=
  let v417 : Index := Scalar.indexCast v390
  let c96_214 : Index := 96#32
  ![v417.toNat, 96]
def k1_off949 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_201 : BitVec 32 := 16#32
  let v391 : BitVec 32 := Scalar.muli arg16 c16_i32_201
  let c10_i32 : BitVec 32 := 10#32
  let v392 : BitVec 32 := Scalar.addi v391 c10_i32
  let v419 : Index := Scalar.indexCast v392
  let c96_215 : Index := 96#32
  ![v419.toNat, 96]
def k1_off950 (v390 : BitVec 32) : Fin 2 → Nat :=
  let v421 : Index := Scalar.indexCast v390
  let c112_216 : Index := 112#32
  ![v421.toNat, 112]

def k1_chk59 (v390 : BitVec 32) : Prop :=
  (∀ a, (k1_off936 v390) a + S1x16.size a ≤ S26x128.size a) ∧
  (∀ a, (k1_off938 v390) a + S1x16.size a ≤ S26x128.size a) ∧
  (∀ a, (k1_off940 v390) a + S1x16.size a ≤ S26x128.size a) ∧
  (∀ a, (k1_off942 v390) a + S1x16.size a ≤ S26x128.size a) ∧
  (∀ a, (k1_off944 v390) a + S1x16.size a ≤ S26x128.size a) ∧
  (∀ a, (k1_off946 v390) a + S1x16.size a ≤ S26x128.size a) ∧
  (∀ a, (k1_off948 v390) a + S1x16.size a ≤ S26x128.size a) ∧
  (∀ a, (k1_off950 v390) a + S1x16.size a ≤ S26x128.size a)
theorem k1_off936_inb : ∀ (v390 : BitVec 32) (k1_hw59 : k1_chk59 v390), ∀ a, (k1_off936 v390) a + S1x16.size a ≤ S26x128.size a := fun v390 k1_hw59 => k1_hw59.1
theorem k1_off938_inb : ∀ (v390 : BitVec 32) (k1_hw59 : k1_chk59 v390), ∀ a, (k1_off938 v390) a + S1x16.size a ≤ S26x128.size a := fun v390 k1_hw59 => k1_hw59.2.1
theorem k1_off940_inb : ∀ (v390 : BitVec 32) (k1_hw59 : k1_chk59 v390), ∀ a, (k1_off940 v390) a + S1x16.size a ≤ S26x128.size a := fun v390 k1_hw59 => k1_hw59.2.2.1
theorem k1_off942_inb : ∀ (v390 : BitVec 32) (k1_hw59 : k1_chk59 v390), ∀ a, (k1_off942 v390) a + S1x16.size a ≤ S26x128.size a := fun v390 k1_hw59 => k1_hw59.2.2.2.1
theorem k1_off944_inb : ∀ (v390 : BitVec 32) (k1_hw59 : k1_chk59 v390), ∀ a, (k1_off944 v390) a + S1x16.size a ≤ S26x128.size a := fun v390 k1_hw59 => k1_hw59.2.2.2.2.1
theorem k1_off946_inb : ∀ (v390 : BitVec 32) (k1_hw59 : k1_chk59 v390), ∀ a, (k1_off946 v390) a + S1x16.size a ≤ S26x128.size a := fun v390 k1_hw59 => k1_hw59.2.2.2.2.2.1
theorem k1_off948_inb : ∀ (v390 : BitVec 32) (k1_hw59 : k1_chk59 v390), ∀ a, (k1_off948 v390) a + S1x16.size a ≤ S26x128.size a := fun v390 k1_hw59 => k1_hw59.2.2.2.2.2.2.1
theorem k1_off950_inb : ∀ (v390 : BitVec 32) (k1_hw59 : k1_chk59 v390), ∀ a, (k1_off950 v390) a + S1x16.size a ≤ S26x128.size a := fun v390 k1_hw59 => k1_hw59.2.2.2.2.2.2.2

def k1_off951 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_201 : BitVec 32 := 16#32
  let v391 : BitVec 32 := Scalar.muli arg16 c16_i32_201
  let c10_i32 : BitVec 32 := 10#32
  let v392 : BitVec 32 := Scalar.addi v391 c10_i32
  let v423 : Index := Scalar.indexCast v392
  let c112_217 : Index := 112#32
  ![v423.toNat, 112]
def k1_off952 (v426 : BitVec 32) : Fin 2 → Nat :=
  let v429 : Index := Scalar.indexCast v426
  let c0_219 : Index := 0#32
  ![v429.toNat, 0]

def k1_off953 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_218 : BitVec 32 := 16#32
  let v427 : BitVec 32 := Scalar.muli arg16 c16_i32_218
  let c11_i32 : BitVec 32 := 11#32
  let v428 : BitVec 32 := Scalar.addi v427 c11_i32
  let v431 : Index := Scalar.indexCast v428
  let c0_220 : Index := 0#32
  ![v431.toNat, 0]
def k1_off954 (v426 : BitVec 32) : Fin 2 → Nat :=
  let v433 : Index := Scalar.indexCast v426
  let c16_221 : Index := 16#32
  ![v433.toNat, 16]
def k1_off955 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_218 : BitVec 32 := 16#32
  let v427 : BitVec 32 := Scalar.muli arg16 c16_i32_218
  let c11_i32 : BitVec 32 := 11#32
  let v428 : BitVec 32 := Scalar.addi v427 c11_i32
  let v435 : Index := Scalar.indexCast v428
  let c16_222 : Index := 16#32
  ![v435.toNat, 16]
def k1_off956 (v426 : BitVec 32) : Fin 2 → Nat :=
  let v437 : Index := Scalar.indexCast v426
  let c32_223 : Index := 32#32
  ![v437.toNat, 32]
def k1_off957 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_218 : BitVec 32 := 16#32
  let v427 : BitVec 32 := Scalar.muli arg16 c16_i32_218
  let c11_i32 : BitVec 32 := 11#32
  let v428 : BitVec 32 := Scalar.addi v427 c11_i32
  let v439 : Index := Scalar.indexCast v428
  let c32_224 : Index := 32#32
  ![v439.toNat, 32]
def k1_off958 (v426 : BitVec 32) : Fin 2 → Nat :=
  let v441 : Index := Scalar.indexCast v426
  let c48_225 : Index := 48#32
  ![v441.toNat, 48]
def k1_off959 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_218 : BitVec 32 := 16#32
  let v427 : BitVec 32 := Scalar.muli arg16 c16_i32_218
  let c11_i32 : BitVec 32 := 11#32
  let v428 : BitVec 32 := Scalar.addi v427 c11_i32
  let v443 : Index := Scalar.indexCast v428
  let c48_226 : Index := 48#32
  ![v443.toNat, 48]
def k1_off960 (v426 : BitVec 32) : Fin 2 → Nat :=
  let v445 : Index := Scalar.indexCast v426
  let c64_227 : Index := 64#32
  ![v445.toNat, 64]
def k1_off961 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_218 : BitVec 32 := 16#32
  let v427 : BitVec 32 := Scalar.muli arg16 c16_i32_218
  let c11_i32 : BitVec 32 := 11#32
  let v428 : BitVec 32 := Scalar.addi v427 c11_i32
  let v447 : Index := Scalar.indexCast v428
  let c64_228 : Index := 64#32
  ![v447.toNat, 64]
def k1_off962 (v426 : BitVec 32) : Fin 2 → Nat :=
  let v449 : Index := Scalar.indexCast v426
  let c80_229 : Index := 80#32
  ![v449.toNat, 80]
def k1_off963 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_218 : BitVec 32 := 16#32
  let v427 : BitVec 32 := Scalar.muli arg16 c16_i32_218
  let c11_i32 : BitVec 32 := 11#32
  let v428 : BitVec 32 := Scalar.addi v427 c11_i32
  let v451 : Index := Scalar.indexCast v428
  let c80_230 : Index := 80#32
  ![v451.toNat, 80]
def k1_off964 (v426 : BitVec 32) : Fin 2 → Nat :=
  let v453 : Index := Scalar.indexCast v426
  let c96_231 : Index := 96#32
  ![v453.toNat, 96]
def k1_off965 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_218 : BitVec 32 := 16#32
  let v427 : BitVec 32 := Scalar.muli arg16 c16_i32_218
  let c11_i32 : BitVec 32 := 11#32
  let v428 : BitVec 32 := Scalar.addi v427 c11_i32
  let v455 : Index := Scalar.indexCast v428
  let c96_232 : Index := 96#32
  ![v455.toNat, 96]
def k1_off966 (v426 : BitVec 32) : Fin 2 → Nat :=
  let v457 : Index := Scalar.indexCast v426
  let c112_233 : Index := 112#32
  ![v457.toNat, 112]

def k1_chk60 (v426 : BitVec 32) : Prop :=
  (∀ a, (k1_off952 v426) a + S1x16.size a ≤ S26x128.size a) ∧
  (∀ a, (k1_off954 v426) a + S1x16.size a ≤ S26x128.size a) ∧
  (∀ a, (k1_off956 v426) a + S1x16.size a ≤ S26x128.size a) ∧
  (∀ a, (k1_off958 v426) a + S1x16.size a ≤ S26x128.size a) ∧
  (∀ a, (k1_off960 v426) a + S1x16.size a ≤ S26x128.size a) ∧
  (∀ a, (k1_off962 v426) a + S1x16.size a ≤ S26x128.size a) ∧
  (∀ a, (k1_off964 v426) a + S1x16.size a ≤ S26x128.size a) ∧
  (∀ a, (k1_off966 v426) a + S1x16.size a ≤ S26x128.size a)
theorem k1_off952_inb : ∀ (v426 : BitVec 32) (k1_hw60 : k1_chk60 v426), ∀ a, (k1_off952 v426) a + S1x16.size a ≤ S26x128.size a := fun v426 k1_hw60 => k1_hw60.1
theorem k1_off954_inb : ∀ (v426 : BitVec 32) (k1_hw60 : k1_chk60 v426), ∀ a, (k1_off954 v426) a + S1x16.size a ≤ S26x128.size a := fun v426 k1_hw60 => k1_hw60.2.1
theorem k1_off956_inb : ∀ (v426 : BitVec 32) (k1_hw60 : k1_chk60 v426), ∀ a, (k1_off956 v426) a + S1x16.size a ≤ S26x128.size a := fun v426 k1_hw60 => k1_hw60.2.2.1
theorem k1_off958_inb : ∀ (v426 : BitVec 32) (k1_hw60 : k1_chk60 v426), ∀ a, (k1_off958 v426) a + S1x16.size a ≤ S26x128.size a := fun v426 k1_hw60 => k1_hw60.2.2.2.1
theorem k1_off960_inb : ∀ (v426 : BitVec 32) (k1_hw60 : k1_chk60 v426), ∀ a, (k1_off960 v426) a + S1x16.size a ≤ S26x128.size a := fun v426 k1_hw60 => k1_hw60.2.2.2.2.1
theorem k1_off962_inb : ∀ (v426 : BitVec 32) (k1_hw60 : k1_chk60 v426), ∀ a, (k1_off962 v426) a + S1x16.size a ≤ S26x128.size a := fun v426 k1_hw60 => k1_hw60.2.2.2.2.2.1
theorem k1_off964_inb : ∀ (v426 : BitVec 32) (k1_hw60 : k1_chk60 v426), ∀ a, (k1_off964 v426) a + S1x16.size a ≤ S26x128.size a := fun v426 k1_hw60 => k1_hw60.2.2.2.2.2.2.1
theorem k1_off966_inb : ∀ (v426 : BitVec 32) (k1_hw60 : k1_chk60 v426), ∀ a, (k1_off966 v426) a + S1x16.size a ≤ S26x128.size a := fun v426 k1_hw60 => k1_hw60.2.2.2.2.2.2.2

def k1_off967 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_218 : BitVec 32 := 16#32
  let v427 : BitVec 32 := Scalar.muli arg16 c16_i32_218
  let c11_i32 : BitVec 32 := 11#32
  let v428 : BitVec 32 := Scalar.addi v427 c11_i32
  let v459 : Index := Scalar.indexCast v428
  let c112_234 : Index := 112#32
  ![v459.toNat, 112]
def k1_off968 (v462 : BitVec 32) : Fin 2 → Nat :=
  let v465 : Index := Scalar.indexCast v462
  let c0_236 : Index := 0#32
  ![v465.toNat, 0]

def k1_off969 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_235 : BitVec 32 := 16#32
  let v463 : BitVec 32 := Scalar.muli arg16 c16_i32_235
  let c12_i32 : BitVec 32 := 12#32
  let v464 : BitVec 32 := Scalar.addi v463 c12_i32
  let v467 : Index := Scalar.indexCast v464
  let c0_237 : Index := 0#32
  ![v467.toNat, 0]
def k1_off970 (v462 : BitVec 32) : Fin 2 → Nat :=
  let v469 : Index := Scalar.indexCast v462
  let c16_238 : Index := 16#32
  ![v469.toNat, 16]
def k1_off971 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_235 : BitVec 32 := 16#32
  let v463 : BitVec 32 := Scalar.muli arg16 c16_i32_235
  let c12_i32 : BitVec 32 := 12#32
  let v464 : BitVec 32 := Scalar.addi v463 c12_i32
  let v471 : Index := Scalar.indexCast v464
  let c16_239 : Index := 16#32
  ![v471.toNat, 16]
def k1_off972 (v462 : BitVec 32) : Fin 2 → Nat :=
  let v473 : Index := Scalar.indexCast v462
  let c32_240 : Index := 32#32
  ![v473.toNat, 32]
def k1_off973 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_235 : BitVec 32 := 16#32
  let v463 : BitVec 32 := Scalar.muli arg16 c16_i32_235
  let c12_i32 : BitVec 32 := 12#32
  let v464 : BitVec 32 := Scalar.addi v463 c12_i32
  let v475 : Index := Scalar.indexCast v464
  let c32_241 : Index := 32#32
  ![v475.toNat, 32]
def k1_off974 (v462 : BitVec 32) : Fin 2 → Nat :=
  let v477 : Index := Scalar.indexCast v462
  let c48_242 : Index := 48#32
  ![v477.toNat, 48]
def k1_off975 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_235 : BitVec 32 := 16#32
  let v463 : BitVec 32 := Scalar.muli arg16 c16_i32_235
  let c12_i32 : BitVec 32 := 12#32
  let v464 : BitVec 32 := Scalar.addi v463 c12_i32
  let v479 : Index := Scalar.indexCast v464
  let c48_243 : Index := 48#32
  ![v479.toNat, 48]
def k1_off976 (v462 : BitVec 32) : Fin 2 → Nat :=
  let v481 : Index := Scalar.indexCast v462
  let c64_244 : Index := 64#32
  ![v481.toNat, 64]
def k1_off977 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_235 : BitVec 32 := 16#32
  let v463 : BitVec 32 := Scalar.muli arg16 c16_i32_235
  let c12_i32 : BitVec 32 := 12#32
  let v464 : BitVec 32 := Scalar.addi v463 c12_i32
  let v483 : Index := Scalar.indexCast v464
  let c64_245 : Index := 64#32
  ![v483.toNat, 64]
def k1_off978 (v462 : BitVec 32) : Fin 2 → Nat :=
  let v485 : Index := Scalar.indexCast v462
  let c80_246 : Index := 80#32
  ![v485.toNat, 80]
def k1_off979 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_235 : BitVec 32 := 16#32
  let v463 : BitVec 32 := Scalar.muli arg16 c16_i32_235
  let c12_i32 : BitVec 32 := 12#32
  let v464 : BitVec 32 := Scalar.addi v463 c12_i32
  let v487 : Index := Scalar.indexCast v464
  let c80_247 : Index := 80#32
  ![v487.toNat, 80]
def k1_off980 (v462 : BitVec 32) : Fin 2 → Nat :=
  let v489 : Index := Scalar.indexCast v462
  let c96_248 : Index := 96#32
  ![v489.toNat, 96]
def k1_off981 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_235 : BitVec 32 := 16#32
  let v463 : BitVec 32 := Scalar.muli arg16 c16_i32_235
  let c12_i32 : BitVec 32 := 12#32
  let v464 : BitVec 32 := Scalar.addi v463 c12_i32
  let v491 : Index := Scalar.indexCast v464
  let c96_249 : Index := 96#32
  ![v491.toNat, 96]
def k1_off982 (v462 : BitVec 32) : Fin 2 → Nat :=
  let v493 : Index := Scalar.indexCast v462
  let c112_250 : Index := 112#32
  ![v493.toNat, 112]

def k1_chk61 (v462 : BitVec 32) : Prop :=
  (∀ a, (k1_off968 v462) a + S1x16.size a ≤ S26x128.size a) ∧
  (∀ a, (k1_off970 v462) a + S1x16.size a ≤ S26x128.size a) ∧
  (∀ a, (k1_off972 v462) a + S1x16.size a ≤ S26x128.size a) ∧
  (∀ a, (k1_off974 v462) a + S1x16.size a ≤ S26x128.size a) ∧
  (∀ a, (k1_off976 v462) a + S1x16.size a ≤ S26x128.size a) ∧
  (∀ a, (k1_off978 v462) a + S1x16.size a ≤ S26x128.size a) ∧
  (∀ a, (k1_off980 v462) a + S1x16.size a ≤ S26x128.size a) ∧
  (∀ a, (k1_off982 v462) a + S1x16.size a ≤ S26x128.size a)
theorem k1_off968_inb : ∀ (v462 : BitVec 32) (k1_hw61 : k1_chk61 v462), ∀ a, (k1_off968 v462) a + S1x16.size a ≤ S26x128.size a := fun v462 k1_hw61 => k1_hw61.1
theorem k1_off970_inb : ∀ (v462 : BitVec 32) (k1_hw61 : k1_chk61 v462), ∀ a, (k1_off970 v462) a + S1x16.size a ≤ S26x128.size a := fun v462 k1_hw61 => k1_hw61.2.1
theorem k1_off972_inb : ∀ (v462 : BitVec 32) (k1_hw61 : k1_chk61 v462), ∀ a, (k1_off972 v462) a + S1x16.size a ≤ S26x128.size a := fun v462 k1_hw61 => k1_hw61.2.2.1
theorem k1_off974_inb : ∀ (v462 : BitVec 32) (k1_hw61 : k1_chk61 v462), ∀ a, (k1_off974 v462) a + S1x16.size a ≤ S26x128.size a := fun v462 k1_hw61 => k1_hw61.2.2.2.1
theorem k1_off976_inb : ∀ (v462 : BitVec 32) (k1_hw61 : k1_chk61 v462), ∀ a, (k1_off976 v462) a + S1x16.size a ≤ S26x128.size a := fun v462 k1_hw61 => k1_hw61.2.2.2.2.1
theorem k1_off978_inb : ∀ (v462 : BitVec 32) (k1_hw61 : k1_chk61 v462), ∀ a, (k1_off978 v462) a + S1x16.size a ≤ S26x128.size a := fun v462 k1_hw61 => k1_hw61.2.2.2.2.2.1
theorem k1_off980_inb : ∀ (v462 : BitVec 32) (k1_hw61 : k1_chk61 v462), ∀ a, (k1_off980 v462) a + S1x16.size a ≤ S26x128.size a := fun v462 k1_hw61 => k1_hw61.2.2.2.2.2.2.1
theorem k1_off982_inb : ∀ (v462 : BitVec 32) (k1_hw61 : k1_chk61 v462), ∀ a, (k1_off982 v462) a + S1x16.size a ≤ S26x128.size a := fun v462 k1_hw61 => k1_hw61.2.2.2.2.2.2.2

def k1_off983 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_235 : BitVec 32 := 16#32
  let v463 : BitVec 32 := Scalar.muli arg16 c16_i32_235
  let c12_i32 : BitVec 32 := 12#32
  let v464 : BitVec 32 := Scalar.addi v463 c12_i32
  let v495 : Index := Scalar.indexCast v464
  let c112_251 : Index := 112#32
  ![v495.toNat, 112]
def k1_off984 (v498 : BitVec 32) : Fin 2 → Nat :=
  let v501 : Index := Scalar.indexCast v498
  let c0_253 : Index := 0#32
  ![v501.toNat, 0]

def k1_off985 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_252 : BitVec 32 := 16#32
  let v499 : BitVec 32 := Scalar.muli arg16 c16_i32_252
  let c13_i32 : BitVec 32 := 13#32
  let v500 : BitVec 32 := Scalar.addi v499 c13_i32
  let v503 : Index := Scalar.indexCast v500
  let c0_254 : Index := 0#32
  ![v503.toNat, 0]
def k1_off986 (v498 : BitVec 32) : Fin 2 → Nat :=
  let v505 : Index := Scalar.indexCast v498
  let c16_255 : Index := 16#32
  ![v505.toNat, 16]
def k1_off987 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_252 : BitVec 32 := 16#32
  let v499 : BitVec 32 := Scalar.muli arg16 c16_i32_252
  let c13_i32 : BitVec 32 := 13#32
  let v500 : BitVec 32 := Scalar.addi v499 c13_i32
  let v507 : Index := Scalar.indexCast v500
  let c16_256 : Index := 16#32
  ![v507.toNat, 16]
def k1_off988 (v498 : BitVec 32) : Fin 2 → Nat :=
  let v509 : Index := Scalar.indexCast v498
  let c32_257 : Index := 32#32
  ![v509.toNat, 32]
def k1_off989 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_252 : BitVec 32 := 16#32
  let v499 : BitVec 32 := Scalar.muli arg16 c16_i32_252
  let c13_i32 : BitVec 32 := 13#32
  let v500 : BitVec 32 := Scalar.addi v499 c13_i32
  let v511 : Index := Scalar.indexCast v500
  let c32_258 : Index := 32#32
  ![v511.toNat, 32]
def k1_off990 (v498 : BitVec 32) : Fin 2 → Nat :=
  let v513 : Index := Scalar.indexCast v498
  let c48_259 : Index := 48#32
  ![v513.toNat, 48]
def k1_off991 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_252 : BitVec 32 := 16#32
  let v499 : BitVec 32 := Scalar.muli arg16 c16_i32_252
  let c13_i32 : BitVec 32 := 13#32
  let v500 : BitVec 32 := Scalar.addi v499 c13_i32
  let v515 : Index := Scalar.indexCast v500
  let c48_260 : Index := 48#32
  ![v515.toNat, 48]
def k1_off992 (v498 : BitVec 32) : Fin 2 → Nat :=
  let v517 : Index := Scalar.indexCast v498
  let c64_261 : Index := 64#32
  ![v517.toNat, 64]
def k1_off993 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_252 : BitVec 32 := 16#32
  let v499 : BitVec 32 := Scalar.muli arg16 c16_i32_252
  let c13_i32 : BitVec 32 := 13#32
  let v500 : BitVec 32 := Scalar.addi v499 c13_i32
  let v519 : Index := Scalar.indexCast v500
  let c64_262 : Index := 64#32
  ![v519.toNat, 64]
def k1_off994 (v498 : BitVec 32) : Fin 2 → Nat :=
  let v521 : Index := Scalar.indexCast v498
  let c80_263 : Index := 80#32
  ![v521.toNat, 80]
def k1_off995 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_252 : BitVec 32 := 16#32
  let v499 : BitVec 32 := Scalar.muli arg16 c16_i32_252
  let c13_i32 : BitVec 32 := 13#32
  let v500 : BitVec 32 := Scalar.addi v499 c13_i32
  let v523 : Index := Scalar.indexCast v500
  let c80_264 : Index := 80#32
  ![v523.toNat, 80]
def k1_off996 (v498 : BitVec 32) : Fin 2 → Nat :=
  let v525 : Index := Scalar.indexCast v498
  let c96_265 : Index := 96#32
  ![v525.toNat, 96]
def k1_off997 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_252 : BitVec 32 := 16#32
  let v499 : BitVec 32 := Scalar.muli arg16 c16_i32_252
  let c13_i32 : BitVec 32 := 13#32
  let v500 : BitVec 32 := Scalar.addi v499 c13_i32
  let v527 : Index := Scalar.indexCast v500
  let c96_266 : Index := 96#32
  ![v527.toNat, 96]
def k1_off998 (v498 : BitVec 32) : Fin 2 → Nat :=
  let v529 : Index := Scalar.indexCast v498
  let c112_267 : Index := 112#32
  ![v529.toNat, 112]

def k1_chk62 (v498 : BitVec 32) : Prop :=
  (∀ a, (k1_off984 v498) a + S1x16.size a ≤ S26x128.size a) ∧
  (∀ a, (k1_off986 v498) a + S1x16.size a ≤ S26x128.size a) ∧
  (∀ a, (k1_off988 v498) a + S1x16.size a ≤ S26x128.size a) ∧
  (∀ a, (k1_off990 v498) a + S1x16.size a ≤ S26x128.size a) ∧
  (∀ a, (k1_off992 v498) a + S1x16.size a ≤ S26x128.size a) ∧
  (∀ a, (k1_off994 v498) a + S1x16.size a ≤ S26x128.size a) ∧
  (∀ a, (k1_off996 v498) a + S1x16.size a ≤ S26x128.size a) ∧
  (∀ a, (k1_off998 v498) a + S1x16.size a ≤ S26x128.size a)
theorem k1_off984_inb : ∀ (v498 : BitVec 32) (k1_hw62 : k1_chk62 v498), ∀ a, (k1_off984 v498) a + S1x16.size a ≤ S26x128.size a := fun v498 k1_hw62 => k1_hw62.1
theorem k1_off986_inb : ∀ (v498 : BitVec 32) (k1_hw62 : k1_chk62 v498), ∀ a, (k1_off986 v498) a + S1x16.size a ≤ S26x128.size a := fun v498 k1_hw62 => k1_hw62.2.1
theorem k1_off988_inb : ∀ (v498 : BitVec 32) (k1_hw62 : k1_chk62 v498), ∀ a, (k1_off988 v498) a + S1x16.size a ≤ S26x128.size a := fun v498 k1_hw62 => k1_hw62.2.2.1
theorem k1_off990_inb : ∀ (v498 : BitVec 32) (k1_hw62 : k1_chk62 v498), ∀ a, (k1_off990 v498) a + S1x16.size a ≤ S26x128.size a := fun v498 k1_hw62 => k1_hw62.2.2.2.1
theorem k1_off992_inb : ∀ (v498 : BitVec 32) (k1_hw62 : k1_chk62 v498), ∀ a, (k1_off992 v498) a + S1x16.size a ≤ S26x128.size a := fun v498 k1_hw62 => k1_hw62.2.2.2.2.1
theorem k1_off994_inb : ∀ (v498 : BitVec 32) (k1_hw62 : k1_chk62 v498), ∀ a, (k1_off994 v498) a + S1x16.size a ≤ S26x128.size a := fun v498 k1_hw62 => k1_hw62.2.2.2.2.2.1
theorem k1_off996_inb : ∀ (v498 : BitVec 32) (k1_hw62 : k1_chk62 v498), ∀ a, (k1_off996 v498) a + S1x16.size a ≤ S26x128.size a := fun v498 k1_hw62 => k1_hw62.2.2.2.2.2.2.1
theorem k1_off998_inb : ∀ (v498 : BitVec 32) (k1_hw62 : k1_chk62 v498), ∀ a, (k1_off998 v498) a + S1x16.size a ≤ S26x128.size a := fun v498 k1_hw62 => k1_hw62.2.2.2.2.2.2.2

def k1_off999 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_252 : BitVec 32 := 16#32
  let v499 : BitVec 32 := Scalar.muli arg16 c16_i32_252
  let c13_i32 : BitVec 32 := 13#32
  let v500 : BitVec 32 := Scalar.addi v499 c13_i32
  let v531 : Index := Scalar.indexCast v500
  let c112_268 : Index := 112#32
  ![v531.toNat, 112]
def k1_off1000 (v534 : BitVec 32) : Fin 2 → Nat :=
  let v537 : Index := Scalar.indexCast v534
  let c0_270 : Index := 0#32
  ![v537.toNat, 0]

def k1_off1001 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_269 : BitVec 32 := 16#32
  let v535 : BitVec 32 := Scalar.muli arg16 c16_i32_269
  let c14_i32 : BitVec 32 := 14#32
  let v536 : BitVec 32 := Scalar.addi v535 c14_i32
  let v539 : Index := Scalar.indexCast v536
  let c0_271 : Index := 0#32
  ![v539.toNat, 0]
def k1_off1002 (v534 : BitVec 32) : Fin 2 → Nat :=
  let v541 : Index := Scalar.indexCast v534
  let c16_272 : Index := 16#32
  ![v541.toNat, 16]
def k1_off1003 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_269 : BitVec 32 := 16#32
  let v535 : BitVec 32 := Scalar.muli arg16 c16_i32_269
  let c14_i32 : BitVec 32 := 14#32
  let v536 : BitVec 32 := Scalar.addi v535 c14_i32
  let v543 : Index := Scalar.indexCast v536
  let c16_273 : Index := 16#32
  ![v543.toNat, 16]
def k1_off1004 (v534 : BitVec 32) : Fin 2 → Nat :=
  let v545 : Index := Scalar.indexCast v534
  let c32_274 : Index := 32#32
  ![v545.toNat, 32]
def k1_off1005 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_269 : BitVec 32 := 16#32
  let v535 : BitVec 32 := Scalar.muli arg16 c16_i32_269
  let c14_i32 : BitVec 32 := 14#32
  let v536 : BitVec 32 := Scalar.addi v535 c14_i32
  let v547 : Index := Scalar.indexCast v536
  let c32_275 : Index := 32#32
  ![v547.toNat, 32]
def k1_off1006 (v534 : BitVec 32) : Fin 2 → Nat :=
  let v549 : Index := Scalar.indexCast v534
  let c48_276 : Index := 48#32
  ![v549.toNat, 48]
def k1_off1007 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_269 : BitVec 32 := 16#32
  let v535 : BitVec 32 := Scalar.muli arg16 c16_i32_269
  let c14_i32 : BitVec 32 := 14#32
  let v536 : BitVec 32 := Scalar.addi v535 c14_i32
  let v551 : Index := Scalar.indexCast v536
  let c48_277 : Index := 48#32
  ![v551.toNat, 48]
def k1_off1008 (v534 : BitVec 32) : Fin 2 → Nat :=
  let v553 : Index := Scalar.indexCast v534
  let c64_278 : Index := 64#32
  ![v553.toNat, 64]
def k1_off1009 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_269 : BitVec 32 := 16#32
  let v535 : BitVec 32 := Scalar.muli arg16 c16_i32_269
  let c14_i32 : BitVec 32 := 14#32
  let v536 : BitVec 32 := Scalar.addi v535 c14_i32
  let v555 : Index := Scalar.indexCast v536
  let c64_279 : Index := 64#32
  ![v555.toNat, 64]
def k1_off1010 (v534 : BitVec 32) : Fin 2 → Nat :=
  let v557 : Index := Scalar.indexCast v534
  let c80_280 : Index := 80#32
  ![v557.toNat, 80]
def k1_off1011 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_269 : BitVec 32 := 16#32
  let v535 : BitVec 32 := Scalar.muli arg16 c16_i32_269
  let c14_i32 : BitVec 32 := 14#32
  let v536 : BitVec 32 := Scalar.addi v535 c14_i32
  let v559 : Index := Scalar.indexCast v536
  let c80_281 : Index := 80#32
  ![v559.toNat, 80]
def k1_off1012 (v534 : BitVec 32) : Fin 2 → Nat :=
  let v561 : Index := Scalar.indexCast v534
  let c96_282 : Index := 96#32
  ![v561.toNat, 96]
def k1_off1013 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_269 : BitVec 32 := 16#32
  let v535 : BitVec 32 := Scalar.muli arg16 c16_i32_269
  let c14_i32 : BitVec 32 := 14#32
  let v536 : BitVec 32 := Scalar.addi v535 c14_i32
  let v563 : Index := Scalar.indexCast v536
  let c96_283 : Index := 96#32
  ![v563.toNat, 96]
def k1_off1014 (v534 : BitVec 32) : Fin 2 → Nat :=
  let v565 : Index := Scalar.indexCast v534
  let c112_284 : Index := 112#32
  ![v565.toNat, 112]

def k1_chk63 (v534 : BitVec 32) : Prop :=
  (∀ a, (k1_off1000 v534) a + S1x16.size a ≤ S26x128.size a) ∧
  (∀ a, (k1_off1002 v534) a + S1x16.size a ≤ S26x128.size a) ∧
  (∀ a, (k1_off1004 v534) a + S1x16.size a ≤ S26x128.size a) ∧
  (∀ a, (k1_off1006 v534) a + S1x16.size a ≤ S26x128.size a) ∧
  (∀ a, (k1_off1008 v534) a + S1x16.size a ≤ S26x128.size a) ∧
  (∀ a, (k1_off1010 v534) a + S1x16.size a ≤ S26x128.size a) ∧
  (∀ a, (k1_off1012 v534) a + S1x16.size a ≤ S26x128.size a) ∧
  (∀ a, (k1_off1014 v534) a + S1x16.size a ≤ S26x128.size a)
theorem k1_off1000_inb : ∀ (v534 : BitVec 32) (k1_hw63 : k1_chk63 v534), ∀ a, (k1_off1000 v534) a + S1x16.size a ≤ S26x128.size a := fun v534 k1_hw63 => k1_hw63.1
theorem k1_off1002_inb : ∀ (v534 : BitVec 32) (k1_hw63 : k1_chk63 v534), ∀ a, (k1_off1002 v534) a + S1x16.size a ≤ S26x128.size a := fun v534 k1_hw63 => k1_hw63.2.1
theorem k1_off1004_inb : ∀ (v534 : BitVec 32) (k1_hw63 : k1_chk63 v534), ∀ a, (k1_off1004 v534) a + S1x16.size a ≤ S26x128.size a := fun v534 k1_hw63 => k1_hw63.2.2.1
theorem k1_off1006_inb : ∀ (v534 : BitVec 32) (k1_hw63 : k1_chk63 v534), ∀ a, (k1_off1006 v534) a + S1x16.size a ≤ S26x128.size a := fun v534 k1_hw63 => k1_hw63.2.2.2.1
theorem k1_off1008_inb : ∀ (v534 : BitVec 32) (k1_hw63 : k1_chk63 v534), ∀ a, (k1_off1008 v534) a + S1x16.size a ≤ S26x128.size a := fun v534 k1_hw63 => k1_hw63.2.2.2.2.1
theorem k1_off1010_inb : ∀ (v534 : BitVec 32) (k1_hw63 : k1_chk63 v534), ∀ a, (k1_off1010 v534) a + S1x16.size a ≤ S26x128.size a := fun v534 k1_hw63 => k1_hw63.2.2.2.2.2.1
theorem k1_off1012_inb : ∀ (v534 : BitVec 32) (k1_hw63 : k1_chk63 v534), ∀ a, (k1_off1012 v534) a + S1x16.size a ≤ S26x128.size a := fun v534 k1_hw63 => k1_hw63.2.2.2.2.2.2.1
theorem k1_off1014_inb : ∀ (v534 : BitVec 32) (k1_hw63 : k1_chk63 v534), ∀ a, (k1_off1014 v534) a + S1x16.size a ≤ S26x128.size a := fun v534 k1_hw63 => k1_hw63.2.2.2.2.2.2.2

def k1_off1015 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_269 : BitVec 32 := 16#32
  let v535 : BitVec 32 := Scalar.muli arg16 c16_i32_269
  let c14_i32 : BitVec 32 := 14#32
  let v536 : BitVec 32 := Scalar.addi v535 c14_i32
  let v567 : Index := Scalar.indexCast v536
  let c112_285 : Index := 112#32
  ![v567.toNat, 112]
def k1_off1016 (v570 : BitVec 32) : Fin 2 → Nat :=
  let v573 : Index := Scalar.indexCast v570
  let c0_287 : Index := 0#32
  ![v573.toNat, 0]

def k1_off1017 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_286 : BitVec 32 := 16#32
  let v571 : BitVec 32 := Scalar.muli arg16 c16_i32_286
  let c15_i32 : BitVec 32 := 15#32
  let v572 : BitVec 32 := Scalar.addi v571 c15_i32
  let v575 : Index := Scalar.indexCast v572
  let c0_288 : Index := 0#32
  ![v575.toNat, 0]
def k1_off1018 (v570 : BitVec 32) : Fin 2 → Nat :=
  let v577 : Index := Scalar.indexCast v570
  let c16_289 : Index := 16#32
  ![v577.toNat, 16]
def k1_off1019 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_286 : BitVec 32 := 16#32
  let v571 : BitVec 32 := Scalar.muli arg16 c16_i32_286
  let c15_i32 : BitVec 32 := 15#32
  let v572 : BitVec 32 := Scalar.addi v571 c15_i32
  let v579 : Index := Scalar.indexCast v572
  let c16_290 : Index := 16#32
  ![v579.toNat, 16]
def k1_off1020 (v570 : BitVec 32) : Fin 2 → Nat :=
  let v581 : Index := Scalar.indexCast v570
  let c32_291 : Index := 32#32
  ![v581.toNat, 32]
def k1_off1021 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_286 : BitVec 32 := 16#32
  let v571 : BitVec 32 := Scalar.muli arg16 c16_i32_286
  let c15_i32 : BitVec 32 := 15#32
  let v572 : BitVec 32 := Scalar.addi v571 c15_i32
  let v583 : Index := Scalar.indexCast v572
  let c32_292 : Index := 32#32
  ![v583.toNat, 32]
def k1_off1022 (v570 : BitVec 32) : Fin 2 → Nat :=
  let v585 : Index := Scalar.indexCast v570
  let c48_293 : Index := 48#32
  ![v585.toNat, 48]
def k1_off1023 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_286 : BitVec 32 := 16#32
  let v571 : BitVec 32 := Scalar.muli arg16 c16_i32_286
  let c15_i32 : BitVec 32 := 15#32
  let v572 : BitVec 32 := Scalar.addi v571 c15_i32
  let v587 : Index := Scalar.indexCast v572
  let c48_294 : Index := 48#32
  ![v587.toNat, 48]
def k1_off1024 (v570 : BitVec 32) : Fin 2 → Nat :=
  let v589 : Index := Scalar.indexCast v570
  let c64_295 : Index := 64#32
  ![v589.toNat, 64]
def k1_off1025 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_286 : BitVec 32 := 16#32
  let v571 : BitVec 32 := Scalar.muli arg16 c16_i32_286
  let c15_i32 : BitVec 32 := 15#32
  let v572 : BitVec 32 := Scalar.addi v571 c15_i32
  let v591 : Index := Scalar.indexCast v572
  let c64_296 : Index := 64#32
  ![v591.toNat, 64]
def k1_off1026 (v570 : BitVec 32) : Fin 2 → Nat :=
  let v593 : Index := Scalar.indexCast v570
  let c80_297 : Index := 80#32
  ![v593.toNat, 80]
def k1_off1027 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_286 : BitVec 32 := 16#32
  let v571 : BitVec 32 := Scalar.muli arg16 c16_i32_286
  let c15_i32 : BitVec 32 := 15#32
  let v572 : BitVec 32 := Scalar.addi v571 c15_i32
  let v595 : Index := Scalar.indexCast v572
  let c80_298 : Index := 80#32
  ![v595.toNat, 80]
def k1_off1028 (v570 : BitVec 32) : Fin 2 → Nat :=
  let v597 : Index := Scalar.indexCast v570
  let c96_299 : Index := 96#32
  ![v597.toNat, 96]
def k1_off1029 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_286 : BitVec 32 := 16#32
  let v571 : BitVec 32 := Scalar.muli arg16 c16_i32_286
  let c15_i32 : BitVec 32 := 15#32
  let v572 : BitVec 32 := Scalar.addi v571 c15_i32
  let v599 : Index := Scalar.indexCast v572
  let c96_300 : Index := 96#32
  ![v599.toNat, 96]
def k1_off1030 (v570 : BitVec 32) : Fin 2 → Nat :=
  let v601 : Index := Scalar.indexCast v570
  let c112_301 : Index := 112#32
  ![v601.toNat, 112]

def k1_chk64 (v570 : BitVec 32) : Prop :=
  (∀ a, (k1_off1016 v570) a + S1x16.size a ≤ S26x128.size a) ∧
  (∀ a, (k1_off1018 v570) a + S1x16.size a ≤ S26x128.size a) ∧
  (∀ a, (k1_off1020 v570) a + S1x16.size a ≤ S26x128.size a) ∧
  (∀ a, (k1_off1022 v570) a + S1x16.size a ≤ S26x128.size a) ∧
  (∀ a, (k1_off1024 v570) a + S1x16.size a ≤ S26x128.size a) ∧
  (∀ a, (k1_off1026 v570) a + S1x16.size a ≤ S26x128.size a) ∧
  (∀ a, (k1_off1028 v570) a + S1x16.size a ≤ S26x128.size a) ∧
  (∀ a, (k1_off1030 v570) a + S1x16.size a ≤ S26x128.size a)
theorem k1_off1016_inb : ∀ (v570 : BitVec 32) (k1_hw64 : k1_chk64 v570), ∀ a, (k1_off1016 v570) a + S1x16.size a ≤ S26x128.size a := fun v570 k1_hw64 => k1_hw64.1
theorem k1_off1018_inb : ∀ (v570 : BitVec 32) (k1_hw64 : k1_chk64 v570), ∀ a, (k1_off1018 v570) a + S1x16.size a ≤ S26x128.size a := fun v570 k1_hw64 => k1_hw64.2.1
theorem k1_off1020_inb : ∀ (v570 : BitVec 32) (k1_hw64 : k1_chk64 v570), ∀ a, (k1_off1020 v570) a + S1x16.size a ≤ S26x128.size a := fun v570 k1_hw64 => k1_hw64.2.2.1
theorem k1_off1022_inb : ∀ (v570 : BitVec 32) (k1_hw64 : k1_chk64 v570), ∀ a, (k1_off1022 v570) a + S1x16.size a ≤ S26x128.size a := fun v570 k1_hw64 => k1_hw64.2.2.2.1
theorem k1_off1024_inb : ∀ (v570 : BitVec 32) (k1_hw64 : k1_chk64 v570), ∀ a, (k1_off1024 v570) a + S1x16.size a ≤ S26x128.size a := fun v570 k1_hw64 => k1_hw64.2.2.2.2.1
theorem k1_off1026_inb : ∀ (v570 : BitVec 32) (k1_hw64 : k1_chk64 v570), ∀ a, (k1_off1026 v570) a + S1x16.size a ≤ S26x128.size a := fun v570 k1_hw64 => k1_hw64.2.2.2.2.2.1
theorem k1_off1028_inb : ∀ (v570 : BitVec 32) (k1_hw64 : k1_chk64 v570), ∀ a, (k1_off1028 v570) a + S1x16.size a ≤ S26x128.size a := fun v570 k1_hw64 => k1_hw64.2.2.2.2.2.2.1
theorem k1_off1030_inb : ∀ (v570 : BitVec 32) (k1_hw64 : k1_chk64 v570), ∀ a, (k1_off1030 v570) a + S1x16.size a ≤ S26x128.size a := fun v570 k1_hw64 => k1_hw64.2.2.2.2.2.2.2

def k1_off1031 (k1_t4 : Fin k1_t4_loop.trips) : Fin 2 → Nat :=
  let c0_i32_23 : BitVec 32 := 0#32
  let c1_i32_25 : BitVec 32 := 1#32
  let arg16 : BitVec 32 := Scf.iv c0_i32_23 c1_i32_25 k1_t4
  let c16_i32_286 : BitVec 32 := 16#32
  let v571 : BitVec 32 := Scalar.muli arg16 c16_i32_286
  let c15_i32 : BitVec 32 := 15#32
  let v572 : BitVec 32 := Scalar.addi v571 c15_i32
  let v603 : Index := Scalar.indexCast v572
  let c112_302 : Index := 112#32
  ![v603.toNat, 112]
abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2048x768 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S2048x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S2x2048 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x2 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2048x2 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x384 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S2048x768 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S2048x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S2x2048 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x2 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S2048x2 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S16384x384 : Shape := ⟨2, ![16384, 384]⟩
abbrev S16384 : Shape := ⟨1, ![16384]⟩
abbrev S100x128 : Shape := ⟨2, ![100, 128]⟩
abbrev S26x128 : Shape := ⟨2, ![26, 128]⟩
abbrev S128x128 : Shape := ⟨2, ![128, 128]⟩
abbrev S128 : Shape := ⟨1, ![128]⟩
abbrev S2048x768 : Shape := ⟨2, ![2048, 768]⟩
abbrev S2048 : Shape := ⟨1, ![2048]⟩
abbrev S2x2048 : Shape := ⟨2, ![2, 2048]⟩
abbrev S2 : Shape := ⟨1, ![2]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩
abbrev S1x128 : Shape := ⟨2, ![1, 128]⟩
abbrev S16384x768 : Shape := ⟨2, ![16384, 768]⟩
abbrev S768x2048 : Shape := ⟨2, ![768, 2048]⟩
abbrev S16384x2048 : Shape := ⟨2, ![16384, 2048]⟩
abbrev S1x2048 : Shape := ⟨2, ![1, 2048]⟩
abbrev S2048x2 : Shape := ⟨2, ![2048, 2]⟩
abbrev S16384x2 : Shape := ⟨2, ![16384, 2]⟩
abbrev S1x2 : Shape := ⟨2, ![1, 2]⟩

abbrev nBuf : Space → Nat
  | .hbm => 77
  | .vmem => 0
  | .smem => 0
  | _ => 0

abbrev bufTy : (tb : Table) → Fin (tcTables nBuf tb) → BufTy
  | .hbm, ⟨0, _⟩ => ⟨S16384x384, .f32⟩
  | .hbm, ⟨1, _⟩ => ⟨S16384, .i32⟩
  | .hbm, ⟨2, _⟩ => ⟨S16384, .i32⟩
  | .hbm, ⟨3, _⟩ => ⟨S100x128, .f32⟩
  | .hbm, ⟨4, _⟩ => ⟨S26x128, .f32⟩
  | .hbm, ⟨5, _⟩ => ⟨S128x128, .f32⟩
  | .hbm, ⟨6, _⟩ => ⟨S128, .f32⟩
  | .hbm, ⟨7, _⟩ => ⟨S2048x768, .f32⟩
  | .hbm, ⟨8, _⟩ => ⟨S2048, .f32⟩
  | .hbm, ⟨9, _⟩ => ⟨S2x2048, .f32⟩
  | .hbm, ⟨10, _⟩ => ⟨S2, .f32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S16384, .i32⟩
  | .hbm, ⟨18, _⟩ => ⟨S16384x1, .i32⟩
  | .hbm, ⟨19, _⟩ => ⟨S1, .i32⟩
  | .hbm, ⟨20, _⟩ => ⟨S_, .i32⟩
  | .hbm, ⟨21, _⟩ => ⟨S16384x1, .i32⟩
  | .hbm, ⟨22, _⟩ => ⟨S16384x1, .i1⟩
  | .hbm, ⟨23, _⟩ => ⟨S1x1, .i32⟩
  | .hbm, ⟨24, _⟩ => ⟨S16384x1, .i32⟩
  | .hbm, ⟨25, _⟩ => ⟨S16384x1, .i1⟩
  | .hbm, ⟨26, _⟩ => ⟨S16384x1, .i1⟩
  | .hbm, ⟨27, _⟩ => ⟨S_, .i1⟩
  | .hbm, ⟨28, _⟩ => ⟨S16384, .i1⟩
  | .hbm, ⟨29, _⟩ => ⟨S16384x128, .f32⟩
  | .hbm, ⟨30, _⟩ => ⟨S16384x128, .i1⟩
  | .hbm, ⟨31, _⟩ => ⟨S_, .f32⟩
  | .hbm, ⟨32, _⟩ => ⟨S16384x128, .f32⟩
  | .hbm, ⟨33, _⟩ => ⟨S16384x128, .f32⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S_, .i32⟩
  | .hbm, ⟨38, _⟩ => ⟨S16384, .i32⟩
  | .hbm, ⟨39, _⟩ => ⟨S16384, .i32⟩
  | .hbm, ⟨40, _⟩ => ⟨S16384, .i32⟩
  | .hbm, ⟨41, _⟩ => ⟨S16384x1, .i32⟩
  | .hbm, ⟨42, _⟩ => ⟨S1, .i32⟩
  | .hbm, ⟨43, _⟩ => ⟨S_, .i32⟩
  | .hbm, ⟨44, _⟩ => ⟨S16384x1, .i32⟩
  | .hbm, ⟨45, _⟩ => ⟨S16384x1, .i1⟩
  | .hbm, ⟨46, _⟩ => ⟨S1x1, .i32⟩
  | .hbm, ⟨47, _⟩ => ⟨S16384x1, .i32⟩
  | .hbm, ⟨48, _⟩ => ⟨S16384x1, .i1⟩
  | .hbm, ⟨49, _⟩ => ⟨S16384x1, .i1⟩
  | .hbm, ⟨50, _⟩ => ⟨S_, .i1⟩
  | .hbm, ⟨51, _⟩ => ⟨S16384, .i1⟩
  | .hbm, ⟨52, _⟩ => ⟨S16384x128, .f32⟩
  | .hbm, ⟨53, _⟩ => ⟨S16384x128, .i1⟩
  | .hbm, ⟨54, _⟩ => ⟨S_, .f32⟩
  | .hbm, ⟨55, _⟩ => ⟨S16384x128, .f32⟩
  | .hbm, ⟨56, _⟩ => ⟨S16384x128, .f32⟩
  | .hbm, ⟨57, _⟩ => ⟨S16384x128, .f32⟩
  | .hbm, ⟨58, _⟩ => ⟨S128x128, .f32⟩
  | .hbm, ⟨59, _⟩ => ⟨S16384x128, .f32⟩
  | .hbm, ⟨60, _⟩ => ⟨S1x128, .f32⟩
  | .hbm, ⟨61, _⟩ => ⟨S16384x128, .f32⟩
  | .hbm, ⟨62, _⟩ => ⟨S16384x128, .f32⟩
  | .hbm, ⟨63, _⟩ => ⟨S16384x768, .f32⟩
  | .hbm, ⟨64, _⟩ => ⟨S768x2048, .f32⟩
  | .hbm, ⟨65, _⟩ => ⟨S16384x2048, .f32⟩
  | .hbm, ⟨66, _⟩ => ⟨S1x2048, .f32⟩
  | .hbm, ⟨67, _⟩ => ⟨S16384x2048, .f32⟩
  | .hbm, ⟨68, _⟩ => ⟨S16384x2048, .f32⟩
  | .hbm, ⟨69, _⟩ => ⟨S_, .f32⟩
  | .hbm, ⟨70, _⟩ => ⟨S16384x2048, .f32⟩
  | .hbm, ⟨71, _⟩ => ⟨S16384x2048, .f32⟩
  | .hbm, ⟨72, _⟩ => ⟨S2048x2, .f32⟩
  | .hbm, ⟨73, _⟩ => ⟨S16384x2, .f32⟩
  | .hbm, ⟨74, _⟩ => ⟨S1x2, .f32⟩
  | .hbm, ⟨75, _⟩ => ⟨S16384x2, .f32⟩
  | .hbm, ⟨76, _⟩ => ⟨S16384x2, .f32⟩
  | _, _ => ⟨S16384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v1 : Ref sig .tc := ⟨.hbm, 56, rfl⟩
abbrev main_v2 : Ref sig .tc := ⟨.hbm, 57, rfl⟩
abbrev main_v3 : Ref sig .tc := ⟨.hbm, 58, rfl⟩
abbrev main_v4 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_call2_cst : Ref sig .tc := ⟨.hbm, 69, rfl⟩
abbrev main_call2_v0 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩

abbrev nD : Nat := 1
abbrev τ : Topo := Topo.v7x

variable {F : FTy → Type} [FloatOps F]
-- ==== Proof.Trip.lean ====
/-
  One trip of the kernel's gather loops, as one program.

  Each SparseCore tile gathers its rows in four loops of eight trips. A trip loads sixteen ids and, for each of
  them, checks that the id addresses a row of the table and copies that row, in eight pieces of sixteen lanes,
  into one row of a staging buffer. The printed kernel spells every piece out; `trip` is the same program written
  once over the table, the ids' buffer, the staging buffer and the chunk's first id.
-/
module

public import proofs.«01_k».proof.Proof.Gen.KernelIdeal
public import Idealize.ShloMosaic.Lib.Scf
public import Idealize.ShloMosaic.Lib.Writes

@[expose] public section

noncomputable section

namespace Cert.KernelIdeal.Tile

open Cert.KernelIdeal Cert.KernelIdeal.Gen Idealize.ShloMosaic Idealize.SL.Sem

variable {F : FTy → Type} [FloatOps F]

/-- The program of one vector subcore. -/
abbrev TProg (F : FTy → Type) (c : Fin τ.nSC) (w : Fin τ.nSub) := Prog (TpuEff nD τ sig (Elt F) Λ₀ (.scVector c w))

/-- A table of `n` rows of 128 lanes. -/
abbrev Tab (n : ℕ) : Shape := ⟨2, ![n, 128]⟩

/-- The lane at which piece `p` of a row starts. -/
def lane : Fin 8 → ℕ
  | 0 => 0 | 1 => 16 | 2 => 32 | 3 => 48 | 4 => 64 | 5 => 80 | 6 => 96 | 7 => 112

/-- The offsets of piece `p` of table row `v`. -/
def tabOff (v : BitVec 32) (p : Fin 8) : Fin 2 → ℕ := ![(Scalar.indexCast v).toNat, lane p]

/-- Every piece of table row `v` lies inside a table of `n` rows: what the kernel checks of an id. -/
def Chk (n : ℕ) (v : BitVec 32) : Prop :=
  (∀ a, tabOff v 0 a + S1x16.size a ≤ (Tab n).size a) ∧ (∀ a, tabOff v 1 a + S1x16.size a ≤ (Tab n).size a) ∧
  (∀ a, tabOff v 2 a + S1x16.size a ≤ (Tab n).size a) ∧ (∀ a, tabOff v 3 a + S1x16.size a ≤ (Tab n).size a) ∧
  (∀ a, tabOff v 4 a + S1x16.size a ≤ (Tab n).size a) ∧ (∀ a, tabOff v 5 a + S1x16.size a ≤ (Tab n).size a) ∧
  (∀ a, tabOff v 6 a + S1x16.size a ≤ (Tab n).size a) ∧ (∀ a, tabOff v 7 a + S1x16.size a ≤ (Tab n).size a)

theorem Chk.inb {n : ℕ} {v : BitVec 32} (h : Chk n v) (p : Fin 8) : ∀ a, tabOff v p a + S1x16.size a ≤ (Tab n).size a := by
  obtain ⟨h0, h1, h2, h3, h4, h5, h6, h7⟩ := h
  match p with
  | 0 => exact h0 | 1 => exact h1 | 2 => exact h2 | 3 => exact h3 | 4 => exact h4 | 5 => exact h5 | 6 => exact h6 | 7 => exact h7

/-- An id below the table's height passes the check. -/
theorem chk_of_lt {n : ℕ} {v : BitVec 32} (h : v.toNat < n) : Chk n v := by
  have key : ∀ p : Fin 8, ∀ a, tabOff v p a + S1x16.size a ≤ (Tab n).size a := fun p a => by
    match a with
    | 0 => exact h
    | 1 => exact (by decide : ∀ p : Fin 8, lane p + 16 ≤ 128) p
  exact ⟨key 0, key 1, key 2, key 3, key 4, key 5, key 6, key 7⟩

/-- The loops' bounds: eight trips. -/
abbrev loop8 : Scf.Loop 32 := ⟨0#32, Scalar.addi 0#32 8#32, 1#32⟩

/-- The first staging row that row `j` of trip `t` fills, as the kernel computes it. -/
def rowW (t : Fin loop8.trips) (j : Fin 16) : BitVec 32 :=
  Scalar.addi (Scalar.muli (Scf.iv 0#32 1#32 t) 16#32) (BitVec.ofNat 32 j.val)

/-- The offsets of piece `p` of staging row `j` of trip `t`. -/
def bufOff (t : Fin loop8.trips) (j : Fin 16) (p : Fin 8) : Fin 2 → ℕ := ![(Scalar.indexCast (rowW t j)).toNat, lane p]

/-- The offset of trip `t`'s ids in a chunk whose first id is `b`. -/
def idOff (b : BitVec 32) (t : Fin loop8.trips) : Fin 1 → ℕ := ![(Scalar.indexCast (Scalar.addi b (Scalar.muli (Scf.iv 0#32 1#32 t) 16#32))).toNat]

theorem rowW_toNat : ∀ (t : Fin loop8.trips) (j : Fin 16), (Scalar.indexCast (rowW t j)).toNat = 16 * t.val + j.val := by decide +kernel

theorem bufOff_inb (t : Fin loop8.trips) (j : Fin 16) (p : Fin 8) : ∀ a, bufOff t j p a + S1x16.size a ≤ S128x128.size a := fun a => by
  match a with
  | 0 => exact (by decide +kernel : ∀ (t : Fin loop8.trips) (j : Fin 16), (Scalar.indexCast (rowW t j)).toNat + 1 ≤ 128) t j
  | 1 => exact (by decide : ∀ p : Fin 8, lane p + 16 ≤ 128) p

/-- The id of row `j` among the sixteen loaded. -/
def idAt (v : Vec F S16 .i32) (j : Fin 16) (h : S16.Slices ![j.val] S1) : BitVec 32 :=
  extractAt ![0] (extractStridedSlice S1 ![j.val] v h) (Shapes1.Facts₀.inpos_S1_p0)

variable {c : Fin τ.nSC} {w : Fin τ.nSub}

/-- One piece: sixteen lanes of a table row, loaded and stored into the staging buffer. -/
def piece {n : ℕ} (tab : Memref sig .scVector .vmem (Tab n) .f32) (buf : Memref sig .scVector .vmem S128x128 .f32)
    (ro : Fin 2 → ℕ) (hro : ∀ a, ro a + S1x16.size a ≤ (Tab n).size a) (bo : Fin 2 → ℕ) (hbo : ∀ a, bo a + S1x16.size a ≤ S128x128.size a)
    (k : TProg F c w PUnit) : TProg F c w PUnit :=
  .op (.load tab (Rect.unit (s := Tab n) ro S1x16.size hro).toLoadRect (View.loadsAt_vmem Shapes1.Facts₀.h_S1x16)) fun x =>
  .op (.load buf (Rect.unit (s := S128x128) bo S1x16.size hbo).toLoadRect (View.loadsAt_vmem Shapes1.Facts₀.h_S1x16)) fun _ =>
  .op (.store buf (Rect.unit (s := S128x128) bo S1x16.size hbo)
    (shapeCast S1x16 (shapeCast S16 (x : Vec F S1x16 .f32) Shapes1.Facts₀.shapeCasts_S1x16_S16) Shapes1.Facts₀.shapeCasts_S16_S1x16) Finset.univ
    (View.stores_vmem_bits_univ Shapes1.Facts₀.h_S1x16 rfl) (.inl rfl)) fun _ => k

/-- The last `m` pieces of a row. -/
def rowN {n : ℕ} (tab : Memref sig .scVector .vmem (Tab n) .f32) (buf : Memref sig .scVector .vmem S128x128 .f32)
    (t : Fin loop8.trips) (j : Fin 16) (v : BitVec 32) (h : Chk n v) (k : TProg F c w PUnit) : (m : ℕ) → TProg F c w PUnit
  | 0 => k
  | m + 1 => piece tab buf (tabOff v ⟨7 - m, by omega⟩) (h.inb _) (bufOff t j ⟨7 - m, by omega⟩) (bufOff_inb t j _) (rowN tab buf t j v h k m)

/-- The eight pieces of a row. -/
def row {n : ℕ} (tab : Memref sig .scVector .vmem (Tab n) .f32) (buf : Memref sig .scVector .vmem S128x128 .f32)
    (t : Fin loop8.trips) (j : Fin 16) (v : BitVec 32) (h : Chk n v) (k : TProg F c w PUnit) : TProg F c w PUnit := rowN tab buf t j v h k 8

/-- Row `j` of a trip that loaded the ids `v`: the check, then the row. -/
def step {n : ℕ} (dec : Fin 16 → ∀ v : BitVec 32, Decidable (Chk n v)) (tab : Memref sig .scVector .vmem (Tab n) .f32)
    (buf : Memref sig .scVector .vmem S128x128 .f32) (t : Fin loop8.trips) (v : Vec F S16 .i32) (j : Fin 16) (hj : S16.Slices ![j.val] S1)
    (k : TProg F c w PUnit) : TProg F c w PUnit :=
  .op (.assume (Chk n (idAt v j hj)) (dec j (idAt v j hj))) fun h => row tab buf t j (idAt v j hj) h.down k

theorem slices16 : ∀ j : Fin 16, S16.Slices ![j.val] S1 := by decide

/-- The last `m` rows of a trip. -/
def stepN {n : ℕ} (dec : Fin 16 → ∀ v : BitVec 32, Decidable (Chk n v)) (tab : Memref sig .scVector .vmem (Tab n) .f32)
    (buf : Memref sig .scVector .vmem S128x128 .f32) (t : Fin loop8.trips) (v : Vec F S16 .i32) : (m : ℕ) → TProg F c w PUnit
  | 0 => .ret ⟨⟩
  | m + 1 => step dec tab buf t v ⟨15 - m, by omega⟩ (slices16 _) (stepN dec tab buf t v m)

/-- A trip: sixteen ids loaded, sixteen rows copied. -/
def trip {n : ℕ} (dec : Fin 16 → ∀ v : BitVec 32, Decidable (Chk n v)) (tab : Memref sig .scVector .vmem (Tab n) .f32)
    (ids : Memref sig .scVector .vmem S256 .i32) (buf : Memref sig .scVector .vmem S128x128 .f32) (b : BitVec 32)
    (hb : ∀ t a, idOff b t a + S16.size a ≤ S256.size a) (t : Fin loop8.trips) : TProg F c w PUnit :=
  .op (.load ids (Rect.unit (s := S256) (idOff b t) S16.size (hb t)).toLoadRect (View.loadsAt_vmem Shapes1.Facts₀.h_S16)) fun v =>
  stepN dec tab buf t v 16

end Cert.KernelIdeal.Tile
-- ==== Proof.Prog.lean ====
/-
  The tile's whole program, once for both gather calls.

  `prog` is the kernel's body over its operands: both tables and the tile's ids copied in, four gathered chunks
  written back through two staging buffers in turn. `body0` and `body1` say that the two printed calls are it.
-/
module

public import proofs.«01_k».proof.Proof.Trip

@[expose] public section

noncomputable section

namespace Cert.KernelIdeal.Tile

open Cert.KernelIdeal Cert.KernelIdeal.Gen Idealize.ShloMosaic Idealize.SL.Sem

variable {F : FTy → Type} [FloatOps F]

/-- How the kernel decides the checks of loop 1 of call 0. -/
def dec0_1 : Fin 16 → ∀ v : BitVec 32, Decidable (Chk 100 v) := fun
  | ⟨0, _⟩ => k0_chk1.dec | ⟨1, _⟩ => k0_chk2.dec | ⟨2, _⟩ => k0_chk3.dec | ⟨3, _⟩ => k0_chk4.dec | ⟨4, _⟩ => k0_chk5.dec | ⟨5, _⟩ => k0_chk6.dec | ⟨6, _⟩ => k0_chk7.dec | ⟨7, _⟩ => k0_chk8.dec | ⟨8, _⟩ => k0_chk9.dec | ⟨9, _⟩ => k0_chk10.dec | ⟨10, _⟩ => k0_chk11.dec | ⟨11, _⟩ => k0_chk12.dec | ⟨12, _⟩ => k0_chk13.dec | ⟨13, _⟩ => k0_chk14.dec | ⟨14, _⟩ => k0_chk15.dec | ⟨15, _⟩ => k0_chk16.dec
  | ⟨m + 16, h⟩ => absurd h (Nat.not_lt.2 (Nat.le_add_left _ _))

/-- How the kernel decides the checks of loop 2 of call 0. -/
def dec0_2 : Fin 16 → ∀ v : BitVec 32, Decidable (Chk 100 v) := fun
  | ⟨0, _⟩ => k0_chk17.dec | ⟨1, _⟩ => k0_chk18.dec | ⟨2, _⟩ => k0_chk19.dec | ⟨3, _⟩ => k0_chk20.dec | ⟨4, _⟩ => k0_chk21.dec | ⟨5, _⟩ => k0_chk22.dec | ⟨6, _⟩ => k0_chk23.dec | ⟨7, _⟩ => k0_chk24.dec | ⟨8, _⟩ => k0_chk25.dec | ⟨9, _⟩ => k0_chk26.dec | ⟨10, _⟩ => k0_chk27.dec | ⟨11, _⟩ => k0_chk28.dec | ⟨12, _⟩ => k0_chk29.dec | ⟨13, _⟩ => k0_chk30.dec | ⟨14, _⟩ => k0_chk31.dec | ⟨15, _⟩ => k0_chk32.dec
  | ⟨m + 16, h⟩ => absurd h (Nat.not_lt.2 (Nat.le_add_left _ _))

/-- How the kernel decides the checks of loop 3 of call 0. -/
def dec0_3 : Fin 16 → ∀ v : BitVec 32, Decidable (Chk 26 v) := fun
  | ⟨0, _⟩ => k0_chk33.dec | ⟨1, _⟩ => k0_chk34.dec | ⟨2, _⟩ => k0_chk35.dec | ⟨3, _⟩ => k0_chk36.dec | ⟨4, _⟩ => k0_chk37.dec | ⟨5, _⟩ => k0_chk38.dec | ⟨6, _⟩ => k0_chk39.dec | ⟨7, _⟩ => k0_chk40.dec | ⟨8, _⟩ => k0_chk41.dec | ⟨9, _⟩ => k0_chk42.dec | ⟨10, _⟩ => k0_chk43.dec | ⟨11, _⟩ => k0_chk44.dec | ⟨12, _⟩ => k0_chk45.dec | ⟨13, _⟩ => k0_chk46.dec | ⟨14, _⟩ => k0_chk47.dec | ⟨15, _⟩ => k0_chk48.dec
  | ⟨m + 16, h⟩ => absurd h (Nat.not_lt.2 (Nat.le_add_left _ _))

/-- How the kernel decides the checks of loop 4 of call 0. -/
def dec0_4 : Fin 16 → ∀ v : BitVec 32, Decidable (Chk 26 v) := fun
  | ⟨0, _⟩ => k0_chk49.dec | ⟨1, _⟩ => k0_chk50.dec | ⟨2, _⟩ => k0_chk51.dec | ⟨3, _⟩ => k0_chk52.dec | ⟨4, _⟩ => k0_chk53.dec | ⟨5, _⟩ => k0_chk54.dec | ⟨6, _⟩ => k0_chk55.dec | ⟨7, _⟩ => k0_chk56.dec | ⟨8, _⟩ => k0_chk57.dec | ⟨9, _⟩ => k0_chk58.dec | ⟨10, _⟩ => k0_chk59.dec | ⟨11, _⟩ => k0_chk60.dec | ⟨12, _⟩ => k0_chk61.dec | ⟨13, _⟩ => k0_chk62.dec | ⟨14, _⟩ => k0_chk63.dec | ⟨15, _⟩ => k0_chk64.dec
  | ⟨m + 16, h⟩ => absurd h (Nat.not_lt.2 (Nat.le_add_left _ _))

/-- How the kernel decides the checks of loop 1 of call 1. -/
def dec1_1 : Fin 16 → ∀ v : BitVec 32, Decidable (Chk 100 v) := fun
  | ⟨0, _⟩ => k1_chk1.dec | ⟨1, _⟩ => k1_chk2.dec | ⟨2, _⟩ => k1_chk3.dec | ⟨3, _⟩ => k1_chk4.dec | ⟨4, _⟩ => k1_chk5.dec | ⟨5, _⟩ => k1_chk6.dec | ⟨6, _⟩ => k1_chk7.dec | ⟨7, _⟩ => k1_chk8.dec | ⟨8, _⟩ => k1_chk9.dec | ⟨9, _⟩ => k1_chk10.dec | ⟨10, _⟩ => k1_chk11.dec | ⟨11, _⟩ => k1_chk12.dec | ⟨12, _⟩ => k1_chk13.dec | ⟨13, _⟩ => k1_chk14.dec | ⟨14, _⟩ => k1_chk15.dec | ⟨15, _⟩ => k1_chk16.dec
  | ⟨m + 16, h⟩ => absurd h (Nat.not_lt.2 (Nat.le_add_left _ _))

/-- How the kernel decides the checks of loop 2 of call 1. -/
def dec1_2 : Fin 16 → ∀ v : BitVec 32, Decidable (Chk 100 v) := fun
  | ⟨0, _⟩ => k1_chk17.dec | ⟨1, _⟩ => k1_chk18.dec | ⟨2, _⟩ => k1_chk19.dec | ⟨3, _⟩ => k1_chk20.dec | ⟨4, _⟩ => k1_chk21.dec | ⟨5, _⟩ => k1_chk22.dec | ⟨6, _⟩ => k1_chk23.dec | ⟨7, _⟩ => k1_chk24.dec | ⟨8, _⟩ => k1_chk25.dec | ⟨9, _⟩ => k1_chk26.dec | ⟨10, _⟩ => k1_chk27.dec | ⟨11, _⟩ => k1_chk28.dec | ⟨12, _⟩ => k1_chk29.dec | ⟨13, _⟩ => k1_chk30.dec | ⟨14, _⟩ => k1_chk31.dec | ⟨15, _⟩ => k1_chk32.dec
  | ⟨m + 16, h⟩ => absurd h (Nat.not_lt.2 (Nat.le_add_left _ _))

/-- How the kernel decides the checks of loop 3 of call 1. -/
def dec1_3 : Fin 16 → ∀ v : BitVec 32, Decidable (Chk 26 v) := fun
  | ⟨0, _⟩ => k1_chk33.dec | ⟨1, _⟩ => k1_chk34.dec | ⟨2, _⟩ => k1_chk35.dec | ⟨3, _⟩ => k1_chk36.dec | ⟨4, _⟩ => k1_chk37.dec | ⟨5, _⟩ => k1_chk38.dec | ⟨6, _⟩ => k1_chk39.dec | ⟨7, _⟩ => k1_chk40.dec | ⟨8, _⟩ => k1_chk41.dec | ⟨9, _⟩ => k1_chk42.dec | ⟨10, _⟩ => k1_chk43.dec | ⟨11, _⟩ => k1_chk44.dec | ⟨12, _⟩ => k1_chk45.dec | ⟨13, _⟩ => k1_chk46.dec | ⟨14, _⟩ => k1_chk47.dec | ⟨15, _⟩ => k1_chk48.dec
  | ⟨m + 16, h⟩ => absurd h (Nat.not_lt.2 (Nat.le_add_left _ _))

/-- How the kernel decides the checks of loop 4 of call 1. -/
def dec1_4 : Fin 16 → ∀ v : BitVec 32, Decidable (Chk 26 v) := fun
  | ⟨0, _⟩ => k1_chk49.dec | ⟨1, _⟩ => k1_chk50.dec | ⟨2, _⟩ => k1_chk51.dec | ⟨3, _⟩ => k1_chk52.dec | ⟨4, _⟩ => k1_chk53.dec | ⟨5, _⟩ => k1_chk54.dec | ⟨6, _⟩ => k1_chk55.dec | ⟨7, _⟩ => k1_chk56.dec | ⟨8, _⟩ => k1_chk57.dec | ⟨9, _⟩ => k1_chk58.dec | ⟨10, _⟩ => k1_chk59.dec | ⟨11, _⟩ => k1_chk60.dec | ⟨12, _⟩ => k1_chk61.dec | ⟨13, _⟩ => k1_chk62.dec | ⟨14, _⟩ => k1_chk63.dec | ⟨15, _⟩ => k1_chk64.dec
  | ⟨m + 16, h⟩ => absurd h (Nat.not_lt.2 (Nat.le_add_left _ _))

theorem loop8_ok : loop8.OK := K0.Facts₀.k0_t1_ok

theorem idOff_inb0 : ∀ (t : Fin loop8.trips) (a : Fin 1), idOff 0#32 t a + S16.size a ≤ S256.size a := by decide +kernel
theorem idOff_inb128 : ∀ (t : Fin loop8.trips) (a : Fin 1), idOff 128#32 t a + S16.size a ≤ S256.size a := by decide +kernel

/-- The kernel's operands on one tile. -/
structure Opnds where
  mt : Memref sig .scVector .hbm S100x128 .f32
  hmt : mt.IsWhole
  dt : Memref sig .scVector .hbm S26x128 .f32
  hdt : dt.IsWhole
  mi : Memref sig .scVector .hbm S8192 .i32
  hmi : mi.IsWhole
  di : Memref sig .scVector .hbm S8192 .i32
  hdi : di.IsWhole
  om : Memref sig .scVector .hbm S8192x128 .f32
  hom : om.IsWhole
  od : Memref sig .scVector .hbm S8192x128 .f32
  hod : od.IsWhole
  mv : Memref sig .scVector .vmem S100x128 .f32
  hmv : mv.IsWhole
  dv : Memref sig .scVector .vmem S26x128 .f32
  hdv : dv.IsWhole
  im : Memref sig .scVector .vmem S256 .i32
  him : im.IsWhole
  id : Memref sig .scVector .vmem S256 .i32
  hid : id.IsWhole
  ba : Memref sig .scVector .vmem S128x128 .f32
  hba : ba.IsWhole
  bb : Memref sig .scVector .vmem S128x128 .f32
  hbb : bb.IsWhole
  sa : DmaSems sig S_
  sb : DmaSems sig S_
  r0 : DmaSems sig S_
  r1 : DmaSems sig S_
  r2 : DmaSems sig S_
  r3 : DmaSems sig S_

variable {c : Fin τ.nSC} {w : Fin τ.nSub}

/-- One call's tile program up to the end of its third loop, going on with `K`. It copies both
tables and the tile's indices in, fills the first staging buffer with the first 128 model rows and
sends it out, fills the second with the next 128 and sends it out, and fills the first again with the
first 128 decoding rows once its earlier contents have left. -/
def progA {α : Type} (d1 d2 : Fin 16 → ∀ v : BitVec 32, Decidable (Chk 100 v)) (d3 : Fin 16 → ∀ v : BitVec 32, Decidable (Chk 26 v))
    (x : Opnds) (o : Fin 1 → ℕ) (ho : ∀ a, o a + S256.size a ≤ S8192.size a)
    (oa : Fin 2 → ℕ) (hoa : ∀ a, oa a + S128x128.size a ≤ S8192x128.size a) (ob : Fin 2 → ℕ) (hob : ∀ a, ob a + S128x128.size a ≤ S8192x128.size a)
    (K : TProg F c w α) : TProg F c w α := do
  Prog.lift (.enqueueDma x.mt (.here x.mv) (.dma x.r0.sem) x.hmt.wordExact x.hmv.wordExact ⟨Or.inl rfl, trivial⟩)
  Prog.lift (.waitDma2 x.r0.sem x.mt x.mv x.hmt.wordExact x.hmv.wordExact)
  Prog.lift (.enqueueDma x.dt (.here x.dv) (.dma x.r1.sem) x.hdt.wordExact x.hdv.wordExact ⟨Or.inl rfl, trivial⟩)
  Prog.lift (.waitDma2 x.r1.sem x.dt x.dv x.hdt.wordExact x.hdv.wordExact)
  Prog.lift (.enqueueDma (x.mi.slice (Rect.unit (s := S8192) o S256.size ho) (fun _ => rfl)) (.here x.im) (.dma x.r2.sem) (View.wordExact_bits rfl) x.him.wordExact ⟨Or.inl rfl, trivial⟩)
  Prog.lift (.waitDma2 x.r2.sem (x.mi.slice (Rect.unit (s := S8192) o S256.size ho) (fun _ => rfl)) x.im (View.wordExact_bits rfl) x.him.wordExact)
  Prog.lift (.enqueueDma (x.di.slice (Rect.unit (s := S8192) o S256.size ho) (fun _ => rfl)) (.here x.id) (.dma x.r3.sem) (View.wordExact_bits rfl) x.hid.wordExact ⟨Or.inl rfl, trivial⟩)
  Prog.lift (.waitDma2 x.r3.sem (x.di.slice (Rect.unit (s := S8192) o S256.size ho) (fun _ => rfl)) x.id (View.wordExact_bits rfl) x.hid.wordExact)
  Scf.Loop.for loop8 loop8_ok ⟨⟩ fun t _ => trip d1 x.mv x.im x.ba 0#32 idOff_inb0 t
  Prog.lift (.enqueueDma x.ba (.here (x.om.slice (Rect.unit (s := S8192x128) oa S128x128.size hoa) (fun _ => rfl))) (.dma x.sa.sem) x.hba.wordExact (View.wordExact_bits rfl) ⟨Or.inl rfl, trivial⟩)
  Scf.Loop.for loop8 loop8_ok ⟨⟩ fun t _ => trip d2 x.mv x.im x.bb 128#32 idOff_inb128 t
  Prog.lift (.enqueueDma x.bb (.here (x.om.slice (Rect.unit (s := S8192x128) ob S128x128.size hob) (fun _ => rfl))) (.dma x.sb.sem) x.hbb.wordExact (View.wordExact_bits rfl) ⟨Or.inl rfl, trivial⟩)
  Prog.lift (.waitDma2 x.sa.sem x.ba (x.om.slice (Rect.unit (s := S8192x128) oa S128x128.size hoa) (fun _ => rfl)) x.hba.wordExact (View.wordExact_bits rfl))
  Scf.Loop.for loop8 loop8_ok ⟨⟩ fun t _ => trip d3 x.dv x.id x.ba 0#32 idOff_inb0 t
  K

/-- The rest of a call's tile program: the first 128 decoding rows go out, the second buffer is filled
with the next 128 decoding rows once its model rows have left, and goes out too. -/
def progB (d4 : Fin 16 → ∀ v : BitVec 32, Decidable (Chk 26 v))
    (x : Opnds) (oa : Fin 2 → ℕ) (hoa : ∀ a, oa a + S128x128.size a ≤ S8192x128.size a) (ob : Fin 2 → ℕ) (hob : ∀ a, ob a + S128x128.size a ≤ S8192x128.size a) :
    TProg F c w PUnit := do
  Prog.lift (.enqueueDma x.ba (.here (x.od.slice (Rect.unit (s := S8192x128) oa S128x128.size hoa) (fun _ => rfl))) (.dma x.sa.sem) x.hba.wordExact (View.wordExact_bits rfl) ⟨Or.inl rfl, trivial⟩)
  Prog.lift (.waitDma2 x.sb.sem x.bb (x.om.slice (Rect.unit (s := S8192x128) ob S128x128.size hob) (fun _ => rfl)) x.hbb.wordExact (View.wordExact_bits rfl))
  Scf.Loop.for loop8 loop8_ok ⟨⟩ fun t _ => trip d4 x.dv x.id x.bb 128#32 idOff_inb128 t
  Prog.lift (.enqueueDma x.bb (.here (x.od.slice (Rect.unit (s := S8192x128) ob S128x128.size hob) (fun _ => rfl))) (.dma x.sb.sem) x.hbb.wordExact (View.wordExact_bits rfl) ⟨Or.inl rfl, trivial⟩)
  Prog.lift (.waitDma2 x.sa.sem x.ba (x.od.slice (Rect.unit (s := S8192x128) oa S128x128.size hoa) (fun _ => rfl)) x.hba.wordExact (View.wordExact_bits rfl))
  Prog.lift (.waitDma2 x.sb.sem x.bb (x.od.slice (Rect.unit (s := S8192x128) ob S128x128.size hob) (fun _ => rfl)) x.hbb.wordExact (View.wordExact_bits rfl))
  pure ⟨⟩

theorem progA_bind {α β : Type} (d1 d2 d3) (x : Opnds) (o ho oa hoa ob hob) (K : TProg F c w α) (f : α → TProg F c w β) :
    progA d1 d2 d3 x o ho oa hoa ob hob K >>= f = progA d1 d2 d3 x o ho oa hoa ob hob (K >>= f) := by
  simp only [progA, bind_assoc]

set_option maxHeartbeats 4000000 in
set_option maxRecDepth 100000 in
/-- The first call's body is that program. -/
theorem body0 (i : grid0.Coords) (x : Opnds) :
    cc0__sc_gather_body (F := F) i x.mt x.hmt x.dt x.hdt x.mi x.hmi x.di x.hdi x.om x.hom x.od x.hod x.mv x.hmv x.dv x.hdv x.im x.him x.id x.hid x.ba x.hba x.bb x.hbb x.sa x.sb x.r0 x.r1 x.r2 x.r3
      = progA dec0_1 dec0_2 dec0_3 x (k0_off1 i) (K0.Facts₀.k0_off1_inb i) (k0_off259 i) (K0.Facts₀.k0_off259_inb i) (k0_off517 i) (K0.Facts₀.k0_off517_inb i) (progB dec0_4 x (k0_off259 i) (K0.Facts₀.k0_off259_inb i) (k0_off517 i) (K0.Facts₀.k0_off517_inb i)) := by
  have h : ∃ v, k0_part85 (F := F) i x.mt x.hmt x.dt x.hdt x.mi x.hmi x.di x.hdi x.om x.hom x.od x.hod x.mv x.hmv x.dv x.hdv x.im x.him x.id x.hid x.ba x.hba x.bb x.hbb x.sa x.sb x.r0 x.r1 x.r2 x.r3
      = progA dec0_1 dec0_2 dec0_3 x (k0_off1 i) (K0.Facts₀.k0_off1_inb i) (k0_off259 i) (K0.Facts₀.k0_off259_inb i) (k0_off517 i) (K0.Facts₀.k0_off517_inb i) (.ret v) := ⟨_, rfl⟩
  obtain ⟨v, h⟩ := h
  unfold cc0__sc_gather_body
  rw [h, progA_bind]
  rfl

set_option maxHeartbeats 4000000 in
set_option maxRecDepth 100000 in
/-- The second call's body is that program. -/
theorem body1 (i : grid1.Coords) (x : Opnds) :
    cc1__sc_gather_body (F := F) i x.mt x.hmt x.dt x.hdt x.mi x.hmi x.di x.hdi x.om x.hom x.od x.hod x.mv x.hmv x.dv x.hdv x.im x.him x.id x.hid x.ba x.hba x.bb x.hbb x.sa x.sb x.r0 x.r1 x.r2 x.r3
      = progA dec1_1 dec1_2 dec1_3 x (k1_off1 i) (K1.Facts₀.k1_off1_inb i) (k1_off259 i) (K1.Facts₀.k1_off259_inb i) (k1_off517 i) (K1.Facts₀.k1_off517_inb i) (progB dec1_4 x (k1_off259 i) (K1.Facts₀.k1_off259_inb i) (k1_off517 i) (K1.Facts₀.k1_off517_inb i)) := by
  have h : ∃ v, k1_part85 (F := F) i x.mt x.hmt x.dt x.hdt x.mi x.hmi x.di x.hdi x.om x.hom x.od x.hod x.mv x.hmv x.dv x.hdv x.im x.him x.id x.hid x.ba x.hba x.bb x.hbb x.sa x.sb x.r0 x.r1 x.r2 x.r3
      = progA dec1_1 dec1_2 dec1_3 x (k1_off1 i) (K1.Facts₀.k1_off1_inb i) (k1_off259 i) (K1.Facts₀.k1_off259_inb i) (k1_off517 i) (K1.Facts₀.k1_off517_inb i) (.ret v) := ⟨_, rfl⟩
  obtain ⟨v, h⟩ := h
  unfold cc1__sc_gather_body
  rw [h, progA_bind]
  rfl

end Cert.KernelIdeal.Tile
-- ==== Proof.Same.lean ====
/-
  The kernel before and after the idealization is one program text: here that the two printed programs are equal, so that
  one run proves both frames.
-/
module

public import proofs.«01_k».proof.Proof.Gen.Kernel
public import proofs.«01_k».proof.Proof.Prog

@[expose] public section

noncomputable section

namespace Cert.Same

open Cert.KernelIdeal Cert.KernelIdeal.Tile
open Idealize.ShloMosaic Idealize.ShloMosaic.TcCoe

variable {F : FTy → Type} [FloatOps F]

section
variable {c : Fin τ.nSC} {w : Fin τ.nSub}

/-- What follows the three fixed parts of a call's body is the last of them. -/
theorem after_eq {α β : Type} {d1 d2 d3} {x : Opnds} {o ho oa hoa ob hob} {v : α} {p : TProg F c w α}
    (h : p = progA d1 d2 d3 x o ho oa hoa ob hob (.ret v)) (f : α → TProg F c w β) :
    p >>= f = progA d1 d2 d3 x o ho oa hoa ob hob (f v) := by
  rw [h, progA_bind]; rfl

end

set_option maxHeartbeats 4000000 in
set_option maxRecDepth 100000 in
/-- The first call's body as the kernel before the idealization prints it. -/
theorem text0 (i : grid0.Coords) (x : Opnds) :
    Cert.Kernel.cc0__sc_gather_body (F := F) i x.mt x.hmt x.dt x.hdt x.mi x.hmi x.di x.hdi x.om x.hom x.od x.hod x.mv x.hmv x.dv x.hdv x.im x.him x.id x.hid x.ba x.hba x.bb x.hbb x.sa x.sb x.r0 x.r1 x.r2 x.r3
      = progA (F := F) (c := Fin.castLE (by decide) (i 0)) (w := Fin.castLE (by decide) (i 1)) dec0_1 dec0_2 dec0_3 x (k0_off1 i) (K0.Facts₀.k0_off1_inb i) (k0_off259 i) (K0.Facts₀.k0_off259_inb i) (k0_off517 i) (K0.Facts₀.k0_off517_inb i)
          (progB dec0_4 x (k0_off259 i) (K0.Facts₀.k0_off259_inb i) (k0_off517 i) (K0.Facts₀.k0_off517_inb i)) := by
  have h : ∃ v : BitVec 32, @Eq (TProg F (Fin.castLE (by decide) (i 0)) (Fin.castLE (by decide) (i 1)) (BitVec 32)) (Cert.Kernel.k0_part85 (F := F) i x.mt x.hmt x.dt x.hdt x.mi x.hmi x.di x.hdi x.om x.hom x.od x.hod x.mv x.hmv x.dv x.hdv x.im x.him x.id x.hid x.ba x.hba x.bb x.hbb x.sa x.sb x.r0 x.r1 x.r2 x.r3)
      (progA dec0_1 dec0_2 dec0_3 x (k0_off1 i) (K0.Facts₀.k0_off1_inb i) (k0_off259 i) (K0.Facts₀.k0_off259_inb i) (k0_off517 i) (K0.Facts₀.k0_off517_inb i) (.ret v)) := ⟨_, rfl⟩
  obtain ⟨v, h⟩ := h
  exact after_eq h (fun _ => progB dec0_4 x (k0_off259 i) (K0.Facts₀.k0_off259_inb i) (k0_off517 i) (K0.Facts₀.k0_off517_inb i))

set_option maxHeartbeats 4000000 in
set_option maxRecDepth 100000 in
/-- So the two texts of that body are equal. -/
theorem call0 (i : grid0.Coords) (x : Opnds) :
    Cert.Kernel.cc0__sc_gather_body (F := F) i x.mt x.hmt x.dt x.hdt x.mi x.hmi x.di x.hdi x.om x.hom x.od x.hod x.mv x.hmv x.dv x.hdv x.im x.him x.id x.hid x.ba x.hba x.bb x.hbb x.sa x.sb x.r0 x.r1 x.r2 x.r3
      = cc0__sc_gather_body (F := F) i x.mt x.hmt x.dt x.hdt x.mi x.hmi x.di x.hdi x.om x.hom x.od x.hod x.mv x.hmv x.dv x.hdv x.im x.him x.id x.hid x.ba x.hba x.bb x.hbb x.sa x.sb x.r0 x.r1 x.r2 x.r3 :=
  (text0 i x).trans (body0 i x).symm

set_option maxHeartbeats 4000000 in
set_option maxRecDepth 100000 in
/-- The second call's body as the kernel before the idealization prints it. -/
theorem text1 (i : grid1.Coords) (x : Opnds) :
    Cert.Kernel.cc1__sc_gather_body (F := F) i x.mt x.hmt x.dt x.hdt x.mi x.hmi x.di x.hdi x.om x.hom x.od x.hod x.mv x.hmv x.dv x.hdv x.im x.him x.id x.hid x.ba x.hba x.bb x.hbb x.sa x.sb x.r0 x.r1 x.r2 x.r3
      = progA (F := F) (c := Fin.castLE (by decide) (i 0)) (w := Fin.castLE (by decide) (i 1)) dec1_1 dec1_2 dec1_3 x (k1_off1 i) (K1.Facts₀.k1_off1_inb i) (k1_off259 i) (K1.Facts₀.k1_off259_inb i) (k1_off517 i) (K1.Facts₀.k1_off517_inb i)
          (progB dec1_4 x (k1_off259 i) (K1.Facts₀.k1_off259_inb i) (k1_off517 i) (K1.Facts₀.k1_off517_inb i)) := by
  have h : ∃ v : BitVec 32, @Eq (TProg F (Fin.castLE (by decide) (i 0)) (Fin.castLE (by decide) (i 1)) (BitVec 32)) (Cert.Kernel.k1_part85 (F := F) i x.mt x.hmt x.dt x.hdt x.mi x.hmi x.di x.hdi x.om x.hom x.od x.hod x.mv x.hmv x.dv x.hdv x.im x.him x.id x.hid x.ba x.hba x.bb x.hbb x.sa x.sb x.r0 x.r1 x.r2 x.r3)
      (progA dec1_1 dec1_2 dec1_3 x (k1_off1 i) (K1.Facts₀.k1_off1_inb i) (k1_off259 i) (K1.Facts₀.k1_off259_inb i) (k1_off517 i) (K1.Facts₀.k1_off517_inb i) (.ret v)) := ⟨_, rfl⟩
  obtain ⟨v, h⟩ := h
  exact after_eq h (fun _ => progB dec1_4 x (k1_off259 i) (K1.Facts₀.k1_off259_inb i) (k1_off517 i) (K1.Facts₀.k1_off517_inb i))

set_option maxHeartbeats 4000000 in
set_option maxRecDepth 100000 in
/-- So the two texts of that body are equal. -/
theorem call1 (i : grid1.Coords) (x : Opnds) :
    Cert.Kernel.cc1__sc_gather_body (F := F) i x.mt x.hmt x.dt x.hdt x.mi x.hmi x.di x.hdi x.om x.hom x.od x.hod x.mv x.hmv x.dv x.hdv x.im x.him x.id x.hid x.ba x.hba x.bb x.hbb x.sa x.sb x.r0 x.r1 x.r2 x.r3
      = cc1__sc_gather_body (F := F) i x.mt x.hmt x.dt x.hdt x.mi x.hmi x.di x.hdi x.om x.hom x.od x.hod x.mv x.hmv x.dv x.hdv x.im x.him x.id x.hid x.ba x.hba x.bb x.hbb x.sa x.sb x.r0 x.r1 x.r2 x.r3 :=
  (text1 i x).trans (body1 i x).symm

end Cert.Same

end
-- ==== Proof.Setup.lean ====
/-
  What the run is stated over: the program's tables as the launch theorem takes them, and the ghost state.
-/
module

public import proofs.«01_k».proof.Proof.Gen.KernelIdeal
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic

@[expose] public section

noncomputable section

namespace Cert.KernelIdeal.Run

open Cert.KernelIdeal Cert.KernelIdeal.Gen
open Idealize.ShloMosaic
open Idealize.ShloMosaic.SparseCore.Cfg (HIx)
open Idealize.SL Idealize.SL.RA Idealize.SL.BI
open Idealize.SL.Sem
open Idealize.ShloMosaic.Rounds

variable {F : FTy → Type}

/-- The labels of the TensorCore's pipelines over the kernel's own. -/
abbrev ΛP : Labels := Pipeline.Sig Λ₀ (Fin 2) fun p => (pcfgs (F := F) p).Adm
/-- The two SparseCore calls. -/
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The calls' handshakes. -/
abbrev UH : Type := URounds (GSem nD τ sig) ℕ
/-- The pipelines' staging rounds. -/
abbrev UP : Type := URounds (GSem nD τ sig) Unit
/-- Handshakes, staging rounds, transfers' counters. -/
abbrev UU : Type := UH × (UP × Counters)

/-- The ghost state's model. -/
abbrev MM (F : FTy → Type) : Type := MT nD τ sig (HIx 2) (Elt F) ℕ UU ℕ

abbrev EH : Emb UH (MM F) := embL
/-- Where the staging rounds live. -/
def EP : Emb UP (MM F) := (Emb.inl : Emb UP (UP × Counters)).trans embR
instance EP_landsIn : (EP : Emb UP (MM F)).LandsIn (upEmb : UEmb _ (MM F)) := by unfold EP embR; infer_instance

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end Cert.KernelIdeal.Run

end
-- ==== Proof.Loops.lean ====
/-
  What the gather loops leave in a staging buffer.
-/
module

public import proofs.«01_k».proof.Proof.Trip
public import proofs.«01_k».proof.Proof.Setup
public import Idealize.ShloMosaic.Lib.Pipeline.Value

@[expose] public section

noncomputable section

namespace Cert.KernelIdeal.Tile

open Cert.KernelIdeal Cert.KernelIdeal.Gen Cert.KernelIdeal.Run
open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-- The staging buffer's first `N` words, in row order, are `G`'s. -/
def Upto (buf : Memref sig .scVector .vmem S128x128 .f32) (d : Dev nD) (c : Fin τ.nSC) (w : Fin τ.nSub)
    (G : S128x128.Idx → Elt F .f32) (f : Buf (Elt F) (buf.view.loc (V d c w))) (N : ℕ) : Prop :=
  ∀ y : S128x128.Idx, (y 0).val * 128 + (y 1).val < N → buf.view.read (Elt F) f y = G y

variable {d : Dev nD} {c : Fin τ.nSC} {w : Fin τ.nSub}

/-- One piece's two loads and store, over the table's share and the staging buffer. -/
theorem wp_piece {n : ℕ} {tab : Memref sig .scVector .vmem (Tab n) .f32} {buf : Memref sig .scVector .vmem S128x128 .f32}

    {ro : Fin 2 → ℕ} {hro : ∀ a, ro a + S1x16.size a ≤ (Tab n).size a} {bo : Fin 2 → ℕ} {hbo : ∀ a, bo a + S1x16.size a ≤ S128x128.size a}
    {k : TProg F c w PUnit} {Q : PUnit → sProp 𝕄} {q : PosShare TreeShare}
    {ft : Buf (Elt F) (tab.view.loc (V d c w))} {G : S128x128.Idx → Elt F .f32} {f : Buf (Elt F) (buf.view.loc (V d c w))} {N : ℕ}
    (hN : bo 0 * 128 + bo 1 = N) (hf : Upto buf d c w G f N)
    (hG : ∀ (l : ℕ) (y : S128x128.Idx) (z : (Tab n).Idx), (y 0).val = bo 0 → (z 0).val = ro 0 → (y 1).val = bo 1 + l → (z 1).val = ro 1 + l →
      l < 16 → G y = tab.view.read (Elt F) ft z) :
    iprop((tab.view.loc (V d c w) ↦{q} ft) ∗ (buf.view.loc (V d c w) ↦{fullShare} f))
      ⊢ iprop((∀ f', ⌜Upto buf d c w G f' (N + 16)⌝ -∗ (tab.view.loc (V d c w) ↦{q} ft) -∗ (buf.view.loc (V d c w) ↦{fullShare} f')
          -∗ wp frame (wpE (defs₀ (F := F)) 𝒱₀ (V d c w) none) Set.univ k Q)
        -∗ wp frame (wpE (defs₀ (F := F)) 𝒱₀ (V d c w) none) Set.univ (piece tab buf ro hro bo hbo k) Q) := by
  unfold piece
  iintro ⟨Ht, Hb⟩ HK
  iapply (wp_load 𝒱₀ (V d c w) none Set.univ (Finset.subset_univ _)) $$ Ht
  iintro Ht
  iapply (wp_load 𝒱₀ (V d c w) none Set.univ (Finset.subset_univ _)) $$ Hb
  iintro Hb
  iapply (wp_store 𝒱₀ (V d c w) none Set.univ (m := buf) (r := Rect.unit (s := S128x128) bo S1x16.size hbo) (Finset.subset_univ _)) $$ Hb
  iintro Hb
  iapply HK $$ [] Ht Hb
  ipureintro
  intro y hy
  by_cases hM : y ∈ (Rect.unit (s := S128x128) bo S1x16.size hbo).set
  · rw [← Rect.map_emb_univ] at hM
    obtain ⟨x, -, rfl⟩ := Finset.mem_map.1 hM
    have h0 : (x 0).val = 0 := by have : (x 0).val < 1 := (x 0).isLt; omega
    refine (View.read_slice_write_emb (v := buf.view) _ _ _ (Finset.mem_univ x)).trans ?_
    rw [shapeCast_shapeCast, View.readAt_rect]
    refine (hG (x 1).val _ ((Rect.unit (s := Tab n) ro S1x16.size hro).emb x) ?_ ?_ ?_ ?_ (x 1).isLt).symm
    · show bo 0 + 1 * (x 0).val = bo 0; omega
    · show ro 0 + 1 * (x 0).val = ro 0; omega
    · show bo 1 + 1 * (x 1).val = _; omega
    · show ro 1 + 1 * (x 1).val = _; omega
  · refine (View.read_slice_write_of_not_mem (v := buf.view) _ _ _ _ (by rwa [Rect.map_emb_univ])).trans (hf y ?_)
    rw [Rect.mem_set_unit] at hM
    by_contra hlt
    apply hM
    have b0 := hbo 0; have b1 := hbo 1
    have y0 := (y 0).isLt; have y1 := (y 1).isLt
    simp only [S1x16, S128x128, Matrix.cons_val_zero, Matrix.cons_val_one] at b0 b1 y0 y1
    intro a
    match a with
    | 0 => show bo 0 ≤ (y 0).val ∧ (y 0).val < bo 0 + 1; omega
    | 1 => show bo 1 ≤ (y 1).val ∧ (y 1).val < bo 1 + 16; omega

theorem lane_eq : ∀ p : Fin 8, lane p = 16 * p.val := by decide

/-- A row's last `m` pieces complete it. -/
theorem wp_rowN {n : ℕ} {tab : Memref sig .scVector .vmem (Tab n) .f32} {buf : Memref sig .scVector .vmem S128x128 .f32}
    {t : Fin loop8.trips} {j : Fin 16} {v : BitVec 32} {h : Chk n v}
    {k : TProg F c w PUnit} {Q : PUnit → sProp 𝕄} {q : PosShare TreeShare}
    {ft : Buf (Elt F) (tab.view.loc (V d c w))} {G : S128x128.Idx → Elt F .f32}
    (hG : ∀ (y : S128x128.Idx) (z : (Tab n).Idx), (y 0).val = 16 * t.val + j.val → (z 0).val = v.toNat → (y 1).val = (z 1).val →
      G y = tab.view.read (Elt F) ft z) (m : ℕ) (hm : m ≤ 8) :
    ∀ (f : Buf (Elt F) (buf.view.loc (V d c w))) (_ : Upto buf d c w G f ((16 * t.val + j.val) * 128 + 16 * (8 - m))),
    iprop((tab.view.loc (V d c w) ↦{q} ft) ∗ (buf.view.loc (V d c w) ↦{fullShare} f))
      ⊢ iprop((∀ f', ⌜Upto buf d c w G f' ((16 * t.val + j.val + 1) * 128)⌝ -∗ (tab.view.loc (V d c w) ↦{q} ft) -∗ (buf.view.loc (V d c w) ↦{fullShare} f')
          -∗ wp frame (wpE (defs₀ (F := F)) 𝒱₀ (V d c w) none) Set.univ k Q)
        -∗ wp frame (wpE (defs₀ (F := F)) 𝒱₀ (V d c w) none) Set.univ (rowN tab buf t j v h k m) Q) := by
  induction m with
  | zero =>
    intro f hf
    iintro ⟨Ht, Hb⟩ HK
    unfold rowN
    iapply HK $$ [] Ht Hb
    ipureintro
    exact fun y hy => hf y (by omega)
  | succ m ih =>
    intro f hf
    have h0 : bufOff t j ⟨7 - m, by omega⟩ 0 = 16 * t.val + j.val := rowW_toNat t j
    have h1 : bufOff t j ⟨7 - m, by omega⟩ 1 = 16 * (7 - m) := lane_eq ⟨7 - m, by omega⟩
    have h2 : tabOff v ⟨7 - m, by omega⟩ 0 = v.toNat := rfl
    have h3 : tabOff v ⟨7 - m, by omega⟩ 1 = 16 * (7 - m) := lane_eq ⟨7 - m, by omega⟩
    unfold rowN
    iintro ⟨Ht, Hb⟩ HK
    iapply (wp_piece (ft := ft) (G := G) (N := (16 * t.val + j.val) * 128 + 16 * (8 - (m + 1))) (by rw [h0, h1]; omega) hf ?_) $$ [Ht Hb]
    · intro l y z e0 e0' e1 e1' hl
      rw [h0] at e0; rw [h2] at e0'; rw [h1] at e1; rw [h3] at e1'
      exact hG y z e0 e0' (by omega)
    · isplitl [Ht] <;> iassumption
    iintro %f' %hf' Ht Hb
    iapply (ih (by omega) f' (fun y hy => hf' y (by omega))) $$ [Ht Hb]
    · isplitl [Ht] <;> iassumption
    iexact HK

/-- The index of word `j` of sixteen. -/
def at16 (j : Fin 16) : S16.Idx := fun | 0 => j

/-- The id of row `j` is the `j`-th loaded. -/
theorem idAt_eq (v : Vec F S16 .i32) (j : Fin 16) (h : S16.Slices ![j.val] S1) : idAt v j h = v (at16 j) :=
  congrArg v (funext fun a => match a with | 0 => rfl)

/-- A trip's last `m` rows complete it. -/
theorem wp_stepN {n : ℕ} {dec : Fin 16 → ∀ v : BitVec 32, Decidable (Chk n v)} {tab : Memref sig .scVector .vmem (Tab n) .f32}
    {buf : Memref sig .scVector .vmem S128x128 .f32} {t : Fin loop8.trips} {v : Vec F S16 .i32}
    {Q : PUnit → sProp 𝕄} {q : PosShare TreeShare}
    {ft : Buf (Elt F) (tab.view.loc (V d c w))} {G : S128x128.Idx → Elt F .f32}
    (hv : ∀ x, (v x).toNat < n)
    (hG : ∀ (y : S128x128.Idx) (z : (Tab n).Idx) (x : S16.Idx), (y 0).val = 16 * t.val + (x 0).val → (z 0).val = (v x).toNat → (y 1).val = (z 1).val →
      G y = tab.view.read (Elt F) ft z) (m : ℕ) (hm : m ≤ 16) :
    ∀ (f : Buf (Elt F) (buf.view.loc (V d c w))) (_ : Upto buf d c w G f ((16 * t.val + (16 - m)) * 128)),
    iprop((tab.view.loc (V d c w) ↦{q} ft) ∗ (buf.view.loc (V d c w) ↦{fullShare} f))
      ⊢ iprop((∀ f', ⌜Upto buf d c w G f' (16 * (t.val + 1) * 128)⌝ -∗ (tab.view.loc (V d c w) ↦{q} ft) -∗ (buf.view.loc (V d c w) ↦{fullShare} f')
          -∗ Q ⟨⟩)
        -∗ wp frame (wpE (defs₀ (F := F)) 𝒱₀ (V d c w) none) Set.univ (stepN dec tab buf t v m) Q) := by
  induction m with
  | zero =>
    intro f hf
    iintro ⟨Ht, Hb⟩ HK
    unfold stepN
    rw [wp_ret]
    imodintro
    iapply HK $$ [] Ht Hb
    ipureintro
    exact fun y hy => hf y (by omega)
  | succ m ih =>
    intro f hf
    have hid := idAt_eq v ⟨15 - m, by omega⟩ (slices16 _)
    unfold stepN step
    iintro ⟨Ht, Hb⟩ HK
    iapply (wp_assume 𝒱₀ (V d c w) none Set.univ (chk_of_lt (by rw [hid]; exact hv _)))
    iapply (wp_rowN (ft := ft) (G := G) ?_ 8 le_rfl f (fun y hy => hf y (by simp only at hy ⊢; omega))) $$ [Ht Hb]
    · intro y z e0 e0' e1
      exact hG y z _ e0 (e0'.trans (by rw [hid])) e1
    · isplitl [Ht] <;> iassumption
    iintro %f' %hf' Ht Hb
    iapply (ih (by omega) f' (fun y hy => hf' y (by simp only; omega))) $$ [Ht Hb]
    · isplitl [Ht] <;> iassumption
    iexact HK

/-- What a chunk's rows hold: row `y 0` is the table's row named by the chunk's id `y 0`. -/
def Rows {n : ℕ} (tab : Memref sig .scVector .vmem (Tab n) .f32) (ids : Memref sig .scVector .vmem S256 .i32) (base : ℕ) (d : Dev nD) (c : Fin τ.nSC) (w : Fin τ.nSub)
    (ft : Buf (Elt F) (tab.view.loc (V d c w))) (fi : Buf (Elt F) (ids.view.loc (V d c w))) (G : S128x128.Idx → Elt F .f32) : Prop :=
  ∀ (y : S128x128.Idx) (z : (Tab n).Idx) (i : S256.Idx), (i 0).val = base + (y 0).val → (z 0).val = (ids.view.read (Elt F) fi i : BitVec 32).toNat →
    (y 1).val = (z 1).val → G y = tab.view.read (Elt F) ft z

/-- One trip: sixteen more rows. -/
theorem wp_trip {n : ℕ} {dec : Fin 16 → ∀ v : BitVec 32, Decidable (Chk n v)} {tab : Memref sig .scVector .vmem (Tab n) .f32}
    {ids : Memref sig .scVector .vmem S256 .i32} {buf : Memref sig .scVector .vmem S128x128 .f32} {b : BitVec 32}
    {hb : ∀ t a, idOff b t a + S16.size a ≤ S256.size a} {t : Fin loop8.trips} {Q : PUnit → sProp 𝕄} {q : PosShare TreeShare} {base : ℕ}
    {ft : Buf (Elt F) (tab.view.loc (V d c w))} {fi : Buf (Elt F) (ids.view.loc (V d c w))} {G : S128x128.Idx → Elt F .f32} {f : Buf (Elt F) (buf.view.loc (V d c w))}
    (hbase : idOff b t 0 = base + 16 * t.val)
    (hi : ∀ i : S256.Idx, (ids.view.read (Elt F) fi i : BitVec 32).toNat < n) (hG : Rows tab ids base d c w ft fi G)
    (hf : Upto buf d c w G f (16 * t.val * 128)) :
    iprop((ids.view.loc (V d c w) ↦{fullShare} fi) ∗ (tab.view.loc (V d c w) ↦{q} ft) ∗ (buf.view.loc (V d c w) ↦{fullShare} f))
      ⊢ iprop((∀ f', ⌜Upto buf d c w G f' (16 * (t.val + 1) * 128)⌝ -∗ (ids.view.loc (V d c w) ↦{fullShare} fi) -∗ (tab.view.loc (V d c w) ↦{q} ft)
          -∗ (buf.view.loc (V d c w) ↦{fullShare} f') -∗ Q ⟨⟩)
        -∗ wp frame (wpE (defs₀ (F := F)) 𝒱₀ (V d c w) none) Set.univ (trip dec tab ids buf b hb t) Q) := by
  unfold trip
  iintro ⟨Hi, Ht, Hb⟩ HK
  iapply (wp_load 𝒱₀ (V d c w) none Set.univ (Finset.subset_univ _)) $$ Hi
  iintro Hi
  iapply (wp_stepN (ft := ft) (G := G) ?_ ?_ 16 le_rfl f (fun y hy => hf y (by simp only at hy ⊢; omega))) $$ [Ht Hb]
  · intro x; exact hi _
  · intro y z x e0 e0' e1
    refine hG y z ((Rect.unit (s := S256) (idOff b t) S16.size (hb t)).emb x) ?_ e0' e1
    show idOff b t 0 + 1 * (x 0).val = _
    omega
  · isplitl [Ht] <;> iassumption
  iintro %f' %hf' Ht Hb
  iapply HK $$ [] Hi Ht Hb
  ipureintro; exact hf'

/-- A gather loop: from ids that address the table, the whole staging buffer is `G`. -/
theorem wp_gather {n : ℕ} {dec : Fin 16 → ∀ v : BitVec 32, Decidable (Chk n v)} {tab : Memref sig .scVector .vmem (Tab n) .f32}
    {ids : Memref sig .scVector .vmem S256 .i32} {buf : Memref sig .scVector .vmem S128x128 .f32} {b : BitVec 32}
    {hb : ∀ t a, idOff b t a + S16.size a ≤ S256.size a} {hok : loop8.OK} {α : Type} {kk : PUnit → TProg F c w α} {Q : α → sProp 𝕄} {q : PosShare TreeShare} {base : ℕ}
    {ft : Buf (Elt F) (tab.view.loc (V d c w))} {fi : Buf (Elt F) (ids.view.loc (V d c w))} {G : S128x128.Idx → Elt F .f32} {f : Buf (Elt F) (buf.view.loc (V d c w))}
    (hbase : ∀ t, idOff b t 0 = base + 16 * t.val)
    (hi : ∀ i : S256.Idx, (ids.view.read (Elt F) fi i : BitVec 32).toNat < n) (hG : Rows tab ids base d c w ft fi G) :
    iprop((ids.view.loc (V d c w) ↦{fullShare} fi) ∗ (tab.view.loc (V d c w) ↦{q} ft) ∗ (buf.view.loc (V d c w) ↦{fullShare} f))
      ⊢ iprop((∀ f', ⌜buf.view.read (Elt F) f' = G⌝ -∗ (ids.view.loc (V d c w) ↦{fullShare} fi) -∗ (tab.view.loc (V d c w) ↦{q} ft)
          -∗ (buf.view.loc (V d c w) ↦{fullShare} f') -∗ wp frame (wpE (defs₀ (F := F)) 𝒱₀ (V d c w) none) Set.univ (kk ⟨⟩) Q)
        -∗ wp frame (wpE (defs₀ (F := F)) 𝒱₀ (V d c w) none) Set.univ
          (Scf.Loop.for loop8 hok PUnit.unit (fun t _ => trip dec tab ids buf b hb t) >>= kk) Q) := by
  have h8 : loop8.trips = 8 := by decide +kernel
  let I : ℕ → PUnit → sProp 𝕄 := fun t _ => iprop((ids.view.loc (V d c w) ↦{fullShare} fi) ∗ (tab.view.loc (V d c w) ↦{q} ft)
    ∗ ∃ f', ⌜Upto buf d c w G f' (16 * t * 128)⌝ ∗ (buf.view.loc (V d c w) ↦{fullShare} f'))
  iintro ⟨Hi, Ht, Hb⟩ HK
  iapply (Scf.wp_for_bind frame (wpE (defs₀ (F := F)) 𝒱₀ (V d c w) none) Set.univ loop8.lb loop8.ub loop8.st hok PUnit.unit
    (fun t _ => trip dec tab ids buf b hb t) I ?_ (kk := kk)) $$ [Hi Ht Hb]
  · intro t _
    iintro ⟨Hi, Ht, %f', %hf', Hb⟩
    iapply (wp_trip (ft := ft) (fi := fi) (G := G) (f := f') (base := base) (hbase t) hi hG hf') $$ [Hi Ht Hb]
    · isplitl [Hi]; · iexact Hi
      isplitl [Ht] <;> iassumption
    iintro %f'' %hf'' Hi Ht Hb
    isplitl [Hi]; · iexact Hi
    isplitl [Ht]; · iexact Ht
    iexists f''; isplitr; · ipureintro; exact hf''
    iexact Hb
  · isplitl [Hi]; · iexact Hi
    isplitl [Ht]; · iexact Ht
    iexists f; isplitr; · ipureintro; intro y hy; exact absurd hy (by omega)
    iexact Hb
  iintro %u ⟨Hi, Ht, %f', %hf', Hb⟩
  iapply HK $$ [] Hi Ht Hb
  ipureintro
  funext y
  refine hf' y ?_
  have y0 : (y 0).val < 128 := (y 0).isLt
  have y1 : (y 1).val < 128 := (y 1).isLt
  have : Scf.trips loop8.lb loop8.ub loop8.st = 8 := h8
  rw [this]; omega

end Cert.KernelIdeal.Tile

end
-- ==== Proof.Tile.lean ====
/-
  The tile's run: what one SparseCore tile leaves in the outputs.
-/
module

public import proofs.«01_k».proof.Proof.Prog
public import proofs.«01_k».proof.Proof.Loops
public import Idealize.ShloMosaic.Lib.VecWindow

@[expose] public section

noncomputable section

namespace Cert.KernelIdeal.Tile

open Cert.KernelIdeal Cert.KernelIdeal.Gen Cert.KernelIdeal.Run
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

/-- What a buffer held whole reads as, kept in place of its contents. -/
theorem keep {sp : Space} {s : Shape} {e : EltTy} {thr : Thread nD τ} {v : View sig thr.2.kind sp s e} {q : PosShare TreeShare}
    {f : Buf (Elt F) (v.loc thr)} {T : s.Idx → Elt F e} (h : v.read (Elt F) f = T) :
    ((v.loc thr ↦{q} f : sProp 𝕄)) ⊢ iprop(∃ g, ⌜v.read (Elt F) g = T⌝ ∗ (v.loc thr ↦{q} g)) := by
  iintro H
  iexists f; isplitr; · ipureintro; exact h
  iexact H

/-- What a view written whole at once reads as. -/
theorem read_wrote {κ : Kind} {sp : Space} {s : Shape} {e : EltTy} (v : View sig κ sp s e) (f : v.ty.Contents (Elt F)) (T : s.Idx → Elt F e) :
    v.read (Elt F) (v.writes (Elt F) f [⟨Rect.whole s, T⟩]) = T :=
  View.read_writes_full v f (off := fun _ => 0) (fun a => (Nat.zero_add _).le) T []

/-- The table entry an id names, at lane `l`. -/
def tabIx (n : ℕ) (hn : 0 < n) (v : BitVec 32) (l : Fin 128) : (Tab n).Idx := fun | 0 => ⟨v.toNat % n, Nat.mod_lt _ hn⟩ | 1 => l

/-- The index of id `i` among a call's 8192. -/
def idIx (i : Fin 8192) : S8192.Idx := fun | 0 => i

/-- A call's gathered rows: row `i` is the table's row named by id `i`. -/
def gathered {α : Type} (n : ℕ) (hn : 0 < n) (T : (Tab n).Idx → α) (I : S8192.Idx → BitVec 32) : S8192x128.Idx → α :=
  fun y => T (tabIx n hn (I (idIx (y 0))) (y 1))

/-- A slice of 128 rows of an output. -/
abbrev rows128 (om : Memref sig .scVector .hbm S8192x128 .f32) (oa : Fin 2 → ℕ) (hoa : ∀ a, oa a + S128x128.size a ≤ S8192x128.size a) :
    Memref sig .scVector .hbm S128x128 .f32 := om.slice (Rect.unit (s := S8192x128) oa S128x128.size hoa) (fun _ => rfl)

/-- The rows a chunk gathers are the call's, at the chunk's place. -/
theorem rows_gathered {d : Dev nD} {c : Fin τ.nSC} {w : Fin τ.nSub} {n : ℕ} (hn : 0 < n) {tab : Memref sig .scVector .vmem (Tab n) .f32} {ids : Memref sig .scVector .vmem S256 .i32}
    {base : ℕ} {ft : Buf (Elt F) (tab.view.loc (V d c w))} {fi : Buf (Elt F) (ids.view.loc (V d c w))}
    {T : (Tab n).Idx → Elt F .f32} {I : S8192.Idx → BitVec 32} (hI : ∀ i, (I i).toNat < n)
    {o : Fin 1 → ℕ} {ho : ∀ a, o a + S256.size a ≤ S8192.size a} {oa : Fin 2 → ℕ} {hoa : ∀ a, oa a + S128x128.size a ≤ S8192x128.size a}
    (hT : tab.view.read (Elt F) ft = T) (hF : ids.view.read (Elt F) fi = fun i => I ((Rect.unit (s := S8192) o S256.size ho).emb i))
    (h0 : oa 0 = o 0 + base) (h1 : oa 1 = 0) :
    Rows tab ids base d c w ft fi (fun y => gathered n hn T I ((Rect.unit (s := S8192x128) oa S128x128.size hoa).emb y)) := by
  intro y z i e0 e1 e2
  rw [hT]
  refine congrArg T (funext fun a => ?_)
  have hi : (Rect.unit (s := S8192) o S256.size ho).emb i = idIx ((Rect.unit (s := S8192x128) oa S128x128.size hoa).emb y 0) := by
    funext b
    match b with
    | 0 => refine Fin.ext ?_; show o 0 + 1 * (i 0).val = oa 0 + 1 * (y 0).val; omega
  rw [hF] at e1
  simp only [hi] at e1
  match a with
  | 0 => refine Fin.ext ?_; show _ % n = _; rw [Nat.mod_eq_of_lt (hI _)]; exact e1.symm
  | 1 => refine Fin.ext ?_; show oa 1 + 1 * (y 1).val = _; omega

theorem idOff_base0 : ∀ t : Fin loop8.trips, idOff 0#32 t 0 = 0 + 16 * t.val := by decide +kernel
theorem idOff_base128 : ∀ t : Fin loop8.trips, idOff 128#32 t 0 = 128 + 16 * t.val := by decide +kernel

set_option maxHeartbeats 4000000 in
set_option maxRecDepth 100000 in
/-- One tile of one call: from the two tables and the ids it reads, it leaves the four chunks gathered. -/
theorem tile_run {d : Dev nD} {c : Fin τ.nSC} {w : Fin τ.nSub}
    (d1 d2 : Fin 16 → ∀ v : BitVec 32, Decidable (Chk 100 v)) (d3 d4 : Fin 16 → ∀ v : BitVec 32, Decidable (Chk 26 v))
    (x : Opnds) (o : Fin 1 → ℕ) (ho : ∀ a, o a + S256.size a ≤ S8192.size a)
    (oa : Fin 2 → ℕ) (hoa : ∀ a, oa a + S128x128.size a ≤ S8192x128.size a) (ob : Fin 2 → ℕ) (hob : ∀ a, ob a + S128x128.size a ≤ S8192x128.size a)
    (ha0 : oa 0 = o 0 + 0) (ha1 : oa 1 = 0) (hb0 : ob 0 = o 0 + 128) (hb1 : ob 1 = 0)
    {q : PosShare TreeShare}
    {fmt : Buf (Elt F) (x.mt.view.loc (V d c w))} {fdt : Buf (Elt F) (x.dt.view.loc (V d c w))}
    {fmi : Buf (Elt F) (x.mi.view.loc (V d c w))} {fdi : Buf (Elt F) (x.di.view.loc (V d c w))}
    {fom : Buf (Elt F) (x.om.view.loc (V d c w))} {fod : Buf (Elt F) (x.od.view.loc (V d c w))}
    (hmi : ∀ i, (x.mi.view.read (Elt F) fmi i : BitVec 32).toNat < 100) (hdi : ∀ i, (x.di.view.read (Elt F) fdi i : BitVec 32).toNat < 26)
    (O : CellTallies nD τ sig (HIx 2)) (W : Waits sig (HIx 2)) (hO : ∀ g, O g none = 0) :
    (iprop(levAts (K (F := F)).L (K (F := F)).lev
        ∗ (x.mt.view.loc (V d c w) ↦{q} fmt) ∗ (x.dt.view.loc (V d c w) ↦{q} fdt) ∗ (x.mi.view.loc (V d c w) ↦{q} fmi) ∗ (x.di.view.loc (V d c w) ↦{q} fdi)
        ∗ ((rows128 x.om oa hoa).view.loc (V d c w) ↦[(rows128 x.om oa hoa).view.set]{fullShare} fom)
        ∗ ((rows128 x.om ob hob).view.loc (V d c w) ↦[(rows128 x.om ob hob).view.set]{fullShare} fom)
        ∗ ((rows128 x.od oa hoa).view.loc (V d c w) ↦[(rows128 x.od oa hoa).view.set]{fullShare} fod)
        ∗ ((rows128 x.od ob hob).view.loc (V d c w) ↦[(rows128 x.od ob hob).view.set]{fullShare} fod)
        ∗ ((∃ f, x.mv.view.loc (V d c w) ↦{fullShare} f) ∗ (∃ f, x.dv.view.loc (V d c w) ↦{fullShare} f) ∗ (∃ f, x.im.view.loc (V d c w) ↦{fullShare} f)
          ∗ (∃ f, x.id.view.loc (V d c w) ↦{fullShare} f) ∗ (∃ f, x.ba.view.loc (V d c w) ↦{fullShare} f) ∗ (∃ f, x.bb.view.loc (V d c w) ↦{fullShare} f))
        ∗ (semVal (V d c w, .dma x.sa.sem) 0 ∗ semVal (V d c w, .dma x.sb.sem) 0 ∗ semVal (V d c w, .dma x.r0.sem) 0 ∗ semVal (V d c w, .dma x.r1.sem) 0
          ∗ semVal (V d c w, .dma x.r2.sem) 0 ∗ semVal (V d c w, .dma x.r3.sem) 0)
        ∗ owes (V d c w) O W) : sProp 𝕄)
      ⊢ wp frame (wpE (defs₀ (F := F)) 𝒱₀ (V d c w) none) Set.univ (progA d1 d2 d3 x o ho oa hoa ob hob (progB d4 x oa hoa ob hob))
        fun _ => iprop(
          ((x.mt.view.loc (V d c w) ↦{q} fmt) ∗ (x.dt.view.loc (V d c w) ↦{q} fdt) ∗ (x.mi.view.loc (V d c w) ↦{q} fmi) ∗ (x.di.view.loc (V d c w) ↦{q} fdi)
          ∗ (∃ g, ⌜(rows128 x.om oa hoa).view.read (Elt F) g = fun y => gathered 100 (by decide) (x.mt.view.read (Elt F) fmt) (x.mi.view.read (Elt F) fmi)
                ((Rect.unit (s := S8192x128) oa S128x128.size hoa).emb y)⌝ ∗ ((rows128 x.om oa hoa).view.loc (V d c w) ↦[(rows128 x.om oa hoa).view.set]{fullShare} g))
          ∗ (∃ g, ⌜(rows128 x.om ob hob).view.read (Elt F) g = fun y => gathered 100 (by decide) (x.mt.view.read (Elt F) fmt) (x.mi.view.read (Elt F) fmi)
                ((Rect.unit (s := S8192x128) ob S128x128.size hob).emb y)⌝ ∗ ((rows128 x.om ob hob).view.loc (V d c w) ↦[(rows128 x.om ob hob).view.set]{fullShare} g))
          ∗ (∃ g, ⌜(rows128 x.od oa hoa).view.read (Elt F) g = fun y => gathered 26 (by decide) (x.dt.view.read (Elt F) fdt) (x.di.view.read (Elt F) fdi)
                ((Rect.unit (s := S8192x128) oa S128x128.size hoa).emb y)⌝ ∗ ((rows128 x.od oa hoa).view.loc (V d c w) ↦[(rows128 x.od oa hoa).view.set]{fullShare} g))
          ∗ (∃ g, ⌜(rows128 x.od ob hob).view.read (Elt F) g = fun y => gathered 26 (by decide) (x.dt.view.read (Elt F) fdt) (x.di.view.read (Elt F) fdi)
                ((Rect.unit (s := S8192x128) ob S128x128.size hob).emb y)⌝ ∗ ((rows128 x.od ob hob).view.loc (V d c w) ↦[(rows128 x.od ob hob).view.set]{fullShare} g)))
        ∗ ((∃ f, x.mv.view.loc (V d c w) ↦{fullShare} f) ∗ (∃ f, x.dv.view.loc (V d c w) ↦{fullShare} f) ∗ (∃ f, x.im.view.loc (V d c w) ↦{fullShare} f)
          ∗ (∃ f, x.id.view.loc (V d c w) ↦{fullShare} f) ∗ (∃ f, x.ba.view.loc (V d c w) ↦{fullShare} f) ∗ (∃ f, x.bb.view.loc (V d c w) ↦{fullShare} f))
        ∗ (semVal (V d c w, .dma x.sa.sem) 0 ∗ semVal (V d c w, .dma x.sb.sem) 0 ∗ semVal (V d c w, .dma x.r0.sem) 0 ∗ semVal (V d c w, .dma x.r1.sem) 0
          ∗ semVal (V d c w, .dma x.r2.sem) 0 ∗ semVal (V d c w, .dma x.r3.sem) 0)
        ∗ ∃ W', ⌜∀ p ∈ W', p ∈ W ∨ p.2 = none⌝ ∗ owes (V d c w) O W') := by
  unfold progA
  iintro ⟨#Hlv, Hmt, Hdt, Hmi, Hdi, Hma, Hmb, Hda, Hdb, ⟨⟨%gmv, Hmv⟩, ⟨%gdv, Hdv⟩, ⟨%gim, Him⟩, ⟨%gid, Hid⟩, ⟨%gba, Hba⟩, ⟨%gbb, Hbb⟩⟩, ⟨Hsa, Hsb, Hr0, Hr1, Hr2, Hr3⟩, HO⟩
  ihave Hmw := (show levAts (K (F := F)).L (K (F := F)).lev ⊢ Transfers.MayWaits (V d c w) (default : HIx 2) O from
    (K (F := F)).mayWaits_none (thr := V d c w) hO) $$ Hlv
  sl_exec
  ihave Hmv := (keep (View.read_write_univ (v := x.mv.view) gmv (x.mt.view.read (Elt F) fmt))) $$ Hmv
  ihave Hdv := (keep (View.read_write_univ (v := x.dv.view) gdv (x.dt.view.read (Elt F) fdt))) $$ Hdv
  ihave Him := (keep (View.read_write_univ (v := x.im.view) gim (fun i => x.mi.view.read (Elt F) fmi ((Rect.unit (s := S8192) o S256.size ho).emb i)))) $$ Him
  ihave Hid := (keep (View.read_write_univ (v := x.id.view) gid (fun i => x.di.view.read (Elt F) fdi ((Rect.unit (s := S8192) o S256.size ho).emb i)))) $$ Hid
  icases Hmv with ⟨%fmv, %hmv, Hmv⟩
  icases Hdv with ⟨%fdv, %hdv, Hdv⟩
  icases Him with ⟨%fim, %him, Him⟩
  icases Hid with ⟨%fid, %hid, Hid⟩
  iapply (wp_gather (base := 0) idOff_base0 (fun i => by rw [him]; exact hmi _) (rows_gathered (hoa := hoa) (by decide) hmi hmv him ha0 ha1)) $$ [Him Hmv Hba]
  · isplitl [Him]; · iexact Him
    isplitl [Hmv] <;> iassumption
  iintro %ga %hga Him Hmv Hba
  sl_exec
  iapply (wp_gather (base := 128) idOff_base128 (fun i => by rw [him]; exact hmi _) (rows_gathered (hoa := hob) (by decide) hmi hmv him hb0 hb1)) $$ [Him Hmv Hbb]
  · isplitl [Him]; · iexact Him
    isplitl [Hmv] <;> iassumption
  iintro %gb %hgb Him Hmv Hbb
  sl_exec
  iapply (wp_gather (base := 0) idOff_base0 (fun i => by rw [hid]; exact hdi _) (rows_gathered (hoa := hoa) (by decide) hdi hdv hid ha0 ha1)) $$ [Hid Hdv Hba]
  · isplitl [Hid]; · iexact Hid
    isplitl [Hdv] <;> iassumption
  iintro %ga' %hga' Hid Hdv Hba
  unfold progB
  sl_exec
  iapply (wp_gather (base := 128) idOff_base128 (fun i => by rw [hid]; exact hdi _) (rows_gathered (hoa := hob) (by decide) hdi hdv hid hb0 hb1)) $$ [Hid Hdv Hbb]
  · isplitl [Hid]; · iexact Hid
    isplitl [Hdv] <;> iassumption
  iintro %gb' %hgb' Hid Hdv Hbb
  sl_exec
  sl_step
  isplitl [Hmt Hdt Hmi Hdi Hma Hmb Hda Hdb]
  · isplitl [Hmt]; · iexact Hmt
    isplitl [Hdt]; · iexact Hdt
    isplitl [Hmi]; · iexact Hmi
    isplitl [Hdi]; · iexact Hdi
    isplitl [Hma]
    · iexists _; isplitr; swap; · iexact Hma
      ipureintro; exact (read_wrote _ _ _).trans hga
    isplitl [Hmb]
    · iexists _; isplitr; swap; · iexact Hmb
      ipureintro; exact (read_wrote _ _ _).trans hgb
    isplitl [Hda]
    · iexists _; isplitr; swap; · iexact Hda
      ipureintro; exact (read_wrote _ _ _).trans hga'
    · iexists _; isplitr; swap; · iexact Hdb
      ipureintro; exact (read_wrote _ _ _).trans hgb'
  isplitl [Hmv Hdv Him Hid Hba Hbb]
  · isplitl [Hmv]; · iexists _; iexact Hmv
    isplitl [Hdv]; · iexists _; iexact Hdv
    isplitl [Him]; · iexists _; iexact Him
    isplitl [Hid]; · iexists _; iexact Hid
    isplitl [Hba]; · iexists _; iexact Hba
    iexists _; iexact Hbb
  isplitl [Hsa Hsb Hr0 Hr1 Hr2 Hr3]
  · isplitl [Hsa]; · iexact Hsa
    isplitl [Hsb]; · iexact Hsb
    isplitl [Hr0]; · iexact Hr0
    isplitl [Hr1]; · iexact Hr1
    isplitl [Hr2] <;> iassumption
  iexists _; isplitr
  swap; · iexact HO
  ipureintro; intro p hp
  simp only [Finset.mem_insert] at hp
  rcases hp with hp | hp | hp | hp | hp | hp | hp | hp | hp
  case inr.inr.inr.inr.inr.inr.inr.inr => exact .inl hp
  all_goals exact .inr (hp ▸ rfl)

end Cert.KernelIdeal.Tile

end
-- ==== Proof.Payload.lean ====
/-
  What the two gather calls hand each of the 32 tiles, and how the whole arrays split into it.

  A tile reads the tables and the call's ids, each at a share of the whole array, and owns 256 rows of each output, as
  two runs of 128.
-/
module

public import proofs.«01_k».proof.Proof.Tile

@[expose] public section

noncomputable section

namespace Cert.KernelIdeal.Run

open Cert.KernelIdeal Cert.KernelIdeal.Gen Cert.KernelIdeal.Tile
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

/-! ## Shares -/

/-- Share `q` cut into `n + 1`: the left half, and the rest cut out of the right half. -/
def cut : (n : ℕ) → PosShare TreeShare → Fin (n + 1) → PosShare TreeShare
  | 0, q, _ => q
  | n + 1, q, i => i.cases q.left (cut n q.right)

/-- A separating conjunction over `n + 1` members is the first and the others. -/
theorem bigSep_first (n : ℕ) (Φ : Fin (n + 1) → sProp 𝕄) :
    bigSep Finset.univ Φ = iprop(Φ 0 ∗ bigSep Finset.univ fun i : Fin n => Φ i.succ) := by
  classical
  have h : (0 : Fin (n + 1)) ∉ (Finset.univ : Finset (Fin n)).map (Fin.succEmb n) := by
    simp [Fin.succ_ne_zero]
  rw [show (Finset.univ : Finset (Fin (n + 1))) = insert 0 ((Finset.univ : Finset (Fin n)).map (Fin.succEmb n)) by
    rw [Fin.univ_succ, Finset.cons_eq_insert]; rfl, bigSep_insert h, bigSep_map]
  rfl

theorem pts_cut {ℓ : Loc nD τ sig} (I : Finset (Idx ℓ)) (f : Buf (Elt F) ℓ) :
    ∀ (n : ℕ) (q : PosShare TreeShare), (ℓ ↦[I]{q} f : sProp 𝕄) = bigSep Finset.univ fun i : Fin (n + 1) => ℓ ↦[I]{cut n q i} f
  | 0, q => (bigSep_univ_of_subsingleton (0 : Fin 1) (Φ := fun i : Fin 1 => (ℓ ↦[I]{cut 0 q i} f : sProp 𝕄))).symm
  | n + 1, q => by
    rw [bigSep_first (n + 1), BI.Entails.antisymm (pointsTo_share (PosShare.mem_left_op_right q)).1 (pointsTo_share (PosShare.mem_left_op_right q)).2,
      pts_cut I f n q.right]
    rfl

/-- The share of an array that tile `s` of SparseCore `c` reads it at. -/
def sh (c : Fin 2) (s : Fin 16) : PosShare TreeShare := cut 15 (cut 1 fullShare c) s

/-- An array is its 32 read shares. -/
theorem pts_shares {ℓ : Loc nD τ sig} (f : Buf (Elt F) ℓ) :
    (ℓ ↦{fullShare} f : sProp 𝕄) = bigSep Finset.univ fun c : Fin 2 => bigSep Finset.univ fun s : Fin 16 => ℓ ↦{sh c s} f := by
  rw [pts_cut Finset.univ f 1 fullShare]
  exact bigSep_congr fun c _ => pts_cut Finset.univ f 15 _

/-! ## Rows -/

/-- The 128 rows of an output from row `r`. -/
def rowsAt (r : ℕ) : Finset S8192x128.Idx := Finset.univ.filter fun y => r ≤ (y 0).val ∧ (y 0).val < r + 128

theorem mem_rowsAt {r : ℕ} {y : S8192x128.Idx} : y ∈ rowsAt r ↔ r ≤ (y 0).val ∧ (y 0).val < r + 128 := by simp [rowsAt]

/-- The first row of half `h` of the rows of tile `s` of SparseCore `c`. -/
def rowOf (c : Fin 2) (s : Fin 16) (h : Fin 2) : ℕ := 512 * s.val + 256 * c.val + 128 * h.val

theorem rows_cover : (Finset.univ : Finset (Fin 2 × Fin 16 × Fin 2)).biUnion (fun t => rowsAt (rowOf t.1 t.2.1 t.2.2)) = Finset.univ := by
  refine Finset.eq_univ_of_forall fun y => ?_
  have hy : (y 0).val < 8192 := (y 0).isLt
  refine Finset.mem_biUnion.mpr ⟨(⟨(y 0).val / 256 % 2, by omega⟩, ⟨(y 0).val / 512, by omega⟩, ⟨(y 0).val / 128 % 2, by omega⟩), Finset.mem_univ _, ?_⟩
  rw [mem_rowsAt]; simp only [rowOf]; omega

theorem rows_disjoint : ∀ t ∈ (Finset.univ : Finset (Fin 2 × Fin 16 × Fin 2)), ∀ t' ∈ (Finset.univ : Finset (Fin 2 × Fin 16 × Fin 2)), t ≠ t' →
    Disjoint (rowsAt (rowOf t.1 t.2.1 t.2.2)) (rowsAt (rowOf t'.1 t'.2.1 t'.2.2)) := by
  rintro ⟨c, s, h⟩ - ⟨c', s', h'⟩ - hne
  refine Finset.disjoint_left.mpr fun y hy hy' => hne ?_
  rw [mem_rowsAt] at hy hy'; simp only [rowOf] at hy hy'
  have := c.isLt; have := c'.isLt; have := h.isLt; have := h'.isLt
  have e1 : s.val = s'.val := by omega
  have e2 : c.val = c'.val := by omega
  have e3 : h.val = h'.val := by omega
  rw [Fin.ext e1, Fin.ext e2, Fin.ext e3]

/-- An output is its 64 runs of rows. The array's own index type is a run's, as `hI` says. -/
theorem pts_rows {ℓ : Loc nD τ sig} (R : ℕ → Finset (Idx ℓ)) (hc : (Finset.univ : Finset (Fin 2 × Fin 16 × Fin 2)).biUnion (fun t => R (rowOf t.1 t.2.1 t.2.2)) = Finset.univ)
    (hd : ∀ t ∈ (Finset.univ : Finset (Fin 2 × Fin 16 × Fin 2)), ∀ t' ∈ (Finset.univ : Finset (Fin 2 × Fin 16 × Fin 2)), t ≠ t' →
      Disjoint (R (rowOf t.1 t.2.1 t.2.2)) (R (rowOf t'.1 t'.2.1 t'.2.2))) (f : Buf (Elt F) ℓ) :
    (ℓ ↦{fullShare} f : sProp 𝕄) = bigSep Finset.univ fun c : Fin 2 => bigSep Finset.univ fun s : Fin 16 =>
      iprop((ℓ ↦[R (rowOf c s 0)]{fullShare} f) ∗ (ℓ ↦[R (rowOf c s 1)]{fullShare} f)) := by
  have h := pointsTo_biUnion (Val := Elt F) (Ix := HIx 2) (Name := ℕ) (U := UU) (Lvl := ℕ) (ℓ := ℓ) (q := fullShare) (f := f) Finset.univ
    (fun t : Fin 2 × Fin 16 × Fin 2 => R (rowOf t.1 t.2.1 t.2.2)) hd
  rw [hc] at h
  rw [h, bigSep_univ_prod]
  refine bigSep_congr fun c _ => ?_
  rw [bigSep_univ_prod]
  exact bigSep_congr fun s _ => bigSep_fin_two _

/-! ## The payload -/

/-- A tile's part of six arrays: tables, ids, outputs. -/
def pay {ℓt ℓd ℓi ℓj ℓo ℓe : Loc nD τ sig} (ft : Buf (Elt F) ℓt) (fd : Buf (Elt F) ℓd) (fi : Buf (Elt F) ℓi) (fj : Buf (Elt F) ℓj) (fo : Buf (Elt F) ℓo) (fe : Buf (Elt F) ℓe)
    (R : ℕ → Finset (Idx ℓo)) (R' : ℕ → Finset (Idx ℓe)) (c : Fin 2) (s : Fin 16) : sProp 𝕄 :=
  iprop((ℓt ↦{sh c s} ft) ∗ (ℓd ↦{sh c s} fd) ∗ (ℓi ↦{sh c s} fi) ∗ (ℓj ↦{sh c s} fj)
    ∗ ((ℓo ↦[R (rowOf c s 0)]{fullShare} fo) ∗ (ℓo ↦[R (rowOf c s 1)]{fullShare} fo))
    ∗ ((ℓe ↦[R' (rowOf c s 0)]{fullShare} fe) ∗ (ℓe ↦[R' (rowOf c s 1)]{fullShare} fe)))

instance pay_storable {ℓt ℓd ℓi ℓj ℓo ℓe : Loc nD τ sig} (ft : Buf (Elt F) ℓt) (fd : Buf (Elt F) ℓd) (fi : Buf (Elt F) ℓi) (fj : Buf (Elt F) ℓj) (fo : Buf (Elt F) ℓo) (fe : Buf (Elt F) ℓe)
    (R : ℕ → Finset (Idx ℓo)) (R' : ℕ → Finset (Idx ℓe)) (c : Fin 2) (s : Fin 16) : BI.Storable (upEmb : UEmb _ 𝕄) (pay ft fd fi fj fo fe R R' c s) := by
  unfold pay; infer_instance

/-- The six arrays are the 32 tiles' parts. -/
theorem pay_whole {ℓt ℓd ℓi ℓj ℓo ℓe : Loc nD τ sig} (ft : Buf (Elt F) ℓt) (fd : Buf (Elt F) ℓd) (fi : Buf (Elt F) ℓi) (fj : Buf (Elt F) ℓj) (fo : Buf (Elt F) ℓo) (fe : Buf (Elt F) ℓe)
    (R : ℕ → Finset (Idx ℓo)) (R' : ℕ → Finset (Idx ℓe))
    (hR : (ℓo ↦{fullShare} fo : sProp 𝕄) = bigSep Finset.univ fun c : Fin 2 => bigSep Finset.univ fun s : Fin 16 =>
      iprop((ℓo ↦[R (rowOf c s 0)]{fullShare} fo) ∗ (ℓo ↦[R (rowOf c s 1)]{fullShare} fo)))
    (hR' : (ℓe ↦{fullShare} fe : sProp 𝕄) = bigSep Finset.univ fun c : Fin 2 => bigSep Finset.univ fun s : Fin 16 =>
      iprop((ℓe ↦[R' (rowOf c s 0)]{fullShare} fe) ∗ (ℓe ↦[R' (rowOf c s 1)]{fullShare} fe))) :
    (iprop((ℓt ↦{fullShare} ft) ∗ (ℓd ↦{fullShare} fd) ∗ (ℓi ↦{fullShare} fi) ∗ (ℓj ↦{fullShare} fj) ∗ (ℓo ↦{fullShare} fo) ∗ (ℓe ↦{fullShare} fe)) : sProp 𝕄)
      = bigSep Finset.univ fun c : Fin 2 => bigSep Finset.univ fun s : Fin 16 => pay ft fd fi fj fo fe R R' c s := by
  simp only [pay, bigSep_sep']
  rw [hR, hR', pts_shares ft, pts_shares fd, pts_shares fi, pts_shares fj]
  simp only [bigSep_sep']

end Cert.KernelIdeal.Run

end
-- ==== Proof.Calls.lean ====
/-
  The two gather calls as the launch theorem takes them: what each tile is handed, and that it does its part.
-/
module

public import proofs.«01_k».proof.Proof.Payload

@[expose] public section

noncomputable section

namespace Cert.KernelIdeal.Run

open Cert.KernelIdeal Cert.KernelIdeal.Gen Cert.KernelIdeal.Tile
open Idealize.ShloMosaic
open Idealize.ShloMosaic.SparseCore (V)
open Idealize.ShloMosaic.SparseCore.Cfg (HIx ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

/-! ## The operands -/

/-- The first call's operands. -/
def opn0 : Opnds :=
  ⟨Memref.whole main_arg3_scv, Memref.isWhole_whole _, Memref.whole main_arg4_scv, Memref.isWhole_whole _, Memref.whole main_v0_scv, Memref.isWhole_whole _,
   Memref.whole main_v1_scv, Memref.isWhole_whole _, Memref.whole main_v2_0_scv, Memref.isWhole_whole _, Memref.whole main_v2_1_scv, Memref.isWhole_whole _,
   Memref.whole cc0_scratch0, Memref.isWhole_whole _, Memref.whole cc0_scratch1, Memref.isWhole_whole _, Memref.whole cc0_scratch2, Memref.isWhole_whole _,
   Memref.whole cc0_scratch3, Memref.isWhole_whole _, Memref.whole cc0_scratch4, Memref.isWhole_whole _, Memref.whole cc0_scratch5, Memref.isWhole_whole _,
   cc0_scratch6, cc0_scratch7, cc0_scoped0, cc0_scoped1, cc0_scoped2, cc0_scoped3⟩

/-- The second call's operands. -/
def opn1 : Opnds :=
  ⟨Memref.whole main_arg3_scv, Memref.isWhole_whole _, Memref.whole main_arg4_scv, Memref.isWhole_whole _, Memref.whole main_v3_scv, Memref.isWhole_whole _,
   Memref.whole main_v4_scv, Memref.isWhole_whole _, Memref.whole main_v5_0_scv, Memref.isWhole_whole _, Memref.whole main_v5_1_scv, Memref.isWhole_whole _,
   Memref.whole cc1_scratch0, Memref.isWhole_whole _, Memref.whole cc1_scratch1, Memref.isWhole_whole _, Memref.whole cc1_scratch2, Memref.isWhole_whole _,
   Memref.whole cc1_scratch3, Memref.isWhole_whole _, Memref.whole cc1_scratch4, Memref.isWhole_whole _, Memref.whole cc1_scratch5, Memref.isWhole_whole _,
   cc1_scratch6, cc1_scratch7, cc1_scoped0, cc1_scoped1, cc1_scoped2, cc1_scoped3⟩

/-! ## A tile's own scratch and semaphores -/

/-- Six members split off a separating conjunction. -/
theorem bigSep_six {I : Type} [DecidableEq I] (S : Finset I) (l : List I) (a b c d e f : I) (hl : l = [a, b, c, d, e, f]) (hn : l.Nodup) (hS : ∀ i ∈ l, i ∈ S) (Φ : I → sProp 𝕄) :
    bigSep S Φ = iprop((Φ a ∗ Φ b ∗ Φ c ∗ Φ d ∗ Φ e ∗ Φ f) ∗ bigSep (S \ l.toFinset) Φ) := by
  have hs : l.toFinset ⊆ S := fun i hi => hS i (List.mem_toFinset.mp hi)
  rw [bigSep_sdiff_split hs]
  subst hl
  simp only [List.nodup_cons, List.mem_cons, List.not_mem_nil, or_false, not_or] at hn
  have e1 : ([a, b, c, d, e, f] : List I).toFinset = insert a (insert b (insert c (insert d (insert e {f})))) := by
    simp [List.toFinset_cons]
  have e2 : bigSep ([a, b, c, d, e, f] : List I).toFinset Φ = iprop(Φ a ∗ Φ b ∗ Φ c ∗ Φ d ∗ Φ e ∗ Φ f) := by
    rw [e1, bigSep_insert (by simp only [Finset.mem_insert, Finset.mem_singleton, not_or]; exact hn.1), bigSep_insert (by simp only [Finset.mem_insert, Finset.mem_singleton, not_or]; exact hn.2.1),
      bigSep_insert (by simp only [Finset.mem_insert, Finset.mem_singleton, not_or]; exact hn.2.2.1), bigSep_insert (by simp only [Finset.mem_insert, Finset.mem_singleton, not_or]; exact hn.2.2.2.1),
      bigSep_insert (by simp only [Finset.mem_singleton]; exact hn.2.2.2.2.1), bigSep_singleton]
    rfl
  rw [e2]; rfl

/-- The six semaphores of a call. -/
def semsOf (x : Opnds) : List (SemLoc sig) := [.dma x.sa.sem, .dma x.sb.sem, .dma x.r0.sem, .dma x.r1.sem, .dma x.r2.sem, .dma x.r3.sem]

theorem ownSems0_tile (x : Opnds) (d : Dev nD) (c : Fin τ.nSC) (w : Fin τ.nSub) (hn : (semsOf x).Nodup) (hs : ∀ s ∈ semsOf x, s.isScoped .scVector = true) :
    (ownSems0 (V d c w) : sProp 𝕄)
      = iprop((semVal (V d c w, .dma x.sa.sem) 0 ∗ semVal (V d c w, .dma x.sb.sem) 0 ∗ semVal (V d c w, .dma x.r0.sem) 0 ∗ semVal (V d c w, .dma x.r1.sem) 0
          ∗ semVal (V d c w, .dma x.r2.sem) 0 ∗ semVal (V d c w, .dma x.r3.sem) 0)
        ∗ bigSep (ownCells (V d c w) \ ((semsOf x).map fun s => ((V d c w, s) : GSem nD τ sig)).toFinset) fun g => semVal g 0) := by
  unfold SparseCore.Cfg.ownSems0
  refine bigSep_six _ ((semsOf x).map fun s => ((V d c w, s) : GSem nD τ sig)) _ _ _ _ _ _ rfl (hn.map fun a b h => (Prod.mk.inj h).2) (fun i hi => ?_) _
  obtain ⟨s, h, rfl⟩ := List.mem_map.mp hi
  exact mem_ownCells.mpr ⟨rfl, hs s h⟩

/-- The six scratch buffers of a tile. -/
theorem ownBufs_tile (d : Dev nD) (c : Fin τ.nSC) (w : Fin τ.nSub) (l : List (Ref sig .scVector)) (r0 r1 r2 r3 r4 r5 : Ref sig .scVector) (hl : l = [r0, r1, r2, r3, r4, r5]) (hn : l.Nodup)
    (ho : ∀ r ∈ l, ((Proc.scVector c w).devRef r).owner = .proc (Proc.scVector c w)) :
    (ownBufs (V d c w) : sProp 𝕄)
      = iprop(((∃ f, (V d c w).loc r0 ↦{fullShare} f) ∗ (∃ f, (V d c w).loc r1 ↦{fullShare} f) ∗ (∃ f, (V d c w).loc r2 ↦{fullShare} f)
          ∗ (∃ f, (V d c w).loc r3 ↦{fullShare} f) ∗ (∃ f, (V d c w).loc r4 ↦{fullShare} f) ∗ (∃ f, (V d c w).loc r5 ↦{fullShare} f))
        ∗ bigSep (ownRefs (τ := τ) (.scVector c w) \ (l.map fun r => (Proc.scVector c w).devRef r).toFinset) fun b => iprop(∃ f, ((d, b) : Loc nD τ sig) ↦{fullShare} f)) := by
  subst hl
  unfold SparseCore.Cfg.ownBufs
  refine bigSep_six _ ([r0, r1, r2, r3, r4, r5].map fun r => (Proc.scVector c w).devRef r) _ _ _ _ _ _ rfl (hn.map fun a b h => Proc.devRef_injective _ h) (fun i hi => ?_) _
  obtain ⟨r, h, rfl⟩ := List.mem_map.mp hi
  exact SparseCore.Cfg.mem_ownRefs_of_owner (ho r h)

/-- A chunk of an array at contents that read, through the chunk, as another array's, is that array's chunk. -/
theorem chunk_congr {thr : Thread nD τ} {sp : Space} {s : Shape} {e : EltTy} (v : View sig thr.2.kind sp s e) (r : Rect s) (g f : Buf (Elt F) (v.loc thr))
    (h : (v.slice r).read (Elt F) g = fun y => v.read (Elt F) f (r.emb y)) :
    ((v.slice r).loc thr ↦[(v.slice r).set]{fullShare} g : sProp 𝕄) = ((v.slice r).loc thr ↦[(v.slice r).set]{fullShare} f) := by
  refine pointsTo_congr fun i hi => ?_
  obtain ⟨y, -, rfl⟩ := Finset.mem_map.mp hi
  have := congrFun h y
  have h2 : (v.slice r).read (Elt F) g y = (v.slice r).read (Elt F) f y := this
  rw [View.read_apply, View.read_apply] at h2
  exact (cast_inj _).mp h2

/-! ## What the calls leave -/

variable [FloatOps F]
variable (m : (ℓ : Loc nD τ sig) → Buf (Elt F) ℓ)

/-- A TensorCore array's location. -/
abbrev at_ (d : Dev nD) (r : Ref sig .tc) : Loc nD τ sig := (SparseCore.T d).loc r

/-- What is asked of the launch memory: every id names a row of its table. -/
def PreOK : Prop := ∀ d : Dev nD, (∀ i : S16384.Idx, (m (at_ d main_arg1) i : BitVec 32).toNat < 100) ∧ (∀ i : S16384.Idx, (m (at_ d main_arg2) i : BitVec 32).toNat < 26)

/-- The first and the last 8192 of the ids. -/
def lo (f : S16384.Idx → BitVec 32) : S8192.Idx → BitVec 32 := extractStridedSlice S8192 ![0] f slices_S16384_S8192_0
def hi (f : S16384.Idx → BitVec 32) : S8192.Idx → BitVec 32 := extractStridedSlice S8192 ![8192] f slices_S16384_S8192_8192

/-- The gathered model rows of the calls. -/
def gm0 (d : Dev nD) : S8192x128.Idx → Elt F .f32 := gathered 100 (by decide) (m (at_ d main_arg3)) (lo (m (at_ d main_arg1)))
def gm1 (d : Dev nD) : S8192x128.Idx → Elt F .f32 := gathered 100 (by decide) (m (at_ d main_arg3)) (hi (m (at_ d main_arg1)))
/-- The gathered decoding rows of the calls. -/
def gd0 (d : Dev nD) : S8192x128.Idx → Elt F .f32 := gathered 26 (by decide) (m (at_ d main_arg4)) (lo (m (at_ d main_arg2)))
def gd1 (d : Dev nD) : S8192x128.Idx → Elt F .f32 := gathered 26 (by decide) (m (at_ d main_arg4)) (hi (m (at_ d main_arg2)))

/-- A tile's part of the first call's arrays, the outputs at `fo` and `fe`. -/
def pay0 (d : Dev nD) (fo : Buf (Elt F) (at_ d main_v2_0)) (fe : Buf (Elt F) (at_ d main_v2_1)) (c : Fin 2) (s : Fin 16) : sProp 𝕄 :=
  pay (ℓt := at_ d main_arg3) (ℓd := at_ d main_arg4) (ℓi := at_ d main_v0) (ℓj := at_ d main_v1) (ℓo := at_ d main_v2_0) (ℓe := at_ d main_v2_1)
    (m _) (m _) (lo (m (at_ d main_arg1))) (lo (m (at_ d main_arg2))) fo fe rowsAt rowsAt c s
/-- The same of the second call's. -/
def pay1 (d : Dev nD) (fo : Buf (Elt F) (at_ d main_v5_0)) (fe : Buf (Elt F) (at_ d main_v5_1)) (c : Fin 2) (s : Fin 16) : sProp 𝕄 :=
  pay (ℓt := at_ d main_arg3) (ℓd := at_ d main_arg4) (ℓi := at_ d main_v3) (ℓj := at_ d main_v4) (ℓo := at_ d main_v5_0) (ℓe := at_ d main_v5_1)
    (m _) (m _) (hi (m (at_ d main_arg1))) (hi (m (at_ d main_arg2))) fo fe rowsAt rowsAt c s

instance (d : Dev nD) (fo fe) (c : Fin 2) (s : Fin 16) : BI.Storable (upEmb : UEmb _ 𝕄) (pay0 m d fo fe c s) := by unfold pay0; infer_instance
instance (d : Dev nD) (fo fe) (c : Fin 2) (s : Fin 16) : BI.Storable (upEmb : UEmb _ 𝕄) (pay1 m d fo fe c s) := by unfold pay1; infer_instance

/-- What the calls' signals carry: each tile its part, brought back with the outputs gathered. -/
def P : (K (F := F)).Pay (nD := nD) (Val := Elt F) (Name := ℕ) (U := UU) where
  st := fun q d c => match q with
    | 0 => bigSep Finset.univ fun s : Fin 16 => pay0 m d (m _) (m _) c s
    | 1 => bigSep Finset.univ fun s : Fin 16 => pay1 m d (m _) (m _) c s
  dn := fun q d c => match q with
    | 0 => bigSep Finset.univ fun s : Fin 16 => pay0 m d (gm0 m d) (gd0 m d) c s
    | 1 => bigSep Finset.univ fun s : Fin 16 => pay1 m d (gm1 m d) (gd1 m d) c s
  go := fun q d c s => match q with
    | 0 => pay0 m d (m _) (m _) c s
    | 1 => pay1 m d (m _) (m _) c s
  td := fun q d c s => match q with
    | 0 => pay0 m d (gm0 m d) (gd0 m d) c s
    | 1 => pay1 m d (gm1 m d) (gd1 m d) c s
  x := fun _ _ => iprop(emp)

instance P_storable : (P (F := F) m).IsStorable where
  st q d c := match q with
    | 0 => (inferInstance : BI.Storable (upEmb : UEmb _ 𝕄) (bigSep Finset.univ fun s : Fin 16 => pay0 m d (m _) (m _) c s))
    | 1 => (inferInstance : BI.Storable (upEmb : UEmb _ 𝕄) (bigSep Finset.univ fun s : Fin 16 => pay1 m d (m _) (m _) c s))
  dn q d c := match q with
    | 0 => (inferInstance : BI.Storable (upEmb : UEmb _ 𝕄) (bigSep Finset.univ fun s : Fin 16 => pay0 m d (gm0 m d) (gd0 m d) c s))
    | 1 => (inferInstance : BI.Storable (upEmb : UEmb _ 𝕄) (bigSep Finset.univ fun s : Fin 16 => pay1 m d (gm1 m d) (gd1 m d) c s))
  go q d c s := match q with
    | 0 => (inferInstance : BI.Storable (upEmb : UEmb _ 𝕄) (pay0 m d (m _) (m _) c s))
    | 1 => (inferInstance : BI.Storable (upEmb : UEmb _ 𝕄) (pay1 m d (m _) (m _) c s))
  td q d c s := match q with
    | 0 => (inferInstance : BI.Storable (upEmb : UEmb _ 𝕄) (pay0 m d (gm0 m d) (gd0 m d) c s))
    | 1 => (inferInstance : BI.Storable (upEmb : UEmb _ 𝕄) (pay1 m d (gm1 m d) (gd1 m d) c s))

/-- A call's start splits into its tiles' parts, which join to its end. -/
theorem vecSplit (q : Fin 2) : (K (F := F)).VecSplit' (P m) q := by
  match q with
  | 0 =>
    intro d c
    show (bigSep Finset.univ fun s : Fin 16 => pay0 m d (m _) (m _) c s) ⊢ |={Set.univ}=> iprop((bigSep Finset.univ fun s : Fin 16 => pay0 m d (m _) (m _) c s)
      ∗ ((bigSep Finset.univ fun s : Fin 16 => pay0 m d (gm0 m d) (gd0 m d) c s) -∗ bigSep Finset.univ fun s : Fin 16 => pay0 m d (gm0 m d) (gd0 m d) c s))
    iintro H; imodintro
    isplitl [H]; · iexact H
    iintro H; iexact H
  | 1 =>
    intro d c
    show (bigSep Finset.univ fun s : Fin 16 => pay1 m d (m _) (m _) c s) ⊢ |={Set.univ}=> iprop((bigSep Finset.univ fun s : Fin 16 => pay1 m d (m _) (m _) c s)
      ∗ ((bigSep Finset.univ fun s : Fin 16 => pay1 m d (gm1 m d) (gd1 m d) c s) -∗ bigSep Finset.univ fun s : Fin 16 => pay1 m d (gm1 m d) (gd1 m d) c s))
    iintro H; imodintro
    isplitl [H]; · iexact H
    iintro H; iexact H

end Cert.KernelIdeal.Run

end
-- ==== Proof.Obl.lean ====
/-
  Each tile does its part of each call: the launch theorem's obligations.
-/
module

public import proofs.«01_k».proof.Proof.Calls

@[expose] public section

noncomputable section

namespace Cert.KernelIdeal.Run

open Cert.KernelIdeal Cert.KernelIdeal.Gen Cert.KernelIdeal.Tile
open Idealize.ShloMosaic
open Idealize.ShloMosaic.SparseCore (V)
open Idealize.ShloMosaic.SparseCore.Cfg (HIx ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

set_option maxHeartbeats 1000000 in
/-- A tile's program over its part of a call's arrays, its own scratch and semaphores and its debts: it brings the part back gathered. -/
theorem tile_part {d : Dev nD} {c : Fin τ.nSC} {w : Fin τ.nSub} (hF : (K (F := F)).Facts)
    (d1 d2 : Fin 16 → ∀ v : BitVec 32, Decidable (Chk 100 v)) (d3 d4 : Fin 16 → ∀ v : BitVec 32, Decidable (Chk 26 v))
    (x : Opnds) (o : Fin 1 → ℕ) (ho : ∀ a, o a + S256.size a ≤ S8192.size a)
    (oa : Fin 2 → ℕ) (hoa : ∀ a, oa a + S128x128.size a ≤ S8192x128.size a) (ob : Fin 2 → ℕ) (hob : ∀ a, ob a + S128x128.size a ≤ S8192x128.size a)
    (ha0 : oa 0 = o 0 + 0) (ha1 : oa 1 = 0) (hb0 : ob 0 = o 0 + 128) (hb1 : ob 1 = 0)
    {q : PosShare TreeShare}
    {fmt : Buf (Elt F) (x.mt.view.loc (V d c w))} {fdt : Buf (Elt F) (x.dt.view.loc (V d c w))}
    {fmi : Buf (Elt F) (x.mi.view.loc (V d c w))} {fdi : Buf (Elt F) (x.di.view.loc (V d c w))}
    {fom gom : Buf (Elt F) (x.om.view.loc (V d c w))} {fod god : Buf (Elt F) (x.od.view.loc (V d c w))}
    {RS RB : sProp 𝕄}
    (hmi : ∀ i, (x.mi.view.read (Elt F) fmi i : BitVec 32).toNat < 100) (hdi : ∀ i, (x.di.view.read (Elt F) fdi i : BitVec 32).toNat < 26)
    (hgm : x.om.view.read (Elt F) gom = gathered 100 (by decide) (x.mt.view.read (Elt F) fmt) (x.mi.view.read (Elt F) fmi))
    (hgd : x.od.view.read (Elt F) god = gathered 26 (by decide) (x.dt.view.read (Elt F) fdt) (x.di.view.read (Elt F) fdi))
    (hB : (ownBufs (V d c w) : sProp 𝕄)
      = iprop(((∃ f, x.mv.view.loc (V d c w) ↦{fullShare} f) ∗ (∃ f, x.dv.view.loc (V d c w) ↦{fullShare} f) ∗ (∃ f, x.im.view.loc (V d c w) ↦{fullShare} f)
          ∗ (∃ f, x.id.view.loc (V d c w) ↦{fullShare} f) ∗ (∃ f, x.ba.view.loc (V d c w) ↦{fullShare} f) ∗ (∃ f, x.bb.view.loc (V d c w) ↦{fullShare} f)) ∗ RB))
    (hS : (ownSems0 (V d c w) : sProp 𝕄)
      = iprop((semVal (V d c w, .dma x.sa.sem) 0 ∗ semVal (V d c w, .dma x.sb.sem) 0 ∗ semVal (V d c w, .dma x.r0.sem) 0 ∗ semVal (V d c w, .dma x.r1.sem) 0
          ∗ semVal (V d c w, .dma x.r2.sem) 0 ∗ semVal (V d c w, .dma x.r3.sem) 0) ∗ RS))
    (O : CellTallies nD τ sig (HIx 2)) (W : Waits sig (HIx 2)) (hO : ∀ g, O g none = 0) :
    (iprop(levAts (K (F := F)).L (K (F := F)).lev ∗ emp
        ∗ ((x.mt.view.loc (V d c w) ↦{q} fmt) ∗ (x.dt.view.loc (V d c w) ↦{q} fdt) ∗ (x.mi.view.loc (V d c w) ↦{q} fmi) ∗ (x.di.view.loc (V d c w) ↦{q} fdi)
          ∗ (((rows128 x.om oa hoa).view.loc (V d c w) ↦[(rows128 x.om oa hoa).view.set]{fullShare} fom)
            ∗ ((rows128 x.om ob hob).view.loc (V d c w) ↦[(rows128 x.om ob hob).view.set]{fullShare} fom))
          ∗ (((rows128 x.od oa hoa).view.loc (V d c w) ↦[(rows128 x.od oa hoa).view.set]{fullShare} fod)
            ∗ ((rows128 x.od ob hob).view.loc (V d c w) ↦[(rows128 x.od ob hob).view.set]{fullShare} fod)))
        ∗ scopedBufs (V d c w) ∗ scopedSems0 (V d c w) ∗ owes (V d c w) O W) : sProp 𝕄)
      ⊢ wp frame (wpE (defs₀ (F := F)) 𝒱₀ (V d c w) none) Set.univ (progA d1 d2 d3 x o ho oa hoa ob hob (progB d4 x oa hoa ob hob))
        fun _ => iprop(
          ((x.mt.view.loc (V d c w) ↦{q} fmt) ∗ (x.dt.view.loc (V d c w) ↦{q} fdt) ∗ (x.mi.view.loc (V d c w) ↦{q} fmi) ∗ (x.di.view.loc (V d c w) ↦{q} fdi)
          ∗ (((rows128 x.om oa hoa).view.loc (V d c w) ↦[(rows128 x.om oa hoa).view.set]{fullShare} gom)
            ∗ ((rows128 x.om ob hob).view.loc (V d c w) ↦[(rows128 x.om ob hob).view.set]{fullShare} gom))
          ∗ (((rows128 x.od oa hoa).view.loc (V d c w) ↦[(rows128 x.od oa hoa).view.set]{fullShare} god)
            ∗ ((rows128 x.od ob hob).view.loc (V d c w) ↦[(rows128 x.od ob hob).view.set]{fullShare} god)))
        ∗ scopedBufs (V d c w) ∗ scopedSems0 (V d c w)
        ∗ ∃ W', ⌜∀ p ∈ W', p ∈ W ∨ p.2 = none⌝ ∗ owes (V d c w) O W') := by
  rw [(K (F := F)).scopedBufs_V hF d c w, SparseCore.Cfg.scopedSems0_V (Val := Elt F) d c w, hB, hS]
  iintro ⟨Hlv, -, ⟨Hmt, Hdt, Hmi, Hdi, ⟨Hma, Hmb⟩, Hda, Hdb⟩, ⟨Hbufs, HRB⟩, ⟨Hsems, HRS⟩, HO⟩
  iapply ((tile_run (F := F) d1 d2 d3 d4 x o ho oa hoa ob hob ha0 ha1 hb0 hb1 hmi hdi O W hO).trans (wp_wand frame _ _)) $$ [Hlv Hmt Hdt Hmi Hdi Hma Hmb Hda Hdb Hbufs Hsems HO]
  · isplitl [Hlv]; · iexact Hlv
    isplitl [Hmt]; · iexact Hmt
    isplitl [Hdt]; · iexact Hdt
    isplitl [Hmi]; · iexact Hmi
    isplitl [Hdi]; · iexact Hdi
    isplitl [Hma]; · iexact Hma
    isplitl [Hmb]; · iexact Hmb
    isplitl [Hda]; · iexact Hda
    isplitl [Hdb]; · iexact Hdb
    isplitl [Hbufs]; · iexact Hbufs
    isplitl [Hsems]; · iexact Hsems
    iexact HO
  iintro %_ ⟨⟨Hmt, Hdt, Hmi, Hdi, ⟨%g1, %h1, Hma⟩, ⟨%g2, %h2, Hmb⟩, ⟨%g3, %h3, Hda⟩, %g4, %h4, Hdb⟩, Hbufs, Hsems, HO⟩
  isplitl [Hmt Hdt Hmi Hdi Hma Hmb Hda Hdb]
  · isplitl [Hmt]; · iexact Hmt
    isplitl [Hdt]; · iexact Hdt
    isplitl [Hmi]; · iexact Hmi
    isplitl [Hdi]; · iexact Hdi
    isplitl [Hma Hmb]
    · isplitl [Hma]
      · iapply (Entails.of_eq (chunk_congr (thr := V d c w) x.om.view _ g1 gom (by rw [hgm]; exact h1))); iexact Hma
      · iapply (Entails.of_eq (chunk_congr (thr := V d c w) x.om.view _ g2 gom (by rw [hgm]; exact h2))); iexact Hmb
    isplitl [Hda]
    · iapply (Entails.of_eq (chunk_congr (thr := V d c w) x.od.view _ g3 god (by rw [hgd]; exact h3))); iexact Hda
    · iapply (Entails.of_eq (chunk_congr (thr := V d c w) x.od.view _ g4 god (by rw [hgd]; exact h4))); iexact Hdb
  isplitl [Hbufs HRB]
  · isplitl [Hbufs] <;> iassumption
  isplitl [Hsems HRS]
  · isplitl [Hsems] <;> iassumption
  iexact HO

/-- The rectangle of 128 whole rows from row `n`. -/
theorem unit_rows {oa : Fin 2 → ℕ} (hoa : ∀ a, oa a + S128x128.size a ≤ S8192x128.size a) {n : ℕ} (h0 : oa 0 = n) (h1 : oa 1 = 0) :
    (Rect.unit (s := S8192x128) oa S128x128.size hoa).set = rowsAt n := by
  ext y
  rw [Rect.mem_set_unit, mem_rowsAt]
  constructor
  · intro h
    have := h 0
    rw [h0] at this
    exact this
  · intro h a
    match a with
    | 0 => rw [h0]; exact h
    | 1 =>
      rw [h1]
      exact ⟨Nat.zero_le _, by rw [Nat.zero_add]; exact (y 1).isLt⟩

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  isplitl [HA]; · iexact HA
  isplitl [HB]; · iexact HB
  isplitl [HC]; · iexact HC
  iexists W'; isplitr; swap; · iexact HO
  ipureintro; exact fun p hp => (h p hp).imp_right Or.inl

variable (m : (ℓ : Loc nD τ sig) → Buf (Elt F) ℓ)

/-- A tile's coordinates in call 0's grid. -/
def coords0 (c : Fin (grid0.bound 0)) (s : Fin (grid0.bound 1)) : grid0.Coords :=
  fun | 0 => c | 1 => s | ⟨_ + 2, h⟩ => absurd h (Nat.not_lt.2 (Nat.le_add_left _ _))

theorem defs₀_vector0 (c : Fin τ.nSC) (s : Fin τ.nSub) :
    defs₀ (F := F) (.scVector c s) 0 ()
      = SparseCore.onTile hcore0 hsub0 (fun c s => cc0__sc_gather_body (F := F) (coords0 c s) opn0.mt opn0.hmt opn0.dt opn0.hdt opn0.mi opn0.hmi opn0.di opn0.hdi
          opn0.om opn0.hom opn0.od opn0.hod opn0.mv opn0.hmv opn0.dv opn0.hdv opn0.im opn0.him opn0.id opn0.hid opn0.ba opn0.hba opn0.bb opn0.hbb
          opn0.sa opn0.sb opn0.r0 opn0.r1 opn0.r2 opn0.r3) ⟨⟩ c s := rfl

theorem sems0 : (semsOf opn0).Nodup ∧ ∀ s ∈ semsOf opn0, s.isScoped .scVector = true := by decide +kernel

set_option maxHeartbeats 1000000 in
/-- Call 0 on one tile. -/
theorem tile0 (d : Dev nD) (c : Fin (grid0.bound 0)) (s : Fin (grid0.bound 1)) (hF : (K (F := F)).Facts) (hpre : PreOK m)
    (O : CellTallies nD τ sig (HIx 2)) (W : Waits sig (HIx 2)) (hO : ∀ g, O g none = 0) :
    (iprop(levAts (K (F := F)).L (K (F := F)).lev ∗ emp ∗ pay0 m d (m _) (m _) c s
        ∗ scopedBufs (V d (c.castLE hcore0) (s.castLE hsub0)) ∗ scopedSems0 (V d (c.castLE hcore0) (s.castLE hsub0)) ∗ owes (V d (c.castLE hcore0) (s.castLE hsub0)) O W) : sProp 𝕄)
      ⊢ wp frame (wpE (defs₀ (F := F)) 𝒱₀ (V d (c.castLE hcore0) (s.castLE hsub0)) none) Set.univ
        (cc0__sc_gather_body (F := F) (coords0 c s) opn0.mt opn0.hmt opn0.dt opn0.hdt opn0.mi opn0.hmi opn0.di opn0.hdi
          opn0.om opn0.hom opn0.od opn0.hod opn0.mv opn0.hmv opn0.dv opn0.hdv opn0.im opn0.him opn0.id opn0.hid opn0.ba opn0.hba opn0.bb opn0.hbb
          opn0.sa opn0.sb opn0.r0 opn0.r1 opn0.r2 opn0.r3)
        fun _ => iprop(pay0 m d (gm0 m d) (gd0 m d) c s
        ∗ scopedBufs (V d (c.castLE hcore0) (s.castLE hsub0)) ∗ scopedSems0 (V d (c.castLE hcore0) (s.castLE hsub0))
        ∗ ∃ W', ⌜∀ p ∈ W', p ∈ W ∨ p.2 = none⌝ ∗ owes (V d (c.castLE hcore0) (s.castLE hsub0)) O W') := by
  rw [body0 (F := F) (coords0 c s) opn0]
  have e1 := k0_off1_eq (coords0 c s)
  have e2 := k0_off259_eq (coords0 c s)
  have e3 := k0_off517_eq (coords0 c s)
  have h1 : k0_off1 (coords0 c s) 0 = 512 * s.val + 256 * c.val := by rw [e1]; rfl
  have h20 : k0_off259 (coords0 c s) 0 = 512 * s.val + 256 * c.val := by rw [e2]; rfl
  have h21 : k0_off259 (coords0 c s) 1 = 0 := by rw [e2]; rfl
  have h30 : k0_off517 (coords0 c s) 0 = 512 * s.val + 256 * c.val + 128 := by rw [e3]; show _ = _; simp [coords0]; try omega
  have h31 : k0_off517 (coords0 c s) 1 = 0 := by rw [e3]; rfl
  have h := tile_part (F := F) (d := d) (c := c.castLE hcore0) (w := s.castLE hsub0) hF dec0_1 dec0_2 dec0_3 dec0_4 opn0 (k0_off1 (coords0 c s)) (K0.Facts₀.k0_off1_inb _)
    (k0_off259 (coords0 c s)) (K0.Facts₀.k0_off259_inb _) (k0_off517 (coords0 c s)) (K0.Facts₀.k0_off517_inb _) (by omega) h21 (by omega) h31
    (q := sh c s) (fmt := m (at_ d main_arg3)) (fdt := m (at_ d main_arg4)) (fmi := lo (m (at_ d main_arg1))) (fdi := lo (m (at_ d main_arg2)))
    (fom := m (at_ d main_v2_0)) (gom := gm0 m d) (fod := m (at_ d main_v2_1)) (god := gd0 m d)
    (fun _ => (hpre d).1 _) (fun _ => (hpre d).2 _) rfl rfl
    (ownBufs_tile d _ _ _ cc0_scratch0 cc0_scratch1 cc0_scratch2 cc0_scratch3 cc0_scratch4 cc0_scratch5 rfl (by decide) (by intro r hr; fin_cases hr <;> rfl))
    (ownSems0_tile opn0 d _ _ sems0.1 sems0.2) O W hO
  have s1 : (rows128 opn0.om (k0_off259 (coords0 c s)) (K0.Facts₀.k0_off259_inb _)).view.set = rowsAt (rowOf c s 0) := (View.set_slice _ _).trans (Finset.map_refl.trans (unit_rows _ h20 h21))
  have s2 : (rows128 opn0.om (k0_off517 (coords0 c s)) (K0.Facts₀.k0_off517_inb _)).view.set = rowsAt (rowOf c s 1) := (View.set_slice _ _).trans (Finset.map_refl.trans (unit_rows _ h30 h31))
  have s3 : (rows128 opn0.od (k0_off259 (coords0 c s)) (K0.Facts₀.k0_off259_inb _)).view.set = rowsAt (rowOf c s 0) := (View.set_slice _ _).trans (Finset.map_refl.trans (unit_rows _ h20 h21))
  have s4 : (rows128 opn0.od (k0_off517 (coords0 c s)) (K0.Facts₀.k0_off517_inb _)).view.set = rowsAt (rowOf c s 1) := (View.set_slice _ _).trans (Finset.map_refl.trans (unit_rows _ h30 h31))
  rw [s1, s2, s3, s4] at h
  exact h

/-- Each tile does its part of call 0. -/
theorem tileObl0 (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (tile0 m d ⟨_, hci.1⟩ ⟨_, hci.2⟩ hF hpre O W hO).trans (wp_mono frame _ _ fun _ => obl_post)

/-- A tile's coordinates in call 1's grid. -/
def coords1 (c : Fin (grid1.bound 0)) (s : Fin (grid1.bound 1)) : grid1.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 1 ()
      = SparseCore.onTile hcore1 hsub1 (fun c s => cc1__sc_gather_body (F := F) (coords1 c s) opn1.mt opn1.hmt opn1.dt opn1.hdt opn1.mi opn1.hmi opn1.di opn1.hdi
          opn1.om opn1.hom opn1.od opn1.hod opn1.mv opn1.hmv opn1.dv opn1.hdv opn1.im opn1.him opn1.id opn1.hid opn1.ba opn1.hba opn1.bb opn1.hbb
          opn1.sa opn1.sb opn1.r0 opn1.r1 opn1.r2 opn1.r3) ⟨⟩ c s := rfl

theorem sems1 : (semsOf opn1).Nodup ∧ ∀ s ∈ semsOf opn1, s.isScoped .scVector = true := by decide +kernel

set_option maxHeartbeats 1000000 in
/-- Call 1 on one tile. -/
theorem tile1 (d : Dev nD) (c : Fin (grid1.bound 0)) (s : Fin (grid1.bound 1)) (hF : (K (F := F)).Facts) (hpre : PreOK m)
    (O : CellTallies nD τ sig (HIx 2)) (W : Waits sig (HIx 2)) (hO : ∀ g, O g none = 0) :
    (iprop(levAts (K (F := F)).L (K (F := F)).lev ∗ emp ∗ pay1 m d (m _) (m _) c s
        ∗ scopedBufs (V d (c.castLE hcore1) (s.castLE hsub1)) ∗ scopedSems0 (V d (c.castLE hcore1) (s.castLE hsub1)) ∗ owes (V d (c.castLE hcore1) (s.castLE hsub1)) O W) : sProp 𝕄)
      ⊢ wp frame (wpE (defs₀ (F := F)) 𝒱₀ (V d (c.castLE hcore1) (s.castLE hsub1)) none) Set.univ
        (cc1__sc_gather_body (F := F) (coords1 c s) opn1.mt opn1.hmt opn1.dt opn1.hdt opn1.mi opn1.hmi opn1.di opn1.hdi
          opn1.om opn1.hom opn1.od opn1.hod opn1.mv opn1.hmv opn1.dv opn1.hdv opn1.im opn1.him opn1.id opn1.hid opn1.ba opn1.hba opn1.bb opn1.hbb
          opn1.sa opn1.sb opn1.r0 opn1.r1 opn1.r2 opn1.r3)
        fun _ => iprop(pay1 m d (gm1 m d) (gd1 m d) c s
        ∗ scopedBufs (V d (c.castLE hcore1) (s.castLE hsub1)) ∗ scopedSems0 (V d (c.castLE hcore1) (s.castLE hsub1))
        ∗ ∃ W', ⌜∀ p ∈ W', p ∈ W ∨ p.2 = none⌝ ∗ owes (V d (c.castLE hcore1) (s.castLE hsub1)) O W') := by
  rw [body1 (F := F) (coords1 c s) opn1]
  have e1 := k1_off1_eq (coords1 c s)
  have e2 := k1_off259_eq (coords1 c s)
  have e3 := k1_off517_eq (coords1 c s)
  have h1 : k1_off1 (coords1 c s) 0 = 512 * s.val + 256 * c.val := by rw [e1]; rfl
  have h20 : k1_off259 (coords1 c s) 0 = 512 * s.val + 256 * c.val := by rw [e2]; rfl
  have h21 : k1_off259 (coords1 c s) 1 = 0 := by rw [e2]; rfl
  have h30 : k1_off517 (coords1 c s) 0 = 512 * s.val + 256 * c.val + 128 := by rw [e3]; show _ = _; simp [coords1]; try omega
  have h31 : k1_off517 (coords1 c s) 1 = 0 := by rw [e3]; rfl
  have h := tile_part (F := F) (d := d) (c := c.castLE hcore1) (w := s.castLE hsub1) hF dec1_1 dec1_2 dec1_3 dec1_4 opn1 (k1_off1 (coords1 c s)) (K1.Facts₀.k1_off1_inb _)
    (k1_off259 (coords1 c s)) (K1.Facts₀.k1_off259_inb _) (k1_off517 (coords1 c s)) (K1.Facts₀.k1_off517_inb _) (by omega) h21 (by omega) h31
    (q := sh c s) (fmt := m (at_ d main_arg3)) (fdt := m (at_ d main_arg4)) (fmi := hi (m (at_ d main_arg1))) (fdi := hi (m (at_ d main_arg2)))
    (fom := m (at_ d main_v5_0)) (gom := gm1 m d) (fod := m (at_ d main_v5_1)) (god := gd1 m d)
    (fun _ => (hpre d).1 _) (fun _ => (hpre d).2 _) rfl rfl
    (ownBufs_tile d _ _ _ cc1_scratch0 cc1_scratch1 cc1_scratch2 cc1_scratch3 cc1_scratch4 cc1_scratch5 rfl (by decide) (by intro r hr; fin_cases hr <;> rfl))
    (ownSems0_tile opn1 d _ _ sems1.1 sems1.2) O W hO
  have s1 : (rows128 opn1.om (k1_off259 (coords1 c s)) (K1.Facts₀.k1_off259_inb _)).view.set = rowsAt (rowOf c s 0) := (View.set_slice _ _).trans (Finset.map_refl.trans (unit_rows _ h20 h21))
  have s2 : (rows128 opn1.om (k1_off517 (coords1 c s)) (K1.Facts₀.k1_off517_inb _)).view.set = rowsAt (rowOf c s 1) := (View.set_slice _ _).trans (Finset.map_refl.trans (unit_rows _ h30 h31))
  have s3 : (rows128 opn1.od (k1_off259 (coords1 c s)) (K1.Facts₀.k1_off259_inb _)).view.set = rowsAt (rowOf c s 0) := (View.set_slice _ _).trans (Finset.map_refl.trans (unit_rows _ h20 h21))
  have s4 : (rows128 opn1.od (k1_off517 (coords1 c s)) (K1.Facts₀.k1_off517_inb _)).view.set = rowsAt (rowOf c s 1) := (View.set_slice _ _).trans (Finset.map_refl.trans (unit_rows _ h30 h31))
  rw [s1, s2, s3, s4] at h
  exact h

/-- Each tile does its part of call 1. -/
theorem tileObl1 (hF : (K (F := F)).Facts) (hpre : PreOK m) : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (tile1 m d ⟨_, hci.1⟩ ⟨_, hci.2⟩ hF hpre O W hO).trans (wp_mono frame _ _ fun _ => obl_post)

end Cert.KernelIdeal.Run

end
-- ==== Proof.Mlp.lean ====
/-
  The body of the two TensorCore calls: what one grid point leaves in its output block and in its two scratch arrays.

  At its first point a call folds the weights into the scratch `wcat` and sets the columns of `hcat` from 640 on; at
  every point it copies its rows of `x` and of the gathered embeddings into `hcat` and multiplies.
-/
module

public import proofs.«01_k».proof.Proof.Setup
public import Idealize.ShloMosaic.Lib.Writes
public import Idealize.ShloMosaic.Lib.WritesUnit
public import Idealize.ShloMosaic.Lib.VecWindow
public import Idealize.ShloMosaic.Lib.Pipeline.Value
public import Idealize.ShloMosaic.Lib.Tactic

@[expose] public section

noncomputable section

namespace Cert.KernelIdeal.Mlp

open Cert.KernelIdeal Cert.KernelIdeal.Gen Cert.KernelIdeal.Run
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A whole memref's buffer owned at `X` is the buffer held at contents that read as `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns pt
  rw [h.set_eq_univ]

/-- The two calls run one body. -/
theorem body_same : (cc3__mlp_body (F := F)) = cc2__mlp_body (F := F) := rfl

/-! ## The values -/

/-- The index with coordinates `i`, `j`. -/
def ix2 {a b : ℕ} (i : Fin a) (j : Fin b) : (⟨2, ![a, b]⟩ : Shape).Idx := fun | 0 => i | 1 => j

/-- What `hcat` holds from column 640 on: a column of ones, then zeros. -/
def pad : Vec F S2048x768 .bf16 := fun y => if (y 1).val = 640 then Scalar.ofBits .bf16 0x3F80#16 else Scalar.ofBits .bf16 0x0000#16

/-- What a point puts in `hcat`: the rows of `x`, of the model embedding and of the decoding embedding, then the pad. -/
def hcatOf (x : Vec F S2048x384 .f32) (p q : Vec F S2048x128 .f32) : Vec F S2048x768 .bf16 := fun y =>
  if h : (y 1).val < 384 then truncf .bf16 x bitsLt_bf16_f32 (ix2 (y 0) ⟨(y 1).val, h⟩)
  else if h' : (y 1).val < 512 then truncf .bf16 p bitsLt_bf16_f32 (ix2 (y 0) ⟨(y 1).val - 384, by omega⟩)
  else if h'' : (y 1).val < 640 then truncf .bf16 q bitsLt_bf16_f32 (ix2 (y 0) ⟨(y 1).val - 512, by omega⟩)
  else pad y

/-- Columns `o` to `o + 128` of the first layer's weights. -/
def cols (w1 : Vec F S2048x768 .f32) (o : ℕ) (ho : o + 128 ≤ 768) : Vec F S2048x128 .f32 := fun y => w1 (ix2 (y 0) ⟨o + (y 1).val, by have : (y 1).val < 128 := (y 1).isLt; omega⟩)

/-- The first layer's weights on the query columns, with the query layer's folded in. -/
def midOf (w1 : Vec F S2048x768 .f32) (qw : Vec F S128x128 .bf16) : Vec F S2048x128 .bf16 :=
  truncf .bf16 (addf (cols w1 256 (by decide)) (matmul dot_S2048x128_S128x128_S2048x128_1_0_0_1_n_n none (truncf .bf16 (cols w1 640 (by decide)) bitsLt_bf16_f32) qw (constant S2048x128 .f32 0x00000000#32))) bitsLt_bf16_f32

/-- The first layer's bias, with the query layer's folded in. -/
def biasOf (w1 : Vec F S2048x768 .f32) (qb : Vec F S1x128 .f32) (b1 : Vec F S2048x1 .f32) : Vec F S2048x1 .bf16 :=
  truncf .bf16 (addf b1 (matmul dot_S2048x128_S1x128_S2048x1_1_1_0_0_n_n none (cols w1 640 (by decide)) qb (constant S2048x1 .f32 0x00000000#32))) bitsLt_bf16_f32

/-- What the first point puts in `wcat`. -/
def wcatOf (w1 : Vec F S2048x768 .f32) (qw : Vec F S128x128 .bf16) (qb : Vec F S1x128 .f32) (b1 : Vec F S2048x1 .f32) : Vec F S2048x768 .bf16 := fun y =>
  if (y 1).val < 256 then truncf .bf16 w1 bitsLt_bf16_f32 y
  else if h : (y 1).val < 384 then midOf w1 qw (ix2 (y 0) ⟨(y 1).val - 256, by omega⟩)
  else if (y 1).val < 640 then truncf .bf16 w1 bitsLt_bf16_f32 y
  else if (y 1).val = 640 then biasOf w1 qb b1 (ix2 (y 0) 0)
  else Scalar.ofBits .bf16 0x0000#16

/-- Half of the hidden units: rows `o` to `o + 1024` of `wcat`. -/
def rowsOf (W : Vec F S2048x768 .bf16) (o : ℕ) (ho : o + 1024 ≤ 2048) : Vec F S1024x768 .bf16 := fun y => W (ix2 ⟨o + (y 0).val, by have : (y 0).val < 1024 := (y 0).isLt; omega⟩ (y 1))

/-- The second layer's weights on half of the hidden units. -/
def w2Of (w2 : Vec F S2x2048 .bf16) (o : ℕ) (ho : o + 1024 ≤ 2048) : Vec F S2x1024 .bf16 := fun y => w2 (ix2 (y 0) ⟨o + (y 1).val, by have : (y 1).val < 1024 := (y 1).isLt; omega⟩)

/-- The hidden units of half the rows of `wcat`. -/
def hidOf (H : Vec F S2048x768 .bf16) (W : Vec F S1024x768 .bf16) : Vec F S2048x1024 .bf16 :=
  maximumf (truncf .bf16 (matmul dot_S2048x768_S1024x768_S2048x1024_1_1_0_0_n_n none H W (constant S2048x1024 .f32 0x00000000#32)) bitsLt_bf16_f32) (broadcast S2048x1024 (Scalar.ofBits .bf16 0x0000#16))

/-- A point's output block. -/
def outOf (H W : Vec F S2048x768 .bf16) (w2 : Vec F S2x2048 .bf16) (b2 : Vec F S1x2 .f32) : Vec F S2048x2 .f32 :=
  addf (addf (broadcastTo S2048x2 b2 broadcasts_S1x2_S2048x2)
      (matmul dot_S2048x1024_S2x1024_S2048x2_1_1_0_0_n_n none (hidOf H (rowsOf W 0 (by decide))) (w2Of w2 0 (by decide)) (constant S2048x2 .f32 0x00000000#32)))
    (matmul dot_S2048x1024_S2x1024_S2048x2_1_1_0_0_n_n none (hidOf H (rowsOf W 1024 (by decide))) (w2Of w2 1024 (by decide)) (constant S2048x2 .f32 0x00000000#32))

/-! ## The stores -/

section Stores
variable (v : View sig .tc .vmem S2048x768 .bf16) (f : v.ty.Contents (Elt F))

/-- Storing columns `o` to `o + n`, and reading one of them. -/
theorem col_hit (o n : ℕ) (ho : ∀ a, (![0, o] : Fin 2 → ℕ) a + (![2048, n] : Fin 2 → ℕ) a ≤ S2048x768.size a) (w : Vec F (⟨2, ![2048, n]⟩ : Shape) .bf16)
    (L : List (View.Piece (Elt F) S2048x768 .bf16)) (y : S2048x768.Idx) (h1 : o ≤ (y 1).val) (h2 : (y 1).val < o + n) :
    v.read (Elt F) (v.writes (Elt F) f (⟨Rect.unit (s := S2048x768) ![0, o] ![2048, n] ho, w⟩ :: L)) y = w (ix2 (y 0) ⟨(y 1).val - o, by omega⟩) :=
  View.read_writes_cons_hit_of_coords v f (Rect.unit (s := S2048x768) ![0, o] ![2048, n] ho) w L (ix2 (y 0) ⟨(y 1).val - o, by omega⟩) y (Fin.forall_fin_two.2 ⟨(by rw [Nat.one_mul]; exact (Nat.zero_add _).symm : (y 0).val = 0 + 1 * (y 0).val), (by omega : (y 1).val = o + 1 * ((y 1).val - o))⟩)

/-- Storing columns `o` to `o + n`, and reading another. -/
theorem col_miss (o n : ℕ) (ho : ∀ a, (![0, o] : Fin 2 → ℕ) a + (![2048, n] : Fin 2 → ℕ) a ≤ S2048x768.size a) (w : Vec F (⟨2, ![2048, n]⟩ : Shape) .bf16)
    (L : List (View.Piece (Elt F) S2048x768 .bf16)) (y : S2048x768.Idx) (h : (y 1).val < o ∨ o + n ≤ (y 1).val) :
    v.read (Elt F) (v.writes (Elt F) f (⟨Rect.unit (s := S2048x768) ![0, o] ![2048, n] ho, w⟩ :: L)) y = v.read (Elt F) (v.writes (Elt F) f L) y :=
  View.read_writes_cons_miss_of_axis v f _ L y 1 o n rfl rfl rfl h

theorem hcat_read (x : Vec F S2048x384 .f32) (p q : Vec F S2048x128 .f32) (L : List (View.Piece (Elt F) S2048x768 .bf16))
    (hf : ∀ y, 640 ≤ (y 1).val → v.read (Elt F) (v.writes (Elt F) f L) y = pad y) :
    v.read (Elt F) (v.writes (Elt F) f
        (⟨Rect.unit (s := S2048x768) ![0, 512] S2048x128.size inb_S2048x768_S2048x128_0_512, truncf .bf16 q bitsLt_bf16_f32⟩
          :: ⟨Rect.unit (s := S2048x768) ![0, 384] S2048x128.size inb_S2048x768_S2048x128_0_384, truncf .bf16 p bitsLt_bf16_f32⟩
          :: ⟨Rect.unit (s := S2048x768) ![0, 0] S2048x384.size inb_S2048x768_S2048x384_0_0, truncf .bf16 x bitsLt_bf16_f32⟩ :: L))
      = hcatOf x p q := by
  funext y
  unfold hcatOf
  split_ifs with h1 h2 h3
  · rw [col_miss v f _ _ _ _ _ y (by omega), col_miss v f _ _ _ _ _ y (by omega), col_hit v f _ _ _ _ _ y (by omega) (by omega)]; rfl
  · rw [col_miss v f _ _ _ _ _ y (by omega), col_hit v f _ _ _ _ _ y (by omega) (by omega)]
  · rw [col_hit v f _ _ _ _ _ y (by omega) (by omega)]
  · rw [col_miss v f _ _ _ _ _ y (by omega), col_miss v f _ _ _ _ _ y (by omega), col_miss v f _ _ _ _ _ y (by omega)]
    exact hf y (by omega)

theorem pad_read (y : S2048x768.Idx) (hy : 640 ≤ (y 1).val) :
    v.read (Elt F) (v.writes (Elt F) f
        [⟨Rect.unit (s := S2048x768) ![0, 641] S2048x127.size inb_S2048x768_S2048x127_0_641, broadcast S2048x127 (Scalar.ofBits .bf16 0x0000#16)⟩,
         ⟨Rect.unit (s := S2048x768) ![0, 640] S2048x1.size inb_S2048x768_S2048x1_0_640, broadcast S2048x1 (Scalar.ofBits .bf16 0x3F80#16)⟩]) y
      = pad y := by
  have : (y 1).val < 768 := (y 1).isLt
  unfold pad
  split_ifs with h
  · rw [col_miss v f _ _ _ _ _ y (by omega), col_hit v f _ _ _ _ _ y (by omega) (by omega)]; rfl
  · rw [col_hit v f _ _ _ _ _ y (by omega) (by omega)]; rfl

theorem wcat_read (w1 : Vec F S2048x768 .f32) (qw : Vec F S128x128 .bf16) (qb : Vec F S1x128 .f32) (b1 : Vec F S2048x1 .f32) (u0 : Vec F S2048x256 .bf16) (u2 : Vec F S2048x256 .bf16)
    (h0 : ∀ y, u0 y = truncf .bf16 w1 bitsLt_bf16_f32 ((Rect.unit (s := S2048x768) ![0, 0] S2048x256.size inb_S2048x768_S2048x256_0_0).emb y))
    (h2 : ∀ y, u2 y = truncf .bf16 w1 bitsLt_bf16_f32 ((Rect.unit (s := S2048x768) ![0, 384] S2048x256.size inb_S2048x768_S2048x256_0_384).emb y)) :
    v.read (Elt F) (v.writes (Elt F) f
        [⟨Rect.unit (s := S2048x768) ![0, 641] S2048x127.size inb_S2048x768_S2048x127_0_641, broadcast S2048x127 (Scalar.ofBits .bf16 0x0000#16)⟩,
         ⟨Rect.unit (s := S2048x768) ![0, 640] S2048x1.size inb_S2048x768_S2048x1_0_640, biasOf w1 qb b1⟩,
         ⟨Rect.unit (s := S2048x768) ![0, 384] S2048x256.size inb_S2048x768_S2048x256_0_384, u2⟩,
         ⟨Rect.unit (s := S2048x768) ![0, 256] S2048x128.size inb_S2048x768_S2048x128_0_256, midOf w1 qw⟩,
         ⟨Rect.unit (s := S2048x768) ![0, 0] S2048x256.size inb_S2048x768_S2048x256_0_0, u0⟩])
      = wcatOf w1 qw qb b1 := by
  funext y
  have : (y 1).val < 768 := (y 1).isLt
  unfold wcatOf
  split_ifs with c1 c2 c3 c4
  · rw [col_miss v f _ _ _ _ _ y (by omega), col_miss v f _ _ _ _ _ y (by omega), col_miss v f _ _ _ _ _ y (by omega), col_miss v f _ _ _ _ _ y (by omega),
      col_hit v f _ _ _ _ _ y (by omega) (by omega), h0]
    congr 1
    exact Rect.emb_eq_of_coords _ _ _ fun a => by
      match a with
      | 0 => show (y 0).val = 0 + 1 * (y 0).val; omega
      | 1 => show (y 1).val = 0 + 1 * ((y 1).val - 0); omega
  · rw [col_miss v f _ _ _ _ _ y (by omega), col_miss v f _ _ _ _ _ y (by omega), col_miss v f _ _ _ _ _ y (by omega),
      col_hit v f _ _ _ _ _ y (by omega) (by omega)]
  · rw [col_miss v f _ _ _ _ _ y (by omega), col_miss v f _ _ _ _ _ y (by omega), col_hit v f _ _ _ _ _ y (by omega) (by omega), h2]
    congr 1
    exact Rect.emb_eq_of_coords _ _ _ fun a => by
      match a with
      | 0 => show (y 0).val = 0 + 1 * (y 0).val; omega
      | 1 => show (y 1).val = 384 + 1 * ((y 1).val - 384); omega
  · rw [col_miss v f _ _ _ _ _ y (by omega), col_hit v f _ _ _ _ _ y (by omega) (by omega)]
    congr 2
    exact Fin.ext (by show (y 1).val - 640 = 0; omega)
  · rw [col_hit v f _ _ _ _ _ y (by omega) (by omega)]; rfl

end Stores

/-! ## Loads of part of an array -/

theorem cols_ld (w1 : Vec F S2048x768 .f32) (o : ℕ) (ho : o + 128 ≤ 768) (h : ∀ a, (![0, o] : Fin 2 → ℕ) a + S2048x128.size a ≤ S2048x768.size a) :
    (fun y : S2048x128.Idx => w1 ((Rect.unit (s := S2048x768) ![0, o] S2048x128.size h).emb y)) = cols w1 o ho :=
  funext fun y => congrArg w1 (Rect.emb_eq_of_coords _ _ _ fun a => by
    match a with
    | 0 => show (y 0).val = 0 + 1 * (y 0).val; omega
    | 1 => show o + (y 1).val = o + 1 * (y 1).val; omega)

theorem rows_ld (W : Vec F S2048x768 .bf16) (o : ℕ) (ho : o + 1024 ≤ 2048) (h : ∀ a, (![o, 0] : Fin 2 → ℕ) a + S1024x768.size a ≤ S2048x768.size a) :
    (fun y : S1024x768.Idx => W ((Rect.unit (s := S2048x768) ![o, 0] S1024x768.size h).emb y)) = rowsOf W o ho :=
  funext fun y => congrArg W (Rect.emb_eq_of_coords _ _ _ fun a => by
    match a with
    | 0 => show o + (y 0).val = o + 1 * (y 0).val; omega
    | 1 => show (y 1).val = 0 + 1 * (y 1).val; omega)

theorem w2_ld (w2 : Vec F S2x2048 .bf16) (o : ℕ) (ho : o + 1024 ≤ 2048) (h : ∀ a, (![0, o] : Fin 2 → ℕ) a + S2x1024.size a ≤ S2x2048.size a) :
    (fun y : S2x1024.Idx => w2 ((Rect.unit (s := S2x2048) ![0, o] S2x1024.size h).emb y)) = w2Of w2 o ho :=
  funext fun y => congrArg w2 (Rect.emb_eq_of_coords _ _ _ fun a => by
    match a with
    | 0 => show (y 0).val = 0 + 1 * (y 0).val; omega
    | 1 => show o + (y 1).val = o + 1 * (y 1).val; omega)

/-! ## The body -/

/-- What the two scratch arrays hold between points: the folded weights, and `hcat`'s pad. -/
def Kept (c : Dev nD) (M11 M12 : Memref sig .tc .vmem S2048x768 .bf16) (f11 : Bf (F := F) c M11) (f12 : Bf (F := F) c M12)
    (w1 : Vec F S2048x768 .f32) (qw : Vec F S128x128 .bf16) (qb : Vec F S1x128 .f32) (b1 : Vec F S2048x1 .f32) : Prop :=
  M12.view.read (Elt F) f12 = wcatOf w1 qw qb b1 ∧ ∀ y : S2048x768.Idx, 640 ≤ (y 1).val → M11.view.read (Elt F) f11 y = pad y

/-- A load of a whole array, cast to its own shape. -/
theorem ld_cast {sp : Space} {s : Shape} {e : EltTy} (v : View sig .tc sp s e) (f : v.ty.Contents (Elt F)) {off : Fin s.rank → ℕ} (inb : ∀ a, off a + s.size a ≤ s.size a)
    (h : (Rect.unit off s.size inb).shape.ShapeCasts s) : shapeCast s (v.readAt (Elt F) (Rect.unit off s.size inb).toLoadRect f) h = v.read (Elt F) f := by
  rw [View.readAt_full]
  exact shapeCast_self _ _

/-- The block that a point stores, from the values it loads. -/
theorem out_eq (H W : Vec F S2048x768 .bf16) (w2 : Vec F S2x2048 .bf16) (b2 : Vec F S1x2 .f32) {H0 H1 : Vec F S2048x768 .bf16} {W0 W1 : Vec F S1024x768 .bf16} {v0 v1 : Vec F S2x1024 .bf16}
    (hH0 : H0 = H) (hH1 : H1 = H) (h0 : W0 = rowsOf W 0 (by decide)) (h1 : W1 = rowsOf W 1024 (by decide)) (e0 : v0 = w2Of w2 0 (by decide)) (e1 : v1 = w2Of w2 1024 (by decide)) :
    addf (addf (broadcastTo S2048x2 b2 broadcasts_S1x2_S2048x2)
        (matmul dot_S2048x1024_S2x1024_S2048x2_1_1_0_0_n_n none (hidOf H0 W0) v0 (constant S2048x2 .f32 0x00000000#32)))
      (matmul dot_S2048x1024_S2x1024_S2048x2_1_1_0_0_n_n none (hidOf H1 W1) v1 (constant S2048x2 .f32 0x00000000#32))
      = outOf H W w2 b2 := by
  subst hH0 hH1 h0 h1 e0 e1
  rfl

/-- What the first point's stores leave in `wcat`, from the values it loads. -/
theorem wcat_eq (v : View sig .tc .vmem S2048x768 .bf16) (f : v.ty.Contents (Elt F)) (M6 : View sig .tc .vmem S2048x768 .f32) (f6 : M6.ty.Contents (Elt F))
    (qw : Vec F S128x128 .bf16) (qb : Vec F S1x128 .f32) (b1 : Vec F S2048x1 .f32)
    {u0 u2 : Vec F S2048x256 .bf16} {u1 : Vec F S2048x128 .bf16} {u3 : Vec F S2048x1 .bf16} {u4 : Vec F S2048x127 .bf16}
    (e0 : u0 = truncf .bf16 (M6.readAt (Elt F) (Rect.unit (s := S2048x768) ![0, 0] S2048x256.size inb_S2048x768_S2048x256_0_0).toLoadRect f6) bitsLt_bf16_f32)
    (e1 : u1 = truncf .bf16 (addf (M6.readAt (Elt F) (Rect.unit (s := S2048x768) ![0, 256] S2048x128.size inb_S2048x768_S2048x128_0_256).toLoadRect f6)
            (matmul dot_S2048x128_S128x128_S2048x128_1_0_0_1_n_n none (truncf .bf16 (M6.readAt (Elt F) (Rect.unit (s := S2048x768) ![0, 640] S2048x128.size inb_S2048x768_S2048x128_0_640).toLoadRect f6) bitsLt_bf16_f32) qw (constant S2048x128 .f32 0x00000000#32))) bitsLt_bf16_f32)
    (e2 : u2 = truncf .bf16 (M6.readAt (Elt F) (Rect.unit (s := S2048x768) ![0, 384] S2048x256.size inb_S2048x768_S2048x256_0_384).toLoadRect f6) bitsLt_bf16_f32)
    (e3 : u3 = truncf .bf16 (addf b1 (matmul dot_S2048x128_S1x128_S2048x1_1_1_0_0_n_n none (M6.readAt (Elt F) (Rect.unit (s := S2048x768) ![0, 640] S2048x128.size inb_S2048x768_S2048x128_0_640).toLoadRect f6) qb (constant S2048x1 .f32 0x00000000#32))) bitsLt_bf16_f32)
    (e4 : u4 = broadcast S2048x127 (Scalar.ofBits .bf16 0x0000#16)) :
    v.read (Elt F) (v.writes (Elt F) f
        [⟨Rect.unit (s := S2048x768) ![0, 641] S2048x127.size inb_S2048x768_S2048x127_0_641, u4⟩,
         ⟨Rect.unit (s := S2048x768) ![0, 640] S2048x1.size inb_S2048x768_S2048x1_0_640, u3⟩,
         ⟨Rect.unit (s := S2048x768) ![0, 384] S2048x256.size inb_S2048x768_S2048x256_0_384, u2⟩,
         ⟨Rect.unit (s := S2048x768) ![0, 256] S2048x128.size inb_S2048x768_S2048x128_0_256, u1⟩,
         ⟨Rect.unit (s := S2048x768) ![0, 0] S2048x256.size inb_S2048x768_S2048x256_0_0, u0⟩])
      = wcatOf (M6.read (Elt F) f6) qw qb b1 := by
  rw [show M6.readAt (Elt F) (Rect.unit (s := S2048x768) ![0, 640] S2048x128.size inb_S2048x768_S2048x128_0_640).toLoadRect f6 = cols (M6.read (Elt F) f6) 640 (by decide) from cols_ld _ 640 _ _] at e1 e3
  rw [show M6.readAt (Elt F) (Rect.unit (s := S2048x768) ![0, 256] S2048x128.size inb_S2048x768_S2048x128_0_256).toLoadRect f6 = cols (M6.read (Elt F) f6) 256 (by decide) from cols_ld _ 256 _ _] at e1
  subst e0 e1 e2 e3 e4
  exact wcat_read v f (M6.read (Elt F) f6) qw qb b1 _ _ (fun _ => rfl) fun _ => rfl

set_option maxHeartbeats 800000 in
/-- A point of the grid. -/
theorem body_run  (c : Dev nD) (i : grid2.Coords) (M1 : Memref sig .tc .vmem S2048x384 .f32) (h1 : M1.IsWhole) (M2 : Memref sig .tc .vmem S2048x128 .f32) (h2 : M2.IsWhole)
    (M3 : Memref sig .tc .vmem S2048x128 .f32) (h3 : M3.IsWhole) (M4 : Memref sig .tc .vmem S128x128 .bf16) (h4 : M4.IsWhole) (M5 : Memref sig .tc .vmem S1x128 .f32) (h5 : M5.IsWhole)
    (M6 : Memref sig .tc .vmem S2048x768 .f32) (h6 : M6.IsWhole) (M7 : Memref sig .tc .vmem S2048x1 .f32) (h7 : M7.IsWhole) (M8 : Memref sig .tc .vmem S2x2048 .bf16) (h8 : M8.IsWhole)
    (M9 : Memref sig .tc .vmem S1x2 .f32) (h9 : M9.IsWhole) (M10 : Memref sig .tc .vmem S2048x2 .f32) (h10 : M10.IsWhole) (M11 : Memref sig .tc .vmem S2048x768 .bf16) (h11 : M11.IsWhole)
    (M12 : Memref sig .tc .vmem S2048x768 .bf16) (h12 : M12.IsWhole) (f1 : Bf (F := F) c M1) (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10) (f11 : Bf (F := F) c M11) (f12 : Bf (F := F) c M12)
    (hi : (i 0).val = 0 ∨ Kept c M11 M12 f11 f12 (M6.view.read (Elt F) f6) (M4.view.read (Elt F) f4) (M5.view.read (Elt F) f5) (M7.view.read (Elt F) f7)) (Q : PUnit → sProp 𝕄) :
    (iprop((pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12)
        ∗ ((∃ (g10 : Bf (F := F) c M10) (g11 : Bf (F := F) c M11) (g12 : Bf (F := F) c M12),
            ⌜M10.view.read (Elt F) g10 = outOf (hcatOf (M1.view.read (Elt F) f1) (M2.view.read (Elt F) f2) (M3.view.read (Elt F) f3))
                (wcatOf (M6.view.read (Elt F) f6) (M4.view.read (Elt F) f4) (M5.view.read (Elt F) f5) (M7.view.read (Elt F) f7)) (M8.view.read (Elt F) f8) (M9.view.read (Elt F) f9)
              ∧ Kept c M11 M12 g11 g12 (M6.view.read (Elt F) f6) (M4.view.read (Elt F) f4) (M5.view.read (Elt F) f5) (M7.view.read (Elt F) f7)⌝
            ∗ (pt c M1 f1 ∗ pt c M2 f2 ∗ pt c M3 f3 ∗ pt c M4 f4 ∗ pt c M5 f5 ∗ pt c M6 f6 ∗ pt c M7 f7 ∗ pt c M8 f8 ∗ pt c M9 f9 ∗ pt c M10 g10 ∗ pt c M11 g11 ∗ pt c M12 g12)) -∗ Q ⟨⟩)) : sProp 𝕄)
      ⊢ wp frame (wpE (defs₀ (F := F)) 𝒱₀ c none) Set.univ (cc2__mlp_body i M1 h1 M2 h2 M3 h3 M4 h4 M5 h5 M6 h6 M7 h7 M8 h8 M9 h9 M10 h10 M11 h11 M12 h12) Q := by
  by_cases hz : (i 0).val = 0
  · have hc : Scalar.cmpi .ne (Scalar.extui (Scalar.cmpi .eq (BitVec.ofNat 32 (i 0).val) 0#32) : BitVec 32) 0#32 = 1#1 := by
      rw [hz]; decide
    unfold cc2__mlp_body k2_part2 k2_part1
    rw [dif_pos hc]
    iintro ⟨⟨H1, H2, H3, H4, H5, H6, H7, H8, H9, H10, H11, H12⟩, Hk⟩
    sl_exec
    sl_step
    sl_unfold_words
    iapply Hk
    iexists _, _, _
    isplitr
    swap
    · iframe
    ipureintro
    rw [ld_cast M2.view, ld_cast M3.view, ld_cast M4.view, ld_cast M5.view, ld_cast M7.view, ld_cast M9.view, View.readAt_full M1.view]
    rw [shapeCast_self (truncf .bf16 (M1.view.read (Elt F) f1) _), shapeCast_self (truncf .bf16 (M2.view.read (Elt F) f2) _), shapeCast_self (truncf .bf16 (M3.view.read (Elt F) f3) _)]
    rw [shapeCast_self (broadcast S2048x127 _) _, shapeCast_self (broadcast S2048x1 _) _]
    have hH (f : M11.view.ty.Contents (Elt F)) := hcat_read M11.view f (M1.view.read (Elt F) f1) (M2.view.read (Elt F) f2) (M3.view.read (Elt F) f3) _ (pad_read M11.view f)
    refine ⟨?_, ?_, fun y hy => ?_⟩
    · rw [View.read_writes_full]
      refine out_eq _ _ _ _ ((View.readAt_full _ _ _).trans (hH _)) ((View.readAt_full _ _ _).trans (hH _)) ?_ ?_ ((shapeCast_self _ _).trans (w2_ld _ 0 _ _)) ((shapeCast_self _ _).trans (w2_ld _ 1024 _ _))
      · exact (rows_ld _ 0 (by decide) _).trans (congrArg (rowsOf · 0 (by decide)) (wcat_eq M12.view M12.view.junk M6.view f6 _ _ _ (shapeCast_self _ _) (shapeCast_self _ _) (shapeCast_self _ _) (shapeCast_self _ _) rfl))
      · exact (rows_ld _ 1024 (by decide) _).trans (congrArg (rowsOf · 1024 (by decide)) (wcat_eq M12.view M12.view.junk M6.view f6 _ _ _ (shapeCast_self _ _) (shapeCast_self _ _) (shapeCast_self _ _) (shapeCast_self _ _) rfl))
    · exact wcat_eq M12.view f12 M6.view f6 _ _ _ (shapeCast_self _ _) (shapeCast_self _ _) (shapeCast_self _ _) (shapeCast_self _ _) rfl
    · exact (congrFun (hH f11) y).trans (by unfold hcatOf; rw [dif_neg (by omega), dif_neg (by omega), dif_neg (by omega)])
  · have hc : ¬ Scalar.cmpi .ne (Scalar.extui (Scalar.cmpi .eq (BitVec.ofNat 32 (i 0).val) 0#32) : BitVec 32) 0#32 = 1#1 := by
      revert hz; generalize i 0 = j; revert j; decide
    have hK := hi.resolve_left hz
    unfold cc2__mlp_body k2_part2
    rw [dif_neg hc]
    iintro ⟨⟨H1, H2, H3, H4, H5, H6, H7, H8, H9, H10, H11, H12⟩, Hk⟩
    sl_exec
    sl_step
    sl_unfold_words
    iapply Hk
    iexists _, _, _
    isplitr
    swap
    · iframe
    ipureintro
    rw [ld_cast M2.view, ld_cast M3.view, ld_cast M9.view, View.readAt_full M1.view]
    rw [shapeCast_self (truncf .bf16 (M1.view.read (Elt F) f1) _), shapeCast_self (truncf .bf16 (M2.view.read (Elt F) f2) _), shapeCast_self (truncf .bf16 (M3.view.read (Elt F) f3) _)]
    have hH := hcat_read M11.view f11 (M1.view.read (Elt F) f1) (M2.view.read (Elt F) f2) (M3.view.read (Elt F) f3) [] hK.2
    refine ⟨?_, hK.1, fun y hy => ?_⟩
    · rw [View.read_writes_full]
      refine out_eq _ _ _ _ ((View.readAt_full _ _ _).trans hH) ((View.readAt_full _ _ _).trans hH) ?_ ?_ ((shapeCast_self _ _).trans (w2_ld _ 0 _ _)) ((shapeCast_self _ _).trans (w2_ld _ 1024 _ _))
      · rw [← hK.1]; exact rows_ld _ 0 _ _
      · rw [← hK.1]; exact rows_ld _ 1024 _ _
    · exact (congrFun hH y).trans (by unfold hcatOf; rw [dif_neg (by omega), dif_neg (by omega), dif_neg (by omega)])

end Cert.KernelIdeal.Mlp
-- ==== Proof.Reg0.lean ====
/-
  The first TensorCore call (pipeline 0): its proof data from the arrays it starts from, its body at every grid point,
  and the region as the launch takes it.
-/
module

public import proofs.«01_k».proof.Proof.Mlp
public import proofs.«01_k».proof.Proof.Gen.KernelIdeal.Launch
public import proofs.«01_k».proof.Proof.Gen.KernelIdeal.Points
public import Idealize.ShloMosaic.Lib.Pipeline.FrameBody

@[expose] public section

noncomputable section

namespace Cert.KernelIdeal.Reg0

open Cert.KernelIdeal Cert.KernelIdeal.Gen Cert.KernelIdeal.Run Cert.KernelIdeal.Mlp
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MM F

/-- The tables of the two pipelines: none. -/
abbrev adm : (p : Fin 2) → (pcfgs (F := F) p).Adm := fun p => (cfgs p).toPCfg_adm

/-- The arrays that the call's windows read and write, at some contents. -/
abbrev Arrs (F : FTy → Type) (c : Dev nD) : Type := (w : Fin 10) → Buf (Elt F) (((cfg2.win w).arr.view).loc (c : Thread nD τ))

section Data
variable {c : Dev nD} (A : Arrs F c)

/-- The block that window `w` fetches at point `t`. -/
abbrev stg (w : Fin 10) (t : Fin cfg2.N) : ((cfg2.win w).xblock (cfg2.grid.coords t)).Idx → Elt F (cfg2.win w).elt := ((cfg2.win w).blk t).view.read (Elt F) (A w)

/-- The folded weights. -/
def W : Vec F S2048x768 .bf16 := wcatOf (stg A 5 t2_0) (stg A 3 t2_0) (stg A 4 t2_0) (stg A 6 t2_0)

/-- The block of results at point `t`. -/
def outB (t : Fin cfg2.N) : Vec F S2048x2 .f32 := outOf (hcatOf (stg A 0 t) (stg A 1 t) (stg A 2 t)) (W A) (stg A 7 t2_0) (stg A 8 t2_0)

/-- A scoped buffer held at something. -/
abbrev sb (b : Ref sig .tc) (c : Dev nD) : sProp 𝕄 := iprop(∃ f : Buf (Elt F) ((c : Thread nD τ).loc b), ((c : Thread nD τ).loc b) ↦{fullShare} f)

/-- The other call's scoped buffers. -/
def others (c : Dev nD) : sProp 𝕄 :=
  iprop(sb cc3_stg0_0 c ∗ sb cc3_stg0_1 c ∗ sb cc3_stg1_0 c ∗ sb cc3_stg1_1 c ∗ sb cc3_stg2_0 c ∗ sb cc3_stg2_1 c ∗ sb cc3_stg3_0 c ∗ sb cc3_stg4_0 c ∗ sb cc3_stg5_0 c ∗ sb cc3_stg6_0 c ∗ sb cc3_stg7_0 c ∗ sb cc3_stg8_0 c ∗ sb cc3_stg9_0 c ∗ sb cc3_stg9_1 c ∗ sb cc3_scratch0 c ∗ sb cc3_scratch1 c)

theorem rest_eq (c : Dev nD) : (Pipeline.scopedRest (Ix := HIx 2) (Name := ℕ) (U := UU) (Lvl := ℕ) (Val := Elt F) spec2 c : sProp 𝕄)
    = iprop(sb cc2_scratch0 c ∗ sb cc2_scratch1 c ∗ others c) := by
  rw [scopedRest2_eq]; rfl

/-- What is kept between points: the two scratch arrays, folded weights and pad in place after the first. -/
def Phi (n : ℕ) : sProp 𝕄 :=
  iprop((∃ (f11 : Bf (F := F) c (Memref.whole cc2_scratch0)) (f12 : Bf (F := F) c (Memref.whole cc2_scratch1)),
      ⌜n ≠ 0 → Kept c (Memref.whole cc2_scratch0) (Memref.whole cc2_scratch1) f11 f12 (stg A 5 t2_0) (stg A 3 t2_0) (stg A 4 t2_0) (stg A 6 t2_0)⌝
        ∗ pt c (Memref.whole cc2_scratch0) f11 ∗ pt c (Memref.whole cc2_scratch1) f12) ∗ others c)

/-- The call's proof data; the core's recorded waits lie at most `b` high before it. -/
def dat (b : ℕ) : Dat τ (Elt F) (HIx 2) ℕ UU ℕ cfg2 c where
  A w := A w
  after w t := match w with
    | ⟨0, _⟩ => stg A 0 t
    | ⟨1, _⟩ => stg A 1 t
    | ⟨2, _⟩ => stg A 2 t
    | ⟨3, _⟩ => stg A 3 t
    | ⟨4, _⟩ => stg A 4 t
    | ⟨5, _⟩ => stg A 5 t
    | ⟨6, _⟩ => stg A 6 t
    | ⟨7, _⟩ => stg A 7 t
    | ⟨8, _⟩ => stg A 8 t
    | ⟨9, _⟩ => outB A t
    | ⟨_ + 10, h⟩ => absurd h (Nat.not_lt.2 (Nat.le_add_left _ _))
  Φ t := Phi A t.val
  q _ := fullShare
  owed _ := 0
  recorded _ := {p | (K (F := F)).lev ((c : Thread nD τ), p.1) p.2 ≤ b}

variable (b : ℕ)

/-- An input's staging buffer holds its block when the body runs. -/
theorem before_in (w : Fin 10) (hw : (cfg2.win w).isOut = false) (hk : ∀ t, (cfg2.win w).cut (cfg2.grid.coords t) ((dat A b).after w t) = (dat A b).blockOf w t)
    (t : Fin cfg2.N) (d) : (dat A b).before w t d = (dat A b).fetched w t d :=
  (dat A b).before_in_eq_fetched w hw (fun _ => rfl) (fun _ _ _ => by fin_cases w <;> rfl) hk t d

theorem before_0 (t : Fin cfg2.N) (d) : (dat A b).before 0 t d = stg A 0 t := before_in A b 0 rfl (fun _ => rfl) t d
theorem before_1 (t : Fin cfg2.N) (d) : (dat A b).before 1 t d = stg A 1 t := before_in A b 1 rfl (fun _ => rfl) t d
theorem before_2 (t : Fin cfg2.N) (d) : (dat A b).before 2 t d = stg A 2 t := before_in A b 2 rfl (fun _ => rfl) t d
theorem before_3 (t : Fin cfg2.N) (d) : (dat A b).before 3 t d = stg A 3 t2_0 := before_in A b 3 rfl (fun _ => rfl) t d
theorem before_4 (t : Fin cfg2.N) (d) : (dat A b).before 4 t d = stg A 4 t2_0 := before_in A b 4 rfl (fun _ => rfl) t d
theorem before_5 (t : Fin cfg2.N) (d) : (dat A b).before 5 t d = stg A 5 t2_0 := before_in A b 5 rfl (fun _ => rfl) t d
theorem before_6 (t : Fin cfg2.N) (d) : (dat A b).before 6 t d = stg A 6 t2_0 := before_in A b 6 rfl (fun _ => rfl) t d
theorem before_7 (t : Fin cfg2.N) (d) : (dat A b).before 7 t d = stg A 7 t2_0 := before_in A b 7 rfl (fun _ => rfl) t d
theorem before_8 (t : Fin cfg2.N) (d) : (dat A b).before 8 t d = stg A 8 t2_0 := before_in A b 8 rfl (fun _ => rfl) t d

/-- The first point is the one whose coordinate is zero. -/
theorem coord_zero : ∀ t : Fin cfg2.N, ((cfg2.grid.coords t 0).val = 0 ↔ t.val = 0) := (by decide : ∀ t : Fin grid2.N, ((grid2.coords t 0).val = 0 ↔ t.val = 0))

set_option maxHeartbeats 1000000 in
/-- The body at every point. -/
theorem body_obligation : BodyObligation (dat A b) (defs₀ (F := F)) 𝒱₀ none Set.univ := fun t => by
  rw [bigSep_W2, bigSep_W2]
  simp only [owns_pt c _ (hstage2_0 _), owns_pt c _ (hstage2_1 _), owns_pt c _ (hstage2_2 _), owns_pt c _ (hstage2_3 _), owns_pt c _ (hstage2_4 _), owns_pt c _ (hstage2_5 _), owns_pt c _ (hstage2_6 _), owns_pt c _ (hstage2_7 _), owns_pt c _ (hstage2_8 _), owns_pt c _ (hstage2_9 _)]
  rw [show (dat A b).Φ t.castSucc = Phi A t.val from rfl, show (dat A b).Φ t.succ = Phi A (t.val + 1) from rfl,
    show (dat A b).owesAt none t.succ = (dat A b).owesAt none t.castSucc from rfl]
  unfold Phi
  iintro ⟨⟨⟨%f11, %f12, %hK, H11, H12⟩, HR⟩, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩⟩
  rw [before_0] at hf0
  rw [before_1] at hf1
  rw [before_2] at hf2
  rw [before_3] at hf3
  rw [before_4] at hf4
  rw [before_5] at hf5
  rw [before_6] at hf6
  rw [before_7] at hf7
  rw [before_8] at hf8
  have hi : (grid2.coords t 0).val = 0 ∨ Kept c (Memref.whole cc2_scratch0) (Memref.whole cc2_scratch1) f11 f12 ((stage2_5 (cfg2.slots t 5)).view.read (Elt F) f5)
      ((stage2_3 (cfg2.slots t 3)).view.read (Elt F) f3) ((stage2_4 (cfg2.slots t 4)).view.read (Elt F) f4) ((stage2_6 (cfg2.slots t 6)).view.read (Elt F) f6) := by
    rw [hf5, hf3, hf4, hf6]
    by_cases h0 : t.val = 0
    · exact .inl ((coord_zero t).2 h0)
    · exact .inr (hK h0)
  iapply (body_run c (grid2.coords t) (stage2_0 (cfg2.slots t 0)) (hstage2_0 _) (stage2_1 (cfg2.slots t 1)) (hstage2_1 _) (stage2_2 (cfg2.slots t 2)) (hstage2_2 _) (stage2_3 (cfg2.slots t 3)) (hstage2_3 _) (stage2_4 (cfg2.slots t 4)) (hstage2_4 _) (stage2_5 (cfg2.slots t 5)) (hstage2_5 _) (stage2_6 (cfg2.slots t 6)) (hstage2_6 _) (stage2_7 (cfg2.slots t 7)) (hstage2_7 _) (stage2_8 (cfg2.slots t 8)) (hstage2_8 _) (stage2_9 (cfg2.slots t 9)) (hstage2_9 _) (Memref.whole cc2_scratch0) (Memref.isWhole_whole _) (Memref.whole cc2_scratch1) (Memref.isWhole_whole _) f0 f1 f2 f3 f4 f5 f6 f7 f8 f9 f11 f12 hi _)
  isplitl [H0 H1 H2 H3 H4 H5 H6 H7 H8 H9 H11 H12]
  · iframe
  iintro ⟨%g10, %g11, %g12, %hg, G0, G1, G2, G3, G4, G5, G6, G7, G8, G9, G11, G12⟩
  rw [hf0, hf1, hf2, hf3, hf4, hf5, hf6, hf7, hf8] at hg
  isplitl [G11 G12 HR]
  · isplitl [G11 G12]
    · iexists g11, g12; isplitr; swap; (· isplitl [G11] <;> iassumption); ipureintro; exact fun _ => hg.2
    · iexact HR
  isplitl [Howes]; · iexact Howes
  isplitl [G0]; · iexists f0; isplitr; swap; (· iexact G0); ipureintro; exact hf0
  isplitl [G1]; · iexists f1; isplitr; swap; (· iexact G1); ipureintro; exact hf1
  isplitl [G2]; · iexists f2; isplitr; swap; (· iexact G2); ipureintro; exact hf2
  isplitl [G3]; · iexists f3; isplitr; swap; (· iexact G3); ipureintro; exact hf3
  isplitl [G4]; · iexists f4; isplitr; swap; (· iexact G4); ipureintro; exact hf4
  isplitl [G5]; · iexists f5; isplitr; swap; (· iexact G5); ipureintro; exact hf5
  isplitl [G6]; · iexists f6; isplitr; swap; (· iexact G6); ipureintro; exact hf6
  isplitl [G7]; · iexists f7; isplitr; swap; (· iexact G7); ipureintro; exact hf7
  isplitl [G8]; · iexists f8; isplitr; swap; (· iexact G8); ipureintro; exact hf8
  iexists g10; isplitr; swap; (· iexact G9); ipureintro; exact hg.1

end Data

/-! ## The region -/

/-- Proof data of a pipeline that is not this region's. -/
def junkDat {cfg : Pipeline.Cfg sig Λ₀} (c : Dev nD) : Dat τ (Elt F) (HIx 2) ℕ UU ℕ cfg c where
  A _ := fun _ => Classical.arbitrary _
  after _ _ := fun _ => Classical.arbitrary _
  Φ _ := BI.emp
  q _ := fullShare
  owed _ := 0

variable (A : (c : Dev nD) → Arrs F c) (b : ℕ)

/-- The proof data of both pipelines, this region's at pipeline 0. -/
def pdats : (p : Fin 2) → (c : Dev nD) → Dat τ (Elt F) (HIx 2) ℕ UU ℕ (Pipeline.pin (pcfgs (F := F)) adm p) c
  | ⟨0, _⟩ => fun c => dat (A c) b
  | ⟨1, _⟩ => fun c => junkDat c

/-- The windows' arrays, whole, at contents `G`. -/
def held (c : Dev nD) (G : Arrs F c) : sProp 𝕄 :=
  bigSep Finset.univ fun w : Fin 10 => ((c : Thread nD τ).loc (Pipeline.arrRef spec2 w)) ↦{fullShare} G w

/-- The arrays after the call. -/
def done (c : Dev nD) : Arrs F c := fun w => (dat (A c) b).arrAt w cfg2.N

/-- The core's dues: none, its recorded waits at most `b` high. -/
def dues (c : Dev nD) : sProp 𝕄 :=
  iprop(∃ W, ⌜(K (F := F)).WBelow (c : Thread nD τ) W b⌝ ∗ owes (c : Thread nD τ) (0 : CellTallies nD τ sig (HIx 2)) W)

set_option backward.isDefEq.respectTransparency.types false in
/-- The windows' arrays as the library holds them. -/
theorem arrays_held (c : Dev nD) (G : Arrs F c) : (pdats A b 0 c).arrays G = held c G :=
  Pipeline.arrays_eq (p := 0) (Pipeline.pin (pcfgs (F := F)) adm) (pdats A b) c launch2.arr_whole ((pdats A b 0 c).share_full fun _ => rfl) G

-- the region's lemmas are stated over the pinned configuration
set_option backward.isDefEq.respectTransparency.types false in
/-- The region: from the arrays at `A`, to the arrays as the call leaves them. -/
def reg : Pipeline.RegionSeg (pcfgs (F := F)) adm (pdats A b) none defs₀ 𝒱₀ (K (F := F)).L (K (F := F)).lev 0 where
  win := (launch2).win.to₀
  block_pos := (launch2).block_pos
  stage_whole := (launch2).stage_whole
  K := PEmpty
  osem k := k.elim
  ho := Pipeline.OwnSemFacts.none _
  hbody c := (body_obligation (A c) b).loose
  hwaits := Pipeline.hwaits_of_owed_zero _ _ _ _ (K (F := F)).L (K (F := F)).lev 0 fun _ _ => rfl
  pre c := iprop(held c (A c) ∗ dues b c)
  post c := iprop(held c (done A b c) ∗ dues b c)
  X _ := BI.emp
  Y _ := BI.emp
  Z _ := BI.emp
  hentry c := by
    rw [Pipeline.ownSems0_none]
    iintro ⟨⟨Ha, HO⟩, -, -⟩
    imodintro
    isplitl [Ha]
    · have h := Entails.of_eq (arrays_held A b c (fun w => (pdats A b 0 c).arrAt w 0)).symm
      iapply h
      iexact Ha
    isplitr; · unfold Pipeline.prefHeld; rw [show (Finset.univ : Finset (Fin 0)) = ∅ from rfl, BI.bigSep_empty]; iempintro
    isplitl [HO]
    · unfold dues Pipeline.Dat.owesAt Pipeline.owesWithin
      icases HO with ⟨%W, %hW, HO⟩; iexists W; isplitr; · ipureintro; exact fun p hp => Or.inl (hW p hp)
      iexact HO
    isplitr <;> iempintro
  hin c := by
    rw [show (pdats A b 0 c).Φ 0 = Phi (A c) 0 from rfl]
    iintro ⟨-, -, Hr⟩
    ihave Hr := (Entails.of_eq (rest_eq (F := F) c)) $$ Hr
    icases Hr with ⟨⟨%f, Hf⟩, ⟨%g, Hg⟩, Ho⟩
    unfold Phi
    isplitl [Hf Hg]
    · iexists f, g
      isplitr; swap; (· isplitl [Hf] <;> iassumption)
      ipureintro; exact fun h => absurd rfl h
    iexact Ho
  hout c := by
    rw [Pipeline.ownSems0_none, show (pdats A b 0 c).Φ (Fin.last _) = Phi (A c) cfg2.N from rfl]
    unfold Phi
    iintro ⟨⟨%f, %g, -, Hf, Hg⟩, Ho⟩
    isplitr; · iempintro
    isplitr; · iempintro
    iapply (Entails.of_eq (rest_eq (F := F) c).symm)
    isplitl [Hf]; · iexists f; iexact Hf
    isplitl [Hg]; · iexists g; iexact Hg
    iexact Ho
  hexit c := by
    iintro ⟨Ha, HO, -, -⟩
    imodintro
    isplitl [Ha]
    · have h := Entails.of_eq (arrays_held A b c (done A b c))
      iapply h
      iexact Ha
    unfold dues Pipeline.Dat.owesAt Pipeline.owesWithin
    icases HO with ⟨%W, %hW, HO⟩; iexists W; isplitr; swap; (· iexact HO)
    ipureintro
    intro p hp
    rcases hW hp with h | ⟨w, s, h⟩
    · exact h
    · rw [h]; exact Nat.zero_le _

end Cert.KernelIdeal.Reg0

end
-- ==== Proof.Reg1.lean ====
/-
  The second TensorCore call (pipeline 1): its proof data from the arrays it starts from, its body at every grid point,
  and the region as the launch takes it.
-/
module

public import proofs.«01_k».proof.Proof.Reg0
public import proofs.«01_k».proof.Proof.Gen.KernelIdeal.Launch
public import proofs.«01_k».proof.Proof.Gen.KernelIdeal.Points
public import Idealize.ShloMosaic.Lib.Pipeline.FrameBody

@[expose] public section

noncomputable section

namespace Cert.KernelIdeal.Reg1

open Cert.KernelIdeal Cert.KernelIdeal.Gen Cert.KernelIdeal.Run Cert.KernelIdeal.Mlp
open Cert.KernelIdeal.Reg0 (adm junkDat sb dues)
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MM F

/-- The arrays that the call's windows read and write, at some contents. -/
abbrev Arrs (F : FTy → Type) (c : Dev nD) : Type := (w : Fin 10) → Buf (Elt F) (((cfg3.win w).arr.view).loc (c : Thread nD τ))

section Data
variable {c : Dev nD} (A : Arrs F c)

/-- The block that window `w` fetches at point `t`. -/
abbrev stg (w : Fin 10) (t : Fin cfg3.N) : ((cfg3.win w).xblock (cfg3.grid.coords t)).Idx → Elt F (cfg3.win w).elt := ((cfg3.win w).blk t).view.read (Elt F) (A w)

/-- The folded weights. -/
def W : Vec F S2048x768 .bf16 := wcatOf (stg A 5 t3_0) (stg A 3 t3_0) (stg A 4 t3_0) (stg A 6 t3_0)

/-- The block of results at point `t`. -/
def outB (t : Fin cfg3.N) : Vec F S2048x2 .f32 := outOf (hcatOf (stg A 0 t) (stg A 1 t) (stg A 2 t)) (W A) (stg A 7 t3_0) (stg A 8 t3_0)

/-- The other call's scoped buffers. -/
def others (c : Dev nD) : sProp 𝕄 :=
  iprop(sb cc2_stg0_0 c ∗ sb cc2_stg0_1 c ∗ sb cc2_stg1_0 c ∗ sb cc2_stg1_1 c ∗ sb cc2_stg2_0 c ∗ sb cc2_stg2_1 c ∗ sb cc2_stg3_0 c ∗ sb cc2_stg4_0 c ∗ sb cc2_stg5_0 c ∗ sb cc2_stg6_0 c ∗ sb cc2_stg7_0 c ∗ sb cc2_stg8_0 c ∗ sb cc2_stg9_0 c ∗ sb cc2_stg9_1 c ∗ sb cc2_scratch0 c ∗ sb cc2_scratch1 c)

theorem rest_eq (c : Dev nD) : (Pipeline.scopedRest (Ix := HIx 2) (Name := ℕ) (U := UU) (Lvl := ℕ) (Val := Elt F) spec3 c : sProp 𝕄)
    = iprop(sb cc3_scratch0 c ∗ sb cc3_scratch1 c ∗ others c) :=
  (Pipeline.scopedRest_eq_of_list spec3 c [cc3_scratch0, cc3_scratch1, cc2_stg0_0, cc2_stg0_1, cc2_stg1_0, cc2_stg1_1, cc2_stg2_0, cc2_stg2_1, cc2_stg3_0, cc2_stg4_0, cc2_stg5_0, cc2_stg6_0, cc2_stg7_0, cc2_stg8_0, cc2_stg9_0, cc2_stg9_1, cc2_scratch0, cc2_scratch1] (by decide) (by decide)).trans rfl

/-- What is kept between points: the two scratch arrays, folded weights and pad in place after the first. -/
def Phi (n : ℕ) : sProp 𝕄 :=
  iprop((∃ (f11 : Bf (F := F) c (Memref.whole cc3_scratch0)) (f12 : Bf (F := F) c (Memref.whole cc3_scratch1)),
      ⌜n ≠ 0 → Kept c (Memref.whole cc3_scratch0) (Memref.whole cc3_scratch1) f11 f12 (stg A 5 t3_0) (stg A 3 t3_0) (stg A 4 t3_0) (stg A 6 t3_0)⌝
        ∗ pt c (Memref.whole cc3_scratch0) f11 ∗ pt c (Memref.whole cc3_scratch1) f12) ∗ others c)

/-- The call's proof data; the core's recorded waits lie at most `b` high before it. -/
def dat (b : ℕ) : Dat τ (Elt F) (HIx 2) ℕ UU ℕ cfg3 c where
  A w := A w
  after w t := match w with
    | ⟨0, _⟩ => stg A 0 t
    | ⟨1, _⟩ => stg A 1 t
    | ⟨2, _⟩ => stg A 2 t
    | ⟨3, _⟩ => stg A 3 t
    | ⟨4, _⟩ => stg A 4 t
    | ⟨5, _⟩ => stg A 5 t
    | ⟨6, _⟩ => stg A 6 t
    | ⟨7, _⟩ => stg A 7 t
    | ⟨8, _⟩ => stg A 8 t
    | ⟨9, _⟩ => outB A t
    | ⟨_ + 10, h⟩ => absurd h (Nat.not_lt.2 (Nat.le_add_left _ _))
  Φ t := Phi A t.val
  q _ := fullShare
  owed _ := 0
  recorded _ := {p | (K (F := F)).lev ((c : Thread nD τ), p.1) p.2 ≤ b}

variable (b : ℕ)

/-- An input's staging buffer holds its block when the body runs. -/
theorem before_in (w : Fin 10) (hw : (cfg3.win w).isOut = false) (hk : ∀ t, (cfg3.win w).cut (cfg3.grid.coords t) ((dat A b).after w t) = (dat A b).blockOf w t)
    (t : Fin cfg3.N) (d) : (dat A b).before w t d = (dat A b).fetched w t d :=
  (dat A b).before_in_eq_fetched w hw (fun _ => rfl) (fun _ _ _ => by fin_cases w <;> rfl) hk t d

theorem before_0 (t : Fin cfg3.N) (d) : (dat A b).before 0 t d = stg A 0 t := before_in A b 0 rfl (fun _ => rfl) t d
theorem before_1 (t : Fin cfg3.N) (d) : (dat A b).before 1 t d = stg A 1 t := before_in A b 1 rfl (fun _ => rfl) t d
theorem before_2 (t : Fin cfg3.N) (d) : (dat A b).before 2 t d = stg A 2 t := before_in A b 2 rfl (fun _ => rfl) t d
theorem before_3 (t : Fin cfg3.N) (d) : (dat A b).before 3 t d = stg A 3 t3_0 := before_in A b 3 rfl (fun _ => rfl) t d
theorem before_4 (t : Fin cfg3.N) (d) : (dat A b).before 4 t d = stg A 4 t3_0 := before_in A b 4 rfl (fun _ => rfl) t d
theorem before_5 (t : Fin cfg3.N) (d) : (dat A b).before 5 t d = stg A 5 t3_0 := before_in A b 5 rfl (fun _ => rfl) t d
theorem before_6 (t : Fin cfg3.N) (d) : (dat A b).before 6 t d = stg A 6 t3_0 := before_in A b 6 rfl (fun _ => rfl) t d
theorem before_7 (t : Fin cfg3.N) (d) : (dat A b).before 7 t d = stg A 7 t3_0 := before_in A b 7 rfl (fun _ => rfl) t d
theorem before_8 (t : Fin cfg3.N) (d) : (dat A b).before 8 t d = stg A 8 t3_0 := before_in A b 8 rfl (fun _ => rfl) t d

/-- The first point is the one whose coordinate is zero. -/
theorem coord_zero : ∀ t : Fin cfg3.N, ((cfg3.grid.coords t 0).val = 0 ↔ t.val = 0) := (by decide : ∀ t : Fin grid3.N, ((grid3.coords t 0).val = 0 ↔ t.val = 0))

set_option maxHeartbeats 1000000 in
/-- The body at every point. -/
theorem body_obligation : BodyObligation (dat A b) (defs₀ (F := F)) 𝒱₀ none Set.univ := fun t => by
  rw [bigSep_W3, bigSep_W3]
  simp only [owns_pt c _ (hstage3_0 _), owns_pt c _ (hstage3_1 _), owns_pt c _ (hstage3_2 _), owns_pt c _ (hstage3_3 _), owns_pt c _ (hstage3_4 _), owns_pt c _ (hstage3_5 _), owns_pt c _ (hstage3_6 _), owns_pt c _ (hstage3_7 _), owns_pt c _ (hstage3_8 _), owns_pt c _ (hstage3_9 _)]
  rw [show (dat A b).Φ t.castSucc = Phi A t.val from rfl, show (dat A b).Φ t.succ = Phi A (t.val + 1) from rfl,
    show (dat A b).owesAt none t.succ = (dat A b).owesAt none t.castSucc from rfl]
  unfold Phi
  iintro ⟨⟨⟨%f11, %f12, %hK, H11, H12⟩, HR⟩, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩⟩
  rw [before_0] at hf0
  rw [before_1] at hf1
  rw [before_2] at hf2
  rw [before_3] at hf3
  rw [before_4] at hf4
  rw [before_5] at hf5
  rw [before_6] at hf6
  rw [before_7] at hf7
  rw [before_8] at hf8
  have hi : (grid3.coords t 0).val = 0 ∨ Kept c (Memref.whole cc3_scratch0) (Memref.whole cc3_scratch1) f11 f12 ((stage3_5 (cfg3.slots t 5)).view.read (Elt F) f5)
      ((stage3_3 (cfg3.slots t 3)).view.read (Elt F) f3) ((stage3_4 (cfg3.slots t 4)).view.read (Elt F) f4) ((stage3_6 (cfg3.slots t 6)).view.read (Elt F) f6) := by
    rw [hf5, hf3, hf4, hf6]
    by_cases h0 : t.val = 0
    · exact .inl ((coord_zero t).2 h0)
    · exact .inr (hK h0)
  iapply (body_run c (grid3.coords t) (stage3_0 (cfg3.slots t 0)) (hstage3_0 _) (stage3_1 (cfg3.slots t 1)) (hstage3_1 _) (stage3_2 (cfg3.slots t 2)) (hstage3_2 _) (stage3_3 (cfg3.slots t 3)) (hstage3_3 _) (stage3_4 (cfg3.slots t 4)) (hstage3_4 _) (stage3_5 (cfg3.slots t 5)) (hstage3_5 _) (stage3_6 (cfg3.slots t 6)) (hstage3_6 _) (stage3_7 (cfg3.slots t 7)) (hstage3_7 _) (stage3_8 (cfg3.slots t 8)) (hstage3_8 _) (stage3_9 (cfg3.slots t 9)) (hstage3_9 _) (Memref.whole cc3_scratch0) (Memref.isWhole_whole _) (Memref.whole cc3_scratch1) (Memref.isWhole_whole _) f0 f1 f2 f3 f4 f5 f6 f7 f8 f9 f11 f12 hi _)
  isplitl [H0 H1 H2 H3 H4 H5 H6 H7 H8 H9 H11 H12]
  · iframe
  iintro ⟨%g10, %g11, %g12, %hg, G0, G1, G2, G3, G4, G5, G6, G7, G8, G9, G11, G12⟩
  rw [hf0, hf1, hf2, hf3, hf4, hf5, hf6, hf7, hf8] at hg
  isplitl [G11 G12 HR]
  · isplitl [G11 G12]
    · iexists g11, g12; isplitr; swap; (· isplitl [G11] <;> iassumption); ipureintro; exact fun _ => hg.2
    · iexact HR
  isplitl [Howes]; · iexact Howes
  isplitl [G0]; · iexists f0; isplitr; swap; (· iexact G0); ipureintro; exact hf0
  isplitl [G1]; · iexists f1; isplitr; swap; (· iexact G1); ipureintro; exact hf1
  isplitl [G2]; · iexists f2; isplitr; swap; (· iexact G2); ipureintro; exact hf2
  isplitl [G3]; · iexists f3; isplitr; swap; (· iexact G3); ipureintro; exact hf3
  isplitl [G4]; · iexists f4; isplitr; swap; (· iexact G4); ipureintro; exact hf4
  isplitl [G5]; · iexists f5; isplitr; swap; (· iexact G5); ipureintro; exact hf5
  isplitl [G6]; · iexists f6; isplitr; swap; (· iexact G6); ipureintro; exact hf6
  isplitl [G7]; · iexists f7; isplitr; swap; (· iexact G7); ipureintro; exact hf7
  isplitl [G8]; · iexists f8; isplitr; swap; (· iexact G8); ipureintro; exact hf8
  iexists g10; isplitr; swap; (· iexact G9); ipureintro; exact hg.1

end Data

/-! ## The region -/

variable (A : (c : Dev nD) → Arrs F c) (b : ℕ)

/-- The proof data of both pipelines, this region's at pipeline 1. -/
def pdats : (p : Fin 2) → (c : Dev nD) → Dat τ (Elt F) (HIx 2) ℕ UU ℕ (Pipeline.pin (pcfgs (F := F)) adm p) c
  | ⟨0, _⟩ => fun c => junkDat c
  | ⟨1, _⟩ => fun c => dat (A c) b

/-- The windows' arrays, whole, at contents `G`. -/
def held (c : Dev nD) (G : Arrs F c) : sProp 𝕄 :=
  bigSep Finset.univ fun w : Fin 10 => ((c : Thread nD τ).loc (Pipeline.arrRef spec3 w)) ↦{fullShare} G w

/-- The arrays after the call. -/
def done (c : Dev nD) : Arrs F c := fun w => (dat (A c) b).arrAt w cfg3.N

set_option backward.isDefEq.respectTransparency.types false in
/-- The windows' arrays as the library holds them. -/
theorem arrays_held (c : Dev nD) (G : Arrs F c) : (pdats A b 1 c).arrays G = held c G :=
  Pipeline.arrays_eq (p := 1) (Pipeline.pin (pcfgs (F := F)) adm) (pdats A b) c launch3.arr_whole ((pdats A b 1 c).share_full fun _ => rfl) G

-- the region's lemmas are stated over the pinned configuration
set_option backward.isDefEq.respectTransparency.types false in
/-- The region: from the arrays at `A`, to the arrays as the call leaves them. -/
def reg : Pipeline.RegionSeg (pcfgs (F := F)) adm (pdats A b) none defs₀ 𝒱₀ (K (F := F)).L (K (F := F)).lev 1 where
  win := (launch3).win.to₀
  block_pos := (launch3).block_pos
  stage_whole := (launch3).stage_whole
  K := PEmpty
  osem k := k.elim
  ho := Pipeline.OwnSemFacts.none _
  hbody c := (body_obligation (A c) b).loose
  hwaits := Pipeline.hwaits_of_owed_zero _ _ _ _ (K (F := F)).L (K (F := F)).lev 1 fun _ _ => rfl
  pre c := iprop(held c (A c) ∗ dues b c)
  post c := iprop(held c (done A b c) ∗ dues b c)
  X _ := BI.emp
  Y _ := BI.emp
  Z _ := BI.emp
  hentry c := by
    rw [Pipeline.ownSems0_none]
    iintro ⟨⟨Ha, HO⟩, -, -⟩
    imodintro
    isplitl [Ha]
    · have h := Entails.of_eq (arrays_held A b c (fun w => (pdats A b 1 c).arrAt w 0)).symm
      iapply h
      iexact Ha
    isplitr; · unfold Pipeline.prefHeld; rw [show (Finset.univ : Finset (Fin 0)) = ∅ from rfl, BI.bigSep_empty]; iempintro
    isplitl [HO]
    · unfold dues Pipeline.Dat.owesAt Pipeline.owesWithin
      icases HO with ⟨%W, %hW, HO⟩; iexists W; isplitr; · ipureintro; exact fun p hp => Or.inl (hW p hp)
      iexact HO
    isplitr <;> iempintro
  hin c := by
    rw [show (pdats A b 1 c).Φ 0 = Phi (A c) 0 from rfl]
    iintro ⟨-, -, Hr⟩
    ihave Hr := (Entails.of_eq (rest_eq (F := F) c)) $$ Hr
    icases Hr with ⟨⟨%f, Hf⟩, ⟨%g, Hg⟩, Ho⟩
    unfold Phi
    isplitl [Hf Hg]
    · iexists f, g
      isplitr; swap; (· isplitl [Hf] <;> iassumption)
      ipureintro; exact fun h => absurd rfl h
    iexact Ho
  hout c := by
    rw [Pipeline.ownSems0_none, show (pdats A b 1 c).Φ (Fin.last _) = Phi (A c) cfg3.N from rfl]
    unfold Phi
    iintro ⟨⟨%f, %g, -, Hf, Hg⟩, Ho⟩
    isplitr; · iempintro
    isplitr; · iempintro
    iapply (Entails.of_eq (rest_eq (F := F) c).symm)
    isplitl [Hf]; · iexists f; iexact Hf
    isplitl [Hg]; · iexists g; iexact Hg
    iexact Ho
  hexit c := by
    iintro ⟨Ha, HO, -, -⟩
    imodintro
    isplitl [Ha]
    · have h := Entails.of_eq (arrays_held A b c (done A b c))
      iapply h
      iexact Ha
    unfold dues Pipeline.Dat.owesAt Pipeline.owesWithin
    icases HO with ⟨%W, %hW, HO⟩; iexists W; isplitr; swap; (· iexact HO)
    ipureintro
    intro p hp
    rcases hW hp with h | ⟨w, s, h⟩
    · exact h
    · rw [h]; exact Nat.zero_le _

end Cert.KernelIdeal.Reg1

end
-- ==== Proof.Host.lean ====
/-
  The pieces that the TensorCore's program is run by: a host operation, a SparseCore call and a TensorCore call, each as
  a step from one assignment of the unscoped arrays to the next.
-/
module

public import proofs.«01_k».proof.Proof.Obl
public import proofs.«01_k».proof.Proof.Reg1

@[expose] public section

noncomputable section

namespace Cert.KernelIdeal.Run

open Cert.KernelIdeal Cert.KernelIdeal.Gen Cert.KernelIdeal.Tile
open Idealize.ShloMosaic Idealize.ShloMosaic.TcCoe
open Idealize.ShloMosaic.SparseCore.Cfg (HIx)
open Idealize.ShloMosaic.StableHlo (held held_sub_split held_congr wp_hlo_within)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

/-- An array's name on a device. -/
abbrev nm (r : Ref sig .tc) : DevRef τ sig := Proc.devRef (.tc : Proc τ) r

/-- The arrays of the program: every buffer of the TensorCore that is not a kernel's own. -/
def arrs : Finset (DevRef τ sig) := (Finset.univ.filter fun b : Ref sig .tc => ¬ b.isScoped).map ⟨fun r => nm r, Proc.devRef_injective (.tc : Proc τ)⟩

theorem mem_arrs {r : Ref sig .tc} (h : r.isScoped = false) : nm r ∈ arrs :=
  Finset.mem_map.mpr ⟨r, Finset.mem_filter.mpr ⟨Finset.mem_univ r, by simp [h]⟩, rfl⟩

/-- What the launch gives the TensorCore is its arrays at their launch contents. -/
theorem unscoped_held (m : (ℓ : Loc nD τ sig) → Buf (Elt F) ℓ) (d : Dev nD) :
    (unscopedBufs d (fun b => m ((SparseCore.T d).loc b)) : sProp 𝕄) = held (SparseCore.T d) arrs (fun b => m (d, b)) := by
  unfold unscopedBufs held arrs
  rw [bigSep_map]
  rfl

/-- Some of the arrays replaced: those at new contents beside the others make all of them. -/
theorem held_replace (d : Dev nD) {T₀ : Finset (DevRef τ sig)} (hT : T₀ ⊆ arrs) (V V' : Valuation τ sig (Elt F)) (h : ∀ b ∈ arrs, b ∉ T₀ → V b = V' b) :
    (iprop(held (SparseCore.T d) T₀ V' ∗ held (SparseCore.T d) (arrs \ T₀) V) : sProp 𝕄) = held (SparseCore.T d) arrs V' := by
  rw [held_sub_split (SparseCore.T d) hT V', held_congr (SparseCore.T d) (S := arrs \ T₀) (V := V) (V' := V') fun b hb => h b (Finset.mem_sdiff.mp hb).1 (Finset.mem_sdiff.mp hb).2]

section Steps
variable [FloatOps F]

/-- A host operation takes the arrays to its result. -/
theorem wp_op (d : Dev nD) (op : HloOp τ sig (Elt F)) (hS : op.bufs ⊆ arrs) (hf : op.fresh = ∅) (V : Valuation τ sig (Elt F)) (Φ : PUnit → sProp 𝕄) :
    (iprop(boundary (SparseCore.T d) ∗ held (SparseCore.T d) arrs V ∗ ((boundary (SparseCore.T d) ∗ held (SparseCore.T d) arrs (op.result V)) -∗ Φ ⟨⟩)) : sProp 𝕄)
      ⊢ wp frame (wpE ((K (F := F)).defs (D (F := F))) 𝒱 (SparseCore.T d) none) Set.univ (hlo rfl op (fun _ => .ret ⟨⟩)) Φ := by
  iintro ⟨Hb, Hh, Hk⟩
  iapply (wp_hlo_within 𝒱 (SparseCore.T d) none Set.univ (op := op) (S := arrs) hS (V := V) (hf := hf)) $$ [Hb Hh]
  · isplitl [Hb] <;> iassumption
  iintro ⟨Hb, Hh⟩
  rw [wp_ret]; imodintro
  iapply Hk
  isplitl [Hb] <;> iassumption

variable (m : (ℓ : Loc nD τ sig) → Buf (Elt F) ℓ)

/-- Six arrays as a set. -/
def six (a b c d e f : Ref sig .tc) : Finset (DevRef τ sig) := {nm a, nm b, nm c, nm d, nm e, nm f}

theorem held_six (d : Dev nD) (a b c e f g : Ref sig .tc) (hn : [a, b, c, e, f, g].Nodup) (V : Valuation τ sig (Elt F)) :
    (held (SparseCore.T d) (six a b c e f g) V : sProp 𝕄)
      = iprop((at_ d a ↦{fullShare} V (nm a)) ∗ (at_ d b ↦{fullShare} V (nm b)) ∗ (at_ d c ↦{fullShare} V (nm c)) ∗ (at_ d e ↦{fullShare} V (nm e)) ∗ (at_ d f ↦{fullShare} V (nm f)) ∗ at_ d g ↦{fullShare} V (nm g)) := by
  have hn' : [nm a, nm b, nm c, nm e, nm f, nm g].Nodup := (hn.map (Proc.devRef_injective (sig := sig) (.tc : Proc τ)) :)
  simp only [List.nodup_cons, List.mem_cons, List.not_mem_nil, or_false, not_or] at hn'
  unfold held six
  rw [SparseCore.bigSep_insert' (by simp only [Finset.mem_insert, Finset.mem_singleton, not_or]; exact hn'.1),
    SparseCore.bigSep_insert' (by simp only [Finset.mem_insert, Finset.mem_singleton, not_or]; exact hn'.2.1),
    SparseCore.bigSep_insert' (by simp only [Finset.mem_insert, Finset.mem_singleton, not_or]; exact hn'.2.2.1),
    SparseCore.bigSep_insert' (by simp only [Finset.mem_insert, Finset.mem_singleton, not_or]; exact hn'.2.2.2.1),
    SparseCore.bigSep_insert' (by simp only [Finset.mem_singleton]; exact hn'.2.2.2.2.1), bigSep_singleton]

/-- The arrays with two of them replaced. -/
def put2 (V : Valuation τ sig (Elt F)) (a b : Ref sig .tc) (fa : (nm a).ty.Contents (Elt F)) (fb : (nm b).ty.Contents (Elt F)) : Valuation τ sig (Elt F) :=
  Function.update (Function.update V (nm a) fa) (nm b) fb

theorem put2_ne (V : Valuation τ sig (Elt F)) {a b r : Ref sig .tc} (fa fb) (ha : r ≠ a) (hb : r ≠ b) : put2 V a b fa fb (nm r) = V (nm r) := by
  unfold put2
  rw [Function.update_of_ne (StableHlo.devRef_ne_of_ne hb), Function.update_of_ne (StableHlo.devRef_ne_of_ne ha)]
theorem put2_fst (V : Valuation τ sig (Elt F)) {a b : Ref sig .tc} (fa fb) (h : a ≠ b) : put2 V a b fa fb (nm a) = fa := by
  unfold put2
  rw [Function.update_of_ne (StableHlo.devRef_ne_of_ne h), Function.update_self]
theorem put2_snd (V : Valuation τ sig (Elt F)) {a b : Ref sig .tc} (fa fb) : put2 V a b fa fb (nm b) = fb := by
  unfold put2
  rw [Function.update_self]

/-- A gather call: the arrays it is handed make its start, and its end makes them at their new contents. -/
theorem wp_call (κ : GSem nD τ sig → ℕ) (d : Dev nD) (q : Fin 2) {R : Finset (DevRef τ sig)} (hsub : R ⊆ arrs) (V V' : Valuation τ sig (Elt F))
    (hV : ∀ b, b ∉ R → V b = V' b)
    (hin : (held (SparseCore.T d) R V : sProp 𝕄) ⊢ bigSep Finset.univ fun c : Fin ((K (F := F)).nCore q) => (P m).st q d c)
    (hout : (bigSep Finset.univ fun c : Fin ((K (F := F)).nCore q) => (P m).dn q d c) ⊢ (held (SparseCore.T d) R V' : sProp 𝕄)) (Φ : PUnit → sProp 𝕄) :
    (iprop((K (F := F)).ctx EH (P m) κ ∗ (K (F := F)).tcSt EH d q.val ∗ held (SparseCore.T d) arrs V
        ∗ (((K (F := F)).tcSt EH d (q.val + 1) ∗ held (SparseCore.T d) arrs V') -∗ Φ ⟨⟩)) : sProp 𝕄)
      ⊢ wp frame (wpE ((K (F := F)).defs (D (F := F))) 𝒱 (SparseCore.T d) none) Set.univ ((K (F := F)).run d q) Φ := by
  rw [← held_replace d hsub V V' fun b _ hb => hV b hb, held_sub_split (SparseCore.T d) hsub V]
  iintro ⟨#Hctx, Hst, ⟨Hop, Hr⟩, Hk⟩
  iapply ((K (F := F)).wp_run (D (F := F)) 𝒱 (EH := EH) (P := P m) κ d q) $$ [Hst Hop Hr Hk]
  isplitr; · iexact Hctx
  isplitl [Hst]; · iexact Hst
  isplitl [Hop]; · iapply hin; iexact Hop
  iintro ⟨Hst, Hdn⟩
  iapply Hk
  isplitl [Hst]; · iexact Hst
  isplitl [Hdn]; · iapply hout; iexact Hdn
  iexact Hr

/-- The six arrays of a call are its tiles' parts. -/
theorem six_pay (d : Dev nD) (a b c e f g : Ref sig .tc) (hn : [a, b, c, e, f, g].Nodup) (V : Valuation τ sig (Elt F))
    (ft : Buf (Elt F) (at_ d a)) (fd : Buf (Elt F) (at_ d b)) (fi : Buf (Elt F) (at_ d c)) (fj : Buf (Elt F) (at_ d e)) (fo : Buf (Elt F) (at_ d f)) (fe : Buf (Elt F) (at_ d g))
    (ha : V (nm a) = ft) (hb : V (nm b) = fd) (hc : V (nm c) = fi) (he : V (nm e) = fj) (hf : V (nm f) = fo) (hg : V (nm g) = fe)
    (R : ℕ → Finset (Idx (at_ d f))) (R' : ℕ → Finset (Idx (at_ d g)))
    (hR : (at_ d f ↦{fullShare} fo : sProp 𝕄) = bigSep Finset.univ fun c : Fin 2 => bigSep Finset.univ fun s : Fin 16 =>
      iprop((at_ d f ↦[R (rowOf c s 0)]{fullShare} fo) ∗ (at_ d f ↦[R (rowOf c s 1)]{fullShare} fo)))
    (hR' : (at_ d g ↦{fullShare} fe : sProp 𝕄) = bigSep Finset.univ fun c : Fin 2 => bigSep Finset.univ fun s : Fin 16 =>
      iprop((at_ d g ↦[R' (rowOf c s 0)]{fullShare} fe) ∗ (at_ d g ↦[R' (rowOf c s 1)]{fullShare} fe))) :
    (held (SparseCore.T d) (six a b c e f g) V : sProp 𝕄) = bigSep Finset.univ fun k : Fin 2 => bigSep Finset.univ fun s : Fin 16 => pay ft fd fi fj fo fe R R' k s := by
  subst ha hb hc he hf hg
  rw [held_six d a b c e f g hn V]
  exact pay_whole _ _ _ _ _ _ R R' hR hR'

theorem six_sub {a b c e f g : Ref sig .tc} (ha : a.isScoped = false) (hb : b.isScoped = false) (hc : c.isScoped = false) (he : e.isScoped = false) (hf : f.isScoped = false)
    (hg : g.isScoped = false) : six a b c e f g ⊆ arrs := by
  intro x hx
  simp only [six, Finset.mem_insert, Finset.mem_singleton] at hx
  rcases hx with rfl | rfl | rfl | rfl | rfl | rfl
  exacts [mem_arrs ha, mem_arrs hb, mem_arrs hc, mem_arrs he, mem_arrs hf, mem_arrs hg]

theorem put2_off (V : Valuation τ sig (Elt F)) {a b c e f g : Ref sig .tc} (ff fg) (x : DevRef τ sig) (hx : x ∉ six a b c e f g) : V x = put2 V f g ff fg x := by
  simp only [six, Finset.mem_insert, Finset.mem_singleton, not_or] at hx
  unfold put2; rw [Function.update_of_ne hx.2.2.2.2.2, Function.update_of_ne hx.2.2.2.2.1]

/-- The first gather call: the two output arrays get the gathered rows. -/
theorem wp_call0 (κ : GSem nD τ sig → ℕ) (d : Dev nD) (V : Valuation τ sig (Elt F)) (h3 : V (nm main_arg3) = m (at_ d main_arg3)) (h4 : V (nm main_arg4) = m (at_ d main_arg4))
    (h0 : V (nm main_v0) = lo (m (at_ d main_arg1))) (h1 : V (nm main_v1) = lo (m (at_ d main_arg2)))
    (ho : V (nm main_v2_0) = m (at_ d main_v2_0)) (he : V (nm main_v2_1) = m (at_ d main_v2_1)) (Φ : PUnit → sProp 𝕄) :
    (iprop((K (F := F)).ctx EH (P m) κ ∗ (K (F := F)).tcSt EH d 0 ∗ held (SparseCore.T d) arrs V
        ∗ (((K (F := F)).tcSt EH d 1 ∗ held (SparseCore.T d) arrs (put2 V main_v2_0 main_v2_1 (gm0 m d) (gd0 m d))) -∗ Φ ⟨⟩)) : sProp 𝕄)
      ⊢ wp frame (wpE ((K (F := F)).defs (D (F := F))) 𝒱 (SparseCore.T d) none) Set.univ (sc.run d 0) Φ := by
  have hd : [main_arg3, main_arg4, main_v0, main_v1, main_v2_0, main_v2_1].Nodup := by decide
  exact wp_call m κ d 0 (R := six main_arg3 main_arg4 main_v0 main_v1 main_v2_0 main_v2_1) (six_sub rfl rfl rfl rfl rfl rfl) V _ (put2_off V _ _)
    (Entails.of_eq (six_pay d _ _ _ _ _ _ hd V (m _) (m _) (lo (m (at_ d main_arg1))) (lo (m (at_ d main_arg2))) (m _) (m _) h3 h4 h0 h1 ho he rowsAt rowsAt
      (pts_rows (ℓ := at_ d main_v2_0) rowsAt rows_cover rows_disjoint _) (pts_rows (ℓ := at_ d main_v2_1) rowsAt rows_cover rows_disjoint _)))
    (Entails.of_eq (six_pay d _ _ _ _ _ _ hd (put2 V main_v2_0 main_v2_1 (gm0 m d) (gd0 m d)) (m _) (m _) (lo (m (at_ d main_arg1))) (lo (m (at_ d main_arg2))) (gm0 m d) (gd0 m d)
      ((put2_ne V _ _ (by decide) (by decide)).trans h3) ((put2_ne V _ _ (by decide) (by decide)).trans h4) ((put2_ne V _ _ (by decide) (by decide)).trans h0)
      ((put2_ne V _ _ (by decide) (by decide)).trans h1) (put2_fst V _ _ (by decide)) (put2_snd V _ _) rowsAt rowsAt
      (pts_rows (ℓ := at_ d main_v2_0) rowsAt rows_cover rows_disjoint _) (pts_rows (ℓ := at_ d main_v2_1) rowsAt rows_cover rows_disjoint _)).symm) Φ

/-- The second gather call. -/
theorem wp_call1 (κ : GSem nD τ sig → ℕ) (d : Dev nD) (V : Valuation τ sig (Elt F)) (h3 : V (nm main_arg3) = m (at_ d main_arg3)) (h4 : V (nm main_arg4) = m (at_ d main_arg4))
    (h0 : V (nm main_v3) = hi (m (at_ d main_arg1))) (h1 : V (nm main_v4) = hi (m (at_ d main_arg2)))
    (ho : V (nm main_v5_0) = m (at_ d main_v5_0)) (he : V (nm main_v5_1) = m (at_ d main_v5_1)) (Φ : PUnit → sProp 𝕄) :
    (iprop((K (F := F)).ctx EH (P m) κ ∗ (K (F := F)).tcSt EH d 1 ∗ held (SparseCore.T d) arrs V
        ∗ (((K (F := F)).tcSt EH d 2 ∗ held (SparseCore.T d) arrs (put2 V main_v5_0 main_v5_1 (gm1 m d) (gd1 m d))) -∗ Φ ⟨⟩)) : sProp 𝕄)
      ⊢ wp frame (wpE ((K (F := F)).defs (D (F := F))) 𝒱 (SparseCore.T d) none) Set.univ (sc.run d 1) Φ := by
  have hd : [main_arg3, main_arg4, main_v3, main_v4, main_v5_0, main_v5_1].Nodup := by decide
  exact wp_call m κ d 1 (R := six main_arg3 main_arg4 main_v3 main_v4 main_v5_0 main_v5_1) (six_sub rfl rfl rfl rfl rfl rfl) V _ (put2_off V _ _)
    (Entails.of_eq (six_pay d _ _ _ _ _ _ hd V (m _) (m _) (hi (m (at_ d main_arg1))) (hi (m (at_ d main_arg2))) (m _) (m _) h3 h4 h0 h1 ho he rowsAt rowsAt
      (pts_rows (ℓ := at_ d main_v5_0) rowsAt rows_cover rows_disjoint _) (pts_rows (ℓ := at_ d main_v5_1) rowsAt rows_cover rows_disjoint _)))
    (Entails.of_eq (six_pay d _ _ _ _ _ _ hd (put2 V main_v5_0 main_v5_1 (gm1 m d) (gd1 m d)) (m _) (m _) (hi (m (at_ d main_arg1))) (hi (m (at_ d main_arg2))) (gm1 m d) (gd1 m d)
      ((put2_ne V _ _ (by decide) (by decide)).trans h3) ((put2_ne V _ _ (by decide) (by decide)).trans h4) ((put2_ne V _ _ (by decide) (by decide)).trans h0)
      ((put2_ne V _ _ (by decide) (by decide)).trans h1) (put2_fst V _ _ (by decide)) (put2_snd V _ _) rowsAt rowsAt
      (pts_rows (ℓ := at_ d main_v5_0) rowsAt rows_cover rows_disjoint _) (pts_rows (ℓ := at_ d main_v5_1) rowsAt rows_cover rows_disjoint _)).symm) Φ

/-! ## The TensorCore calls -/

/-- How high the recorded waits may stand after both gather calls. -/
abbrev top : ℕ := 8 * SparseCore.Cfg.Blocks.fst (Q := 2) (N := 2) 2

/-- The gather calls' state after both holds the core's dues. -/
theorem dues_out (d : Dev nD) : ((K (F := F)).tcSt EH d 2 : sProp 𝕄) ⊢ iprop(Reg0.dues top d ∗ (Reg0.dues top d -∗ (K (F := F)).tcSt EH d 2)) := by
  unfold SparseCore.Cfg.tcSt Reg0.dues
  rw [(K (F := F)).Otc_end d (le_refl 2)]
  iintro ⟨HO, Hr⟩
  isplitl [HO]; · iexact HO
  iintro HO
  isplitl [HO]; · iexact HO
  iexact Hr

/-- The pipelines' staging rounds on a device. -/
def ghost (p : Fin 2) (d : Dev nD) : sProp 𝕄 :=
  iprop(Pipeline.cellsGhost (Pipeline.pin (pcfgs (F := F)) Reg0.adm) EP p d ∗ Pipeline.toksInit (Pipeline.pin (pcfgs (F := F)) Reg0.adm) EP p d)

/-- The arrays of the first TensorCore call. -/
def win0 : Fin 10 → Ref sig .tc := fun w => Pipeline.arrRef spec2 w
theorem win0_inj : Function.Injective win0 := by decide
theorem win0_unscoped : ∀ w, (win0 w).isScoped = false := by decide
theorem win0_out : ∀ w : Fin 10, w ≠ 9 → (cfg2.win w).isOut = false ∧ win0 w ≠ main_v11 := by decide
/-- The same as a set. -/
def set0 : Finset (DevRef τ sig) := Finset.univ.map ⟨fun w => nm (win0 w), (Proc.devRef_injective (.tc : Proc τ)).comp win0_inj⟩
theorem set0_sub : set0 ⊆ arrs := fun b hb => by
  obtain ⟨w, -, rfl⟩ := Finset.mem_map.mp hb
  exact mem_arrs (win0_unscoped w)
/-- The arrays as the first TensorCore call's windows name them. -/
def arr0 (V : Valuation τ sig (Elt F)) (d : Dev nD) : Reg0.Arrs F d := fun w => V (nm (win0 w))

theorem held_win0 (d : Dev nD) (V : Valuation τ sig (Elt F)) : (held (SparseCore.T d) set0 V : sProp 𝕄) = Reg0.held d (arr0 V d) := by
  unfold held Reg0.held set0
  rw [bigSep_map]
  rfl

/-- What the first TensorCore call leaves in its result array. -/
def res0 (V : Valuation τ sig (Elt F)) (d : Dev nD) : S8192x2.Idx → Elt F .f32 := Reg0.done (fun c => arr0 V c) top d 9

/-- The arrays after the first TensorCore call. -/
def put0 (V : Valuation τ sig (Elt F)) (d : Dev nD) : Valuation τ sig (Elt F) := Function.update V (nm main_v11) (res0 V d)

theorem put0_ne (V : Valuation τ sig (Elt F)) (d : Dev nD) {r : Ref sig .tc} (h : r ≠ main_v11) : put0 V d (nm r) = V (nm r) := by
  unfold put0; rw [Function.update_of_ne (StableHlo.devRef_ne_of_ne h)]
theorem put0_out (V : Valuation τ sig (Elt F)) (d : Dev nD) : put0 V d (nm main_v11) = res0 V d := by
  unfold put0; rw [Function.update_self]

theorem done0_eq (V : Valuation τ sig (Elt F)) (d : Dev nD) : Reg0.done (fun c => arr0 V c) top d = arr0 (put0 V d) d := by
  funext w
  by_cases h : w = 9
  · subst h; exact (put0_out V d).symm
  · have h1 : Reg0.done (fun c => arr0 V c) top d w = arr0 V d w := (Reg0.dat (arr0 V d) top).arrAt_in w (win0_out w h).1 _
    rw [h1]
    exact (put0_ne V d (win0_out w h).2).symm

/-- The first TensorCore call: its result array gets what the call computes of its other arrays. -/
theorem wp_reg0 (κ : GSem nD τ sig → ℕ) (d : Dev nD) (V : Valuation τ sig (Elt F)) (Φ : PUnit → sProp 𝕄) :
    (iprop((K (F := F)).ctx EH (P m) κ ∗ boundary (SparseCore.T d) ∗ (K (F := F)).tcSt EH d 2 ∗ held (SparseCore.T d) arrs V ∗ ghost 0 d
        ∗ ((boundary (SparseCore.T d) ∗ (K (F := F)).tcSt EH d 2 ∗ held (SparseCore.T d) arrs (put0 V d)) -∗ Φ ⟨⟩)) : sProp 𝕄)
      ⊢ wp frame (wpE ((K (F := F)).defs (D (F := F))) 𝒱 (SparseCore.T d) none) Set.univ (Prog.lift (.customCall (SparseCore.inner (Pipeline.entry 0)) ())) Φ := by
  have hlift := (K (F := F)).wp_liftProg (D (F := F)) 𝒱 (SparseCore.T d) Set.univ none (Prog.op (TpuEff.customCall (Pipeline.entry 0) ()) fun u => Prog.ret u) Φ
  have hreg := Pipeline.RegionSeg.wp (pcfgs (F := F)) Reg0.adm _ none cellOf_inj EP defs₀ 𝒱₀ (K (F := F)).L (K (F := F)).lev (Reg0.reg (fun c => arr0 V c) top) d none (fun u hu => nomatch hu) (fun u => Prog.ret u) Φ
  rw [show (Reg0.reg (fun c => arr0 V c) top).pre d = iprop(Reg0.held d (arr0 V d) ∗ Reg0.dues top d) from rfl,
    show (Reg0.reg (fun c => arr0 V c) top).post d = iprop(Reg0.held d (Reg0.done (fun c => arr0 V c) top d) ∗ Reg0.dues top d) from rfl] at hreg
  refine BIBase.Entails.trans ?_ hlift
  rw [← held_replace d set0_sub V (put0 V d) fun b _ hb => (Function.update_of_ne (fun e => hb (Finset.mem_map.mpr ⟨9, Finset.mem_univ _, e.symm⟩)) _ _).symm,
    held_sub_split (SparseCore.T d) set0_sub V, held_win0, held_win0, ← done0_eq]
  unfold ghost
  iintro ⟨#Hctx, Hb, Hst, ⟨Hw, Hr⟩, ⟨Hg, Ht⟩, Hk⟩
  ihave #Hlev := (SparseCore.Cfg.ctx_levAts κ) $$ Hctx
  ihave Hd := (dues_out (F := F) d) $$ Hst
  icases Hd with ⟨Hd, Hback⟩
  iapply hreg $$ [Hb Hback Hw Hr Hg Ht Hk Hd]
  isplitl [Hback Hr Hk]
  · iintro ⟨Hb, Hw, Hd⟩
    rw [wp_ret]; imodintro
    iapply Hk
    isplitl [Hb]; · iexact Hb
    isplitl [Hback Hd]; · iapply Hback; iexact Hd
    isplitl [Hw] <;> iassumption
  isplitl [Hb]; · iexact Hb
  isplitl [Hw Hd]
  · isplitl [Hw] <;> iassumption
  isplitr; · iexact Hlev
  isplitl [Hg] <;> iassumption

/-- The arrays of the second TensorCore call. -/
def win1 : Fin 10 → Ref sig .tc := fun w => Pipeline.arrRef spec3 w
theorem win1_inj : Function.Injective win1 := by decide
theorem win1_unscoped : ∀ w, (win1 w).isScoped = false := by decide
theorem win1_out : ∀ w : Fin 10, w ≠ 9 → (cfg3.win w).isOut = false ∧ win1 w ≠ main_v17 := by decide
/-- The same as a set. -/
def set1 : Finset (DevRef τ sig) := Finset.univ.map ⟨fun w => nm (win1 w), (Proc.devRef_injective (.tc : Proc τ)).comp win1_inj⟩
theorem set1_sub : set1 ⊆ arrs := fun b hb => by
  obtain ⟨w, -, rfl⟩ := Finset.mem_map.mp hb
  exact mem_arrs (win1_unscoped w)
/-- The arrays as the second TensorCore call's windows name them. -/
def arr1 (V : Valuation τ sig (Elt F)) (d : Dev nD) : Reg1.Arrs F d := fun w => V (nm (win1 w))

theorem held_win1 (d : Dev nD) (V : Valuation τ sig (Elt F)) : (held (SparseCore.T d) set1 V : sProp 𝕄) = Reg1.held d (arr1 V d) := by
  unfold held Reg1.held set1
  rw [bigSep_map]
  rfl

/-- What the second TensorCore call leaves in its result array. -/
def res1 (V : Valuation τ sig (Elt F)) (d : Dev nD) : S8192x2.Idx → Elt F .f32 := Reg1.done (fun c => arr1 V c) top d 9

/-- The arrays after the second TensorCore call. -/
def put1 (V : Valuation τ sig (Elt F)) (d : Dev nD) : Valuation τ sig (Elt F) := Function.update V (nm main_v17) (res1 V d)

theorem put1_ne (V : Valuation τ sig (Elt F)) (d : Dev nD) {r : Ref sig .tc} (h : r ≠ main_v17) : put1 V d (nm r) = V (nm r) := by
  unfold put1; rw [Function.update_of_ne (StableHlo.devRef_ne_of_ne h)]
theorem put1_out (V : Valuation τ sig (Elt F)) (d : Dev nD) : put1 V d (nm main_v17) = res1 V d := by
  unfold put1; rw [Function.update_self]

theorem done1_eq (V : Valuation τ sig (Elt F)) (d : Dev nD) : Reg1.done (fun c => arr1 V c) top d = arr1 (put1 V d) d := by
  funext w
  by_cases h : w = 9
  · subst h; exact (put1_out V d).symm
  · have h1 : Reg1.done (fun c => arr1 V c) top d w = arr1 V d w := (Reg1.dat (arr1 V d) top).arrAt_in w (win1_out w h).1 _
    rw [h1]
    exact (put1_ne V d (win1_out w h).2).symm

/-- The second TensorCore call: its result array gets what the call computes of its other arrays. -/
theorem wp_reg1 (κ : GSem nD τ sig → ℕ) (d : Dev nD) (V : Valuation τ sig (Elt F)) (Φ : PUnit → sProp 𝕄) :
    (iprop((K (F := F)).ctx EH (P m) κ ∗ boundary (SparseCore.T d) ∗ (K (F := F)).tcSt EH d 2 ∗ held (SparseCore.T d) arrs V ∗ ghost 1 d
        ∗ ((boundary (SparseCore.T d) ∗ (K (F := F)).tcSt EH d 2 ∗ held (SparseCore.T d) arrs (put1 V d)) -∗ Φ ⟨⟩)) : sProp 𝕄)
      ⊢ wp frame (wpE ((K (F := F)).defs (D (F := F))) 𝒱 (SparseCore.T d) none) Set.univ (Prog.lift (.customCall (SparseCore.inner (Pipeline.entry 1)) ())) Φ := by
  have hlift := (K (F := F)).wp_liftProg (D (F := F)) 𝒱 (SparseCore.T d) Set.univ none (Prog.op (TpuEff.customCall (Pipeline.entry 1) ()) fun u => Prog.ret u) Φ
  have hreg := Pipeline.RegionSeg.wp (pcfgs (F := F)) Reg0.adm _ none cellOf_inj EP defs₀ 𝒱₀ (K (F := F)).L (K (F := F)).lev (Reg1.reg (fun c => arr1 V c) top) d none (fun u hu => nomatch hu) (fun u => Prog.ret u) Φ
  rw [show (Reg1.reg (fun c => arr1 V c) top).pre d = iprop(Reg1.held d (arr1 V d) ∗ Reg0.dues top d) from rfl,
    show (Reg1.reg (fun c => arr1 V c) top).post d = iprop(Reg1.held d (Reg1.done (fun c => arr1 V c) top d) ∗ Reg0.dues top d) from rfl] at hreg
  refine BIBase.Entails.trans ?_ hlift
  rw [← held_replace d set1_sub V (put1 V d) fun b _ hb => (Function.update_of_ne (fun e => hb (Finset.mem_map.mpr ⟨9, Finset.mem_univ _, e.symm⟩)) _ _).symm,
    held_sub_split (SparseCore.T d) set1_sub V, held_win1, held_win1, ← done1_eq]
  unfold ghost
  iintro ⟨#Hctx, Hb, Hst, ⟨Hw, Hr⟩, ⟨Hg, Ht⟩, Hk⟩
  ihave #Hlev := (SparseCore.Cfg.ctx_levAts κ) $$ Hctx
  ihave Hd := (dues_out (F := F) d) $$ Hst
  icases Hd with ⟨Hd, Hback⟩
  iapply hreg $$ [Hb Hback Hw Hr Hg Ht Hk Hd]
  isplitl [Hback Hr Hk]
  · iintro ⟨Hb, Hw, Hd⟩
    rw [wp_ret]; imodintro
    iapply Hk
    isplitl [Hb]; · iexact Hb
    isplitl [Hback Hd]; · iapply Hback; iexact Hd
    isplitl [Hw] <;> iassumption
  isplitl [Hb]; · iexact Hb
  isplitl [Hw Hd]
  · isplitl [Hw] <;> iassumption
  isplitr; · iexact Hlev
  isplitl [Hg] <;> iassumption

end Steps

end Cert.KernelIdeal.Run

end
-- ==== Proof.Main.lean ====
/-
  The TensorCore's program, run: the arrays from their launch contents through every host operation, the two gather
  calls and the two TensorCore calls to the result.
-/
module

public import proofs.«01_k».proof.Proof.Host

@[expose] public section

noncomputable section

namespace Cert.KernelIdeal.Run

open Cert.KernelIdeal Cert.KernelIdeal.Gen Cert.KernelIdeal.Tile
open Idealize.ShloMosaic Idealize.ShloMosaic.TcCoe
open Idealize.ShloMosaic.SparseCore.Cfg (HIx)
open Idealize.ShloMosaic.StableHlo (held held_sub_split held_congr after)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-! ## The host operations -/

abbrev h0 : HloOp τ sig (Elt F) := StableHlo.unary main_arg1 main_v0 ((extractStridedSlice S8192 ![0] · slices_S16384_S8192_0) : (⟨S16384, .i32⟩ : BufTy).Contents (Elt F) → (⟨S8192, .i32⟩ : BufTy).Contents (Elt F))
abbrev h1 : HloOp τ sig (Elt F) := StableHlo.unary main_arg2 main_v1 ((extractStridedSlice S8192 ![0] · slices_S16384_S8192_0) : (⟨S16384, .i32⟩ : BufTy).Contents (Elt F) → (⟨S8192, .i32⟩ : BufTy).Contents (Elt F))
abbrev h3 : HloOp τ sig (Elt F) := StableHlo.unary main_arg1 main_v3 ((extractStridedSlice S8192 ![8192] · slices_S16384_S8192_8192) : (⟨S16384, .i32⟩ : BufTy).Contents (Elt F) → (⟨S8192, .i32⟩ : BufTy).Contents (Elt F))
abbrev h4 : HloOp τ sig (Elt F) := StableHlo.unary main_arg2 main_v4 ((extractStridedSlice S8192 ![8192] · slices_S16384_S8192_8192) : (⟨S16384, .i32⟩ : BufTy).Contents (Elt F) → (⟨S8192, .i32⟩ : BufTy).Contents (Elt F))
abbrev h6 : HloOp τ sig (Elt F) := StableHlo.unary main_arg5 main_v6 ((truncf .bf16 · bitsLt_bf16_f32) : (⟨S128x128, .f32⟩ : BufTy).Contents (Elt F) → (⟨S128x128, .bf16⟩ : BufTy).Contents (Elt F))
abbrev h7 : HloOp τ sig (Elt F) := StableHlo.unary main_arg9 main_v7 ((truncf .bf16 · bitsLt_bf16_f32) : (⟨S2x2048, .f32⟩ : BufTy).Contents (Elt F) → (⟨S2x2048, .bf16⟩ : BufTy).Contents (Elt F))
abbrev h8 : HloOp τ sig (Elt F) := StableHlo.reshape main_arg6 main_v8 (rfl : (.f32 : EltTy) = .f32) shapeCasts_S128_S1x128
abbrev h9 : HloOp τ sig (Elt F) := StableHlo.reshape main_arg8 main_v9 (rfl : (.f32 : EltTy) = .f32) shapeCasts_S2048_S2048x1
abbrev h10 : HloOp τ sig (Elt F) := StableHlo.reshape main_arg10 main_v10 (rfl : (.f32 : EltTy) = .f32) shapeCasts_S2_S1x2
abbrev h12 : HloOp τ sig (Elt F) := StableHlo.unary main_arg5 main_v12 ((truncf .bf16 · bitsLt_bf16_f32) : (⟨S128x128, .f32⟩ : BufTy).Contents (Elt F) → (⟨S128x128, .bf16⟩ : BufTy).Contents (Elt F))
abbrev h13 : HloOp τ sig (Elt F) := StableHlo.unary main_arg9 main_v13 ((truncf .bf16 · bitsLt_bf16_f32) : (⟨S2x2048, .f32⟩ : BufTy).Contents (Elt F) → (⟨S2x2048, .bf16⟩ : BufTy).Contents (Elt F))
abbrev h14 : HloOp τ sig (Elt F) := StableHlo.reshape main_arg6 main_v14 (rfl : (.f32 : EltTy) = .f32) shapeCasts_S128_S1x128
abbrev h15 : HloOp τ sig (Elt F) := StableHlo.reshape main_arg8 main_v15 (rfl : (.f32 : EltTy) = .f32) shapeCasts_S2048_S2048x1
abbrev h16 : HloOp τ sig (Elt F) := StableHlo.reshape main_arg10 main_v16 (rfl : (.f32 : EltTy) = .f32) shapeCasts_S2_S1x2
abbrev h18 : HloOp τ sig (Elt F) := StableHlo.binary main_v11 main_v17 main_v18 ((fun a b => concatenate S16384x2 0 [⟨S8192x2, a⟩, ⟨S8192x2, b⟩] concatenates_S8192x2_S8192x2_S16384x2_d0) : (⟨S8192x2, .f32⟩ : BufTy).Contents (Elt F) → (⟨S8192x2, .f32⟩ : BufTy).Contents (Elt F) → (⟨S16384x2, .f32⟩ : BufTy).Contents (Elt F))

theorem sub2 {a b : Ref sig .tc} (ha : a.isScoped = false) (hb : b.isScoped = false) : ({nm a, nm b} : Finset (DevRef τ sig)) ⊆ arrs := by
  intro x hx
  simp only [Finset.mem_insert, Finset.mem_singleton] at hx
  rcases hx with rfl | rfl
  exacts [mem_arrs ha, mem_arrs hb]
theorem sub3 {a b c : Ref sig .tc} (ha : a.isScoped = false) (hb : b.isScoped = false) (hc : c.isScoped = false) : ({nm a, nm b, nm c} : Finset (DevRef τ sig)) ⊆ arrs := by
  intro x hx
  simp only [Finset.mem_insert, Finset.mem_singleton] at hx
  rcases hx with rfl | rfl | rfl
  exacts [mem_arrs ha, mem_arrs hb, mem_arrs hc]

/-! ## The arrays, step by step -/

variable (m : (ℓ : Loc nD τ sig) → Buf (Elt F) ℓ)

/-- The arrays at the launch. -/
def V0 (d : Dev nD) : Valuation τ sig (Elt F) := fun b => m (d, b)
/-- The arrays after the host operations before the next call. -/
def V1 (d : Dev nD) : Valuation τ sig (Elt F) := after [h0, h1] (V0 m d)
theorem V1_keep (d : Dev nD) {r : Ref sig .tc} (h : r ∉ [main_v0, main_v1]) : V1 m d (nm r) = V0 m d (nm r) :=
  StableHlo.after_of_writes_sub _ _ (StableHlo.forall_writes_sub_of_map (W := [main_v0, main_v1]) rfl) h
/-- The arrays after gather call 0. -/
def V2 (d : Dev nD) : Valuation τ sig (Elt F) := put2 (V1 m d) main_v2_0 main_v2_1 (gm0 m d) (gd0 m d)
theorem V2_keep (d : Dev nD) {r : Ref sig .tc} (h : r ∉ [main_v2_0, main_v2_1]) : V2 m d (nm r) = V1 m d (nm r) := by
  simp only [List.mem_cons, List.not_mem_nil, or_false, not_or] at h
  exact put2_ne _ _ _ h.1 h.2
/-- The arrays after the host operations before the next call. -/
def V3 (d : Dev nD) : Valuation τ sig (Elt F) := after [h3, h4] (V2 m d)
theorem V3_keep (d : Dev nD) {r : Ref sig .tc} (h : r ∉ [main_v3, main_v4]) : V3 m d (nm r) = V2 m d (nm r) :=
  StableHlo.after_of_writes_sub _ _ (StableHlo.forall_writes_sub_of_map (W := [main_v3, main_v4]) rfl) h
/-- The arrays after gather call 1. -/
def V4 (d : Dev nD) : Valuation τ sig (Elt F) := put2 (V3 m d) main_v5_0 main_v5_1 (gm1 m d) (gd1 m d)
theorem V4_keep (d : Dev nD) {r : Ref sig .tc} (h : r ∉ [main_v5_0, main_v5_1]) : V4 m d (nm r) = V3 m d (nm r) := by
  simp only [List.mem_cons, List.not_mem_nil, or_false, not_or] at h
  exact put2_ne _ _ _ h.1 h.2
/-- The arrays after the host operations before the next call. -/
def V5 (d : Dev nD) : Valuation τ sig (Elt F) := after [h6, h7, h8, h9, h10] (V4 m d)
theorem V5_keep (d : Dev nD) {r : Ref sig .tc} (h : r ∉ [main_v6, main_v7, main_v8, main_v9, main_v10]) : V5 m d (nm r) = V4 m d (nm r) :=
  StableHlo.after_of_writes_sub _ _ (StableHlo.forall_writes_sub_of_map (W := [main_v6, main_v7, main_v8, main_v9, main_v10]) rfl) h
/-- The arrays after TensorCore call 0. -/
def V6 (d : Dev nD) : Valuation τ sig (Elt F) := put0 (V5 m d) d
theorem V6_keep (d : Dev nD) {r : Ref sig .tc} (h : r ∉ [main_v11]) : V6 m d (nm r) = V5 m d (nm r) := by
  simp only [List.mem_cons, List.not_mem_nil, or_false] at h
  exact put0_ne _ d h
/-- The arrays after the host operations before the next call. -/
def V7 (d : Dev nD) : Valuation τ sig (Elt F) := after [h12, h13, h14, h15, h16] (V6 m d)
theorem V7_keep (d : Dev nD) {r : Ref sig .tc} (h : r ∉ [main_v12, main_v13, main_v14, main_v15, main_v16]) : V7 m d (nm r) = V6 m d (nm r) :=
  StableHlo.after_of_writes_sub _ _ (StableHlo.forall_writes_sub_of_map (W := [main_v12, main_v13, main_v14, main_v15, main_v16]) rfl) h
/-- The arrays after TensorCore call 1. -/
def V8 (d : Dev nD) : Valuation τ sig (Elt F) := put1 (V7 m d) d
theorem V8_keep (d : Dev nD) {r : Ref sig .tc} (h : r ∉ [main_v17]) : V8 m d (nm r) = V7 m d (nm r) := by
  simp only [List.mem_cons, List.not_mem_nil, or_false] at h
  exact put1_ne _ d h
/-- The arrays after the host operations before the next call. -/
def V9 (d : Dev nD) : Valuation τ sig (Elt F) := after [h18] (V8 m d)
theorem V9_keep (d : Dev nD) {r : Ref sig .tc} (h : r ∉ [main_v18]) : V9 m d (nm r) = V8 m d (nm r) :=
  StableHlo.after_of_writes_sub _ _ (StableHlo.forall_writes_sub_of_map (W := [main_v18]) rfl) h

/-- An array that nothing before the second gather call writes. -/
theorem V3_launch (d : Dev nD) {r : Ref sig .tc} (h1 : r ∉ [main_v0, main_v1]) (h2 : r ∉ [main_v2_0, main_v2_1]) (h3 : r ∉ [main_v3, main_v4]) : V3 m d (nm r) = m (at_ d r) :=
  (V3_keep m d h3).trans ((V2_keep m d h2).trans ((V1_keep m d h1).trans rfl))
/-- An array that nothing before the first TensorCore call writes. -/
theorem V4_launch (d : Dev nD) {r : Ref sig .tc} (h1 : r ∉ [main_v0, main_v1]) (h2 : r ∉ [main_v2_0, main_v2_1]) (h3 : r ∉ [main_v3, main_v4]) (h4 : r ∉ [main_v5_0, main_v5_1]) :
    V4 m d (nm r) = m (at_ d r) :=
  (V4_keep m d h4).trans (V3_launch m d h1 h2 h3)

theorem V1_v0 (d : Dev nD) : V1 m d (nm main_v0) = lo (m (at_ d main_arg1)) := by
  unfold V1; after_results; rfl
theorem V1_v1 (d : Dev nD) : V1 m d (nm main_v1) = lo (m (at_ d main_arg2)) := by
  unfold V1; after_results; rfl
theorem V3_v3 (d : Dev nD) : V3 m d (nm main_v3) = hi (m (at_ d main_arg1)) := by
  have h : V2 m d (nm main_arg1) = m (at_ d main_arg1) := (V2_keep m d (by decide)).trans (V1_keep m d (by decide))
  unfold V3; after_results; rw [h]; rfl
theorem V3_v4 (d : Dev nD) : V3 m d (nm main_v4) = hi (m (at_ d main_arg2)) := by
  have h : V2 m d (nm main_arg2) = m (at_ d main_arg2) := (V2_keep m d (by decide)).trans (V1_keep m d (by decide))
  unfold V3; after_results; rw [h]; rfl

variable (ρ : Dev nD → PrngReg)

/-- The last gather call's state and the TensorCore's arrays: what the program ends with. -/
def FIN (d : Dev nD) : sProp 𝕄 := held (SparseCore.T d) arrs (V9 m d)

set_option maxHeartbeats 1000000 in
/-- The TensorCore's program takes its arrays from the launch contents to `V9`. -/
theorem hmain (κ : GSem nD τ sig → ℕ) (d : Dev nD) :
    (iprop((K (F := F)).ctx EH (P m) κ ∗ (K (F := F)).tcSt EH d 0 ∗ (K (F := F)).tcRes m ρ d ∗ (ghost 0 d ∗ ghost 1 d)) : sProp 𝕄)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hh, Hts, -⟩, ⟨Hg0, Hg1⟩⟩
  -- h0
  iapply (wp_op d h0 (sub2 rfl rfl) rfl) $$ [Hb Hh Hst Hts Hg0 Hg1]
  isplitl [Hb]; · iexact Hb
  isplitl [Hh]; · iexact Hh
  iintro ⟨Hb, Hh⟩
  -- h1
  iapply (wp_op d h1 (sub2 rfl rfl) rfl) $$ [Hb Hh Hst Hts Hg0 Hg1]
  isplitl [Hb]; · iexact Hb
  isplitl [Hh]; · iexact Hh
  iintro ⟨Hb, Hh⟩
  -- gather call 0
  iapply (wp_call0 m κ d (V1 m d) (V1_keep m d (by decide)) (V1_keep m d (by decide)) (V1_v0 m d) (V1_v1 m d) (V1_keep m d (by decide)) (V1_keep m d (by decide))) $$ [Hb Hh Hst Hts Hg0 Hg1]
  isplitr; · iexact Hctx
  isplitl [Hst]; · iexact Hst
  isplitl [Hh]; · iexact Hh
  iintro ⟨Hst, Hh⟩
  -- h3
  iapply (wp_op d h3 (sub2 rfl rfl) rfl) $$ [Hb Hh Hst Hts Hg0 Hg1]
  isplitl [Hb]; · iexact Hb
  isplitl [Hh]; · iexact Hh
  iintro ⟨Hb, Hh⟩
  -- h4
  iapply (wp_op d h4 (sub2 rfl rfl) rfl) $$ [Hb Hh Hst Hts Hg0 Hg1]
  isplitl [Hb]; · iexact Hb
  isplitl [Hh]; · iexact Hh
  iintro ⟨Hb, Hh⟩
  -- gather call 1
  iapply (wp_call1 m κ d (V3 m d) (V3_launch m d (by decide) (by decide) (by decide)) (V3_launch m d (by decide) (by decide) (by decide)) (V3_v3 m d) (V3_v4 m d) (V3_launch m d (by decide) (by decide) (by decide)) (V3_launch m d (by decide) (by decide) (by decide))) $$ [Hb Hh Hst Hts Hg0 Hg1]
  isplitr; · iexact Hctx
  isplitl [Hst]; · iexact Hst
  isplitl [Hh]; · iexact Hh
  iintro ⟨Hst, Hh⟩
  -- h6
  iapply (wp_op d h6 (sub2 rfl rfl) rfl) $$ [Hb Hh Hst Hts Hg0 Hg1]
  isplitl [Hb]; · iexact Hb
  isplitl [Hh]; · iexact Hh
  iintro ⟨Hb, Hh⟩
  -- h7
  iapply (wp_op d h7 (sub2 rfl rfl) rfl) $$ [Hb Hh Hst Hts Hg0 Hg1]
  isplitl [Hb]; · iexact Hb
  isplitl [Hh]; · iexact Hh
  iintro ⟨Hb, Hh⟩
  -- h8
  iapply (wp_op d h8 (sub2 rfl rfl) rfl) $$ [Hb Hh Hst Hts Hg0 Hg1]
  isplitl [Hb]; · iexact Hb
  isplitl [Hh]; · iexact Hh
  iintro ⟨Hb, Hh⟩
  -- h9
  iapply (wp_op d h9 (sub2 rfl rfl) rfl) $$ [Hb Hh Hst Hts Hg0 Hg1]
  isplitl [Hb]; · iexact Hb
  isplitl [Hh]; · iexact Hh
  iintro ⟨Hb, Hh⟩
  -- h10
  iapply (wp_op d h10 (sub2 rfl rfl) rfl) $$ [Hb Hh Hst Hts Hg0 Hg1]
  isplitl [Hb]; · iexact Hb
  isplitl [Hh]; · iexact Hh
  iintro ⟨Hb, Hh⟩
  -- TensorCore call 0
  iapply (wp_reg0 m κ d (V5 m d)) $$ [Hb Hh Hst Hts Hg0 Hg1]
  isplitr; · iexact Hctx
  isplitl [Hb]; · iexact Hb
  isplitl [Hst]; · iexact Hst
  isplitl [Hh]; · iexact Hh
  isplitl [Hg0]; · iexact Hg0
  iintro ⟨Hb, Hst, Hh⟩
  -- h12
  iapply (wp_op d h12 (sub2 rfl rfl) rfl) $$ [Hb Hh Hst Hts Hg1]
  isplitl [Hb]; · iexact Hb
  isplitl [Hh]; · iexact Hh
  iintro ⟨Hb, Hh⟩
  -- h13
  iapply (wp_op d h13 (sub2 rfl rfl) rfl) $$ [Hb Hh Hst Hts Hg1]
  isplitl [Hb]; · iexact Hb
  isplitl [Hh]; · iexact Hh
  iintro ⟨Hb, Hh⟩
  -- h14
  iapply (wp_op d h14 (sub2 rfl rfl) rfl) $$ [Hb Hh Hst Hts Hg1]
  isplitl [Hb]; · iexact Hb
  isplitl [Hh]; · iexact Hh
  iintro ⟨Hb, Hh⟩
  -- h15
  iapply (wp_op d h15 (sub2 rfl rfl) rfl) $$ [Hb Hh Hst Hts Hg1]
  isplitl [Hb]; · iexact Hb
  isplitl [Hh]; · iexact Hh
  iintro ⟨Hb, Hh⟩
  -- h16
  iapply (wp_op d h16 (sub2 rfl rfl) rfl) $$ [Hb Hh Hst Hts Hg1]
  isplitl [Hb]; · iexact Hb
  isplitl [Hh]; · iexact Hh
  iintro ⟨Hb, Hh⟩
  -- TensorCore call 1
  iapply (wp_reg1 m κ d (V7 m d)) $$ [Hb Hh Hst Hts Hg1]
  isplitr; · iexact Hctx
  isplitl [Hb]; · iexact Hb
  isplitl [Hst]; · iexact Hst
  isplitl [Hh]; · iexact Hh
  isplitl [Hg1]; · iexact Hg1
  iintro ⟨Hb, Hst, Hh⟩
  -- h18
  iapply (wp_op d h18 (sub3 rfl rfl rfl) rfl) $$ [Hb Hh Hst Hts]
  isplitl [Hb]; · iexact Hb
  isplitl [Hh]; · iexact Hh
  iintro ⟨Hb, Hh⟩
  imodintro
  isplitl [Hst]; · iexact Hst
  isplitl [Hh]; · unfold FIN; iexact Hh
  isplitl [Hb] <;> iassumption

end Cert.KernelIdeal.Run

end
-- ==== Proof.Run.lean ====
/-
  The kernel's run from its launch: the ghost state it is given, its final arrays, and that every semaphore counter
  reads zero again.
-/
module

public import proofs.«01_k».proof.Proof.Main
public import proofs.«01_k».proof.Proof.Obl

@[expose] public section

noncomputable section

namespace Cert.KernelIdeal.Run

open Cert.KernelIdeal Cert.KernelIdeal.Gen Cert.KernelIdeal.Tile
open Idealize.ShloMosaic Idealize.ShloMosaic.TcCoe
open Idealize.ShloMosaic.SparseCore.Cfg (HIx)
open Idealize.ShloMosaic.StableHlo (held)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)

local notation "𝕄" => MM F

/-- The staging rounds' part of the launch element. -/
def uP : UP := initOf (Pipeline.cells (Pipeline.pin (pcfgs (F := F)) Reg0.adm) cellOf_inj) (Pipeline.launchToks (Pipeline.pin (pcfgs (F := F)) Reg0.adm) cellOf_inj)

/-- The launch element: the calls' handshakes, the staging rounds, no transfer. -/
def u₀ : UU := (initOf (K (F := F)).hsCells (K (F := F)).hsToks, (uP (F := F), 1))

omit [FloatOps F] in
theorem bigSep_none {I : Type} (s : Finset I) : (bigSep s fun _ => iprop(emp)) = (iprop(emp) : sProp 𝕄) := bigSep_emp_const s

/-- The staging rounds' element pays every device's ghost state of both TensorCore calls. -/
theorem uP_ghost : (BI.own ((EP : Emb UP 𝕄) (uP (F := F))) : sProp 𝕄) ⊢ iprop(|==> bigSep Finset.univ fun d : Dev nD => iprop(ghost 0 d ∗ ghost 1 d)) := by
  unfold uP
  iintro Hu
  imod (Pipeline.fund_ghost (Pipeline.pin (pcfgs (F := F)) Reg0.adm) (EP : Emb UP 𝕄) cellOf_inj) $$ Hu with ⟨Hg, Ht⟩
  imodintro
  rw [show (bigSep Finset.univ fun d : Dev nD => iprop(ghost 0 d ∗ ghost 1 d) : sProp 𝕄)
      = iprop((bigSep Finset.univ fun c : Dev nD => bigSep Finset.univ fun p => Pipeline.cellsGhost (Pipeline.pin (pcfgs (F := F)) Reg0.adm) EP p c)
          ∗ (bigSep Finset.univ fun c : Dev nD => bigSep Finset.univ fun p => Pipeline.toksInit (Pipeline.pin (pcfgs (F := F)) Reg0.adm) EP p c)) from by
    rw [← bigSep_sep']
    refine bigSep_congr fun d _ => ?_
    rw [← bigSep_sep', BI.bigSep_fin_two]
    rfl]
  isplitl [Hg] <;> iassumption

theorem hu₀ : (ownU (u₀ (F := F)) : sProp 𝕄)
    ⊢ |={Set.univ}=> iprop(BI.own (EH (initOf (K (F := F)).hsCells (K (F := F)).hsToks)) ∗ (bigSep Finset.univ fun d : Dev nD => iprop(ghost 0 d ∗ ghost 1 d))
        ∗ bigSep Finset.univ fun thr : Thread nD τ => bigSep Finset.univ fun q : Fin 2 => (P m).x q thr) := by
  unfold u₀
  iintro Hu
  ihave H := (ownU_pair (initOf (K (F := F)).hsCells (K (F := F)).hsToks) ((uP (F := F), 1) : UP × Counters)) $$ Hu
  icases H with ⟨HH, HR⟩
  ihave H := (own_pair_emb embR (uP (F := F)) (1 : Counters)) $$ HR
  icases H with ⟨HP, -⟩
  ihave HE := (Entails.of_eq (show (BI.own (((Emb.inl : Emb UP (UP × Counters)).trans embR) (uP (F := F))) : sProp 𝕄) = BI.own ((EP : Emb UP 𝕄) (uP (F := F))) from rfl)) $$ HP
  imod (uP_ghost (F := F)) $$ HE with HG
  imodintro
  isplitl [HH]; · iexact HH
  isplitl [HG]; · iexact HG
  rw [show (bigSep Finset.univ fun thr : Thread nD τ => bigSep Finset.univ fun q : Fin 2 => (P (F := F) m).x q thr) = bigSep Finset.univ fun _ => iprop(emp) from
    bigSep_congr fun _ _ => by
      rw [show (fun q : Fin 2 => (P (F := F) m).x q _) = fun _ => iprop(emp) from funext fun q => by match q with | 0 => rfl | 1 => rfl]
      exact bigSep_none _, bigSep_none]
  iempintro

/-- What a final memory of device `d` is: every array outside scopes as the program's steps leave it. -/
def fq (d : Dev nD) (s' : Phys nD τ sig (Elt F)) : Prop := ∀ b ∈ arrs, s'.mem.mem (d, b) = V9 m d b

theorem hfin (d : Dev nD) (s' : Phys nD τ sig (Elt F)) : iprop(FIN m d ∗ SI s') ⊢ (⌜fq m d s'⌝ : sProp 𝕄) := by
  unfold FIN fq StableHlo.held
  iintro ⟨Hb, HSI⟩
  iapply (SI_pointsTo_bufs_agree (st := s') (c := d) (qs := fun _ => fullShare) (F := V9 m d) arrs) $$ [HSI Hb]
  isplitl [HSI]; · iexact HSI
  iexact Hb

/-- What the run leaves. -/
def QC : PUnit × MemSt nD τ sig (Elt F) → Prop := fun r => (∀ c : Dev nD, ∀ b ∈ arrs, r.2.mem (c, b) = V9 m c b) ∧ r.2.sem = fun _ => 0

/-- The run: from any memory whose indices are in range, with every semaphore counter zero, every device's arrays end
    as `V9` says and every counter at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m facts hpre | 1 => tileObl1 m facts hpre)
    (fun q _ => SparseCore.Cfg.VecSplit.of_plain (vecSplit m q))
    m ρ main (fun d => iprop(ghost 0 d ∗ ghost 1 d)) (FIN m) (u₀ (F := F)) (sep_elim_left.trans (hu₀ m)) (hmain m ρ) (fq m) (hfin m) (QC m) (fun _ h hz => ⟨h, hz⟩)

end Cert.KernelIdeal.Run

end
-- ==== Proof.Pre.lean ====
/-
  What the preconditions say, element by element.
-/
module

public import proofs.«01_k».proof.Proof.Payload
public import proofs.«01_k».proof.Proof.Calls
public import proofs.«01_k».proof.Defs
public import proofs.«01_k».proof.Proof.Gen.Pre_ids_in_range
public import proofs.«01_k».proof.Proof.Gen.Pre_ids_and_query_finite
public import Idealize.ShloMosaic.Lib.ReduceAll

@[expose] public section

noncomputable section

namespace Cert.KernelIdeal.Run

open Cert.KernelIdeal Cert.KernelIdeal.Gen
open Idealize.ShloMosaic

/-- Two one-bit words whose conjunction is one are one. -/
theorem andi1 {u : Shape} {a b : IVec u 1} {j : u.Idx} (h : andi a b j = 1#1) : a j = 1#1 ∧ b j = 1#1 :=
  (show ∀ p q : BitVec 1, IntOp.andi p q = 1#1 → p = 1#1 ∧ q = 1#1 by decide) _ _ h

/-- A word that is at least zero and less than `n`, both compared signed, is below `n`. -/
theorem below {v : BitVec 32} {n : ℕ} (hn : n < 2 ^ 31) (h0 : IntOp.cmpi .sge v 0#32 = 1#1) (h1 : IntOp.cmpi .slt v (BitVec.ofNat 32 n) = 1#1) : v.toNat < n := by
  have ofBool_eq_one (p : Bool) : (BitVec.ofBool p = 1#1) ↔ p = true := by cases p <;> decide
  simp only [IntOp.cmpi, ofBool_eq_one, BitVec.sle_eq_decide, BitVec.slt_eq_decide,
    decide_eq_true_eq, BitVec.toInt_eq_toNat_cond, BitVec.toNat_ofNat] at h0 h1
  rw [Nat.mod_eq_of_lt (a := n) (by omega)] at h1
  simp at h0 h1
  omega

/-- The index of the scalar shape. -/
abbrev pt : (⟨0, ![]⟩ : Shape).Idx := fun a => a.elim0

section Range

variable {F : FTy → Type} [FloatOps F]
variable (x0 : FVec F S16384x384 .f32) (x1 x2 : IVec S16384 32) (x3 : FVec F S100x128 .f32) (x4 : FVec F S26x128 .f32) (x5 : FVec F S128x128 .f32)
  (x6 : FVec F S128 .f32) (x7 : FVec F S2048x768 .f32) (x8 : FVec F S2048 .f32) (x9 : FVec F S2x2048 .f32) (x10 : FVec F S2 .f32)

instance : Subsingleton (⟨0, ![]⟩ : Shape).Idx := ⟨fun a b => funext fun i => i.elim0⟩

/-- The first precondition, read back: every id of the first array is below 100, of the second below 26. -/
theorem range_of_pre (h : Cert.Pre_ids_in_range.fn x0 x1 x2 x3 x4 x5 x6 x7 x8 x9 x10 = fun _ => 1#1) :
    (∀ i, (x1 i).toNat < 100) ∧ ∀ i, (x2 i).toNat < 26 := by
  have e := congrFun h pt
  unfold Cert.Pre_ids_in_range.fn at e
  obtain ⟨e, e4⟩ := andi1 e
  obtain ⟨e, e3⟩ := andi1 e
  obtain ⟨e1, e2⟩ := andi1 e
  exact ⟨fun i => below (by norm_num) (Host.reduce_andi_all _ _ _ _ _ e1 i) (Host.reduce_andi_all _ _ _ _ _ e2 i),
    fun i => below (by norm_num) (Host.reduce_andi_all _ _ _ _ _ e3 i) (Host.reduce_andi_all _ _ _ _ _ e4 i)⟩

/-- The second precondition's part on the ids says the same. -/
theorem range_of_pre' (h : Cert.Pre_ids_and_query_finite.fn x0 x1 x2 x3 x4 x5 x6 x7 x8 x9 x10 = fun _ => 1#1) :
    (∀ i, (x1 i).toNat < 100) ∧ ∀ i, (x2 i).toNat < 26 := by
  have e := congrFun h pt
  unfold Cert.Pre_ids_and_query_finite.fn Cert.Pre_ids_and_query_finite.fn_part1 at e
  obtain ⟨e, -⟩ := andi1 e
  obtain ⟨e, -⟩ := andi1 e
  obtain ⟨e, -⟩ := andi1 e
  obtain ⟨e, e4⟩ := andi1 e
  obtain ⟨e, e3⟩ := andi1 e
  obtain ⟨e1, e2⟩ := andi1 e
  exact ⟨fun i => below (by norm_num) (Host.reduce_andi_all _ _ _ _ _ e1 i) (Host.reduce_andi_all _ _ _ _ _ e2 i),
    fun i => below (by norm_num) (Host.reduce_andi_all _ _ _ _ _ e3 i) (Host.reduce_andi_all _ _ _ _ _ e4 i)⟩

end Range

/-- An extended real whose absolute value compares less than `+∞` is a real. -/
theorem real_of_lt {x : EReal} (h : FloatOps.cmpf (F := Ideal) (φ := .f32) .olt (FloatOps.hostAbsf (F := Ideal) (φ := .f32) x) (FloatOps.ofBits (F := Ideal) .f32 0x7F800000#32) = 1#1) : ∃ r : ℝ, x = r := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  have hlt : max x (-x) < ⊤ := by
    by_contra hn
    unfold Ideal.cmp at h'
    simp [hn] at h'
  rw [max_lt_iff] at hlt
  induction x with
  | bot => simp at hlt
  | top => simp at hlt
  | coe r => exact ⟨r, rfl⟩

section Finite

variable (x0 : FVec Ideal S16384x384 .f32) (x1 x2 : IVec S16384 32) (x3 : FVec Ideal S100x128 .f32) (x4 : FVec Ideal S26x128 .f32) (x5 : FVec Ideal S128x128 .f32)
  (x6 : FVec Ideal S128 .f32) (x7 : FVec Ideal S2048x768 .f32) (x8 : FVec Ideal S2048 .f32) (x9 : FVec Ideal S2x2048 .f32) (x10 : FVec Ideal S2 .f32)

/-- The second precondition's part on the floats: the query's columns of `x` and of the first layer's weights, and the query's
    own weights, are real. -/
theorem finite_of_pre (h : Cert.Pre_ids_and_query_finite.fn (F := Ideal) x0 x1 x2 x3 x4 x5 x6 x7 x8 x9 x10 = fun _ => 1#1) :
    (∀ i, ∃ r : ℝ, extractStridedSlice Cert.Pre_ids_and_query_finite.S16384x128 ![0, 256] x0 Cert.Pre_ids_and_query_finite.Facts.slices_S16384x384_S16384x128_0_256 i = (r : EReal))
      ∧ (∀ i, ∃ r : ℝ, extractStridedSlice Cert.Pre_ids_and_query_finite.S2048x128 ![0, 640] x7 Cert.Pre_ids_and_query_finite.Facts.slices_S2048x768_S2048x128_0_640 i = (r : EReal))
      ∧ ∀ i, ∃ r : ℝ, x5 i = (r : EReal) := by
  have e := congrFun h pt
  unfold Cert.Pre_ids_and_query_finite.fn Cert.Pre_ids_and_query_finite.fn_part1 at e
  obtain ⟨e, e3⟩ := andi1 e
  obtain ⟨e, e2⟩ := andi1 e
  obtain ⟨-, e1⟩ := andi1 e
  exact ⟨fun i => real_of_lt (Host.reduce_andi_all _ _ _ _ _ e1 i), fun i => real_of_lt (Host.reduce_andi_all _ _ _ _ _ e2 i),
    fun i => real_of_lt (Host.reduce_andi_all _ _ _ _ _ e3 i)⟩

end Finite

/-- The first precondition at the kernel's launch memory. -/
theorem ok_bits (m : (ℓ : Loc Cert.Kernel.nD Cert.Kernel.τ Cert.Kernel.sig) → Buf (Elt Bits) ℓ) (h : Cert.Pre_Kernel m) : PreOK (F := Bits) m :=
  fun d => range_of_pre _ _ _ _ _ _ _ _ _ _ _ (h d)

theorem ok_ideal (m : (ℓ : Loc nD τ sig) → Buf (Elt Ideal) ℓ) (h : Cert.Pre_KernelIdeal m) : PreOK (F := Ideal) m :=
  fun d => range_of_pre _ _ _ _ _ _ _ _ _ _ _ (h d)

theorem ok_finite (m : (ℓ : Loc nD τ sig) → Buf (Elt Ideal) ℓ) (h : Cert.Pre_KernelIdeal_ids_and_query_finite m) : PreOK (F := Ideal) m :=
  fun d => range_of_pre' _ _ _ _ _ _ _ _ _ _ _ (h d)

end Cert.KernelIdeal.Run

end
-- ==== Proof.Frames.lean ====
/-
  The kernel's frames: it terminates, its arguments end as they began, every semaphore counter reads zero.
-/
module

public import proofs.«01_k».proof.Proof.Run
public import proofs.«01_k».proof.Proof.Pre
public import proofs.«01_k».proof.Proof.Gen.Kernel

@[expose] public section

noncomputable section

namespace Cert.KernelIdeal.Run

open Cert.KernelIdeal Cert.KernelIdeal.Gen
open Idealize.ShloMosaic Idealize.ShloMosaic.TcCoe
open Idealize.SL.Sem

section

variable {F : FTy → Type} [FloatOps F]
variable (m : (ℓ : Loc nD τ sig) → Buf (Elt F) ℓ)

/-- The arrays @main writes. -/
abbrev writes : List (Ref sig .tc) :=
  [main_v0, main_v1, main_v2_0, main_v2_1, main_v3, main_v4, main_v5_0, main_v5_1, main_v6, main_v7, main_v8, main_v9, main_v10, main_v11,
    main_v12, main_v13, main_v14, main_v15, main_v16, main_v17, main_v18]

/-- An array that is none of those is at the end what it was at the launch. -/
theorem V9_launch (d : Dev nD) {r : Ref sig .tc} (h : r ∉ writes) : V9 m d (nm r) = m (d, nm r) := by
  simp only [writes, List.mem_cons, List.not_mem_nil, or_false, not_or] at h
  refine (V9_keep m d ?_).trans ((V8_keep m d ?_).trans ((V7_keep m d ?_).trans ((V6_keep m d ?_).trans ((V5_keep m d ?_).trans
    (V4_launch m d ?_ ?_ ?_ ?_))))) <;> simp [h]

/-- An argument array at the end of the run. -/
theorem kept {r : PUnit × MemSt nD τ sig (Elt F)} (h : QC m r) (c : Dev nD) {b : Ref sig .tc} (hs : b.isScoped = false) (hb : b ∉ writes) :
    r.2.mem (at_ c b) = m (at_ c b) :=
  (h.1 c (nm b) (mem_arrs hs)).trans (V9_launch m c hb)

/-- Every argument array at the end of the run. -/
theorem args_kept {r : PUnit × MemSt nD τ sig (Elt F)} (h : QC m r) (c : Dev nD) :
    r.2.mem (at_ c main_arg0) = m (at_ c main_arg0) ∧ r.2.mem (at_ c main_arg1) = m (at_ c main_arg1) ∧ r.2.mem (at_ c main_arg2) = m (at_ c main_arg2)
      ∧ r.2.mem (at_ c main_arg3) = m (at_ c main_arg3) ∧ r.2.mem (at_ c main_arg4) = m (at_ c main_arg4) ∧ r.2.mem (at_ c main_arg5) = m (at_ c main_arg5)
      ∧ r.2.mem (at_ c main_arg6) = m (at_ c main_arg6) ∧ r.2.mem (at_ c main_arg7) = m (at_ c main_arg7) ∧ r.2.mem (at_ c main_arg8) = m (at_ c main_arg8)
      ∧ r.2.mem (at_ c main_arg9) = m (at_ c main_arg9) ∧ r.2.mem (at_ c main_arg10) = m (at_ c main_arg10) := by
  refine ⟨?_, ?_, ?_, ?_, ?_, ?_, ?_, ?_, ?_, ?_, ?_⟩ <;> exact kept m h c (by decide) (by decide)

/-- The run with the values dropped. -/
theorem frame_at [∀ e, Nonempty (Elt F e)] (ρ : Dev nD → PrngReg) (hpre : PreOK m) :
    θ_run (Cert.KernelIdeal.defs (F := F)) (Cert.KernelIdeal.threads (F := F)) ⟨m, fun _ => 0, ρ⟩ fun r =>
      (∀ c : Dev nD, r.2.mem (at_ c main_arg0) = m (at_ c main_arg0) ∧ r.2.mem (at_ c main_arg1) = m (at_ c main_arg1) ∧ r.2.mem (at_ c main_arg2) = m (at_ c main_arg2)
        ∧ r.2.mem (at_ c main_arg3) = m (at_ c main_arg3) ∧ r.2.mem (at_ c main_arg4) = m (at_ c main_arg4) ∧ r.2.mem (at_ c main_arg5) = m (at_ c main_arg5)
        ∧ r.2.mem (at_ c main_arg6) = m (at_ c main_arg6) ∧ r.2.mem (at_ c main_arg7) = m (at_ c main_arg7) ∧ r.2.mem (at_ c main_arg8) = m (at_ c main_arg8)
        ∧ r.2.mem (at_ c main_arg9) = m (at_ c main_arg9) ∧ r.2.mem (at_ c main_arg10) = m (at_ c main_arg10)) ∧ r.2.sem = fun _ => 0 :=
  (θ_run Cert.KernelIdeal.defs _ _).mono (fun _ h => ⟨fun c => args_kept m h c, h.2⟩) (run_main m ρ hpre)

end

/-- `Cert.quiescent_KernelIdeal` (Defs.lean). -/
theorem frame_ideal : Cert.quiescent_KernelIdeal := fun m ρ hpre =>
  frame_at (F := Ideal) m ρ (ok_ideal m hpre)

/-- `Cert.quiescent_KernelIdeal_pre_ids_and_query_finite` (Defs.lean). -/
theorem frame_finite : Cert.quiescent_KernelIdeal_pre_ids_and_query_finite := fun m ρ hpre =>
  frame_at (F := Ideal) m ρ (ok_finite m hpre)

end Cert.KernelIdeal.Run

end
-- ==== Proof.SameFrame.lean ====
/-
  The frame of the kernel as written: its printed program is that of the idealized kernel, so the same run proves it.
-/
module

public import proofs.«01_k».proof.Proof.Same
public import proofs.«01_k».proof.Proof.Frames

@[expose] public section

noncomputable section

namespace Cert.Same

open Cert.KernelIdeal Cert.KernelIdeal.Tile Cert.KernelIdeal.Gen Cert.KernelIdeal.Run
open Idealize.ShloMosaic Idealize.ShloMosaic.TcCoe
open Idealize.SL.Sem

variable {F : FTy → Type} [FloatOps F]

set_option maxHeartbeats 8000000 in
set_option maxRecDepth 100000 in
/-- The two body tables are equal. -/
theorem bodies : (Cert.Kernel.defs₀ (F := F)) = defs₀ (F := F) := by
  funext p ℓ a
  match p, ℓ, a with
  | .scVector c s, 0, _ => exact congrArg (fun b => SparseCore.onTile hcore0 hsub0 b ⟨⟩ c s) (funext fun c => funext fun s => call0 (F := F) (coords0 c s) opn0)
  | .scVector c s, 1, _ => exact congrArg (fun b => SparseCore.onTile hcore1 hsub1 b ⟨⟩ c s) (funext fun c => funext fun s => call1 (F := F) (coords1 c s) opn1)
  | .tc, 2, (t, s) => rfl
  | .tc, 3, (t, s) => rfl
  | .tc, 0, _ => rfl
  | .tc, 1, _ => rfl
  | .scVector c s, 2, _ => rfl
  | .scVector c s, 3, _ => rfl
  | .scScalar c, ℓ, _ => rfl

set_option maxHeartbeats 8000000 in
/-- So the programs are. -/
theorem programs : (Cert.Kernel.defs (F := F)) = Cert.KernelIdeal.defs (F := F) := by
  unfold Cert.Kernel.defs Cert.KernelIdeal.defs
  rw [bodies]
  rfl

set_option maxHeartbeats 8000000 in
/-- `Cert.quiescent_Kernel` (Defs.lean). -/
theorem frame_kernel : Cert.quiescent_Kernel := fun m ρ hpre => by
  have h := frame_at (F := Bits) m ρ (ok_bits m hpre)
  rw [← programs] at h
  exact h

end Cert.Same

end
-- ==== Proof.Algebra.lean ====
/-
  The extended-real algebra that joins the two networks: the kernel folds the query layer into the first layer's
  weights and bias, the reference applies it to the query columns. Only the entries that the folding multiplies need
  to be real; the others may be infinite.
-/
module

public import Mathlib.Data.EReal.Operations
public import Mathlib.Algebra.BigOperators.Fin
public import Mathlib.Tactic.Ring
public import Mathlib.Tactic.Abel

@[expose] public section

namespace Cert.Alg

/-- A real factor distributes over a sum whose second term is real. -/
theorem mul_add_real (x m : ℝ) (w : EReal) : (x : EReal) * (w + m) = x * w + x * m := by
  induction w using EReal.rec with
  | coe w => rw [← EReal.coe_add, ← EReal.coe_mul, ← EReal.coe_mul, ← EReal.coe_mul, ← EReal.coe_add, mul_add]
  | top =>
    rw [EReal.top_add_coe, ← EReal.coe_mul]
    rcases lt_trichotomy x 0 with h | h | h
    · rw [EReal.coe_mul_top_of_neg h, EReal.bot_add]
    · subst h; simp
    · rw [EReal.coe_mul_top_of_pos h, EReal.top_add_coe]
  | bot =>
    rw [EReal.bot_add, ← EReal.coe_mul]
    rcases lt_trichotomy x 0 with h | h | h
    · rw [EReal.coe_mul_bot_of_neg h, EReal.top_add_coe]
    · subst h; simp
    · rw [EReal.coe_mul_bot_of_pos h, EReal.bot_add]

/-- A sum of reals is real. -/
theorem coe_sum {n : ℕ} (f : Fin n → ℝ) : ((∑ i, f i : ℝ) : EReal) = ∑ i, (f i : EReal) :=
  map_sum (⟨⟨((↑) : ℝ → EReal), EReal.coe_zero⟩, EReal.coe_add⟩ : ℝ →+ EReal) f Finset.univ

/-- The query layer folded into weights and bias is the query layer applied first. -/
theorem fold_query {n : ℕ} (x u : Fin n → ℝ) (qb : Fin n → EReal) (qw : Fin n → Fin n → ℝ) (w : Fin n → EReal) (b : EReal) :
    (∑ l, (x l : EReal) * (w l + ∑ k, (u k : EReal) * qw k l)) + (b + ∑ k, (u k : EReal) * qb k)
      = (∑ l, (x l : EReal) * w l) + (∑ k, ((∑ l, (x l : EReal) * qw k l) + qb k) * u k) + b := by
  have h1 : ∀ l, (∑ k, (u k : EReal) * qw k l) = ((∑ k, u k * qw k l : ℝ) : EReal) := fun l => by simp only [coe_sum, EReal.coe_mul]
  have h2 : ∀ k, ((∑ l, (x l : EReal) * qw k l) + qb k) * u k = (u k : EReal) * qb k + (u k * ∑ l, x l * qw k l : ℝ) := fun k => by
    rw [show (∑ l, (x l : EReal) * qw k l) = ((∑ l, x l * qw k l : ℝ) : EReal) by simp only [coe_sum, EReal.coe_mul],
      EReal.mul_comm _ (u k : EReal), add_comm _ (qb k), mul_add_real, EReal.coe_mul]
  simp only [h1, h2, mul_add_real, Finset.sum_add_distrib]
  simp only [← EReal.coe_mul, ← coe_sum]
  have hr : (∑ k, u k * ∑ l, x l * qw k l : ℝ) = ∑ l, x l * ∑ k, u k * qw k l := by
    simp only [Finset.mul_sum]
    rw [Finset.sum_comm]
    exact Finset.sum_congr rfl fun l _ => Finset.sum_congr rfl fun k _ => by ring
  rw [hr]
  abel

/-- A sum over the 768 columns by its parts. -/
theorem sum_cols (f : Fin 768 → EReal) :
    ∑ k, f k = (∑ k : Fin 256, f ⟨k, by omega⟩) + ((∑ k : Fin 128, f ⟨256 + k, by omega⟩) + ((∑ k : Fin 256, f ⟨384 + k, by omega⟩) + ∑ k : Fin 128, f ⟨640 + k, by omega⟩)) := by
  refine (Fin.sum_univ_add (a := 256) (b := 512) f).trans (congrArg₂ (· + ·) rfl ?_)
  refine (Fin.sum_univ_add (a := 128) (b := 384) _).trans (congrArg₂ (· + ·) rfl ?_)
  refine (Fin.sum_univ_add (a := 256) (b := 128) _).trans (congrArg₂ (· + ·) ?_ ?_)
  · exact Finset.sum_congr rfl fun k _ => congrArg f (Fin.ext (by simp; omega))
  · exact Finset.sum_congr rfl fun k _ => congrArg f (Fin.ext (by simp; omega))

/-- One hidden unit before its cut at zero: row `H` against the folded weights `W` is row `h` against the weights `w`, plus the bias. -/
theorem unit_eq (H W h w : Fin 768 → EReal) (b : EReal) (x u : Fin 128 → ℝ) (qb : Fin 128 → EReal) (qw : Fin 128 → Fin 128 → ℝ)
    (hH : ∀ k, k.val < 640 → H k = h k) (hW : ∀ k, k.val < 256 ∨ 384 ≤ k.val ∧ k.val < 640 → W k = w k)
    (hx : ∀ l : Fin 128, h ⟨256 + l, by omega⟩ = x l) (hm : ∀ l : Fin 128, W ⟨256 + l, by omega⟩ = w ⟨256 + l, by omega⟩ + ∑ k, (u k : EReal) * qw k l)
    (hH1 : H 640 = 1) (hW1 : W 640 = b + ∑ k, (u k : EReal) * qb k) (hz : ∀ k, 640 < k.val → H k = 0)
    (hu : ∀ k : Fin 128, w ⟨640 + k, by omega⟩ = u k) (hq : ∀ k : Fin 128, h ⟨640 + k, by omega⟩ = (∑ l, (x l : EReal) * qw k l) + qb k) :
    ∑ k, H k * W k = (∑ k, h k * w k) + b := by
  rw [sum_cols, sum_cols]
  have e1 : (∑ k : Fin 256, H ⟨k, by omega⟩ * W ⟨k, by omega⟩) = ∑ k : Fin 256, h ⟨k, by omega⟩ * w ⟨k, by omega⟩ :=
    Finset.sum_congr rfl fun k _ => by rw [hH _ (by show k.val < 640; omega), hW _ (.inl k.isLt)]
  have e2 : (∑ k : Fin 256, H ⟨384 + k, by omega⟩ * W ⟨384 + k, by omega⟩) = ∑ k : Fin 256, h ⟨384 + k, by omega⟩ * w ⟨384 + k, by omega⟩ :=
    Finset.sum_congr rfl fun k _ => by rw [hH _ (by show 384 + k.val < 640; omega), hW _ (.inr ⟨by show 384 ≤ 384 + k.val; omega, by show 384 + k.val < 640; omega⟩)]
  have e3 : (∑ k : Fin 128, H ⟨256 + k, by omega⟩ * W ⟨256 + k, by omega⟩) = ∑ l : Fin 128, (x l : EReal) * (w ⟨256 + l, by omega⟩ + ∑ k, (u k : EReal) * qw k l) :=
    Finset.sum_congr rfl fun k _ => by rw [hH _ (by show 256 + k.val < 640; omega), hx, hm]
  have e4 : (∑ k : Fin 128, H ⟨640 + k, by omega⟩ * W ⟨640 + k, by omega⟩) = b + ∑ k, (u k : EReal) * qb k := by
    rw [Fin.sum_univ_succ, Finset.sum_eq_zero fun k _ => ?_, add_zero]
    · show H 640 * W 640 = _
      rw [hH1, one_mul, hW1]
    · rw [hz _ (by show 640 < 640 + (k.val + 1); omega), zero_mul]
  have e5 : (∑ k : Fin 128, h ⟨256 + k, by omega⟩ * w ⟨256 + k, by omega⟩) = ∑ l : Fin 128, (x l : EReal) * w ⟨256 + l, by omega⟩ :=
    Finset.sum_congr rfl fun k _ => by rw [hx]
  have e6 : (∑ k : Fin 128, h ⟨640 + k, by omega⟩ * w ⟨640 + k, by omega⟩) = ∑ k : Fin 128, ((∑ l, (x l : EReal) * qw k l) + qb k) * u k :=
    Finset.sum_congr rfl fun k _ => by rw [hq, hu]
  have key := fold_query x u qb qw (fun l => w ⟨256 + l, by omega⟩) b
  rw [e1, e2, e3, e4, e5, e6]
  rw [show ∀ A B C D : EReal, A + (B + (C + D)) = A + C + (B + D) from fun A B C D => by abel, key]
  abel

/-- The second layer over the two halves of the hidden units. -/
theorem sum_halves (f : Fin 2048 → EReal) (b : EReal) :
    b + (∑ j : Fin 1024, f ⟨0 + j, by omega⟩) + (∑ j : Fin 1024, f ⟨1024 + j, by omega⟩) = (∑ j, f j) + b := by
  have h : ∑ j, f j = (∑ j : Fin 1024, f ⟨0 + j, by omega⟩) + ∑ j : Fin 1024, f ⟨1024 + j, by omega⟩ := by
    refine (Fin.sum_univ_add (a := 1024) (b := 1024) f).trans (congrArg₂ (· + ·) ?_ rfl)
    exact Finset.sum_congr rfl fun k _ => congrArg f (Fin.ext (by simp))
  rw [h]
  abel

end Cert.Alg
-- ==== Proof.Net.lean ====
/-
  The network, row by row over the extended reals, and the kernel's output block as that network.
-/
module

public import proofs.«01_k».proof.Proof.Algebra
public import proofs.«01_k».proof.Proof.Mlp
public import Idealize.ShloMosaic.Lib.MatmulPlain
public import Idealize.ShloMosaic.Lib.ValueLayout
public import Idealize.ShloMosaic.PureOps.IdealRules

@[expose] public section

noncomputable section

namespace Cert.Net

open Idealize.ShloMosaic

/-- A row of the first layer's input: the features, the two embeddings and the query layer on features 256 to 383. -/
def inp (x : Fin 384 → EReal) (p q : Fin 128 → EReal) (qw : Fin 128 → Fin 128 → EReal) (qb : Fin 128 → EReal) (k : Fin 768) : EReal :=
  if h : k.val < 384 then x ⟨k.val, h⟩
  else if h' : k.val < 512 then p ⟨k.val - 384, by omega⟩
  else if h'' : k.val < 640 then q ⟨k.val - 512, by omega⟩
  else (∑ l : Fin 128, x ⟨256 + l.val, by omega⟩ * qw ⟨k.val - 640, by omega⟩ l) + qb ⟨k.val - 640, by omega⟩

/-- A row of the network's output. -/
def net (x : Fin 384 → EReal) (p q : Fin 128 → EReal) (qw : Fin 128 → Fin 128 → EReal) (qb : Fin 128 → EReal) (w1 : Fin 2048 → Fin 768 → EReal)
    (b1 : Fin 2048 → EReal) (w2 : Fin 2 → Fin 2048 → EReal) (b2 : Fin 2 → EReal) (o : Fin 2) : EReal :=
  (∑ j, max ((∑ k, inp x p q qw qb k * w1 j k) + b1 j) 0 * w2 o j) + b2 o

end Cert.Net

namespace Cert.KernelIdeal.Mlp

open Cert.KernelIdeal Cert.KernelIdeal.Gen Cert.Net
open Idealize.ShloMosaic

/-- The two spellings of a pair of coordinates. -/
theorem ix2_eq {a b : ℕ} (i : Fin a) (j : Fin b) : ix2 i j = Idealize.ShloMosaic.ValueIdx.ix2 i j := by
  funext d
  match d with
  | 0 => rfl
  | 1 => rfl

/-- A product into zeros, rows by columns. -/
theorem rows_cols {M K N : ℕ} {φ₁ φ₂ : FTy} (l : FVec Ideal ⟨2, ![M, K]⟩ φ₁) (r : FVec Ideal ⟨2, ![K, N]⟩ φ₂) (i : Fin M) (j : Fin N) :
    matmul (DotDims.plain M K N) none l r (constant ⟨2, ![M, N]⟩ .f32 0x00000000#32) (ix2 i j) = ∑ k : Fin K, (l (ix2 i k) : EReal) * r (ix2 k j) := by
  simp only [ix2_eq]
  refine (Ideal.matmul_plain_apply none l r _ i j).trans ?_
  show Ideal.ofBits .f32 0x00000000#32 + _ = _
  rw [Ideal.ofBits_zero_f32, zero_add]

/-- A product into zeros, rows by rows. -/
theorem rows_rows {M K N : ℕ} {φ₁ φ₂ : FTy} (l : FVec Ideal ⟨2, ![M, K]⟩ φ₁) (r : FVec Ideal ⟨2, ![N, K]⟩ φ₂) (i : Fin M) (j : Fin N) :
    matmul (DotDims.transposedRhs M K N) none l r (constant ⟨2, ![M, N]⟩ .f32 0x00000000#32) (ix2 i j) = ∑ k : Fin K, (l (ix2 i k) : EReal) * r (ix2 j k) := by
  simp only [ix2_eq]
  refine (Ideal.matmul_transposedRhs_apply none l r _ i j).trans ?_
  show Ideal.ofBits .f32 0x00000000#32 + _ = _
  rw [Ideal.ofBits_zero_f32, zero_add]

section
variable (X : Vec Ideal S2048x384 .f32) (P Q : Vec Ideal S2048x128 .f32) (w1 : Vec Ideal S2048x768 .f32) (qw : Vec Ideal S128x128 .bf16) (qb : Vec Ideal S1x128 .f32)
  (b1 : Vec Ideal S2048x1 .f32) (w2 : Vec Ideal S2x2048 .bf16) (b2 : Vec Ideal S1x2 .f32)

/-- The folded query columns, entry by entry. -/
theorem midOf_apply (j : Fin 2048) (l : Fin 128) :
    (midOf w1 qw (ix2 j l) : EReal) = w1 (ix2 j ⟨256 + l.val, by omega⟩) + ∑ k : Fin 128, (w1 (ix2 j ⟨640 + k.val, by omega⟩) : EReal) * qw (ix2 k l) :=
  congrArg (fun s : EReal => w1 (ix2 j ⟨256 + l.val, by omega⟩) + s)
    (rows_cols (truncf .bf16 (cols w1 640 (by decide)) bitsLt_bf16_f32 : FVec Ideal ⟨2, ![2048, 128]⟩ .bf16) (qw : FVec Ideal ⟨2, ![128, 128]⟩ .bf16) j l)

/-- The folded bias, entry by entry. -/
theorem biasOf_apply (j : Fin 2048) :
    (biasOf w1 qb b1 (ix2 j 0) : EReal) = b1 (ix2 j 0) + ∑ k : Fin 128, (w1 (ix2 j ⟨640 + k.val, by omega⟩) : EReal) * qb (ix2 0 k) :=
  congrArg (fun s : EReal => b1 (ix2 j 0) + s)
    (rows_rows (cols w1 640 (by decide) : FVec Ideal ⟨2, ![2048, 128]⟩ .f32) (qb : FVec Ideal ⟨2, ![1, 128]⟩ .f32) j 0)

/-- A hidden unit, entry by entry. -/
theorem hidOf_apply (H : Vec Ideal S2048x768 .bf16) (W : Vec Ideal S1024x768 .bf16) (i : Fin 2048) (j : Fin 1024) :
    (hidOf H W (ix2 i j) : EReal) = max (∑ k : Fin 768, (H (ix2 i k) : EReal) * W (ix2 j k)) 0 := by
  have h := rows_rows (φ₁ := .bf16) (φ₂ := .bf16) (H : FVec Ideal ⟨2, ![2048, 768]⟩ .bf16) (W : FVec Ideal ⟨2, ![1024, 768]⟩ .bf16) i j
  exact congrArg₂ (fun a b : EReal => max a b) h (IdealRules.sign_bit.ideal_zero .bf16)

/-- The folded weights on every column, from the entries of each part. -/
theorem unit_apply (hx : ∀ i l, ∃ v : ℝ, (X (ix2 i ⟨256 + (l : Fin 128).val, by omega⟩) : EReal) = v) (hu : ∀ j k, ∃ v : ℝ, (w1 (ix2 j ⟨640 + (k : Fin 128).val, by omega⟩) : EReal) = v)
    (hw : ∀ k l, ∃ v : ℝ, (qw (ix2 k l) : EReal) = v) (i : Fin 2048) (j : Fin 2048) :
    (∑ k : Fin 768, (hcatOf X P Q (ix2 i k) : EReal) * wcatOf w1 qw qb b1 (ix2 j k))
      = (∑ k, inp (fun k => X (ix2 i k)) (fun k => P (ix2 i k)) (fun k => Q (ix2 i k)) (fun a b => qw (ix2 a b)) (fun k => qb (ix2 0 k)) k * w1 (ix2 j k)) + b1 (ix2 j 0) := by
  choose x hx using hx i
  choose u hu using hu j
  choose qw' hw using hw
  refine Cert.Alg.unit_eq _ _ _ (fun k => w1 (ix2 j k)) _ x u (fun k => qb (ix2 0 k)) qw' ?_ ?_ ?_ ?_ ?_ ?_ ?_ hu ?_
  · intro k hk
    show hcatOf X P Q (ix2 i k) = _
    unfold hcatOf inp
    simp only [show (ix2 i k 1).val = k.val from rfl, show (ix2 i k 0) = i from rfl]
    split_ifs <;> rfl
  · intro k hk
    show wcatOf w1 qw qb b1 (ix2 j k) = _
    unfold wcatOf
    simp only [show (ix2 j k 1).val = k.val from rfl]
    split_ifs
    · rfl
    · omega
    · rfl
    all_goals omega
  · intro l
    show inp _ _ _ _ _ _ = _
    unfold inp
    rw [dif_pos (by show 256 + l.val < 384; omega)]
    exact hx l
  · intro l
    show wcatOf w1 qw qb b1 (ix2 j ⟨256 + l.val, by omega⟩) = _
    unfold wcatOf
    simp only [show (ix2 j (⟨256 + l.val, by omega⟩ : Fin 768) 1).val = 256 + l.val from rfl]
    rw [if_neg (by omega), dif_pos (by omega)]
    have e : (⟨256 + l.val - 256, by omega⟩ : Fin 128) = l := Fin.ext (by show 256 + l.val - 256 = l.val; omega)
    rw [e]
    refine (midOf_apply w1 qw j l).trans (congrArg _ (Finset.sum_congr rfl fun k _ => ?_))
    rw [hu, hw]
  · show hcatOf X P Q (ix2 i 640) = _
    unfold hcatOf pad
    simp only [show (ix2 i (640 : Fin 768) 1).val = 640 from rfl]
    rw [dif_neg (by decide), dif_neg (by decide), dif_neg (by decide), if_pos trivial]
    exact IdealRules.sign_bit.ideal_onePat .bf16
  · show wcatOf w1 qw qb b1 (ix2 j 640) = _
    unfold wcatOf
    simp only [show (ix2 j (640 : Fin 768) 1).val = 640 from rfl]
    rw [if_neg (by decide), dif_neg (by decide), if_neg (by decide), if_pos trivial]
    refine (biasOf_apply w1 qb b1 j).trans (congrArg _ (Finset.sum_congr rfl fun k _ => ?_))
    rw [hu]
  · intro k hk
    show hcatOf X P Q (ix2 i k) = _
    unfold hcatOf pad
    simp only [show (ix2 i k 1).val = k.val from rfl]
    rw [dif_neg (by omega), dif_neg (by omega), dif_neg (by omega), if_neg (by omega)]
    exact IdealRules.sign_bit.ideal_zero .bf16
  · intro k
    show inp _ _ _ _ _ _ = _
    unfold inp
    rw [dif_neg (by show ¬ 640 + k.val < 384; omega), dif_neg (by show ¬ 640 + k.val < 512; omega), dif_neg (by show ¬ 640 + k.val < 640; omega)]
    have e : (⟨640 + k.val - 640, by omega⟩ : Fin 128) = k := Fin.ext (by show 640 + k.val - 640 = k.val; omega)
    show (∑ l : Fin 128, (X (ix2 i ⟨256 + l.val, by omega⟩) : EReal) * qw (ix2 ⟨640 + k.val - 640, by omega⟩ l)) + qb (ix2 0 ⟨640 + k.val - 640, by omega⟩) = _
    rw [e]
    exact congrArg (· + (qb (ix2 0 k) : EReal)) (Finset.sum_congr rfl fun l _ => by rw [hx, hw])

/-- A point's output block is the network on its rows. -/
theorem outOf_apply (hx : ∀ i l, ∃ v : ℝ, (X (ix2 i ⟨256 + (l : Fin 128).val, by omega⟩) : EReal) = v) (hu : ∀ j k, ∃ v : ℝ, (w1 (ix2 j ⟨640 + (k : Fin 128).val, by omega⟩) : EReal) = v)
    (hw : ∀ k l, ∃ v : ℝ, (qw (ix2 k l) : EReal) = v) (i : Fin 2048) (o : Fin 2) :
    (outOf (hcatOf X P Q) (wcatOf w1 qw qb b1) w2 b2 (ix2 i o) : EReal)
      = net (fun k => X (ix2 i k)) (fun k => P (ix2 i k)) (fun k => Q (ix2 i k)) (fun a b => qw (ix2 a b)) (fun k => qb (ix2 0 k)) (fun j k => w1 (ix2 j k)) (fun j => b1 (ix2 j 0))
          (fun o j => w2 (ix2 o j)) (fun o => b2 (ix2 0 o)) o := by
  have half : ∀ (s : ℕ) (hs : s + 1024 ≤ 2048),
      (matmul dot_S2048x1024_S2x1024_S2048x2_1_1_0_0_n_n none (hidOf (hcatOf X P Q) (rowsOf (wcatOf w1 qw qb b1) s hs)) (w2Of w2 s hs) (constant S2048x2 .f32 0x00000000#32) (ix2 i o) : EReal)
        = ∑ j : Fin 1024, max ((∑ k, inp (fun k => X (ix2 i k)) (fun k => P (ix2 i k)) (fun k => Q (ix2 i k)) (fun a b => qw (ix2 a b)) (fun k => qb (ix2 0 k)) k * w1 (ix2 ⟨s + j.val, by omega⟩ k))
            + b1 (ix2 ⟨s + j.val, by omega⟩ 0)) 0 * w2 (ix2 o ⟨s + j.val, by omega⟩) := fun s hs => by
    refine (rows_rows (φ₁ := .bf16) (φ₂ := .bf16) (hidOf (hcatOf X P Q) (rowsOf (wcatOf w1 qw qb b1) s hs) : FVec Ideal ⟨2, ![2048, 1024]⟩ .bf16) (w2Of w2 s hs : FVec Ideal ⟨2, ![2, 1024]⟩ .bf16) i o).trans
      (Finset.sum_congr rfl fun j _ => ?_)
    rw [hidOf_apply]
    exact congrArg (fun a : EReal => max a 0 * w2 (ix2 o ⟨s + j.val, by omega⟩)) (unit_apply X P Q w1 qw qb b1 hx hu hw i ⟨s + j.val, by omega⟩)
  have hbias : (broadcastTo S2048x2 b2 broadcasts_S1x2_S2048x2 (ix2 i o) : EReal) = b2 (ix2 0 o) := by
    simp only [ix2_eq]
    exact Idealize.ShloMosaic.ValueIdx.broadcastTo_1b_ab_apply b2 broadcasts_S1x2_S2048x2 i o
  have hsum := Cert.Alg.sum_halves (fun j => max ((∑ k, inp (fun k => X (ix2 i k)) (fun k => P (ix2 i k)) (fun k => Q (ix2 i k)) (fun a b => qw (ix2 a b)) (fun k => qb (ix2 0 k)) k * w1 (ix2 j k))
            + b1 (ix2 j 0)) 0 * w2 (ix2 o j)) (b2 (ix2 0 o))
  refine Eq.trans ?_ hsum
  exact congrArg₂ (fun a b : EReal => a + b) (congrArg₂ (fun a b : EReal => a + b) hbias (half 0 (by decide))) (half 1024 (by decide))

end
end Cert.KernelIdeal.Mlp
-- ==== Proof.Want.lean ====
/-
  The result both programs are shown to return: the network on each row of the features with the embeddings its ids name.
-/
module

public import proofs.«01_k».proof.Proof.Net

@[expose] public section

noncomputable section

namespace Cert.Net

open Cert.KernelIdeal.Mlp
open Idealize.ShloMosaic

/-- An index of a one-axis array. -/
def ix1 {a : ℕ} (i : Fin a) : (⟨1, ![a]⟩ : Shape).Idx := fun | 0 => i

/-- The row of a table that an id names. -/
def tabRow {n : ℕ} (hn : 0 < n) (T : FVec Ideal ⟨2, ![n, 128]⟩ .f32) (v : BitVec 32) (k : Fin 128) : EReal := T (ix2 ⟨v.toNat % n, Nat.mod_lt _ hn⟩ k)

section
variable (x0 : FVec Ideal ⟨2, ![16384, 384]⟩ .f32) (x1 x2 : IVec ⟨1, ![16384]⟩ 32) (x3 : FVec Ideal ⟨2, ![100, 128]⟩ .f32) (x4 : FVec Ideal ⟨2, ![26, 128]⟩ .f32)
  (x5 : FVec Ideal ⟨2, ![128, 128]⟩ .f32) (x6 : FVec Ideal ⟨1, ![128]⟩ .f32) (x7 : FVec Ideal ⟨2, ![2048, 768]⟩ .f32) (x8 : FVec Ideal ⟨1, ![2048]⟩ .f32)
  (x9 : FVec Ideal ⟨2, ![2, 2048]⟩ .f32) (x10 : FVec Ideal ⟨1, ![2]⟩ .f32)

/-- Output `o` of the network on row `r` of the inputs. -/
def wantAt (r : Fin 16384) (o : Fin 2) : EReal :=
  net (fun k => x0 (ix2 r k)) (tabRow (n := 100) (by decide) x3 (x1 (ix1 r))) (tabRow (n := 26) (by decide) x4 (x2 (ix1 r))) (fun a b => x5 (ix2 a b)) (fun k => x6 (ix1 k))
    (fun j k => x7 (ix2 j k)) (fun j => x8 (ix1 j)) (fun o j => x9 (ix2 o j)) (fun o => x10 (ix1 o)) o

/-- The result array. -/
def want : FVec Ideal ⟨2, ![16384, 2]⟩ .f32 := fun y => wantAt x0 x1 x2 x3 x4 x5 x6 x7 x8 x9 x10 (y 0) (y 1)

end

end Cert.Net

end
-- ==== Proof.RegionValue.lean ====
/-
  The arrays that the two TensorCore calls leave, over the extended reals: the network on each row of their inputs.
-/
module

public import proofs.«01_k».proof.Proof.Net
public import proofs.«01_k».proof.Proof.Reg1
public import Idealize.ShloMosaic.Lib.Pipeline.ValueKit.Geometry

@[expose] public section

noncomputable section

namespace Cert.KernelIdeal.Mlp

open Cert.KernelIdeal Cert.Net
open Idealize.ShloMosaic

/-- The arrays a TensorCore call reads. -/
structure Ins where
  x : Vec Ideal S16384x384 .f32
  p : Vec Ideal S8192x128 .f32
  q : Vec Ideal S8192x128 .f32
  qw : Vec Ideal S128x128 .bf16
  qb : Vec Ideal S1x128 .f32
  w1 : Vec Ideal S2048x768 .f32
  b1 : Vec Ideal S2048x1 .f32
  w2 : Vec Ideal S2x2048 .bf16
  b2 : Vec Ideal S1x2 .f32

/-- The network on row `j` of the embeddings and row `s + j` of the features. -/
def Ins.row (I : Ins) (s : ℕ) (hs : s ≤ 8192) (j : Fin 8192) (o : Fin 2) : EReal :=
  net (fun k => I.x (ix2 ⟨s + j.val, by omega⟩ k)) (fun k => I.p (ix2 j k)) (fun k => I.q (ix2 j k)) (fun a b => I.qw (ix2 a b)) (fun k => I.qb (ix2 0 k)) (fun j k => I.w1 (ix2 j k))
    (fun j => I.b1 (ix2 j 0)) (fun o j => I.w2 (ix2 o j)) (fun o => I.b2 (ix2 0 o)) o

/-- Every entry that the folding multiplies is real. -/
def Ins.Real (I : Ins) : Prop :=
  (∀ i l, ∃ v : ℝ, (I.x (ix2 i ⟨256 + (l : Fin 128).val, by omega⟩) : EReal) = v) ∧ (∀ j k, ∃ v : ℝ, (I.w1 (ix2 j ⟨640 + (k : Fin 128).val, by omega⟩) : EReal) = v)
    ∧ ∀ k l, ∃ v : ℝ, (I.qw (ix2 k l) : EReal) = v

/-- A block of rows of the result, from blocks of rows of the inputs. -/
theorem Ins.block (I : Ins) (hI : I.Real) (s : ℕ) (hs : s ≤ 8192) (n : ℕ) (hn : n ≤ 6144) (X : Vec Ideal S2048x384 .f32) (P Q : Vec Ideal S2048x128 .f32)
    (hX : ∀ i k, X (ix2 i k) = I.x (ix2 ⟨s + (n + i.val), by omega⟩ k)) (hP : ∀ i k, P (ix2 i k) = I.p (ix2 ⟨n + i.val, by omega⟩ k)) (hQ : ∀ i k, Q (ix2 i k) = I.q (ix2 ⟨n + i.val, by omega⟩ k))
    (i : Fin 2048) (o : Fin 2) : (outOf (hcatOf X P Q) (wcatOf I.w1 I.qw I.qb I.b1) I.w2 I.b2 (ix2 i o) : EReal) = I.row s hs ⟨n + i.val, by omega⟩ o := by
  rw [outOf_apply X P Q I.w1 I.qw I.qb I.b1 I.w2 I.b2 (fun i l => by rw [hX]; exact hI.1 _ l) hI.2.1 hI.2.2 i o]
  simp only [hX, hP, hQ]
  rfl

end Cert.KernelIdeal.Mlp

namespace Cert.KernelIdeal.Reg0

open Cert.KernelIdeal Cert.KernelIdeal.Gen Cert.KernelIdeal.Run Cert.KernelIdeal.Mlp
open Idealize.ShloMosaic Idealize.ShloMosaic.TcCoe

/-- Which block each window takes at a point. -/
theorem index_at : ∀ t : Fin cfg2.N, win2_0.index t = ![t.val, 0] ∧ win2_1.index t = ![t.val, 0] ∧ win2_2.index t = ![t.val, 0] ∧ win2_3.index t = ![0, 0] ∧ win2_4.index t = ![0, 0] ∧ win2_5.index t = ![0, 0] ∧ win2_6.index t = ![0, 0] ∧ win2_7.index t = ![0, 0] ∧ win2_8.index t = ![0, 0] ∧ win2_9.index t = ![t.val, 0] :=
  (by decide +kernel : ∀ t : Fin grid2.N, win2_0.index t = ![t.val, 0] ∧ win2_1.index t = ![t.val, 0] ∧ win2_2.index t = ![t.val, 0] ∧ win2_3.index t = ![0, 0] ∧ win2_4.index t = ![0, 0] ∧ win2_5.index t = ![0, 0] ∧ win2_6.index t = ![0, 0] ∧ win2_7.index t = ![0, 0] ∧ win2_8.index t = ![0, 0] ∧ win2_9.index t = ![t.val, 0])

/-- The first call's arrays by name. -/
abbrev ins {c : Dev nD} (A : Arrs Ideal c) : Ins := ⟨A 0, A 1, A 2, A 3, A 4, A 5, A 6, A 7, A 8⟩

set_option maxHeartbeats 2000000 in
/-- What the first call's result array holds at the end. -/
theorem done_row {c : Dev nD} (A : Arrs Ideal c) (b : ℕ) (hI : (ins A).Real) :
    (dat A b).arrAt 9 cfg2.N = fun y : S8192x2.Idx => (ins A).row 0 (by decide) (y 0) (y 1) := by
  refine (dat A b).arrAt_eq_of_covers 9 _ (by decide +kernel) fun t hf y => ?_
  obtain ⟨h0, h1, h2, -, -, -, -, -, -, h9⟩ := index_at t
  obtain ⟨-, -, -, g3, g4, g5, g6, g7, g8, -⟩ := index_at t2_0
  have hN : t.val < 4 := lt_of_lt_of_eq t.isLt N_2
  have f3 : stg A 3 t2_0 = (ins A).qw := by funext y; show A 3 (((cfg2.win 3).blk t2_0).view.emb y) = A 3 y; refine congrArg (A 3) ?_; blk_ext [g3]
  have f4 : stg A 4 t2_0 = (ins A).qb := by funext y; show A 4 (((cfg2.win 4).blk t2_0).view.emb y) = A 4 y; refine congrArg (A 4) ?_; blk_ext [g4]
  have f5 : stg A 5 t2_0 = (ins A).w1 := by funext y; show A 5 (((cfg2.win 5).blk t2_0).view.emb y) = A 5 y; refine congrArg (A 5) ?_; blk_ext [g5]
  have f6 : stg A 6 t2_0 = (ins A).b1 := by funext y; show A 6 (((cfg2.win 6).blk t2_0).view.emb y) = A 6 y; refine congrArg (A 6) ?_; blk_ext [g6]
  have f7 : stg A 7 t2_0 = (ins A).w2 := by funext y; show A 7 (((cfg2.win 7).blk t2_0).view.emb y) = A 7 y; refine congrArg (A 7) ?_; blk_ext [g7]
  have f8 : stg A 8 t2_0 = (ins A).b2 := by funext y; show A 8 (((cfg2.win 8).blk t2_0).view.emb y) = A 8 y; refine congrArg (A 8) ?_; blk_ext [g8]
  let i : Fin 2048 := y 0
  let o : Fin 2 := y 1
  have hy : y = ix2 i o := by
    funext a
    match a with
    | 0 => rfl
    | 1 => rfl
  have key := (ins A).block hI 0 (by decide) (2048 * t.val) (by omega) (stg A 0 t) (stg A 1 t) (stg A 2 t)

    (fun i k => by
      show A 0 (((cfg2.win 0).blk t).view.emb (ix2 i k)) = A 0 (ix2 _ k)
      refine congrArg (A 0) ?_
      blk_ext [h0]
      · show (t.val) * 2048 + i.val = (2048 * t.val + i.val); omega
      · rfl)
    (fun i k => by
      show A 1 (((cfg2.win 1).blk t).view.emb (ix2 i k)) = A 1 (ix2 _ k)
      refine congrArg (A 1) ?_
      blk_ext [h1]
      · show (t.val) * 2048 + i.val = 2048 * t.val + i.val; omega
      · rfl)
    (fun i k => by
      show A 2 (((cfg2.win 2).blk t).view.emb (ix2 i k)) = A 2 (ix2 _ k)
      refine congrArg (A 2) ?_
      blk_ext [h2]
      · show (t.val) * 2048 + i.val = 2048 * t.val + i.val; omega
      · rfl) i o
  blk_simp
  show outB A t y = _
  unfold outB W
  rw [f3, f4, f5, f6, f7, f8, hy]
  refine key.trans ?_
  have e : (win2_9.blk t).view.emb (ix2 i o) = ix2 (⟨2048 * t.val + i.val, by have := i.isLt; omega⟩ : Fin 8192) o := by
    blk_ext [h9]
    · show t.val * 2048 + i.val = 2048 * t.val + i.val; omega
    · rfl
  rw [e]
  rfl

end Cert.KernelIdeal.Reg0

namespace Cert.KernelIdeal.Reg1

open Cert.KernelIdeal Cert.KernelIdeal.Gen Cert.KernelIdeal.Run Cert.KernelIdeal.Mlp
open Idealize.ShloMosaic Idealize.ShloMosaic.TcCoe

/-- Which block each window takes at a point. -/
theorem index_at : ∀ t : Fin cfg3.N, win3_0.index t = ![t.val + 4, 0] ∧ win3_1.index t = ![t.val, 0] ∧ win3_2.index t = ![t.val, 0] ∧ win3_3.index t = ![0, 0] ∧ win3_4.index t = ![0, 0] ∧ win3_5.index t = ![0, 0] ∧ win3_6.index t = ![0, 0] ∧ win3_7.index t = ![0, 0] ∧ win3_8.index t = ![0, 0] ∧ win3_9.index t = ![t.val, 0] :=
  (by decide +kernel : ∀ t : Fin grid3.N, win3_0.index t = ![t.val + 4, 0] ∧ win3_1.index t = ![t.val, 0] ∧ win3_2.index t = ![t.val, 0] ∧ win3_3.index t = ![0, 0] ∧ win3_4.index t = ![0, 0] ∧ win3_5.index t = ![0, 0] ∧ win3_6.index t = ![0, 0] ∧ win3_7.index t = ![0, 0] ∧ win3_8.index t = ![0, 0] ∧ win3_9.index t = ![t.val, 0])

/-- The second call's arrays by name. -/
abbrev ins {c : Dev nD} (A : Arrs Ideal c) : Ins := ⟨A 0, A 1, A 2, A 3, A 4, A 5, A 6, A 7, A 8⟩

set_option maxHeartbeats 2000000 in
/-- What the second call's result array holds at the end. -/
theorem done_row {c : Dev nD} (A : Arrs Ideal c) (b : ℕ) (hI : (ins A).Real) :
    (dat A b).arrAt 9 cfg3.N = fun y : S8192x2.Idx => (ins A).row 8192 (by decide) (y 0) (y 1) := by
  refine (dat A b).arrAt_eq_of_covers 9 _ (by decide +kernel) fun t hf y => ?_
  obtain ⟨h0, h1, h2, -, -, -, -, -, -, h9⟩ := index_at t
  obtain ⟨-, -, -, g3, g4, g5, g6, g7, g8, -⟩ := index_at t3_0
  have hN : t.val < 4 := lt_of_lt_of_eq t.isLt N_3
  have f3 : stg A 3 t3_0 = (ins A).qw := by funext y; show A 3 (((cfg3.win 3).blk t3_0).view.emb y) = A 3 y; refine congrArg (A 3) ?_; blk_ext [g3]
  have f4 : stg A 4 t3_0 = (ins A).qb := by funext y; show A 4 (((cfg3.win 4).blk t3_0).view.emb y) = A 4 y; refine congrArg (A 4) ?_; blk_ext [g4]
  have f5 : stg A 5 t3_0 = (ins A).w1 := by funext y; show A 5 (((cfg3.win 5).blk t3_0).view.emb y) = A 5 y; refine congrArg (A 5) ?_; blk_ext [g5]
  have f6 : stg A 6 t3_0 = (ins A).b1 := by funext y; show A 6 (((cfg3.win 6).blk t3_0).view.emb y) = A 6 y; refine congrArg (A 6) ?_; blk_ext [g6]
  have f7 : stg A 7 t3_0 = (ins A).w2 := by funext y; show A 7 (((cfg3.win 7).blk t3_0).view.emb y) = A 7 y; refine congrArg (A 7) ?_; blk_ext [g7]
  have f8 : stg A 8 t3_0 = (ins A).b2 := by funext y; show A 8 (((cfg3.win 8).blk t3_0).view.emb y) = A 8 y; refine congrArg (A 8) ?_; blk_ext [g8]
  let i : Fin 2048 := y 0
  let o : Fin 2 := y 1
  have hy : y = ix2 i o := by
    funext a
    match a with
    | 0 => rfl
    | 1 => rfl
  have key := (ins A).block hI 8192 (by decide) (2048 * t.val) (by omega) (stg A 0 t) (stg A 1 t) (stg A 2 t)

    (fun i k => by
      show A 0 (((cfg3.win 0).blk t).view.emb (ix2 i k)) = A 0 (ix2 _ k)
      refine congrArg (A 0) ?_
      blk_ext [h0]
      · show (t.val + 4) * 2048 + i.val = 8192 + (2048 * t.val + i.val); omega
      · rfl)
    (fun i k => by
      show A 1 (((cfg3.win 1).blk t).view.emb (ix2 i k)) = A 1 (ix2 _ k)
      refine congrArg (A 1) ?_
      blk_ext [h1]
      · show (t.val) * 2048 + i.val = 2048 * t.val + i.val; omega
      · rfl)
    (fun i k => by
      show A 2 (((cfg3.win 2).blk t).view.emb (ix2 i k)) = A 2 (ix2 _ k)
      refine congrArg (A 2) ?_
      blk_ext [h2]
      · show (t.val) * 2048 + i.val = 2048 * t.val + i.val; omega
      · rfl) i o
  blk_simp
  show outB A t y = _
  unfold outB W
  rw [f3, f4, f5, f6, f7, f8, hy]
  refine key.trans ?_
  have e : (win3_9.blk t).view.emb (ix2 i o) = ix2 (⟨2048 * t.val + i.val, by have := i.isLt; omega⟩ : Fin 8192) o := by
    blk_ext [h9]
    · show t.val * 2048 + i.val = 2048 * t.val + i.val; omega
    · rfl
  rw [e]
  rfl

end Cert.KernelIdeal.Reg1

end
-- ==== Proof.KernelValue.lean ====
/-
  The kernel's result: the network on each row, from what its four calls leave.
-/
module

public import proofs.«01_k».proof.Proof.Want
public import proofs.«01_k».proof.Proof.RegionValue
public import proofs.«01_k».proof.Proof.Frames

@[expose] public section

noncomputable section

namespace Cert.KernelIdeal.Run

open Cert.KernelIdeal Cert.KernelIdeal.Gen Cert.KernelIdeal.Tile Cert.KernelIdeal.Mlp Cert.Net
open Idealize.ShloMosaic Idealize.ShloMosaic.TcCoe
open Idealize.ShloMosaic.StableHlo (after)

variable (m : (ℓ : Loc nD τ sig) → Buf (Elt Ideal) ℓ) (d : Dev nD)

/-- Weights in the narrower float type. -/
def half {s : Shape} (x : FVec Ideal s .f32) : FVec Ideal s .bf16 := truncf .bf16 x bitsLt_bf16_f32

/-- What a TensorCore call reads, given the rows its gather call left. -/
def insOf (p q : Vec Ideal S8192x128 .f32) : Ins :=
  ⟨m (at_ d main_arg0), p, q, half (m (at_ d main_arg5) : FVec Ideal S128x128 .f32), shapeCast S1x128 (m (at_ d main_arg6)) shapeCasts_S128_S1x128,
    m (at_ d main_arg7), shapeCast S2048x1 (m (at_ d main_arg8)) shapeCasts_S2048_S2048x1, half (m (at_ d main_arg9) : FVec Ideal S2x2048 .f32),
    shapeCast S1x2 (m (at_ d main_arg10)) shapeCasts_S2_S1x2⟩

/-- An argument at the second TensorCore call. -/
theorem V6_launch {r : Ref sig .tc} (h : r ∉ writes) : V6 m d (nm r) = m (at_ d r) := by
  simp only [writes, List.mem_cons, List.not_mem_nil, or_false, not_or] at h
  refine (V6_keep m d ?_).trans ((V5_keep m d ?_).trans (V4_launch m d ?_ ?_ ?_ ?_)) <;> simp [h]
theorem V4_arg {r : Ref sig .tc} (h : r ∉ writes) : V4 m d (nm r) = m (at_ d r) := by
  simp only [writes, List.mem_cons, List.not_mem_nil, or_false, not_or] at h
  refine V4_launch m d ?_ ?_ ?_ ?_ <;> simp [h]

theorem V4_v2_0 : V4 m d (nm main_v2_0) = gm0 m d :=
  (V4_keep m d (by decide)).trans ((V3_keep m d (by decide)).trans (put2_fst _ _ _ (by decide)))
theorem V4_v2_1 : V4 m d (nm main_v2_1) = gd0 m d :=
  (V4_keep m d (by decide)).trans ((V3_keep m d (by decide)).trans (put2_snd _ _ _))
theorem V6_v5_0 : V6 m d (nm main_v5_0) = gm1 m d :=
  (V6_keep m d (by decide)).trans ((V5_keep m d (by decide)).trans (put2_fst _ _ _ (by decide)))
theorem V6_v5_1 : V6 m d (nm main_v5_1) = gd1 m d :=
  (V6_keep m d (by decide)).trans ((V5_keep m d (by decide)).trans (put2_snd _ _ _))

theorem V5_v6 : V5 m d (nm main_v6) = half (V4 m d (nm main_arg5) : FVec Ideal S128x128 .f32) := by unfold V5; after_results; rfl
theorem V5_v7 : V5 m d (nm main_v7) = half (V4 m d (nm main_arg9) : FVec Ideal S2x2048 .f32) := by unfold V5; after_results; rfl
theorem V5_v8 : V5 m d (nm main_v8) = shapeCast S1x128 (V4 m d (nm main_arg6)) shapeCasts_S128_S1x128 := by unfold V5; after_results; rfl
theorem V5_v9 : V5 m d (nm main_v9) = shapeCast S2048x1 (V4 m d (nm main_arg8)) shapeCasts_S2048_S2048x1 := by unfold V5; after_results; rfl
theorem V5_v10 : V5 m d (nm main_v10) = shapeCast S1x2 (V4 m d (nm main_arg10)) shapeCasts_S2_S1x2 := by unfold V5; after_results; rfl
theorem V7_v12 : V7 m d (nm main_v12) = half (V6 m d (nm main_arg5) : FVec Ideal S128x128 .f32) := by unfold V7; after_results; rfl
theorem V7_v13 : V7 m d (nm main_v13) = half (V6 m d (nm main_arg9) : FVec Ideal S2x2048 .f32) := by unfold V7; after_results; rfl
theorem V7_v14 : V7 m d (nm main_v14) = shapeCast S1x128 (V6 m d (nm main_arg6)) shapeCasts_S128_S1x128 := by unfold V7; after_results; rfl
theorem V7_v15 : V7 m d (nm main_v15) = shapeCast S2048x1 (V6 m d (nm main_arg8)) shapeCasts_S2048_S2048x1 := by unfold V7; after_results; rfl
theorem V7_v16 : V7 m d (nm main_v16) = shapeCast S1x2 (V6 m d (nm main_arg10)) shapeCasts_S2_S1x2 := by unfold V7; after_results; rfl

/-- What the first TensorCore call reads. -/
theorem ins0 : Reg0.ins (arr0 (V5 m d) d) = insOf m d (gm0 m d) (gd0 m d) := by
  show (⟨V5 m d (nm main_arg0), V5 m d (nm main_v2_0), V5 m d (nm main_v2_1), V5 m d (nm main_v6), V5 m d (nm main_v8), V5 m d (nm main_arg7), V5 m d (nm main_v9), V5 m d (nm main_v7),
    V5 m d (nm main_v10)⟩ : Ins) = _
  rw [V5_v6, V5_v7, V5_v8, V5_v9, V5_v10, V5_keep m d (r := main_arg0) (by decide), V5_keep m d (r := main_v2_0) (by decide), V5_keep m d (r := main_v2_1) (by decide),
    V5_keep m d (r := main_arg7) (by decide), V4_v2_0, V4_v2_1, V4_arg m d (r := main_arg0) (by decide), V4_arg m d (r := main_arg5) (by decide), V4_arg m d (r := main_arg6) (by decide),
    V4_arg m d (r := main_arg7) (by decide), V4_arg m d (r := main_arg8) (by decide), V4_arg m d (r := main_arg9) (by decide), V4_arg m d (r := main_arg10) (by decide)]
  rfl

/-- What the second reads. -/
theorem ins1 : Reg1.ins (arr1 (V7 m d) d) = insOf m d (gm1 m d) (gd1 m d) := by
  show (⟨V7 m d (nm main_arg0), V7 m d (nm main_v5_0), V7 m d (nm main_v5_1), V7 m d (nm main_v12), V7 m d (nm main_v14), V7 m d (nm main_arg7), V7 m d (nm main_v15), V7 m d (nm main_v13),
    V7 m d (nm main_v16)⟩ : Ins) = _
  rw [V7_v12, V7_v13, V7_v14, V7_v15, V7_v16, V7_keep m d (r := main_arg0) (by decide), V7_keep m d (r := main_v5_0) (by decide), V7_keep m d (r := main_v5_1) (by decide),
    V7_keep m d (r := main_arg7) (by decide), V6_v5_0, V6_v5_1, V6_launch m d (r := main_arg0) (by decide), V6_launch m d (r := main_arg5) (by decide), V6_launch m d (r := main_arg6) (by decide),
    V6_launch m d (r := main_arg7) (by decide), V6_launch m d (r := main_arg8) (by decide), V6_launch m d (r := main_arg9) (by decide), V6_launch m d (r := main_arg10) (by decide)]
  rfl

/-- The result is the two calls' halves. -/
theorem V9_v18 : V9 m d (nm main_v18) = concatenate S16384x2 0 [⟨S8192x2, res0 (V5 m d) d⟩, ⟨S8192x2, res1 (V7 m d) d⟩] concatenates_S8192x2_S8192x2_S16384x2_d0 := by
  have h0 : V8 m d (nm main_v11) = res0 (V5 m d) d := (V8_keep m d (by decide)).trans ((V7_keep m d (by decide)).trans (put0_out _ d))
  have h1 : V8 m d (nm main_v17) = res1 (V7 m d) d := put1_out _ d
  unfold V9; after_results; rw [h0, h1]

/-- The network's row from a call's inputs: the cast and the reshapes leave the numbers as they are. -/
theorem insOf_row (p q : Vec Ideal S8192x128 .f32) (s : ℕ) (hs : s ≤ 8192) (j : Fin 8192) (o : Fin 2) :
    (insOf m d p q).row s hs j o = net (fun k => m (at_ d main_arg0) (ix2 ⟨s + j.val, by omega⟩ k)) (fun k => p (ix2 j k)) (fun k => q (ix2 j k)) (fun a b => m (at_ d main_arg5) (ix2 a b))
      (fun k => m (at_ d main_arg6) (ix1 k)) (fun j k => m (at_ d main_arg7) (ix2 j k)) (fun j => m (at_ d main_arg8) (ix1 j)) (fun o j => m (at_ d main_arg9) (ix2 o j))
      (fun o => m (at_ d main_arg10) (ix1 o)) o := by
  have e6 : ∀ k : Fin 128, (insOf m d p q).qb (ix2 0 k) = m (at_ d main_arg6) (ix1 k) := fun k => shapeCast_apply _ _ _ (ix1 k) (by
      rw [Shape.rowMajor_val_one, Shape.rowMajor_val_two]
      show k.val = 0 * 128 + k.val
      omega)
  have e8 : ∀ k : Fin 2048, (insOf m d p q).b1 (ix2 k 0) = m (at_ d main_arg8) (ix1 k) := fun k => shapeCast_apply _ _ _ (ix1 k) (by
      rw [Shape.rowMajor_val_one, Shape.rowMajor_val_two]
      show k.val = k.val * 1 + 0
      omega)
  have e10 : ∀ k : Fin 2, (insOf m d p q).b2 (ix2 0 k) = m (at_ d main_arg10) (ix1 k) := fun k => shapeCast_apply _ _ _ (ix1 k) (by
      rw [Shape.rowMajor_val_one, Shape.rowMajor_val_two]
      show k.val = 0 * 2 + k.val
      omega)
  unfold Ins.row
  simp only [e6, e8, e10]
  rfl

/-- A gathered row is the table's row that its id names. -/
theorem gathered_row {n : ℕ} (hn : 0 < n) (T : FVec Ideal ⟨2, ![n, 128]⟩ .f32) (I : S8192.Idx → BitVec 32) (j : Fin 8192) {v : BitVec 32} (h : I (idIx j) = v) :
    (fun k : Fin 128 => (gathered n hn T I (ix2 j k) : EReal)) = tabRow hn T v := by
  subst h
  funext k
  refine congrArg T (funext fun a => ?_)
  match a with
  | 0 => rfl
  | 1 => rfl

theorem lo_at (f : S16384.Idx → BitVec 32) (j : Fin 8192) : lo f (idIx j) = f (ix1 ⟨0 + j.val, by omega⟩) :=
  congrArg f (funext fun a => match a with | 0 => rfl)
theorem hi_at (f : S16384.Idx → BitVec 32) (j : Fin 8192) : hi f (idIx j) = f (ix1 ⟨8192 + j.val, by omega⟩) :=
  congrArg f (funext fun a => match a with | 0 => rfl)

/-- The network wanted, at the launch arrays. -/
abbrev wanted (r : Fin 16384) (o : Fin 2) : EReal :=
  wantAt (m (at_ d main_arg0)) (m (at_ d main_arg1)) (m (at_ d main_arg2)) (m (at_ d main_arg3)) (m (at_ d main_arg4)) (m (at_ d main_arg5)) (m (at_ d main_arg6)) (m (at_ d main_arg7))
    (m (at_ d main_arg8)) (m (at_ d main_arg9)) (m (at_ d main_arg10)) r o

set_option maxHeartbeats 1000000 in
/-- A call's rows are the wanted ones. -/
theorem row_wanted (p q : Vec Ideal S8192x128 .f32) (s : ℕ) (hs : s ≤ 8192) (j : Fin 8192) (o : Fin 2)
    (hp : (fun k : Fin 128 => (p (ix2 j k) : EReal)) = tabRow (n := 100) (by decide) (m (at_ d main_arg3)) (m (at_ d main_arg1) (ix1 (⟨s + j.val, by omega⟩ : Fin 16384))))
    (hq : (fun k : Fin 128 => (q (ix2 j k) : EReal)) = tabRow (n := 26) (by decide) (m (at_ d main_arg4)) (m (at_ d main_arg2) (ix1 (⟨s + j.val, by omega⟩ : Fin 16384)))) :
    (insOf m d p q).row s hs j o = wanted m d ⟨s + j.val, by omega⟩ o := by
  rw [insOf_row, hp, hq]
  rfl

set_option maxHeartbeats 1000000 in
/-- The entries that the folding multiplies are real. -/
theorem insOf_real (h : Cert.Pre_KernelIdeal_ids_and_query_finite m) (p q : Vec Ideal S8192x128 .f32) : (insOf m d p q).Real := by
  obtain ⟨f0, f7, f5⟩ := finite_of_pre _ _ _ _ _ _ _ _ _ _ _ (h d)
  refine ⟨fun i l => ?_, fun j k => ?_, fun k l => f5 (ix2 k l)⟩
  · obtain ⟨v, hv⟩ := f0 (ix2 i l)
    refine ⟨v, Eq.trans (congrArg (m (at_ d main_arg0)) (funext fun a => Fin.ext ?_)) hv⟩
    match a with
    | 0 => exact (Nat.zero_add _).symm
    | 1 => rfl
  · obtain ⟨v, hv⟩ := f7 (ix2 j k)
    refine ⟨v, Eq.trans (congrArg (m (at_ d main_arg7)) (funext fun a => Fin.ext ?_)) hv⟩
    match a with
    | 0 => exact (Nat.zero_add _).symm
    | 1 => rfl

/-- The kernel's result is the network on each row. -/
theorem V9_want (h : Cert.Pre_KernelIdeal_ids_and_query_finite m) :
    V9 m d (nm main_v18) = want (m (at_ d main_arg0)) (m (at_ d main_arg1)) (m (at_ d main_arg2)) (m (at_ d main_arg3)) (m (at_ d main_arg4)) (m (at_ d main_arg5)) (m (at_ d main_arg6))
      (m (at_ d main_arg7)) (m (at_ d main_arg8)) (m (at_ d main_arg9)) (m (at_ d main_arg10)) := by
  rw [V9_v18]
  funext y
  let r : Fin 16384 := y 0
  let o : Fin 2 := y 1
  have hy : y = ix2 r o := by
    funext a
    match a with
    | 0 => rfl
    | 1 => rfl
  have hr := r.isLt
  rw [hy]
  show _ = wanted m d r o
  by_cases hlt : r.val < 8192
  · refine (concatenate_pair_apply_left (t := S16384x2) (s₁ := S8192x2) (s₂ := S8192x2) 0 _ _ _ (ix2 r o) rfl (ix2 (⟨r.val, hlt⟩ : Fin 8192) o) (fun b => by
      match b with
      | 0 => rfl
      | 1 => rfl)).trans ?_
    have e := congrFun (Reg0.done_row (arr0 (V5 m d) d) top (by rw [ins0]; exact insOf_real m d h _ _)) (ix2 (⟨r.val, hlt⟩ : Fin 8192) o)
    rw [ins0] at e
    refine e.trans ((row_wanted m d _ _ 0 (by decide) (⟨r.val, hlt⟩ : Fin 8192) o (gathered_row _ _ _ _ (lo_at _ _)) (gathered_row _ _ _ _ (lo_at _ _))).trans ?_)
    refine congrArg (fun z => wanted m d z o) (Fin.ext ?_)
    exact Nat.zero_add _
  · refine (concatenate_pair_apply_right (t := S16384x2) (s₁ := S8192x2) (s₂ := S8192x2) 0 _ _ _ (ix2 r o) rfl rfl (ix2 (⟨r.val - 8192, by omega⟩ : Fin 8192) o) (fun b hb => by
      match b with
      | 0 => exact absurd rfl hb
      | 1 => rfl) (by show r.val - 8192 + 8192 = r.val; omega)).trans ?_
    have e := congrFun (Reg1.done_row (arr1 (V7 m d) d) top (by rw [ins1]; exact insOf_real m d h _ _)) (ix2 (⟨r.val - 8192, by omega⟩ : Fin 8192) o)
    rw [ins1] at e
    refine e.trans ((row_wanted m d _ _ 8192 (by decide) (⟨r.val - 8192, by omega⟩ : Fin 8192) o (gathered_row _ _ _ _ (hi_at _ _)) (gathered_row _ _ _ _ (hi_at _ _))).trans ?_)
    refine congrArg (fun z => wanted m d z o) (Fin.ext ?_)
    show 8192 + (r.val - 8192) = r.val
    omega

end Cert.KernelIdeal.Run

end
-- ==== Proof.RefValue.lean ====
/-
  The reference's result: the network on each row, for ids in range.
-/
module

public import proofs.«01_k».proof.Proof.Want
public import proofs.«01_k».proof.Proof.Gen.ReferenceIdeal.Run
public import Idealize.ShloMosaic.Lib.StackMember
public import Idealize.ShloMosaic.Lib.ReduceAll

@[expose] public section

noncomputable section

namespace Cert.RefValue

open Cert.ReferenceIdeal Cert.ReferenceIdeal.Gen Cert.Net Cert.KernelIdeal.Mlp
open Idealize.ShloMosaic Idealize.ShloMosaic.TcCoe

/-! ## The two lookups -/

/-- Whole rows of a table at a column of ids, each read signed and clamped to the table. -/
theorem gather_row {n b : ℕ} (hn : 0 < n) (wf : GatherDims.WF ⟨2, ![n, 128]⟩ ⟨2, ![b, 1]⟩ ⟨2, ![b, 128]⟩ [1] [0] [] [0] [] 1 ![1, 128])
    (T : FVec Ideal ⟨2, ![n, 128]⟩ .f32) (idx : IVec ⟨2, ![b, 1]⟩ 32) (r : Fin b) (k : Fin 128) :
    Host.gather (⟨[1], [0], [], [], [0], 1, ![1, 128], wf⟩ : GatherDims ⟨2, ![n, 128]⟩ ⟨2, ![b, 1]⟩ ⟨2, ![b, 128]⟩) T idx (ix2 r k)
      = T (ix2 ⟨min (idx (ix2 r 0)).toInt.toNat (n - 1), by omega⟩ k) := by
  unfold Host.gather
  refine congrArg T (funext fun a => Fin.ext ?_)
  match a with
  | 0 =>
    show min (idx _).toInt.toNat (n - 1) + 0 + 0 = min (idx _).toInt.toNat (n - 1)
    refine congrArg (fun j => min (idx j).toInt.toNat (n - 1)) (funext fun e => Fin.ext ?_)
    match e with
    | 0 => rfl
    | 1 => rfl
  | 1 =>
    show 0 + 0 + k.val = k.val
    omega

section
variable (ids : IVec S16384 32) (c : BitVec 32)

/-- The ids as the lookup reads them, one column, those below zero moved up by `c`. -/
def col : IVec S16384x1 32 :=
  broadcastInDim S16384x1 ![0] bcast_S16384_S16384x1_0 (select (cmpi .slt ids (broadcastInDim S16384 ![] bcast_S_S16384 (constantI S_ 32 0#32)))
    (addi ids (broadcastInDim S16384 ![] bcast_S_S16384 (constantI S_ 32 c))) ids)

/-- Words below `n` are not below zero and not above `n - 1`, all compared signed. -/
theorem cmp_bits {n : ℕ} (hn : n ≤ 100) {v : BitVec 32} (hv : v.toNat < n) {e : BitVec 32} (he : e.toNat + 1 = n) :
    IntOp.cmpi .slt v 0#32 = 0#1 ∧ IntOp.cmpi .sge v 0#32 = 1#1 ∧ IntOp.cmpi .sle v e = 1#1 ∧ v.toInt.toNat = v.toNat := by
  have hv' : v.toInt = v.toNat := by rw [BitVec.toInt_eq_toNat_cond]; split <;> omega
  have he' : e.toInt = e.toNat := by rw [BitVec.toInt_eq_toNat_cond]; split <;> omega
  simp only [IntOp.cmpi, BitVec.sle_eq_decide, BitVec.slt_eq_decide, hv', he', BitVec.toInt_zero]
  refine ⟨?_, ?_, ?_, by simp⟩
  · rw [decide_eq_false (by omega)]; rfl
  · rw [decide_eq_true (by omega)]; rfl
  · rw [decide_eq_true (by omega)]; rfl

theorem col_apply (hv : ∀ i, IntOp.cmpi .slt (ids i) 0#32 = 0#1) (r : Fin 16384) (z : Fin 1) : col ids c (ix2 r z) = ids (ix1 r) := by
  unfold col
  rw [broadcastInDim_apply _ _ _ _ (ix1 r) (fun a => by match a with | 0 => rfl)]
  show Scalar.select (IntOp.cmpi .slt (ids (ix1 r)) 0#32) _ _ = _
  rw [hv]
  rfl

/-- A lookup of ids in range: the table's rows they name. -/
theorem take_apply {n : ℕ} (hn0 : 0 < n) (hn : n ≤ 100) (e : BitVec 32) (he : e.toNat + 1 = n) (hid : ∀ i, (ids i).toNat < n)
    (wf : GatherDims.WF ⟨2, ![n, 128]⟩ ⟨2, ![16384, 1]⟩ ⟨2, ![16384, 128]⟩ [1] [0] [] [0] [] 1 ![1, 128]) (T : FVec Ideal ⟨2, ![n, 128]⟩ .f32) (q : FVec Ideal S16384x128 .f32)
    (r : Fin 16384) (k : Fin 128) :
    select (broadcastInDim S16384x128 ![0] bcast_S16384_S16384x128_0 (Host.reduce IntOp.andi (andi (cmpi .sge (col ids c) (broadcastInDim S16384x1 ![] bcast_S_S16384x1 (constantI S_ 32 0#32)))
        (cmpi .sle (col ids c) (broadcastInDim S16384x1 ![0, 1] bcast_S1x1_S16384x1_0_1 (broadcastInDim S1x1 ![1] bcast_S1_S1x1_1 (constantI S1 32 e)))))
        (constantI S_ 1 1#1) reducesTo_S16384x1_S16384_d1 h_S_))
      (Host.gather (⟨[1], [0], [], [], [0], 1, ![1, 128], wf⟩ : GatherDims ⟨2, ![n, 128]⟩ ⟨2, ![16384, 1]⟩ ⟨2, ![16384, 128]⟩) T (col ids c)) q (ix2 r k)
      = tabRow hn0 T (ids (ix1 r)) k := by
  have hb := fun i => cmp_bits hn (hid i) he
  have hc := col_apply ids c (fun i => (hb i).1)
  rw [show ∀ (a : IVec S16384x128 1) (x y : FVec Ideal S16384x128 .f32) (j : S16384x128.Idx), select a x y j = Scalar.select (a j) (x j) (y j) from fun _ _ _ _ => rfl,
    broadcastInDim_apply _ _ _ _ (ix1 r) (fun a => by match a with | 0 => rfl), Host.reduce_andi_one _ _ _ _ _ rfl]
  · refine (gather_row hn0 wf T (col ids c) r k).trans ?_
    unfold tabRow
    refine congrArg T ?_
    congr 1
    refine Fin.ext ?_
    show min (col ids c (ix2 r 0)).toInt.toNat (n - 1) = (ids (ix1 r)).toNat % n
    rw [hc, (hb _).2.2.2, Nat.mod_eq_of_lt (hid _), Nat.min_eq_left (by have := hid (ix1 r); omega)]
  · intro i
    have hi : col ids c i = ids (ix1 (i 0 : Fin 16384)) := by
      refine (congrArg (col ids c) (?_ : i = ix2 (i 0 : Fin 16384) (i 1 : Fin 1))).trans (hc _ _)
      funext a
      match a with
      | 0 => rfl
      | 1 => rfl
    show IntOp.andi (IntOp.cmpi .sge (col ids c i) 0#32) (IntOp.cmpi .sle (col ids c i) e) = 1#1
    rw [hi, (hb _).2.1, (hb _).2.2.1]
    rfl

end

/-! ## The layers -/

/-- A host product, rows by columns. -/
theorem dot_rows {M K N : ℕ} (A : FVec Ideal ⟨2, ![M, K]⟩ .f32) (B : FVec Ideal ⟨2, ![K, N]⟩ .f32) (i : Fin M) (j : Fin N) :
    Host.dotGeneral (F := Ideal) (DotDims.plain M K N) none A B (ix2 i j) = ∑ k : Fin K, (A (ix2 i k) : EReal) * B (ix2 k j) := by
  simp only [ix2_eq]
  exact StackMember.dotGeneral_plain_apply none A B i j

/-- A transposed matrix. -/
theorem transpose_at {a b : ℕ} {h : (⟨2, ![a, b]⟩ : Shape).Transposes [1, 0] ⟨2, ![b, a]⟩} (x : FVec Ideal ⟨2, ![a, b]⟩ .f32) (j : Fin b) (i : Fin a) :
    transpose ⟨2, ![b, a]⟩ [1, 0] x h (ix2 j i) = x (ix2 i j) :=
  transpose_apply _ x h _ _ fun c => match c with | 0 => rfl | 1 => rfl

/-- A vector as every row of a matrix. -/
theorem bias_at {M N : ℕ} (hN : N ≠ 1) {h1 : (⟨1, ![N]⟩ : Shape).BroadcastsInDim ⟨2, ![1, N]⟩ ![1]} {h2 : (⟨2, ![1, N]⟩ : Shape).BroadcastsInDim ⟨2, ![M, N]⟩ ![0, 1]}
    (x : FVec Ideal ⟨1, ![N]⟩ .f32) (i : Fin M) (j : Fin N) :
    broadcastInDim ⟨2, ![M, N]⟩ ![0, 1] h2 (broadcastInDim ⟨2, ![1, N]⟩ ![1] h1 x) (ix2 i j) = x (ix1 j) := by
  rw [broadcastInDim_apply _ _ _ _ (ix2 0 j) (fun a => by
      match a with
      | 0 => rfl
      | 1 => exact (if_neg hN).symm),
    broadcastInDim_apply _ _ _ _ (ix1 j) (fun a => by
      match a with
      | 0 => exact (if_neg hN).symm)]

section
variable (x0 : FVec Ideal S16384x384 .f32) (P Q : FVec Ideal S16384x128 .f32) (x5 : FVec Ideal S128x128 .f32) (x6 : FVec Ideal S128 .f32)
  (x7 : FVec Ideal S2048x768 .f32) (x8 : FVec Ideal S2048 .f32) (x9 : FVec Ideal S2x2048 .f32) (x10 : FVec Ideal S2 .f32)

/-- The query layer. -/
def query : FVec Ideal S16384x128 .f32 :=
  addf (Host.dotGeneral dot_S16384x128_S128x128_S16384x128_1_0_0_1_n_n none (extractStridedSlice S16384x128 ![0, 256] x0 slices_S16384x384_S16384x128_0_256)
    (transpose S128x128 [1, 0] x5 transposes_S128x128_S128x128_1_0)) (broadcastInDim S16384x128 ![0, 1] bcast_S1x128_S16384x128_0_1 (broadcastInDim S1x128 ![1] bcast_S128_S1x128_1 x6))

theorem query_apply (r : Fin 16384) (k : Fin 128) :
    (query x0 x5 x6 (ix2 r k) : EReal) = (∑ l : Fin 128, (x0 (ix2 r ⟨256 + l.val, by omega⟩) : EReal) * x5 (ix2 k l)) + x6 (ix1 k) := by
  refine congrArg₂ (fun a b : EReal => a + b) ?_ (bias_at (M := 16384) (N := 128) (by decide) x6 r k)
  refine (dot_rows (M := 16384) (K := 128) (N := 128) _ _ r k).trans (Finset.sum_congr rfl fun l _ => ?_)
  refine congrArg₂ (fun a b : EReal => a * b) (congrArg x0 (funext fun a => Fin.ext ?_)) (transpose_at x5 l k)
  match a with
  | 0 => exact Nat.zero_add _
  | 1 => rfl

/-- The four column blocks of the first layer's input. -/
abbrev pieces (E : FVec Ideal S16384x128 .f32) : List ((s : Shape) × (s.Idx → EReal)) := [⟨S16384x384, x0⟩, ⟨S16384x128, P⟩, ⟨S16384x128, Q⟩, ⟨S16384x128, E⟩]

/-- The first layer's input. -/
def cat (E : FVec Ideal S16384x128 .f32) : FVec Ideal S16384x768 .f32 :=
  concatenate S16384x768 1 [⟨S16384x384, x0⟩, ⟨S16384x128, P⟩, ⟨S16384x128, Q⟩, ⟨S16384x128, E⟩] concatenates_S16384x384_S16384x128_S16384x128_S16384x128_S16384x768_d1

theorem cat_apply (r : Fin 16384) (k : Fin 768) :
    (cat x0 P Q (query x0 x5 x6) (ix2 r k) : EReal) = inp (fun k => x0 (ix2 r k)) (fun k => P (ix2 r k)) (fun k => Q (ix2 r k)) (fun a b => x5 (ix2 a b)) (fun k => x6 (ix1 k)) k := by
  unfold cat inp
  have hk := k.isLt
  split_ifs with h0 h1 h2
  · refine concatenate_apply_piece (t := S16384x768) 1 (pieces x0 P Q (query x0 x5 x6)) _ (ix2 r k) 0 (show 0 < 4 by decide) S16384x384 x0 rfl rfl 0 rfl (ix2 r ⟨k.val, h0⟩) (fun b hb => ?_) (Nat.zero_add _)
    match b with
    | 0 => rfl
    | 1 => exact absurd rfl hb
  · refine concatenate_apply_piece (t := S16384x768) 1 (pieces x0 P Q (query x0 x5 x6)) _ (ix2 r k) 1 (show 1 < 4 by decide) S16384x128 P rfl rfl 384 rfl (ix2 r ⟨k.val - 384, by omega⟩) (fun b hb => ?_) (by show 384 + (k.val - 384) = k.val; omega)
    match b with
    | 0 => rfl
    | 1 => exact absurd rfl hb
  · refine concatenate_apply_piece (t := S16384x768) 1 (pieces x0 P Q (query x0 x5 x6)) _ (ix2 r k) 2 (show 2 < 4 by decide) S16384x128 Q rfl rfl 512 rfl (ix2 r ⟨k.val - 512, by omega⟩) (fun b hb => ?_) (by show 512 + (k.val - 512) = k.val; omega)
    match b with
    | 0 => rfl
    | 1 => exact absurd rfl hb
  · refine Eq.trans (concatenate_apply_piece (t := S16384x768) 1 (pieces x0 P Q (query x0 x5 x6)) _ (ix2 r k) 3 (show 3 < 4 by decide) S16384x128 (query x0 x5 x6) rfl rfl 640 rfl (ix2 r ⟨k.val - 640, by omega⟩) (fun b hb => ?_) (by show 640 + (k.val - 640) = k.val; omega)) (query_apply x0 x5 x6 r _)
    match b with
    | 0 => rfl
    | 1 => exact absurd rfl hb

/-- The two layers above that input. -/
def layers (H : FVec Ideal S16384x768 .f32) : FVec Ideal S16384x2 .f32 :=
  addf (Host.dotGeneral dot_S16384x2048_S2048x2_S16384x2_1_0_0_1_n_n none (maximumf (addf (Host.dotGeneral dot_S16384x768_S768x2048_S16384x2048_1_0_0_1_n_n none H
    (transpose S768x2048 [1, 0] x7 transposes_S2048x768_S768x2048_1_0)) (broadcastInDim S16384x2048 ![0, 1] bcast_S1x2048_S16384x2048_0_1 (broadcastInDim S1x2048 ![1] bcast_S2048_S1x2048_1 x8)))
    (broadcastInDim S16384x2048 ![] bcast_S_S16384x2048 (constant S_ .f32 0x00000000#32))) (transpose S2048x2 [1, 0] x9 transposes_S2x2048_S2048x2_1_0))
    (broadcastInDim S16384x2 ![0, 1] bcast_S1x2_S16384x2_0_1 (broadcastInDim S1x2 ![1] bcast_S2_S1x2_1 x10))

theorem layers_apply (H : FVec Ideal S16384x768 .f32) (r : Fin 16384) (o : Fin 2) :
    (layers x7 x8 x9 x10 H (ix2 r o) : EReal) = (∑ j : Fin 2048, max ((∑ k : Fin 768, (H (ix2 r k) : EReal) * x7 (ix2 j k)) + x8 (ix1 j)) 0 * x9 (ix2 o j)) + x10 (ix1 o) := by
  refine congrArg₂ (fun a b : EReal => a + b) ?_ (bias_at (M := 16384) (N := 2) (by decide) x10 r o)
  refine (dot_rows (M := 16384) (K := 2048) (N := 2) _ _ r o).trans (Finset.sum_congr rfl fun j _ => ?_)
  refine congrArg₂ (fun a b : EReal => a * b) (congrArg₂ (fun a b : EReal => max a b) (congrArg₂ (fun a b : EReal => a + b) ?_ (bias_at (M := 16384) (N := 2048) (by decide) x8 r j)) Ideal.ofBits_zero_f32)
    (transpose_at x9 j o)
  refine (dot_rows (M := 16384) (K := 768) (N := 2048) _ _ r j).trans (Finset.sum_congr rfl fun k _ => ?_)
  exact congrArg (fun b : EReal => H (ix2 r k) * b) (transpose_at x7 k j)

end

/-! ## The result -/

variable (m : (ℓ : Loc nD τ sig) → Buf (Elt Ideal) ℓ) (c : Dev nD)

/-- The reference's result is the network on each row. -/
theorem result (h1 : ∀ i : S16384.Idx, (m ((c.tc : Thread nD τ).loc main_arg1) i : BitVec 32).toNat < 100)
    (h2 : ∀ i : S16384.Idx, (m ((c.tc : Thread nD τ).loc main_arg2) i : BitVec 32).toNat < 26) :
    Value.res_main_v19 m c = want (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) := by
  funext y
  let r : Fin 16384 := y 0
  let o : Fin 2 := y 1
  have hy : y = ix2 r o := by
    funext a
    match a with
    | 0 => rfl
    | 1 => rfl
  rw [hy]
  refine (layers_apply (m ((c.tc : Thread nD τ).loc main_arg7)) (m ((c.tc : Thread nD τ).loc main_arg8)) (m ((c.tc : Thread nD τ).loc main_arg9)) (m ((c.tc : Thread nD τ).loc main_arg10))
    (cat (m ((c.tc : Thread nD τ).loc main_arg0)) _ _ (query (m ((c.tc : Thread nD τ).loc main_arg0)) (m ((c.tc : Thread nD τ).loc main_arg5)) (m ((c.tc : Thread nD τ).loc main_arg6)))) r o).trans ?_
  simp only [cat_apply]
  have t1 := take_apply (m ((c.tc : Thread nD τ).loc main_arg1)) 100#32 (n := 100) (by decide) (by decide) 99#32 (by decide) h1 gather_S100x128_S16384x1_S16384x128_1_0_n_n_0_1_1128_wf
    (m ((c.tc : Thread nD τ).loc main_arg3)) (broadcastInDim S16384x128 ![] bcast_S_S16384x128 (constant S_ .f32 0x7FC00000#32)) r
  have t2 := take_apply (m ((c.tc : Thread nD τ).loc main_arg2)) 26#32 (n := 26) (by decide) (by decide) 25#32 (by decide) h2 gather_S26x128_S16384x1_S16384x128_1_0_n_n_0_1_1128_wf
    (m ((c.tc : Thread nD τ).loc main_arg4)) (broadcastInDim S16384x128 ![] bcast_S_S16384x128 (constant S_ .f32 0x7FC00000#32)) r
  have e := congrArg₂ (fun p q => net (fun k => m ((c.tc : Thread nD τ).loc main_arg0) (ix2 r k)) p q (fun a b => m ((c.tc : Thread nD τ).loc main_arg5) (ix2 a b))
    (fun k => m ((c.tc : Thread nD τ).loc main_arg6) (ix1 k)) (fun j k => m ((c.tc : Thread nD τ).loc main_arg7) (ix2 j k)) (fun j => m ((c.tc : Thread nD τ).loc main_arg8) (ix1 j))
    (fun o j => m ((c.tc : Thread nD τ).loc main_arg9) (ix2 o j)) (fun o => m ((c.tc : Thread nD τ).loc main_arg10) (ix1 o)) o) (funext t1) (funext t2)
  exact e

end Cert.RefValue

end
-- ==== Proof.RefFrame.lean ====
/-
  The frames of the reference: it is one host program, whose run the printed module gives.
-/
module

public import proofs.«01_k».proof.Defs
public import proofs.«01_k».proof.Proof.Gen.Pre_ids_and_query_finite
public import proofs.«01_k».proof.Proof.Gen.ReferenceIdeal.Run
public import Idealize.ShloMosaic.Lib.Quiescent

@[expose] public section

noncomputable section

namespace Cert.RefFrame

open Idealize.ShloMosaic Idealize.ShloMosaic.TcCoe
open Idealize.SL.Sem

/-- `Cert.quiescent_ReferenceIdeal` (Defs.lean). -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩) (Cert.ReferenceIdeal.Value.run (F := Ideal) m ρ)

/-- `Cert.quiescent_ReferenceIdeal_pre_ids_and_query_finite` (Defs.lean). -/
theorem frame_ref_finite : Cert.quiescent_ReferenceIdeal_pre_ids_and_query_finite := fun m ρ _ =>
  (θ_run Cert.ReferenceIdeal.defs _ _).mono (fun r h => ⟨fun c => (h c).2, Idealize.ShloMosaic.sem_eq_zero_of_no_sems (by decide) r.2⟩) (Cert.ReferenceIdeal.Value.run (F := Ideal) m ρ)

end Cert.RefFrame

end
-- ==== Proof.Algebraic.lean ====
/-
  The value claim: over the extended reals the idealized kernel and the reference return the same array.
-/
module

public import proofs.«01_k».proof.Proof.KernelValue
public import proofs.«01_k».proof.Proof.RefValue
public import proofs.«01_k».proof.Proof.RefFrame

@[expose] public section

noncomputable section

namespace Cert.Algebraic

open Cert.KernelIdeal.Run Cert.Net
open Idealize.ShloMosaic Idealize.ShloMosaic.TcCoe
open Idealize.SL.Sem

/-- `Cert.algebraic_KernelIdeal_ReferenceIdeal_pre_ids_and_query_finite` (Defs.lean): both return the network on each row of the arguments. -/
theorem algebraic : Cert.algebraic_KernelIdeal_ReferenceIdeal_pre_ids_and_query_finite := fun m g m' g' hpre hargs => by
  refine ⟨fun c => V9 (F := Ideal) m c (nm Cert.KernelIdeal.main_v18), ?_, ?_⟩
  · exact (θ_run Cert.KernelIdeal.defs _ _).mono (fun _ h c => ⟨h.1 c (nm Cert.KernelIdeal.main_v18) (mem_arrs (by decide)), args_kept m h c⟩) (run_main m g (ok_finite m hpre))
  · refine (θ_run Cert.ReferenceIdeal.defs _ _).mono (fun _ h c => ⟨(h c).1.trans ?_, (h c).2⟩) (Cert.ReferenceIdeal.Value.run (F := Ideal) m' g')
    obtain ⟨e0, e1, e2, e3, e4, e5, e6, e7, e8, e9, e10⟩ := hargs c
    obtain ⟨r1, r2⟩ := ok_finite m hpre c
    refine (Cert.RefValue.result m' c (fun i => (congrArg (fun f : Cert.KernelIdeal.S16384.Idx → BitVec 32 => (f i).toNat) e1).trans_lt (r1 i))
      (fun i => (congrArg (fun f : Cert.KernelIdeal.S16384.Idx → BitVec 32 => (f i).toNat) e2).trans_lt (r2 i))).trans ?_
    rw [e0, e1, e2, e3, e4, e5, e6, e7, e8, e9, e10]
    exact (V9_want m c hpre).symm

end Cert.Algebraic

end
-- ==== Proof.lean ====
/-
  The certificate's claim: the frames of the kernel, of the idealized kernel and of the reference, that the idealization
  preserves the kernel's meaning, and that the idealized kernel and the reference return the same array.
-/
module

public import proofs.«01_k».proof.Proof.SameFrame
public import proofs.«01_k».proof.Proof.Algebraic

@[expose] public section

noncomputable section

namespace Cert.Proof

/-- Everything claimed (Defs.lean). -/
theorem claim : Cert.Claim := ⟨Cert.Kernel.Gen.facts, Cert.KernelIdeal.Gen.facts, Cert.ReferenceIdeal.Gen.facts, Cert.Pre_ids_in_range.Gen.facts, Cert.Pre_ids_and_query_finite.Gen.facts,
  Cert.Same.frame_kernel, Cert.KernelIdeal.Run.frame_ideal, Cert.KernelIdeal.Run.frame_finite, Cert.RefFrame.frame_ref, Cert.RefFrame.frame_ref_finite, trivial, Cert.Algebraic.algebraic⟩

end Cert.Proof

end
